-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_cotangent [hPre_finite_cotangent : Cert.Pre_finite_cotangent.Facts] (m : (ℓ : Loc Cert.KernelIdeal.nD Cert.KernelIdeal.τ Cert.KernelIdeal.sig) → Buf (Elt Ideal) ℓ) : Prop :=
  ∀ c : Dev Cert.KernelIdeal.nD,
    (Cert.Pre_finite_cotangent.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_cotangent [hPre_finite_cotangent : Cert.Pre_finite_cotangent.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_cotangent.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateupDx (m : (ℓ : Loc Cert.GateupDx.nD Cert.GateupDx.τ Cert.GateupDx.sig) → Buf (Elt Bits) ℓ) : Prop :=
  True

def Pre_GateupDxIdeal (m : (ℓ : Loc Cert.GateupDxIdeal.nD Cert.GateupDxIdeal.τ Cert.GateupDxIdeal.sig) → Buf (Elt Ideal) ℓ) : Prop :=
  True

def Pre_GateupDxRefIdeal (m : (ℓ : Loc Cert.GateupDxRefIdeal.nD Cert.GateupDxRefIdeal.τ Cert.GateupDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_WoutDx (m : (ℓ : Loc Cert.WoutDx.nD Cert.WoutDx.τ Cert.WoutDx.sig) → Buf (Elt Bits) ℓ) : Prop :=
  True

def Pre_WoutDxIdeal (m : (ℓ : Loc Cert.WoutDxIdeal.nD Cert.WoutDxIdeal.τ Cert.WoutDxIdeal.sig) → Buf (Elt Ideal) ℓ) : Prop :=
  True

def Pre_WoutDxRefIdeal (m : (ℓ : Loc Cert.WoutDxRefIdeal.nD Cert.WoutDxRefIdeal.τ Cert.WoutDxRefIdeal.sig) → Buf (Elt Ideal) ℓ) : Prop :=
  True

def Pre_WoutDw (m : (ℓ : Loc Cert.WoutDw.nD Cert.WoutDw.τ Cert.WoutDw.sig) → Buf (Elt Bits) ℓ) : Prop :=
  True

def Pre_WoutDwIdeal (m : (ℓ : Loc Cert.WoutDwIdeal.nD Cert.WoutDwIdeal.τ Cert.WoutDwIdeal.sig) → Buf (Elt Ideal) ℓ) : Prop :=
  True

def Pre_WoutDwRefIdeal (m : (ℓ : Loc Cert.WoutDwRefIdeal.nD Cert.WoutDwRefIdeal.τ Cert.WoutDwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDxResidual (m : (ℓ : Loc Cert.ProjDxResidual.nD Cert.ProjDxResidual.τ Cert.ProjDxResidual.sig) → Buf (Elt Bits) ℓ) : Prop :=
  True

def Pre_ProjDxResidualIdeal (m : (ℓ : Loc Cert.ProjDxResidualIdeal.nD Cert.ProjDxResidualIdeal.τ Cert.ProjDxResidualIdeal.sig) → Buf (Elt Ideal) ℓ) : Prop :=
  True

def Pre_ProjDxResidualRefIdeal (m : (ℓ : Loc Cert.ProjDxResidualRefIdeal.nD Cert.ProjDxResidualRefIdeal.τ Cert.ProjDxResidualRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateRefIdeal (m : (ℓ : Loc Cert.ConvGateRefIdeal.nD Cert.ConvGateRefIdeal.τ Cert.ConvGateRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_Window (m : (ℓ : Loc Cert.Window.nD Cert.Window.τ Cert.Window.sig) → Buf (Elt Bits) ℓ) : Prop :=
  True

def Pre_WindowIdeal (m : (ℓ : Loc Cert.WindowIdeal.nD Cert.WindowIdeal.τ Cert.WindowIdeal.sig) → Buf (Elt Ideal) ℓ) : Prop :=
  True

def Pre_WindowRefIdeal (m : (ℓ : Loc Cert.WindowRefIdeal.nD Cert.WindowRefIdeal.τ Cert.WindowRefIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def Pre_DilatedRefIdeal (m : (ℓ : Loc Cert.DilatedRefIdeal.nD Cert.DilatedRefIdeal.τ Cert.DilatedRefIdeal.sig) → Buf (Elt Ideal) ℓ) : Prop :=
  True

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsRefIdeal (m : (ℓ : Loc Cert.SmallGradsRefIdeal.nD Cert.SmallGradsRefIdeal.τ Cert.SmallGradsRefIdeal.sig) → Buf (Elt Ideal) ℓ) : Prop :=
  True

def Pre_SmallUpdates (m : (ℓ : Loc Cert.SmallUpdates.nD Cert.SmallUpdates.τ Cert.SmallUpdates.sig) → Buf (Elt Bits) ℓ) : Prop :=
  True

def Pre_SmallUpdatesIdeal (m : (ℓ : Loc Cert.SmallUpdatesIdeal.nD Cert.SmallUpdatesIdeal.τ Cert.SmallUpdatesIdeal.sig) → Buf (Elt Ideal) ℓ) : Prop :=
  True

def Pre_SmallUpdatesRefIdeal (m : (ℓ : Loc Cert.SmallUpdatesRefIdeal.nD Cert.SmallUpdatesRefIdeal.τ Cert.SmallUpdatesRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5))) = (fun _ => 1#1)

def Pre_LnBwdRefIdeal (m : (ℓ : Loc Cert.LnBwdRefIdeal.nD Cert.LnBwdRefIdeal.τ Cert.LnBwdRefIdeal.sig) → Buf (Elt Ideal) ℓ) : Prop :=
  True

def Pre_LnBwdRefIdeal_finite_ln [hPre_finite_ln : Cert.Pre_finite_ln.Facts] (m : (ℓ : Loc Cert.LnBwdRefIdeal.nD Cert.LnBwdRefIdeal.τ Cert.LnBwdRefIdeal.sig) → Buf (Elt Ideal) ℓ) : Prop :=
  ∀ c : Dev Cert.LnBwdRefIdeal.nD,
    (Cert.Pre_finite_ln.fn (F := Ideal) (m ((c.tc : Thread Cert.LnBwdRefIdeal.nD Cert.LnBwdRefIdeal.τ).loc Cert.LnBwdRefIdeal.main_arg0)) (m ((c.tc : Thread Cert.LnBwdRefIdeal.nD Cert.LnBwdRefIdeal.τ).loc Cert.LnBwdRefIdeal.main_arg1)) (m ((c.tc : Thread Cert.LnBwdRefIdeal.nD Cert.LnBwdRefIdeal.τ).loc Cert.LnBwdRefIdeal.main_arg2)) (m ((c.tc : Thread Cert.LnBwdRefIdeal.nD Cert.LnBwdRefIdeal.τ).loc Cert.LnBwdRefIdeal.main_arg3)) (m ((c.tc : Thread Cert.LnBwdRefIdeal.nD Cert.LnBwdRefIdeal.τ).loc Cert.LnBwdRefIdeal.main_arg4)) (m ((c.tc : Thread Cert.LnBwdRefIdeal.nD Cert.LnBwdRefIdeal.τ).loc Cert.LnBwdRefIdeal.main_arg5))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_finite_loss [hPre_finite_loss : Cert.Pre_finite_loss.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4))) = (fun _ => 1#1)

def Pre_LossBwdRefIdeal (m : (ℓ : Loc Cert.LossBwdRefIdeal.nD Cert.LossBwdRefIdeal.τ Cert.LossBwdRefIdeal.sig) → Buf (Elt Ideal) ℓ) : Prop :=
  True

def Pre_LossBwdRefIdeal_finite_loss [hPre_finite_loss : Cert.Pre_finite_loss.Facts] (m : (ℓ : Loc Cert.LossBwdRefIdeal.nD Cert.LossBwdRefIdeal.τ Cert.LossBwdRefIdeal.sig) → Buf (Elt Ideal) ℓ) : Prop :=
  ∀ c : Dev Cert.LossBwdRefIdeal.nD,
    (Cert.Pre_finite_loss.fn (F := Ideal) (m ((c.tc : Thread Cert.LossBwdRefIdeal.nD Cert.LossBwdRefIdeal.τ).loc Cert.LossBwdRefIdeal.main_arg0)) (m ((c.tc : Thread Cert.LossBwdRefIdeal.nD Cert.LossBwdRefIdeal.τ).loc Cert.LossBwdRefIdeal.main_arg1)) (m ((c.tc : Thread Cert.LossBwdRefIdeal.nD Cert.LossBwdRefIdeal.τ).loc Cert.LossBwdRefIdeal.main_arg2)) (m ((c.tc : Thread Cert.LossBwdRefIdeal.nD Cert.LossBwdRefIdeal.τ).loc Cert.LossBwdRefIdeal.main_arg3)) (m ((c.tc : Thread Cert.LossBwdRefIdeal.nD Cert.LossBwdRefIdeal.τ).loc Cert.LossBwdRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_cotangent [hKernelIdeal : Cert.KernelIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_cotangent m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_cotangent [hReferenceIdeal : Cert.ReferenceIdeal.Facts] [hPre_finite_cotangent : Cert.Pre_finite_cotangent.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_cotangent m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateupDx [hGateupDx : Cert.GateupDx.Facts] : Prop :=
  ∀ (m : (ℓ : Loc Cert.GateupDx.nD Cert.GateupDx.τ Cert.GateupDx.sig) → Buf (Elt Bits) ℓ) (g : Dev Cert.GateupDx.nD → PrngReg), Pre_GateupDx m →
    θ_run (Cert.GateupDx.defs (F := Bits)) (onTc (τ := Cert.GateupDx.τ) (Cert.GateupDx.main (F := Bits))) ⟨m, fun _ => 0, g⟩ (fun r => (∀ c : Dev Cert.GateupDx.nD,
      r.2.mem ((c.tc : Thread Cert.GateupDx.nD Cert.GateupDx.τ).loc Cert.GateupDx.main_arg0) = m ((c.tc : Thread Cert.GateupDx.nD Cert.GateupDx.τ).loc Cert.GateupDx.main_arg0)
      ∧ r.2.mem ((c.tc : Thread Cert.GateupDx.nD Cert.GateupDx.τ).loc Cert.GateupDx.main_arg1) = m ((c.tc : Thread Cert.GateupDx.nD Cert.GateupDx.τ).loc Cert.GateupDx.main_arg1)
      ∧ r.2.mem ((c.tc : Thread Cert.GateupDx.nD Cert.GateupDx.τ).loc Cert.GateupDx.main_arg2) = m ((c.tc : Thread Cert.GateupDx.nD Cert.GateupDx.τ).loc Cert.GateupDx.main_arg2)
      ∧ r.2.mem ((c.tc : Thread Cert.GateupDx.nD Cert.GateupDx.τ).loc Cert.GateupDx.main_arg3) = m ((c.tc : Thread Cert.GateupDx.nD Cert.GateupDx.τ).loc Cert.GateupDx.main_arg3))
      ∧ r.2.sem = fun _ => 0)

def quiescent_GateupDxIdeal [hGateupDxIdeal : Cert.GateupDxIdeal.Facts] : Prop :=
  ∀ (m : (ℓ : Loc Cert.GateupDxIdeal.nD Cert.GateupDxIdeal.τ Cert.GateupDxIdeal.sig) → Buf (Elt Ideal) ℓ) (g : Dev Cert.GateupDxIdeal.nD → PrngReg), Pre_GateupDxIdeal m →
    θ_run (Cert.GateupDxIdeal.defs (F := Ideal)) (onTc (τ := Cert.GateupDxIdeal.τ) (Cert.GateupDxIdeal.main (F := Ideal))) ⟨m, fun _ => 0, g⟩ (fun r => (∀ c : Dev Cert.GateupDxIdeal.nD,
      r.2.mem ((c.tc : Thread Cert.GateupDxIdeal.nD Cert.GateupDxIdeal.τ).loc Cert.GateupDxIdeal.main_arg0) = m ((c.tc : Thread Cert.GateupDxIdeal.nD Cert.GateupDxIdeal.τ).loc Cert.GateupDxIdeal.main_arg0)
      ∧ r.2.mem ((c.tc : Thread Cert.GateupDxIdeal.nD Cert.GateupDxIdeal.τ).loc Cert.GateupDxIdeal.main_arg1) = m ((c.tc : Thread Cert.GateupDxIdeal.nD Cert.GateupDxIdeal.τ).loc Cert.GateupDxIdeal.main_arg1)
      ∧ r.2.mem ((c.tc : Thread Cert.GateupDxIdeal.nD Cert.GateupDxIdeal.τ).loc Cert.GateupDxIdeal.main_arg2) = m ((c.tc : Thread Cert.GateupDxIdeal.nD Cert.GateupDxIdeal.τ).loc Cert.GateupDxIdeal.main_arg2)
      ∧ r.2.mem ((c.tc : Thread Cert.GateupDxIdeal.nD Cert.GateupDxIdeal.τ).loc Cert.GateupDxIdeal.main_arg3) = m ((c.tc : Thread Cert.GateupDxIdeal.nD Cert.GateupDxIdeal.τ).loc Cert.GateupDxIdeal.main_arg3))
      ∧ r.2.sem = fun _ => 0)

def quiescent_GateupDxRefIdeal [hGateupDxRefIdeal : Cert.GateupDxRefIdeal.Facts] : Prop :=
  ∀ (m : (ℓ : Loc Cert.GateupDxRefIdeal.nD Cert.GateupDxRefIdeal.τ Cert.GateupDxRefIdeal.sig) → Buf (Elt Ideal) ℓ) (g : Dev Cert.GateupDxRefIdeal.nD → PrngReg), Pre_GateupDxRefIdeal m →
    θ_run (Cert.GateupDxRefIdeal.defs (F := Ideal)) (onTc (τ := Cert.GateupDxRefIdeal.τ) (Cert.GateupDxRefIdeal.main (F := Ideal))) ⟨m, fun _ => 0, g⟩ (fun r => (∀ c : Dev Cert.GateupDxRefIdeal.nD,
      r.2.mem ((c.tc : Thread Cert.GateupDxRefIdeal.nD Cert.GateupDxRefIdeal.τ).loc Cert.GateupDxRefIdeal.main_arg0) = m ((c.tc : Thread Cert.GateupDxRefIdeal.nD Cert.GateupDxRefIdeal.τ).loc Cert.GateupDxRefIdeal.main_arg0)
      ∧ r.2.mem ((c.tc : Thread Cert.GateupDxRefIdeal.nD Cert.GateupDxRefIdeal.τ).loc Cert.GateupDxRefIdeal.main_arg1) = m ((c.tc : Thread Cert.GateupDxRefIdeal.nD Cert.GateupDxRefIdeal.τ).loc Cert.GateupDxRefIdeal.main_arg1)
      ∧ r.2.mem ((c.tc : Thread Cert.GateupDxRefIdeal.nD Cert.GateupDxRefIdeal.τ).loc Cert.GateupDxRefIdeal.main_arg2) = m ((c.tc : Thread Cert.GateupDxRefIdeal.nD Cert.GateupDxRefIdeal.τ).loc Cert.GateupDxRefIdeal.main_arg2)
      ∧ r.2.mem ((c.tc : Thread Cert.GateupDxRefIdeal.nD Cert.GateupDxRefIdeal.τ).loc Cert.GateupDxRefIdeal.main_arg3) = m ((c.tc : Thread Cert.GateupDxRefIdeal.nD Cert.GateupDxRefIdeal.τ).loc Cert.GateupDxRefIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_WoutDx [hWoutDx : Cert.WoutDx.Facts] : Prop :=
  ∀ (m : (ℓ : Loc Cert.WoutDx.nD Cert.WoutDx.τ Cert.WoutDx.sig) → Buf (Elt Bits) ℓ) (g : Dev Cert.WoutDx.nD → PrngReg), Pre_WoutDx m →
    θ_run (Cert.WoutDx.defs (F := Bits)) (onTc (τ := Cert.WoutDx.τ) (Cert.WoutDx.main (F := Bits))) ⟨m, fun _ => 0, g⟩ (fun r => (∀ c : Dev Cert.WoutDx.nD,
      r.2.mem ((c.tc : Thread Cert.WoutDx.nD Cert.WoutDx.τ).loc Cert.WoutDx.main_arg0) = m ((c.tc : Thread Cert.WoutDx.nD Cert.WoutDx.τ).loc Cert.WoutDx.main_arg0)
      ∧ r.2.mem ((c.tc : Thread Cert.WoutDx.nD Cert.WoutDx.τ).loc Cert.WoutDx.main_arg1) = m ((c.tc : Thread Cert.WoutDx.nD Cert.WoutDx.τ).loc Cert.WoutDx.main_arg1))
      ∧ r.2.sem = fun _ => 0)

def quiescent_WoutDxIdeal [hWoutDxIdeal : Cert.WoutDxIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg), Pre_WoutDxIdeal m →
    θ_run (Cert.WoutDxIdeal.defs (F := Ideal)) (onTc (τ := Cert.WoutDxIdeal.τ) (Cert.WoutDxIdeal.main (F := Ideal))) ⟨m, fun _ => 0, g⟩ (fun r => (∀ c : Dev Cert.WoutDxIdeal.nD,
      r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
      ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ r.2.sem = fun _ => 0)

def quiescent_WoutDxRefIdeal [hWoutDxRefIdeal : Cert.WoutDxRefIdeal.Facts] : Prop :=
  ∀ (m : (ℓ : Loc Cert.WoutDxRefIdeal.nD Cert.WoutDxRefIdeal.τ Cert.WoutDxRefIdeal.sig) → Buf (Elt Ideal) ℓ) (g : Dev Cert.WoutDxRefIdeal.nD → PrngReg), Pre_WoutDxRefIdeal m →
    θ_run (Cert.WoutDxRefIdeal.defs (F := Ideal)) (onTc (τ := Cert.WoutDxRefIdeal.τ) (Cert.WoutDxRefIdeal.main (F := Ideal))) ⟨m, fun _ => 0, g⟩ (fun r => (∀ c : Dev Cert.WoutDxRefIdeal.nD,
      r.2.mem ((c.tc : Thread Cert.WoutDxRefIdeal.nD Cert.WoutDxRefIdeal.τ).loc Cert.WoutDxRefIdeal.main_arg0) = m ((c.tc : Thread Cert.WoutDxRefIdeal.nD Cert.WoutDxRefIdeal.τ).loc Cert.WoutDxRefIdeal.main_arg0)
      ∧ r.2.mem ((c.tc : Thread Cert.WoutDxRefIdeal.nD Cert.WoutDxRefIdeal.τ).loc Cert.WoutDxRefIdeal.main_arg1) = m ((c.tc : Thread Cert.WoutDxRefIdeal.nD Cert.WoutDxRefIdeal.τ).loc Cert.WoutDxRefIdeal.main_arg1))
      ∧ r.2.sem = fun _ => 0)

def quiescent_WoutDw [hWoutDw : Cert.WoutDw.Facts] : Prop :=
  ∀ (m : (ℓ : Loc Cert.WoutDw.nD Cert.WoutDw.τ Cert.WoutDw.sig) → Buf (Elt Bits) ℓ) (g : Dev Cert.WoutDw.nD → PrngReg), Pre_WoutDw m →
    θ_run (Cert.WoutDw.defs (F := Bits)) (onTc (τ := Cert.WoutDw.τ) (Cert.WoutDw.main (F := Bits))) ⟨m, fun _ => 0, g⟩ (fun r => (∀ c : Dev Cert.WoutDw.nD,
      r.2.mem ((c.tc : Thread Cert.WoutDw.nD Cert.WoutDw.τ).loc Cert.WoutDw.main_arg0) = m ((c.tc : Thread Cert.WoutDw.nD Cert.WoutDw.τ).loc Cert.WoutDw.main_arg0)
      ∧ r.2.mem ((c.tc : Thread Cert.WoutDw.nD Cert.WoutDw.τ).loc Cert.WoutDw.main_arg1) = m ((c.tc : Thread Cert.WoutDw.nD Cert.WoutDw.τ).loc Cert.WoutDw.main_arg1))
      ∧ r.2.sem = fun _ => 0)

def quiescent_WoutDwIdeal [hWoutDwIdeal : Cert.WoutDwIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg), Pre_WoutDwIdeal m →
    θ_run (Cert.WoutDwIdeal.defs (F := Ideal)) (onTc (τ := Cert.WoutDwIdeal.τ) (Cert.WoutDwIdeal.main (F := Ideal))) ⟨m, fun _ => 0, g⟩ (fun r => (∀ c : Dev Cert.WoutDwIdeal.nD,
      r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
      ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ r.2.sem = fun _ => 0)

def quiescent_WoutDwRefIdeal [hWoutDwRefIdeal : Cert.WoutDwRefIdeal.Facts] : Prop :=
  ∀ (m : (ℓ : Loc Cert.WoutDwRefIdeal.nD Cert.WoutDwRefIdeal.τ Cert.WoutDwRefIdeal.sig) → Buf (Elt Ideal) ℓ) (g : Dev Cert.WoutDwRefIdeal.nD → PrngReg), Pre_WoutDwRefIdeal m →
    θ_run (Cert.WoutDwRefIdeal.defs (F := Ideal)) (onTc (τ := Cert.WoutDwRefIdeal.τ) (Cert.WoutDwRefIdeal.main (F := Ideal))) ⟨m, fun _ => 0, g⟩ (fun r => (∀ c : Dev Cert.WoutDwRefIdeal.nD,
      r.2.mem ((c.tc : Thread Cert.WoutDwRefIdeal.nD Cert.WoutDwRefIdeal.τ).loc Cert.WoutDwRefIdeal.main_arg0) = m ((c.tc : Thread Cert.WoutDwRefIdeal.nD Cert.WoutDwRefIdeal.τ).loc Cert.WoutDwRefIdeal.main_arg0)
      ∧ r.2.mem ((c.tc : Thread Cert.WoutDwRefIdeal.nD Cert.WoutDwRefIdeal.τ).loc Cert.WoutDwRefIdeal.main_arg1) = m ((c.tc : Thread Cert.WoutDwRefIdeal.nD Cert.WoutDwRefIdeal.τ).loc Cert.WoutDwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDxResidual [hProjDxResidual : Cert.ProjDxResidual.Facts] : Prop :=
  ∀ (m : (ℓ : Loc Cert.ProjDxResidual.nD Cert.ProjDxResidual.τ Cert.ProjDxResidual.sig) → Buf (Elt Bits) ℓ) (g : Dev Cert.ProjDxResidual.nD → PrngReg), Pre_ProjDxResidual m →
    θ_run (Cert.ProjDxResidual.defs (F := Bits)) (onTc (τ := Cert.ProjDxResidual.τ) (Cert.ProjDxResidual.main (F := Bits))) ⟨m, fun _ => 0, g⟩ (fun r => (∀ c : Dev Cert.ProjDxResidual.nD,
      r.2.mem ((c.tc : Thread Cert.ProjDxResidual.nD Cert.ProjDxResidual.τ).loc Cert.ProjDxResidual.main_arg0) = m ((c.tc : Thread Cert.ProjDxResidual.nD Cert.ProjDxResidual.τ).loc Cert.ProjDxResidual.main_arg0)
      ∧ r.2.mem ((c.tc : Thread Cert.ProjDxResidual.nD Cert.ProjDxResidual.τ).loc Cert.ProjDxResidual.main_arg1) = m ((c.tc : Thread Cert.ProjDxResidual.nD Cert.ProjDxResidual.τ).loc Cert.ProjDxResidual.main_arg1)
      ∧ r.2.mem ((c.tc : Thread Cert.ProjDxResidual.nD Cert.ProjDxResidual.τ).loc Cert.ProjDxResidual.main_arg2) = m ((c.tc : Thread Cert.ProjDxResidual.nD Cert.ProjDxResidual.τ).loc Cert.ProjDxResidual.main_arg2))
      ∧ r.2.sem = fun _ => 0)

def quiescent_ProjDxResidualIdeal [hProjDxResidualIdeal : Cert.ProjDxResidualIdeal.Facts] : Prop :=
  ∀ (m : (ℓ : Loc Cert.ProjDxResidualIdeal.nD Cert.ProjDxResidualIdeal.τ Cert.ProjDxResidualIdeal.sig) → Buf (Elt Ideal) ℓ) (g : Dev Cert.ProjDxResidualIdeal.nD → PrngReg), Pre_ProjDxResidualIdeal m →
    θ_run (Cert.ProjDxResidualIdeal.defs (F := Ideal)) (onTc (τ := Cert.ProjDxResidualIdeal.τ) (Cert.ProjDxResidualIdeal.main (F := Ideal))) ⟨m, fun _ => 0, g⟩ (fun r => (∀ c : Dev Cert.ProjDxResidualIdeal.nD,
      r.2.mem ((c.tc : Thread Cert.ProjDxResidualIdeal.nD Cert.ProjDxResidualIdeal.τ).loc Cert.ProjDxResidualIdeal.main_arg0) = m ((c.tc : Thread Cert.ProjDxResidualIdeal.nD Cert.ProjDxResidualIdeal.τ).loc Cert.ProjDxResidualIdeal.main_arg0)
      ∧ r.2.mem ((c.tc : Thread Cert.ProjDxResidualIdeal.nD Cert.ProjDxResidualIdeal.τ).loc Cert.ProjDxResidualIdeal.main_arg1) = m ((c.tc : Thread Cert.ProjDxResidualIdeal.nD Cert.ProjDxResidualIdeal.τ).loc Cert.ProjDxResidualIdeal.main_arg1)
      ∧ r.2.mem ((c.tc : Thread Cert.ProjDxResidualIdeal.nD Cert.ProjDxResidualIdeal.τ).loc Cert.ProjDxResidualIdeal.main_arg2) = m ((c.tc : Thread Cert.ProjDxResidualIdeal.nD Cert.ProjDxResidualIdeal.τ).loc Cert.ProjDxResidualIdeal.main_arg2))
      ∧ r.2.sem = fun _ => 0)

def quiescent_ProjDxResidualRefIdeal [hProjDxResidualRefIdeal : Cert.ProjDxResidualRefIdeal.Facts] : Prop :=
  ∀ (m : (ℓ : Loc Cert.ProjDxResidualRefIdeal.nD Cert.ProjDxResidualRefIdeal.τ Cert.ProjDxResidualRefIdeal.sig) → Buf (Elt Ideal) ℓ) (g : Dev Cert.ProjDxResidualRefIdeal.nD → PrngReg), Pre_ProjDxResidualRefIdeal m →
    θ_run (Cert.ProjDxResidualRefIdeal.defs (F := Ideal)) (onTc (τ := Cert.ProjDxResidualRefIdeal.τ) (Cert.ProjDxResidualRefIdeal.main (F := Ideal))) ⟨m, fun _ => 0, g⟩ (fun r => (∀ c : Dev Cert.ProjDxResidualRefIdeal.nD,
      r.2.mem ((c.tc : Thread Cert.ProjDxResidualRefIdeal.nD Cert.ProjDxResidualRefIdeal.τ).loc Cert.ProjDxResidualRefIdeal.main_arg0) = m ((c.tc : Thread Cert.ProjDxResidualRefIdeal.nD Cert.ProjDxResidualRefIdeal.τ).loc Cert.ProjDxResidualRefIdeal.main_arg0)
      ∧ r.2.mem ((c.tc : Thread Cert.ProjDxResidualRefIdeal.nD Cert.ProjDxResidualRefIdeal.τ).loc Cert.ProjDxResidualRefIdeal.main_arg1) = m ((c.tc : Thread Cert.ProjDxResidualRefIdeal.nD Cert.ProjDxResidualRefIdeal.τ).loc Cert.ProjDxResidualRefIdeal.main_arg1)
      ∧ r.2.mem ((c.tc : Thread Cert.ProjDxResidualRefIdeal.nD Cert.ProjDxResidualRefIdeal.τ).loc Cert.ProjDxResidualRefIdeal.main_arg2) = m ((c.tc : Thread Cert.ProjDxResidualRefIdeal.nD Cert.ProjDxResidualRefIdeal.τ).loc Cert.ProjDxResidualRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2)
      ∧ r.2.mem ((c.tc : Thread Cert.ConvGate.nD Cert.ConvGate.τ).loc Cert.ConvGate.main_arg3) = m ((c.tc : Thread Cert.ConvGate.nD Cert.ConvGate.τ).loc Cert.ConvGate.main_arg3))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
      ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2)
      ∧ r.2.mem ((c.tc : Thread Cert.ConvGateRefIdeal.nD Cert.ConvGateRefIdeal.τ).loc Cert.ConvGateRefIdeal.main_arg3) = m ((c.tc : Thread Cert.ConvGateRefIdeal.nD Cert.ConvGateRefIdeal.τ).loc Cert.ConvGateRefIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_Window [hWindow : Cert.Window.Facts] : Prop :=
  ∀ (m : (ℓ : Loc Cert.Window.nD Cert.Window.τ Cert.Window.sig) → Buf (Elt Bits) ℓ) (g : Dev Cert.Window.nD → PrngReg), Pre_Window m →
    θ_run (Cert.Window.defs (F := Bits)) (onTc (τ := Cert.Window.τ) (Cert.Window.main (F := Bits))) ⟨m, fun _ => 0, g⟩ (fun r => (∀ c : Dev Cert.Window.nD,
      r.2.mem ((c.tc : Thread Cert.Window.nD Cert.Window.τ).loc Cert.Window.main_arg0) = m ((c.tc : Thread Cert.Window.nD Cert.Window.τ).loc Cert.Window.main_arg0)
      ∧ r.2.mem ((c.tc : Thread Cert.Window.nD Cert.Window.τ).loc Cert.Window.main_arg1) = m ((c.tc : Thread Cert.Window.nD Cert.Window.τ).loc Cert.Window.main_arg1)
      ∧ r.2.mem ((c.tc : Thread Cert.Window.nD Cert.Window.τ).loc Cert.Window.main_arg2) = m ((c.tc : Thread Cert.Window.nD Cert.Window.τ).loc Cert.Window.main_arg2)
      ∧ r.2.mem ((c.tc : Thread Cert.Window.nD Cert.Window.τ).loc Cert.Window.main_arg3) = m ((c.tc : Thread Cert.Window.nD Cert.Window.τ).loc Cert.Window.main_arg3))
      ∧ r.2.sem = fun _ => 0)

def quiescent_WindowIdeal [hWindowIdeal : Cert.WindowIdeal.Facts] : Prop :=
  ∀ (m : (ℓ : Loc Cert.WindowIdeal.nD Cert.WindowIdeal.τ Cert.WindowIdeal.sig) → Buf (Elt Ideal) ℓ) (g : Dev Cert.WindowIdeal.nD → PrngReg), Pre_WindowIdeal m →
    θ_run (Cert.WindowIdeal.defs (F := Ideal)) (onTc (τ := Cert.WindowIdeal.τ) (Cert.WindowIdeal.main (F := Ideal))) ⟨m, fun _ => 0, g⟩ (fun r => (∀ c : Dev Cert.WindowIdeal.nD,
      r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
      ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
      ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
      ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ r.2.sem = fun _ => 0)

def quiescent_WindowRefIdeal [hWindowRefIdeal : Cert.WindowRefIdeal.Facts] : Prop :=
  ∀ (m : (ℓ : Loc Cert.WindowRefIdeal.nD Cert.WindowRefIdeal.τ Cert.WindowRefIdeal.sig) → Buf (Elt Ideal) ℓ) (g : Dev Cert.WindowRefIdeal.nD → PrngReg), Pre_WindowRefIdeal m →
    θ_run (Cert.WindowRefIdeal.defs (F := Ideal)) (onTc (τ := Cert.WindowRefIdeal.τ) (Cert.WindowRefIdeal.main (F := Ideal))) ⟨m, fun _ => 0, g⟩ (fun r => (∀ c : Dev Cert.WindowRefIdeal.nD,
      r.2.mem ((c.tc : Thread Cert.WindowRefIdeal.nD Cert.WindowRefIdeal.τ).loc Cert.WindowRefIdeal.main_arg0) = m ((c.tc : Thread Cert.WindowRefIdeal.nD Cert.WindowRefIdeal.τ).loc Cert.WindowRefIdeal.main_arg0)
      ∧ r.2.mem ((c.tc : Thread Cert.WindowRefIdeal.nD Cert.WindowRefIdeal.τ).loc Cert.WindowRefIdeal.main_arg1) = m ((c.tc : Thread Cert.WindowRefIdeal.nD Cert.WindowRefIdeal.τ).loc Cert.WindowRefIdeal.main_arg1)
      ∧ r.2.mem ((c.tc : Thread Cert.WindowRefIdeal.nD Cert.WindowRefIdeal.τ).loc Cert.WindowRefIdeal.main_arg2) = m ((c.tc : Thread Cert.WindowRefIdeal.nD Cert.WindowRefIdeal.τ).loc Cert.WindowRefIdeal.main_arg2)
      ∧ r.2.mem ((c.tc : Thread Cert.WindowRefIdeal.nD Cert.WindowRefIdeal.τ).loc Cert.WindowRefIdeal.main_arg3) = m ((c.tc : Thread Cert.WindowRefIdeal.nD Cert.WindowRefIdeal.τ).loc Cert.WindowRefIdeal.main_arg3))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1)
      ∧ r.2.mem ((c.tc : Thread Cert.Dilated.nD Cert.Dilated.τ).loc Cert.Dilated.main_arg2) = m ((c.tc : Thread Cert.Dilated.nD Cert.Dilated.τ).loc Cert.Dilated.main_arg2))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1)
      ∧ r.2.mem ((c.tc : Thread Cert.DilatedIdeal.nD Cert.DilatedIdeal.τ).loc Cert.DilatedIdeal.main_arg2) = m ((c.tc : Thread Cert.DilatedIdeal.nD Cert.DilatedIdeal.τ).loc Cert.DilatedIdeal.main_arg2))
      ∧ r.2.sem = fun _ => 0)

def quiescent_DilatedRefIdeal [hDilatedRefIdeal : Cert.DilatedRefIdeal.Facts] : Prop :=
  ∀ (m : (ℓ : Loc Cert.DilatedRefIdeal.nD Cert.DilatedRefIdeal.τ Cert.DilatedRefIdeal.sig) → Buf (Elt Ideal) ℓ) (g : Dev Cert.DilatedRefIdeal.nD → PrngReg), Pre_DilatedRefIdeal m →
    θ_run (Cert.DilatedRefIdeal.defs (F := Ideal)) (onTc (τ := Cert.DilatedRefIdeal.τ) (Cert.DilatedRefIdeal.main (F := Ideal))) ⟨m, fun _ => 0, g⟩ (fun r => (∀ c : Dev Cert.DilatedRefIdeal.nD,
      r.2.mem ((c.tc : Thread Cert.DilatedRefIdeal.nD Cert.DilatedRefIdeal.τ).loc Cert.DilatedRefIdeal.main_arg0) = m ((c.tc : Thread Cert.DilatedRefIdeal.nD Cert.DilatedRefIdeal.τ).loc Cert.DilatedRefIdeal.main_arg0)
      ∧ r.2.mem ((c.tc : Thread Cert.DilatedRefIdeal.nD Cert.DilatedRefIdeal.τ).loc Cert.DilatedRefIdeal.main_arg1) = m ((c.tc : Thread Cert.DilatedRefIdeal.nD Cert.DilatedRefIdeal.τ).loc Cert.DilatedRefIdeal.main_arg1)
      ∧ r.2.mem ((c.tc : Thread Cert.DilatedRefIdeal.nD Cert.DilatedRefIdeal.τ).loc Cert.DilatedRefIdeal.main_arg2) = m ((c.tc : Thread Cert.DilatedRefIdeal.nD Cert.DilatedRefIdeal.τ).loc Cert.DilatedRefIdeal.main_arg2))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0)
      ∧ r.2.mem ((c.tc : Thread Cert.SmallGrads.nD Cert.SmallGrads.τ).loc Cert.SmallGrads.main_arg1) = m ((c.tc : Thread Cert.SmallGrads.nD Cert.SmallGrads.τ).loc Cert.SmallGrads.main_arg1)
      ∧ r.2.mem ((c.tc : Thread Cert.SmallGrads.nD Cert.SmallGrads.τ).loc Cert.SmallGrads.main_arg2) = m ((c.tc : Thread Cert.SmallGrads.nD Cert.SmallGrads.τ).loc Cert.SmallGrads.main_arg2)
      ∧ r.2.mem ((c.tc : Thread Cert.SmallGrads.nD Cert.SmallGrads.τ).loc Cert.SmallGrads.main_arg3) = m ((c.tc : Thread Cert.SmallGrads.nD Cert.SmallGrads.τ).loc Cert.SmallGrads.main_arg3)
      ∧ r.2.mem ((c.tc : Thread Cert.SmallGrads.nD Cert.SmallGrads.τ).loc Cert.SmallGrads.main_arg4) = m ((c.tc : Thread Cert.SmallGrads.nD Cert.SmallGrads.τ).loc Cert.SmallGrads.main_arg4)
      ∧ r.2.mem ((c.tc : Thread Cert.SmallGrads.nD Cert.SmallGrads.τ).loc Cert.SmallGrads.main_arg5) = m ((c.tc : Thread Cert.SmallGrads.nD Cert.SmallGrads.τ).loc Cert.SmallGrads.main_arg5)
      ∧ r.2.mem ((c.tc : Thread Cert.SmallGrads.nD Cert.SmallGrads.τ).loc Cert.SmallGrads.main_arg6) = m ((c.tc : Thread Cert.SmallGrads.nD Cert.SmallGrads.τ).loc Cert.SmallGrads.main_arg6)
      ∧ r.2.mem ((c.tc : Thread Cert.SmallGrads.nD Cert.SmallGrads.τ).loc Cert.SmallGrads.main_arg7) = m ((c.tc : Thread Cert.SmallGrads.nD Cert.SmallGrads.τ).loc Cert.SmallGrads.main_arg7)
      ∧ r.2.mem ((c.tc : Thread Cert.SmallGrads.nD Cert.SmallGrads.τ).loc Cert.SmallGrads.main_arg8) = m ((c.tc : Thread Cert.SmallGrads.nD Cert.SmallGrads.τ).loc Cert.SmallGrads.main_arg8)
      ∧ r.2.mem ((c.tc : Thread Cert.SmallGrads.nD Cert.SmallGrads.τ).loc Cert.SmallGrads.main_arg9) = m ((c.tc : Thread Cert.SmallGrads.nD Cert.SmallGrads.τ).loc Cert.SmallGrads.main_arg9))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
      ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
      ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
      ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
      ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
      ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
      ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
      ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
      ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8)
      ∧ r.2.mem ((c.tc : Thread Cert.SmallGradsIdeal.nD Cert.SmallGradsIdeal.τ).loc Cert.SmallGradsIdeal.main_arg9) = m ((c.tc : Thread Cert.SmallGradsIdeal.nD Cert.SmallGradsIdeal.τ).loc Cert.SmallGradsIdeal.main_arg9))
      ∧ r.2.sem = fun _ => 0)

def quiescent_SmallGradsRefIdeal [hSmallGradsRefIdeal : Cert.SmallGradsRefIdeal.Facts] : Prop :=
  ∀ (m : (ℓ : Loc Cert.SmallGradsRefIdeal.nD Cert.SmallGradsRefIdeal.τ Cert.SmallGradsRefIdeal.sig) → Buf (Elt Ideal) ℓ) (g : Dev Cert.SmallGradsRefIdeal.nD → PrngReg), Pre_SmallGradsRefIdeal m →
    θ_run (Cert.SmallGradsRefIdeal.defs (F := Ideal)) (onTc (τ := Cert.SmallGradsRefIdeal.τ) (Cert.SmallGradsRefIdeal.main (F := Ideal))) ⟨m, fun _ => 0, g⟩ (fun r => (∀ c : Dev Cert.SmallGradsRefIdeal.nD,
      r.2.mem ((c.tc : Thread Cert.SmallGradsRefIdeal.nD Cert.SmallGradsRefIdeal.τ).loc Cert.SmallGradsRefIdeal.main_arg0) = m ((c.tc : Thread Cert.SmallGradsRefIdeal.nD Cert.SmallGradsRefIdeal.τ).loc Cert.SmallGradsRefIdeal.main_arg0)
      ∧ r.2.mem ((c.tc : Thread Cert.SmallGradsRefIdeal.nD Cert.SmallGradsRefIdeal.τ).loc Cert.SmallGradsRefIdeal.main_arg1) = m ((c.tc : Thread Cert.SmallGradsRefIdeal.nD Cert.SmallGradsRefIdeal.τ).loc Cert.SmallGradsRefIdeal.main_arg1)
      ∧ r.2.mem ((c.tc : Thread Cert.SmallGradsRefIdeal.nD Cert.SmallGradsRefIdeal.τ).loc Cert.SmallGradsRefIdeal.main_arg2) = m ((c.tc : Thread Cert.SmallGradsRefIdeal.nD Cert.SmallGradsRefIdeal.τ).loc Cert.SmallGradsRefIdeal.main_arg2)
      ∧ r.2.mem ((c.tc : Thread Cert.SmallGradsRefIdeal.nD Cert.SmallGradsRefIdeal.τ).loc Cert.SmallGradsRefIdeal.main_arg3) = m ((c.tc : Thread Cert.SmallGradsRefIdeal.nD Cert.SmallGradsRefIdeal.τ).loc Cert.SmallGradsRefIdeal.main_arg3)
      ∧ r.2.mem ((c.tc : Thread Cert.SmallGradsRefIdeal.nD Cert.SmallGradsRefIdeal.τ).loc Cert.SmallGradsRefIdeal.main_arg4) = m ((c.tc : Thread Cert.SmallGradsRefIdeal.nD Cert.SmallGradsRefIdeal.τ).loc Cert.SmallGradsRefIdeal.main_arg4)
      ∧ r.2.mem ((c.tc : Thread Cert.SmallGradsRefIdeal.nD Cert.SmallGradsRefIdeal.τ).loc Cert.SmallGradsRefIdeal.main_arg5) = m ((c.tc : Thread Cert.SmallGradsRefIdeal.nD Cert.SmallGradsRefIdeal.τ).loc Cert.SmallGradsRefIdeal.main_arg5)
      ∧ r.2.mem ((c.tc : Thread Cert.SmallGradsRefIdeal.nD Cert.SmallGradsRefIdeal.τ).loc Cert.SmallGradsRefIdeal.main_arg6) = m ((c.tc : Thread Cert.SmallGradsRefIdeal.nD Cert.SmallGradsRefIdeal.τ).loc Cert.SmallGradsRefIdeal.main_arg6)
      ∧ r.2.mem ((c.tc : Thread Cert.SmallGradsRefIdeal.nD Cert.SmallGradsRefIdeal.τ).loc Cert.SmallGradsRefIdeal.main_arg7) = m ((c.tc : Thread Cert.SmallGradsRefIdeal.nD Cert.SmallGradsRefIdeal.τ).loc Cert.SmallGradsRefIdeal.main_arg7)
      ∧ r.2.mem ((c.tc : Thread Cert.SmallGradsRefIdeal.nD Cert.SmallGradsRefIdeal.τ).loc Cert.SmallGradsRefIdeal.main_arg8) = m ((c.tc : Thread Cert.SmallGradsRefIdeal.nD Cert.SmallGradsRefIdeal.τ).loc Cert.SmallGradsRefIdeal.main_arg8)
      ∧ r.2.mem ((c.tc : Thread Cert.SmallGradsRefIdeal.nD Cert.SmallGradsRefIdeal.τ).loc Cert.SmallGradsRefIdeal.main_arg9) = m ((c.tc : Thread Cert.SmallGradsRefIdeal.nD Cert.SmallGradsRefIdeal.τ).loc Cert.SmallGradsRefIdeal.main_arg9))
      ∧ r.2.sem = fun _ => 0)

def quiescent_SmallUpdates [hSmallUpdates : Cert.SmallUpdates.Facts] : Prop :=
  ∀ (m : (ℓ : Loc Cert.SmallUpdates.nD Cert.SmallUpdates.τ Cert.SmallUpdates.sig) → Buf (Elt Bits) ℓ) (g : Dev Cert.SmallUpdates.nD → PrngReg), Pre_SmallUpdates m →
    θ_run (Cert.SmallUpdates.defs (F := Bits)) (onTc (τ := Cert.SmallUpdates.τ) (Cert.SmallUpdates.main (F := Bits))) ⟨m, fun _ => 0, g⟩ (fun r => (∀ c : Dev Cert.SmallUpdates.nD,
      r.2.mem ((c.tc : Thread Cert.SmallUpdates.nD Cert.SmallUpdates.τ).loc Cert.SmallUpdates.main_arg0) = m ((c.tc : Thread Cert.SmallUpdates.nD Cert.SmallUpdates.τ).loc Cert.SmallUpdates.main_arg0)
      ∧ r.2.mem ((c.tc : Thread Cert.SmallUpdates.nD Cert.SmallUpdates.τ).loc Cert.SmallUpdates.main_arg1) = m ((c.tc : Thread Cert.SmallUpdates.nD Cert.SmallUpdates.τ).loc Cert.SmallUpdates.main_arg1)
      ∧ r.2.mem ((c.tc : Thread Cert.SmallUpdates.nD Cert.SmallUpdates.τ).loc Cert.SmallUpdates.main_arg2) = m ((c.tc : Thread Cert.SmallUpdates.nD Cert.SmallUpdates.τ).loc Cert.SmallUpdates.main_arg2)
      ∧ r.2.mem ((c.tc : Thread Cert.SmallUpdates.nD Cert.SmallUpdates.τ).loc Cert.SmallUpdates.main_arg3) = m ((c.tc : Thread Cert.SmallUpdates.nD Cert.SmallUpdates.τ).loc Cert.SmallUpdates.main_arg3)
      ∧ r.2.mem ((c.tc : Thread Cert.SmallUpdates.nD Cert.SmallUpdates.τ).loc Cert.SmallUpdates.main_arg4) = m ((c.tc : Thread Cert.SmallUpdates.nD Cert.SmallUpdates.τ).loc Cert.SmallUpdates.main_arg4)
      ∧ r.2.mem ((c.tc : Thread Cert.SmallUpdates.nD Cert.SmallUpdates.τ).loc Cert.SmallUpdates.main_arg5) = m ((c.tc : Thread Cert.SmallUpdates.nD Cert.SmallUpdates.τ).loc Cert.SmallUpdates.main_arg5)
      ∧ r.2.mem ((c.tc : Thread Cert.SmallUpdates.nD Cert.SmallUpdates.τ).loc Cert.SmallUpdates.main_arg6) = m ((c.tc : Thread Cert.SmallUpdates.nD Cert.SmallUpdates.τ).loc Cert.SmallUpdates.main_arg6)
      ∧ r.2.mem ((c.tc : Thread Cert.SmallUpdates.nD Cert.SmallUpdates.τ).loc Cert.SmallUpdates.main_arg7) = m ((c.tc : Thread Cert.SmallUpdates.nD Cert.SmallUpdates.τ).loc Cert.SmallUpdates.main_arg7)
      ∧ r.2.mem ((c.tc : Thread Cert.SmallUpdates.nD Cert.SmallUpdates.τ).loc Cert.SmallUpdates.main_arg8) = m ((c.tc : Thread Cert.SmallUpdates.nD Cert.SmallUpdates.τ).loc Cert.SmallUpdates.main_arg8)
      ∧ r.2.mem ((c.tc : Thread Cert.SmallUpdates.nD Cert.SmallUpdates.τ).loc Cert.SmallUpdates.main_arg9) = m ((c.tc : Thread Cert.SmallUpdates.nD Cert.SmallUpdates.τ).loc Cert.SmallUpdates.main_arg9)
      ∧ r.2.mem ((c.tc : Thread Cert.SmallUpdates.nD Cert.SmallUpdates.τ).loc Cert.SmallUpdates.main_arg10) = m ((c.tc : Thread Cert.SmallUpdates.nD Cert.SmallUpdates.τ).loc Cert.SmallUpdates.main_arg10)
      ∧ r.2.mem ((c.tc : Thread Cert.SmallUpdates.nD Cert.SmallUpdates.τ).loc Cert.SmallUpdates.main_arg11) = m ((c.tc : Thread Cert.SmallUpdates.nD Cert.SmallUpdates.τ).loc Cert.SmallUpdates.main_arg11)
      ∧ r.2.mem ((c.tc : Thread Cert.SmallUpdates.nD Cert.SmallUpdates.τ).loc Cert.SmallUpdates.main_arg12) = m ((c.tc : Thread Cert.SmallUpdates.nD Cert.SmallUpdates.τ).loc Cert.SmallUpdates.main_arg12)
      ∧ r.2.mem ((c.tc : Thread Cert.SmallUpdates.nD Cert.SmallUpdates.τ).loc Cert.SmallUpdates.main_arg13) = m ((c.tc : Thread Cert.SmallUpdates.nD Cert.SmallUpdates.τ).loc Cert.SmallUpdates.main_arg13)
      ∧ r.2.mem ((c.tc : Thread Cert.SmallUpdates.nD Cert.SmallUpdates.τ).loc Cert.SmallUpdates.main_arg14) = m ((c.tc : Thread Cert.SmallUpdates.nD Cert.SmallUpdates.τ).loc Cert.SmallUpdates.main_arg14)
      ∧ r.2.mem ((c.tc : Thread Cert.SmallUpdates.nD Cert.SmallUpdates.τ).loc Cert.SmallUpdates.main_arg15) = m ((c.tc : Thread Cert.SmallUpdates.nD Cert.SmallUpdates.τ).loc Cert.SmallUpdates.main_arg15)
      ∧ r.2.mem ((c.tc : Thread Cert.SmallUpdates.nD Cert.SmallUpdates.τ).loc Cert.SmallUpdates.main_arg16) = m ((c.tc : Thread Cert.SmallUpdates.nD Cert.SmallUpdates.τ).loc Cert.SmallUpdates.main_arg16)
      ∧ r.2.mem ((c.tc : Thread Cert.SmallUpdates.nD Cert.SmallUpdates.τ).loc Cert.SmallUpdates.main_arg17) = m ((c.tc : Thread Cert.SmallUpdates.nD Cert.SmallUpdates.τ).loc Cert.SmallUpdates.main_arg17)
      ∧ r.2.mem ((c.tc : Thread Cert.SmallUpdates.nD Cert.SmallUpdates.τ).loc Cert.SmallUpdates.main_arg18) = m ((c.tc : Thread Cert.SmallUpdates.nD Cert.SmallUpdates.τ).loc Cert.SmallUpdates.main_arg18)
      ∧ r.2.mem ((c.tc : Thread Cert.SmallUpdates.nD Cert.SmallUpdates.τ).loc Cert.SmallUpdates.main_arg19) = m ((c.tc : Thread Cert.SmallUpdates.nD Cert.SmallUpdates.τ).loc Cert.SmallUpdates.main_arg19)
      ∧ r.2.mem ((c.tc : Thread Cert.SmallUpdates.nD Cert.SmallUpdates.τ).loc Cert.SmallUpdates.main_arg20) = m ((c.tc : Thread Cert.SmallUpdates.nD Cert.SmallUpdates.τ).loc Cert.SmallUpdates.main_arg20)
      ∧ r.2.mem ((c.tc : Thread Cert.SmallUpdates.nD Cert.SmallUpdates.τ).loc Cert.SmallUpdates.main_arg21) = m ((c.tc : Thread Cert.SmallUpdates.nD Cert.SmallUpdates.τ).loc Cert.SmallUpdates.main_arg21)
      ∧ r.2.mem ((c.tc : Thread Cert.SmallUpdates.nD Cert.SmallUpdates.τ).loc Cert.SmallUpdates.main_arg22) = m ((c.tc : Thread Cert.SmallUpdates.nD Cert.SmallUpdates.τ).loc Cert.SmallUpdates.main_arg22)
      ∧ r.2.mem ((c.tc : Thread Cert.SmallUpdates.nD Cert.SmallUpdates.τ).loc Cert.SmallUpdates.main_arg23) = m ((c.tc : Thread Cert.SmallUpdates.nD Cert.SmallUpdates.τ).loc Cert.SmallUpdates.main_arg23)
      ∧ r.2.mem ((c.tc : Thread Cert.SmallUpdates.nD Cert.SmallUpdates.τ).loc Cert.SmallUpdates.main_arg24) = m ((c.tc : Thread Cert.SmallUpdates.nD Cert.SmallUpdates.τ).loc Cert.SmallUpdates.main_arg24)
      ∧ r.2.mem ((c.tc : Thread Cert.SmallUpdates.nD Cert.SmallUpdates.τ).loc Cert.SmallUpdates.main_arg25) = m ((c.tc : Thread Cert.SmallUpdates.nD Cert.SmallUpdates.τ).loc Cert.SmallUpdates.main_arg25)
      ∧ r.2.mem ((c.tc : Thread Cert.SmallUpdates.nD Cert.SmallUpdates.τ).loc Cert.SmallUpdates.main_arg26) = m ((c.tc : Thread Cert.SmallUpdates.nD Cert.SmallUpdates.τ).loc Cert.SmallUpdates.main_arg26)
      ∧ r.2.mem ((c.tc : Thread Cert.SmallUpdates.nD Cert.SmallUpdates.τ).loc Cert.SmallUpdates.main_arg27) = m ((c.tc : Thread Cert.SmallUpdates.nD Cert.SmallUpdates.τ).loc Cert.SmallUpdates.main_arg27)
      ∧ r.2.mem ((c.tc : Thread Cert.SmallUpdates.nD Cert.SmallUpdates.τ).loc Cert.SmallUpdates.main_arg28) = m ((c.tc : Thread Cert.SmallUpdates.nD Cert.SmallUpdates.τ).loc Cert.SmallUpdates.main_arg28)
      ∧ r.2.mem ((c.tc : Thread Cert.SmallUpdates.nD Cert.SmallUpdates.τ).loc Cert.SmallUpdates.main_arg29) = m ((c.tc : Thread Cert.SmallUpdates.nD Cert.SmallUpdates.τ).loc Cert.SmallUpdates.main_arg29)
      ∧ r.2.mem ((c.tc : Thread Cert.SmallUpdates.nD Cert.SmallUpdates.τ).loc Cert.SmallUpdates.main_arg30) = m ((c.tc : Thread Cert.SmallUpdates.nD Cert.SmallUpdates.τ).loc Cert.SmallUpdates.main_arg30)
      ∧ r.2.mem ((c.tc : Thread Cert.SmallUpdates.nD Cert.SmallUpdates.τ).loc Cert.SmallUpdates.main_arg31) = m ((c.tc : Thread Cert.SmallUpdates.nD Cert.SmallUpdates.τ).loc Cert.SmallUpdates.main_arg31)
      ∧ r.2.mem ((c.tc : Thread Cert.SmallUpdates.nD Cert.SmallUpdates.τ).loc Cert.SmallUpdates.main_arg32) = m ((c.tc : Thread Cert.SmallUpdates.nD Cert.SmallUpdates.τ).loc Cert.SmallUpdates.main_arg32)
      ∧ r.2.mem ((c.tc : Thread Cert.SmallUpdates.nD Cert.SmallUpdates.τ).loc Cert.SmallUpdates.main_arg33) = m ((c.tc : Thread Cert.SmallUpdates.nD Cert.SmallUpdates.τ).loc Cert.SmallUpdates.main_arg33)
      ∧ r.2.mem ((c.tc : Thread Cert.SmallUpdates.nD Cert.SmallUpdates.τ).loc Cert.SmallUpdates.main_arg34) = m ((c.tc : Thread Cert.SmallUpdates.nD Cert.SmallUpdates.τ).loc Cert.SmallUpdates.main_arg34)
      ∧ r.2.mem ((c.tc : Thread Cert.SmallUpdates.nD Cert.SmallUpdates.τ).loc Cert.SmallUpdates.main_arg35) = m ((c.tc : Thread Cert.SmallUpdates.nD Cert.SmallUpdates.τ).loc Cert.SmallUpdates.main_arg35))
      ∧ r.2.sem = fun _ => 0)

def quiescent_SmallUpdatesIdeal [hSmallUpdatesIdeal : Cert.SmallUpdatesIdeal.Facts] : Prop :=
  ∀ (m : (ℓ : Loc Cert.SmallUpdatesIdeal.nD Cert.SmallUpdatesIdeal.τ Cert.SmallUpdatesIdeal.sig) → Buf (Elt Ideal) ℓ) (g : Dev Cert.SmallUpdatesIdeal.nD → PrngReg), Pre_SmallUpdatesIdeal m →
    θ_run (Cert.SmallUpdatesIdeal.defs (F := Ideal)) (onTc (τ := Cert.SmallUpdatesIdeal.τ) (Cert.SmallUpdatesIdeal.main (F := Ideal))) ⟨m, fun _ => 0, g⟩ (fun r => (∀ c : Dev Cert.SmallUpdatesIdeal.nD,
      r.2.mem ((c.tc : Thread Cert.SmallUpdatesIdeal.nD Cert.SmallUpdatesIdeal.τ).loc Cert.SmallUpdatesIdeal.main_arg0) = m ((c.tc : Thread Cert.SmallUpdatesIdeal.nD Cert.SmallUpdatesIdeal.τ).loc Cert.SmallUpdatesIdeal.main_arg0)
      ∧ r.2.mem ((c.tc : Thread Cert.SmallUpdatesIdeal.nD Cert.SmallUpdatesIdeal.τ).loc Cert.SmallUpdatesIdeal.main_arg1) = m ((c.tc : Thread Cert.SmallUpdatesIdeal.nD Cert.SmallUpdatesIdeal.τ).loc Cert.SmallUpdatesIdeal.main_arg1)
      ∧ r.2.mem ((c.tc : Thread Cert.SmallUpdatesIdeal.nD Cert.SmallUpdatesIdeal.τ).loc Cert.SmallUpdatesIdeal.main_arg2) = m ((c.tc : Thread Cert.SmallUpdatesIdeal.nD Cert.SmallUpdatesIdeal.τ).loc Cert.SmallUpdatesIdeal.main_arg2)
      ∧ r.2.mem ((c.tc : Thread Cert.SmallUpdatesIdeal.nD Cert.SmallUpdatesIdeal.τ).loc Cert.SmallUpdatesIdeal.main_arg3) = m ((c.tc : Thread Cert.SmallUpdatesIdeal.nD Cert.SmallUpdatesIdeal.τ).loc Cert.SmallUpdatesIdeal.main_arg3)
      ∧ r.2.mem ((c.tc : Thread Cert.SmallUpdatesIdeal.nD Cert.SmallUpdatesIdeal.τ).loc Cert.SmallUpdatesIdeal.main_arg4) = m ((c.tc : Thread Cert.SmallUpdatesIdeal.nD Cert.SmallUpdatesIdeal.τ).loc Cert.SmallUpdatesIdeal.main_arg4)
      ∧ r.2.mem ((c.tc : Thread Cert.SmallUpdatesIdeal.nD Cert.SmallUpdatesIdeal.τ).loc Cert.SmallUpdatesIdeal.main_arg5) = m ((c.tc : Thread Cert.SmallUpdatesIdeal.nD Cert.SmallUpdatesIdeal.τ).loc Cert.SmallUpdatesIdeal.main_arg5)
      ∧ r.2.mem ((c.tc : Thread Cert.SmallUpdatesIdeal.nD Cert.SmallUpdatesIdeal.τ).loc Cert.SmallUpdatesIdeal.main_arg6) = m ((c.tc : Thread Cert.SmallUpdatesIdeal.nD Cert.SmallUpdatesIdeal.τ).loc Cert.SmallUpdatesIdeal.main_arg6)
      ∧ r.2.mem ((c.tc : Thread Cert.SmallUpdatesIdeal.nD Cert.SmallUpdatesIdeal.τ).loc Cert.SmallUpdatesIdeal.main_arg7) = m ((c.tc : Thread Cert.SmallUpdatesIdeal.nD Cert.SmallUpdatesIdeal.τ).loc Cert.SmallUpdatesIdeal.main_arg7)
      ∧ r.2.mem ((c.tc : Thread Cert.SmallUpdatesIdeal.nD Cert.SmallUpdatesIdeal.τ).loc Cert.SmallUpdatesIdeal.main_arg8) = m ((c.tc : Thread Cert.SmallUpdatesIdeal.nD Cert.SmallUpdatesIdeal.τ).loc Cert.SmallUpdatesIdeal.main_arg8)
      ∧ r.2.mem ((c.tc : Thread Cert.SmallUpdatesIdeal.nD Cert.SmallUpdatesIdeal.τ).loc Cert.SmallUpdatesIdeal.main_arg9) = m ((c.tc : Thread Cert.SmallUpdatesIdeal.nD Cert.SmallUpdatesIdeal.τ).loc Cert.SmallUpdatesIdeal.main_arg9)
      ∧ r.2.mem ((c.tc : Thread Cert.SmallUpdatesIdeal.nD Cert.SmallUpdatesIdeal.τ).loc Cert.SmallUpdatesIdeal.main_arg10) = m ((c.tc : Thread Cert.SmallUpdatesIdeal.nD Cert.SmallUpdatesIdeal.τ).loc Cert.SmallUpdatesIdeal.main_arg10)
      ∧ r.2.mem ((c.tc : Thread Cert.SmallUpdatesIdeal.nD Cert.SmallUpdatesIdeal.τ).loc Cert.SmallUpdatesIdeal.main_arg11) = m ((c.tc : Thread Cert.SmallUpdatesIdeal.nD Cert.SmallUpdatesIdeal.τ).loc Cert.SmallUpdatesIdeal.main_arg11)
      ∧ r.2.mem ((c.tc : Thread Cert.SmallUpdatesIdeal.nD Cert.SmallUpdatesIdeal.τ).loc Cert.SmallUpdatesIdeal.main_arg12) = m ((c.tc : Thread Cert.SmallUpdatesIdeal.nD Cert.SmallUpdatesIdeal.τ).loc Cert.SmallUpdatesIdeal.main_arg12)
      ∧ r.2.mem ((c.tc : Thread Cert.SmallUpdatesIdeal.nD Cert.SmallUpdatesIdeal.τ).loc Cert.SmallUpdatesIdeal.main_arg13) = m ((c.tc : Thread Cert.SmallUpdatesIdeal.nD Cert.SmallUpdatesIdeal.τ).loc Cert.SmallUpdatesIdeal.main_arg13)
      ∧ r.2.mem ((c.tc : Thread Cert.SmallUpdatesIdeal.nD Cert.SmallUpdatesIdeal.τ).loc Cert.SmallUpdatesIdeal.main_arg14) = m ((c.tc : Thread Cert.SmallUpdatesIdeal.nD Cert.SmallUpdatesIdeal.τ).loc Cert.SmallUpdatesIdeal.main_arg14)
      ∧ r.2.mem ((c.tc : Thread Cert.SmallUpdatesIdeal.nD Cert.SmallUpdatesIdeal.τ).loc Cert.SmallUpdatesIdeal.main_arg15) = m ((c.tc : Thread Cert.SmallUpdatesIdeal.nD Cert.SmallUpdatesIdeal.τ).loc Cert.SmallUpdatesIdeal.main_arg15)
      ∧ r.2.mem ((c.tc : Thread Cert.SmallUpdatesIdeal.nD Cert.SmallUpdatesIdeal.τ).loc Cert.SmallUpdatesIdeal.main_arg16) = m ((c.tc : Thread Cert.SmallUpdatesIdeal.nD Cert.SmallUpdatesIdeal.τ).loc Cert.SmallUpdatesIdeal.main_arg16)
      ∧ r.2.mem ((c.tc : Thread Cert.SmallUpdatesIdeal.nD Cert.SmallUpdatesIdeal.τ).loc Cert.SmallUpdatesIdeal.main_arg17) = m ((c.tc : Thread Cert.SmallUpdatesIdeal.nD Cert.SmallUpdatesIdeal.τ).loc Cert.SmallUpdatesIdeal.main_arg17)
      ∧ r.2.mem ((c.tc : Thread Cert.SmallUpdatesIdeal.nD Cert.SmallUpdatesIdeal.τ).loc Cert.SmallUpdatesIdeal.main_arg18) = m ((c.tc : Thread Cert.SmallUpdatesIdeal.nD Cert.SmallUpdatesIdeal.τ).loc Cert.SmallUpdatesIdeal.main_arg18)
      ∧ r.2.mem ((c.tc : Thread Cert.SmallUpdatesIdeal.nD Cert.SmallUpdatesIdeal.τ).loc Cert.SmallUpdatesIdeal.main_arg19) = m ((c.tc : Thread Cert.SmallUpdatesIdeal.nD Cert.SmallUpdatesIdeal.τ).loc Cert.SmallUpdatesIdeal.main_arg19)
      ∧ r.2.mem ((c.tc : Thread Cert.SmallUpdatesIdeal.nD Cert.SmallUpdatesIdeal.τ).loc Cert.SmallUpdatesIdeal.main_arg20) = m ((c.tc : Thread Cert.SmallUpdatesIdeal.nD Cert.SmallUpdatesIdeal.τ).loc Cert.SmallUpdatesIdeal.main_arg20)
      ∧ r.2.mem ((c.tc : Thread Cert.SmallUpdatesIdeal.nD Cert.SmallUpdatesIdeal.τ).loc Cert.SmallUpdatesIdeal.main_arg21) = m ((c.tc : Thread Cert.SmallUpdatesIdeal.nD Cert.SmallUpdatesIdeal.τ).loc Cert.SmallUpdatesIdeal.main_arg21)
      ∧ r.2.mem ((c.tc : Thread Cert.SmallUpdatesIdeal.nD Cert.SmallUpdatesIdeal.τ).loc Cert.SmallUpdatesIdeal.main_arg22) = m ((c.tc : Thread Cert.SmallUpdatesIdeal.nD Cert.SmallUpdatesIdeal.τ).loc Cert.SmallUpdatesIdeal.main_arg22)
      ∧ r.2.mem ((c.tc : Thread Cert.SmallUpdatesIdeal.nD Cert.SmallUpdatesIdeal.τ).loc Cert.SmallUpdatesIdeal.main_arg23) = m ((c.tc : Thread Cert.SmallUpdatesIdeal.nD Cert.SmallUpdatesIdeal.τ).loc Cert.SmallUpdatesIdeal.main_arg23)
      ∧ r.2.mem ((c.tc : Thread Cert.SmallUpdatesIdeal.nD Cert.SmallUpdatesIdeal.τ).loc Cert.SmallUpdatesIdeal.main_arg24) = m ((c.tc : Thread Cert.SmallUpdatesIdeal.nD Cert.SmallUpdatesIdeal.τ).loc Cert.SmallUpdatesIdeal.main_arg24)
      ∧ r.2.mem ((c.tc : Thread Cert.SmallUpdatesIdeal.nD Cert.SmallUpdatesIdeal.τ).loc Cert.SmallUpdatesIdeal.main_arg25) = m ((c.tc : Thread Cert.SmallUpdatesIdeal.nD Cert.SmallUpdatesIdeal.τ).loc Cert.SmallUpdatesIdeal.main_arg25)
      ∧ r.2.mem ((c.tc : Thread Cert.SmallUpdatesIdeal.nD Cert.SmallUpdatesIdeal.τ).loc Cert.SmallUpdatesIdeal.main_arg26) = m ((c.tc : Thread Cert.SmallUpdatesIdeal.nD Cert.SmallUpdatesIdeal.τ).loc Cert.SmallUpdatesIdeal.main_arg26)
      ∧ r.2.mem ((c.tc : Thread Cert.SmallUpdatesIdeal.nD Cert.SmallUpdatesIdeal.τ).loc Cert.SmallUpdatesIdeal.main_arg27) = m ((c.tc : Thread Cert.SmallUpdatesIdeal.nD Cert.SmallUpdatesIdeal.τ).loc Cert.SmallUpdatesIdeal.main_arg27)
      ∧ r.2.mem ((c.tc : Thread Cert.SmallUpdatesIdeal.nD Cert.SmallUpdatesIdeal.τ).loc Cert.SmallUpdatesIdeal.main_arg28) = m ((c.tc : Thread Cert.SmallUpdatesIdeal.nD Cert.SmallUpdatesIdeal.τ).loc Cert.SmallUpdatesIdeal.main_arg28)
      ∧ r.2.mem ((c.tc : Thread Cert.SmallUpdatesIdeal.nD Cert.SmallUpdatesIdeal.τ).loc Cert.SmallUpdatesIdeal.main_arg29) = m ((c.tc : Thread Cert.SmallUpdatesIdeal.nD Cert.SmallUpdatesIdeal.τ).loc Cert.SmallUpdatesIdeal.main_arg29)
      ∧ r.2.mem ((c.tc : Thread Cert.SmallUpdatesIdeal.nD Cert.SmallUpdatesIdeal.τ).loc Cert.SmallUpdatesIdeal.main_arg30) = m ((c.tc : Thread Cert.SmallUpdatesIdeal.nD Cert.SmallUpdatesIdeal.τ).loc Cert.SmallUpdatesIdeal.main_arg30)
      ∧ r.2.mem ((c.tc : Thread Cert.SmallUpdatesIdeal.nD Cert.SmallUpdatesIdeal.τ).loc Cert.SmallUpdatesIdeal.main_arg31) = m ((c.tc : Thread Cert.SmallUpdatesIdeal.nD Cert.SmallUpdatesIdeal.τ).loc Cert.SmallUpdatesIdeal.main_arg31)
      ∧ r.2.mem ((c.tc : Thread Cert.SmallUpdatesIdeal.nD Cert.SmallUpdatesIdeal.τ).loc Cert.SmallUpdatesIdeal.main_arg32) = m ((c.tc : Thread Cert.SmallUpdatesIdeal.nD Cert.SmallUpdatesIdeal.τ).loc Cert.SmallUpdatesIdeal.main_arg32)
      ∧ r.2.mem ((c.tc : Thread Cert.SmallUpdatesIdeal.nD Cert.SmallUpdatesIdeal.τ).loc Cert.SmallUpdatesIdeal.main_arg33) = m ((c.tc : Thread Cert.SmallUpdatesIdeal.nD Cert.SmallUpdatesIdeal.τ).loc Cert.SmallUpdatesIdeal.main_arg33)
      ∧ r.2.mem ((c.tc : Thread Cert.SmallUpdatesIdeal.nD Cert.SmallUpdatesIdeal.τ).loc Cert.SmallUpdatesIdeal.main_arg34) = m ((c.tc : Thread Cert.SmallUpdatesIdeal.nD Cert.SmallUpdatesIdeal.τ).loc Cert.SmallUpdatesIdeal.main_arg34)
      ∧ r.2.mem ((c.tc : Thread Cert.SmallUpdatesIdeal.nD Cert.SmallUpdatesIdeal.τ).loc Cert.SmallUpdatesIdeal.main_arg35) = m ((c.tc : Thread Cert.SmallUpdatesIdeal.nD Cert.SmallUpdatesIdeal.τ).loc Cert.SmallUpdatesIdeal.main_arg35))
      ∧ r.2.sem = fun _ => 0)

def quiescent_SmallUpdatesRefIdeal [hSmallUpdatesRefIdeal : Cert.SmallUpdatesRefIdeal.Facts] : Prop :=
  ∀ (m : (ℓ : Loc Cert.SmallUpdatesRefIdeal.nD Cert.SmallUpdatesRefIdeal.τ Cert.SmallUpdatesRefIdeal.sig) → Buf (Elt Ideal) ℓ) (g : Dev Cert.SmallUpdatesRefIdeal.nD → PrngReg), Pre_SmallUpdatesRefIdeal m →
    θ_run (Cert.SmallUpdatesRefIdeal.defs (F := Ideal)) (onTc (τ := Cert.SmallUpdatesRefIdeal.τ) (Cert.SmallUpdatesRefIdeal.main (F := Ideal))) ⟨m, fun _ => 0, g⟩ (fun r => (∀ c : Dev Cert.SmallUpdatesRefIdeal.nD,
      r.2.mem ((c.tc : Thread Cert.SmallUpdatesRefIdeal.nD Cert.SmallUpdatesRefIdeal.τ).loc Cert.SmallUpdatesRefIdeal.main_arg0) = m ((c.tc : Thread Cert.SmallUpdatesRefIdeal.nD Cert.SmallUpdatesRefIdeal.τ).loc Cert.SmallUpdatesRefIdeal.main_arg0)
      ∧ r.2.mem ((c.tc : Thread Cert.SmallUpdatesRefIdeal.nD Cert.SmallUpdatesRefIdeal.τ).loc Cert.SmallUpdatesRefIdeal.main_arg1) = m ((c.tc : Thread Cert.SmallUpdatesRefIdeal.nD Cert.SmallUpdatesRefIdeal.τ).loc Cert.SmallUpdatesRefIdeal.main_arg1)
      ∧ r.2.mem ((c.tc : Thread Cert.SmallUpdatesRefIdeal.nD Cert.SmallUpdatesRefIdeal.τ).loc Cert.SmallUpdatesRefIdeal.main_arg2) = m ((c.tc : Thread Cert.SmallUpdatesRefIdeal.nD Cert.SmallUpdatesRefIdeal.τ).loc Cert.SmallUpdatesRefIdeal.main_arg2)
      ∧ r.2.mem ((c.tc : Thread Cert.SmallUpdatesRefIdeal.nD Cert.SmallUpdatesRefIdeal.τ).loc Cert.SmallUpdatesRefIdeal.main_arg3) = m ((c.tc : Thread Cert.SmallUpdatesRefIdeal.nD Cert.SmallUpdatesRefIdeal.τ).loc Cert.SmallUpdatesRefIdeal.main_arg3)
      ∧ r.2.mem ((c.tc : Thread Cert.SmallUpdatesRefIdeal.nD Cert.SmallUpdatesRefIdeal.τ).loc Cert.SmallUpdatesRefIdeal.main_arg4) = m ((c.tc : Thread Cert.SmallUpdatesRefIdeal.nD Cert.SmallUpdatesRefIdeal.τ).loc Cert.SmallUpdatesRefIdeal.main_arg4)
      ∧ r.2.mem ((c.tc : Thread Cert.SmallUpdatesRefIdeal.nD Cert.SmallUpdatesRefIdeal.τ).loc Cert.SmallUpdatesRefIdeal.main_arg5) = m ((c.tc : Thread Cert.SmallUpdatesRefIdeal.nD Cert.SmallUpdatesRefIdeal.τ).loc Cert.SmallUpdatesRefIdeal.main_arg5)
      ∧ r.2.mem ((c.tc : Thread Cert.SmallUpdatesRefIdeal.nD Cert.SmallUpdatesRefIdeal.τ).loc Cert.SmallUpdatesRefIdeal.main_arg6) = m ((c.tc : Thread Cert.SmallUpdatesRefIdeal.nD Cert.SmallUpdatesRefIdeal.τ).loc Cert.SmallUpdatesRefIdeal.main_arg6)
      ∧ r.2.mem ((c.tc : Thread Cert.SmallUpdatesRefIdeal.nD Cert.SmallUpdatesRefIdeal.τ).loc Cert.SmallUpdatesRefIdeal.main_arg7) = m ((c.tc : Thread Cert.SmallUpdatesRefIdeal.nD Cert.SmallUpdatesRefIdeal.τ).loc Cert.SmallUpdatesRefIdeal.main_arg7)
      ∧ r.2.mem ((c.tc : Thread Cert.SmallUpdatesRefIdeal.nD Cert.SmallUpdatesRefIdeal.τ).loc Cert.SmallUpdatesRefIdeal.main_arg8) = m ((c.tc : Thread Cert.SmallUpdatesRefIdeal.nD Cert.SmallUpdatesRefIdeal.τ).loc Cert.SmallUpdatesRefIdeal.main_arg8)
      ∧ r.2.mem ((c.tc : Thread Cert.SmallUpdatesRefIdeal.nD Cert.SmallUpdatesRefIdeal.τ).loc Cert.SmallUpdatesRefIdeal.main_arg9) = m ((c.tc : Thread Cert.SmallUpdatesRefIdeal.nD Cert.SmallUpdatesRefIdeal.τ).loc Cert.SmallUpdatesRefIdeal.main_arg9)
      ∧ r.2.mem ((c.tc : Thread Cert.SmallUpdatesRefIdeal.nD Cert.SmallUpdatesRefIdeal.τ).loc Cert.SmallUpdatesRefIdeal.main_arg10) = m ((c.tc : Thread Cert.SmallUpdatesRefIdeal.nD Cert.SmallUpdatesRefIdeal.τ).loc Cert.SmallUpdatesRefIdeal.main_arg10)
      ∧ r.2.mem ((c.tc : Thread Cert.SmallUpdatesRefIdeal.nD Cert.SmallUpdatesRefIdeal.τ).loc Cert.SmallUpdatesRefIdeal.main_arg11) = m ((c.tc : Thread Cert.SmallUpdatesRefIdeal.nD Cert.SmallUpdatesRefIdeal.τ).loc Cert.SmallUpdatesRefIdeal.main_arg11)
      ∧ r.2.mem ((c.tc : Thread Cert.SmallUpdatesRefIdeal.nD Cert.SmallUpdatesRefIdeal.τ).loc Cert.SmallUpdatesRefIdeal.main_arg12) = m ((c.tc : Thread Cert.SmallUpdatesRefIdeal.nD Cert.SmallUpdatesRefIdeal.τ).loc Cert.SmallUpdatesRefIdeal.main_arg12)
      ∧ r.2.mem ((c.tc : Thread Cert.SmallUpdatesRefIdeal.nD Cert.SmallUpdatesRefIdeal.τ).loc Cert.SmallUpdatesRefIdeal.main_arg13) = m ((c.tc : Thread Cert.SmallUpdatesRefIdeal.nD Cert.SmallUpdatesRefIdeal.τ).loc Cert.SmallUpdatesRefIdeal.main_arg13)
      ∧ r.2.mem ((c.tc : Thread Cert.SmallUpdatesRefIdeal.nD Cert.SmallUpdatesRefIdeal.τ).loc Cert.SmallUpdatesRefIdeal.main_arg14) = m ((c.tc : Thread Cert.SmallUpdatesRefIdeal.nD Cert.SmallUpdatesRefIdeal.τ).loc Cert.SmallUpdatesRefIdeal.main_arg14)
      ∧ r.2.mem ((c.tc : Thread Cert.SmallUpdatesRefIdeal.nD Cert.SmallUpdatesRefIdeal.τ).loc Cert.SmallUpdatesRefIdeal.main_arg15) = m ((c.tc : Thread Cert.SmallUpdatesRefIdeal.nD Cert.SmallUpdatesRefIdeal.τ).loc Cert.SmallUpdatesRefIdeal.main_arg15)
      ∧ r.2.mem ((c.tc : Thread Cert.SmallUpdatesRefIdeal.nD Cert.SmallUpdatesRefIdeal.τ).loc Cert.SmallUpdatesRefIdeal.main_arg16) = m ((c.tc : Thread Cert.SmallUpdatesRefIdeal.nD Cert.SmallUpdatesRefIdeal.τ).loc Cert.SmallUpdatesRefIdeal.main_arg16)
      ∧ r.2.mem ((c.tc : Thread Cert.SmallUpdatesRefIdeal.nD Cert.SmallUpdatesRefIdeal.τ).loc Cert.SmallUpdatesRefIdeal.main_arg17) = m ((c.tc : Thread Cert.SmallUpdatesRefIdeal.nD Cert.SmallUpdatesRefIdeal.τ).loc Cert.SmallUpdatesRefIdeal.main_arg17)
      ∧ r.2.mem ((c.tc : Thread Cert.SmallUpdatesRefIdeal.nD Cert.SmallUpdatesRefIdeal.τ).loc Cert.SmallUpdatesRefIdeal.main_arg18) = m ((c.tc : Thread Cert.SmallUpdatesRefIdeal.nD Cert.SmallUpdatesRefIdeal.τ).loc Cert.SmallUpdatesRefIdeal.main_arg18)
      ∧ r.2.mem ((c.tc : Thread Cert.SmallUpdatesRefIdeal.nD Cert.SmallUpdatesRefIdeal.τ).loc Cert.SmallUpdatesRefIdeal.main_arg19) = m ((c.tc : Thread Cert.SmallUpdatesRefIdeal.nD Cert.SmallUpdatesRefIdeal.τ).loc Cert.SmallUpdatesRefIdeal.main_arg19)
      ∧ r.2.mem ((c.tc : Thread Cert.SmallUpdatesRefIdeal.nD Cert.SmallUpdatesRefIdeal.τ).loc Cert.SmallUpdatesRefIdeal.main_arg20) = m ((c.tc : Thread Cert.SmallUpdatesRefIdeal.nD Cert.SmallUpdatesRefIdeal.τ).loc Cert.SmallUpdatesRefIdeal.main_arg20)
      ∧ r.2.mem ((c.tc : Thread Cert.SmallUpdatesRefIdeal.nD Cert.SmallUpdatesRefIdeal.τ).loc Cert.SmallUpdatesRefIdeal.main_arg21) = m ((c.tc : Thread Cert.SmallUpdatesRefIdeal.nD Cert.SmallUpdatesRefIdeal.τ).loc Cert.SmallUpdatesRefIdeal.main_arg21)
      ∧ r.2.mem ((c.tc : Thread Cert.SmallUpdatesRefIdeal.nD Cert.SmallUpdatesRefIdeal.τ).loc Cert.SmallUpdatesRefIdeal.main_arg22) = m ((c.tc : Thread Cert.SmallUpdatesRefIdeal.nD Cert.SmallUpdatesRefIdeal.τ).loc Cert.SmallUpdatesRefIdeal.main_arg22)
      ∧ r.2.mem ((c.tc : Thread Cert.SmallUpdatesRefIdeal.nD Cert.SmallUpdatesRefIdeal.τ).loc Cert.SmallUpdatesRefIdeal.main_arg23) = m ((c.tc : Thread Cert.SmallUpdatesRefIdeal.nD Cert.SmallUpdatesRefIdeal.τ).loc Cert.SmallUpdatesRefIdeal.main_arg23)
      ∧ r.2.mem ((c.tc : Thread Cert.SmallUpdatesRefIdeal.nD Cert.SmallUpdatesRefIdeal.τ).loc Cert.SmallUpdatesRefIdeal.main_arg24) = m ((c.tc : Thread Cert.SmallUpdatesRefIdeal.nD Cert.SmallUpdatesRefIdeal.τ).loc Cert.SmallUpdatesRefIdeal.main_arg24)
      ∧ r.2.mem ((c.tc : Thread Cert.SmallUpdatesRefIdeal.nD Cert.SmallUpdatesRefIdeal.τ).loc Cert.SmallUpdatesRefIdeal.main_arg25) = m ((c.tc : Thread Cert.SmallUpdatesRefIdeal.nD Cert.SmallUpdatesRefIdeal.τ).loc Cert.SmallUpdatesRefIdeal.main_arg25)
      ∧ r.2.mem ((c.tc : Thread Cert.SmallUpdatesRefIdeal.nD Cert.SmallUpdatesRefIdeal.τ).loc Cert.SmallUpdatesRefIdeal.main_arg26) = m ((c.tc : Thread Cert.SmallUpdatesRefIdeal.nD Cert.SmallUpdatesRefIdeal.τ).loc Cert.SmallUpdatesRefIdeal.main_arg26)
      ∧ r.2.mem ((c.tc : Thread Cert.SmallUpdatesRefIdeal.nD Cert.SmallUpdatesRefIdeal.τ).loc Cert.SmallUpdatesRefIdeal.main_arg27) = m ((c.tc : Thread Cert.SmallUpdatesRefIdeal.nD Cert.SmallUpdatesRefIdeal.τ).loc Cert.SmallUpdatesRefIdeal.main_arg27)
      ∧ r.2.mem ((c.tc : Thread Cert.SmallUpdatesRefIdeal.nD Cert.SmallUpdatesRefIdeal.τ).loc Cert.SmallUpdatesRefIdeal.main_arg28) = m ((c.tc : Thread Cert.SmallUpdatesRefIdeal.nD Cert.SmallUpdatesRefIdeal.τ).loc Cert.SmallUpdatesRefIdeal.main_arg28)
      ∧ r.2.mem ((c.tc : Thread Cert.SmallUpdatesRefIdeal.nD Cert.SmallUpdatesRefIdeal.τ).loc Cert.SmallUpdatesRefIdeal.main_arg29) = m ((c.tc : Thread Cert.SmallUpdatesRefIdeal.nD Cert.SmallUpdatesRefIdeal.τ).loc Cert.SmallUpdatesRefIdeal.main_arg29)
      ∧ r.2.mem ((c.tc : Thread Cert.SmallUpdatesRefIdeal.nD Cert.SmallUpdatesRefIdeal.τ).loc Cert.SmallUpdatesRefIdeal.main_arg30) = m ((c.tc : Thread Cert.SmallUpdatesRefIdeal.nD Cert.SmallUpdatesRefIdeal.τ).loc Cert.SmallUpdatesRefIdeal.main_arg30)
      ∧ r.2.mem ((c.tc : Thread Cert.SmallUpdatesRefIdeal.nD Cert.SmallUpdatesRefIdeal.τ).loc Cert.SmallUpdatesRefIdeal.main_arg31) = m ((c.tc : Thread Cert.SmallUpdatesRefIdeal.nD Cert.SmallUpdatesRefIdeal.τ).loc Cert.SmallUpdatesRefIdeal.main_arg31)
      ∧ r.2.mem ((c.tc : Thread Cert.SmallUpdatesRefIdeal.nD Cert.SmallUpdatesRefIdeal.τ).loc Cert.SmallUpdatesRefIdeal.main_arg32) = m ((c.tc : Thread Cert.SmallUpdatesRefIdeal.nD Cert.SmallUpdatesRefIdeal.τ).loc Cert.SmallUpdatesRefIdeal.main_arg32)
      ∧ r.2.mem ((c.tc : Thread Cert.SmallUpdatesRefIdeal.nD Cert.SmallUpdatesRefIdeal.τ).loc Cert.SmallUpdatesRefIdeal.main_arg33) = m ((c.tc : Thread Cert.SmallUpdatesRefIdeal.nD Cert.SmallUpdatesRefIdeal.τ).loc Cert.SmallUpdatesRefIdeal.main_arg33)
      ∧ r.2.mem ((c.tc : Thread Cert.SmallUpdatesRefIdeal.nD Cert.SmallUpdatesRefIdeal.τ).loc Cert.SmallUpdatesRefIdeal.main_arg34) = m ((c.tc : Thread Cert.SmallUpdatesRefIdeal.nD Cert.SmallUpdatesRefIdeal.τ).loc Cert.SmallUpdatesRefIdeal.main_arg34)
      ∧ r.2.mem ((c.tc : Thread Cert.SmallUpdatesRefIdeal.nD Cert.SmallUpdatesRefIdeal.τ).loc Cert.SmallUpdatesRefIdeal.main_arg35) = m ((c.tc : Thread Cert.SmallUpdatesRefIdeal.nD Cert.SmallUpdatesRefIdeal.τ).loc Cert.SmallUpdatesRefIdeal.main_arg35))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5))
      ∧ r.2.sem = fun _ => 0)

def quiescent_LnBwdRefIdeal_pre_finite_ln [hLnBwdRefIdeal : Cert.LnBwdRefIdeal.Facts] [hPre_finite_ln : Cert.Pre_finite_ln.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal_finite_ln m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4)
      ∧ r.2.mem ((c.tc : Thread Cert.LnBwdRefIdeal.nD Cert.LnBwdRefIdeal.τ).loc Cert.LnBwdRefIdeal.main_arg5) = m ((c.tc : Thread Cert.LnBwdRefIdeal.nD Cert.LnBwdRefIdeal.τ).loc Cert.LnBwdRefIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdIdeal_pre_finite_loss [hLossBwdIdeal : Cert.LossBwdIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_finite_loss m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def quiescent_LossBwdRefIdeal_pre_finite_loss [hLossBwdRefIdeal : Cert.LossBwdRefIdeal.Facts] [hPre_finite_loss : Cert.Pre_finite_loss.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal_finite_loss m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4))
      ∧ r.2.sem = fun _ => 0)

def preserves_Kernel_KernelIdeal : Prop :=
  True

def algebraic_KernelIdeal_ReferenceIdeal_pre_finite_cotangent [hKernelIdeal : Cert.KernelIdeal.Facts] [hReferenceIdeal : Cert.ReferenceIdeal.Facts] [hPre_finite_cotangent : Cert.Pre_finite_cotangent.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_cotangent m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v6) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateupDx_GateupDxIdeal : Prop :=
  True

def algebraic_GateupDxIdeal_GateupDxRefIdeal [hGateupDxIdeal : Cert.GateupDxIdeal.Facts] [hGateupDxRefIdeal : Cert.GateupDxRefIdeal.Facts] : Prop :=
  ∀ (m : (ℓ : Loc Cert.GateupDxIdeal.nD Cert.GateupDxIdeal.τ Cert.GateupDxIdeal.sig) → Buf (Elt Ideal) ℓ) (g : Dev Cert.GateupDxIdeal.nD → PrngReg)
    (m' : (ℓ : Loc Cert.GateupDxRefIdeal.nD Cert.GateupDxRefIdeal.τ Cert.GateupDxRefIdeal.sig) → Buf (Elt Ideal) ℓ) (g' : Dev Cert.GateupDxRefIdeal.nD → PrngReg), Pre_GateupDxIdeal m →
    (∀ c : Dev Cert.GateupDxIdeal.nD,
      m' ((c.tc : Thread Cert.GateupDxRefIdeal.nD Cert.GateupDxRefIdeal.τ).loc Cert.GateupDxRefIdeal.main_arg0) = m ((c.tc : Thread Cert.GateupDxIdeal.nD Cert.GateupDxIdeal.τ).loc Cert.GateupDxIdeal.main_arg0)
      ∧ m' ((c.tc : Thread Cert.GateupDxRefIdeal.nD Cert.GateupDxRefIdeal.τ).loc Cert.GateupDxRefIdeal.main_arg1) = m ((c.tc : Thread Cert.GateupDxIdeal.nD Cert.GateupDxIdeal.τ).loc Cert.GateupDxIdeal.main_arg1)
      ∧ m' ((c.tc : Thread Cert.GateupDxRefIdeal.nD Cert.GateupDxRefIdeal.τ).loc Cert.GateupDxRefIdeal.main_arg2) = m ((c.tc : Thread Cert.GateupDxIdeal.nD Cert.GateupDxIdeal.τ).loc Cert.GateupDxIdeal.main_arg2)
      ∧ m' ((c.tc : Thread Cert.GateupDxRefIdeal.nD Cert.GateupDxRefIdeal.τ).loc Cert.GateupDxRefIdeal.main_arg3) = m ((c.tc : Thread Cert.GateupDxIdeal.nD Cert.GateupDxIdeal.τ).loc Cert.GateupDxIdeal.main_arg3)) →
    ∃ (v0 : (c : Dev Cert.GateupDxIdeal.nD) → Buf (Elt Ideal) ((c.tc : Thread Cert.GateupDxIdeal.nD Cert.GateupDxIdeal.τ).loc Cert.GateupDxIdeal.main_v0)),
      θ_run (Cert.GateupDxIdeal.defs (F := Ideal)) (onTc (τ := Cert.GateupDxIdeal.τ) (Cert.GateupDxIdeal.main (F := Ideal))) ⟨m, fun _ => 0, g⟩ (fun r => ∀ c : Dev Cert.GateupDxIdeal.nD,
          r.2.mem ((c.tc : Thread Cert.GateupDxIdeal.nD Cert.GateupDxIdeal.τ).loc Cert.GateupDxIdeal.main_v0) = v0 c
          ∧ r.2.mem ((c.tc : Thread Cert.GateupDxIdeal.nD Cert.GateupDxIdeal.τ).loc Cert.GateupDxIdeal.main_arg0) = m ((c.tc : Thread Cert.GateupDxIdeal.nD Cert.GateupDxIdeal.τ).loc Cert.GateupDxIdeal.main_arg0)
          ∧ r.2.mem ((c.tc : Thread Cert.GateupDxIdeal.nD Cert.GateupDxIdeal.τ).loc Cert.GateupDxIdeal.main_arg1) = m ((c.tc : Thread Cert.GateupDxIdeal.nD Cert.GateupDxIdeal.τ).loc Cert.GateupDxIdeal.main_arg1)
          ∧ r.2.mem ((c.tc : Thread Cert.GateupDxIdeal.nD Cert.GateupDxIdeal.τ).loc Cert.GateupDxIdeal.main_arg2) = m ((c.tc : Thread Cert.GateupDxIdeal.nD Cert.GateupDxIdeal.τ).loc Cert.GateupDxIdeal.main_arg2)
          ∧ r.2.mem ((c.tc : Thread Cert.GateupDxIdeal.nD Cert.GateupDxIdeal.τ).loc Cert.GateupDxIdeal.main_arg3) = m ((c.tc : Thread Cert.GateupDxIdeal.nD Cert.GateupDxIdeal.τ).loc Cert.GateupDxIdeal.main_arg3))
      ∧ θ_run (Cert.GateupDxRefIdeal.defs (F := Ideal)) (onTc (τ := Cert.GateupDxRefIdeal.τ) (Cert.GateupDxRefIdeal.main (F := Ideal))) ⟨m', fun _ => 0, g'⟩ (fun r => ∀ c : Dev Cert.GateupDxRefIdeal.nD,
          r.2.mem ((c.tc : Thread Cert.GateupDxRefIdeal.nD Cert.GateupDxRefIdeal.τ).loc Cert.GateupDxRefIdeal.main_v13) = v0 c
          ∧ r.2.mem ((c.tc : Thread Cert.GateupDxRefIdeal.nD Cert.GateupDxRefIdeal.τ).loc Cert.GateupDxRefIdeal.main_arg0) = m' ((c.tc : Thread Cert.GateupDxRefIdeal.nD Cert.GateupDxRefIdeal.τ).loc Cert.GateupDxRefIdeal.main_arg0)
          ∧ r.2.mem ((c.tc : Thread Cert.GateupDxRefIdeal.nD Cert.GateupDxRefIdeal.τ).loc Cert.GateupDxRefIdeal.main_arg1) = m' ((c.tc : Thread Cert.GateupDxRefIdeal.nD Cert.GateupDxRefIdeal.τ).loc Cert.GateupDxRefIdeal.main_arg1)
          ∧ r.2.mem ((c.tc : Thread Cert.GateupDxRefIdeal.nD Cert.GateupDxRefIdeal.τ).loc Cert.GateupDxRefIdeal.main_arg2) = m' ((c.tc : Thread Cert.GateupDxRefIdeal.nD Cert.GateupDxRefIdeal.τ).loc Cert.GateupDxRefIdeal.main_arg2)
          ∧ r.2.mem ((c.tc : Thread Cert.GateupDxRefIdeal.nD Cert.GateupDxRefIdeal.τ).loc Cert.GateupDxRefIdeal.main_arg3) = m' ((c.tc : Thread Cert.GateupDxRefIdeal.nD Cert.GateupDxRefIdeal.τ).loc Cert.GateupDxRefIdeal.main_arg3))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v10) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_WoutDx_WoutDxIdeal : Prop :=
  True

def algebraic_WoutDxIdeal_WoutDxRefIdeal [hWoutDxIdeal : Cert.WoutDxIdeal.Facts] [hWoutDxRefIdeal : Cert.WoutDxRefIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg)
    (m' : (ℓ : Loc Cert.WoutDxRefIdeal.nD Cert.WoutDxRefIdeal.τ Cert.WoutDxRefIdeal.sig) → Buf (Elt Ideal) ℓ) (g' : Dev Cert.WoutDxRefIdeal.nD → PrngReg), Pre_WoutDxIdeal m →
    (∀ c : Dev Cert.WoutDxIdeal.nD,
      m' ((c.tc : Thread Cert.WoutDxRefIdeal.nD Cert.WoutDxRefIdeal.τ).loc Cert.WoutDxRefIdeal.main_arg0) = m ((c.tc : Thread Cert.WoutDxIdeal.nD Cert.WoutDxIdeal.τ).loc Cert.WoutDxIdeal.main_arg0)
      ∧ m' ((c.tc : Thread Cert.WoutDxRefIdeal.nD Cert.WoutDxRefIdeal.τ).loc Cert.WoutDxRefIdeal.main_arg1) = m ((c.tc : Thread Cert.WoutDxIdeal.nD Cert.WoutDxIdeal.τ).loc Cert.WoutDxIdeal.main_arg1)) →
    ∃ (v0 : (c : Dev Cert.WoutDxIdeal.nD) → Buf (Elt Ideal) ((c.tc : Thread Cert.WoutDxIdeal.nD Cert.WoutDxIdeal.τ).loc Cert.WoutDxIdeal.main_v0)),
      θ_run (Cert.WoutDxIdeal.defs (F := Ideal)) (onTc (τ := Cert.WoutDxIdeal.τ) (Cert.WoutDxIdeal.main (F := Ideal))) ⟨m, fun _ => 0, g⟩ (fun r => ∀ c : Dev Cert.WoutDxIdeal.nD,
          r.2.mem ((c.tc : Thread Cert.WoutDxIdeal.nD Cert.WoutDxIdeal.τ).loc Cert.WoutDxIdeal.main_v0) = v0 c
          ∧ r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
          ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ θ_run (Cert.WoutDxRefIdeal.defs (F := Ideal)) (onTc (τ := Cert.WoutDxRefIdeal.τ) (Cert.WoutDxRefIdeal.main (F := Ideal))) ⟨m', fun _ => 0, g'⟩ (fun r => ∀ c : Dev Cert.WoutDxRefIdeal.nD,
          r.2.mem ((c.tc : Thread Cert.WoutDxRefIdeal.nD Cert.WoutDxRefIdeal.τ).loc Cert.WoutDxRefIdeal.main_v5) = v0 c
          ∧ r.2.mem ((c.tc : Thread Cert.WoutDxRefIdeal.nD Cert.WoutDxRefIdeal.τ).loc Cert.WoutDxRefIdeal.main_arg0) = m' ((c.tc : Thread Cert.WoutDxRefIdeal.nD Cert.WoutDxRefIdeal.τ).loc Cert.WoutDxRefIdeal.main_arg0)
          ∧ r.2.mem ((c.tc : Thread Cert.WoutDxRefIdeal.nD Cert.WoutDxRefIdeal.τ).loc Cert.WoutDxRefIdeal.main_arg1) = m' ((c.tc : Thread Cert.WoutDxRefIdeal.nD Cert.WoutDxRefIdeal.τ).loc Cert.WoutDxRefIdeal.main_arg1))

def preserves_WoutDw_WoutDwIdeal : Prop :=
  True

def algebraic_WoutDwIdeal_WoutDwRefIdeal [hWoutDwIdeal : Cert.WoutDwIdeal.Facts] [hWoutDwRefIdeal : Cert.WoutDwRefIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg)
    (m' : (ℓ : Loc Cert.WoutDwRefIdeal.nD Cert.WoutDwRefIdeal.τ Cert.WoutDwRefIdeal.sig) → Buf (Elt Ideal) ℓ) (g' : Dev Cert.WoutDwRefIdeal.nD → PrngReg), Pre_WoutDwIdeal m →
    (∀ c : Dev Cert.WoutDwIdeal.nD,
      m' ((c.tc : Thread Cert.WoutDwRefIdeal.nD Cert.WoutDwRefIdeal.τ).loc Cert.WoutDwRefIdeal.main_arg0) = m ((c.tc : Thread Cert.WoutDwIdeal.nD Cert.WoutDwIdeal.τ).loc Cert.WoutDwIdeal.main_arg0)
      ∧ m' ((c.tc : Thread Cert.WoutDwRefIdeal.nD Cert.WoutDwRefIdeal.τ).loc Cert.WoutDwRefIdeal.main_arg1) = m ((c.tc : Thread Cert.WoutDwIdeal.nD Cert.WoutDwIdeal.τ).loc Cert.WoutDwIdeal.main_arg1)) →
    ∃ (v0 : (c : Dev Cert.WoutDwIdeal.nD) → Buf (Elt Ideal) ((c.tc : Thread Cert.WoutDwIdeal.nD Cert.WoutDwIdeal.τ).loc Cert.WoutDwIdeal.main_v0)),
      θ_run (Cert.WoutDwIdeal.defs (F := Ideal)) (onTc (τ := Cert.WoutDwIdeal.τ) (Cert.WoutDwIdeal.main (F := Ideal))) ⟨m, fun _ => 0, g⟩ (fun r => ∀ c : Dev Cert.WoutDwIdeal.nD,
          r.2.mem ((c.tc : Thread Cert.WoutDwIdeal.nD Cert.WoutDwIdeal.τ).loc Cert.WoutDwIdeal.main_v0) = v0 c
          ∧ r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
          ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ θ_run (Cert.WoutDwRefIdeal.defs (F := Ideal)) (onTc (τ := Cert.WoutDwRefIdeal.τ) (Cert.WoutDwRefIdeal.main (F := Ideal))) ⟨m', fun _ => 0, g'⟩ (fun r => ∀ c : Dev Cert.WoutDwRefIdeal.nD,
          r.2.mem ((c.tc : Thread Cert.WoutDwRefIdeal.nD Cert.WoutDwRefIdeal.τ).loc Cert.WoutDwRefIdeal.main_v8) = v0 c
          ∧ r.2.mem ((c.tc : Thread Cert.WoutDwRefIdeal.nD Cert.WoutDwRefIdeal.τ).loc Cert.WoutDwRefIdeal.main_arg0) = m' ((c.tc : Thread Cert.WoutDwRefIdeal.nD Cert.WoutDwRefIdeal.τ).loc Cert.WoutDwRefIdeal.main_arg0)
          ∧ r.2.mem ((c.tc : Thread Cert.WoutDwRefIdeal.nD Cert.WoutDwRefIdeal.τ).loc Cert.WoutDwRefIdeal.main_arg1) = m' ((c.tc : Thread Cert.WoutDwRefIdeal.nD Cert.WoutDwRefIdeal.τ).loc Cert.WoutDwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v6) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDxResidual_ProjDxResidualIdeal : Prop :=
  True

def algebraic_ProjDxResidualIdeal_ProjDxResidualRefIdeal [hProjDxResidualIdeal : Cert.ProjDxResidualIdeal.Facts] [hProjDxResidualRefIdeal : Cert.ProjDxResidualRefIdeal.Facts] : Prop :=
  ∀ (m : (ℓ : Loc Cert.ProjDxResidualIdeal.nD Cert.ProjDxResidualIdeal.τ Cert.ProjDxResidualIdeal.sig) → Buf (Elt Ideal) ℓ) (g : Dev Cert.ProjDxResidualIdeal.nD → PrngReg)
    (m' : (ℓ : Loc Cert.ProjDxResidualRefIdeal.nD Cert.ProjDxResidualRefIdeal.τ Cert.ProjDxResidualRefIdeal.sig) → Buf (Elt Ideal) ℓ) (g' : Dev Cert.ProjDxResidualRefIdeal.nD → PrngReg), Pre_ProjDxResidualIdeal m →
    (∀ c : Dev Cert.ProjDxResidualIdeal.nD,
      m' ((c.tc : Thread Cert.ProjDxResidualRefIdeal.nD Cert.ProjDxResidualRefIdeal.τ).loc Cert.ProjDxResidualRefIdeal.main_arg0) = m ((c.tc : Thread Cert.ProjDxResidualIdeal.nD Cert.ProjDxResidualIdeal.τ).loc Cert.ProjDxResidualIdeal.main_arg0)
      ∧ m' ((c.tc : Thread Cert.ProjDxResidualRefIdeal.nD Cert.ProjDxResidualRefIdeal.τ).loc Cert.ProjDxResidualRefIdeal.main_arg1) = m ((c.tc : Thread Cert.ProjDxResidualIdeal.nD Cert.ProjDxResidualIdeal.τ).loc Cert.ProjDxResidualIdeal.main_arg1)
      ∧ m' ((c.tc : Thread Cert.ProjDxResidualRefIdeal.nD Cert.ProjDxResidualRefIdeal.τ).loc Cert.ProjDxResidualRefIdeal.main_arg2) = m ((c.tc : Thread Cert.ProjDxResidualIdeal.nD Cert.ProjDxResidualIdeal.τ).loc Cert.ProjDxResidualIdeal.main_arg2)) →
    ∃ (v0 : (c : Dev Cert.ProjDxResidualIdeal.nD) → Buf (Elt Ideal) ((c.tc : Thread Cert.ProjDxResidualIdeal.nD Cert.ProjDxResidualIdeal.τ).loc Cert.ProjDxResidualIdeal.main_v0)),
      θ_run (Cert.ProjDxResidualIdeal.defs (F := Ideal)) (onTc (τ := Cert.ProjDxResidualIdeal.τ) (Cert.ProjDxResidualIdeal.main (F := Ideal))) ⟨m, fun _ => 0, g⟩ (fun r => ∀ c : Dev Cert.ProjDxResidualIdeal.nD,
          r.2.mem ((c.tc : Thread Cert.ProjDxResidualIdeal.nD Cert.ProjDxResidualIdeal.τ).loc Cert.ProjDxResidualIdeal.main_v0) = v0 c
          ∧ r.2.mem ((c.tc : Thread Cert.ProjDxResidualIdeal.nD Cert.ProjDxResidualIdeal.τ).loc Cert.ProjDxResidualIdeal.main_arg0) = m ((c.tc : Thread Cert.ProjDxResidualIdeal.nD Cert.ProjDxResidualIdeal.τ).loc Cert.ProjDxResidualIdeal.main_arg0)
          ∧ r.2.mem ((c.tc : Thread Cert.ProjDxResidualIdeal.nD Cert.ProjDxResidualIdeal.τ).loc Cert.ProjDxResidualIdeal.main_arg1) = m ((c.tc : Thread Cert.ProjDxResidualIdeal.nD Cert.ProjDxResidualIdeal.τ).loc Cert.ProjDxResidualIdeal.main_arg1)
          ∧ r.2.mem ((c.tc : Thread Cert.ProjDxResidualIdeal.nD Cert.ProjDxResidualIdeal.τ).loc Cert.ProjDxResidualIdeal.main_arg2) = m ((c.tc : Thread Cert.ProjDxResidualIdeal.nD Cert.ProjDxResidualIdeal.τ).loc Cert.ProjDxResidualIdeal.main_arg2))
      ∧ θ_run (Cert.ProjDxResidualRefIdeal.defs (F := Ideal)) (onTc (τ := Cert.ProjDxResidualRefIdeal.τ) (Cert.ProjDxResidualRefIdeal.main (F := Ideal))) ⟨m', fun _ => 0, g'⟩ (fun r => ∀ c : Dev Cert.ProjDxResidualRefIdeal.nD,
          r.2.mem ((c.tc : Thread Cert.ProjDxResidualRefIdeal.nD Cert.ProjDxResidualRefIdeal.τ).loc Cert.ProjDxResidualRefIdeal.main_v11) = v0 c
          ∧ r.2.mem ((c.tc : Thread Cert.ProjDxResidualRefIdeal.nD Cert.ProjDxResidualRefIdeal.τ).loc Cert.ProjDxResidualRefIdeal.main_arg0) = m' ((c.tc : Thread Cert.ProjDxResidualRefIdeal.nD Cert.ProjDxResidualRefIdeal.τ).loc Cert.ProjDxResidualRefIdeal.main_arg0)
          ∧ r.2.mem ((c.tc : Thread Cert.ProjDxResidualRefIdeal.nD Cert.ProjDxResidualRefIdeal.τ).loc Cert.ProjDxResidualRefIdeal.main_arg1) = m' ((c.tc : Thread Cert.ProjDxResidualRefIdeal.nD Cert.ProjDxResidualRefIdeal.τ).loc Cert.ProjDxResidualRefIdeal.main_arg1)
          ∧ r.2.mem ((c.tc : Thread Cert.ProjDxResidualRefIdeal.nD Cert.ProjDxResidualRefIdeal.τ).loc Cert.ProjDxResidualRefIdeal.main_arg2) = m' ((c.tc : Thread Cert.ProjDxResidualRefIdeal.nD Cert.ProjDxResidualRefIdeal.τ).loc Cert.ProjDxResidualRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v1)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v1) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v3) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_ConvGate_ConvGateIdeal : Prop :=
  True

def algebraic_ConvGateIdeal_ConvGateRefIdeal [hConvGateIdeal : Cert.ConvGateIdeal.Facts] [hConvGateRefIdeal : Cert.ConvGateRefIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)
      ∧ m' ((c.tc : Thread Cert.ConvGateRefIdeal.nD Cert.ConvGateRefIdeal.τ).loc Cert.ConvGateRefIdeal.main_arg3) = m ((c.tc : Thread Cert.ConvGateIdeal.nD Cert.ConvGateIdeal.τ).loc Cert.ConvGateIdeal.main_arg3)) →
    ∃ (v0 : (c : Dev Cert.ConvGateIdeal.nD) → Buf (Elt Ideal) ((c.tc : Thread Cert.ConvGateIdeal.nD Cert.ConvGateIdeal.τ).loc Cert.ConvGateIdeal.main_v1)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v1) = v0 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2)
          ∧ r.2.mem ((c.tc : Thread Cert.ConvGateIdeal.nD Cert.ConvGateIdeal.τ).loc Cert.ConvGateIdeal.main_arg3) = m ((c.tc : Thread Cert.ConvGateIdeal.nD Cert.ConvGateIdeal.τ).loc Cert.ConvGateIdeal.main_arg3))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v29) = v0 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2)
          ∧ r.2.mem ((c.tc : Thread Cert.ConvGateRefIdeal.nD Cert.ConvGateRefIdeal.τ).loc Cert.ConvGateRefIdeal.main_arg3) = m' ((c.tc : Thread Cert.ConvGateRefIdeal.nD Cert.ConvGateRefIdeal.τ).loc Cert.ConvGateRefIdeal.main_arg3))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v2_0)) (v1 : (c : Dev Cert.LnIdeal.nD) → Buf (Elt Ideal) ((c.tc : Thread Cert.LnIdeal.nD Cert.LnIdeal.τ).loc Cert.LnIdeal.main_v2_1)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v2_0) = v0 c
          ∧ r.2.mem ((c.tc : Thread Cert.LnIdeal.nD Cert.LnIdeal.τ).loc Cert.LnIdeal.main_v2_1) = v1 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v26) = v0 c
          ∧ r.2.mem ((c.tc : Thread Cert.LnRefIdeal.nD Cert.LnRefIdeal.τ).loc Cert.LnRefIdeal.main_v27) = v1 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_Window_WindowIdeal : Prop :=
  True

def algebraic_WindowIdeal_WindowRefIdeal [hWindowIdeal : Cert.WindowIdeal.Facts] [hWindowRefIdeal : Cert.WindowRefIdeal.Facts] : Prop :=
  ∀ (m : (ℓ : Loc Cert.WindowIdeal.nD Cert.WindowIdeal.τ Cert.WindowIdeal.sig) → Buf (Elt Ideal) ℓ) (g : Dev Cert.WindowIdeal.nD → PrngReg)
    (m' : (ℓ : Loc Cert.WindowRefIdeal.nD Cert.WindowRefIdeal.τ Cert.WindowRefIdeal.sig) → Buf (Elt Ideal) ℓ) (g' : Dev Cert.WindowRefIdeal.nD → PrngReg), Pre_WindowIdeal m →
    (∀ c : Dev Cert.WindowIdeal.nD,
      m' ((c.tc : Thread Cert.WindowRefIdeal.nD Cert.WindowRefIdeal.τ).loc Cert.WindowRefIdeal.main_arg0) = m ((c.tc : Thread Cert.WindowIdeal.nD Cert.WindowIdeal.τ).loc Cert.WindowIdeal.main_arg0)
      ∧ m' ((c.tc : Thread Cert.WindowRefIdeal.nD Cert.WindowRefIdeal.τ).loc Cert.WindowRefIdeal.main_arg1) = m ((c.tc : Thread Cert.WindowIdeal.nD Cert.WindowIdeal.τ).loc Cert.WindowIdeal.main_arg1)
      ∧ m' ((c.tc : Thread Cert.WindowRefIdeal.nD Cert.WindowRefIdeal.τ).loc Cert.WindowRefIdeal.main_arg2) = m ((c.tc : Thread Cert.WindowIdeal.nD Cert.WindowIdeal.τ).loc Cert.WindowIdeal.main_arg2)
      ∧ m' ((c.tc : Thread Cert.WindowRefIdeal.nD Cert.WindowRefIdeal.τ).loc Cert.WindowRefIdeal.main_arg3) = m ((c.tc : Thread Cert.WindowIdeal.nD Cert.WindowIdeal.τ).loc Cert.WindowIdeal.main_arg3)) →
    ∃ (v0 : (c : Dev Cert.WindowIdeal.nD) → Buf (Elt Ideal) ((c.tc : Thread Cert.WindowIdeal.nD Cert.WindowIdeal.τ).loc Cert.WindowIdeal.main_v28_0)) (v1 : (c : Dev Cert.WindowIdeal.nD) → Buf (Elt Ideal) ((c.tc : Thread Cert.WindowIdeal.nD Cert.WindowIdeal.τ).loc Cert.WindowIdeal.main_v28_1)) (v2 : (c : Dev Cert.WindowIdeal.nD) → Buf (Elt Ideal) ((c.tc : Thread Cert.WindowIdeal.nD Cert.WindowIdeal.τ).loc Cert.WindowIdeal.main_v28_2)),
      θ_run (Cert.WindowIdeal.defs (F := Ideal)) (onTc (τ := Cert.WindowIdeal.τ) (Cert.WindowIdeal.main (F := Ideal))) ⟨m, fun _ => 0, g⟩ (fun r => ∀ c : Dev Cert.WindowIdeal.nD,
          r.2.mem ((c.tc : Thread Cert.WindowIdeal.nD Cert.WindowIdeal.τ).loc Cert.WindowIdeal.main_v28_0) = v0 c
          ∧ r.2.mem ((c.tc : Thread Cert.WindowIdeal.nD Cert.WindowIdeal.τ).loc Cert.WindowIdeal.main_v28_1) = v1 c
          ∧ r.2.mem ((c.tc : Thread Cert.WindowIdeal.nD Cert.WindowIdeal.τ).loc Cert.WindowIdeal.main_v28_2) = v2 c
          ∧ r.2.mem ((c.tc : Thread Cert.WindowIdeal.nD Cert.WindowIdeal.τ).loc Cert.WindowIdeal.main_arg0) = m ((c.tc : Thread Cert.WindowIdeal.nD Cert.WindowIdeal.τ).loc Cert.WindowIdeal.main_arg0)
          ∧ r.2.mem ((c.tc : Thread Cert.WindowIdeal.nD Cert.WindowIdeal.τ).loc Cert.WindowIdeal.main_arg1) = m ((c.tc : Thread Cert.WindowIdeal.nD Cert.WindowIdeal.τ).loc Cert.WindowIdeal.main_arg1)
          ∧ r.2.mem ((c.tc : Thread Cert.WindowIdeal.nD Cert.WindowIdeal.τ).loc Cert.WindowIdeal.main_arg2) = m ((c.tc : Thread Cert.WindowIdeal.nD Cert.WindowIdeal.τ).loc Cert.WindowIdeal.main_arg2)
          ∧ r.2.mem ((c.tc : Thread Cert.WindowIdeal.nD Cert.WindowIdeal.τ).loc Cert.WindowIdeal.main_arg3) = m ((c.tc : Thread Cert.WindowIdeal.nD Cert.WindowIdeal.τ).loc Cert.WindowIdeal.main_arg3))
      ∧ θ_run (Cert.WindowRefIdeal.defs (F := Ideal)) (onTc (τ := Cert.WindowRefIdeal.τ) (Cert.WindowRefIdeal.main (F := Ideal))) ⟨m', fun _ => 0, g'⟩ (fun r => ∀ c : Dev Cert.WindowRefIdeal.nD,
          r.2.mem ((c.tc : Thread Cert.WindowRefIdeal.nD Cert.WindowRefIdeal.τ).loc Cert.WindowRefIdeal.main_v138) = v0 c
          ∧ r.2.mem ((c.tc : Thread Cert.WindowRefIdeal.nD Cert.WindowRefIdeal.τ).loc Cert.WindowRefIdeal.main_v141) = v1 c
          ∧ r.2.mem ((c.tc : Thread Cert.WindowRefIdeal.nD Cert.WindowRefIdeal.τ).loc Cert.WindowRefIdeal.main_v143) = v2 c
          ∧ r.2.mem ((c.tc : Thread Cert.WindowRefIdeal.nD Cert.WindowRefIdeal.τ).loc Cert.WindowRefIdeal.main_arg0) = m' ((c.tc : Thread Cert.WindowRefIdeal.nD Cert.WindowRefIdeal.τ).loc Cert.WindowRefIdeal.main_arg0)
          ∧ r.2.mem ((c.tc : Thread Cert.WindowRefIdeal.nD Cert.WindowRefIdeal.τ).loc Cert.WindowRefIdeal.main_arg1) = m' ((c.tc : Thread Cert.WindowRefIdeal.nD Cert.WindowRefIdeal.τ).loc Cert.WindowRefIdeal.main_arg1)
          ∧ r.2.mem ((c.tc : Thread Cert.WindowRefIdeal.nD Cert.WindowRefIdeal.τ).loc Cert.WindowRefIdeal.main_arg2) = m' ((c.tc : Thread Cert.WindowRefIdeal.nD Cert.WindowRefIdeal.τ).loc Cert.WindowRefIdeal.main_arg2)
          ∧ r.2.mem ((c.tc : Thread Cert.WindowRefIdeal.nD Cert.WindowRefIdeal.τ).loc Cert.WindowRefIdeal.main_arg3) = m' ((c.tc : Thread Cert.WindowRefIdeal.nD Cert.WindowRefIdeal.τ).loc Cert.WindowRefIdeal.main_arg3))

def preserves_Dilated_DilatedIdeal : Prop :=
  True

def algebraic_DilatedIdeal_DilatedRefIdeal [hDilatedIdeal : Cert.DilatedIdeal.Facts] [hDilatedRefIdeal : Cert.DilatedRefIdeal.Facts] : Prop :=
  ∀ (m : (ℓ : Loc Cert.DilatedIdeal.nD Cert.DilatedIdeal.τ Cert.DilatedIdeal.sig) → Buf (Elt Ideal) ℓ) (g : Dev Cert.DilatedIdeal.nD → PrngReg)
    (m' : (ℓ : Loc Cert.DilatedRefIdeal.nD Cert.DilatedRefIdeal.τ Cert.DilatedRefIdeal.sig) → Buf (Elt Ideal) ℓ) (g' : Dev Cert.DilatedRefIdeal.nD → PrngReg), Pre_DilatedIdeal m →
    (∀ c : Dev Cert.DilatedIdeal.nD,
      m' ((c.tc : Thread Cert.DilatedRefIdeal.nD Cert.DilatedRefIdeal.τ).loc Cert.DilatedRefIdeal.main_arg0) = m ((c.tc : Thread Cert.DilatedIdeal.nD Cert.DilatedIdeal.τ).loc Cert.DilatedIdeal.main_arg0)
      ∧ m' ((c.tc : Thread Cert.DilatedRefIdeal.nD Cert.DilatedRefIdeal.τ).loc Cert.DilatedRefIdeal.main_arg1) = m ((c.tc : Thread Cert.DilatedIdeal.nD Cert.DilatedIdeal.τ).loc Cert.DilatedIdeal.main_arg1)
      ∧ m' ((c.tc : Thread Cert.DilatedRefIdeal.nD Cert.DilatedRefIdeal.τ).loc Cert.DilatedRefIdeal.main_arg2) = m ((c.tc : Thread Cert.DilatedIdeal.nD Cert.DilatedIdeal.τ).loc Cert.DilatedIdeal.main_arg2)) →
    ∃ (v0 : (c : Dev Cert.DilatedIdeal.nD) → Buf (Elt Ideal) ((c.tc : Thread Cert.DilatedIdeal.nD Cert.DilatedIdeal.τ).loc Cert.DilatedIdeal.main_v26_0)) (v1 : (c : Dev Cert.DilatedIdeal.nD) → Buf (Elt Ideal) ((c.tc : Thread Cert.DilatedIdeal.nD Cert.DilatedIdeal.τ).loc Cert.DilatedIdeal.main_v26_1)) (v2 : (c : Dev Cert.DilatedIdeal.nD) → Buf (Elt Ideal) ((c.tc : Thread Cert.DilatedIdeal.nD Cert.DilatedIdeal.τ).loc Cert.DilatedIdeal.main_v26_2)),
      θ_run (Cert.DilatedIdeal.defs (F := Ideal)) (onTc (τ := Cert.DilatedIdeal.τ) (Cert.DilatedIdeal.main (F := Ideal))) ⟨m, fun _ => 0, g⟩ (fun r => ∀ c : Dev Cert.DilatedIdeal.nD,
          r.2.mem ((c.tc : Thread Cert.DilatedIdeal.nD Cert.DilatedIdeal.τ).loc Cert.DilatedIdeal.main_v26_0) = v0 c
          ∧ r.2.mem ((c.tc : Thread Cert.DilatedIdeal.nD Cert.DilatedIdeal.τ).loc Cert.DilatedIdeal.main_v26_1) = v1 c
          ∧ r.2.mem ((c.tc : Thread Cert.DilatedIdeal.nD Cert.DilatedIdeal.τ).loc Cert.DilatedIdeal.main_v26_2) = v2 c
          ∧ r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
          ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1)
          ∧ r.2.mem ((c.tc : Thread Cert.DilatedIdeal.nD Cert.DilatedIdeal.τ).loc Cert.DilatedIdeal.main_arg2) = m ((c.tc : Thread Cert.DilatedIdeal.nD Cert.DilatedIdeal.τ).loc Cert.DilatedIdeal.main_arg2))
      ∧ θ_run (Cert.DilatedRefIdeal.defs (F := Ideal)) (onTc (τ := Cert.DilatedRefIdeal.τ) (Cert.DilatedRefIdeal.main (F := Ideal))) ⟨m', fun _ => 0, g'⟩ (fun r => ∀ c : Dev Cert.DilatedRefIdeal.nD,
          r.2.mem ((c.tc : Thread Cert.DilatedRefIdeal.nD Cert.DilatedRefIdeal.τ).loc Cert.DilatedRefIdeal.main_v313) = v0 c
          ∧ r.2.mem ((c.tc : Thread Cert.DilatedRefIdeal.nD Cert.DilatedRefIdeal.τ).loc Cert.DilatedRefIdeal.main_v317) = v1 c
          ∧ r.2.mem ((c.tc : Thread Cert.DilatedRefIdeal.nD Cert.DilatedRefIdeal.τ).loc Cert.DilatedRefIdeal.main_v319) = v2 c
          ∧ r.2.mem ((c.tc : Thread Cert.DilatedRefIdeal.nD Cert.DilatedRefIdeal.τ).loc Cert.DilatedRefIdeal.main_arg0) = m' ((c.tc : Thread Cert.DilatedRefIdeal.nD Cert.DilatedRefIdeal.τ).loc Cert.DilatedRefIdeal.main_arg0)
          ∧ r.2.mem ((c.tc : Thread Cert.DilatedRefIdeal.nD Cert.DilatedRefIdeal.τ).loc Cert.DilatedRefIdeal.main_arg1) = m' ((c.tc : Thread Cert.DilatedRefIdeal.nD Cert.DilatedRefIdeal.τ).loc Cert.DilatedRefIdeal.main_arg1)
          ∧ r.2.mem ((c.tc : Thread Cert.DilatedRefIdeal.nD Cert.DilatedRefIdeal.τ).loc Cert.DilatedRefIdeal.main_arg2) = m' ((c.tc : Thread Cert.DilatedRefIdeal.nD Cert.DilatedRefIdeal.τ).loc Cert.DilatedRefIdeal.main_arg2))

def preserves_SmallGrads_SmallGradsIdeal : Prop :=
  True

def algebraic_SmallGradsIdeal_SmallGradsRefIdeal [hSmallGradsIdeal : Cert.SmallGradsIdeal.Facts] [hSmallGradsRefIdeal : Cert.SmallGradsRefIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.SmallGradsRefIdeal.nD Cert.SmallGradsRefIdeal.τ Cert.SmallGradsRefIdeal.sig) → Buf (Elt Ideal) ℓ) (g' : Dev Cert.SmallGradsRefIdeal.nD → PrngReg), Pre_SmallGradsIdeal m →
    (∀ c : Dev Cert.SmallGradsIdeal.nD,
      m' ((c.tc : Thread Cert.SmallGradsRefIdeal.nD Cert.SmallGradsRefIdeal.τ).loc Cert.SmallGradsRefIdeal.main_arg0) = m ((c.tc : Thread Cert.SmallGradsIdeal.nD Cert.SmallGradsIdeal.τ).loc Cert.SmallGradsIdeal.main_arg0)
      ∧ m' ((c.tc : Thread Cert.SmallGradsRefIdeal.nD Cert.SmallGradsRefIdeal.τ).loc Cert.SmallGradsRefIdeal.main_arg1) = m ((c.tc : Thread Cert.SmallGradsIdeal.nD Cert.SmallGradsIdeal.τ).loc Cert.SmallGradsIdeal.main_arg1)
      ∧ m' ((c.tc : Thread Cert.SmallGradsRefIdeal.nD Cert.SmallGradsRefIdeal.τ).loc Cert.SmallGradsRefIdeal.main_arg2) = m ((c.tc : Thread Cert.SmallGradsIdeal.nD Cert.SmallGradsIdeal.τ).loc Cert.SmallGradsIdeal.main_arg2)
      ∧ m' ((c.tc : Thread Cert.SmallGradsRefIdeal.nD Cert.SmallGradsRefIdeal.τ).loc Cert.SmallGradsRefIdeal.main_arg3) = m ((c.tc : Thread Cert.SmallGradsIdeal.nD Cert.SmallGradsIdeal.τ).loc Cert.SmallGradsIdeal.main_arg3)
      ∧ m' ((c.tc : Thread Cert.SmallGradsRefIdeal.nD Cert.SmallGradsRefIdeal.τ).loc Cert.SmallGradsRefIdeal.main_arg4) = m ((c.tc : Thread Cert.SmallGradsIdeal.nD Cert.SmallGradsIdeal.τ).loc Cert.SmallGradsIdeal.main_arg4)
      ∧ m' ((c.tc : Thread Cert.SmallGradsRefIdeal.nD Cert.SmallGradsRefIdeal.τ).loc Cert.SmallGradsRefIdeal.main_arg5) = m ((c.tc : Thread Cert.SmallGradsIdeal.nD Cert.SmallGradsIdeal.τ).loc Cert.SmallGradsIdeal.main_arg5)
      ∧ m' ((c.tc : Thread Cert.SmallGradsRefIdeal.nD Cert.SmallGradsRefIdeal.τ).loc Cert.SmallGradsRefIdeal.main_arg6) = m ((c.tc : Thread Cert.SmallGradsIdeal.nD Cert.SmallGradsIdeal.τ).loc Cert.SmallGradsIdeal.main_arg6)
      ∧ m' ((c.tc : Thread Cert.SmallGradsRefIdeal.nD Cert.SmallGradsRefIdeal.τ).loc Cert.SmallGradsRefIdeal.main_arg7) = m ((c.tc : Thread Cert.SmallGradsIdeal.nD Cert.SmallGradsIdeal.τ).loc Cert.SmallGradsIdeal.main_arg7)
      ∧ m' ((c.tc : Thread Cert.SmallGradsRefIdeal.nD Cert.SmallGradsRefIdeal.τ).loc Cert.SmallGradsRefIdeal.main_arg8) = m ((c.tc : Thread Cert.SmallGradsIdeal.nD Cert.SmallGradsIdeal.τ).loc Cert.SmallGradsIdeal.main_arg8)
      ∧ m' ((c.tc : Thread Cert.SmallGradsRefIdeal.nD Cert.SmallGradsRefIdeal.τ).loc Cert.SmallGradsRefIdeal.main_arg9) = m ((c.tc : Thread Cert.SmallGradsIdeal.nD Cert.SmallGradsIdeal.τ).loc Cert.SmallGradsIdeal.main_arg9)) →
    ∃ (v0 : (c : Dev Cert.SmallGradsIdeal.nD) → Buf (Elt Ideal) ((c.tc : Thread Cert.SmallGradsIdeal.nD Cert.SmallGradsIdeal.τ).loc Cert.SmallGradsIdeal.main_v15)) (v1 : (c : Dev Cert.SmallGradsIdeal.nD) → Buf (Elt Ideal) ((c.tc : Thread Cert.SmallGradsIdeal.nD Cert.SmallGradsIdeal.τ).loc Cert.SmallGradsIdeal.main_v17)) (v2 : (c : Dev Cert.SmallGradsIdeal.nD) → Buf (Elt Ideal) ((c.tc : Thread Cert.SmallGradsIdeal.nD Cert.SmallGradsIdeal.τ).loc Cert.SmallGradsIdeal.main_v19)) (v3 : (c : Dev Cert.SmallGradsIdeal.nD) → Buf (Elt Ideal) ((c.tc : Thread Cert.SmallGradsIdeal.nD Cert.SmallGradsIdeal.τ).loc Cert.SmallGradsIdeal.main_v21)) (v4 : (c : Dev Cert.SmallGradsIdeal.nD) → Buf (Elt Ideal) ((c.tc : Thread Cert.SmallGradsIdeal.nD Cert.SmallGradsIdeal.τ).loc Cert.SmallGradsIdeal.main_v23)) (v5 : (c : Dev Cert.SmallGradsIdeal.nD) → Buf (Elt Ideal) ((c.tc : Thread Cert.SmallGradsIdeal.nD Cert.SmallGradsIdeal.τ).loc Cert.SmallGradsIdeal.main_v25)) (v6 : (c : Dev Cert.SmallGradsIdeal.nD) → Buf (Elt Ideal) ((c.tc : Thread Cert.SmallGradsIdeal.nD Cert.SmallGradsIdeal.τ).loc Cert.SmallGradsIdeal.main_v27)) (v7 : (c : Dev Cert.SmallGradsIdeal.nD) → Buf (Elt Ideal) ((c.tc : Thread Cert.SmallGradsIdeal.nD Cert.SmallGradsIdeal.τ).loc Cert.SmallGradsIdeal.main_v29)) (v8 : (c : Dev Cert.SmallGradsIdeal.nD) → Buf (Elt Ideal) ((c.tc : Thread Cert.SmallGradsIdeal.nD Cert.SmallGradsIdeal.τ).loc Cert.SmallGradsIdeal.main_v31)) (v9 : (c : Dev Cert.SmallGradsIdeal.nD) → Buf (Elt Ideal) ((c.tc : Thread Cert.SmallGradsIdeal.nD Cert.SmallGradsIdeal.τ).loc Cert.SmallGradsIdeal.main_v34)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v15) = v0 c
          ∧ r.2.mem ((c.tc : Thread Cert.SmallGradsIdeal.nD Cert.SmallGradsIdeal.τ).loc Cert.SmallGradsIdeal.main_v17) = v1 c
          ∧ r.2.mem ((c.tc : Thread Cert.SmallGradsIdeal.nD Cert.SmallGradsIdeal.τ).loc Cert.SmallGradsIdeal.main_v19) = v2 c
          ∧ r.2.mem ((c.tc : Thread Cert.SmallGradsIdeal.nD Cert.SmallGradsIdeal.τ).loc Cert.SmallGradsIdeal.main_v21) = v3 c
          ∧ r.2.mem ((c.tc : Thread Cert.SmallGradsIdeal.nD Cert.SmallGradsIdeal.τ).loc Cert.SmallGradsIdeal.main_v23) = v4 c
          ∧ r.2.mem ((c.tc : Thread Cert.SmallGradsIdeal.nD Cert.SmallGradsIdeal.τ).loc Cert.SmallGradsIdeal.main_v25) = v5 c
          ∧ r.2.mem ((c.tc : Thread Cert.SmallGradsIdeal.nD Cert.SmallGradsIdeal.τ).loc Cert.SmallGradsIdeal.main_v27) = v6 c
          ∧ r.2.mem ((c.tc : Thread Cert.SmallGradsIdeal.nD Cert.SmallGradsIdeal.τ).loc Cert.SmallGradsIdeal.main_v29) = v7 c
          ∧ r.2.mem ((c.tc : Thread Cert.SmallGradsIdeal.nD Cert.SmallGradsIdeal.τ).loc Cert.SmallGradsIdeal.main_v31) = v8 c
          ∧ r.2.mem ((c.tc : Thread Cert.SmallGradsIdeal.nD Cert.SmallGradsIdeal.τ).loc Cert.SmallGradsIdeal.main_v34) = v9 c
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
          ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
          ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
          ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
          ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
          ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
          ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
          ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
          ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8)
          ∧ r.2.mem ((c.tc : Thread Cert.SmallGradsIdeal.nD Cert.SmallGradsIdeal.τ).loc Cert.SmallGradsIdeal.main_arg9) = m ((c.tc : Thread Cert.SmallGradsIdeal.nD Cert.SmallGradsIdeal.τ).loc Cert.SmallGradsIdeal.main_arg9))
      ∧ θ_run (Cert.SmallGradsRefIdeal.defs (F := Ideal)) (onTc (τ := Cert.SmallGradsRefIdeal.τ) (Cert.SmallGradsRefIdeal.main (F := Ideal))) ⟨m', fun _ => 0, g'⟩ (fun r => ∀ c : Dev Cert.SmallGradsRefIdeal.nD,
          r.2.mem ((c.tc : Thread Cert.SmallGradsRefIdeal.nD Cert.SmallGradsRefIdeal.τ).loc Cert.SmallGradsRefIdeal.main_v0) = v0 c
          ∧ r.2.mem ((c.tc : Thread Cert.SmallGradsRefIdeal.nD Cert.SmallGradsRefIdeal.τ).loc Cert.SmallGradsRefIdeal.main_v1) = v1 c
          ∧ r.2.mem ((c.tc : Thread Cert.SmallGradsRefIdeal.nD Cert.SmallGradsRefIdeal.τ).loc Cert.SmallGradsRefIdeal.main_v2) = v2 c
          ∧ r.2.mem ((c.tc : Thread Cert.SmallGradsRefIdeal.nD Cert.SmallGradsRefIdeal.τ).loc Cert.SmallGradsRefIdeal.main_v3) = v3 c
          ∧ r.2.mem ((c.tc : Thread Cert.SmallGradsRefIdeal.nD Cert.SmallGradsRefIdeal.τ).loc Cert.SmallGradsRefIdeal.main_v4) = v4 c
          ∧ r.2.mem ((c.tc : Thread Cert.SmallGradsRefIdeal.nD Cert.SmallGradsRefIdeal.τ).loc Cert.SmallGradsRefIdeal.main_v5) = v5 c
          ∧ r.2.mem ((c.tc : Thread Cert.SmallGradsRefIdeal.nD Cert.SmallGradsRefIdeal.τ).loc Cert.SmallGradsRefIdeal.main_v6) = v6 c
          ∧ r.2.mem ((c.tc : Thread Cert.SmallGradsRefIdeal.nD Cert.SmallGradsRefIdeal.τ).loc Cert.SmallGradsRefIdeal.main_v7) = v7 c
          ∧ r.2.mem ((c.tc : Thread Cert.SmallGradsRefIdeal.nD Cert.SmallGradsRefIdeal.τ).loc Cert.SmallGradsRefIdeal.main_v8) = v8 c
          ∧ r.2.mem ((c.tc : Thread Cert.SmallGradsRefIdeal.nD Cert.SmallGradsRefIdeal.τ).loc Cert.SmallGradsRefIdeal.main_v11) = v9 c
          ∧ r.2.mem ((c.tc : Thread Cert.SmallGradsRefIdeal.nD Cert.SmallGradsRefIdeal.τ).loc Cert.SmallGradsRefIdeal.main_arg0) = m' ((c.tc : Thread Cert.SmallGradsRefIdeal.nD Cert.SmallGradsRefIdeal.τ).loc Cert.SmallGradsRefIdeal.main_arg0)
          ∧ r.2.mem ((c.tc : Thread Cert.SmallGradsRefIdeal.nD Cert.SmallGradsRefIdeal.τ).loc Cert.SmallGradsRefIdeal.main_arg1) = m' ((c.tc : Thread Cert.SmallGradsRefIdeal.nD Cert.SmallGradsRefIdeal.τ).loc Cert.SmallGradsRefIdeal.main_arg1)
          ∧ r.2.mem ((c.tc : Thread Cert.SmallGradsRefIdeal.nD Cert.SmallGradsRefIdeal.τ).loc Cert.SmallGradsRefIdeal.main_arg2) = m' ((c.tc : Thread Cert.SmallGradsRefIdeal.nD Cert.SmallGradsRefIdeal.τ).loc Cert.SmallGradsRefIdeal.main_arg2)
          ∧ r.2.mem ((c.tc : Thread Cert.SmallGradsRefIdeal.nD Cert.SmallGradsRefIdeal.τ).loc Cert.SmallGradsRefIdeal.main_arg3) = m' ((c.tc : Thread Cert.SmallGradsRefIdeal.nD Cert.SmallGradsRefIdeal.τ).loc Cert.SmallGradsRefIdeal.main_arg3)
          ∧ r.2.mem ((c.tc : Thread Cert.SmallGradsRefIdeal.nD Cert.SmallGradsRefIdeal.τ).loc Cert.SmallGradsRefIdeal.main_arg4) = m' ((c.tc : Thread Cert.SmallGradsRefIdeal.nD Cert.SmallGradsRefIdeal.τ).loc Cert.SmallGradsRefIdeal.main_arg4)
          ∧ r.2.mem ((c.tc : Thread Cert.SmallGradsRefIdeal.nD Cert.SmallGradsRefIdeal.τ).loc Cert.SmallGradsRefIdeal.main_arg5) = m' ((c.tc : Thread Cert.SmallGradsRefIdeal.nD Cert.SmallGradsRefIdeal.τ).loc Cert.SmallGradsRefIdeal.main_arg5)
          ∧ r.2.mem ((c.tc : Thread Cert.SmallGradsRefIdeal.nD Cert.SmallGradsRefIdeal.τ).loc Cert.SmallGradsRefIdeal.main_arg6) = m' ((c.tc : Thread Cert.SmallGradsRefIdeal.nD Cert.SmallGradsRefIdeal.τ).loc Cert.SmallGradsRefIdeal.main_arg6)
          ∧ r.2.mem ((c.tc : Thread Cert.SmallGradsRefIdeal.nD Cert.SmallGradsRefIdeal.τ).loc Cert.SmallGradsRefIdeal.main_arg7) = m' ((c.tc : Thread Cert.SmallGradsRefIdeal.nD Cert.SmallGradsRefIdeal.τ).loc Cert.SmallGradsRefIdeal.main_arg7)
          ∧ r.2.mem ((c.tc : Thread Cert.SmallGradsRefIdeal.nD Cert.SmallGradsRefIdeal.τ).loc Cert.SmallGradsRefIdeal.main_arg8) = m' ((c.tc : Thread Cert.SmallGradsRefIdeal.nD Cert.SmallGradsRefIdeal.τ).loc Cert.SmallGradsRefIdeal.main_arg8)
          ∧ r.2.mem ((c.tc : Thread Cert.SmallGradsRefIdeal.nD Cert.SmallGradsRefIdeal.τ).loc Cert.SmallGradsRefIdeal.main_arg9) = m' ((c.tc : Thread Cert.SmallGradsRefIdeal.nD Cert.SmallGradsRefIdeal.τ).loc Cert.SmallGradsRefIdeal.main_arg9))

def preserves_SmallUpdates_SmallUpdatesIdeal : Prop :=
  True

def algebraic_SmallUpdatesIdeal_SmallUpdatesRefIdeal [hSmallUpdatesIdeal : Cert.SmallUpdatesIdeal.Facts] [hSmallUpdatesRefIdeal : Cert.SmallUpdatesRefIdeal.Facts] : Prop :=
  ∀ (m : (ℓ : Loc Cert.SmallUpdatesIdeal.nD Cert.SmallUpdatesIdeal.τ Cert.SmallUpdatesIdeal.sig) → Buf (Elt Ideal) ℓ) (g : Dev Cert.SmallUpdatesIdeal.nD → PrngReg)
    (m' : (ℓ : Loc Cert.SmallUpdatesRefIdeal.nD Cert.SmallUpdatesRefIdeal.τ Cert.SmallUpdatesRefIdeal.sig) → Buf (Elt Ideal) ℓ) (g' : Dev Cert.SmallUpdatesRefIdeal.nD → PrngReg), Pre_SmallUpdatesIdeal m →
    (∀ c : Dev Cert.SmallUpdatesIdeal.nD,
      m' ((c.tc : Thread Cert.SmallUpdatesRefIdeal.nD Cert.SmallUpdatesRefIdeal.τ).loc Cert.SmallUpdatesRefIdeal.main_arg0) = m ((c.tc : Thread Cert.SmallUpdatesIdeal.nD Cert.SmallUpdatesIdeal.τ).loc Cert.SmallUpdatesIdeal.main_arg0)
      ∧ m' ((c.tc : Thread Cert.SmallUpdatesRefIdeal.nD Cert.SmallUpdatesRefIdeal.τ).loc Cert.SmallUpdatesRefIdeal.main_arg1) = m ((c.tc : Thread Cert.SmallUpdatesIdeal.nD Cert.SmallUpdatesIdeal.τ).loc Cert.SmallUpdatesIdeal.main_arg1)
      ∧ m' ((c.tc : Thread Cert.SmallUpdatesRefIdeal.nD Cert.SmallUpdatesRefIdeal.τ).loc Cert.SmallUpdatesRefIdeal.main_arg2) = m ((c.tc : Thread Cert.SmallUpdatesIdeal.nD Cert.SmallUpdatesIdeal.τ).loc Cert.SmallUpdatesIdeal.main_arg2)
      ∧ m' ((c.tc : Thread Cert.SmallUpdatesRefIdeal.nD Cert.SmallUpdatesRefIdeal.τ).loc Cert.SmallUpdatesRefIdeal.main_arg3) = m ((c.tc : Thread Cert.SmallUpdatesIdeal.nD Cert.SmallUpdatesIdeal.τ).loc Cert.SmallUpdatesIdeal.main_arg3)
      ∧ m' ((c.tc : Thread Cert.SmallUpdatesRefIdeal.nD Cert.SmallUpdatesRefIdeal.τ).loc Cert.SmallUpdatesRefIdeal.main_arg4) = m ((c.tc : Thread Cert.SmallUpdatesIdeal.nD Cert.SmallUpdatesIdeal.τ).loc Cert.SmallUpdatesIdeal.main_arg4)
      ∧ m' ((c.tc : Thread Cert.SmallUpdatesRefIdeal.nD Cert.SmallUpdatesRefIdeal.τ).loc Cert.SmallUpdatesRefIdeal.main_arg5) = m ((c.tc : Thread Cert.SmallUpdatesIdeal.nD Cert.SmallUpdatesIdeal.τ).loc Cert.SmallUpdatesIdeal.main_arg5)
      ∧ m' ((c.tc : Thread Cert.SmallUpdatesRefIdeal.nD Cert.SmallUpdatesRefIdeal.τ).loc Cert.SmallUpdatesRefIdeal.main_arg6) = m ((c.tc : Thread Cert.SmallUpdatesIdeal.nD Cert.SmallUpdatesIdeal.τ).loc Cert.SmallUpdatesIdeal.main_arg6)
      ∧ m' ((c.tc : Thread Cert.SmallUpdatesRefIdeal.nD Cert.SmallUpdatesRefIdeal.τ).loc Cert.SmallUpdatesRefIdeal.main_arg7) = m ((c.tc : Thread Cert.SmallUpdatesIdeal.nD Cert.SmallUpdatesIdeal.τ).loc Cert.SmallUpdatesIdeal.main_arg7)
      ∧ m' ((c.tc : Thread Cert.SmallUpdatesRefIdeal.nD Cert.SmallUpdatesRefIdeal.τ).loc Cert.SmallUpdatesRefIdeal.main_arg8) = m ((c.tc : Thread Cert.SmallUpdatesIdeal.nD Cert.SmallUpdatesIdeal.τ).loc Cert.SmallUpdatesIdeal.main_arg8)
      ∧ m' ((c.tc : Thread Cert.SmallUpdatesRefIdeal.nD Cert.SmallUpdatesRefIdeal.τ).loc Cert.SmallUpdatesRefIdeal.main_arg9) = m ((c.tc : Thread Cert.SmallUpdatesIdeal.nD Cert.SmallUpdatesIdeal.τ).loc Cert.SmallUpdatesIdeal.main_arg9)
      ∧ m' ((c.tc : Thread Cert.SmallUpdatesRefIdeal.nD Cert.SmallUpdatesRefIdeal.τ).loc Cert.SmallUpdatesRefIdeal.main_arg10) = m ((c.tc : Thread Cert.SmallUpdatesIdeal.nD Cert.SmallUpdatesIdeal.τ).loc Cert.SmallUpdatesIdeal.main_arg10)
      ∧ m' ((c.tc : Thread Cert.SmallUpdatesRefIdeal.nD Cert.SmallUpdatesRefIdeal.τ).loc Cert.SmallUpdatesRefIdeal.main_arg11) = m ((c.tc : Thread Cert.SmallUpdatesIdeal.nD Cert.SmallUpdatesIdeal.τ).loc Cert.SmallUpdatesIdeal.main_arg11)
      ∧ m' ((c.tc : Thread Cert.SmallUpdatesRefIdeal.nD Cert.SmallUpdatesRefIdeal.τ).loc Cert.SmallUpdatesRefIdeal.main_arg12) = m ((c.tc : Thread Cert.SmallUpdatesIdeal.nD Cert.SmallUpdatesIdeal.τ).loc Cert.SmallUpdatesIdeal.main_arg12)
      ∧ m' ((c.tc : Thread Cert.SmallUpdatesRefIdeal.nD Cert.SmallUpdatesRefIdeal.τ).loc Cert.SmallUpdatesRefIdeal.main_arg13) = m ((c.tc : Thread Cert.SmallUpdatesIdeal.nD Cert.SmallUpdatesIdeal.τ).loc Cert.SmallUpdatesIdeal.main_arg13)
      ∧ m' ((c.tc : Thread Cert.SmallUpdatesRefIdeal.nD Cert.SmallUpdatesRefIdeal.τ).loc Cert.SmallUpdatesRefIdeal.main_arg14) = m ((c.tc : Thread Cert.SmallUpdatesIdeal.nD Cert.SmallUpdatesIdeal.τ).loc Cert.SmallUpdatesIdeal.main_arg14)
      ∧ m' ((c.tc : Thread Cert.SmallUpdatesRefIdeal.nD Cert.SmallUpdatesRefIdeal.τ).loc Cert.SmallUpdatesRefIdeal.main_arg15) = m ((c.tc : Thread Cert.SmallUpdatesIdeal.nD Cert.SmallUpdatesIdeal.τ).loc Cert.SmallUpdatesIdeal.main_arg15)
      ∧ m' ((c.tc : Thread Cert.SmallUpdatesRefIdeal.nD Cert.SmallUpdatesRefIdeal.τ).loc Cert.SmallUpdatesRefIdeal.main_arg16) = m ((c.tc : Thread Cert.SmallUpdatesIdeal.nD Cert.SmallUpdatesIdeal.τ).loc Cert.SmallUpdatesIdeal.main_arg16)
      ∧ m' ((c.tc : Thread Cert.SmallUpdatesRefIdeal.nD Cert.SmallUpdatesRefIdeal.τ).loc Cert.SmallUpdatesRefIdeal.main_arg17) = m ((c.tc : Thread Cert.SmallUpdatesIdeal.nD Cert.SmallUpdatesIdeal.τ).loc Cert.SmallUpdatesIdeal.main_arg17)
      ∧ m' ((c.tc : Thread Cert.SmallUpdatesRefIdeal.nD Cert.SmallUpdatesRefIdeal.τ).loc Cert.SmallUpdatesRefIdeal.main_arg18) = m ((c.tc : Thread Cert.SmallUpdatesIdeal.nD Cert.SmallUpdatesIdeal.τ).loc Cert.SmallUpdatesIdeal.main_arg18)
      ∧ m' ((c.tc : Thread Cert.SmallUpdatesRefIdeal.nD Cert.SmallUpdatesRefIdeal.τ).loc Cert.SmallUpdatesRefIdeal.main_arg19) = m ((c.tc : Thread Cert.SmallUpdatesIdeal.nD Cert.SmallUpdatesIdeal.τ).loc Cert.SmallUpdatesIdeal.main_arg19)
      ∧ m' ((c.tc : Thread Cert.SmallUpdatesRefIdeal.nD Cert.SmallUpdatesRefIdeal.τ).loc Cert.SmallUpdatesRefIdeal.main_arg20) = m ((c.tc : Thread Cert.SmallUpdatesIdeal.nD Cert.SmallUpdatesIdeal.τ).loc Cert.SmallUpdatesIdeal.main_arg20)
      ∧ m' ((c.tc : Thread Cert.SmallUpdatesRefIdeal.nD Cert.SmallUpdatesRefIdeal.τ).loc Cert.SmallUpdatesRefIdeal.main_arg21) = m ((c.tc : Thread Cert.SmallUpdatesIdeal.nD Cert.SmallUpdatesIdeal.τ).loc Cert.SmallUpdatesIdeal.main_arg21)
      ∧ m' ((c.tc : Thread Cert.SmallUpdatesRefIdeal.nD Cert.SmallUpdatesRefIdeal.τ).loc Cert.SmallUpdatesRefIdeal.main_arg22) = m ((c.tc : Thread Cert.SmallUpdatesIdeal.nD Cert.SmallUpdatesIdeal.τ).loc Cert.SmallUpdatesIdeal.main_arg22)
      ∧ m' ((c.tc : Thread Cert.SmallUpdatesRefIdeal.nD Cert.SmallUpdatesRefIdeal.τ).loc Cert.SmallUpdatesRefIdeal.main_arg23) = m ((c.tc : Thread Cert.SmallUpdatesIdeal.nD Cert.SmallUpdatesIdeal.τ).loc Cert.SmallUpdatesIdeal.main_arg23)
      ∧ m' ((c.tc : Thread Cert.SmallUpdatesRefIdeal.nD Cert.SmallUpdatesRefIdeal.τ).loc Cert.SmallUpdatesRefIdeal.main_arg24) = m ((c.tc : Thread Cert.SmallUpdatesIdeal.nD Cert.SmallUpdatesIdeal.τ).loc Cert.SmallUpdatesIdeal.main_arg24)
      ∧ m' ((c.tc : Thread Cert.SmallUpdatesRefIdeal.nD Cert.SmallUpdatesRefIdeal.τ).loc Cert.SmallUpdatesRefIdeal.main_arg25) = m ((c.tc : Thread Cert.SmallUpdatesIdeal.nD Cert.SmallUpdatesIdeal.τ).loc Cert.SmallUpdatesIdeal.main_arg25)
      ∧ m' ((c.tc : Thread Cert.SmallUpdatesRefIdeal.nD Cert.SmallUpdatesRefIdeal.τ).loc Cert.SmallUpdatesRefIdeal.main_arg26) = m ((c.tc : Thread Cert.SmallUpdatesIdeal.nD Cert.SmallUpdatesIdeal.τ).loc Cert.SmallUpdatesIdeal.main_arg26)
      ∧ m' ((c.tc : Thread Cert.SmallUpdatesRefIdeal.nD Cert.SmallUpdatesRefIdeal.τ).loc Cert.SmallUpdatesRefIdeal.main_arg27) = m ((c.tc : Thread Cert.SmallUpdatesIdeal.nD Cert.SmallUpdatesIdeal.τ).loc Cert.SmallUpdatesIdeal.main_arg27)
      ∧ m' ((c.tc : Thread Cert.SmallUpdatesRefIdeal.nD Cert.SmallUpdatesRefIdeal.τ).loc Cert.SmallUpdatesRefIdeal.main_arg28) = m ((c.tc : Thread Cert.SmallUpdatesIdeal.nD Cert.SmallUpdatesIdeal.τ).loc Cert.SmallUpdatesIdeal.main_arg28)
      ∧ m' ((c.tc : Thread Cert.SmallUpdatesRefIdeal.nD Cert.SmallUpdatesRefIdeal.τ).loc Cert.SmallUpdatesRefIdeal.main_arg29) = m ((c.tc : Thread Cert.SmallUpdatesIdeal.nD Cert.SmallUpdatesIdeal.τ).loc Cert.SmallUpdatesIdeal.main_arg29)
      ∧ m' ((c.tc : Thread Cert.SmallUpdatesRefIdeal.nD Cert.SmallUpdatesRefIdeal.τ).loc Cert.SmallUpdatesRefIdeal.main_arg30) = m ((c.tc : Thread Cert.SmallUpdatesIdeal.nD Cert.SmallUpdatesIdeal.τ).loc Cert.SmallUpdatesIdeal.main_arg30)
      ∧ m' ((c.tc : Thread Cert.SmallUpdatesRefIdeal.nD Cert.SmallUpdatesRefIdeal.τ).loc Cert.SmallUpdatesRefIdeal.main_arg31) = m ((c.tc : Thread Cert.SmallUpdatesIdeal.nD Cert.SmallUpdatesIdeal.τ).loc Cert.SmallUpdatesIdeal.main_arg31)
      ∧ m' ((c.tc : Thread Cert.SmallUpdatesRefIdeal.nD Cert.SmallUpdatesRefIdeal.τ).loc Cert.SmallUpdatesRefIdeal.main_arg32) = m ((c.tc : Thread Cert.SmallUpdatesIdeal.nD Cert.SmallUpdatesIdeal.τ).loc Cert.SmallUpdatesIdeal.main_arg32)
      ∧ m' ((c.tc : Thread Cert.SmallUpdatesRefIdeal.nD Cert.SmallUpdatesRefIdeal.τ).loc Cert.SmallUpdatesRefIdeal.main_arg33) = m ((c.tc : Thread Cert.SmallUpdatesIdeal.nD Cert.SmallUpdatesIdeal.τ).loc Cert.SmallUpdatesIdeal.main_arg33)
      ∧ m' ((c.tc : Thread Cert.SmallUpdatesRefIdeal.nD Cert.SmallUpdatesRefIdeal.τ).loc Cert.SmallUpdatesRefIdeal.main_arg34) = m ((c.tc : Thread Cert.SmallUpdatesIdeal.nD Cert.SmallUpdatesIdeal.τ).loc Cert.SmallUpdatesIdeal.main_arg34)
      ∧ m' ((c.tc : Thread Cert.SmallUpdatesRefIdeal.nD Cert.SmallUpdatesRefIdeal.τ).loc Cert.SmallUpdatesRefIdeal.main_arg35) = m ((c.tc : Thread Cert.SmallUpdatesIdeal.nD Cert.SmallUpdatesIdeal.τ).loc Cert.SmallUpdatesIdeal.main_arg35)) →
    ∃ (v0 : (c : Dev Cert.SmallUpdatesIdeal.nD) → Buf (Elt Ideal) ((c.tc : Thread Cert.SmallUpdatesIdeal.nD Cert.SmallUpdatesIdeal.τ).loc Cert.SmallUpdatesIdeal.main_v51)) (v1 : (c : Dev Cert.SmallUpdatesIdeal.nD) → Buf (Elt Ideal) ((c.tc : Thread Cert.SmallUpdatesIdeal.nD Cert.SmallUpdatesIdeal.τ).loc Cert.SmallUpdatesIdeal.main_v53)) (v2 : (c : Dev Cert.SmallUpdatesIdeal.nD) → Buf (Elt Ideal) ((c.tc : Thread Cert.SmallUpdatesIdeal.nD Cert.SmallUpdatesIdeal.τ).loc Cert.SmallUpdatesIdeal.main_v55)) (v3 : (c : Dev Cert.SmallUpdatesIdeal.nD) → Buf (Elt Ideal) ((c.tc : Thread Cert.SmallUpdatesIdeal.nD Cert.SmallUpdatesIdeal.τ).loc Cert.SmallUpdatesIdeal.main_v57)) (v4 : (c : Dev Cert.SmallUpdatesIdeal.nD) → Buf (Elt Ideal) ((c.tc : Thread Cert.SmallUpdatesIdeal.nD Cert.SmallUpdatesIdeal.τ).loc Cert.SmallUpdatesIdeal.main_v59)) (v5 : (c : Dev Cert.SmallUpdatesIdeal.nD) → Buf (Elt Ideal) ((c.tc : Thread Cert.SmallUpdatesIdeal.nD Cert.SmallUpdatesIdeal.τ).loc Cert.SmallUpdatesIdeal.main_v61)) (v6 : (c : Dev Cert.SmallUpdatesIdeal.nD) → Buf (Elt Ideal) ((c.tc : Thread Cert.SmallUpdatesIdeal.nD Cert.SmallUpdatesIdeal.τ).loc Cert.SmallUpdatesIdeal.main_v63)) (v7 : (c : Dev Cert.SmallUpdatesIdeal.nD) → Buf (Elt Ideal) ((c.tc : Thread Cert.SmallUpdatesIdeal.nD Cert.SmallUpdatesIdeal.τ).loc Cert.SmallUpdatesIdeal.main_v65)) (v8 : (c : Dev Cert.SmallUpdatesIdeal.nD) → Buf (Elt Ideal) ((c.tc : Thread Cert.SmallUpdatesIdeal.nD Cert.SmallUpdatesIdeal.τ).loc Cert.SmallUpdatesIdeal.main_v67)) (v9 : (c : Dev Cert.SmallUpdatesIdeal.nD) → Buf (Elt Ideal) ((c.tc : Thread Cert.SmallUpdatesIdeal.nD Cert.SmallUpdatesIdeal.τ).loc Cert.SmallUpdatesIdeal.main_v70)) (v10 : (c : Dev Cert.SmallUpdatesIdeal.nD) → Buf (Elt Ideal) ((c.tc : Thread Cert.SmallUpdatesIdeal.nD Cert.SmallUpdatesIdeal.τ).loc Cert.SmallUpdatesIdeal.main_v72)) (v11 : (c : Dev Cert.SmallUpdatesIdeal.nD) → Buf (Elt Ideal) ((c.tc : Thread Cert.SmallUpdatesIdeal.nD Cert.SmallUpdatesIdeal.τ).loc Cert.SmallUpdatesIdeal.main_v74)) (v12 : (c : Dev Cert.SmallUpdatesIdeal.nD) → Buf (Elt Ideal) ((c.tc : Thread Cert.SmallUpdatesIdeal.nD Cert.SmallUpdatesIdeal.τ).loc Cert.SmallUpdatesIdeal.main_v76)) (v13 : (c : Dev Cert.SmallUpdatesIdeal.nD) → Buf (Elt Ideal) ((c.tc : Thread Cert.SmallUpdatesIdeal.nD Cert.SmallUpdatesIdeal.τ).loc Cert.SmallUpdatesIdeal.main_v78)) (v14 : (c : Dev Cert.SmallUpdatesIdeal.nD) → Buf (Elt Ideal) ((c.tc : Thread Cert.SmallUpdatesIdeal.nD Cert.SmallUpdatesIdeal.τ).loc Cert.SmallUpdatesIdeal.main_v80)) (v15 : (c : Dev Cert.SmallUpdatesIdeal.nD) → Buf (Elt Ideal) ((c.tc : Thread Cert.SmallUpdatesIdeal.nD Cert.SmallUpdatesIdeal.τ).loc Cert.SmallUpdatesIdeal.main_v82)) (v16 : (c : Dev Cert.SmallUpdatesIdeal.nD) → Buf (Elt Ideal) ((c.tc : Thread Cert.SmallUpdatesIdeal.nD Cert.SmallUpdatesIdeal.τ).loc Cert.SmallUpdatesIdeal.main_v84)) (v17 : (c : Dev Cert.SmallUpdatesIdeal.nD) → Buf (Elt Ideal) ((c.tc : Thread Cert.SmallUpdatesIdeal.nD Cert.SmallUpdatesIdeal.τ).loc Cert.SmallUpdatesIdeal.main_v86)) (v18 : (c : Dev Cert.SmallUpdatesIdeal.nD) → Buf (Elt Ideal) ((c.tc : Thread Cert.SmallUpdatesIdeal.nD Cert.SmallUpdatesIdeal.τ).loc Cert.SmallUpdatesIdeal.main_v89)) (v19 : (c : Dev Cert.SmallUpdatesIdeal.nD) → Buf (Elt Ideal) ((c.tc : Thread Cert.SmallUpdatesIdeal.nD Cert.SmallUpdatesIdeal.τ).loc Cert.SmallUpdatesIdeal.main_v91)) (v20 : (c : Dev Cert.SmallUpdatesIdeal.nD) → Buf (Elt Ideal) ((c.tc : Thread Cert.SmallUpdatesIdeal.nD Cert.SmallUpdatesIdeal.τ).loc Cert.SmallUpdatesIdeal.main_v93)) (v21 : (c : Dev Cert.SmallUpdatesIdeal.nD) → Buf (Elt Ideal) ((c.tc : Thread Cert.SmallUpdatesIdeal.nD Cert.SmallUpdatesIdeal.τ).loc Cert.SmallUpdatesIdeal.main_v95)) (v22 : (c : Dev Cert.SmallUpdatesIdeal.nD) → Buf (Elt Ideal) ((c.tc : Thread Cert.SmallUpdatesIdeal.nD Cert.SmallUpdatesIdeal.τ).loc Cert.SmallUpdatesIdeal.main_v97)) (v23 : (c : Dev Cert.SmallUpdatesIdeal.nD) → Buf (Elt Ideal) ((c.tc : Thread Cert.SmallUpdatesIdeal.nD Cert.SmallUpdatesIdeal.τ).loc Cert.SmallUpdatesIdeal.main_v99)) (v24 : (c : Dev Cert.SmallUpdatesIdeal.nD) → Buf (Elt Ideal) ((c.tc : Thread Cert.SmallUpdatesIdeal.nD Cert.SmallUpdatesIdeal.τ).loc Cert.SmallUpdatesIdeal.main_v101)) (v25 : (c : Dev Cert.SmallUpdatesIdeal.nD) → Buf (Elt Ideal) ((c.tc : Thread Cert.SmallUpdatesIdeal.nD Cert.SmallUpdatesIdeal.τ).loc Cert.SmallUpdatesIdeal.main_v103)) (v26 : (c : Dev Cert.SmallUpdatesIdeal.nD) → Buf (Elt Ideal) ((c.tc : Thread Cert.SmallUpdatesIdeal.nD Cert.SmallUpdatesIdeal.τ).loc Cert.SmallUpdatesIdeal.main_v105)),
      θ_run (Cert.SmallUpdatesIdeal.defs (F := Ideal)) (onTc (τ := Cert.SmallUpdatesIdeal.τ) (Cert.SmallUpdatesIdeal.main (F := Ideal))) ⟨m, fun _ => 0, g⟩ (fun r => ∀ c : Dev Cert.SmallUpdatesIdeal.nD,
          r.2.mem ((c.tc : Thread Cert.SmallUpdatesIdeal.nD Cert.SmallUpdatesIdeal.τ).loc Cert.SmallUpdatesIdeal.main_v51) = v0 c
          ∧ r.2.mem ((c.tc : Thread Cert.SmallUpdatesIdeal.nD Cert.SmallUpdatesIdeal.τ).loc Cert.SmallUpdatesIdeal.main_v53) = v1 c
          ∧ r.2.mem ((c.tc : Thread Cert.SmallUpdatesIdeal.nD Cert.SmallUpdatesIdeal.τ).loc Cert.SmallUpdatesIdeal.main_v55) = v2 c
          ∧ r.2.mem ((c.tc : Thread Cert.SmallUpdatesIdeal.nD Cert.SmallUpdatesIdeal.τ).loc Cert.SmallUpdatesIdeal.main_v57) = v3 c
          ∧ r.2.mem ((c.tc : Thread Cert.SmallUpdatesIdeal.nD Cert.SmallUpdatesIdeal.τ).loc Cert.SmallUpdatesIdeal.main_v59) = v4 c
          ∧ r.2.mem ((c.tc : Thread Cert.SmallUpdatesIdeal.nD Cert.SmallUpdatesIdeal.τ).loc Cert.SmallUpdatesIdeal.main_v61) = v5 c
          ∧ r.2.mem ((c.tc : Thread Cert.SmallUpdatesIdeal.nD Cert.SmallUpdatesIdeal.τ).loc Cert.SmallUpdatesIdeal.main_v63) = v6 c
          ∧ r.2.mem ((c.tc : Thread Cert.SmallUpdatesIdeal.nD Cert.SmallUpdatesIdeal.τ).loc Cert.SmallUpdatesIdeal.main_v65) = v7 c
          ∧ r.2.mem ((c.tc : Thread Cert.SmallUpdatesIdeal.nD Cert.SmallUpdatesIdeal.τ).loc Cert.SmallUpdatesIdeal.main_v67) = v8 c
          ∧ r.2.mem ((c.tc : Thread Cert.SmallUpdatesIdeal.nD Cert.SmallUpdatesIdeal.τ).loc Cert.SmallUpdatesIdeal.main_v70) = v9 c
          ∧ r.2.mem ((c.tc : Thread Cert.SmallUpdatesIdeal.nD Cert.SmallUpdatesIdeal.τ).loc Cert.SmallUpdatesIdeal.main_v72) = v10 c
          ∧ r.2.mem ((c.tc : Thread Cert.SmallUpdatesIdeal.nD Cert.SmallUpdatesIdeal.τ).loc Cert.SmallUpdatesIdeal.main_v74) = v11 c
          ∧ r.2.mem ((c.tc : Thread Cert.SmallUpdatesIdeal.nD Cert.SmallUpdatesIdeal.τ).loc Cert.SmallUpdatesIdeal.main_v76) = v12 c
          ∧ r.2.mem ((c.tc : Thread Cert.SmallUpdatesIdeal.nD Cert.SmallUpdatesIdeal.τ).loc Cert.SmallUpdatesIdeal.main_v78) = v13 c
          ∧ r.2.mem ((c.tc : Thread Cert.SmallUpdatesIdeal.nD Cert.SmallUpdatesIdeal.τ).loc Cert.SmallUpdatesIdeal.main_v80) = v14 c
          ∧ r.2.mem ((c.tc : Thread Cert.SmallUpdatesIdeal.nD Cert.SmallUpdatesIdeal.τ).loc Cert.SmallUpdatesIdeal.main_v82) = v15 c
          ∧ r.2.mem ((c.tc : Thread Cert.SmallUpdatesIdeal.nD Cert.SmallUpdatesIdeal.τ).loc Cert.SmallUpdatesIdeal.main_v84) = v16 c
          ∧ r.2.mem ((c.tc : Thread Cert.SmallUpdatesIdeal.nD Cert.SmallUpdatesIdeal.τ).loc Cert.SmallUpdatesIdeal.main_v86) = v17 c
          ∧ r.2.mem ((c.tc : Thread Cert.SmallUpdatesIdeal.nD Cert.SmallUpdatesIdeal.τ).loc Cert.SmallUpdatesIdeal.main_v89) = v18 c
          ∧ r.2.mem ((c.tc : Thread Cert.SmallUpdatesIdeal.nD Cert.SmallUpdatesIdeal.τ).loc Cert.SmallUpdatesIdeal.main_v91) = v19 c
          ∧ r.2.mem ((c.tc : Thread Cert.SmallUpdatesIdeal.nD Cert.SmallUpdatesIdeal.τ).loc Cert.SmallUpdatesIdeal.main_v93) = v20 c
          ∧ r.2.mem ((c.tc : Thread Cert.SmallUpdatesIdeal.nD Cert.SmallUpdatesIdeal.τ).loc Cert.SmallUpdatesIdeal.main_v95) = v21 c
          ∧ r.2.mem ((c.tc : Thread Cert.SmallUpdatesIdeal.nD Cert.SmallUpdatesIdeal.τ).loc Cert.SmallUpdatesIdeal.main_v97) = v22 c
          ∧ r.2.mem ((c.tc : Thread Cert.SmallUpdatesIdeal.nD Cert.SmallUpdatesIdeal.τ).loc Cert.SmallUpdatesIdeal.main_v99) = v23 c
          ∧ r.2.mem ((c.tc : Thread Cert.SmallUpdatesIdeal.nD Cert.SmallUpdatesIdeal.τ).loc Cert.SmallUpdatesIdeal.main_v101) = v24 c
          ∧ r.2.mem ((c.tc : Thread Cert.SmallUpdatesIdeal.nD Cert.SmallUpdatesIdeal.τ).loc Cert.SmallUpdatesIdeal.main_v103) = v25 c
          ∧ r.2.mem ((c.tc : Thread Cert.SmallUpdatesIdeal.nD Cert.SmallUpdatesIdeal.τ).loc Cert.SmallUpdatesIdeal.main_v105) = v26 c
          ∧ r.2.mem ((c.tc : Thread Cert.SmallUpdatesIdeal.nD Cert.SmallUpdatesIdeal.τ).loc Cert.SmallUpdatesIdeal.main_arg0) = m ((c.tc : Thread Cert.SmallUpdatesIdeal.nD Cert.SmallUpdatesIdeal.τ).loc Cert.SmallUpdatesIdeal.main_arg0)
          ∧ r.2.mem ((c.tc : Thread Cert.SmallUpdatesIdeal.nD Cert.SmallUpdatesIdeal.τ).loc Cert.SmallUpdatesIdeal.main_arg1) = m ((c.tc : Thread Cert.SmallUpdatesIdeal.nD Cert.SmallUpdatesIdeal.τ).loc Cert.SmallUpdatesIdeal.main_arg1)
          ∧ r.2.mem ((c.tc : Thread Cert.SmallUpdatesIdeal.nD Cert.SmallUpdatesIdeal.τ).loc Cert.SmallUpdatesIdeal.main_arg2) = m ((c.tc : Thread Cert.SmallUpdatesIdeal.nD Cert.SmallUpdatesIdeal.τ).loc Cert.SmallUpdatesIdeal.main_arg2)
          ∧ r.2.mem ((c.tc : Thread Cert.SmallUpdatesIdeal.nD Cert.SmallUpdatesIdeal.τ).loc Cert.SmallUpdatesIdeal.main_arg3) = m ((c.tc : Thread Cert.SmallUpdatesIdeal.nD Cert.SmallUpdatesIdeal.τ).loc Cert.SmallUpdatesIdeal.main_arg3)
          ∧ r.2.mem ((c.tc : Thread Cert.SmallUpdatesIdeal.nD Cert.SmallUpdatesIdeal.τ).loc Cert.SmallUpdatesIdeal.main_arg4) = m ((c.tc : Thread Cert.SmallUpdatesIdeal.nD Cert.SmallUpdatesIdeal.τ).loc Cert.SmallUpdatesIdeal.main_arg4)
          ∧ r.2.mem ((c.tc : Thread Cert.SmallUpdatesIdeal.nD Cert.SmallUpdatesIdeal.τ).loc Cert.SmallUpdatesIdeal.main_arg5) = m ((c.tc : Thread Cert.SmallUpdatesIdeal.nD Cert.SmallUpdatesIdeal.τ).loc Cert.SmallUpdatesIdeal.main_arg5)
          ∧ r.2.mem ((c.tc : Thread Cert.SmallUpdatesIdeal.nD Cert.SmallUpdatesIdeal.τ).loc Cert.SmallUpdatesIdeal.main_arg6) = m ((c.tc : Thread Cert.SmallUpdatesIdeal.nD Cert.SmallUpdatesIdeal.τ).loc Cert.SmallUpdatesIdeal.main_arg6)
          ∧ r.2.mem ((c.tc : Thread Cert.SmallUpdatesIdeal.nD Cert.SmallUpdatesIdeal.τ).loc Cert.SmallUpdatesIdeal.main_arg7) = m ((c.tc : Thread Cert.SmallUpdatesIdeal.nD Cert.SmallUpdatesIdeal.τ).loc Cert.SmallUpdatesIdeal.main_arg7)
          ∧ r.2.mem ((c.tc : Thread Cert.SmallUpdatesIdeal.nD Cert.SmallUpdatesIdeal.τ).loc Cert.SmallUpdatesIdeal.main_arg8) = m ((c.tc : Thread Cert.SmallUpdatesIdeal.nD Cert.SmallUpdatesIdeal.τ).loc Cert.SmallUpdatesIdeal.main_arg8)
          ∧ r.2.mem ((c.tc : Thread Cert.SmallUpdatesIdeal.nD Cert.SmallUpdatesIdeal.τ).loc Cert.SmallUpdatesIdeal.main_arg9) = m ((c.tc : Thread Cert.SmallUpdatesIdeal.nD Cert.SmallUpdatesIdeal.τ).loc Cert.SmallUpdatesIdeal.main_arg9)
          ∧ r.2.mem ((c.tc : Thread Cert.SmallUpdatesIdeal.nD Cert.SmallUpdatesIdeal.τ).loc Cert.SmallUpdatesIdeal.main_arg10) = m ((c.tc : Thread Cert.SmallUpdatesIdeal.nD Cert.SmallUpdatesIdeal.τ).loc Cert.SmallUpdatesIdeal.main_arg10)
          ∧ r.2.mem ((c.tc : Thread Cert.SmallUpdatesIdeal.nD Cert.SmallUpdatesIdeal.τ).loc Cert.SmallUpdatesIdeal.main_arg11) = m ((c.tc : Thread Cert.SmallUpdatesIdeal.nD Cert.SmallUpdatesIdeal.τ).loc Cert.SmallUpdatesIdeal.main_arg11)
          ∧ r.2.mem ((c.tc : Thread Cert.SmallUpdatesIdeal.nD Cert.SmallUpdatesIdeal.τ).loc Cert.SmallUpdatesIdeal.main_arg12) = m ((c.tc : Thread Cert.SmallUpdatesIdeal.nD Cert.SmallUpdatesIdeal.τ).loc Cert.SmallUpdatesIdeal.main_arg12)
          ∧ r.2.mem ((c.tc : Thread Cert.SmallUpdatesIdeal.nD Cert.SmallUpdatesIdeal.τ).loc Cert.SmallUpdatesIdeal.main_arg13) = m ((c.tc : Thread Cert.SmallUpdatesIdeal.nD Cert.SmallUpdatesIdeal.τ).loc Cert.SmallUpdatesIdeal.main_arg13)
          ∧ r.2.mem ((c.tc : Thread Cert.SmallUpdatesIdeal.nD Cert.SmallUpdatesIdeal.τ).loc Cert.SmallUpdatesIdeal.main_arg14) = m ((c.tc : Thread Cert.SmallUpdatesIdeal.nD Cert.SmallUpdatesIdeal.τ).loc Cert.SmallUpdatesIdeal.main_arg14)
          ∧ r.2.mem ((c.tc : Thread Cert.SmallUpdatesIdeal.nD Cert.SmallUpdatesIdeal.τ).loc Cert.SmallUpdatesIdeal.main_arg15) = m ((c.tc : Thread Cert.SmallUpdatesIdeal.nD Cert.SmallUpdatesIdeal.τ).loc Cert.SmallUpdatesIdeal.main_arg15)
          ∧ r.2.mem ((c.tc : Thread Cert.SmallUpdatesIdeal.nD Cert.SmallUpdatesIdeal.τ).loc Cert.SmallUpdatesIdeal.main_arg16) = m ((c.tc : Thread Cert.SmallUpdatesIdeal.nD Cert.SmallUpdatesIdeal.τ).loc Cert.SmallUpdatesIdeal.main_arg16)
          ∧ r.2.mem ((c.tc : Thread Cert.SmallUpdatesIdeal.nD Cert.SmallUpdatesIdeal.τ).loc Cert.SmallUpdatesIdeal.main_arg17) = m ((c.tc : Thread Cert.SmallUpdatesIdeal.nD Cert.SmallUpdatesIdeal.τ).loc Cert.SmallUpdatesIdeal.main_arg17)
          ∧ r.2.mem ((c.tc : Thread Cert.SmallUpdatesIdeal.nD Cert.SmallUpdatesIdeal.τ).loc Cert.SmallUpdatesIdeal.main_arg18) = m ((c.tc : Thread Cert.SmallUpdatesIdeal.nD Cert.SmallUpdatesIdeal.τ).loc Cert.SmallUpdatesIdeal.main_arg18)
          ∧ r.2.mem ((c.tc : Thread Cert.SmallUpdatesIdeal.nD Cert.SmallUpdatesIdeal.τ).loc Cert.SmallUpdatesIdeal.main_arg19) = m ((c.tc : Thread Cert.SmallUpdatesIdeal.nD Cert.SmallUpdatesIdeal.τ).loc Cert.SmallUpdatesIdeal.main_arg19)
          ∧ r.2.mem ((c.tc : Thread Cert.SmallUpdatesIdeal.nD Cert.SmallUpdatesIdeal.τ).loc Cert.SmallUpdatesIdeal.main_arg20) = m ((c.tc : Thread Cert.SmallUpdatesIdeal.nD Cert.SmallUpdatesIdeal.τ).loc Cert.SmallUpdatesIdeal.main_arg20)
          ∧ r.2.mem ((c.tc : Thread Cert.SmallUpdatesIdeal.nD Cert.SmallUpdatesIdeal.τ).loc Cert.SmallUpdatesIdeal.main_arg21) = m ((c.tc : Thread Cert.SmallUpdatesIdeal.nD Cert.SmallUpdatesIdeal.τ).loc Cert.SmallUpdatesIdeal.main_arg21)
          ∧ r.2.mem ((c.tc : Thread Cert.SmallUpdatesIdeal.nD Cert.SmallUpdatesIdeal.τ).loc Cert.SmallUpdatesIdeal.main_arg22) = m ((c.tc : Thread Cert.SmallUpdatesIdeal.nD Cert.SmallUpdatesIdeal.τ).loc Cert.SmallUpdatesIdeal.main_arg22)
          ∧ r.2.mem ((c.tc : Thread Cert.SmallUpdatesIdeal.nD Cert.SmallUpdatesIdeal.τ).loc Cert.SmallUpdatesIdeal.main_arg23) = m ((c.tc : Thread Cert.SmallUpdatesIdeal.nD Cert.SmallUpdatesIdeal.τ).loc Cert.SmallUpdatesIdeal.main_arg23)
          ∧ r.2.mem ((c.tc : Thread Cert.SmallUpdatesIdeal.nD Cert.SmallUpdatesIdeal.τ).loc Cert.SmallUpdatesIdeal.main_arg24) = m ((c.tc : Thread Cert.SmallUpdatesIdeal.nD Cert.SmallUpdatesIdeal.τ).loc Cert.SmallUpdatesIdeal.main_arg24)
          ∧ r.2.mem ((c.tc : Thread Cert.SmallUpdatesIdeal.nD Cert.SmallUpdatesIdeal.τ).loc Cert.SmallUpdatesIdeal.main_arg25) = m ((c.tc : Thread Cert.SmallUpdatesIdeal.nD Cert.SmallUpdatesIdeal.τ).loc Cert.SmallUpdatesIdeal.main_arg25)
          ∧ r.2.mem ((c.tc : Thread Cert.SmallUpdatesIdeal.nD Cert.SmallUpdatesIdeal.τ).loc Cert.SmallUpdatesIdeal.main_arg26) = m ((c.tc : Thread Cert.SmallUpdatesIdeal.nD Cert.SmallUpdatesIdeal.τ).loc Cert.SmallUpdatesIdeal.main_arg26)
          ∧ r.2.mem ((c.tc : Thread Cert.SmallUpdatesIdeal.nD Cert.SmallUpdatesIdeal.τ).loc Cert.SmallUpdatesIdeal.main_arg27) = m ((c.tc : Thread Cert.SmallUpdatesIdeal.nD Cert.SmallUpdatesIdeal.τ).loc Cert.SmallUpdatesIdeal.main_arg27)
          ∧ r.2.mem ((c.tc : Thread Cert.SmallUpdatesIdeal.nD Cert.SmallUpdatesIdeal.τ).loc Cert.SmallUpdatesIdeal.main_arg28) = m ((c.tc : Thread Cert.SmallUpdatesIdeal.nD Cert.SmallUpdatesIdeal.τ).loc Cert.SmallUpdatesIdeal.main_arg28)
          ∧ r.2.mem ((c.tc : Thread Cert.SmallUpdatesIdeal.nD Cert.SmallUpdatesIdeal.τ).loc Cert.SmallUpdatesIdeal.main_arg29) = m ((c.tc : Thread Cert.SmallUpdatesIdeal.nD Cert.SmallUpdatesIdeal.τ).loc Cert.SmallUpdatesIdeal.main_arg29)
          ∧ r.2.mem ((c.tc : Thread Cert.SmallUpdatesIdeal.nD Cert.SmallUpdatesIdeal.τ).loc Cert.SmallUpdatesIdeal.main_arg30) = m ((c.tc : Thread Cert.SmallUpdatesIdeal.nD Cert.SmallUpdatesIdeal.τ).loc Cert.SmallUpdatesIdeal.main_arg30)
          ∧ r.2.mem ((c.tc : Thread Cert.SmallUpdatesIdeal.nD Cert.SmallUpdatesIdeal.τ).loc Cert.SmallUpdatesIdeal.main_arg31) = m ((c.tc : Thread Cert.SmallUpdatesIdeal.nD Cert.SmallUpdatesIdeal.τ).loc Cert.SmallUpdatesIdeal.main_arg31)
          ∧ r.2.mem ((c.tc : Thread Cert.SmallUpdatesIdeal.nD Cert.SmallUpdatesIdeal.τ).loc Cert.SmallUpdatesIdeal.main_arg32) = m ((c.tc : Thread Cert.SmallUpdatesIdeal.nD Cert.SmallUpdatesIdeal.τ).loc Cert.SmallUpdatesIdeal.main_arg32)
          ∧ r.2.mem ((c.tc : Thread Cert.SmallUpdatesIdeal.nD Cert.SmallUpdatesIdeal.τ).loc Cert.SmallUpdatesIdeal.main_arg33) = m ((c.tc : Thread Cert.SmallUpdatesIdeal.nD Cert.SmallUpdatesIdeal.τ).loc Cert.SmallUpdatesIdeal.main_arg33)
          ∧ r.2.mem ((c.tc : Thread Cert.SmallUpdatesIdeal.nD Cert.SmallUpdatesIdeal.τ).loc Cert.SmallUpdatesIdeal.main_arg34) = m ((c.tc : Thread Cert.SmallUpdatesIdeal.nD Cert.SmallUpdatesIdeal.τ).loc Cert.SmallUpdatesIdeal.main_arg34)
          ∧ r.2.mem ((c.tc : Thread Cert.SmallUpdatesIdeal.nD Cert.SmallUpdatesIdeal.τ).loc Cert.SmallUpdatesIdeal.main_arg35) = m ((c.tc : Thread Cert.SmallUpdatesIdeal.nD Cert.SmallUpdatesIdeal.τ).loc Cert.SmallUpdatesIdeal.main_arg35))
      ∧ θ_run (Cert.SmallUpdatesRefIdeal.defs (F := Ideal)) (onTc (τ := Cert.SmallUpdatesRefIdeal.τ) (Cert.SmallUpdatesRefIdeal.main (F := Ideal))) ⟨m', fun _ => 0, g'⟩ (fun r => ∀ c : Dev Cert.SmallUpdatesRefIdeal.nD,
          r.2.mem ((c.tc : Thread Cert.SmallUpdatesRefIdeal.nD Cert.SmallUpdatesRefIdeal.τ).loc Cert.SmallUpdatesRefIdeal.main_v23) = v0 c
          ∧ r.2.mem ((c.tc : Thread Cert.SmallUpdatesRefIdeal.nD Cert.SmallUpdatesRefIdeal.τ).loc Cert.SmallUpdatesRefIdeal.main_v47) = v1 c
          ∧ r.2.mem ((c.tc : Thread Cert.SmallUpdatesRefIdeal.nD Cert.SmallUpdatesRefIdeal.τ).loc Cert.SmallUpdatesRefIdeal.main_v71) = v2 c
          ∧ r.2.mem ((c.tc : Thread Cert.SmallUpdatesRefIdeal.nD Cert.SmallUpdatesRefIdeal.τ).loc Cert.SmallUpdatesRefIdeal.main_v95) = v3 c
          ∧ r.2.mem ((c.tc : Thread Cert.SmallUpdatesRefIdeal.nD Cert.SmallUpdatesRefIdeal.τ).loc Cert.SmallUpdatesRefIdeal.main_v119) = v4 c
          ∧ r.2.mem ((c.tc : Thread Cert.SmallUpdatesRefIdeal.nD Cert.SmallUpdatesRefIdeal.τ).loc Cert.SmallUpdatesRefIdeal.main_v143) = v5 c
          ∧ r.2.mem ((c.tc : Thread Cert.SmallUpdatesRefIdeal.nD Cert.SmallUpdatesRefIdeal.τ).loc Cert.SmallUpdatesRefIdeal.main_v167) = v6 c
          ∧ r.2.mem ((c.tc : Thread Cert.SmallUpdatesRefIdeal.nD Cert.SmallUpdatesRefIdeal.τ).loc Cert.SmallUpdatesRefIdeal.main_v191) = v7 c
          ∧ r.2.mem ((c.tc : Thread Cert.SmallUpdatesRefIdeal.nD Cert.SmallUpdatesRefIdeal.τ).loc Cert.SmallUpdatesRefIdeal.main_v215) = v8 c
          ∧ r.2.mem ((c.tc : Thread Cert.SmallUpdatesRefIdeal.nD Cert.SmallUpdatesRefIdeal.τ).loc Cert.SmallUpdatesRefIdeal.main_v4) = v9 c
          ∧ r.2.mem ((c.tc : Thread Cert.SmallUpdatesRefIdeal.nD Cert.SmallUpdatesRefIdeal.τ).loc Cert.SmallUpdatesRefIdeal.main_v28) = v10 c
          ∧ r.2.mem ((c.tc : Thread Cert.SmallUpdatesRefIdeal.nD Cert.SmallUpdatesRefIdeal.τ).loc Cert.SmallUpdatesRefIdeal.main_v52) = v11 c
          ∧ r.2.mem ((c.tc : Thread Cert.SmallUpdatesRefIdeal.nD Cert.SmallUpdatesRefIdeal.τ).loc Cert.SmallUpdatesRefIdeal.main_v76) = v12 c
          ∧ r.2.mem ((c.tc : Thread Cert.SmallUpdatesRefIdeal.nD Cert.SmallUpdatesRefIdeal.τ).loc Cert.SmallUpdatesRefIdeal.main_v100) = v13 c
          ∧ r.2.mem ((c.tc : Thread Cert.SmallUpdatesRefIdeal.nD Cert.SmallUpdatesRefIdeal.τ).loc Cert.SmallUpdatesRefIdeal.main_v124) = v14 c
          ∧ r.2.mem ((c.tc : Thread Cert.SmallUpdatesRefIdeal.nD Cert.SmallUpdatesRefIdeal.τ).loc Cert.SmallUpdatesRefIdeal.main_v148) = v15 c
          ∧ r.2.mem ((c.tc : Thread Cert.SmallUpdatesRefIdeal.nD Cert.SmallUpdatesRefIdeal.τ).loc Cert.SmallUpdatesRefIdeal.main_v172) = v16 c
          ∧ r.2.mem ((c.tc : Thread Cert.SmallUpdatesRefIdeal.nD Cert.SmallUpdatesRefIdeal.τ).loc Cert.SmallUpdatesRefIdeal.main_v196) = v17 c
          ∧ r.2.mem ((c.tc : Thread Cert.SmallUpdatesRefIdeal.nD Cert.SmallUpdatesRefIdeal.τ).loc Cert.SmallUpdatesRefIdeal.main_v10) = v18 c
          ∧ r.2.mem ((c.tc : Thread Cert.SmallUpdatesRefIdeal.nD Cert.SmallUpdatesRefIdeal.τ).loc Cert.SmallUpdatesRefIdeal.main_v34) = v19 c
          ∧ r.2.mem ((c.tc : Thread Cert.SmallUpdatesRefIdeal.nD Cert.SmallUpdatesRefIdeal.τ).loc Cert.SmallUpdatesRefIdeal.main_v58) = v20 c
          ∧ r.2.mem ((c.tc : Thread Cert.SmallUpdatesRefIdeal.nD Cert.SmallUpdatesRefIdeal.τ).loc Cert.SmallUpdatesRefIdeal.main_v82) = v21 c
          ∧ r.2.mem ((c.tc : Thread Cert.SmallUpdatesRefIdeal.nD Cert.SmallUpdatesRefIdeal.τ).loc Cert.SmallUpdatesRefIdeal.main_v106) = v22 c
          ∧ r.2.mem ((c.tc : Thread Cert.SmallUpdatesRefIdeal.nD Cert.SmallUpdatesRefIdeal.τ).loc Cert.SmallUpdatesRefIdeal.main_v130) = v23 c
          ∧ r.2.mem ((c.tc : Thread Cert.SmallUpdatesRefIdeal.nD Cert.SmallUpdatesRefIdeal.τ).loc Cert.SmallUpdatesRefIdeal.main_v154) = v24 c
          ∧ r.2.mem ((c.tc : Thread Cert.SmallUpdatesRefIdeal.nD Cert.SmallUpdatesRefIdeal.τ).loc Cert.SmallUpdatesRefIdeal.main_v178) = v25 c
          ∧ r.2.mem ((c.tc : Thread Cert.SmallUpdatesRefIdeal.nD Cert.SmallUpdatesRefIdeal.τ).loc Cert.SmallUpdatesRefIdeal.main_v202) = v26 c
          ∧ r.2.mem ((c.tc : Thread Cert.SmallUpdatesRefIdeal.nD Cert.SmallUpdatesRefIdeal.τ).loc Cert.SmallUpdatesRefIdeal.main_arg0) = m' ((c.tc : Thread Cert.SmallUpdatesRefIdeal.nD Cert.SmallUpdatesRefIdeal.τ).loc Cert.SmallUpdatesRefIdeal.main_arg0)
          ∧ r.2.mem ((c.tc : Thread Cert.SmallUpdatesRefIdeal.nD Cert.SmallUpdatesRefIdeal.τ).loc Cert.SmallUpdatesRefIdeal.main_arg1) = m' ((c.tc : Thread Cert.SmallUpdatesRefIdeal.nD Cert.SmallUpdatesRefIdeal.τ).loc Cert.SmallUpdatesRefIdeal.main_arg1)
          ∧ r.2.mem ((c.tc : Thread Cert.SmallUpdatesRefIdeal.nD Cert.SmallUpdatesRefIdeal.τ).loc Cert.SmallUpdatesRefIdeal.main_arg2) = m' ((c.tc : Thread Cert.SmallUpdatesRefIdeal.nD Cert.SmallUpdatesRefIdeal.τ).loc Cert.SmallUpdatesRefIdeal.main_arg2)
          ∧ r.2.mem ((c.tc : Thread Cert.SmallUpdatesRefIdeal.nD Cert.SmallUpdatesRefIdeal.τ).loc Cert.SmallUpdatesRefIdeal.main_arg3) = m' ((c.tc : Thread Cert.SmallUpdatesRefIdeal.nD Cert.SmallUpdatesRefIdeal.τ).loc Cert.SmallUpdatesRefIdeal.main_arg3)
          ∧ r.2.mem ((c.tc : Thread Cert.SmallUpdatesRefIdeal.nD Cert.SmallUpdatesRefIdeal.τ).loc Cert.SmallUpdatesRefIdeal.main_arg4) = m' ((c.tc : Thread Cert.SmallUpdatesRefIdeal.nD Cert.SmallUpdatesRefIdeal.τ).loc Cert.SmallUpdatesRefIdeal.main_arg4)
          ∧ r.2.mem ((c.tc : Thread Cert.SmallUpdatesRefIdeal.nD Cert.SmallUpdatesRefIdeal.τ).loc Cert.SmallUpdatesRefIdeal.main_arg5) = m' ((c.tc : Thread Cert.SmallUpdatesRefIdeal.nD Cert.SmallUpdatesRefIdeal.τ).loc Cert.SmallUpdatesRefIdeal.main_arg5)
          ∧ r.2.mem ((c.tc : Thread Cert.SmallUpdatesRefIdeal.nD Cert.SmallUpdatesRefIdeal.τ).loc Cert.SmallUpdatesRefIdeal.main_arg6) = m' ((c.tc : Thread Cert.SmallUpdatesRefIdeal.nD Cert.SmallUpdatesRefIdeal.τ).loc Cert.SmallUpdatesRefIdeal.main_arg6)
          ∧ r.2.mem ((c.tc : Thread Cert.SmallUpdatesRefIdeal.nD Cert.SmallUpdatesRefIdeal.τ).loc Cert.SmallUpdatesRefIdeal.main_arg7) = m' ((c.tc : Thread Cert.SmallUpdatesRefIdeal.nD Cert.SmallUpdatesRefIdeal.τ).loc Cert.SmallUpdatesRefIdeal.main_arg7)
          ∧ r.2.mem ((c.tc : Thread Cert.SmallUpdatesRefIdeal.nD Cert.SmallUpdatesRefIdeal.τ).loc Cert.SmallUpdatesRefIdeal.main_arg8) = m' ((c.tc : Thread Cert.SmallUpdatesRefIdeal.nD Cert.SmallUpdatesRefIdeal.τ).loc Cert.SmallUpdatesRefIdeal.main_arg8)
          ∧ r.2.mem ((c.tc : Thread Cert.SmallUpdatesRefIdeal.nD Cert.SmallUpdatesRefIdeal.τ).loc Cert.SmallUpdatesRefIdeal.main_arg9) = m' ((c.tc : Thread Cert.SmallUpdatesRefIdeal.nD Cert.SmallUpdatesRefIdeal.τ).loc Cert.SmallUpdatesRefIdeal.main_arg9)
          ∧ r.2.mem ((c.tc : Thread Cert.SmallUpdatesRefIdeal.nD Cert.SmallUpdatesRefIdeal.τ).loc Cert.SmallUpdatesRefIdeal.main_arg10) = m' ((c.tc : Thread Cert.SmallUpdatesRefIdeal.nD Cert.SmallUpdatesRefIdeal.τ).loc Cert.SmallUpdatesRefIdeal.main_arg10)
          ∧ r.2.mem ((c.tc : Thread Cert.SmallUpdatesRefIdeal.nD Cert.SmallUpdatesRefIdeal.τ).loc Cert.SmallUpdatesRefIdeal.main_arg11) = m' ((c.tc : Thread Cert.SmallUpdatesRefIdeal.nD Cert.SmallUpdatesRefIdeal.τ).loc Cert.SmallUpdatesRefIdeal.main_arg11)
          ∧ r.2.mem ((c.tc : Thread Cert.SmallUpdatesRefIdeal.nD Cert.SmallUpdatesRefIdeal.τ).loc Cert.SmallUpdatesRefIdeal.main_arg12) = m' ((c.tc : Thread Cert.SmallUpdatesRefIdeal.nD Cert.SmallUpdatesRefIdeal.τ).loc Cert.SmallUpdatesRefIdeal.main_arg12)
          ∧ r.2.mem ((c.tc : Thread Cert.SmallUpdatesRefIdeal.nD Cert.SmallUpdatesRefIdeal.τ).loc Cert.SmallUpdatesRefIdeal.main_arg13) = m' ((c.tc : Thread Cert.SmallUpdatesRefIdeal.nD Cert.SmallUpdatesRefIdeal.τ).loc Cert.SmallUpdatesRefIdeal.main_arg13)
          ∧ r.2.mem ((c.tc : Thread Cert.SmallUpdatesRefIdeal.nD Cert.SmallUpdatesRefIdeal.τ).loc Cert.SmallUpdatesRefIdeal.main_arg14) = m' ((c.tc : Thread Cert.SmallUpdatesRefIdeal.nD Cert.SmallUpdatesRefIdeal.τ).loc Cert.SmallUpdatesRefIdeal.main_arg14)
          ∧ r.2.mem ((c.tc : Thread Cert.SmallUpdatesRefIdeal.nD Cert.SmallUpdatesRefIdeal.τ).loc Cert.SmallUpdatesRefIdeal.main_arg15) = m' ((c.tc : Thread Cert.SmallUpdatesRefIdeal.nD Cert.SmallUpdatesRefIdeal.τ).loc Cert.SmallUpdatesRefIdeal.main_arg15)
          ∧ r.2.mem ((c.tc : Thread Cert.SmallUpdatesRefIdeal.nD Cert.SmallUpdatesRefIdeal.τ).loc Cert.SmallUpdatesRefIdeal.main_arg16) = m' ((c.tc : Thread Cert.SmallUpdatesRefIdeal.nD Cert.SmallUpdatesRefIdeal.τ).loc Cert.SmallUpdatesRefIdeal.main_arg16)
          ∧ r.2.mem ((c.tc : Thread Cert.SmallUpdatesRefIdeal.nD Cert.SmallUpdatesRefIdeal.τ).loc Cert.SmallUpdatesRefIdeal.main_arg17) = m' ((c.tc : Thread Cert.SmallUpdatesRefIdeal.nD Cert.SmallUpdatesRefIdeal.τ).loc Cert.SmallUpdatesRefIdeal.main_arg17)
          ∧ r.2.mem ((c.tc : Thread Cert.SmallUpdatesRefIdeal.nD Cert.SmallUpdatesRefIdeal.τ).loc Cert.SmallUpdatesRefIdeal.main_arg18) = m' ((c.tc : Thread Cert.SmallUpdatesRefIdeal.nD Cert.SmallUpdatesRefIdeal.τ).loc Cert.SmallUpdatesRefIdeal.main_arg18)
          ∧ r.2.mem ((c.tc : Thread Cert.SmallUpdatesRefIdeal.nD Cert.SmallUpdatesRefIdeal.τ).loc Cert.SmallUpdatesRefIdeal.main_arg19) = m' ((c.tc : Thread Cert.SmallUpdatesRefIdeal.nD Cert.SmallUpdatesRefIdeal.τ).loc Cert.SmallUpdatesRefIdeal.main_arg19)
          ∧ r.2.mem ((c.tc : Thread Cert.SmallUpdatesRefIdeal.nD Cert.SmallUpdatesRefIdeal.τ).loc Cert.SmallUpdatesRefIdeal.main_arg20) = m' ((c.tc : Thread Cert.SmallUpdatesRefIdeal.nD Cert.SmallUpdatesRefIdeal.τ).loc Cert.SmallUpdatesRefIdeal.main_arg20)
          ∧ r.2.mem ((c.tc : Thread Cert.SmallUpdatesRefIdeal.nD Cert.SmallUpdatesRefIdeal.τ).loc Cert.SmallUpdatesRefIdeal.main_arg21) = m' ((c.tc : Thread Cert.SmallUpdatesRefIdeal.nD Cert.SmallUpdatesRefIdeal.τ).loc Cert.SmallUpdatesRefIdeal.main_arg21)
          ∧ r.2.mem ((c.tc : Thread Cert.SmallUpdatesRefIdeal.nD Cert.SmallUpdatesRefIdeal.τ).loc Cert.SmallUpdatesRefIdeal.main_arg22) = m' ((c.tc : Thread Cert.SmallUpdatesRefIdeal.nD Cert.SmallUpdatesRefIdeal.τ).loc Cert.SmallUpdatesRefIdeal.main_arg22)
          ∧ r.2.mem ((c.tc : Thread Cert.SmallUpdatesRefIdeal.nD Cert.SmallUpdatesRefIdeal.τ).loc Cert.SmallUpdatesRefIdeal.main_arg23) = m' ((c.tc : Thread Cert.SmallUpdatesRefIdeal.nD Cert.SmallUpdatesRefIdeal.τ).loc Cert.SmallUpdatesRefIdeal.main_arg23)
          ∧ r.2.mem ((c.tc : Thread Cert.SmallUpdatesRefIdeal.nD Cert.SmallUpdatesRefIdeal.τ).loc Cert.SmallUpdatesRefIdeal.main_arg24) = m' ((c.tc : Thread Cert.SmallUpdatesRefIdeal.nD Cert.SmallUpdatesRefIdeal.τ).loc Cert.SmallUpdatesRefIdeal.main_arg24)
          ∧ r.2.mem ((c.tc : Thread Cert.SmallUpdatesRefIdeal.nD Cert.SmallUpdatesRefIdeal.τ).loc Cert.SmallUpdatesRefIdeal.main_arg25) = m' ((c.tc : Thread Cert.SmallUpdatesRefIdeal.nD Cert.SmallUpdatesRefIdeal.τ).loc Cert.SmallUpdatesRefIdeal.main_arg25)
          ∧ r.2.mem ((c.tc : Thread Cert.SmallUpdatesRefIdeal.nD Cert.SmallUpdatesRefIdeal.τ).loc Cert.SmallUpdatesRefIdeal.main_arg26) = m' ((c.tc : Thread Cert.SmallUpdatesRefIdeal.nD Cert.SmallUpdatesRefIdeal.τ).loc Cert.SmallUpdatesRefIdeal.main_arg26)
          ∧ r.2.mem ((c.tc : Thread Cert.SmallUpdatesRefIdeal.nD Cert.SmallUpdatesRefIdeal.τ).loc Cert.SmallUpdatesRefIdeal.main_arg27) = m' ((c.tc : Thread Cert.SmallUpdatesRefIdeal.nD Cert.SmallUpdatesRefIdeal.τ).loc Cert.SmallUpdatesRefIdeal.main_arg27)
          ∧ r.2.mem ((c.tc : Thread Cert.SmallUpdatesRefIdeal.nD Cert.SmallUpdatesRefIdeal.τ).loc Cert.SmallUpdatesRefIdeal.main_arg28) = m' ((c.tc : Thread Cert.SmallUpdatesRefIdeal.nD Cert.SmallUpdatesRefIdeal.τ).loc Cert.SmallUpdatesRefIdeal.main_arg28)
          ∧ r.2.mem ((c.tc : Thread Cert.SmallUpdatesRefIdeal.nD Cert.SmallUpdatesRefIdeal.τ).loc Cert.SmallUpdatesRefIdeal.main_arg29) = m' ((c.tc : Thread Cert.SmallUpdatesRefIdeal.nD Cert.SmallUpdatesRefIdeal.τ).loc Cert.SmallUpdatesRefIdeal.main_arg29)
          ∧ r.2.mem ((c.tc : Thread Cert.SmallUpdatesRefIdeal.nD Cert.SmallUpdatesRefIdeal.τ).loc Cert.SmallUpdatesRefIdeal.main_arg30) = m' ((c.tc : Thread Cert.SmallUpdatesRefIdeal.nD Cert.SmallUpdatesRefIdeal.τ).loc Cert.SmallUpdatesRefIdeal.main_arg30)
          ∧ r.2.mem ((c.tc : Thread Cert.SmallUpdatesRefIdeal.nD Cert.SmallUpdatesRefIdeal.τ).loc Cert.SmallUpdatesRefIdeal.main_arg31) = m' ((c.tc : Thread Cert.SmallUpdatesRefIdeal.nD Cert.SmallUpdatesRefIdeal.τ).loc Cert.SmallUpdatesRefIdeal.main_arg31)
          ∧ r.2.mem ((c.tc : Thread Cert.SmallUpdatesRefIdeal.nD Cert.SmallUpdatesRefIdeal.τ).loc Cert.SmallUpdatesRefIdeal.main_arg32) = m' ((c.tc : Thread Cert.SmallUpdatesRefIdeal.nD Cert.SmallUpdatesRefIdeal.τ).loc Cert.SmallUpdatesRefIdeal.main_arg32)
          ∧ r.2.mem ((c.tc : Thread Cert.SmallUpdatesRefIdeal.nD Cert.SmallUpdatesRefIdeal.τ).loc Cert.SmallUpdatesRefIdeal.main_arg33) = m' ((c.tc : Thread Cert.SmallUpdatesRefIdeal.nD Cert.SmallUpdatesRefIdeal.τ).loc Cert.SmallUpdatesRefIdeal.main_arg33)
          ∧ r.2.mem ((c.tc : Thread Cert.SmallUpdatesRefIdeal.nD Cert.SmallUpdatesRefIdeal.τ).loc Cert.SmallUpdatesRefIdeal.main_arg34) = m' ((c.tc : Thread Cert.SmallUpdatesRefIdeal.nD Cert.SmallUpdatesRefIdeal.τ).loc Cert.SmallUpdatesRefIdeal.main_arg34)
          ∧ r.2.mem ((c.tc : Thread Cert.SmallUpdatesRefIdeal.nD Cert.SmallUpdatesRefIdeal.τ).loc Cert.SmallUpdatesRefIdeal.main_arg35) = m' ((c.tc : Thread Cert.SmallUpdatesRefIdeal.nD Cert.SmallUpdatesRefIdeal.τ).loc Cert.SmallUpdatesRefIdeal.main_arg35))

def preserves_LnBwd_LnBwdIdeal : Prop :=
  True

def algebraic_LnBwdIdeal_LnBwdRefIdeal_pre_finite_ln [hLnBwdIdeal : Cert.LnBwdIdeal.Facts] [hLnBwdRefIdeal : Cert.LnBwdRefIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal_finite_ln m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)
      ∧ m' ((c.tc : Thread Cert.LnBwdRefIdeal.nD Cert.LnBwdRefIdeal.τ).loc Cert.LnBwdRefIdeal.main_arg5) = m ((c.tc : Thread Cert.LnBwdIdeal.nD Cert.LnBwdIdeal.τ).loc Cert.LnBwdIdeal.main_arg5)) →
    ∃ (v0 : (c : Dev Cert.LnBwdIdeal.nD) → Buf (Elt Ideal) ((c.tc : Thread Cert.LnBwdIdeal.nD Cert.LnBwdIdeal.τ).loc Cert.LnBwdIdeal.main_v1_0)) (v1 : (c : Dev Cert.LnBwdIdeal.nD) → Buf (Elt Ideal) ((c.tc : Thread Cert.LnBwdIdeal.nD Cert.LnBwdIdeal.τ).loc Cert.LnBwdIdeal.main_v1_1)) (v2 : (c : Dev Cert.LnBwdIdeal.nD) → Buf (Elt Ideal) ((c.tc : Thread Cert.LnBwdIdeal.nD Cert.LnBwdIdeal.τ).loc Cert.LnBwdIdeal.main_v1_2)) (v3 : (c : Dev Cert.LnBwdIdeal.nD) → Buf (Elt Ideal) ((c.tc : Thread Cert.LnBwdIdeal.nD Cert.LnBwdIdeal.τ).loc Cert.LnBwdIdeal.main_v1_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v1_0) = v0 c
          ∧ r.2.mem ((c.tc : Thread Cert.LnBwdIdeal.nD Cert.LnBwdIdeal.τ).loc Cert.LnBwdIdeal.main_v1_1) = v1 c
          ∧ r.2.mem ((c.tc : Thread Cert.LnBwdIdeal.nD Cert.LnBwdIdeal.τ).loc Cert.LnBwdIdeal.main_v1_2) = v2 c
          ∧ r.2.mem ((c.tc : Thread Cert.LnBwdIdeal.nD Cert.LnBwdIdeal.τ).loc Cert.LnBwdIdeal.main_v1_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v68) = v0 c
          ∧ r.2.mem ((c.tc : Thread Cert.LnBwdRefIdeal.nD Cert.LnBwdRefIdeal.τ).loc Cert.LnBwdRefIdeal.main_v69) = v1 c
          ∧ r.2.mem ((c.tc : Thread Cert.LnBwdRefIdeal.nD Cert.LnBwdRefIdeal.τ).loc Cert.LnBwdRefIdeal.main_v70) = v2 c
          ∧ r.2.mem ((c.tc : Thread Cert.LnBwdRefIdeal.nD Cert.LnBwdRefIdeal.τ).loc Cert.LnBwdRefIdeal.main_v71) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4)
          ∧ r.2.mem ((c.tc : Thread Cert.LnBwdRefIdeal.nD Cert.LnBwdRefIdeal.τ).loc Cert.LnBwdRefIdeal.main_arg5) = m' ((c.tc : Thread Cert.LnBwdRefIdeal.nD Cert.LnBwdRefIdeal.τ).loc Cert.LnBwdRefIdeal.main_arg5))

def preserves_LossBwd_LossBwdIdeal : Prop :=
  True

def algebraic_LossBwdIdeal_LossBwdRefIdeal_pre_finite_loss [hLossBwdIdeal : Cert.LossBwdIdeal.Facts] [hLossBwdRefIdeal : Cert.LossBwdRefIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal_finite_loss m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v2_0)) (v1 : (c : Dev Cert.LossBwdIdeal.nD) → Buf (Elt Ideal) ((c.tc : Thread Cert.LossBwdIdeal.nD Cert.LossBwdIdeal.τ).loc Cert.LossBwdIdeal.main_v2_1)) (v2 : (c : Dev Cert.LossBwdIdeal.nD) → Buf (Elt Ideal) ((c.tc : Thread Cert.LossBwdIdeal.nD Cert.LossBwdIdeal.τ).loc Cert.LossBwdIdeal.main_v2_2)) (v3 : (c : Dev Cert.LossBwdIdeal.nD) → Buf (Elt Ideal) ((c.tc : Thread Cert.LossBwdIdeal.nD Cert.LossBwdIdeal.τ).loc Cert.LossBwdIdeal.main_v2_3)) (v4 : (c : Dev Cert.LossBwdIdeal.nD) → Buf (Elt Ideal) ((c.tc : Thread Cert.LossBwdIdeal.nD Cert.LossBwdIdeal.τ).loc Cert.LossBwdIdeal.main_v2_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v2_0) = v0 c
          ∧ r.2.mem ((c.tc : Thread Cert.LossBwdIdeal.nD Cert.LossBwdIdeal.τ).loc Cert.LossBwdIdeal.main_v2_1) = v1 c
          ∧ r.2.mem ((c.tc : Thread Cert.LossBwdIdeal.nD Cert.LossBwdIdeal.τ).loc Cert.LossBwdIdeal.main_v2_2) = v2 c
          ∧ r.2.mem ((c.tc : Thread Cert.LossBwdIdeal.nD Cert.LossBwdIdeal.τ).loc Cert.LossBwdIdeal.main_v2_3) = v3 c
          ∧ r.2.mem ((c.tc : Thread Cert.LossBwdIdeal.nD Cert.LossBwdIdeal.τ).loc Cert.LossBwdIdeal.main_v2_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v79) = v0 c
          ∧ r.2.mem ((c.tc : Thread Cert.LossBwdRefIdeal.nD Cert.LossBwdRefIdeal.τ).loc Cert.LossBwdRefIdeal.main_v80) = v1 c
          ∧ r.2.mem ((c.tc : Thread Cert.LossBwdRefIdeal.nD Cert.LossBwdRefIdeal.τ).loc Cert.LossBwdRefIdeal.main_v81) = v2 c
          ∧ r.2.mem ((c.tc : Thread Cert.LossBwdRefIdeal.nD Cert.LossBwdRefIdeal.τ).loc Cert.LossBwdRefIdeal.main_v82) = v3 c
          ∧ r.2.mem ((c.tc : Thread Cert.LossBwdRefIdeal.nD Cert.LossBwdRefIdeal.τ).loc Cert.LossBwdRefIdeal.main_v83) = v4 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hGateupDx : Cert.GateupDx.Facts) (hGateupDxIdeal : Cert.GateupDxIdeal.Facts) (hGateupDxRefIdeal : Cert.GateupDxRefIdeal.Facts) (hInDw : Cert.InDw.Facts) (hInDwIdeal : Cert.InDwIdeal.Facts) (hInDwRefIdeal : Cert.InDwRefIdeal.Facts) (hWoutDx : Cert.WoutDx.Facts) (hWoutDxIdeal : Cert.WoutDxIdeal.Facts) (hWoutDxRefIdeal : Cert.WoutDxRefIdeal.Facts) (hWoutDw : Cert.WoutDw.Facts) (hWoutDwIdeal : Cert.WoutDwIdeal.Facts) (hWoutDwRefIdeal : Cert.WoutDwRefIdeal.Facts) (hProjDx : Cert.ProjDx.Facts) (hProjDxIdeal : Cert.ProjDxIdeal.Facts) (hProjDxRefIdeal : Cert.ProjDxRefIdeal.Facts) (hProjDxResidual : Cert.ProjDxResidual.Facts) (hProjDxResidualIdeal : Cert.ProjDxResidualIdeal.Facts) (hProjDxResidualRefIdeal : Cert.ProjDxResidualRefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hWout : Cert.Wout.Facts) (hWoutIdeal : Cert.WoutIdeal.Facts) (hWoutRefIdeal : Cert.WoutRefIdeal.Facts) (hDown : Cert.Down.Facts) (hDownIdeal : Cert.DownIdeal.Facts) (hDownRefIdeal : Cert.DownRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hConvGate : Cert.ConvGate.Facts) (hConvGateIdeal : Cert.ConvGateIdeal.Facts) (hConvGateRefIdeal : Cert.ConvGateRefIdeal.Facts) (hLn : Cert.Ln.Facts) (hLnIdeal : Cert.LnIdeal.Facts) (hLnRefIdeal : Cert.LnRefIdeal.Facts) (hWindow : Cert.Window.Facts) (hWindowIdeal : Cert.WindowIdeal.Facts) (hWindowRefIdeal : Cert.WindowRefIdeal.Facts) (hDilated : Cert.Dilated.Facts) (hDilatedIdeal : Cert.DilatedIdeal.Facts) (hDilatedRefIdeal : Cert.DilatedRefIdeal.Facts) (hSmallGrads : Cert.SmallGrads.Facts) (hSmallGradsIdeal : Cert.SmallGradsIdeal.Facts) (hSmallGradsRefIdeal : Cert.SmallGradsRefIdeal.Facts) (hSmallUpdates : Cert.SmallUpdates.Facts) (hSmallUpdatesIdeal : Cert.SmallUpdatesIdeal.Facts) (hSmallUpdatesRefIdeal : Cert.SmallUpdatesRefIdeal.Facts) (hLnBwd : Cert.LnBwd.Facts) (hLnBwdIdeal : Cert.LnBwdIdeal.Facts) (hLnBwdRefIdeal : Cert.LnBwdRefIdeal.Facts) (hLossBwd : Cert.LossBwd.Facts) (hLossBwdIdeal : Cert.LossBwdIdeal.Facts) (hLossBwdRefIdeal : Cert.LossBwdRefIdeal.Facts) (hPre_finite_cotangent : Cert.Pre_finite_cotangent.Facts) (hPre_finite_ln : Cert.Pre_finite_ln.Facts) (hPre_finite_loss : Cert.Pre_finite_loss.Facts),
    quiescent_Kernel (hKernel := hKernel)
    ∧ quiescent_KernelIdeal (hKernelIdeal := hKernelIdeal)
    ∧ quiescent_KernelIdeal_pre_finite_cotangent (hKernelIdeal := hKernelIdeal) (hPre_finite_cotangent := hPre_finite_cotangent)
    ∧ quiescent_ReferenceIdeal (hReferenceIdeal := hReferenceIdeal)
    ∧ quiescent_ReferenceIdeal_pre_finite_cotangent (hReferenceIdeal := hReferenceIdeal) (hPre_finite_cotangent := hPre_finite_cotangent)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateupDx (hGateupDx := hGateupDx)
    ∧ quiescent_GateupDxIdeal (hGateupDxIdeal := hGateupDxIdeal)
    ∧ quiescent_GateupDxRefIdeal (hGateupDxRefIdeal := hGateupDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_WoutDx (hWoutDx := hWoutDx)
    ∧ quiescent_WoutDxIdeal (hWoutDxIdeal := hWoutDxIdeal)
    ∧ quiescent_WoutDxRefIdeal (hWoutDxRefIdeal := hWoutDxRefIdeal)
    ∧ quiescent_WoutDw (hWoutDw := hWoutDw)
    ∧ quiescent_WoutDwIdeal (hWoutDwIdeal := hWoutDwIdeal)
    ∧ quiescent_WoutDwRefIdeal (hWoutDwRefIdeal := hWoutDwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDxResidual (hProjDxResidual := hProjDxResidual)
    ∧ quiescent_ProjDxResidualIdeal (hProjDxResidualIdeal := hProjDxResidualIdeal)
    ∧ quiescent_ProjDxResidualRefIdeal (hProjDxResidualRefIdeal := hProjDxResidualRefIdeal)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Wout (hWout := hWout)
    ∧ quiescent_WoutIdeal (hWoutIdeal := hWoutIdeal)
    ∧ quiescent_WoutRefIdeal (hWoutRefIdeal := hWoutRefIdeal)
    ∧ quiescent_Down (hDown := hDown)
    ∧ quiescent_DownIdeal (hDownIdeal := hDownIdeal)
    ∧ quiescent_DownRefIdeal (hDownRefIdeal := hDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_ConvGate (hConvGate := hConvGate)
    ∧ quiescent_ConvGateIdeal (hConvGateIdeal := hConvGateIdeal)
    ∧ quiescent_ConvGateRefIdeal (hConvGateRefIdeal := hConvGateRefIdeal)
    ∧ quiescent_Ln (hLn := hLn)
    ∧ quiescent_LnIdeal (hLnIdeal := hLnIdeal)
    ∧ quiescent_LnRefIdeal (hLnRefIdeal := hLnRefIdeal)
    ∧ quiescent_Window (hWindow := hWindow)
    ∧ quiescent_WindowIdeal (hWindowIdeal := hWindowIdeal)
    ∧ quiescent_WindowRefIdeal (hWindowRefIdeal := hWindowRefIdeal)
    ∧ quiescent_Dilated (hDilated := hDilated)
    ∧ quiescent_DilatedIdeal (hDilatedIdeal := hDilatedIdeal)
    ∧ quiescent_DilatedRefIdeal (hDilatedRefIdeal := hDilatedRefIdeal)
    ∧ quiescent_SmallGrads (hSmallGrads := hSmallGrads)
    ∧ quiescent_SmallGradsIdeal (hSmallGradsIdeal := hSmallGradsIdeal)
    ∧ quiescent_SmallGradsRefIdeal (hSmallGradsRefIdeal := hSmallGradsRefIdeal)
    ∧ quiescent_SmallUpdates (hSmallUpdates := hSmallUpdates)
    ∧ quiescent_SmallUpdatesIdeal (hSmallUpdatesIdeal := hSmallUpdatesIdeal)
    ∧ quiescent_SmallUpdatesRefIdeal (hSmallUpdatesRefIdeal := hSmallUpdatesRefIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdRefIdeal (hLnBwdRefIdeal := hLnBwdRefIdeal)
    ∧ quiescent_LnBwdRefIdeal_pre_finite_ln (hLnBwdRefIdeal := hLnBwdRefIdeal) (hPre_finite_ln := hPre_finite_ln)
    ∧ quiescent_LossBwd (hLossBwd := hLossBwd)
    ∧ quiescent_LossBwdIdeal (hLossBwdIdeal := hLossBwdIdeal)
    ∧ quiescent_LossBwdIdeal_pre_finite_loss (hLossBwdIdeal := hLossBwdIdeal) (hPre_finite_loss := hPre_finite_loss)
    ∧ quiescent_LossBwdRefIdeal (hLossBwdRefIdeal := hLossBwdRefIdeal)
    ∧ quiescent_LossBwdRefIdeal_pre_finite_loss (hLossBwdRefIdeal := hLossBwdRefIdeal) (hPre_finite_loss := hPre_finite_loss)
    ∧ preserves_Kernel_KernelIdeal
    ∧ algebraic_KernelIdeal_ReferenceIdeal_pre_finite_cotangent (hKernelIdeal := hKernelIdeal) (hReferenceIdeal := hReferenceIdeal) (hPre_finite_cotangent := hPre_finite_cotangent)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_GateupDx_GateupDxIdeal
    ∧ algebraic_GateupDxIdeal_GateupDxRefIdeal (hGateupDxIdeal := hGateupDxIdeal) (hGateupDxRefIdeal := hGateupDxRefIdeal)
    ∧ preserves_InDw_InDwIdeal
    ∧ algebraic_InDwIdeal_InDwRefIdeal (hInDwIdeal := hInDwIdeal) (hInDwRefIdeal := hInDwRefIdeal)
    ∧ preserves_WoutDx_WoutDxIdeal
    ∧ algebraic_WoutDxIdeal_WoutDxRefIdeal (hWoutDxIdeal := hWoutDxIdeal) (hWoutDxRefIdeal := hWoutDxRefIdeal)
    ∧ preserves_WoutDw_WoutDwIdeal
    ∧ algebraic_WoutDwIdeal_WoutDwRefIdeal (hWoutDwIdeal := hWoutDwIdeal) (hWoutDwRefIdeal := hWoutDwRefIdeal)
    ∧ preserves_ProjDx_ProjDxIdeal
    ∧ algebraic_ProjDxIdeal_ProjDxRefIdeal (hProjDxIdeal := hProjDxIdeal) (hProjDxRefIdeal := hProjDxRefIdeal)
    ∧ preserves_ProjDxResidual_ProjDxResidualIdeal
    ∧ algebraic_ProjDxResidualIdeal_ProjDxResidualRefIdeal (hProjDxResidualIdeal := hProjDxResidualIdeal) (hProjDxResidualRefIdeal := hProjDxResidualRefIdeal)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Wout_WoutIdeal
    ∧ algebraic_WoutIdeal_WoutRefIdeal (hWoutIdeal := hWoutIdeal) (hWoutRefIdeal := hWoutRefIdeal)
    ∧ preserves_Down_DownIdeal
    ∧ algebraic_DownIdeal_DownRefIdeal (hDownIdeal := hDownIdeal) (hDownRefIdeal := hDownRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_ConvGate_ConvGateIdeal
    ∧ algebraic_ConvGateIdeal_ConvGateRefIdeal (hConvGateIdeal := hConvGateIdeal) (hConvGateRefIdeal := hConvGateRefIdeal)
    ∧ preserves_Ln_LnIdeal
    ∧ algebraic_LnIdeal_LnRefIdeal (hLnIdeal := hLnIdeal) (hLnRefIdeal := hLnRefIdeal)
    ∧ preserves_Window_WindowIdeal
    ∧ algebraic_WindowIdeal_WindowRefIdeal (hWindowIdeal := hWindowIdeal) (hWindowRefIdeal := hWindowRefIdeal)
    ∧ preserves_Dilated_DilatedIdeal
    ∧ algebraic_DilatedIdeal_DilatedRefIdeal (hDilatedIdeal := hDilatedIdeal) (hDilatedRefIdeal := hDilatedRefIdeal)
    ∧ preserves_SmallGrads_SmallGradsIdeal
    ∧ algebraic_SmallGradsIdeal_SmallGradsRefIdeal (hSmallGradsIdeal := hSmallGradsIdeal) (hSmallGradsRefIdeal := hSmallGradsRefIdeal)
    ∧ preserves_SmallUpdates_SmallUpdatesIdeal
    ∧ algebraic_SmallUpdatesIdeal_SmallUpdatesRefIdeal (hSmallUpdatesIdeal := hSmallUpdatesIdeal) (hSmallUpdatesRefIdeal := hSmallUpdatesRefIdeal)
    ∧ preserves_LnBwd_LnBwdIdeal
    ∧ algebraic_LnBwdIdeal_LnBwdRefIdeal_pre_finite_ln (hLnBwdIdeal := hLnBwdIdeal) (hLnBwdRefIdeal := hLnBwdRefIdeal) (hPre_finite_ln := hPre_finite_ln)
    ∧ preserves_LossBwd_LossBwdIdeal
    ∧ algebraic_LossBwdIdeal_LossBwdRefIdeal_pre_finite_loss (hLossBwdIdeal := hLossBwdIdeal) (hLossBwdRefIdeal := hLossBwdRefIdeal) (hPre_finite_loss := hPre_finite_loss)
-- ==== Pre_finite_cotangent.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel

variable [Facts]

def fn {F : FTy → Type} [FloatOps F] (main_arg0 : FVec F S2048x5632 .bf16) (main_arg1 : FVec F S2048x5632 .bf16) (main_arg2 : FVec F S3x5632 .f32) (main_arg3 : FVec F S5632 .f32) (main_arg4 : FVec F S2048x5632 .bf16) : IVec S_ 1 :=
  let main_v0 : FVec F S2048x5632 .f32 := (extf .f32 · bitsLt_bf16_f32) main_arg1
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_cst_0 : FVec F S_ .f32 := constant S_ .f32 0xFF800000#32
  let main_v3 : FVec F S2048x5632 .f32 := broadcastInDim S2048x5632 ![] bcast_S_S2048x5632 main_cst_0
  let main_v4 : IVec S2048x5632 1 := cmpf .ogt main_v0 main_v3
  let main_v5 : IVec S2048x5632 1 := andi main_v2 main_v4
  let main_c : IVec S_ 1 := constantI S_ 1 1#1
  let main_v6 : IVec S_ 1 := (fun x v => Host.reduce IntOp.andi x v reducesTo_S2048x5632_S_d0_1 h_S_) main_v5 main_c
  let main_v7 : FVec F S2048x5632 .f32 := (extf .f32 · bitsLt_bf16_f32) main_arg4
  let main_cst_1 : FVec F S_ .f32 := constant S_ .f32 0x7F800000#32
  let main_v8 : FVec F S2048x5632 .f32 := broadcastInDim S2048x5632 ![] bcast_S_S2048x5632 main_cst_1
  let main_v9 : IVec S2048x5632 1 := cmpf .olt main_v7 main_v8
  let main_cst_2 : FVec F S_ .f32 := constant S_ .f32 0xFF800000#32
  let main_v10 : FVec F S2048x5632 .f32 := broadcastInDim S2048x5632 ![] bcast_S_S2048x5632 main_cst_2
  let main_v11 : IVec S2048x5632 1 := cmpf .ogt main_v7 main_v10
  let main_v12 : IVec S2048x5632 1 := andi main_v9 main_v11
  let main_c_3 : IVec S_ 1 := constantI S_ 1 1#1
  let main_v13 : IVec S_ 1 := (fun x v => Host.reduce IntOp.andi x v reducesTo_S2048x5632_S_d0_1 h_S_) main_v12 main_c_3
  let main_v14 : IVec S_ 1 := andi main_v6 main_v13
  main_v14
-- ==== Pre_finite_ln.lean ====
abbrev S2048x2048 : Shape := ⟨2, ![2048, 2048]⟩
abbrev S2048 : Shape := ⟨1, ![2048]⟩
abbrev S8x128 : Shape := ⟨2, ![8, 128]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part2 {F : FTy → Type} [FloatOps F] (main_v27 : IVec S_ 1) (main_v32 : IVec S2048x2048 1) : IVec S_ 1 :=
  let main_c_13 : IVec S_ 1 := constantI S_ 1 1#1
  let main_v33 : IVec S_ 1 := (fun x v => Host.reduce IntOp.andi x v reducesTo_S2048x2048_S_d0_1 h_S_) main_v32 main_c_13
  let main_v34 : IVec S_ 1 := andi main_v27 main_v33
  main_v34

def fn_part1 {F : FTy → Type} [FloatOps F] (main_arg2 : FVec F S2048 .f32) (main_arg3 : FVec F S2048x2048 .f32) (main_arg4 : FVec F S2048x2048 .f32) (main_v13 : IVec S_ 1) (main_v15 : IVec S2048 1) : IVec S_ 1 :=
  let main_cst_6 : FVec F S_ .f32 := constant S_ .f32 0xFF800000#32
  let main_v16 : FVec F S2048 .f32 := broadcastInDim S2048 ![] bcast_S_S2048 main_cst_6
  let main_v17 : IVec S2048 1 := cmpf .ogt main_arg2 main_v16
  let main_v18 : IVec S2048 1 := andi main_v15 main_v17
  let main_c_7 : IVec S_ 1 := constantI S_ 1 1#1
  let main_v19 : IVec S_ 1 := (fun x v => Host.reduce IntOp.andi x v reducesTo_S2048_S_d0 h_S_) main_v18 main_c_7
  let main_v20 : IVec S_ 1 := andi main_v13 main_v19
  let main_cst_8 : FVec F S_ .f32 := constant S_ .f32 0x7F800000#32
  let main_v21 : FVec F S2048x2048 .f32 := broadcastInDim S2048x2048 ![] bcast_S_S2048x2048 main_cst_8
  let main_v22 : IVec S2048x2048 1 := cmpf .olt main_arg3 main_v21
  let main_cst_9 : FVec F S_ .f32 := constant S_ .f32 0xFF800000#32
  let main_v23 : FVec F S2048x2048 .f32 := broadcastInDim S2048x2048 ![] bcast_S_S2048x2048 main_cst_9
  let main_v24 : IVec S2048x2048 1 := cmpf .ogt main_arg3 main_v23
  let main_v25 : IVec S2048x2048 1 := andi main_v22 main_v24
  let main_c_10 : IVec S_ 1 := constantI S_ 1 1#1
  let main_v26 : IVec S_ 1 := (fun x v => Host.reduce IntOp.andi x v reducesTo_S2048x2048_S_d0_1 h_S_) main_v25 main_c_10
  let main_v27 : IVec S_ 1 := andi main_v20 main_v26
  let main_cst_11 : FVec F S_ .f32 := constant S_ .f32 0x7F800000#32
  let main_v28 : FVec F S2048x2048 .f32 := broadcastInDim S2048x2048 ![] bcast_S_S2048x2048 main_cst_11
  let main_v29 : IVec S2048x2048 1 := cmpf .olt main_arg4 main_v28
  let main_cst_12 : FVec F S_ .f32 := constant S_ .f32 0xFF800000#32
  let main_v30 : FVec F S2048x2048 .f32 := broadcastInDim S2048x2048 ![] bcast_S_S2048x2048 main_cst_12
  let main_v31 : IVec S2048x2048 1 := cmpf .ogt main_arg4 main_v30
  let main_v32 : IVec S2048x2048 1 := andi main_v29 main_v31
  fn_part2 (F := F) main_v27 main_v32

def fn {F : FTy → Type} [FloatOps F] (main_arg0 : FVec F S2048x2048 .f32) (main_arg1 : FVec F S2048x2048 .f32) (main_arg2 : FVec F S2048 .f32) (main_arg3 : FVec F S2048x2048 .f32) (main_arg4 : FVec F S2048x2048 .f32) (main_arg5 : FVec F S8x128 .f32) : IVec S_ 1 :=
  let main_cst : FVec F S_ .f32 := constant S_ .f32 0x7F800000#32
  let main_v0 : FVec F S2048x2048 .f32 := broadcastInDim S2048x2048 ![] bcast_S_S2048x2048 main_cst
  let main_v1 : IVec S2048x2048 1 := cmpf .olt main_arg0 main_v0
  let main_cst_0 : FVec F S_ .f32 := constant S_ .f32 0xFF800000#32
  let main_v2 : FVec F S2048x2048 .f32 := broadcastInDim S2048x2048 ![] bcast_S_S2048x2048 main_cst_0
  let main_v3 : IVec S2048x2048 1 := cmpf .ogt main_arg0 main_v2
  let main_v4 : IVec S2048x2048 1 := andi main_v1 main_v3
  let main_c : IVec S_ 1 := constantI S_ 1 1#1
  let main_v5 : IVec S_ 1 := (fun x v => Host.reduce IntOp.andi x v reducesTo_S2048x2048_S_d0_1 h_S_) main_v4 main_c
  let main_c_1 : IVec S_ 1 := constantI S_ 1 1#1
  let main_v6 : IVec S_ 1 := andi main_c_1 main_v5
  let main_cst_2 : FVec F S_ .f32 := constant S_ .f32 0x7F800000#32
  let main_v7 : FVec F S2048x2048 .f32 := broadcastInDim S2048x2048 ![] bcast_S_S2048x2048 main_cst_2
  let main_v8 : IVec S2048x2048 1 := cmpf .olt main_arg1 main_v7
  let main_cst_3 : FVec F S_ .f32 := constant S_ .f32 0xFF800000#32
  let main_v9 : FVec F S2048x2048 .f32 := broadcastInDim S2048x2048 ![] bcast_S_S2048x2048 main_cst_3
  let main_v10 : IVec S2048x2048 1 := cmpf .ogt main_arg1 main_v9
  let main_v11 : IVec S2048x2048 1 := andi main_v8 main_v10
  let main_c_4 : IVec S_ 1 := constantI S_ 1 1#1
  let main_v12 : IVec S_ 1 := (fun x v => Host.reduce IntOp.andi x v reducesTo_S2048x2048_S_d0_1 h_S_) main_v11 main_c_4
  let main_v13 : IVec S_ 1 := andi main_v6 main_v12
  let main_cst_5 : FVec F S_ .f32 := constant S_ .f32 0x7F800000#32
  let main_v14 : FVec F S2048 .f32 := broadcastInDim S2048 ![] bcast_S_S2048 main_cst_5
  let main_v15 : IVec S2048 1 := cmpf .olt main_arg2 main_v14
  fn_part1 (F := F) main_arg2 main_arg3 main_arg4 main_v13 main_v15
-- ==== Pre_finite_loss.lean ====
abbrev S2048x2048 : Shape := ⟨2, ![2048, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part2 {F : FTy → Type} [FloatOps F] (main_v27 : IVec S_ 1) (main_v32 : IVec S2048x2048 1) : IVec S_ 1 :=
  let main_c_13 : IVec S_ 1 := constantI S_ 1 1#1
  let main_v33 : IVec S_ 1 := (fun x v => Host.reduce IntOp.andi x v reducesTo_S2048x2048_S_d0_1 h_S_) main_v32 main_c_13
  let main_v34 : IVec S_ 1 := andi main_v27 main_v33
  main_v34

def fn_part1 {F : FTy → Type} [FloatOps F] (main_arg2 : FVec F S2048 .f32) (main_arg3 : FVec F S2048 .f32) (main_arg4 : FVec F S2048x2048 .f32) (main_v13 : IVec S_ 1) (main_v15 : IVec S2048 1) : IVec S_ 1 :=
  let main_cst_6 : FVec F S_ .f32 := constant S_ .f32 0xFF800000#32
  let main_v16 : FVec F S2048 .f32 := broadcastInDim S2048 ![] bcast_S_S2048 main_cst_6
  let main_v17 : IVec S2048 1 := cmpf .ogt main_arg2 main_v16
  let main_v18 : IVec S2048 1 := andi main_v15 main_v17
  let main_c_7 : IVec S_ 1 := constantI S_ 1 1#1
  let main_v19 : IVec S_ 1 := (fun x v => Host.reduce IntOp.andi x v reducesTo_S2048_S_d0 h_S_) main_v18 main_c_7
  let main_v20 : IVec S_ 1 := andi main_v13 main_v19
  let main_cst_8 : FVec F S_ .f32 := constant S_ .f32 0x7F800000#32
  let main_v21 : FVec F S2048 .f32 := broadcastInDim S2048 ![] bcast_S_S2048 main_cst_8
  let main_v22 : IVec S2048 1 := cmpf .olt main_arg3 main_v21
  let main_cst_9 : FVec F S_ .f32 := constant S_ .f32 0xFF800000#32
  let main_v23 : FVec F S2048 .f32 := broadcastInDim S2048 ![] bcast_S_S2048 main_cst_9
  let main_v24 : IVec S2048 1 := cmpf .ogt main_arg3 main_v23
  let main_v25 : IVec S2048 1 := andi main_v22 main_v24
  let main_c_10 : IVec S_ 1 := constantI S_ 1 1#1
  let main_v26 : IVec S_ 1 := (fun x v => Host.reduce IntOp.andi x v reducesTo_S2048_S_d0 h_S_) main_v25 main_c_10
  let main_v27 : IVec S_ 1 := andi main_v20 main_v26
  let main_cst_11 : FVec F S_ .f32 := constant S_ .f32 0x7F800000#32
  let main_v28 : FVec F S2048x2048 .f32 := broadcastInDim S2048x2048 ![] bcast_S_S2048x2048 main_cst_11
  let main_v29 : IVec S2048x2048 1 := cmpf .olt main_arg4 main_v28
  let main_cst_12 : FVec F S_ .f32 := constant S_ .f32 0xFF800000#32
  let main_v30 : FVec F S2048x2048 .f32 := broadcastInDim S2048x2048 ![] bcast_S_S2048x2048 main_cst_12
  let main_v31 : IVec S2048x2048 1 := cmpf .ogt main_arg4 main_v30
  let main_v32 : IVec S2048x2048 1 := andi main_v29 main_v31
  fn_part2 (F := F) main_v27 main_v32

def fn {F : FTy → Type} [FloatOps F] (main_arg0 : FVec F S2048x2048 .f32) (main_arg1 : FVec F S2048x2048 .f32) (main_arg2 : FVec F S2048 .f32) (main_arg3 : FVec F S2048 .f32) (main_arg4 : FVec F S2048x2048 .f32) : IVec S_ 1 :=
  let main_cst : FVec F S_ .f32 := constant S_ .f32 0x7F800000#32
  let main_v0 : FVec F S2048x2048 .f32 := broadcastInDim S2048x2048 ![] bcast_S_S2048x2048 main_cst
  let main_v1 : IVec S2048x2048 1 := cmpf .olt main_arg0 main_v0
  let main_cst_0 : FVec F S_ .f32 := constant S_ .f32 0xFF800000#32
  let main_v2 : FVec F S2048x2048 .f32 := broadcastInDim S2048x2048 ![] bcast_S_S2048x2048 main_cst_0
  let main_v3 : IVec S2048x2048 1 := cmpf .ogt main_arg0 main_v2
  let main_v4 : IVec S2048x2048 1 := andi main_v1 main_v3
  let main_c : IVec S_ 1 := constantI S_ 1 1#1
  let main_v5 : IVec S_ 1 := (fun x v => Host.reduce IntOp.andi x v reducesTo_S2048x2048_S_d0_1 h_S_) main_v4 main_c
  let main_c_1 : IVec S_ 1 := constantI S_ 1 1#1
  let main_v6 : IVec S_ 1 := andi main_c_1 main_v5
  let main_cst_2 : FVec F S_ .f32 := constant S_ .f32 0x7F800000#32
  let main_v7 : FVec F S2048x2048 .f32 := broadcastInDim S2048x2048 ![] bcast_S_S2048x2048 main_cst_2
  let main_v8 : IVec S2048x2048 1 := cmpf .olt main_arg1 main_v7
  let main_cst_3 : FVec F S_ .f32 := constant S_ .f32 0xFF800000#32
  let main_v9 : FVec F S2048x2048 .f32 := broadcastInDim S2048x2048 ![] bcast_S_S2048x2048 main_cst_3
  let main_v10 : IVec S2048x2048 1 := cmpf .ogt main_arg1 main_v9
  let main_v11 : IVec S2048x2048 1 := andi main_v8 main_v10
  let main_c_4 : IVec S_ 1 := constantI S_ 1 1#1
  let main_v12 : IVec S_ 1 := (fun x v => Host.reduce IntOp.andi x v reducesTo_S2048x2048_S_d0_1 h_S_) main_v11 main_c_4
  let main_v13 : IVec S_ 1 := andi main_v6 main_v12
  let main_cst_5 : FVec F S_ .f32 := constant S_ .f32 0x7F800000#32
  let main_v14 : FVec F S2048 .f32 := broadcastInDim S2048 ![] bcast_S_S2048 main_cst_5
  let main_v15 : IVec S2048 1 := cmpf .olt main_arg2 main_v14
  fn_part1 (F := F) main_arg2 main_arg3 main_arg4 main_v13 main_v15
-- ==== Kernel.lean ====
abbrev S2048x5632 : Shape := ⟨2, ![2048, 5632]⟩
abbrev S3x5632 : Shape := ⟨2, ![3, 5632]⟩
abbrev S5632 : Shape := ⟨1, ![5632]⟩
abbrev S1x5632 : Shape := ⟨2, ![1, 5632]⟩
abbrev S2048x512 : Shape := ⟨2, ![2048, 512]⟩
abbrev S3x512 : Shape := ⟨2, ![3, 512]⟩
abbrev S1x512 : Shape := ⟨2, ![1, 512]⟩
abbrev S512 : Shape := ⟨1, ![512]⟩

abbrev nBuf : Space → Nat
  | .hbm => 10
  | .vmem => 18
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S2048x5632, .bf16⟩
  | .hbm, ⟨5, _⟩ => ⟨S1x5632, .f32⟩
  | .hbm, ⟨6, _⟩ => ⟨S2048x5632, .bf16⟩
  | .hbm, ⟨7, _⟩ => ⟨S2048x5632, .bf16⟩
  | .hbm, ⟨8, _⟩ => ⟨S3x5632, .f32⟩
  | .hbm, ⟨9, _⟩ => ⟨S1x5632, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S3x512, .f32⟩
  | .local _ .vmem, ⟨15, _⟩ => ⟨S3x512, .f32⟩
  | .local _ .vmem, ⟨16, _⟩ => ⟨S1x512, .f32⟩
  | .local _ .vmem, ⟨17, _⟩ => ⟨S1x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩

abbrev nBuf : Space → Nat
  | .hbm => 109
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S2048x5632, .bf16⟩
  | .hbm, ⟨5, _⟩ => ⟨S2048x5632, .f32⟩
  | .hbm, ⟨6, _⟩ => ⟨S2048x5632, .f32⟩
  | .hbm, ⟨7, _⟩ => ⟨S_, .f32⟩
  | .hbm, ⟨8, _⟩ => ⟨S2x5632, .f32⟩
  | .hbm, ⟨9, _⟩ => ⟨S2050x5632, .f32⟩
  | .hbm, ⟨10, _⟩ => ⟨S_, .f32⟩
  | .hbm, ⟨11, _⟩ => ⟨S2x5632, .f32⟩
  | .hbm, ⟨12, _⟩ => ⟨S1x5632, .f32⟩
  | .hbm, ⟨13, _⟩ => ⟨S5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S2048x5632, .f32⟩
  | .hbm, ⟨20, _⟩ => ⟨S2048x5632, .f32⟩
  | .hbm, ⟨21, _⟩ => ⟨S1x5632, .f32⟩
  | .hbm, ⟨22, _⟩ => ⟨S5632, .f32⟩
  | .hbm, ⟨23, _⟩ => ⟨S2048x5632, .f32⟩
  | .hbm, ⟨24, _⟩ => ⟨S1x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S1x5632, .f32⟩
  | .hbm, ⟨29, _⟩ => ⟨S5632, .f32⟩
  | .hbm, ⟨30, _⟩ => ⟨S2048x5632, .f32⟩
  | .hbm, ⟨31, _⟩ => ⟨S1x5632, .f32⟩
  | .hbm, ⟨32, _⟩ => ⟨S2048x5632, .f32⟩
  | .hbm, ⟨33, _⟩ => ⟨S2048x5632, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S_, .f32⟩
  | .hbm, ⟨41, _⟩ => ⟨S2048x5632, .f32⟩
  | .hbm, ⟨42, _⟩ => ⟨S2048x5632, .f32⟩
  | .hbm, ⟨43, _⟩ => ⟨S_, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x5632, .f32⟩
  | .hbm, ⟨58, _⟩ => ⟨S2048x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S5632, .f32⟩
  | .hbm, ⟨64, _⟩ => ⟨S_, .f32⟩
  | .hbm, ⟨65, _⟩ => ⟨S2050x5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S2048x5632, .f32⟩
  | .hbm, ⟨70, _⟩ => ⟨S2048x5632, .f32⟩
  | .hbm, ⟨71, _⟩ => ⟨S2048x5632, .f32⟩
  | .hbm, ⟨72, _⟩ => ⟨S_, .f32⟩
  | .hbm, ⟨73, _⟩ => ⟨S5632, .f32⟩
  | .hbm, ⟨74, _⟩ => ⟨S1x5632, .f32⟩
  | .hbm, ⟨75, _⟩ => ⟨S_, .f32⟩
  | .hbm, ⟨76, _⟩ => ⟨S5632, .f32⟩
  | .hbm, ⟨77, _⟩ => ⟨S_, .f32⟩
  | .hbm, ⟨78, _⟩ => ⟨S2050x5632, .f32⟩
  | .hbm, ⟨79, _⟩ => ⟨S2050x5632, .f32⟩
  | .hbm, ⟨80, _⟩ => ⟨S1x5632, .f32⟩
  | .hbm, ⟨81, _⟩ => ⟨S_, .f32⟩
  | .hbm, ⟨82, _⟩ => ⟨S3x5632, .f32⟩
  | .hbm, ⟨83, _⟩ => ⟨S3x5632, .f32⟩
  | .hbm, ⟨84, _⟩ => ⟨S_, .f32⟩
  | .hbm, ⟨85, _⟩ => ⟨S5632, .f32⟩
  | .hbm, ⟨86, _⟩ => ⟨S1x5632, .f32⟩
  | .hbm, ⟨87, _⟩ => ⟨S_, .f32⟩
  | .hbm, ⟨88, _⟩ => ⟨S5632, .f32⟩
  | .hbm, ⟨89, _⟩ => ⟨S2048x5632, .f32⟩
  | .hbm, ⟨90, _⟩ => ⟨S2048x5632, .f32⟩
  | .hbm, ⟨91, _⟩ => ⟨S2048x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S5632, .f32⟩
  | .hbm, ⟨97, _⟩ => ⟨S_, .f32⟩
  | .hbm, ⟨98, _⟩ => ⟨S2050x5632, .f32⟩
  | .hbm, ⟨99, _⟩ => ⟨S2050x5632, .f32⟩
  | .hbm, ⟨100, _⟩ => ⟨S1x5632, .f32⟩
  | .hbm, ⟨101, _⟩ => ⟨S_, .f32⟩
  | .hbm, ⟨102, _⟩ => ⟨S3x5632, .f32⟩
  | .hbm, ⟨103, _⟩ => ⟨S3x5632, .f32⟩
  | .hbm, ⟨104, _⟩ => ⟨S2x5632, .f32⟩
  | .hbm, ⟨105, _⟩ => ⟨S2048x5632, .f32⟩
  | .hbm, ⟨106, _⟩ => ⟨S2048x5632, .bf16⟩
  | .hbm, ⟨107, _⟩ => ⟨S2048x5632, .bf16⟩
  | .hbm, ⟨108, _⟩ => ⟨S1x5632, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v28_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v28_1 : Ref sig .tc := ⟨.hbm, 46, rfl⟩
abbrev main_v28_0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_1 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_cst_12 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_14 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== DownDx.lean ====
abbrev S2048x2048 : Shape := ⟨2, ![2048, 2048]⟩
abbrev S4x1408x2048 : Shape := ⟨3, ![4, 1408, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S2048x2048 : Shape := ⟨2, ![2048, 2048]⟩
abbrev S4x1408x2048 : Shape := ⟨3, ![4, 1408, 2048]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1408x2048, .bf16⟩
  | .hbm, ⟨2, _⟩ => ⟨S_, .f32⟩
  | .hbm, ⟨3, _⟩ => ⟨S2048x5632, .f32⟩
  | .hbm, ⟨4, _⟩ => ⟨S4x1408x2048, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S2048x5632 : Shape := ⟨2, ![2048, 5632]⟩
abbrev S2048x2048 : Shape := ⟨2, ![2048, 2048]⟩
abbrev S_ : Shape := ⟨0, ![]⟩
abbrev S4x1408x2048 : Shape := ⟨3, ![4, 1408, 2048]⟩
abbrev S5632x2048 : Shape := ⟨2, ![5632, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S4x1408x2048, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateupDx.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x5632, .bf16⟩
  | .hbm, ⟨3, _⟩ => ⟨S4x2048x1408, .bf16⟩
  | .hbm, ⟨4, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GateupDxRefIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x5632, .bf16⟩
  | .hbm, ⟨3, _⟩ => ⟨S4x2048x1408, .bf16⟩
  | .hbm, ⟨4, _⟩ => ⟨S_, .f32⟩
  | .hbm, ⟨5, _⟩ => ⟨S2048x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S2048x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InDw.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S2048x2048 : Shape := ⟨2, ![2048, 2048]⟩
abbrev S2048x5632 : Shape := ⟨2, ![2048, 5632]⟩
abbrev S_ : Shape := ⟨0, ![]⟩
abbrev S4x2048x1408 : Shape := ⟨3, ![4, 2048, 1408]⟩
abbrev S2048x4x1408 : Shape := ⟨3, ![2048, 4, 1408]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S4x2048x1408, .f32⟩
  | .hbm, ⟨4, _⟩ => ⟨S2048x2048, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== WoutDx.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutDxRefIdeal.lean ====
abbrev S2048x2048 : Shape := ⟨2, ![2048, 2048]⟩
abbrev S4x512x2048 : Shape := ⟨3, ![4, 512, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S_, .f32⟩
  | .hbm, ⟨3, _⟩ => ⟨S2048x2048, .f32⟩
  | .hbm, ⟨4, _⟩ => ⟨S4x512x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoutDw.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutDwRefIdeal.lean ====
abbrev S2048x2048 : Shape := ⟨2, ![2048, 2048]⟩
abbrev S_ : Shape := ⟨0, ![]⟩
abbrev S4x512x2048 : Shape := ⟨3, ![4, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S4x512x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjDx.lean ====
abbrev S2048x5632 : Shape := ⟨2, ![2048, 5632]⟩
abbrev S4x2048x1408 : Shape := ⟨3, ![4, 2048, 1408]⟩
abbrev S2048x2048 : Shape := ⟨2, ![2048, 2048]⟩
abbrev S1024x5632 : Shape := ⟨2, ![1024, 5632]⟩
abbrev S4x512x1408 : Shape := ⟨3, ![4, 512, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDxRefIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S_, .f32⟩
  | .hbm, ⟨3, _⟩ => ⟨S2048x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDxResidual.lean ====
abbrev S2048x5632 : Shape := ⟨2, ![2048, 5632]⟩
abbrev S4x2048x1408 : Shape := ⟨3, ![4, 2048, 1408]⟩
abbrev S2048x2048 : Shape := ⟨2, ![2048, 2048]⟩
abbrev S1024x5632 : Shape := ⟨2, ![1024, 5632]⟩
abbrev S4x512x1408 : Shape := ⟨3, ![4, 512, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 4
  | .vmem => 8
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjDxResidualRefIdeal.lean ====
abbrev S2048x5632 : Shape := ⟨2, ![2048, 5632]⟩
abbrev S4x2048x1408 : Shape := ⟨3, ![4, 2048, 1408]⟩
abbrev S2048x2048 : Shape := ⟨2, ![2048, 2048]⟩
abbrev S_ : Shape := ⟨0, ![]⟩
abbrev S2048x4x1408 : Shape := ⟨3, ![2048, 4, 1408]⟩

abbrev nBuf : Space → Nat
  | .hbm => 18
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x5632, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proj.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gate.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S2048x5632, .f32⟩
  | .hbm, ⟨7, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Wout.lean ====
abbrev S2048x2048 : Shape := ⟨2, ![2048, 2048]⟩
abbrev S4x512x2048 : Shape := ⟨3, ![4, 512, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WoutRefIdeal.lean ====
abbrev S2048x2048 : Shape := ⟨2, ![2048, 2048]⟩
abbrev S4x512x2048 : Shape := ⟨3, ![4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x512x2048, .bf16⟩
  | .hbm, ⟨2, _⟩ => ⟨S2048x2048, .f32⟩
  | .hbm, ⟨3, _⟩ => ⟨S4x512x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S2048x5632 : Shape := ⟨2, ![2048, 5632]⟩
abbrev S4x1408x2048 : Shape := ⟨3, ![4, 1408, 2048]⟩
abbrev S5632x2048 : Shape := ⟨2, ![5632, 2048]⟩
abbrev S2048x2048 : Shape := ⟨2, ![2048, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S5632x2048, .bf16⟩
  | .hbm, ⟨3, _⟩ => ⟨S2048x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S2048x5632 : Shape := ⟨2, ![2048, 5632]⟩
abbrev S4x1408x2048 : Shape := ⟨3, ![4, 1408, 2048]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x1408x2048, .bf16⟩
  | .hbm, ⟨2, _⟩ => ⟨S2048x5632, .f32⟩
  | .hbm, ⟨3, _⟩ => ⟨S4x1408x2048, .f32⟩
  | .hbm, ⟨4, _⟩ => ⟨S5632x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamIn.lean ====
abbrev S2x2048x1408 : Shape := ⟨3, ![2, 2048, 1408]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x1408, .f32⟩
  | .hbm, ⟨1, _⟩ => ⟨S2048x1408, .f32⟩
  | .hbm, ⟨2, _⟩ => ⟨S2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S2x2048x1408 : Shape := ⟨3, ![2, 2048, 1408]⟩
abbrev S2048x1408 : Shape := ⟨2, ![2048, 1408]⟩
abbrev S1x2048x1408 : Shape := ⟨3, ![1, 2048, 1408]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2048x1408, .f32⟩
  | .hbm, ⟨2, _⟩ => ⟨S2048x1408, .f32⟩
  | .hbm, ⟨3, _⟩ => ⟨S2x2048x1408, .f32⟩
  | .hbm, ⟨4, _⟩ => ⟨S2x2048x1408, .f32⟩
  | .hbm, ⟨5, _⟩ => ⟨S1x2048x1408, .f32⟩
  | .hbm, ⟨6, _⟩ => ⟨S1x2048x1408, .f32⟩
  | .hbm, ⟨7, _⟩ => ⟨S2x2048x1408, .f32⟩
  | .hbm, ⟨8, _⟩ => ⟨S_, .f32⟩
  | .hbm, ⟨9, _⟩ => ⟨S2x2048x1408, .f32⟩
  | .hbm, ⟨10, _⟩ => ⟨S2x2048x1408, .f32⟩
  | .hbm, ⟨11, _⟩ => ⟨S_, .f32⟩
  | .hbm, ⟨12, _⟩ => ⟨S2x2048x1408, .f32⟩
  | .hbm, ⟨13, _⟩ => ⟨S2x2048x1408, .f32⟩
  | .hbm, ⟨14, _⟩ => ⟨S2x2048x1408, .f32⟩
  | .hbm, ⟨15, _⟩ => ⟨S_, .f32⟩
  | .hbm, ⟨16, _⟩ => ⟨S2x2048x1408, .f32⟩
  | .hbm, ⟨17, _⟩ => ⟨S2x2048x1408, .f32⟩
  | .hbm, ⟨18, _⟩ => ⟨S2x2048x1408, .f32⟩
  | .hbm, ⟨19, _⟩ => ⟨S_, .f32⟩
  | .hbm, ⟨20, _⟩ => ⟨S2x2048x1408, .f32⟩
  | .hbm, ⟨21, _⟩ => ⟨S2x2048x1408, .f32⟩
  | .hbm, ⟨22, _⟩ => ⟨S2x2048x1408, .f32⟩
  | .hbm, ⟨23, _⟩ => ⟨S_, .f32⟩
  | .hbm, ⟨24, _⟩ => ⟨S2x2048x1408, .f32⟩
  | .hbm, ⟨25, _⟩ => ⟨S2x2048x1408, .f32⟩
  | .hbm, ⟨26, _⟩ => ⟨S_, .f32⟩
  | .hbm, ⟨27, _⟩ => ⟨S2x2048x1408, .f32⟩
  | .hbm, ⟨28, _⟩ => ⟨S2x2048x1408, .f32⟩
  | .hbm, ⟨29, _⟩ => ⟨S2x2048x1408, .f32⟩
  | .hbm, ⟨30, _⟩ => ⟨S_, .f32⟩
  | .hbm, ⟨31, _⟩ => ⟨S2x2048x1408, .f32⟩
  | .hbm, ⟨32, _⟩ => ⟨S2x2048x1408, .f32⟩
  | .hbm, ⟨33, _⟩ => ⟨S2x2048x1408, .f32⟩
  | .hbm, ⟨34, _⟩ => ⟨S_, .f32⟩
  | .hbm, ⟨35, _⟩ => ⟨S2x2048x1408, .f32⟩
  | .hbm, ⟨36, _⟩ => ⟨S2x2048x1408, .f32⟩
  | .hbm, ⟨37, _⟩ => ⟨S2x2048x1408, .f32⟩
  | .hbm, ⟨38, _⟩ => ⟨S_, .f32⟩
  | .hbm, ⟨39, _⟩ => ⟨S2x2048x1408, .f32⟩
  | .hbm, ⟨40, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamOut.lean ====
abbrev S2x512x2048 : Shape := ⟨3, ![2, 512, 2048]⟩
abbrev S512x2048 : Shape := ⟨2, ![512, 2048]⟩
abbrev S1x64x2048 : Shape := ⟨3, ![1, 64, 2048]⟩
abbrev S64x2048 : Shape := ⟨2, ![64, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x64x2048, .f32⟩
  | .local _ .vmem, ⟨1, _⟩ => ⟨S1x64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x64x2048, .f32⟩
  | .local _ .vmem, ⟨7, _⟩ => ⟨S1x64x2048, .f32⟩
  | .local _ .vmem, ⟨8, _⟩ => ⟨S1x64x2048, .f32⟩
  | .local _ .vmem, ⟨9, _⟩ => ⟨S1x64x2048, .f32⟩
  | .local _ .vmem, ⟨10, _⟩ => ⟨S1x64x2048, .f32⟩
  | .local _ .vmem, ⟨11, _⟩ => ⟨S1x64x2048, .f32⟩
  | .local _ .vmem, ⟨12, _⟩ => ⟨S1x64x2048, .f32⟩
  | .local _ .vmem, ⟨13, _⟩ => ⟨S1x64x2048, .f32⟩
  | .local _ .vmem, ⟨14, _⟩ => ⟨S1x64x2048, .f32⟩
  | .local _ .vmem, ⟨15, _⟩ => ⟨S1x64x2048, .f32⟩
  | .local _ .vmem, ⟨16, _⟩ => ⟨S1x64x2048, .f32⟩
  | .local _ .vmem, ⟨17, _⟩ => ⟨S1x64x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S512x2048, .f32⟩
  | .hbm, ⟨2, _⟩ => ⟨S512x2048, .f32⟩
  | .hbm, ⟨3, _⟩ => ⟨S2x512x2048, .f32⟩
  | .hbm, ⟨4, _⟩ => ⟨S2x512x2048, .f32⟩
  | .hbm, ⟨5, _⟩ => ⟨S1x512x2048, .f32⟩
  | .hbm, ⟨6, _⟩ => ⟨S1x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamDown.lean ====
abbrev S2x1408x2048 : Shape := ⟨3, ![2, 1408, 2048]⟩
abbrev S1408x2048 : Shape := ⟨2, ![1408, 2048]⟩
abbrev S1x176x2048 : Shape := ⟨3, ![1, 176, 2048]⟩
abbrev S176x2048 : Shape := ⟨2, ![176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x1408x2048 : Shape := ⟨3, ![2, 1408, 2048]⟩
abbrev S1408x2048 : Shape := ⟨2, ![1408, 2048]⟩
abbrev S1x1408x2048 : Shape := ⟨3, ![1, 1408, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S1408x2048, .f32⟩
  | .hbm, ⟨2, _⟩ => ⟨S1408x2048, .f32⟩
  | .hbm, ⟨3, _⟩ => ⟨S2x1408x2048, .f32⟩
  | .hbm, ⟨4, _⟩ => ⟨S2x1408x2048, .f32⟩
  | .hbm, ⟨5, _⟩ => ⟨S1x1408x2048, .f32⟩
  | .hbm, ⟨6, _⟩ => ⟨S1x1408x2048, .f32⟩
  | .hbm, ⟨7, _⟩ => ⟨S2x1408x2048, .f32⟩
  | .hbm, ⟨8, _⟩ => ⟨S_, .f32⟩
  | .hbm, ⟨9, _⟩ => ⟨S2x1408x2048, .f32⟩
  | .hbm, ⟨10, _⟩ => ⟨S2x1408x2048, .f32⟩
  | .hbm, ⟨11, _⟩ => ⟨S_, .f32⟩
  | .hbm, ⟨12, _⟩ => ⟨S2x1408x2048, .f32⟩
  | .hbm, ⟨13, _⟩ => ⟨S2x1408x2048, .f32⟩
  | .hbm, ⟨14, _⟩ => ⟨S2x1408x2048, .f32⟩
  | .hbm, ⟨15, _⟩ => ⟨S_, .f32⟩
  | .hbm, ⟨16, _⟩ => ⟨S2x1408x2048, .f32⟩
  | .hbm, ⟨17, _⟩ => ⟨S2x1408x2048, .f32⟩
  | .hbm, ⟨18, _⟩ => ⟨S2x1408x2048, .f32⟩
  | .hbm, ⟨19, _⟩ => ⟨S_, .f32⟩
  | .hbm, ⟨20, _⟩ => ⟨S2x1408x2048, .f32⟩
  | .hbm, ⟨21, _⟩ => ⟨S2x1408x2048, .f32⟩
  | .hbm, ⟨22, _⟩ => ⟨S2x1408x2048, .f32⟩
  | .hbm, ⟨23, _⟩ => ⟨S_, .f32⟩
  | .hbm, ⟨24, _⟩ => ⟨S2x1408x2048, .f32⟩
  | .hbm, ⟨25, _⟩ => ⟨S2x1408x2048, .f32⟩
  | .hbm, ⟨26, _⟩ => ⟨S_, .f32⟩
  | .hbm, ⟨27, _⟩ => ⟨S2x1408x2048, .f32⟩
  | .hbm, ⟨28, _⟩ => ⟨S2x1408x2048, .f32⟩
  | .hbm, ⟨29, _⟩ => ⟨S2x1408x2048, .f32⟩
  | .hbm, ⟨30, _⟩ => ⟨S_, .f32⟩
  | .hbm, ⟨31, _⟩ => ⟨S2x1408x2048, .f32⟩
  | .hbm, ⟨32, _⟩ => ⟨S2x1408x2048, .f32⟩
  | .hbm, ⟨33, _⟩ => ⟨S2x1408x2048, .f32⟩
  | .hbm, ⟨34, _⟩ => ⟨S_, .f32⟩
  | .hbm, ⟨35, _⟩ => ⟨S2x1408x2048, .f32⟩
  | .hbm, ⟨36, _⟩ => ⟨S2x1408x2048, .f32⟩
  | .hbm, ⟨37, _⟩ => ⟨S2x1408x2048, .f32⟩
  | .hbm, ⟨38, _⟩ => ⟨S_, .f32⟩
  | .hbm, ⟨39, _⟩ => ⟨S2x1408x2048, .f32⟩
  | .hbm, ⟨40, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamSmall.lean ====
abbrev S296x128 : Shape := ⟨2, ![296, 128]⟩

abbrev nBuf : Space → Nat
  | .hbm => 7
  | .vmem => 7
  | .smem => 0
  | _ => 0

abbrev bufTy : (tb : Table) → Fin (tcTables nBuf tb) → BufTy
  | .hbm, ⟨0, _⟩ => ⟨S296x128, .f32⟩
  | .hbm, ⟨1, _⟩ => ⟨S296x128, .f32⟩
  | .hbm, ⟨2, _⟩ => ⟨S296x128, .f32⟩
  | .hbm, ⟨3, _⟩ => ⟨S296x128, .f32⟩
  | .hbm, ⟨4, _⟩ => ⟨S296x128, .f32⟩
  | .hbm, ⟨5, _⟩ => ⟨S296x128, .f32⟩
  | .hbm, ⟨6, _⟩ => ⟨S296x128, .f32⟩
  | .local _ .vmem, ⟨0, _⟩ => ⟨S296x128, .f32⟩
  | .local _ .vmem, ⟨1, _⟩ => ⟨S296x128, .f32⟩
  | .local _ .vmem, ⟨2, _⟩ => ⟨S296x128, .f32⟩
  | .local _ .vmem, ⟨3, _⟩ => ⟨S296x128, .f32⟩
  | .local _ .vmem, ⟨4, _⟩ => ⟨S296x128, .f32⟩
  | .local _ .vmem, ⟨5, _⟩ => ⟨S296x128, .f32⟩
  | .local _ .vmem, ⟨6, _⟩ => ⟨S296x128, .f32⟩
  | _, _ => ⟨S296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S296x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S296x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S296x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S296x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S296x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S296x128 : Shape := ⟨2, ![296, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S296x128, .f32⟩
  | .hbm, ⟨1, _⟩ => ⟨S296x128, .f32⟩
  | .hbm, ⟨2, _⟩ => ⟨S296x128, .f32⟩
  | .hbm, ⟨3, _⟩ => ⟨S296x128, .f32⟩
  | .hbm, ⟨4, _⟩ => ⟨S_, .f32⟩
  | .hbm, ⟨5, _⟩ => ⟨S296x128, .f32⟩
  | .hbm, ⟨6, _⟩ => ⟨S296x128, .f32⟩
  | .hbm, ⟨7, _⟩ => ⟨S_, .f32⟩
  | .hbm, ⟨8, _⟩ => ⟨S296x128, .f32⟩
  | .hbm, ⟨9, _⟩ => ⟨S296x128, .f32⟩
  | .hbm, ⟨10, _⟩ => ⟨S296x128, .f32⟩
  | .hbm, ⟨11, _⟩ => ⟨S_, .f32⟩
  | .hbm, ⟨12, _⟩ => ⟨S296x128, .f32⟩
  | .hbm, ⟨13, _⟩ => ⟨S296x128, .f32⟩
  | .hbm, ⟨14, _⟩ => ⟨S296x128, .f32⟩
  | .hbm, ⟨15, _⟩ => ⟨S_, .f32⟩
  | .hbm, ⟨16, _⟩ => ⟨S296x128, .f32⟩
  | .hbm, ⟨17, _⟩ => ⟨S296x128, .f32⟩
  | .hbm, ⟨18, _⟩ => ⟨S296x128, .f32⟩
  | .hbm, ⟨19, _⟩ => ⟨S_, .f32⟩
  | .hbm, ⟨20, _⟩ => ⟨S296x128, .f32⟩
  | .hbm, ⟨21, _⟩ => ⟨S296x128, .f32⟩
  | .hbm, ⟨22, _⟩ => ⟨S_, .f32⟩
  | .hbm, ⟨23, _⟩ => ⟨S296x128, .f32⟩
  | .hbm, ⟨24, _⟩ => ⟨S296x128, .f32⟩
  | .hbm, ⟨25, _⟩ => ⟨S296x128, .f32⟩
  | .hbm, ⟨26, _⟩ => ⟨S_, .f32⟩
  | .hbm, ⟨27, _⟩ => ⟨S296x128, .f32⟩
  | .hbm, ⟨28, _⟩ => ⟨S296x128, .f32⟩
  | .hbm, ⟨29, _⟩ => ⟨S296x128, .f32⟩
  | .hbm, ⟨30, _⟩ => ⟨S_, .f32⟩
  | .hbm, ⟨31, _⟩ => ⟨S296x128, .f32⟩
  | .hbm, ⟨32, _⟩ => ⟨S296x128, .f32⟩
  | .hbm, ⟨33, _⟩ => ⟨S296x128, .f32⟩
  | .hbm, ⟨34, _⟩ => ⟨S_, .f32⟩
  | .hbm, ⟨35, _⟩ => ⟨S296x128, .f32⟩
  | .hbm, ⟨36, _⟩ => ⟨S296x128, .f32⟩
  | _, _ => ⟨S296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x496x128 : Shape := ⟨3, ![8, 496, 128]⟩
abbrev S496x128 : Shape := ⟨2, ![496, 128]⟩
abbrev S1x496x128 : Shape := ⟨3, ![1, 496, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x496x128, .f32⟩
  | .hbm, ⟨1, _⟩ => ⟨S496x128, .f32⟩
  | .local _ .vmem, ⟨0, _⟩ => ⟨S8x496x128, .f32⟩
  | .local _ .vmem, ⟨1, _⟩ => ⟨S496x128, .f32⟩
  | _, _ => ⟨S8x496x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x496x128 : Shape := ⟨3, ![8, 496, 128]⟩
abbrev S_ : Shape := ⟨0, ![]⟩
abbrev S496x128 : Shape := ⟨2, ![496, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x496x128, .f32⟩
  | .hbm, ⟨1, _⟩ => ⟨S_, .f32⟩
  | .hbm, ⟨2, _⟩ => ⟨S496x128, .f32⟩
  | _, _ => ⟨S8x496x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvGate.lean ====
abbrev S2048x5632 : Shape := ⟨2, ![2048, 5632]⟩
abbrev S3x5632 : Shape := ⟨2, ![3, 5632]⟩
abbrev S5632 : Shape := ⟨1, ![5632]⟩
abbrev S1x5632 : Shape := ⟨2, ![1, 5632]⟩
abbrev S2048x512 : Shape := ⟨2, ![2048, 512]⟩
abbrev S3x512 : Shape := ⟨2, ![3, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S1x5632, .f32⟩
  | .hbm, ⟨5, _⟩ => ⟨S2048x5632, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvGateRefIdeal.lean ====
abbrev S2048x5632 : Shape := ⟨2, ![2048, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩

abbrev nBuf : Space → Nat
  | .hbm => 43
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S3x5632, .f32⟩
  | .hbm, ⟨3, _⟩ => ⟨S5632, .f32⟩
  | .hbm, ⟨4, _⟩ => ⟨S2048x5632, .f32⟩
  | .hbm, ⟨5, _⟩ => ⟨S2048x5632, .f32⟩
  | .hbm, ⟨6, _⟩ => ⟨S_, .f32⟩
  | .hbm, ⟨7, _⟩ => ⟨S2x5632, .f32⟩
  | .hbm, ⟨8, _⟩ => ⟨S2050x5632, .f32⟩
  | .hbm, ⟨9, _⟩ => ⟨S1x5632, .f32⟩
  | .hbm, ⟨10, _⟩ => ⟨S5632, .f32⟩
  | .hbm, ⟨11, _⟩ => ⟨S2048x5632, .f32⟩
  | .hbm, ⟨12, _⟩ => ⟨S1x5632, .f32⟩
  | .hbm, ⟨13, _⟩ => ⟨S2048x5632, .f32⟩
  | .hbm, ⟨14, _⟩ => ⟨S2048x5632, .f32⟩
  | .hbm, ⟨15, _⟩ => ⟨S1x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S2048x5632, .f32⟩
  | .hbm, ⟨21, _⟩ => ⟨S1x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S2048x5632, .f32⟩
  | .hbm, ⟨28, _⟩ => ⟨S1x5632, .f32⟩
  | .hbm, ⟨29, _⟩ => ⟨S2048x5632, .f32⟩
  | .hbm, ⟨30, _⟩ => ⟨S2048x5632, .f32⟩
  | .hbm, ⟨31, _⟩ => ⟨S2048x5632, .f32⟩
  | .hbm, ⟨32, _⟩ => ⟨S2048x5632, .f32⟩
  | .hbm, ⟨33, _⟩ => ⟨S2048x5632, .f32⟩
  | .hbm, ⟨34, _⟩ => ⟨S_, .f32⟩
  | .hbm, ⟨35, _⟩ => ⟨S2048x5632, .f32⟩
  | .hbm, ⟨36, _⟩ => ⟨S2048x5632, .f32⟩
  | .hbm, ⟨37, _⟩ => ⟨S_, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Ln.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Window.lean ====
abbrev S2048x5632 : Shape := ⟨2, ![2048, 5632]⟩
abbrev S6 : Shape := ⟨1, ![6]⟩
abbrev S2048x2048 : Shape := ⟨2, ![2048, 2048]⟩
abbrev S6x1x1 : Shape := ⟨3, ![6, 1, 1]⟩
abbrev S6x8x128 : Shape := ⟨3, ![6, 8, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S6x2048x128 : Shape := ⟨3, ![6, 2048, 128]⟩
abbrev S1x8x128 : Shape := ⟨3, ![1, 8, 128]⟩
abbrev S1x2048x128 : Shape := ⟨3, ![1, 2048, 128]⟩
abbrev S1x1x1 : Shape := ⟨3, ![1, 1, 1]⟩
abbrev S1x1 : Shape := ⟨2, ![1, 1]⟩
abbrev S16x128x128 : Shape := ⟨3, ![16, 128, 128]⟩
abbrev S16x128 : Shape := ⟨2, ![16, 128]⟩
abbrev S16x128x1 : Shape := ⟨3, ![16, 128, 1]⟩
abbrev S1x128x128 : Shape := ⟨3, ![1, 128, 128]⟩
abbrev S15x128x128 : Shape := ⟨3, ![15, 128, 128]⟩

abbrev nBuf : Space → Nat
  | .hbm => 42
  | .vmem => 21
  | .smem => 0
  | _ => 0

abbrev bufTy : (tb : Table) → Fin (tcTables nBuf tb) → BufTy
  | .hbm, ⟨0, _⟩ => ⟨S2048x5632, .f32⟩
  | .hbm, ⟨1, _⟩ => ⟨S6, .f32⟩
  | .hbm, ⟨2, _⟩ => ⟨S2048x2048, .f32⟩
  | .hbm, ⟨3, _⟩ => ⟨S2048x2048, .bf16⟩
  | .hbm, ⟨4, _⟩ => ⟨S6x1x1, .f32⟩
  | .hbm, ⟨5, _⟩ => ⟨S6x8x128, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S_, .f32⟩
  | .hbm, ⟨29, _⟩ => ⟨S2048x96, .f32⟩
  | .hbm, ⟨30, _⟩ => ⟨S_, .f32⟩
  | .hbm, ⟨31, _⟩ => ⟨S2048x16, .f32⟩
  | .hbm, ⟨32, _⟩ => ⟨S_, .f32⟩
  | .hbm, ⟨33, _⟩ => ⟨S2048x96, .f32⟩
  | .hbm, ⟨34, _⟩ => ⟨S2048x96, .f32⟩
  | .hbm, ⟨35, _⟩ => ⟨S2048x128, .f32⟩
  | .hbm, ⟨36, _⟩ => ⟨S2048x128, .f32⟩
  | .hbm, ⟨37, _⟩ => ⟨S2048x16, .f32⟩
  | .hbm, ⟨38, _⟩ => ⟨S2048x128, .f32⟩
  | .hbm, ⟨39, _⟩ => ⟨S2048x2048, .f32⟩
  | .hbm, ⟨40, _⟩ => ⟨S2048x2048, .bf16⟩
  | .hbm, ⟨41, _⟩ => ⟨S6x2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S1x8x128, .f32⟩
  | .local _ .vmem, ⟨10, _⟩ => ⟨S1x8x128, .f32⟩
  | .local _ .vmem, ⟨11, _⟩ => ⟨S2048x128, .f32⟩
  | .local _ .vmem, ⟨12, _⟩ => ⟨S2048x128, .f32⟩
  | .local _ .vmem, ⟨13, _⟩ => ⟨S2048x128, .bf16⟩
  | .local _ .vmem, ⟨14, _⟩ => ⟨S2048x128, .bf16⟩
  | .local _ .vmem, ⟨15, _⟩ => ⟨S1x2048x128, .f32⟩
  | .local _ .vmem, ⟨16, _⟩ => ⟨S1x2048x128, .f32⟩
  | .local _ .vmem, ⟨17, _⟩ => ⟨S2048x128, .f32⟩
  | .local _ .vmem, ⟨18, _⟩ => ⟨S2048x128, .f32⟩
  | .local _ .vmem, ⟨19, _⟩ => ⟨S1x2048x128, .f32⟩
  | .local _ .vmem, ⟨20, _⟩ => ⟨S1x2048x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28_0 : Ref sig .tc := ⟨.hbm, 39, rfl⟩
abbrev main_v28_1 : Ref sig .tc := ⟨.hbm, 40, rfl⟩
abbrev main_v28_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c34_i32 : BitVec 32 := 34#32
  let v0 : BitVec 32 := Scalar.addi c34_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c40_i32 : BitVec 32 := 40#32
  let v17 : BitVec 32 := Scalar.addi c40_i32 v16
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c42_i32 : BitVec 32 := 42#32
  let v17 : BitVec 32 := Scalar.addi c42_i32 v16
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WindowRefIdeal.lean ====
abbrev S2048x5632 : Shape := ⟨2, ![2048, 5632]⟩
abbrev S6 : Shape := ⟨1, ![6]⟩
abbrev S2048x2048 : Shape := ⟨2, ![2048, 2048]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x256 : Shape := ⟨2, ![2048, 256]⟩
abbrev S2048x2x128 : Shape := ⟨3, ![2048, 2, 128]⟩
abbrev S2x2048x128 : Shape := ⟨3, ![2, 2048, 128]⟩
abbrev S2x2048x32 : Shape := ⟨3, ![2, 2048, 32]⟩
abbrev S2x2048x16 : Shape := ⟨3, ![2, 2048, 16]⟩
abbrev S1x2048x16 : Shape := ⟨3, ![1, 2048, 16]⟩
abbrev S2x2048x96 : Shape := ⟨3, ![2, 2048, 96]⟩
abbrev S2x3x2048x128 : Shape := ⟨4, ![2, 3, 2048, 128]⟩
abbrev S6x2048x128 : Shape := ⟨3, ![6, 2048, 128]⟩
abbrev S2048x768 : Shape := ⟨2, ![2048, 768]⟩
abbrev S2048x6x128 : Shape := ⟨3, ![2048, 6, 128]⟩
abbrev S6x2048x32 : Shape := ⟨3, ![6, 2048, 32]⟩
abbrev S6x2048x16 : Shape := ⟨3, ![6, 2048, 16]⟩
abbrev S6x2048x96 : Shape := ⟨3, ![6, 2048, 96]⟩
abbrev S6x16x128x128 : Shape := ⟨4, ![6, 16, 128, 128]⟩
abbrev S6x17x128x128 : Shape := ⟨4, ![6, 17, 128, 128]⟩
abbrev S6x16x256x128 : Shape := ⟨4, ![6, 16, 256, 128]⟩
abbrev S6x16x128x256 : Shape := ⟨4, ![6, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S6x16x128 : Shape := ⟨3, ![6, 16, 128]⟩
abbrev S6x1x1 : Shape := ⟨3, ![6, 1, 1]⟩
abbrev S6x16x128x1 : Shape := ⟨4, ![6, 16, 128, 1]⟩
abbrev S6x2048 : Shape := ⟨2, ![6, 2048]⟩
abbrev S2048x1280 : Shape := ⟨2, ![2048, 1280]⟩
abbrev S6x2048x1 : Shape := ⟨3, ![6, 2048, 1]⟩

abbrev nBuf : Space → Nat
  | .hbm => 169
  | .vmem => 0
  | .smem => 0
  | _ => 0

abbrev hbmTy0_0 (i : Nat) : BufTy := match i % 128 with
  | 0 => ⟨S2048x5632, .f32⟩
  | 1 => ⟨S6, .f32⟩
  | 2 => ⟨S2048x2048, .f32⟩
  | 3 => ⟨S2048x2048, .bf16⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S2048, .f32⟩
  | 19 => ⟨S2048x1, .f32⟩
  | 20 => ⟨S1x16, .f32⟩
  | 21 => ⟨S2048x16, .f32⟩
  | 22 => ⟨S2048x16, .f32⟩
  | 23 => ⟨S2048x16, .f32⟩
  | 24 => ⟨S2048x16, .f32⟩
  | 25 => ⟨S2048x16, .f32⟩
  | 26 => ⟨S2048x256, .f32⟩
  | 27 => ⟨S2048x2x128, .f32⟩
  | 28 => ⟨S2x2048x128, .f32⟩
  | 29 => ⟨S2x2048x32, .f32⟩
  | 30 => ⟨S2x2048x16, .f32⟩
  | 31 => ⟨S2x2048x16, .f32⟩
  | 32 => ⟨S1x2048x16, .f32⟩
  | 33 => ⟨S2x2048x16, .f32⟩
  | 34 => ⟨S2x2048x16, .f32⟩
  | 35 => ⟨S1x2048x16, .f32⟩
  | 36 => ⟨S2x2048x16, .f32⟩
  | 37 => ⟨S2x2048x16, .f32⟩
  | 38 => ⟨S2x2048x16, .f32⟩
  | 39 => ⟨S1x2048x16, .f32⟩
  | 40 => ⟨S2x2048x16, .f32⟩
  | 41 => ⟨S2x2048x16, .f32⟩
  | 42 => ⟨S1x2048x16, .f32⟩
  | 43 => ⟨S2x2048x16, .f32⟩
  | 44 => ⟨S2x2048x16, .f32⟩
  | 45 => ⟨S2x2048x16, .f32⟩
  | 46 => ⟨S2x2048x32, .f32⟩
  | 47 => ⟨S2x2048x96, .f32⟩
  | 48 => ⟨S2x2048x128, .f32⟩
  | 49 => ⟨S2x3x2048x128, .f32⟩
  | 50 => ⟨S6x2048x128, .f32⟩
  | 51 => ⟨S2048x256, .f32⟩
  | 52 => ⟨S2048x2x128, .f32⟩
  | 53 => ⟨S2x2048x128, .f32⟩
  | 54 => ⟨S2x3x2048x128, .f32⟩
  | 55 => ⟨S6x2048x128, .f32⟩
  | 56 => ⟨S2048x768, .f32⟩
  | 57 => ⟨S2048x6x128, .f32⟩
  | 58 => ⟨S6x2048x128, .f32⟩
  | 59 => ⟨S6x2048x32, .f32⟩
  | 60 => ⟨S6x2048x16, .f32⟩
  | 61 => ⟨S6x2048x16, .f32⟩
  | 62 => ⟨S1x2048x16, .f32⟩
  | 63 => ⟨S6x2048x16, .f32⟩
  | 64 => ⟨S6x2048x16, .f32⟩
  | 65 => ⟨S1x2048x16, .f32⟩
  | 66 => ⟨S6x2048x16, .f32⟩
  | 67 => ⟨S6x2048x16, .f32⟩
  | 68 => ⟨S6x2048x16, .f32⟩
  | 69 => ⟨S1x2048x16, .f32⟩
  | 70 => ⟨S6x2048x16, .f32⟩
  | 71 => ⟨S6x2048x16, .f32⟩
  | 72 => ⟨S1x2048x16, .f32⟩
  | 73 => ⟨S6x2048x16, .f32⟩
  | 74 => ⟨S6x2048x16, .f32⟩
  | 75 => ⟨S6x2048x16, .f32⟩
  | 76 => ⟨S6x2048x32, .f32⟩
  | 77 => ⟨S6x2048x96, .f32⟩
  | 78 => ⟨S6x2048x128, .f32⟩
  | 79 => ⟨S6x16x128x128, .f32⟩
  | 80 => ⟨S6x16x128x128, .f32⟩
  | 81 => ⟨S6x16x128x128, .f32⟩
  | 82 => ⟨S_, .i32⟩
  | 83 => ⟨S_, .f32⟩
  | 84 => ⟨S6x17x128x128, .f32⟩
  | 85 => ⟨S6x16x128x128, .f32⟩
  | 86 => ⟨S6x16x256x128, .f32⟩
  | 87 => ⟨S_, .i32⟩
  | 88 => ⟨S_, .f32⟩
  | 89 => ⟨S6x17x128x128, .f32⟩
  | 90 => ⟨S6x16x128x128, .f32⟩
  | 91 => ⟨S6x16x256x128, .f32⟩
  | 92 => ⟨S6x16x128x256, .f32⟩
  | 93 => ⟨S_, .f32⟩
  | 94 => ⟨S6x16x128x256, .f32⟩
  | 95 => ⟨S6x16x128x256, .f32⟩
  | 96 => ⟨S128, .i32⟩
  | 97 => ⟨S128x1, .i32⟩
  | 98 => ⟨S256, .i32⟩
  | 99 => ⟨S1x256, .i32⟩
  | 100 => ⟨S_, .i32⟩
  | 101 => ⟨S128x1, .i32⟩
  | 102 => ⟨S128x1, .i32⟩
  | 103 => ⟨S128x256, .i32⟩
  | 104 => ⟨S128x256, .i32⟩
  | 105 => ⟨S128x256, .i32⟩
  | 106 => ⟨S16, .i32⟩
  | 107 => ⟨S16x1x1, .i32⟩
  | 108 => ⟨S_, .i32⟩
  | 109 => ⟨S16x1x1, .i32⟩
  | 110 => ⟨S16x1x1, .i32⟩
  | 111 => ⟨S_, .i32⟩
  | 112 => ⟨S16x1x1, .i32⟩
  | 113 => ⟨S16x1x1, .i32⟩
  | 114 => ⟨S1x1x256, .i32⟩
  | 115 => ⟨S16x1x256, .i32⟩
  | 116 => ⟨S16x1x256, .i32⟩
  | 117 => ⟨S16x1x256, .i32⟩
  | 118 => ⟨S_, .i32⟩
  | 119 => ⟨S128x256, .i32⟩
  | 120 => ⟨S128x256, .i1⟩
  | 121 => ⟨S_, .i32⟩
  | 122 => ⟨S128x256, .i32⟩
  | 123 => ⟨S128x256, .i1⟩
  | 124 => ⟨S128x256, .i1⟩
  | 125 => ⟨S1x128x256, .i1⟩
  | 126 => ⟨S_, .i32⟩
  | 127 => ⟨S16x1x256, .i32⟩
  | _ => ⟨S2048x5632, .f32⟩

abbrev hbmTy0_1 (i : Nat) : BufTy := match i % 128 with
  | 0 => ⟨S16x1x256, .i1⟩
  | 1 => ⟨S16x128x256, .i1⟩
  | 2 => ⟨S16x128x256, .i1⟩
  | 3 => ⟨S16x128x256, .i1⟩
  | 4 => ⟨S_, .f32⟩
  | 5 => ⟨S_, .f32⟩
  | 6 => ⟨S6x16x128x256, .i1⟩
  | 7 => ⟨S6x16x128x256, .f32⟩
  | 8 => ⟨S6x16x128x256, .f32⟩
  | 9 => ⟨S_, .f32⟩
  | 10 => ⟨S6x16x128, .f32⟩
  | 11 => ⟨S6x1x1, .f32⟩
  | 12 => ⟨S6x16x128, .f32⟩
  | 13 => ⟨S6x16x128, .f32⟩
  | 14 => ⟨S6x16x128x1, .f32⟩
  | 15 => ⟨S6x16x128x256, .f32⟩
  | 16 => ⟨S6x16x128x256, .f32⟩
  | 17 => ⟨S6x16x128x256, .f32⟩
  | 18 => ⟨S_, .f32⟩
  | 19 => ⟨S6x16x128, .f32⟩
  | 20 => ⟨S6x16x128, .f32⟩
  | 21 => ⟨S6x16x128, .f32⟩
  | 22 => ⟨S6x16x128, .f32⟩
  | 23 => ⟨S6x16x128, .f32⟩
  | 24 => ⟨S6x16x128x128, .f32⟩
  | 25 => ⟨S6x16x128x1, .f32⟩
  | 26 => ⟨S6x16x128x128, .f32⟩
  | 27 => ⟨S6x16x128x128, .f32⟩
  | 28 => ⟨S6x16x128, .f32⟩
  | 29 => ⟨S6x16x128, .f32⟩
  | 30 => ⟨S6x2048x128, .f32⟩
  | 31 => ⟨S6x2048, .f32⟩
  | 32 => ⟨S2048x6x128, .f32⟩
  | 33 => ⟨S2048x768, .f32⟩
  | 34 => ⟨S2048x1280, .f32⟩
  | 35 => ⟨S2048x2048, .f32⟩
  | 36 => ⟨S2048x1280, .bf16⟩
  | 37 => ⟨S2048x768, .bf16⟩
  | 38 => ⟨S2048x2048, .bf16⟩
  | 39 => ⟨S6x2048x1, .f32⟩
  | 40 => ⟨S6x2048x128, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_c : Ref sig .tc := ⟨.hbm, 82, rfl⟩
abbrev main_call0_v0 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_c_3 : Ref sig .tc := ⟨.hbm, 87, rfl⟩
abbrev main_call1_v0 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_4 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_c_5 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_c_6 : Ref sig .tc := ⟨.hbm, 108, rfl⟩
abbrev main_v94 : Ref sig .tc := ⟨.hbm, 109, rfl⟩
abbrev main_v95 : Ref sig .tc := ⟨.hbm, 110, rfl⟩
abbrev main_c_7 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_c_8 : Ref sig .tc := ⟨.hbm, 118, rfl⟩
abbrev main_v102 : Ref sig .tc := ⟨.hbm, 119, rfl⟩
abbrev main_v103 : Ref sig .tc := ⟨.hbm, 120, rfl⟩
abbrev main_c_9 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_c_10 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_11 : Ref sig .tc := ⟨.hbm, 132, rfl⟩
abbrev main_call2_v0 : Ref sig .tc := ⟨.hbm, 133, rfl⟩
abbrev main_call2_v1 : Ref sig .tc := ⟨.hbm, 134, rfl⟩
abbrev main_call2_v2 : Ref sig .tc := ⟨.hbm, 135, rfl⟩
abbrev main_v113 : Ref sig .tc := ⟨.hbm, 136, rfl⟩
abbrev main_cst_12 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_13 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩

abbrev nD : Nat := 1
abbrev τ : Topo := Topo.v7x

variable {F : FTy → Type} [FloatOps F]
-- ==== Dilated.lean ====
abbrev S2048x5632 : Shape := ⟨2, ![2048, 5632]⟩
abbrev S2048x2048 : Shape := ⟨2, ![2048, 2048]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S6x2048x128 : Shape := ⟨3, ![6, 2048, 128]⟩
abbrev S1x2048x128 : Shape := ⟨3, ![1, 2048, 128]⟩
abbrev S3x2048x128 : Shape := ⟨3, ![3, 2048, 128]⟩
abbrev S16x128x128 : Shape := ⟨3, ![16, 128, 128]⟩
abbrev S16x128 : Shape := ⟨2, ![16, 128]⟩
abbrev S16x128x1 : Shape := ⟨3, ![16, 128, 1]⟩
abbrev S1x128x128 : Shape := ⟨3, ![1, 128, 128]⟩
abbrev S15x128x128 : Shape := ⟨3, ![15, 128, 128]⟩
abbrev S128x128 : Shape := ⟨2, ![128, 128]⟩

abbrev nBuf : Space → Nat
  | .hbm => 39
  | .vmem => 19
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x2048, .bf16⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S_, .f32⟩
  | .hbm, ⟨26, _⟩ => ⟨S2048x96, .f32⟩
  | .hbm, ⟨27, _⟩ => ⟨S_, .f32⟩
  | .hbm, ⟨28, _⟩ => ⟨S2048x16, .f32⟩
  | .hbm, ⟨29, _⟩ => ⟨S_, .f32⟩
  | .hbm, ⟨30, _⟩ => ⟨S2048x96, .f32⟩
  | .hbm, ⟨31, _⟩ => ⟨S2048x96, .f32⟩
  | .hbm, ⟨32, _⟩ => ⟨S2048x128, .f32⟩
  | .hbm, ⟨33, _⟩ => ⟨S2048x128, .f32⟩
  | .hbm, ⟨34, _⟩ => ⟨S2048x16, .f32⟩
  | .hbm, ⟨35, _⟩ => ⟨S2048x128, .f32⟩
  | .hbm, ⟨36, _⟩ => ⟨S2048x2048, .f32⟩
  | .hbm, ⟨37, _⟩ => ⟨S2048x2048, .bf16⟩
  | .hbm, ⟨38, _⟩ => ⟨S6x2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .bf16⟩
  | .local _ .vmem, ⟨12, _⟩ => ⟨S2048x128, .bf16⟩
  | .local _ .vmem, ⟨13, _⟩ => ⟨S1x2048x128, .f32⟩
  | .local _ .vmem, ⟨14, _⟩ => ⟨S1x2048x128, .f32⟩
  | .local _ .vmem, ⟨15, _⟩ => ⟨S2048x128, .f32⟩
  | .local _ .vmem, ⟨16, _⟩ => ⟨S2048x128, .f32⟩
  | .local _ .vmem, ⟨17, _⟩ => ⟨S3x2048x128, .f32⟩
  | .local _ .vmem, ⟨18, _⟩ => ⟨S3x2048x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26_0 : Ref sig .tc := ⟨.hbm, 36, rfl⟩
abbrev main_v26_1 : Ref sig .tc := ⟨.hbm, 37, rfl⟩
abbrev main_v26_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c22_i32 : BitVec 32 := 22#32
  let v17 : BitVec 32 := Scalar.addi c22_i32 v16
  let c0_i32_5 : BitVec 32 := 0#32
  let c0_i32_6 : BitVec 32 := 0#32
  ![c0_i32_5.toNat, v17.toNat]

def cc0_transform_2 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c28_i32 : BitVec 32 := 28#32
  let v17 : BitVec 32 := Scalar.addi c28_i32 v16
  let c0_i32_5 : BitVec 32 := 0#32
  let c0_i32_6 : BitVec 32 := 0#32
  ![c0_i32_5.toNat, v17.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DilatedRefIdeal.lean ====
abbrev S2048x5632 : Shape := ⟨2, ![2048, 5632]⟩
abbrev S2048x2048 : Shape := ⟨2, ![2048, 2048]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x768 : Shape := ⟨2, ![2048, 768]⟩
abbrev S2048x6x128 : Shape := ⟨3, ![2048, 6, 128]⟩
abbrev S6x2048x128 : Shape := ⟨3, ![6, 2048, 128]⟩
abbrev S6x2048x32 : Shape := ⟨3, ![6, 2048, 32]⟩
abbrev S6x2048x16 : Shape := ⟨3, ![6, 2048, 16]⟩
abbrev S1x2048x16 : Shape := ⟨3, ![1, 2048, 16]⟩
abbrev S6x2048x96 : Shape := ⟨3, ![6, 2048, 96]⟩
abbrev S6x2048x1x128 : Shape := ⟨4, ![6, 2048, 1, 128]⟩
abbrev S6x1x2048x128 : Shape := ⟨4, ![6, 1, 2048, 128]⟩
abbrev S6x16x128x128 : Shape := ⟨4, ![6, 16, 128, 128]⟩
abbrev S6x17x128x128 : Shape := ⟨4, ![6, 17, 128, 128]⟩
abbrev S6x16x256x128 : Shape := ⟨4, ![6, 16, 256, 128]⟩
abbrev S6x16x128x256 : Shape := ⟨4, ![6, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S6x16x128 : Shape := ⟨3, ![6, 16, 128]⟩
abbrev S6x16x128x1 : Shape := ⟨4, ![6, 16, 128, 1]⟩
abbrev S6x2048 : Shape := ⟨2, ![6, 2048]⟩
abbrev S6x1x2048 : Shape := ⟨3, ![6, 1, 2048]⟩
abbrev S6x2048x1 : Shape := ⟨3, ![6, 2048, 1]⟩
abbrev S6x512x4x128 : Shape := ⟨4, ![6, 512, 4, 128]⟩
abbrev S6x4x512x128 : Shape := ⟨4, ![6, 4, 512, 128]⟩
abbrev S24x512x128 : Shape := ⟨3, ![24, 512, 128]⟩
abbrev S24x4x128x128 : Shape := ⟨4, ![24, 4, 128, 128]⟩
abbrev S24x5x128x128 : Shape := ⟨4, ![24, 5, 128, 128]⟩
abbrev S24x4x256x128 : Shape := ⟨4, ![24, 4, 256, 128]⟩
abbrev S24x4x128x256 : Shape := ⟨4, ![24, 4, 128, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S24x4x128 : Shape := ⟨3, ![24, 4, 128]⟩
abbrev S24x4x128x1 : Shape := ⟨4, ![24, 4, 128, 1]⟩
abbrev S24x512 : Shape := ⟨2, ![24, 512]⟩
abbrev S6x4x512 : Shape := ⟨3, ![6, 4, 512]⟩
abbrev S6x512x4 : Shape := ⟨3, ![6, 512, 4]⟩
abbrev S6x128x16x128 : Shape := ⟨4, ![6, 128, 16, 128]⟩
abbrev S96x128x128 : Shape := ⟨3, ![96, 128, 128]⟩
abbrev S96x1x128x128 : Shape := ⟨4, ![96, 1, 128, 128]⟩
abbrev S96x2x128x128 : Shape := ⟨4, ![96, 2, 128, 128]⟩
abbrev S96x1x256x128 : Shape := ⟨4, ![96, 1, 256, 128]⟩
abbrev S96x1x128x256 : Shape := ⟨4, ![96, 1, 128, 256]⟩
abbrev S1 : Shape := ⟨1, ![1]⟩
abbrev S1x1x1 : Shape := ⟨3, ![1, 1, 1]⟩
abbrev S96x1x128 : Shape := ⟨3, ![96, 1, 128]⟩
abbrev S96x1x128x1 : Shape := ⟨4, ![96, 1, 128, 1]⟩
abbrev S96x128 : Shape := ⟨2, ![96, 128]⟩
abbrev S6x128x16 : Shape := ⟨3, ![6, 128, 16]⟩
abbrev S1x6x2048 : Shape := ⟨3, ![1, 6, 2048]⟩
abbrev S3x6x2048 : Shape := ⟨3, ![3, 6, 2048]⟩
abbrev S1x6x2048x128 : Shape := ⟨4, ![1, 6, 2048, 128]⟩
abbrev S3x6x2048x128 : Shape := ⟨4, ![3, 6, 2048, 128]⟩
abbrev S2048x512 : Shape := ⟨2, ![2048, 512]⟩

abbrev nBuf : Space → Nat
  | .hbm => 383
  | .vmem => 0
  | .smem => 0
  | _ => 0

abbrev hbmTy0_0 (i : Nat) : BufTy := match i % 128 with
  | 0 => ⟨S2048x5632, .f32⟩
  | 1 => ⟨S2048x2048, .f32⟩
  | 2 => ⟨S2048x2048, .bf16⟩
  | 3 => ⟨S16, .f32⟩
  | 4 => ⟨S_, .f32⟩
  | 5 => ⟨S16, .f32⟩
  | 6 => ⟨S16, .f32⟩
  | 7 => ⟨S_, .f32⟩
  | 8 => ⟨S16, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S2048, .f32⟩
  | 18 => ⟨S2048x1, .f32⟩
  | 19 => ⟨S1x16, .f32⟩
  | 20 => ⟨S2048x16, .f32⟩
  | 21 => ⟨S2048x16, .f32⟩
  | 22 => ⟨S2048x16, .f32⟩
  | 23 => ⟨S2048x16, .f32⟩
  | 24 => ⟨S2048x16, .f32⟩
  | 25 => ⟨S2048x768, .f32⟩
  | 26 => ⟨S2048x6x128, .f32⟩
  | 27 => ⟨S6x2048x128, .f32⟩
  | 28 => ⟨S6x2048x32, .f32⟩
  | 29 => ⟨S6x2048x16, .f32⟩
  | 30 => ⟨S6x2048x16, .f32⟩
  | 31 => ⟨S1x2048x16, .f32⟩
  | 32 => ⟨S6x2048x16, .f32⟩
  | 33 => ⟨S6x2048x16, .f32⟩
  | 34 => ⟨S1x2048x16, .f32⟩
  | 35 => ⟨S6x2048x16, .f32⟩
  | 36 => ⟨S6x2048x16, .f32⟩
  | 37 => ⟨S6x2048x16, .f32⟩
  | 38 => ⟨S1x2048x16, .f32⟩
  | 39 => ⟨S6x2048x16, .f32⟩
  | 40 => ⟨S6x2048x16, .f32⟩
  | 41 => ⟨S1x2048x16, .f32⟩
  | 42 => ⟨S6x2048x16, .f32⟩
  | 43 => ⟨S6x2048x16, .f32⟩
  | 44 => ⟨S6x2048x16, .f32⟩
  | 45 => ⟨S6x2048x32, .f32⟩
  | 46 => ⟨S6x2048x96, .f32⟩
  | 47 => ⟨S6x2048x128, .f32⟩
  | 48 => ⟨S2048x768, .f32⟩
  | 49 => ⟨S2048x6x128, .f32⟩
  | 50 => ⟨S6x2048x128, .f32⟩
  | 51 => ⟨S6x2048x32, .f32⟩
  | 52 => ⟨S6x2048x16, .f32⟩
  | 53 => ⟨S6x2048x16, .f32⟩
  | 54 => ⟨S1x2048x16, .f32⟩
  | 55 => ⟨S6x2048x16, .f32⟩
  | 56 => ⟨S6x2048x16, .f32⟩
  | 57 => ⟨S1x2048x16, .f32⟩
  | 58 => ⟨S6x2048x16, .f32⟩
  | 59 => ⟨S6x2048x16, .f32⟩
  | 60 => ⟨S6x2048x16, .f32⟩
  | 61 => ⟨S1x2048x16, .f32⟩
  | 62 => ⟨S6x2048x16, .f32⟩
  | 63 => ⟨S6x2048x16, .f32⟩
  | 64 => ⟨S1x2048x16, .f32⟩
  | 65 => ⟨S6x2048x16, .f32⟩
  | 66 => ⟨S6x2048x16, .f32⟩
  | 67 => ⟨S6x2048x16, .f32⟩
  | 68 => ⟨S6x2048x32, .f32⟩
  | 69 => ⟨S6x2048x96, .f32⟩
  | 70 => ⟨S6x2048x128, .f32⟩
  | 71 => ⟨S2048x768, .f32⟩
  | 72 => ⟨S2048x6x128, .f32⟩
  | 73 => ⟨S6x2048x128, .f32⟩
  | 74 => ⟨S6x2048x1x128, .f32⟩
  | 75 => ⟨S6x1x2048x128, .f32⟩
  | 76 => ⟨S6x2048x128, .f32⟩
  | 77 => ⟨S6x2048x1x128, .f32⟩
  | 78 => ⟨S6x1x2048x128, .f32⟩
  | 79 => ⟨S6x2048x128, .f32⟩
  | 80 => ⟨S6x2048x1x128, .f32⟩
  | 81 => ⟨S6x1x2048x128, .f32⟩
  | 82 => ⟨S6x2048x128, .f32⟩
  | 83 => ⟨S6x16x128x128, .f32⟩
  | 84 => ⟨S6x16x128x128, .f32⟩
  | 85 => ⟨S6x16x128x128, .f32⟩
  | 86 => ⟨S_, .i32⟩
  | 87 => ⟨S_, .f32⟩
  | 88 => ⟨S6x17x128x128, .f32⟩
  | 89 => ⟨S6x16x128x128, .f32⟩
  | 90 => ⟨S6x16x256x128, .f32⟩
  | 91 => ⟨S_, .i32⟩
  | 92 => ⟨S_, .f32⟩
  | 93 => ⟨S6x17x128x128, .f32⟩
  | 94 => ⟨S6x16x128x128, .f32⟩
  | 95 => ⟨S6x16x256x128, .f32⟩
  | 96 => ⟨S6x16x128x256, .f32⟩
  | 97 => ⟨S_, .f32⟩
  | 98 => ⟨S6x16x128x256, .f32⟩
  | 99 => ⟨S6x16x128x256, .f32⟩
  | 100 => ⟨S128, .i32⟩
  | 101 => ⟨S128x1, .i32⟩
  | 102 => ⟨S256, .i32⟩
  | 103 => ⟨S1x256, .i32⟩
  | 104 => ⟨S_, .i32⟩
  | 105 => ⟨S128x1, .i32⟩
  | 106 => ⟨S128x1, .i32⟩
  | 107 => ⟨S128x256, .i32⟩
  | 108 => ⟨S128x256, .i32⟩
  | 109 => ⟨S128x256, .i32⟩
  | 110 => ⟨S16, .i32⟩
  | 111 => ⟨S16x1x1, .i32⟩
  | 112 => ⟨S_, .i32⟩
  | 113 => ⟨S16x1x1, .i32⟩
  | 114 => ⟨S16x1x1, .i32⟩
  | 115 => ⟨S_, .i32⟩
  | 116 => ⟨S16x1x1, .i32⟩
  | 117 => ⟨S16x1x1, .i32⟩
  | 118 => ⟨S1x1x256, .i32⟩
  | 119 => ⟨S16x1x256, .i32⟩
  | 120 => ⟨S16x1x256, .i32⟩
  | 121 => ⟨S16x1x256, .i32⟩
  | 122 => ⟨S_, .i32⟩
  | 123 => ⟨S128x256, .i32⟩
  | 124 => ⟨S128x256, .i1⟩
  | 125 => ⟨S_, .i32⟩
  | 126 => ⟨S128x256, .i32⟩
  | 127 => ⟨S128x256, .i1⟩
  | _ => ⟨S2048x5632, .f32⟩

abbrev hbmTy0_1 (i : Nat) : BufTy := match i % 128 with
  | 0 => ⟨S128x256, .i1⟩
  | 1 => ⟨S1x128x256, .i1⟩
  | 2 => ⟨S_, .i32⟩
  | 3 => ⟨S16x1x256, .i32⟩
  | 4 => ⟨S16x1x256, .i1⟩
  | 5 => ⟨S16x128x256, .i1⟩
  | 6 => ⟨S16x128x256, .i1⟩
  | 7 => ⟨S16x128x256, .i1⟩
  | 8 => ⟨S_, .f32⟩
  | 9 => ⟨S_, .f32⟩
  | 10 => ⟨S6x16x128x256, .i1⟩
  | 11 => ⟨S6x16x128x256, .f32⟩
  | 12 => ⟨S6x16x128x256, .f32⟩
  | 13 => ⟨S_, .f32⟩
  | 14 => ⟨S6x16x128, .f32⟩
  | 15 => ⟨S6x16x128x1, .f32⟩
  | 16 => ⟨S6x16x128x256, .f32⟩
  | 17 => ⟨S6x16x128x256, .f32⟩
  | 18 => ⟨S6x16x128x256, .f32⟩
  | 19 => ⟨S_, .f32⟩
  | 20 => ⟨S6x16x128, .f32⟩
  | 21 => ⟨S6x16x128x128, .f32⟩
  | 22 => ⟨S6x16x128x1, .f32⟩
  | 23 => ⟨S6x16x128x128, .f32⟩
  | 24 => ⟨S6x16x128x128, .f32⟩
  | 25 => ⟨S6x16x128, .f32⟩
  | 26 => ⟨S6x16x128, .f32⟩
  | 27 => ⟨S6x2048x128, .f32⟩
  | 28 => ⟨S6x2048, .f32⟩
  | 29 => ⟨S6x1x2048x128, .f32⟩
  | 30 => ⟨S6x2048x1x128, .f32⟩
  | 31 => ⟨S6x2048x128, .f32⟩
  | 32 => ⟨S6x1x2048, .f32⟩
  | 33 => ⟨S6x2048x1, .f32⟩
  | 34 => ⟨S6x2048, .f32⟩
  | 35 => ⟨S6x512x4x128, .f32⟩
  | 36 => ⟨S6x4x512x128, .f32⟩
  | 37 => ⟨S24x512x128, .f32⟩
  | 38 => ⟨S6x512x4x128, .f32⟩
  | 39 => ⟨S6x4x512x128, .f32⟩
  | 40 => ⟨S24x512x128, .f32⟩
  | 41 => ⟨S6x512x4x128, .f32⟩
  | 42 => ⟨S6x4x512x128, .f32⟩
  | 43 => ⟨S24x512x128, .f32⟩
  | 44 => ⟨S24x4x128x128, .f32⟩
  | 45 => ⟨S24x4x128x128, .f32⟩
  | 46 => ⟨S24x4x128x128, .f32⟩
  | 47 => ⟨S_, .i32⟩
  | 48 => ⟨S_, .f32⟩
  | 49 => ⟨S24x5x128x128, .f32⟩
  | 50 => ⟨S24x4x128x128, .f32⟩
  | 51 => ⟨S24x4x256x128, .f32⟩
  | 52 => ⟨S_, .i32⟩
  | 53 => ⟨S_, .f32⟩
  | 54 => ⟨S24x5x128x128, .f32⟩
  | 55 => ⟨S24x4x128x128, .f32⟩
  | 56 => ⟨S24x4x256x128, .f32⟩
  | 57 => ⟨S24x4x128x256, .f32⟩
  | 58 => ⟨S_, .f32⟩
  | 59 => ⟨S24x4x128x256, .f32⟩
  | 60 => ⟨S24x4x128x256, .f32⟩
  | 61 => ⟨S128, .i32⟩
  | 62 => ⟨S128x1, .i32⟩
  | 63 => ⟨S256, .i32⟩
  | 64 => ⟨S1x256, .i32⟩
  | 65 => ⟨S_, .i32⟩
  | 66 => ⟨S128x1, .i32⟩
  | 67 => ⟨S128x1, .i32⟩
  | 68 => ⟨S128x256, .i32⟩
  | 69 => ⟨S128x256, .i32⟩
  | 70 => ⟨S128x256, .i32⟩
  | 71 => ⟨S4, .i32⟩
  | 72 => ⟨S4x1x1, .i32⟩
  | 73 => ⟨S_, .i32⟩
  | 74 => ⟨S4x1x1, .i32⟩
  | 75 => ⟨S4x1x1, .i32⟩
  | 76 => ⟨S_, .i32⟩
  | 77 => ⟨S4x1x1, .i32⟩
  | 78 => ⟨S4x1x1, .i32⟩
  | 79 => ⟨S1x1x256, .i32⟩
  | 80 => ⟨S4x1x256, .i32⟩
  | 81 => ⟨S4x1x256, .i32⟩
  | 82 => ⟨S4x1x256, .i32⟩
  | 83 => ⟨S_, .i32⟩
  | 84 => ⟨S128x256, .i32⟩
  | 85 => ⟨S128x256, .i1⟩
  | 86 => ⟨S_, .i32⟩
  | 87 => ⟨S128x256, .i32⟩
  | 88 => ⟨S128x256, .i1⟩
  | 89 => ⟨S128x256, .i1⟩
  | 90 => ⟨S1x128x256, .i1⟩
  | 91 => ⟨S_, .i32⟩
  | 92 => ⟨S4x1x256, .i32⟩
  | 93 => ⟨S4x1x256, .i1⟩
  | 94 => ⟨S4x128x256, .i1⟩
  | 95 => ⟨S4x128x256, .i1⟩
  | 96 => ⟨S4x128x256, .i1⟩
  | 97 => ⟨S_, .f32⟩
  | 98 => ⟨S_, .f32⟩
  | 99 => ⟨S24x4x128x256, .i1⟩
  | 100 => ⟨S24x4x128x256, .f32⟩
  | 101 => ⟨S24x4x128x256, .f32⟩
  | 102 => ⟨S_, .f32⟩
  | 103 => ⟨S24x4x128, .f32⟩
  | 104 => ⟨S24x4x128x1, .f32⟩
  | 105 => ⟨S24x4x128x256, .f32⟩
  | 106 => ⟨S24x4x128x256, .f32⟩
  | 107 => ⟨S24x4x128x256, .f32⟩
  | 108 => ⟨S_, .f32⟩
  | 109 => ⟨S24x4x128, .f32⟩
  | 110 => ⟨S24x4x128x128, .f32⟩
  | 111 => ⟨S24x4x128x1, .f32⟩
  | 112 => ⟨S24x4x128x128, .f32⟩
  | 113 => ⟨S24x4x128x128, .f32⟩
  | 114 => ⟨S24x4x128, .f32⟩
  | 115 => ⟨S24x4x128, .f32⟩
  | 116 => ⟨S24x512x128, .f32⟩
  | 117 => ⟨S24x512, .f32⟩
  | 118 => ⟨S6x4x512x128, .f32⟩
  | 119 => ⟨S6x512x4x128, .f32⟩
  | 120 => ⟨S6x2048x128, .f32⟩
  | 121 => ⟨S6x4x512, .f32⟩
  | 122 => ⟨S6x512x4, .f32⟩
  | 123 => ⟨S6x2048, .f32⟩
  | 124 => ⟨S6x128x16x128, .f32⟩
  | 125 => ⟨S6x16x128x128, .f32⟩
  | 126 => ⟨S96x128x128, .f32⟩
  | 127 => ⟨S6x128x16x128, .f32⟩
  | _ => ⟨S2048x5632, .f32⟩

abbrev hbmTy0_2 (i : Nat) : BufTy := match i % 128 with
  | 0 => ⟨S6x16x128x128, .f32⟩
  | 1 => ⟨S96x128x128, .f32⟩
  | 2 => ⟨S6x128x16x128, .f32⟩
  | 3 => ⟨S6x16x128x128, .f32⟩
  | 4 => ⟨S96x128x128, .f32⟩
  | 5 => ⟨S96x1x128x128, .f32⟩
  | 6 => ⟨S96x1x128x128, .f32⟩
  | 7 => ⟨S96x1x128x128, .f32⟩
  | 8 => ⟨S_, .i32⟩
  | 9 => ⟨S_, .f32⟩
  | 10 => ⟨S96x2x128x128, .f32⟩
  | 11 => ⟨S96x1x128x128, .f32⟩
  | 12 => ⟨S96x1x256x128, .f32⟩
  | 13 => ⟨S_, .i32⟩
  | 14 => ⟨S_, .f32⟩
  | 15 => ⟨S96x2x128x128, .f32⟩
  | 16 => ⟨S96x1x128x128, .f32⟩
  | 17 => ⟨S96x1x256x128, .f32⟩
  | 18 => ⟨S96x1x128x256, .f32⟩
  | 19 => ⟨S_, .f32⟩
  | 20 => ⟨S96x1x128x256, .f32⟩
  | 21 => ⟨S96x1x128x256, .f32⟩
  | 22 => ⟨S128, .i32⟩
  | 23 => ⟨S128x1, .i32⟩
  | 24 => ⟨S256, .i32⟩
  | 25 => ⟨S1x256, .i32⟩
  | 26 => ⟨S_, .i32⟩
  | 27 => ⟨S128x1, .i32⟩
  | 28 => ⟨S128x1, .i32⟩
  | 29 => ⟨S128x256, .i32⟩
  | 30 => ⟨S128x256, .i32⟩
  | 31 => ⟨S128x256, .i32⟩
  | 32 => ⟨S1, .i32⟩
  | 33 => ⟨S1x1x1, .i32⟩
  | 34 => ⟨S_, .i32⟩
  | 35 => ⟨S1x1x1, .i32⟩
  | 36 => ⟨S1x1x1, .i32⟩
  | 37 => ⟨S_, .i32⟩
  | 38 => ⟨S1x1x1, .i32⟩
  | 39 => ⟨S1x1x1, .i32⟩
  | 40 => ⟨S1x1x256, .i32⟩
  | 41 => ⟨S1x1x256, .i32⟩
  | 42 => ⟨S1x1x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S1x128x256, .i1⟩
  | 51 => ⟨S_, .i32⟩
  | 52 => ⟨S1x1x256, .i32⟩
  | 53 => ⟨S1x1x256, .i1⟩
  | 54 => ⟨S1x128x256, .i1⟩
  | 55 => ⟨S1x128x256, .i1⟩
  | 56 => ⟨S_, .f32⟩
  | 57 => ⟨S_, .f32⟩
  | 58 => ⟨S96x1x128x256, .i1⟩
  | 59 => ⟨S96x1x128x256, .f32⟩
  | 60 => ⟨S96x1x128x256, .f32⟩
  | 61 => ⟨S_, .f32⟩
  | 62 => ⟨S96x1x128, .f32⟩
  | 63 => ⟨S96x1x128x1, .f32⟩
  | 64 => ⟨S96x1x128x256, .f32⟩
  | 65 => ⟨S96x1x128x256, .f32⟩
  | 66 => ⟨S96x1x128x256, .f32⟩
  | 67 => ⟨S_, .f32⟩
  | 68 => ⟨S96x1x128, .f32⟩
  | 69 => ⟨S96x1x128x128, .f32⟩
  | 70 => ⟨S96x1x128x1, .f32⟩
  | 71 => ⟨S96x1x128x128, .f32⟩
  | 72 => ⟨S96x1x128x128, .f32⟩
  | 73 => ⟨S96x1x128, .f32⟩
  | 74 => ⟨S96x1x128, .f32⟩
  | 75 => ⟨S96x128x128, .f32⟩
  | 76 => ⟨S96x128, .f32⟩
  | 77 => ⟨S6x16x128x128, .f32⟩
  | 78 => ⟨S6x128x16x128, .f32⟩
  | 79 => ⟨S6x2048x128, .f32⟩
  | 80 => ⟨S6x16x128, .f32⟩
  | 81 => ⟨S6x128x16, .f32⟩
  | 82 => ⟨S6x2048, .f32⟩
  | 83 => ⟨S1x6x2048, .f32⟩
  | 84 => ⟨S1x6x2048, .f32⟩
  | 85 => ⟨S1x6x2048, .f32⟩
  | 86 => ⟨S3x6x2048, .f32⟩
  | 87 => ⟨S_, .f32⟩
  | 88 => ⟨S6x2048, .f32⟩
  | 89 => ⟨S_, .f32⟩
  | 90 => ⟨S6x2048, .f32⟩
  | 91 => ⟨S6x2048, .f32⟩
  | 92 => ⟨S1x6x2048, .f32⟩
  | 93 => ⟨S3x6x2048, .f32⟩
  | 94 => ⟨S3x6x2048, .f32⟩
  | 95 => ⟨S3x6x2048, .f32⟩
  | 96 => ⟨S_, .f32⟩
  | 97 => ⟨S6x2048, .f32⟩
  | 98 => ⟨S1x6x2048, .f32⟩
  | 99 => ⟨S3x6x2048, .f32⟩
  | 100 => ⟨S3x6x2048, .f32⟩
  | 101 => ⟨S_, .f32⟩
  | 102 => ⟨S6x2048, .f32⟩
  | 103 => ⟨S1x6x2048x128, .f32⟩
  | 104 => ⟨S1x6x2048x128, .f32⟩
  | 105 => ⟨S1x6x2048x128, .f32⟩
  | 106 => ⟨S3x6x2048x128, .f32⟩
  | 107 => ⟨S6x2048x128, .f32⟩
  | 108 => ⟨S1x6x2048, .f32⟩
  | 109 => ⟨S3x6x2048, .f32⟩
  | 110 => ⟨S3x6x2048, .f32⟩
  | 111 => ⟨S3x6x2048, .f32⟩
  | 112 => ⟨S_, .f32⟩
  | 113 => ⟨S6x2048, .f32⟩
  | 114 => ⟨S6x2048, .f32⟩
  | 115 => ⟨S6x2048, .f32⟩
  | 116 => ⟨S2048x6x128, .f32⟩
  | 117 => ⟨S2048x768, .f32⟩
  | 118 => ⟨S2048x512, .f32⟩
  | 119 => ⟨S2048x768, .f32⟩
  | 120 => ⟨S2048x2048, .f32⟩
  | 121 => ⟨S2048x512, .bf16⟩
  | 122 => ⟨S2048x768, .bf16⟩
  | 123 => ⟨S2048x768, .bf16⟩
  | 124 => ⟨S2048x2048, .bf16⟩
  | 125 => ⟨S6x2048x1, .f32⟩
  | 126 => ⟨S6x2048x128, .f32⟩
  | _ => ⟨S2048x5632, .f32⟩

abbrev hbmTy (i : Nat) : BufTy := match i / 128 with
  | 0 => hbmTy0_0 i
  | 1 => hbmTy0_1 i
  | 2 => hbmTy0_2 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_c : Ref sig .tc := ⟨.hbm, 86, rfl⟩
abbrev main_call0_v0 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_c_3 : Ref sig .tc := ⟨.hbm, 91, rfl⟩
abbrev main_call1_v0 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_cst_4 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_c_5 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_c_6 : Ref sig .tc := ⟨.hbm, 112, rfl⟩
abbrev main_v99 : Ref sig .tc := ⟨.hbm, 113, rfl⟩
abbrev main_v100 : Ref sig .tc := ⟨.hbm, 114, rfl⟩
abbrev main_c_7 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_c_8 : Ref sig .tc := ⟨.hbm, 122, rfl⟩
abbrev main_v107 : Ref sig .tc := ⟨.hbm, 123, rfl⟩
abbrev main_v108 : Ref sig .tc := ⟨.hbm, 124, rfl⟩
abbrev main_c_9 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_c_10 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_v118 : Ref sig .tc := ⟨.hbm, 140, rfl⟩
abbrev main_cst_12 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_cst_13 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_c_14 : Ref sig .tc := ⟨.hbm, 175, rfl⟩
abbrev main_call3_v0 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_c_15 : Ref sig .tc := ⟨.hbm, 180, rfl⟩
abbrev main_call4_v0 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_cst_16 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_c_17 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_c_18 : Ref sig .tc := ⟨.hbm, 201, rfl⟩
abbrev main_v171 : Ref sig .tc := ⟨.hbm, 202, rfl⟩
abbrev main_v172 : Ref sig .tc := ⟨.hbm, 203, rfl⟩
abbrev main_c_19 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_c_20 : Ref sig .tc := ⟨.hbm, 211, rfl⟩
abbrev main_v179 : Ref sig .tc := ⟨.hbm, 212, rfl⟩
abbrev main_v180 : Ref sig .tc := ⟨.hbm, 213, rfl⟩
abbrev main_c_21 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_c_22 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_cst_23 : Ref sig .tc := ⟨.hbm, 225, rfl⟩
abbrev main_call5_v0 : Ref sig .tc := ⟨.hbm, 226, rfl⟩
abbrev main_call5_v1 : Ref sig .tc := ⟨.hbm, 227, rfl⟩
abbrev main_call5_v2 : Ref sig .tc := ⟨.hbm, 228, rfl⟩
abbrev main_v190 : Ref sig .tc := ⟨.hbm, 229, rfl⟩
abbrev main_cst_24 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_cst_25 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_c_26 : Ref sig .tc := ⟨.hbm, 264, rfl⟩
abbrev main_call6_v0 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_c_27 : Ref sig .tc := ⟨.hbm, 269, rfl⟩
abbrev main_call7_v0 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_cst_28 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_c_29 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_c_30 : Ref sig .tc := ⟨.hbm, 290, rfl⟩
abbrev main_v243 : Ref sig .tc := ⟨.hbm, 291, rfl⟩
abbrev main_v244 : Ref sig .tc := ⟨.hbm, 292, rfl⟩
abbrev main_c_31 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_v248 : Ref sig .tc := ⟨.hbm, 297, rfl⟩
abbrev main_v249 : Ref sig .tc := ⟨.hbm, 298, rfl⟩
abbrev main_c_32 : Ref sig .tc := ⟨.hbm, 299, rfl⟩
abbrev main_v250 : Ref sig .tc := ⟨.hbm, 300, rfl⟩
abbrev main_v251 : Ref sig .tc := ⟨.hbm, 301, rfl⟩
abbrev main_c_33 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_c_34 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_cst_35 : Ref sig .tc := ⟨.hbm, 312, rfl⟩
abbrev main_call8_v0 : Ref sig .tc := ⟨.hbm, 313, rfl⟩
abbrev main_call8_v1 : Ref sig .tc := ⟨.hbm, 314, rfl⟩
abbrev main_call8_v2 : Ref sig .tc := ⟨.hbm, 315, rfl⟩
abbrev main_v260 : Ref sig .tc := ⟨.hbm, 316, rfl⟩
abbrev main_cst_36 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_cst_37 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_cst_38 : Ref sig .tc := ⟨.hbm, 343, rfl⟩
abbrev main_v285 : Ref sig .tc := ⟨.hbm, 344, rfl⟩
abbrev main_cst_39 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_cst_40 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_cst_41 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_cst_42 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_v318 : Ref sig .tc := ⟨.hbm, 381, rfl⟩
abbrev main_v319 : Ref sig .tc := ⟨.hbm, 382, rfl⟩

abbrev nD : Nat := 1
abbrev τ : Topo := Topo.v7x

variable {F : FTy → Type} [FloatOps F]
-- ==== SmallGrads.lean ====
abbrev S8x2x512 : Shape := ⟨3, ![8, 2, 512]⟩
abbrev S8x2x128 : Shape := ⟨3, ![8, 2, 128]⟩
abbrev S8x2x6 : Shape := ⟨3, ![8, 2, 6]⟩
abbrev S8x2x2048 : Shape := ⟨3, ![8, 2, 2048]⟩
abbrev S8x2x3x5632 : Shape := ⟨4, ![8, 2, 3, 5632]⟩
abbrev S8x2x5632 : Shape := ⟨3, ![8, 2, 5632]⟩
abbrev S8x128 : Shape := ⟨2, ![8, 128]⟩
abbrev S8x1024 : Shape := ⟨2, ![8, 1024]⟩
abbrev S8x256 : Shape := ⟨2, ![8, 256]⟩
abbrev S8x12 : Shape := ⟨2, ![8, 12]⟩
abbrev S8x4096 : Shape := ⟨2, ![8, 4096]⟩
abbrev S8x33792 : Shape := ⟨2, ![8, 33792]⟩
abbrev S8x11264 : Shape := ⟨2, ![8, 11264]⟩
abbrev S8x62860 : Shape := ⟨2, ![8, 62860]⟩
abbrev S_ : Shape := ⟨0, ![]⟩
abbrev S8x63488 : Shape := ⟨2, ![8, 63488]⟩
abbrev S8x496x128 : Shape := ⟨3, ![8, 496, 128]⟩
abbrev S496x128 : Shape := ⟨2, ![496, 128]⟩
abbrev S1x496x128 : Shape := ⟨3, ![1, 496, 128]⟩
abbrev S63488 : Shape := ⟨1, ![63488]⟩
abbrev S1024 : Shape := ⟨1, ![1024]⟩
abbrev S2x512 : Shape := ⟨2, ![2, 512]⟩
abbrev S256 : Shape := ⟨1, ![256]⟩
abbrev S2x128 : Shape := ⟨2, ![2, 128]⟩
abbrev S12 : Shape := ⟨1, ![12]⟩
abbrev S2x6 : Shape := ⟨2, ![2, 6]⟩
abbrev S4096 : Shape := ⟨1, ![4096]⟩
abbrev S2x2048 : Shape := ⟨2, ![2, 2048]⟩
abbrev S33792 : Shape := ⟨1, ![33792]⟩
abbrev S2x3x5632 : Shape := ⟨3, ![2, 3, 5632]⟩
abbrev S11264 : Shape := ⟨1, ![11264]⟩
abbrev S2x5632 : Shape := ⟨2, ![2, 5632]⟩
abbrev S128 : Shape := ⟨1, ![128]⟩
abbrev S1 : Shape := ⟨1, ![1]⟩

abbrev nBuf : Space → Nat
  | .hbm => 47
  | .vmem => 2
  | .smem => 0
  | _ => 0

abbrev bufTy : (tb : Table) → Fin (tcTables nBuf tb) → BufTy
  | .hbm, ⟨0, _⟩ => ⟨S8x2x512, .f32⟩
  | .hbm, ⟨1, _⟩ => ⟨S8x2x128, .f32⟩
  | .hbm, ⟨2, _⟩ => ⟨S8x2x6, .f32⟩
  | .hbm, ⟨3, _⟩ => ⟨S8x2x2048, .f32⟩
  | .hbm, ⟨4, _⟩ => ⟨S8x2x2048, .f32⟩
  | .hbm, ⟨5, _⟩ => ⟨S8x2x3x5632, .f32⟩
  | .hbm, ⟨6, _⟩ => ⟨S8x2x5632, .f32⟩
  | .hbm, ⟨7, _⟩ => ⟨S8x2x2048, .f32⟩
  | .hbm, ⟨8, _⟩ => ⟨S8x2x2048, .f32⟩
  | .hbm, ⟨9, _⟩ => ⟨S8x128, .f32⟩
  | .hbm, ⟨10, _⟩ => ⟨S8x1024, .f32⟩
  | .hbm, ⟨11, _⟩ => ⟨S8x256, .f32⟩
  | .hbm, ⟨12, _⟩ => ⟨S8x12, .f32⟩
  | .hbm, ⟨13, _⟩ => ⟨S8x4096, .f32⟩
  | .hbm, ⟨14, _⟩ => ⟨S8x4096, .f32⟩
  | .hbm, ⟨15, _⟩ => ⟨S8x33792, .f32⟩
  | .hbm, ⟨16, _⟩ => ⟨S8x11264, .f32⟩
  | .hbm, ⟨17, _⟩ => ⟨S8x4096, .f32⟩
  | .hbm, ⟨18, _⟩ => ⟨S8x4096, .f32⟩
  | .hbm, ⟨19, _⟩ => ⟨S8x62860, .f32⟩
  | .hbm, ⟨20, _⟩ => ⟨S_, .i32⟩
  | .hbm, ⟨21, _⟩ => ⟨S_, .f32⟩
  | .hbm, ⟨22, _⟩ => ⟨S8x63488, .f32⟩
  | .hbm, ⟨23, _⟩ => ⟨S8x496x128, .f32⟩
  | .hbm, ⟨24, _⟩ => ⟨S496x128, .f32⟩
  | .hbm, ⟨25, _⟩ => ⟨S63488, .f32⟩
  | .hbm, ⟨26, _⟩ => ⟨S1024, .f32⟩
  | .hbm, ⟨27, _⟩ => ⟨S2x512, .f32⟩
  | .hbm, ⟨28, _⟩ => ⟨S256, .f32⟩
  | .hbm, ⟨29, _⟩ => ⟨S2x128, .f32⟩
  | .hbm, ⟨30, _⟩ => ⟨S12, .f32⟩
  | .hbm, ⟨31, _⟩ => ⟨S2x6, .f32⟩
  | .hbm, ⟨32, _⟩ => ⟨S4096, .f32⟩
  | .hbm, ⟨33, _⟩ => ⟨S2x2048, .f32⟩
  | .hbm, ⟨34, _⟩ => ⟨S4096, .f32⟩
  | .hbm, ⟨35, _⟩ => ⟨S2x2048, .f32⟩
  | .hbm, ⟨36, _⟩ => ⟨S33792, .f32⟩
  | .hbm, ⟨37, _⟩ => ⟨S2x3x5632, .f32⟩
  | .hbm, ⟨38, _⟩ => ⟨S11264, .f32⟩
  | .hbm, ⟨39, _⟩ => ⟨S2x5632, .f32⟩
  | .hbm, ⟨40, _⟩ => ⟨S4096, .f32⟩
  | .hbm, ⟨41, _⟩ => ⟨S2x2048, .f32⟩
  | .hbm, ⟨42, _⟩ => ⟨S4096, .f32⟩
  | .hbm, ⟨43, _⟩ => ⟨S2x2048, .f32⟩
  | .hbm, ⟨44, _⟩ => ⟨S128, .f32⟩
  | .hbm, ⟨45, _⟩ => ⟨S1, .f32⟩
  | .hbm, ⟨46, _⟩ => ⟨S_, .f32⟩
  | .local _ .vmem, ⟨0, _⟩ => ⟨S8x496x128, .f32⟩
  | .local _ .vmem, ⟨1, _⟩ => ⟨S496x128, .f32⟩
  | _, _ => ⟨S8x2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x496x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S496x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallGradsRefIdeal.lean ====
abbrev S8x2x512 : Shape := ⟨3, ![8, 2, 512]⟩
abbrev S8x2x128 : Shape := ⟨3, ![8, 2, 128]⟩
abbrev S8x2x6 : Shape := ⟨3, ![8, 2, 6]⟩
abbrev S8x2x2048 : Shape := ⟨3, ![8, 2, 2048]⟩
abbrev S8x2x3x5632 : Shape := ⟨4, ![8, 2, 3, 5632]⟩
abbrev S8x2x5632 : Shape := ⟨3, ![8, 2, 5632]⟩
abbrev S8x128 : Shape := ⟨2, ![8, 128]⟩
abbrev S_ : Shape := ⟨0, ![]⟩
abbrev S2x512 : Shape := ⟨2, ![2, 512]⟩
abbrev S2x128 : Shape := ⟨2, ![2, 128]⟩
abbrev S2x6 : Shape := ⟨2, ![2, 6]⟩
abbrev S2x2048 : Shape := ⟨2, ![2, 2048]⟩
abbrev S2x3x5632 : Shape := ⟨3, ![2, 3, 5632]⟩
abbrev S2x5632 : Shape := ⟨2, ![2, 5632]⟩
abbrev S8x1 : Shape := ⟨2, ![8, 1]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x2x512, .f32⟩
  | .hbm, ⟨1, _⟩ => ⟨S8x2x128, .f32⟩
  | .hbm, ⟨2, _⟩ => ⟨S8x2x6, .f32⟩
  | .hbm, ⟨3, _⟩ => ⟨S8x2x2048, .f32⟩
  | .hbm, ⟨4, _⟩ => ⟨S8x2x2048, .f32⟩
  | .hbm, ⟨5, _⟩ => ⟨S8x2x3x5632, .f32⟩
  | .hbm, ⟨6, _⟩ => ⟨S8x2x5632, .f32⟩
  | .hbm, ⟨7, _⟩ => ⟨S8x2x2048, .f32⟩
  | .hbm, ⟨8, _⟩ => ⟨S8x2x2048, .f32⟩
  | .hbm, ⟨9, _⟩ => ⟨S8x128, .f32⟩
  | .hbm, ⟨10, _⟩ => ⟨S_, .f32⟩
  | .hbm, ⟨11, _⟩ => ⟨S2x512, .f32⟩
  | .hbm, ⟨12, _⟩ => ⟨S_, .f32⟩
  | .hbm, ⟨13, _⟩ => ⟨S2x128, .f32⟩
  | .hbm, ⟨14, _⟩ => ⟨S_, .f32⟩
  | .hbm, ⟨15, _⟩ => ⟨S2x6, .f32⟩
  | .hbm, ⟨16, _⟩ => ⟨S_, .f32⟩
  | .hbm, ⟨17, _⟩ => ⟨S2x2048, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x3x5632, .f32⟩
  | .hbm, ⟨22, _⟩ => ⟨S_, .f32⟩
  | .hbm, ⟨23, _⟩ => ⟨S2x5632, .f32⟩
  | .hbm, ⟨24, _⟩ => ⟨S_, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S8x1, .f32⟩
  | .hbm, ⟨29, _⟩ => ⟨S8, .f32⟩
  | .hbm, ⟨30, _⟩ => ⟨S_, .f32⟩
  | .hbm, ⟨31, _⟩ => ⟨S_, .f32⟩
  | _, _ => ⟨S8x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_cst_3 : Ref sig .tc := ⟨.hbm, 18, rfl⟩
abbrev main_v4 : Ref sig .tc := ⟨.hbm, 19, rfl⟩
abbrev main_cst_4 : Ref sig .tc := ⟨.hbm, 20, rfl⟩
abbrev main_v5 : Ref sig .tc := ⟨.hbm, 21, rfl⟩
abbrev main_cst_5 : Ref sig .tc := ⟨.hbm, 22, rfl⟩
abbrev main_v6 : Ref sig .tc := ⟨.hbm, 23, rfl⟩
abbrev main_cst_6 : Ref sig .tc := ⟨.hbm, 24, rfl⟩
abbrev main_v7 : Ref sig .tc := ⟨.hbm, 25, rfl⟩
abbrev main_cst_7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_8 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== SmallUpdates.lean ====
abbrev S2x512 : Shape := ⟨2, ![2, 512]⟩
abbrev S2x128 : Shape := ⟨2, ![2, 128]⟩
abbrev S2x6 : Shape := ⟨2, ![2, 6]⟩
abbrev S2x2048 : Shape := ⟨2, ![2, 2048]⟩
abbrev S2x3x1408 : Shape := ⟨3, ![2, 3, 1408]⟩
abbrev S2x5632 : Shape := ⟨2, ![2, 5632]⟩
abbrev S1024 : Shape := ⟨1, ![1024]⟩
abbrev S256 : Shape := ⟨1, ![256]⟩
abbrev S12 : Shape := ⟨1, ![12]⟩
abbrev S4096 : Shape := ⟨1, ![4096]⟩
abbrev S8448 : Shape := ⟨1, ![8448]⟩
abbrev S11264 : Shape := ⟨1, ![11264]⟩
abbrev S37388 : Shape := ⟨1, ![37388]⟩
abbrev S_ : Shape := ⟨0, ![]⟩
abbrev S37888 : Shape := ⟨1, ![37888]⟩
abbrev S296x128 : Shape := ⟨2, ![296, 128]⟩

abbrev nBuf : Space → Nat
  | .hbm => 152
  | .vmem => 7
  | .smem => 0
  | _ => 0

abbrev hbmTy0_0 (i : Nat) : BufTy := match i % 128 with
  | 0 => ⟨S2x512, .f32⟩
  | 1 => ⟨S2x128, .f32⟩
  | 2 => ⟨S2x6, .f32⟩
  | 3 => ⟨S2x2048, .f32⟩
  | 4 => ⟨S2x2048, .f32⟩
  | 5 => ⟨S2x3x1408, .f32⟩
  | 6 => ⟨S2x5632, .f32⟩
  | 7 => ⟨S2x2048, .f32⟩
  | 8 => ⟨S2x2048, .f32⟩
  | 9 => ⟨S2x512, .f32⟩
  | 10 => ⟨S2x128, .f32⟩
  | 11 => ⟨S2x6, .f32⟩
  | 12 => ⟨S2x2048, .f32⟩
  | 13 => ⟨S2x2048, .f32⟩
  | 14 => ⟨S2x3x1408, .f32⟩
  | 15 => ⟨S2x5632, .f32⟩
  | 16 => ⟨S2x2048, .f32⟩
  | 17 => ⟨S2x2048, .f32⟩
  | 18 => ⟨S2x512, .f32⟩
  | 19 => ⟨S2x128, .f32⟩
  | 20 => ⟨S2x6, .f32⟩
  | 21 => ⟨S2x2048, .f32⟩
  | 22 => ⟨S2x2048, .f32⟩
  | 23 => ⟨S2x3x1408, .f32⟩
  | 24 => ⟨S2x5632, .f32⟩
  | 25 => ⟨S2x2048, .f32⟩
  | 26 => ⟨S2x2048, .f32⟩
  | 27 => ⟨S2x512, .f32⟩
  | 28 => ⟨S2x128, .f32⟩
  | 29 => ⟨S2x6, .f32⟩
  | 30 => ⟨S2x2048, .f32⟩
  | 31 => ⟨S2x2048, .f32⟩
  | 32 => ⟨S2x3x1408, .f32⟩
  | 33 => ⟨S2x5632, .f32⟩
  | 34 => ⟨S2x2048, .f32⟩
  | 35 => ⟨S2x2048, .f32⟩
  | 36 => ⟨S1024, .f32⟩
  | 37 => ⟨S256, .f32⟩
  | 38 => ⟨S12, .f32⟩
  | 39 => ⟨S4096, .f32⟩
  | 40 => ⟨S4096, .f32⟩
  | 41 => ⟨S8448, .f32⟩
  | 42 => ⟨S11264, .f32⟩
  | 43 => ⟨S4096, .f32⟩
  | 44 => ⟨S4096, .f32⟩
  | 45 => ⟨S37388, .f32⟩
  | 46 => ⟨S_, .i32⟩
  | 47 => ⟨S_, .f32⟩
  | 48 => ⟨S37888, .f32⟩
  | 49 => ⟨S296x128, .f32⟩
  | 50 => ⟨S1024, .f32⟩
  | 51 => ⟨S256, .f32⟩
  | 52 => ⟨S12, .f32⟩
  | 53 => ⟨S4096, .f32⟩
  | 54 => ⟨S4096, .f32⟩
  | 55 => ⟨S8448, .f32⟩
  | 56 => ⟨S11264, .f32⟩
  | 57 => ⟨S4096, .f32⟩
  | 58 => ⟨S4096, .f32⟩
  | 59 => ⟨S37388, .f32⟩
  | 60 => ⟨S_, .i32⟩
  | 61 => ⟨S_, .f32⟩
  | 62 => ⟨S37888, .f32⟩
  | 63 => ⟨S296x128, .f32⟩
  | 64 => ⟨S1024, .f32⟩
  | 65 => ⟨S256, .f32⟩
  | 66 => ⟨S12, .f32⟩
  | 67 => ⟨S4096, .f32⟩
  | 68 => ⟨S4096, .f32⟩
  | 69 => ⟨S8448, .f32⟩
  | 70 => ⟨S11264, .f32⟩
  | 71 => ⟨S4096, .f32⟩
  | 72 => ⟨S4096, .f32⟩
  | 73 => ⟨S37388, .f32⟩
  | 74 => ⟨S_, .i32⟩
  | 75 => ⟨S_, .f32⟩
  | 76 => ⟨S37888, .f32⟩
  | 77 => ⟨S296x128, .f32⟩
  | 78 => ⟨S1024, .f32⟩
  | 79 => ⟨S256, .f32⟩
  | 80 => ⟨S12, .f32⟩
  | 81 => ⟨S4096, .f32⟩
  | 82 => ⟨S4096, .f32⟩
  | 83 => ⟨S8448, .f32⟩
  | 84 => ⟨S11264, .f32⟩
  | 85 => ⟨S4096, .f32⟩
  | 86 => ⟨S4096, .f32⟩
  | 87 => ⟨S37388, .f32⟩
  | 88 => ⟨S_, .i32⟩
  | 89 => ⟨S_, .f32⟩
  | 90 => ⟨S37888, .f32⟩
  | 91 => ⟨S296x128, .f32⟩
  | 92 => ⟨S296x128, .f32⟩
  | 93 => ⟨S296x128, .f32⟩
  | 94 => ⟨S296x128, .f32⟩
  | 95 => ⟨S37888, .f32⟩
  | 96 => ⟨S1024, .f32⟩
  | 97 => ⟨S2x512, .f32⟩
  | 98 => ⟨S256, .f32⟩
  | 99 => ⟨S2x128, .f32⟩
  | 100 => ⟨S12, .f32⟩
  | 101 => ⟨S2x6, .f32⟩
  | 102 => ⟨S4096, .f32⟩
  | 103 => ⟨S2x2048, .f32⟩
  | 104 => ⟨S4096, .f32⟩
  | 105 => ⟨S2x2048, .f32⟩
  | 106 => ⟨S8448, .f32⟩
  | 107 => ⟨S2x3x1408, .f32⟩
  | 108 => ⟨S11264, .f32⟩
  | 109 => ⟨S2x5632, .f32⟩
  | 110 => ⟨S4096, .f32⟩
  | 111 => ⟨S2x2048, .f32⟩
  | 112 => ⟨S4096, .f32⟩
  | 113 => ⟨S2x2048, .f32⟩
  | 114 => ⟨S37888, .f32⟩
  | 115 => ⟨S1024, .f32⟩
  | 116 => ⟨S2x512, .f32⟩
  | 117 => ⟨S256, .f32⟩
  | 118 => ⟨S2x128, .f32⟩
  | 119 => ⟨S12, .f32⟩
  | 120 => ⟨S2x6, .f32⟩
  | 121 => ⟨S4096, .f32⟩
  | 122 => ⟨S2x2048, .f32⟩
  | 123 => ⟨S4096, .f32⟩
  | 124 => ⟨S2x2048, .f32⟩
  | 125 => ⟨S8448, .f32⟩
  | 126 => ⟨S2x3x1408, .f32⟩
  | 127 => ⟨S11264, .f32⟩
  | _ => ⟨S2x512, .f32⟩

abbrev hbmTy0_1 (i : Nat) : BufTy := match i % 128 with
  | 0 => ⟨S2x5632, .f32⟩
  | 1 => ⟨S4096, .f32⟩
  | 2 => ⟨S2x2048, .f32⟩
  | 3 => ⟨S4096, .f32⟩
  | 4 => ⟨S2x2048, .f32⟩
  | 5 => ⟨S37888, .f32⟩
  | 6 => ⟨S1024, .f32⟩
  | 7 => ⟨S2x512, .f32⟩
  | 8 => ⟨S256, .f32⟩
  | 9 => ⟨S2x128, .f32⟩
  | 10 => ⟨S12, .f32⟩
  | 11 => ⟨S2x6, .f32⟩
  | 12 => ⟨S4096, .f32⟩
  | 13 => ⟨S2x2048, .f32⟩
  | 14 => ⟨S4096, .f32⟩
  | 15 => ⟨S2x2048, .f32⟩
  | 16 => ⟨S8448, .f32⟩
  | 17 => ⟨S2x3x1408, .f32⟩
  | 18 => ⟨S11264, .f32⟩
  | 19 => ⟨S2x5632, .f32⟩
  | 20 => ⟨S4096, .f32⟩
  | 21 => ⟨S2x2048, .f32⟩
  | 22 => ⟨S4096, .f32⟩
  | 23 => ⟨S2x2048, .f32⟩
  | _ => ⟨S2x512, .f32⟩

abbrev hbmTy (i : Nat) : BufTy := match i / 128 with
  | 0 => hbmTy0_0 i
  | 1 => hbmTy0_1 i
  | _ => ⟨S2x512, .f32⟩

abbrev bufTy : (tb : Table) → Fin (tcTables nBuf tb) → BufTy
  | .hbm, ⟨i, _⟩ => hbmTy i
  | .local _ .vmem, ⟨0, _⟩ => ⟨S296x128, .f32⟩
  | .local _ .vmem, ⟨1, _⟩ => ⟨S296x128, .f32⟩
  | .local _ .vmem, ⟨2, _⟩ => ⟨S296x128, .f32⟩
  | .local _ .vmem, ⟨3, _⟩ => ⟨S296x128, .f32⟩
  | .local _ .vmem, ⟨4, _⟩ => ⟨S296x128, .f32⟩
  | .local _ .vmem, ⟨5, _⟩ => ⟨S296x128, .f32⟩
  | .local _ .vmem, ⟨6, _⟩ => ⟨S296x128, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c : Ref sig .tc := ⟨.hbm, 46, rfl⟩
abbrev main_call0_v0 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_0 : Ref sig .tc := ⟨.hbm, 60, rfl⟩
abbrev main_call1_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_1 : Ref sig .tc := ⟨.hbm, 74, rfl⟩
abbrev main_call2_v0 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_2 : Ref sig .tc := ⟨.hbm, 88, rfl⟩
abbrev main_call3_v0 : Ref sig .tc := ⟨.hbm, 89, rfl⟩
abbrev main_v46 : Ref sig .tc := ⟨.hbm, 90, rfl⟩
abbrev main_v47 : Ref sig .tc := ⟨.hbm, 91, rfl⟩
abbrev main_v48_0 : Ref sig .tc := ⟨.hbm, 92, rfl⟩
abbrev main_v48_1 : Ref sig .tc := ⟨.hbm, 93, rfl⟩
abbrev main_v48_2 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S296x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S296x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S296x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S296x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S296x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== SmallUpdatesRefIdeal.lean ====
abbrev S2x512 : Shape := ⟨2, ![2, 512]⟩
abbrev S2x128 : Shape := ⟨2, ![2, 128]⟩
abbrev S2x6 : Shape := ⟨2, ![2, 6]⟩
abbrev S2x2048 : Shape := ⟨2, ![2, 2048]⟩
abbrev S2x3x1408 : Shape := ⟨3, ![2, 3, 1408]⟩
abbrev S2x5632 : Shape := ⟨2, ![2, 5632]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S2x512, .f32⟩
  | 1 => ⟨S2x128, .f32⟩
  | 2 => ⟨S2x6, .f32⟩
  | 3 => ⟨S2x2048, .f32⟩
  | 4 => ⟨S2x2048, .f32⟩
  | 5 => ⟨S2x3x1408, .f32⟩
  | 6 => ⟨S2x5632, .f32⟩
  | 7 => ⟨S2x2048, .f32⟩
  | 8 => ⟨S2x2048, .f32⟩
  | 9 => ⟨S2x512, .f32⟩
  | 10 => ⟨S2x128, .f32⟩
  | 11 => ⟨S2x6, .f32⟩
  | 12 => ⟨S2x2048, .f32⟩
  | 13 => ⟨S2x2048, .f32⟩
  | 14 => ⟨S2x3x1408, .f32⟩
  | 15 => ⟨S2x5632, .f32⟩
  | 16 => ⟨S2x2048, .f32⟩
  | 17 => ⟨S2x2048, .f32⟩
  | 18 => ⟨S2x512, .f32⟩
  | 19 => ⟨S2x128, .f32⟩
  | 20 => ⟨S2x6, .f32⟩
  | 21 => ⟨S2x2048, .f32⟩
  | 22 => ⟨S2x2048, .f32⟩
  | 23 => ⟨S2x3x1408, .f32⟩
  | 24 => ⟨S2x5632, .f32⟩
  | 25 => ⟨S2x2048, .f32⟩
  | 26 => ⟨S2x2048, .f32⟩
  | 27 => ⟨S2x512, .f32⟩
  | 28 => ⟨S2x128, .f32⟩
  | 29 => ⟨S2x6, .f32⟩
  | 30 => ⟨S2x2048, .f32⟩
  | 31 => ⟨S2x2048, .f32⟩
  | 32 => ⟨S2x3x1408, .f32⟩
  | 33 => ⟨S2x5632, .f32⟩
  | 34 => ⟨S2x2048, .f32⟩
  | 35 => ⟨S2x2048, .f32⟩
  | 36 => ⟨S_, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S_, .f32⟩
  | 70 => ⟨S2x128, .f32⟩
  | 71 => ⟨S2x128, .f32⟩
  | 72 => ⟨S_, .f32⟩
  | 73 => ⟨S2x128, .f32⟩
  | 74 => ⟨S2x128, .f32⟩
  | 75 => ⟨S2x128, .f32⟩
  | 76 => ⟨S_, .f32⟩
  | 77 => ⟨S2x128, .f32⟩
  | 78 => ⟨S2x128, .f32⟩
  | 79 => ⟨S2x128, .f32⟩
  | 80 => ⟨S_, .f32⟩
  | 81 => ⟨S2x128, .f32⟩
  | 82 => ⟨S2x128, .f32⟩
  | 83 => ⟨S2x128, .f32⟩
  | 84 => ⟨S_, .f32⟩
  | 85 => ⟨S2x128, .f32⟩
  | 86 => ⟨S2x128, .f32⟩
  | 87 => ⟨S_, .f32⟩
  | 88 => ⟨S2x128, .f32⟩
  | 89 => ⟨S2x128, .f32⟩
  | 90 => ⟨S2x128, .f32⟩
  | 91 => ⟨S_, .f32⟩
  | 92 => ⟨S2x128, .f32⟩
  | 93 => ⟨S2x128, .f32⟩
  | 94 => ⟨S2x128, .f32⟩
  | 95 => ⟨S_, .f32⟩
  | 96 => ⟨S2x128, .f32⟩
  | 97 => ⟨S2x128, .f32⟩
  | 98 => ⟨S2x128, .f32⟩
  | 99 => ⟨S_, .f32⟩
  | 100 => ⟨S2x128, .f32⟩
  | 101 => ⟨S2x128, .f32⟩
  | 102 => ⟨S_, .f32⟩
  | 103 => ⟨S2x6, .f32⟩
  | 104 => ⟨S2x6, .f32⟩
  | 105 => ⟨S_, .f32⟩
  | 106 => ⟨S2x6, .f32⟩
  | 107 => ⟨S2x6, .f32⟩
  | 108 => ⟨S2x6, .f32⟩
  | 109 => ⟨S_, .f32⟩
  | 110 => ⟨S2x6, .f32⟩
  | 111 => ⟨S2x6, .f32⟩
  | 112 => ⟨S2x6, .f32⟩
  | 113 => ⟨S_, .f32⟩
  | 114 => ⟨S2x6, .f32⟩
  | 115 => ⟨S2x6, .f32⟩
  | 116 => ⟨S2x6, .f32⟩
  | 117 => ⟨S_, .f32⟩
  | 118 => ⟨S2x6, .f32⟩
  | 119 => ⟨S2x6, .f32⟩
  | 120 => ⟨S_, .f32⟩
  | 121 => ⟨S2x6, .f32⟩
  | 122 => ⟨S2x6, .f32⟩
  | 123 => ⟨S2x6, .f32⟩
  | 124 => ⟨S_, .f32⟩
  | 125 => ⟨S2x6, .f32⟩
  | 126 => ⟨S2x6, .f32⟩
  | 127 => ⟨S2x6, .f32⟩
  | _ => ⟨S2x512, .f32⟩

abbrev hbmTy0_1 (i : Nat) : BufTy := match i % 128 with
  | 0 => ⟨S_, .f32⟩
  | 1 => ⟨S2x6, .f32⟩
  | 2 => ⟨S2x6, .f32⟩
  | 3 => ⟨S2x6, .f32⟩
  | 4 => ⟨S_, .f32⟩
  | 5 => ⟨S2x6, .f32⟩
  | 6 => ⟨S2x6, .f32⟩
  | 7 => ⟨S_, .f32⟩
  | 8 => ⟨S2x2048, .f32⟩
  | 9 => ⟨S2x2048, .f32⟩
  | 10 => ⟨S_, .f32⟩
  | 11 => ⟨S2x2048, .f32⟩
  | 12 => ⟨S2x2048, .f32⟩
  | 13 => ⟨S2x2048, .f32⟩
  | 14 => ⟨S_, .f32⟩
  | 15 => ⟨S2x2048, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S_, .f32⟩
  | 26 => ⟨S2x2048, .f32⟩
  | 27 => ⟨S2x2048, .f32⟩
  | 28 => ⟨S2x2048, .f32⟩
  | 29 => ⟨S_, .f32⟩
  | 30 => ⟨S2x2048, .f32⟩
  | 31 => ⟨S2x2048, .f32⟩
  | 32 => ⟨S2x2048, .f32⟩
  | 33 => ⟨S_, .f32⟩
  | 34 => ⟨S2x2048, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S_, .f32⟩
  | 41 => ⟨S2x2048, .f32⟩
  | 42 => ⟨S2x2048, .f32⟩
  | 43 => ⟨S_, .f32⟩
  | 44 => ⟨S2x2048, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S_, .f32⟩
  | 59 => ⟨S2x2048, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S_, .f32⟩
  | 74 => ⟨S2x3x1408, .f32⟩
  | 75 => ⟨S2x3x1408, .f32⟩
  | 76 => ⟨S_, .f32⟩
  | 77 => ⟨S2x3x1408, .f32⟩
  | 78 => ⟨S2x3x1408, .f32⟩
  | 79 => ⟨S2x3x1408, .f32⟩
  | 80 => ⟨S_, .f32⟩
  | 81 => ⟨S2x3x1408, .f32⟩
  | 82 => ⟨S2x3x1408, .f32⟩
  | 83 => ⟨S2x3x1408, .f32⟩
  | 84 => ⟨S_, .f32⟩
  | 85 => ⟨S2x3x1408, .f32⟩
  | 86 => ⟨S2x3x1408, .f32⟩
  | 87 => ⟨S2x3x1408, .f32⟩
  | 88 => ⟨S_, .f32⟩
  | 89 => ⟨S2x3x1408, .f32⟩
  | 90 => ⟨S2x3x1408, .f32⟩
  | 91 => ⟨S_, .f32⟩
  | 92 => ⟨S2x3x1408, .f32⟩
  | 93 => ⟨S2x3x1408, .f32⟩
  | 94 => ⟨S2x3x1408, .f32⟩
  | 95 => ⟨S_, .f32⟩
  | 96 => ⟨S2x3x1408, .f32⟩
  | 97 => ⟨S2x3x1408, .f32⟩
  | 98 => ⟨S2x3x1408, .f32⟩
  | 99 => ⟨S_, .f32⟩
  | 100 => ⟨S2x3x1408, .f32⟩
  | 101 => ⟨S2x3x1408, .f32⟩
  | 102 => ⟨S2x3x1408, .f32⟩
  | 103 => ⟨S_, .f32⟩
  | 104 => ⟨S2x3x1408, .f32⟩
  | 105 => ⟨S2x3x1408, .f32⟩
  | 106 => ⟨S_, .f32⟩
  | 107 => ⟨S2x5632, .f32⟩
  | 108 => ⟨S2x5632, .f32⟩
  | 109 => ⟨S_, .f32⟩
  | 110 => ⟨S2x5632, .f32⟩
  | 111 => ⟨S2x5632, .f32⟩
  | 112 => ⟨S2x5632, .f32⟩
  | 113 => ⟨S_, .f32⟩
  | 114 => ⟨S2x5632, .f32⟩
  | 115 => ⟨S2x5632, .f32⟩
  | 116 => ⟨S2x5632, .f32⟩
  | 117 => ⟨S_, .f32⟩
  | 118 => ⟨S2x5632, .f32⟩
  | 119 => ⟨S2x5632, .f32⟩
  | 120 => ⟨S2x5632, .f32⟩
  | 121 => ⟨S_, .f32⟩
  | 122 => ⟨S2x5632, .f32⟩
  | 123 => ⟨S2x5632, .f32⟩
  | 124 => ⟨S_, .f32⟩
  | 125 => ⟨S2x5632, .f32⟩
  | 126 => ⟨S2x5632, .f32⟩
  | 127 => ⟨S2x5632, .f32⟩
  | _ => ⟨S2x512, .f32⟩

abbrev hbmTy0_2 (i : Nat) : BufTy := match i % 128 with
  | 0 => ⟨S_, .f32⟩
  | 1 => ⟨S2x5632, .f32⟩
  | 2 => ⟨S2x5632, .f32⟩
  | 3 => ⟨S2x5632, .f32⟩
  | 4 => ⟨S_, .f32⟩
  | 5 => ⟨S2x5632, .f32⟩
  | 6 => ⟨S2x5632, .f32⟩
  | 7 => ⟨S2x5632, .f32⟩
  | 8 => ⟨S_, .f32⟩
  | 9 => ⟨S2x5632, .f32⟩
  | 10 => ⟨S2x5632, .f32⟩
  | 11 => ⟨S_, .f32⟩
  | 12 => ⟨S2x2048, .f32⟩
  | 13 => ⟨S2x2048, .f32⟩
  | 14 => ⟨S_, .f32⟩
  | 15 => ⟨S2x2048, .f32⟩
  | 16 => ⟨S2x2048, .f32⟩
  | 17 => ⟨S2x2048, .f32⟩
  | 18 => ⟨S_, .f32⟩
  | 19 => ⟨S2x2048, .f32⟩
  | 20 => ⟨S2x2048, .f32⟩
  | 21 => ⟨S2x2048, .f32⟩
  | 22 => ⟨S_, .f32⟩
  | 23 => ⟨S2x2048, .f32⟩
  | 24 => ⟨S2x2048, .f32⟩
  | 25 => ⟨S2x2048, .f32⟩
  | 26 => ⟨S_, .f32⟩
  | 27 => ⟨S2x2048, .f32⟩
  | 28 => ⟨S2x2048, .f32⟩
  | 29 => ⟨S_, .f32⟩
  | 30 => ⟨S2x2048, .f32⟩
  | 31 => ⟨S2x2048, .f32⟩
  | 32 => ⟨S2x2048, .f32⟩
  | 33 => ⟨S_, .f32⟩
  | 34 => ⟨S2x2048, .f32⟩
  | 35 => ⟨S2x2048, .f32⟩
  | 36 => ⟨S2x2048, .f32⟩
  | 37 => ⟨S_, .f32⟩
  | 38 => ⟨S2x2048, .f32⟩
  | 39 => ⟨S2x2048, .f32⟩
  | 40 => ⟨S2x2048, .f32⟩
  | 41 => ⟨S_, .f32⟩
  | 42 => ⟨S2x2048, .f32⟩
  | 43 => ⟨S2x2048, .f32⟩
  | 44 => ⟨S_, .f32⟩
  | 45 => ⟨S2x2048, .f32⟩
  | 46 => ⟨S2x2048, .f32⟩
  | 47 => ⟨S_, .f32⟩
  | 48 => ⟨S2x2048, .f32⟩
  | 49 => ⟨S2x2048, .f32⟩
  | 50 => ⟨S2x2048, .f32⟩
  | 51 => ⟨S_, .f32⟩
  | 52 => ⟨S2x2048, .f32⟩
  | 53 => ⟨S2x2048, .f32⟩
  | 54 => ⟨S2x2048, .f32⟩
  | 55 => ⟨S_, .f32⟩
  | 56 => ⟨S2x2048, .f32⟩
  | 57 => ⟨S2x2048, .f32⟩
  | 58 => ⟨S2x2048, .f32⟩
  | 59 => ⟨S_, .f32⟩
  | 60 => ⟨S2x2048, .f32⟩
  | 61 => ⟨S2x2048, .f32⟩
  | 62 => ⟨S_, .f32⟩
  | 63 => ⟨S2x2048, .f32⟩
  | 64 => ⟨S2x2048, .f32⟩
  | 65 => ⟨S2x2048, .f32⟩
  | 66 => ⟨S_, .f32⟩
  | 67 => ⟨S2x2048, .f32⟩
  | 68 => ⟨S2x2048, .f32⟩
  | 69 => ⟨S2x2048, .f32⟩
  | 70 => ⟨S_, .f32⟩
  | 71 => ⟨S2x2048, .f32⟩
  | 72 => ⟨S2x2048, .f32⟩
  | 73 => ⟨S2x2048, .f32⟩
  | 74 => ⟨S_, .f32⟩
  | 75 => ⟨S2x2048, .f32⟩
  | 76 => ⟨S2x2048, .f32⟩
  | _ => ⟨S2x512, .f32⟩

abbrev hbmTy (i : Nat) : BufTy := match i / 128 with
  | 0 => hbmTy0_0 i
  | 1 => hbmTy0_1 i
  | 2 => hbmTy0_2 i
  | _ => ⟨S2x512, .f32⟩

abbrev bufTy : (tb : Table) → Fin (tcTables nBuf tb) → BufTy
  | .hbm, ⟨i, _⟩ => hbmTy i
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== LnBwd.lean ====
abbrev S2048x2048 : Shape := ⟨2, ![2048, 2048]⟩
abbrev S2048 : Shape := ⟨1, ![2048]⟩
abbrev S8x128 : Shape := ⟨2, ![8, 128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S8x128, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_25 : BitVec 32 := 0#32
  let v56 : BitVec 1 := Scalar.cmpi .ne v55 c0_i32_25
  v56

def k0_cond2 (i : grid0.Coords) : BitVec 1 :=
  let arg0 : BitVec 32 := BitVec.ofNat 32 (i 0).val
  let c0_i32_26 : BitVec 32 := 0#32
  let v57 : BitVec 1 := Scalar.cmpi .sgt arg0 c0_i32_26
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LnBwdRefIdeal.lean ====
abbrev S2048x2048 : Shape := ⟨2, ![2048, 2048]⟩
abbrev S2048 : Shape := ⟨1, ![2048]⟩
abbrev S8x128 : Shape := ⟨2, ![8, 128]⟩
abbrev S_ : Shape := ⟨0, ![]⟩
abbrev S2048x1 : Shape := ⟨2, ![2048, 1]⟩
abbrev S1x2048 : Shape := ⟨2, ![1, 2048]⟩

abbrev nBuf : Space → Nat
  | .hbm => 99
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .f32⟩
  | .hbm, ⟨5, _⟩ => ⟨S8x128, .f32⟩
  | .hbm, ⟨6, _⟩ => ⟨S_, .f32⟩
  | .hbm, ⟨7, _⟩ => ⟨S2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S_, .f32⟩
  | .hbm, ⟨56, _⟩ => ⟨S2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x2048, .f32⟩
  | .hbm, ⟨70, _⟩ => ⟨S2048x2048, .f32⟩
  | .hbm, ⟨71, _⟩ => ⟨S2048x1, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x2048, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x2048, .f32⟩
  | .hbm, ⟨95, _⟩ => ⟨S2048x2048, .f32⟩
  | .hbm, ⟨96, _⟩ => ⟨S2048x2048, .bf16⟩
  | .hbm, ⟨97, _⟩ => ⟨S1x2048, .f32⟩
  | .hbm, ⟨98, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_cst_13 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_14 : Ref sig .tc := ⟨.hbm, 73, rfl⟩
abbrev main_v52 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev main_cst_16 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_18 : Ref sig .tc := ⟨.hbm, 89, rfl⟩
abbrev main_v64 : Ref sig .tc := ⟨.hbm, 90, rfl⟩
abbrev main_v65 : Ref sig .tc := ⟨.hbm, 91, rfl⟩
abbrev main_cst_19 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== LossBwd.lean ====
abbrev S2048x2048 : Shape := ⟨2, ![2048, 2048]⟩
abbrev S2048 : Shape := ⟨1, ![2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 12
  | .vmem => 15
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_29 : BitVec 32 := 0#32
  let v70 : BitVec 1 := Scalar.cmpi .ne v69 c0_i32_29
  v70

def k0_cond2 (i : grid0.Coords) : BitVec 1 :=
  let arg0 : BitVec 32 := BitVec.ofNat 32 (i 0).val
  let c0_i32_30 : BitVec 32 := 0#32
  let v71 : BitVec 1 := Scalar.cmpi .sgt arg0 c0_i32_30
  let v72 : BitVec 32 := Scalar.extui v71
  let c0_i32_31 : BitVec 32 := 0#32
  let v73 : BitVec 1 := Scalar.cmpi .ne v72 c0_i32_31
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossBwdRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S_, .f32⟩
  | .hbm, ⟨72, _⟩ => ⟨S2048, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S2048x2048, .f32⟩
  | .hbm, ⟨78, _⟩ => ⟨S2048x2048, .f32⟩
  | .hbm, ⟨79, _⟩ => ⟨S_, .f32⟩
  | .hbm, ⟨80, _⟩ => ⟨S2048, .f32⟩
  | .hbm, ⟨81, _⟩ => ⟨S2048x2048, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x2048, .f32⟩
  | .hbm, ⟨86, _⟩ => ⟨S2048x2048, .f32⟩
  | .hbm, ⟨87, _⟩ => ⟨S2048x1, .f32⟩
  | .hbm, ⟨88, _⟩ => ⟨S2048x2048, .f32⟩
  | .hbm, ⟨89, _⟩ => ⟨S_, .f32⟩
  | .hbm, ⟨90, _⟩ => ⟨S2048, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x2048, .f32⟩
  | .hbm, ⟨98, _⟩ => ⟨S2048x2048, .f32⟩
  | .hbm, ⟨99, _⟩ => ⟨S2048x2048, .f32⟩
  | .hbm, ⟨100, _⟩ => ⟨S_, .f32⟩
  | .hbm, ⟨101, _⟩ => ⟨S2048, .f32⟩
  | .hbm, ⟨102, _⟩ => ⟨S2048x1, .f32⟩
  | .hbm, ⟨103, _⟩ => ⟨S2048x2048, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | .hbm, ⟨108, _⟩ => ⟨S_, .f32⟩
  | .hbm, ⟨109, _⟩ => ⟨S2048, .f32⟩
  | .hbm, ⟨110, _⟩ => ⟨S2048x2048, .f32⟩
  | .hbm, ⟨111, _⟩ => ⟨S2048x2048, .f32⟩
  | .hbm, ⟨112, _⟩ => ⟨S2048x2048, .bf16⟩
  | .hbm, ⟨113, _⟩ => ⟨S1x2048, .f32⟩
  | .hbm, ⟨114, _⟩ => ⟨S1x2048, .f32⟩
  | .hbm, ⟨115, _⟩ => ⟨S8x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_cst_12 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_cst_17 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_cst_19 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_20 : Ref sig .tc := ⟨.hbm, 89, rfl⟩
abbrev main_v63 : Ref sig .tc := ⟨.hbm, 90, rfl⟩
abbrev main_v64 : Ref sig .tc := ⟨.hbm, 91, rfl⟩
abbrev main_cst_21 : Ref sig .tc := ⟨.hbm, 92, rfl⟩
abbrev main_v65 : Ref sig .tc := ⟨.hbm, 93, rfl⟩
abbrev main_v66 : Ref sig .tc := ⟨.hbm, 94, rfl⟩
abbrev main_cst_22 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_24 : Ref sig .tc := ⟨.hbm, 105, rfl⟩
abbrev main_v75 : Ref sig .tc := ⟨.hbm, 106, rfl⟩
abbrev main_v76 : Ref sig .tc := ⟨.hbm, 107, rfl⟩
abbrev main_cst_25 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩

abbrev nD : Nat := 1
abbrev τ : Topo := Topo.v7x

variable {F : FTy → Type} [FloatOps F]
-- ==== Proof.ConvColumn.lean ====
/-
  The gradient of a causal depthwise convolution of width three followed by a SiLU gate, written for ONE channel:
  columns of 2048 numbers, one per time step, over the extended reals. No program is mentioned here. `ConvKernel.lean`
  shows that the kernel computes these functions channel by channel, `ConvReference.lean` that the reference does.
-/
module

public import Idealize.ShloMosaic.Lib.Pointwise
public import Idealize.ShloMosaic.Lib.WordCmp

@[expose] public section

noncomputable section

open Idealize.ShloMosaic

namespace Cert.ConvColumn

/-- One channel: a number per time step. -/
abbrev Col : Type := Fin 2048 → EReal

/-- The column `s` steps earlier, zero before the start of the sequence. -/
def earlier (s : Nat) (x : Col) : Col := fun r => if s ≤ r.val then x ⟨r.val - s, by omega⟩ else 0

/-- The column `s` steps later, zero after the end of the sequence. -/
def later (s : Nat) (x : Col) : Col := fun r => if h : r.val + s < 2048 then x ⟨r.val + s, h⟩ else 0

/-- The convolution: the bias, and the last three steps of the gate weighted by the three taps. -/
def conv (w0 w1 w2 b : EReal) (g : Col) : Col :=
  fun r => b + w2 * g r + w1 * earlier 1 g r + w0 * earlier 2 g r

/-- The derivative of SiLU at `x` times `d`, in the shape the product rule gives it. -/
def siluGrad (d x : EReal) : EReal :=
  d * Ideal.logistic x + x * d * (Ideal.logistic x * (1 - Ideal.logistic x))

/-- The gradient of the loss with respect to the convolution's output. -/
def convGrad (w0 w1 w2 b : EReal) (g u dh : Col) : Col :=
  fun r => siluGrad (dh r * u r) (conv w0 w1 w2 b g r)

/-- The gradient with respect to the gate's input: the convolution's transpose, which looks ahead. -/
def gateGrad (w0 w1 w2 b : EReal) (g u dh : Col) : Col :=
  fun r => w2 * convGrad w0 w1 w2 b g u dh r + w1 * later 1 (convGrad w0 w1 w2 b g u dh) r
    + w0 * later 2 (convGrad w0 w1 w2 b g u dh) r

/-- The gradient with respect to the gated factor `u`. -/
def upGrad (w0 w1 w2 b : EReal) (g dh : Col) : Col :=
  fun r => conv w0 w1 w2 b g r * Ideal.logistic (conv w0 w1 w2 b g r) * dh r

/-- The gradient with respect to the tap that weighs the gate `s` steps back. -/
def tapGrad (s : Nat) (w0 w1 w2 b : EReal) (g u dh : Col) : EReal :=
  ∑ r, convGrad w0 w1 w2 b g u dh r * earlier s g r

/-- The gradient with respect to the bias. -/
def biasGrad (w0 w1 w2 b : EReal) (g u dh : Col) : EReal := ∑ r, convGrad w0 w1 w2 b g u dh r

/-- Nothing is shifted by zero steps. -/
theorem earlier_zero (x : Col) : earlier 0 x = x := by
  funext r; simp [earlier]

/-- A rotation by `s` whose first `s` entries are replaced by zero is the column `s` steps earlier. -/
theorem select_rotate_earlier (s : Nat) (hs : s < 2048) (x : Col) (r : Fin 2048) (h : (r.val + 2048 - s) % 2048 < 2048) :
    Scalar.select (IntOp.cmpi .sge (BitVec.ofNat 32 r.val) (BitVec.ofNat 32 s)) (x ⟨(r.val + 2048 - s) % 2048, h⟩) 0
      = earlier s x r := by
  have hr := r.isLt
  unfold Scalar.select earlier
  have e : _ = (1 : BitVec 1) ↔ _ := WordCmp.cmpi_sge_ofNat_eq_one_iff (w := 32) (a := r.val) (b := s) (by omega) (by omega)
  by_cases hc : s ≤ r.val
  · rw [if_pos (e.2 hc), if_pos hc]
    congr 1; apply Fin.ext; show (r.val + 2048 - s) % 2048 = r.val - s; omega
  · rw [if_neg (fun k => hc (e.1 k)), if_neg hc]

/-- A rotation by `2048 - s` whose last `s` entries are replaced by zero is the column `s` steps later. -/
theorem select_rotate_later (s n : Nat) (hs : 0 < s) (hn : n + s = 2048) (x : Col) (r : Fin 2048)
    (h : (r.val + 2048 - n) % 2048 < 2048) :
    Scalar.select (IntOp.cmpi .slt (BitVec.ofNat 32 r.val) (BitVec.ofNat 32 n)) (x ⟨(r.val + 2048 - n) % 2048, h⟩) 0
      = later s x r := by
  have hr := r.isLt
  unfold Scalar.select later
  have e : _ = (1 : BitVec 1) ↔ _ := WordCmp.cmpi_slt_ofNat_eq_one_iff (w := 32) (a := r.val) (b := n) (by omega) (by omega)
  by_cases hc : r.val < n
  · rw [if_pos (e.2 hc), dif_pos (by omega)]
    congr 1; apply Fin.ext; show (r.val + 2048 - n) % 2048 = r.val + s; omega
  · rw [if_neg (fun k => hc (e.1 k)), dif_neg (by omega)]

/-- The same with a weight in front of the rotated column. -/
theorem select_mul_rotate_earlier (s : Nat) (hs : s < 2048) (w : EReal) (x : Col) (r : Fin 2048) (h : (r.val + 2048 - s) % 2048 < 2048) :
    Scalar.select (IntOp.cmpi .sge (BitVec.ofNat 32 r.val) (BitVec.ofNat 32 s)) (w * x ⟨(r.val + 2048 - s) % 2048, h⟩) 0
      = w * earlier s x r := by
  rw [select_rotate_earlier s hs (fun k => w * x k) r h]
  unfold earlier
  split <;> simp

/-- The same with a weight in front of the rotated column. -/
theorem select_mul_rotate_later (s n : Nat) (hs : 0 < s) (hn : n + s = 2048) (w : EReal) (x : Col) (r : Fin 2048)
    (h : (r.val + 2048 - n) % 2048 < 2048) :
    Scalar.select (IntOp.cmpi .slt (BitVec.ofNat 32 r.val) (BitVec.ofNat 32 n)) (w * x ⟨(r.val + 2048 - n) % 2048, h⟩) 0
      = w * later s x r := by
  rw [select_rotate_later s n hs hn (fun k => w * x k) r h]
  unfold later
  split <;> simp

/-- Channel `q` of an array of 2048 time steps. -/
abbrev col {n : Nat} (X : (⟨2, ![2048, n]⟩ : Shape).Idx → EReal) (q : Fin n) : Col := fun r => X (ix2 r q)

section Arrays

variable (g u dh : (⟨2, ![2048, 5632]⟩ : Shape).Idx → EReal) (w : (⟨2, ![3, 5632]⟩ : Shape).Idx → EReal)
  (b : (⟨1, ![5632]⟩ : Shape).Idx → EReal)

/-- The four results over all 5632 channels, each channel from its own columns, taps and bias. -/
def gateGrads : (⟨2, ![2048, 5632]⟩ : Shape).Idx → EReal := fun i =>
  gateGrad (w (ix2 0 (i 1))) (w (ix2 1 (i 1))) (w (ix2 2 (i 1))) (b (ix1 (i 1))) (col g (i 1)) (col u (i 1)) (col dh (i 1)) (i 0)

def upGrads : (⟨2, ![2048, 5632]⟩ : Shape).Idx → EReal := fun i =>
  upGrad (w (ix2 0 (i 1))) (w (ix2 1 (i 1))) (w (ix2 2 (i 1))) (b (ix1 (i 1))) (col g (i 1)) (col dh (i 1)) (i 0)

/-- Tap `k` weighs the gate `2 - k` steps back. -/
def tapGrads : (⟨2, ![3, 5632]⟩ : Shape).Idx → EReal := fun i =>
  tapGrad (2 - (i 0).val) (w (ix2 0 (i 1))) (w (ix2 1 (i 1))) (w (ix2 2 (i 1))) (b (ix1 (i 1))) (col g (i 1)) (col u (i 1)) (col dh (i 1))

def biasGrads : (⟨2, ![1, 5632]⟩ : Shape).Idx → EReal := fun i =>
  biasGrad (w (ix2 0 (i 1))) (w (ix2 1 (i 1))) (w (ix2 2 (i 1))) (b (ix1 (i 1))) (col g (i 1)) (col u (i 1)) (col dh (i 1))

end Arrays

/-- The word `0x3F000000` is one half. -/
theorem half_f32 : Ideal.ofBits .f32 0x3F000000#32 = ((1 / 2 : ℝ) : EReal) := by
  simp [Ideal.ofBits, Ideal.ieee, -EReal.coe_mul, -EReal.coe_neg]; norm_num

/-- The logistic function through the hyperbolic tangent, at every extended real. -/
theorem half_tanh_half (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, mul_neg_one, ← EReal.coe_neg,
      ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    have p1 := Real.exp_pos (1 / 2 * r)
    have p2 := Real.exp_pos (-(1 / 2 * r))
    rw [h1]
    generalize Real.exp (1 / 2 * r) = a at *
    generalize Real.exp (-(1 / 2 * r)) = b at *
    have hb : b = a⁻¹ := by field_simp; linarith
    subst hb
    field_simp
    ring

/-- The kernel's factored derivative of SiLU is the product rule's, where the incoming gradient is a number. -/
theorem factored_siluGrad (d : ℝ) (x : EReal) :
    (d : EReal) * (Ideal.logistic x * (1 + x * (1 - Ideal.logistic x))) = siluGrad d x := by
  unfold siluGrad
  induction x with
  | bot => simp
  | top =>
    rw [Ideal.logistic_top]
    have : (1 : EReal) - 1 = 0 := EReal.sub_self (EReal.coe_ne_top 1) (EReal.coe_ne_bot 1)
    simp [this]
  | coe r =>
    rw [Ideal.logistic_coe]
    generalize (1 + Real.exp (-r))⁻¹ = s
    norm_cast
    ring

end Cert.ConvColumn

end
-- ==== Proof.ConvKernel.lean ====
/-
  What the kernel leaves in its four result arrays, channel by channel: the functions of `ConvColumn.lean`. A grid point
  holds 512 channels over all 2048 time steps, so no channel is split between points, and the shifts along time are
  rotations of the block with the entries that wrap around replaced by zero.
-/
module

public import proofs.«01_k».proof.Proof.Gen.KernelIdeal.Value
public import proofs.«01_k».proof.Proof.ConvColumn
public import Idealize.ShloMosaic.Lib.Pipeline.ValueKit

@[expose] public section

set_option maxRecDepth 16384

noncomputable section

open Idealize.ShloMosaic Idealize.ShloMosaic.TcCoe Idealize.SL.Sem

namespace Cert.KernelIdeal.Conv

open Cert.KernelIdeal Cert.KernelIdeal.Gen Cert.ConvColumn

section Payloads

variable (x0 x1 x4 : Vec Ideal S2048x512 .bf16) (b w2 w1 w0 : Vec Ideal S1x512 .f32)

/-- The convolution of a block. -/
theorem conv_apply (r : Fin 2048) (q : Fin 512) :
    k0_pay5 x0 b w2 w1 w0 (ix2 r q)
      = conv (w0 (ix2 0 q)) (w1 (ix2 0 q)) (w2 (ix2 0 q)) (b (ix2 0 q)) (col x0 q) r := by
  pointwise [k0_pay5, k0_pay4, k0_pay3, k0_pay2]
  rw [select_mul_rotate_earlier 1 (by omega) (w1 (ix2 0 q)) (col x0 q) r,
    select_mul_rotate_earlier 2 (by omega) (w0 (ix2 0 q)) (col x0 q) r]
  rfl

/-- The logistic function of the convolution. -/
theorem logistic_apply (r : Fin 2048) (q : Fin 512) :
    k0_pay6 x0 b w2 w1 w0 (ix2 r q)
      = Ideal.logistic (conv (w0 (ix2 0 q)) (w1 (ix2 0 q)) (w2 (ix2 0 q)) (b (ix2 0 q)) (col x0 q) r) := by
  rw [← conv_apply, ← half_tanh_half, ← half_f32]
  pointwise [k0_pay6]

/-- The gate of a block steps back by one, and by two. -/
theorem earlier1_apply (r : Fin 2048) (q : Fin 512) : k0_pay3 x0 (ix2 r q) = earlier 1 (col x0 q) r := by
  pointwise [k0_pay3, k0_pay2]
  exact select_rotate_earlier 1 (by omega) (col x0 q) r _

theorem earlier2_apply (r : Fin 2048) (q : Fin 512) : k0_pay4 x0 (ix2 r q) = earlier 2 (col x0 q) r := by
  pointwise [k0_pay4, k0_pay2]
  exact select_rotate_earlier 2 (by omega) (col x0 q) r _

/-- The gradient at the convolution's output, where the incoming gradient times `u` is a number. -/
theorem convGrad_apply (hd : ∀ r q, ∃ d : ℝ, x4 (ix2 r q) * x1 (ix2 r q) = (d : EReal)) (r : Fin 2048) (q : Fin 512) :
    k0_pay10 (k0_pay5 x0 b w2 w1 w0) (k0_pay6 x0 b w2 w1 w0) (k0_pay8 x4) x1 (ix2 r q)
      = convGrad (w0 (ix2 0 q)) (w1 (ix2 0 q)) (w2 (ix2 0 q)) (b (ix2 0 q)) (col x0 q) (col x1 q) (col x4 q) r := by
  pointwise [k0_pay10, k0_pay8]
  rw [logistic_apply, conv_apply]
  unfold convGrad
  obtain ⟨d, h⟩ := hd r q
  show x4 (ix2 r q) * x1 (ix2 r q) * _ = siluGrad (x4 (ix2 r q) * x1 (ix2 r q)) _
  rw [h]
  exact factored_siluGrad d _

/-- The gradient at the gate's input. -/
theorem gateGrad_apply (hd : ∀ r q, ∃ d : ℝ, x4 (ix2 r q) * x1 (ix2 r q) = (d : EReal)) (r : Fin 2048) (q : Fin 512) :
    k0_pay1 (F := Ideal) (iota .tc S2048x512 32 [0] iota_S2048x512_d0_w32)
        (k0_pay10 (k0_pay5 x0 b w2 w1 w0) (k0_pay6 x0 b w2 w1 w0) (k0_pay8 x4) x1)
        (k0_pay15 (k0_pay5 x0 b w2 w1 w0) (k0_pay6 x0 b w2 w1 w0) (k0_pay8 x4) x1 w2) w1 2047#32 w0 (ix2 r q)
      = gateGrad (w0 (ix2 0 q)) (w1 (ix2 0 q)) (w2 (ix2 0 q)) (b (ix2 0 q)) (col x0 q) (col x1 q) (col x4 q) r := by
  have e : col (k0_pay10 (k0_pay5 x0 b w2 w1 w0) (k0_pay6 x0 b w2 w1 w0) (k0_pay8 x4) x1) q
      = convGrad (w0 (ix2 0 q)) (w1 (ix2 0 q)) (w2 (ix2 0 q)) (b (ix2 0 q)) (col x0 q) (col x1 q) (col x4 q) :=
    funext fun k => convGrad_apply x0 x1 x4 b w2 w1 w0 hd k q
  unfold gateGrad
  rw [← e]
  unfold k0_pay15
  generalize k0_pay10 (k0_pay5 x0 b w2 w1 w0) (k0_pay6 x0 b w2 w1 w0) (k0_pay8 x4) x1 = D
  pointwise [k0_pay1]
  rw [select_mul_rotate_later 1 2047 (by omega) (by omega) (w1 (ix2 0 q)) (col D q) r,
    select_mul_rotate_later 2 2046 (by omega) (by omega) (w0 (ix2 0 q)) (col D q) r]

/-- The gradient at `u`. -/
theorem upGrad_apply (r : Fin 2048) (q : Fin 512) :
    k0_pay9 (k0_pay7 x0 b w2 w1 w0) (k0_pay8 x4) (ix2 r q)
      = upGrad (w0 (ix2 0 q)) (w1 (ix2 0 q)) (w2 (ix2 0 q)) (b (ix2 0 q)) (col x0 q) (col x4 q) r := by
  pointwise [k0_pay9, k0_pay7, k0_pay8]
  rw [logistic_apply, conv_apply, mul_comm]
  rfl

/-- The gradient at the bias. -/
theorem biasGrad_apply (hd : ∀ r q, ∃ d : ℝ, x4 (ix2 r q) * x1 (ix2 r q) = (d : EReal)) (z : Fin 1) (q : Fin 512) :
    k0_pay11 (k0_pay5 x0 b w2 w1 w0) (k0_pay6 x0 b w2 w1 w0) (k0_pay8 x4) x1 (ix2 z q)
      = biasGrad (w0 (ix2 0 q)) (w1 (ix2 0 q)) (w2 (ix2 0 q)) (b (ix2 0 q)) (col x0 q) (col x1 q) (col x4 q) := by
  pointwise [k0_pay11]
  exact Finset.sum_congr rfl fun k _ => convGrad_apply x0 x1 x4 b w2 w1 w0 hd k q

/-- The gradient at the tap that weighs the current step, the step before, and the step before that. -/
theorem tapGrad0_apply (hd : ∀ r q, ∃ d : ℝ, x4 (ix2 r q) * x1 (ix2 r q) = (d : EReal)) (z : Fin 1) (q : Fin 512) :
    k0_pay12 (k0_pay2 x0) (k0_pay5 x0 b w2 w1 w0) (k0_pay6 x0 b w2 w1 w0) (k0_pay8 x4) x1 (ix2 z q)
      = tapGrad 0 (w0 (ix2 0 q)) (w1 (ix2 0 q)) (w2 (ix2 0 q)) (b (ix2 0 q)) (col x0 q) (col x1 q) (col x4 q) := by
  unfold tapGrad
  rw [earlier_zero]
  pointwise [k0_pay12, k0_pay2]
  exact Finset.sum_congr rfl fun k _ => by rw [convGrad_apply x0 x1 x4 b w2 w1 w0 hd k q]

theorem tapGrad1_apply (hd : ∀ r q, ∃ d : ℝ, x4 (ix2 r q) * x1 (ix2 r q) = (d : EReal)) (z : Fin 1) (q : Fin 512) :
    k0_pay13 (k0_pay3 x0) (k0_pay5 x0 b w2 w1 w0) (k0_pay6 x0 b w2 w1 w0) (k0_pay8 x4) x1 (ix2 z q)
      = tapGrad 1 (w0 (ix2 0 q)) (w1 (ix2 0 q)) (w2 (ix2 0 q)) (b (ix2 0 q)) (col x0 q) (col x1 q) (col x4 q) := by
  pointwise [k0_pay13]
  exact Finset.sum_congr rfl fun k _ => by rw [convGrad_apply x0 x1 x4 b w2 w1 w0 hd k q, earlier1_apply]

theorem tapGrad2_apply (hd : ∀ r q, ∃ d : ℝ, x4 (ix2 r q) * x1 (ix2 r q) = (d : EReal)) (z : Fin 1) (q : Fin 512) :
    k0_pay14 (k0_pay4 x0) (k0_pay5 x0 b w2 w1 w0) (k0_pay6 x0 b w2 w1 w0) (k0_pay8 x4) x1 (ix2 z q)
      = tapGrad 2 (w0 (ix2 0 q)) (w1 (ix2 0 q)) (w2 (ix2 0 q)) (b (ix2 0 q)) (col x0 q) (col x1 q) (col x4 q) := by
  pointwise [k0_pay14]
  exact Finset.sum_congr rfl fun k _ => by rw [convGrad_apply x0 x1 x4 b w2 w1 w0 hd k q, earlier2_apply]

end Payloads

/-! ## From a grid point's block to the whole arrays -/

section Arrays

variable (m : (ℓ : Loc nD τ sig) → Buf (Elt Ideal) ℓ) (c : Dev nD)

/-- Grid point `t` holds channels `512 t` to `512 t + 511` of every array. -/
theorem index_eq : ∀ t : Fin cfg0.N,
    win0_0.index t = ![0, t.val] ∧ win0_1.index t = ![0, t.val] ∧ win0_2.index t = ![0, t.val]
      ∧ win0_3.index t = ![0, t.val] ∧ win0_4.index t = ![0, t.val] ∧ win0_5.index t = ![0, t.val]
      ∧ win0_6.index t = ![0, t.val] ∧ win0_7.index t = ![0, t.val] ∧ win0_8.index t = ![0, t.val] := by
  decide +kernel

/-- Channel `q` of grid point `t`, in the whole arrays. -/
abbrev chan (t : Fin cfg0.N) (q : Fin 512) : Fin 5632 :=
  ⟨t.val * 512 + q.val, by have := t.isLt; have : cfg0.N = 11 := N_0; have := q.isLt; omega⟩

/-- The five arguments on device `c`, as functions of an index. -/
abbrev gArg : S2048x5632.Idx → EReal := m ((c : Thread nD τ).loc main_arg0)
abbrev uArg : S2048x5632.Idx → EReal := m ((c : Thread nD τ).loc main_arg1)
abbrev wArg : S3x5632.Idx → EReal := m ((c : Thread nD τ).loc main_arg2)
abbrev bArg : S5632.Idx → EReal := m ((c : Thread nD τ).loc main_arg3)
abbrev dhArg : S2048x5632.Idx → EReal := m ((c : Thread nD τ).loc main_arg4)

/-- Their blocks at grid point `t`. -/
abbrev gBlk (t : Fin cfg0.N) : Vec Ideal S2048x512 .bf16 := iblk m c 0 t
abbrev uBlk (t : Fin cfg0.N) : Vec Ideal S2048x512 .bf16 := iblk m c 1 t
abbrev wBlk (t : Fin cfg0.N) : Vec Ideal S3x512 .f32 := iblk m c 2 t
abbrev bBlk (t : Fin cfg0.N) : Vec Ideal S1x512 .f32 := iblk m c 3 t
abbrev dhBlk (t : Fin cfg0.N) : Vec Ideal S2048x512 .bf16 := iblk m c 4 t

theorem gBlk_col (t : Fin cfg0.N) (q : Fin 512) : col (gBlk m c t) q = col (gArg m c) (chan t q) := by
  funext r
  show iblk m c 0 t (ix2 r q) = m ((c : Thread nD τ).loc main_arg0) (ix2 r (chan t q))
  blk_ext! [iblk, V, (index_eq t).1]

theorem uBlk_col (t : Fin cfg0.N) (q : Fin 512) : col (uBlk m c t) q = col (uArg m c) (chan t q) := by
  funext r
  show iblk m c 1 t (ix2 r q) = m ((c : Thread nD τ).loc main_arg1) (ix2 r (chan t q))
  blk_ext! [iblk, V, (index_eq t).2.1]

theorem wBlk_apply (t : Fin cfg0.N) (k : Fin 3) (q : Fin 512) : wBlk m c t (ix2 k q) = wArg m c (ix2 k (chan t q)) := by
  show iblk m c 2 t (ix2 k q) = m ((c : Thread nD τ).loc main_arg2) (ix2 k (chan t q))
  blk_ext! [iblk, V, (index_eq t).2.2.1]

theorem bBlk_apply (t : Fin cfg0.N) (z : Fin 1) (q : Fin 512) : bBlk m c t (ix2 z q) = bArg m c (ix1 (chan t q)) := by
  show iblk m c 3 t (ix2 z q) = m ((c : Thread nD τ).loc main_arg3) (ix1 (chan t q))
  blk_simp [iblk]
  entry_read
  pointwise
  blk_ext [(index_eq t).2.2.2.1]

theorem dhBlk_col (t : Fin cfg0.N) (q : Fin 512) : col (dhBlk m c t) q = col (dhArg m c) (chan t q) := by
  funext r
  show iblk m c 4 t (ix2 r q) = m ((c : Thread nD τ).loc main_arg4) (ix2 r (chan t q))
  blk_ext! [iblk, V, (index_eq t).2.2.2.2.1]

/-- The rows of the taps' block. -/
theorem tap0_blk (t : Fin cfg0.N) (q : Fin 512) : View.ld (wBlk m c t) r0_4 (ix2 0 q) = wArg m c (ix2 0 (chan t q)) := by
  rw [← wBlk_apply]; pointwise
theorem tap1_blk (t : Fin cfg0.N) (q : Fin 512) : View.ld (wBlk m c t) r0_3 (ix2 0 q) = wArg m c (ix2 1 (chan t q)) := by
  rw [← wBlk_apply]; pointwise
theorem tap2_blk (t : Fin cfg0.N) (q : Fin 512) : View.ld (wBlk m c t) r0_2 (ix2 0 q) = wArg m c (ix2 2 (chan t q)) := by
  rw [← wBlk_apply]; pointwise

/-- A load of a whole block is the block. -/
theorem ld_whole (X : Vec Ideal S2048x512 .bf16) : View.ld X r0_0 = X := by
  funext i; idx_vars i; pointwise
theorem ld_bias (X : Vec Ideal S1x512 .f32) : View.ld X r0_1 = X := by
  funext i
  idx_vars i
  have : i0 = 0 := Subsingleton.elim _ _
  subst this
  pointwise

/-- The incoming gradient times `u` is a number everywhere. -/
def Tame : Prop := ∀ i : S2048x5632.Idx, ∃ d : ℝ, dhArg m c i * uArg m c i = (d : EReal)

variable {m c} in
theorem Tame.blk (h : Tame m c) (t : Fin cfg0.N) (r : Fin 2048) (q : Fin 512) :
    ∃ d : ℝ, dhBlk m c t (ix2 r q) * uBlk m c t (ix2 r q) = (d : EReal) := by
  have e1 := congrFun (dhBlk_col m c t q) r
  have e2 := congrFun (uBlk_col m c t q) r
  obtain ⟨d, hd⟩ := h (ix2 r (chan t q))
  exact ⟨d, by rw [← hd]; exact congrArg₂ (fun a b : EReal => a * b) e1 e2⟩

/-- Where a block's entries lie in the result arrays. -/
theorem emb5 (t : Fin cfg0.N) (r : Fin 2048) (q : Fin 512) :
    ((View.whole main_v1_0).slice (win0_5.rect t)).emb (ix2 r q) = ix2 r (chan t q) := by
  funext a; apply Fin.ext; fin_cases a <;> blk_simp [(index_eq t).2.2.2.2.2.1] <;> rfl

theorem emb6 (t : Fin cfg0.N) (r : Fin 2048) (q : Fin 512) :
    ((View.whole main_v1_1).slice (win0_6.rect t)).emb (ix2 r q) = ix2 r (chan t q) := by
  funext a; apply Fin.ext; fin_cases a <;> blk_simp [(index_eq t).2.2.2.2.2.2.1] <;> rfl

theorem emb7 (t : Fin cfg0.N) (r : Fin 3) (q : Fin 512) :
    ((View.whole main_v1_2).slice (win0_7.rect t)).emb (ix2 r q) = ix2 r (chan t q) := by
  funext a; apply Fin.ext; fin_cases a <;> blk_simp [(index_eq t).2.2.2.2.2.2.2.1] <;> rfl

theorem emb8 (t : Fin cfg0.N) (r : Fin 1) (q : Fin 512) :
    ((View.whole main_v1_3).slice (win0_8.rect t)).emb (ix2 r q) = ix2 r (chan t q) := by
  funext a; apply Fin.ext; fin_cases a <;> blk_simp [(index_eq t).2.2.2.2.2.2.2.2] <;> rfl

variable {m c} in
/-- The four result arrays after the run. -/
theorem final_dg (h : Tame m c) :
    (dats m 0 c).arrAt 5 cfg0.N = gateGrads (gArg m c) (uArg m c) (dhArg m c) (wArg m c) (bArg m c) := by
  refine (dats m 0 c).arrAt_eq_of_covers 5 _ (by decide +kernel) fun t hf y => ?_
  blk_simp
  rw [after0_5]
  frame_out
  idx_vars y
  rw [emb5]
  unfold k0_pay16 k0_pay17 k0_pay18
  rw [ld_whole, ld_whole, ld_bias]
  refine (gateGrad_apply (gBlk m c t) (uBlk m c t) (dhBlk m c t) (bBlk m c t) (View.ld (wBlk m c t) r0_2) (View.ld (wBlk m c t) r0_3)
      (View.ld (wBlk m c t) r0_4) (h.blk t) y0 y1).trans ?_
  rw [tap0_blk, tap1_blk, tap2_blk, bBlk_apply, gBlk_col, uBlk_col, dhBlk_col]
  rfl

theorem final_du :
    (dats m 0 c).arrAt 6 cfg0.N = upGrads (gArg m c) (dhArg m c) (wArg m c) (bArg m c) := by
  refine (dats m 0 c).arrAt_eq_of_covers 6 _ (by decide +kernel) fun t hf y => ?_
  blk_simp
  rw [after0_6]
  frame_out
  idx_vars y
  rw [emb6]
  unfold k0_pay18
  try rw [ld_whole]
  refine (upGrad_apply (gBlk m c t) (dhBlk m c t) (bBlk m c t) (View.ld (wBlk m c t) r0_2) (View.ld (wBlk m c t) r0_3)
      (View.ld (wBlk m c t) r0_4) y0 y1).trans ?_
  rw [tap0_blk, tap1_blk, tap2_blk, bBlk_apply, gBlk_col, dhBlk_col]
  rfl

variable {m c} in
theorem final_db (h : Tame m c) :
    (dats m 0 c).arrAt 8 cfg0.N = biasGrads (gArg m c) (uArg m c) (dhArg m c) (wArg m c) (bArg m c) := by
  refine (dats m 0 c).arrAt_eq_of_covers 8 _ (by decide +kernel) fun t hf y => ?_
  blk_simp
  rw [after0_8]
  frame_out
  idx_vars y
  rw [emb8]
  unfold k0_pay16 k0_pay17 k0_pay18
  rw [ld_whole, ld_whole, ld_bias]
  refine (biasGrad_apply (gBlk m c t) (uBlk m c t) (dhBlk m c t) (bBlk m c t) (View.ld (wBlk m c t) r0_2) (View.ld (wBlk m c t) r0_3)
      (View.ld (wBlk m c t) r0_4) (h.blk t) y0 y1).trans ?_
  rw [tap0_blk, tap1_blk, tap2_blk, bBlk_apply, gBlk_col, uBlk_col, dhBlk_col]
  rfl

/-- The taps' gradients for the channels of grid point `t`, and where the kernel's three row stores put them. -/
def tapRows (t : Fin cfg0.N) : S3x512.Idx → EReal := fun i =>
  tapGrads (gArg m c) (uArg m c) (dhArg m c) (wArg m c) (bArg m c) (ix2 (i 0) (chan t (i 1)))

theorem row0 (z : Fin 1) (q : Fin 512) : r0_4.emb (ix2 z q) = (ix2 0 q : S3x512.Idx) := by
  funext a; apply Fin.ext
  match a with
  | ⟨0, _⟩ => show 0 + 1 * z.val = 0; omega
  | ⟨1, _⟩ => show 0 + 1 * q.val = q.val; omega
theorem row1 (z : Fin 1) (q : Fin 512) : r0_3.emb (ix2 z q) = (ix2 1 q : S3x512.Idx) := by
  funext a; apply Fin.ext
  match a with
  | ⟨0, _⟩ => show 1 + 1 * z.val = 1; omega
  | ⟨1, _⟩ => show 0 + 1 * q.val = q.val; omega
theorem row2 (z : Fin 1) (q : Fin 512) : r0_2.emb (ix2 z q) = (ix2 2 q : S3x512.Idx) := by
  funext a; apply Fin.ext
  match a with
  | ⟨0, _⟩ => show 2 + 1 * z.val = 2; omega
  | ⟨1, _⟩ => show 0 + 1 * q.val = q.val; omega

variable {m c} in
theorem final_dw (h : Tame m c) :
    (dats m 0 c).arrAt 7 cfg0.N = tapGrads (gArg m c) (uArg m c) (dhArg m c) (wArg m c) (bArg m c) := by
  refine (dats m 0 c).arrAt_eq_of_covers 7 _ (by decide +kernel) fun t hf y => ?_
  blk_simp
  rw [after0_7]
  frame_out
  idx_vars y
  rw [emb7]
  unfold k0_pay16 k0_pay17 k0_pay18
  rw [ld_whole, ld_whole, ld_bias]
  refine View.canon_apply_of_pieces (Val := Elt Ideal) (S := S3x512) (e := .f32) (tapRows m c t)
    _ ?_ _ ?_
  simp only [List.forall_mem_cons]
  refine ⟨fun x => ?_, fun x => ?_, fun x => ?_, ?_⟩
  · idx_vars x
    refine (tapGrad2_apply (gBlk m c t) (uBlk m c t) (dhBlk m c t) (bBlk m c t) (View.ld (wBlk m c t) r0_2) (View.ld (wBlk m c t) r0_3)
        (View.ld (wBlk m c t) r0_4) (h.blk t) x0 x1).trans ?_
    rw [tap0_blk, tap1_blk, tap2_blk, bBlk_apply, gBlk_col, uBlk_col, dhBlk_col]
    show _ = tapRows m c t (r0_4.emb (ix2 x0 x1))
    rw [row0]
    rfl
  · idx_vars x
    refine (tapGrad1_apply (gBlk m c t) (uBlk m c t) (dhBlk m c t) (bBlk m c t) (View.ld (wBlk m c t) r0_2) (View.ld (wBlk m c t) r0_3)
        (View.ld (wBlk m c t) r0_4) (h.blk t) x0 x1).trans ?_
    rw [tap0_blk, tap1_blk, tap2_blk, bBlk_apply, gBlk_col, uBlk_col, dhBlk_col]
    show _ = tapRows m c t (r0_3.emb (ix2 x0 x1))
    rw [row1]
    rfl
  · idx_vars x
    refine (tapGrad0_apply (gBlk m c t) (uBlk m c t) (dhBlk m c t) (bBlk m c t) (View.ld (wBlk m c t) r0_2) (View.ld (wBlk m c t) r0_3)
        (View.ld (wBlk m c t) r0_4) (h.blk t) x0 x1).trans ?_
    rw [tap0_blk, tap1_blk, tap2_blk, bBlk_apply, gBlk_col, uBlk_col, dhBlk_col]
    show _ = tapRows m c t (r0_2.emb (ix2 x0 x1))
    rw [row2]
    rfl
  · simp
  · exact cover0_7 _ _ _ _

end Arrays

end Cert.KernelIdeal.Conv

end
-- ==== Proof.ConvReference.lean ====
/-
  The reference's four results, read operation by operation: they are the functions of `ConvColumn.lean`, channel by
  channel. Only commutativity and associativity of addition, commutativity of multiplication, and the zeros of the
  padding are used, so this holds of every input.
-/
module

public import proofs.«01_k».proof.Proof.Gen.ReferenceIdeal.Read
public import proofs.«01_k».proof.Proof.ConvColumn

@[expose] public section

set_option maxRecDepth 16384

noncomputable section

open Idealize.ShloMosaic Idealize.ShloMosaic.TcCoe Idealize.SL.Sem

namespace Cert.ReferenceIdeal.Conv

open Cert.ReferenceIdeal Cert.ReferenceIdeal.Read Cert.ConvColumn

variable (g u dh : (⟨S2048x5632, .bf16⟩ : BufTy).Contents (Elt Ideal)) (w : (⟨S3x5632, .f32⟩ : BufTy).Contents (Elt Ideal))
  (b : (⟨S5632, .f32⟩ : BufTy).Contents (Elt Ideal))

/-- The convolution's output. -/
theorem conv_apply (r : Fin 2048) (j : Fin 5632) :
    val_main_v27 g w b (ix2 r j) = conv (w (ix2 0 j)) (w (ix2 1 j)) (w (ix2 2 j)) (b (ix1 j)) (col g j) r := by
  pointwise [val_main_v0, val_main_v1, val_main_cst, val_main_v2, val_main_v3, val_main_cst_0, val_main_v4, val_main_v5,
    val_main_v6, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_v24, val_main_v25, val_main_v26, val_main_v27]
  have e1 : (if h : 1 + r.val < 2 then (0 : EReal) else g (ix2 ⟨1 + r.val - 2, by omega⟩ j)) = earlier 1 (col g j) r := by
    unfold earlier
    by_cases h : 1 + r.val < 2
    · rw [dif_pos h, if_neg (by omega)]
    · rw [dif_neg h, if_pos (by omega)]; congr 2; apply Fin.ext; show 1 + r.val - 2 = r.val - 1; omega
  have e2 : (if h : r.val < 2 then (0 : EReal) else g (ix2 ⟨r.val - 2, by omega⟩ j)) = earlier 2 (col g j) r := by
    unfold earlier
    by_cases h : r.val < 2
    · rw [dif_pos h, if_neg (by omega)]
    · rw [dif_neg h, if_pos (by omega)]
  rw [e1, e2]
  unfold conv
  rw [add_right_comm _ _ (w (ix2 2 j) * _), add_right_comm (b (ix1 j)) _ (w (ix2 2 j) * _), add_right_comm]

/-- The gradient with respect to the convolution's output. -/
theorem convGrad_apply (r : Fin 2048) (j : Fin 5632) :
    val_main_v33 g u w b dh (ix2 r j)
      = convGrad (w (ix2 0 j)) (w (ix2 1 j)) (w (ix2 2 j)) (b (ix1 j)) (col g j) (col u j) (col dh j) r := by
  pointwise [val_main_call0_v0, val_main_call0_v1, val_main_call0_cst, val_main_call0_v2, val_main_call0_v3, val_main_call0_cst_0,
    val_main_call0_v4, val_main_v28_2, val_main_call0_cst_1, val_main_call0_v6, val_main_call0_v7, val_main_v28_1,
    val_main_v28_0, val_main_v29, val_main_v30, val_main_v31, val_main_v32, val_main_call1_v0, val_main_call1_v1,
    val_main_call1_v2, val_main_v33, val_main_v1]
  rw [conv_apply]
  rfl

/-- The gradient with respect to the gate's input. -/
theorem gate_eq : val_main_v70 g u w b dh = gateGrads g u dh w b := by
  funext i
  idx_vars i
  show val_main_v70 g u w b dh (ix2 _ _) = gateGrad _ _ _ _ _ _ _ _
  pointwise [val_main_v34, val_main_v35, val_main_v36, val_main_cst_1, val_main_v37, val_main_v38, val_main_cst_2, val_main_v39,
    val_main_cst_3, val_main_v40, val_main_v41, val_main_cst_4, val_main_v42, val_main_v43, val_main_v44, val_main_v45,
    val_main_cst_5, val_main_v46, val_main_v47, val_main_cst_6, val_main_v48, val_main_cst_7, val_main_v49,
    val_main_v50, val_main_v51, val_main_cst_8, val_main_v52, val_main_v53, val_main_cst_9, val_main_v54, val_main_v55,
    val_main_cst_10, val_main_v56, val_main_v57, val_main_v58, val_main_v59, val_main_cst_11, val_main_v60,
    val_main_v61, val_main_cst_12, val_main_v62, val_main_cst_13, val_main_v63, val_main_v64, val_main_v65,
    val_main_cst_14, val_main_v66, val_main_v67, val_main_v68, val_main_v69, val_main_v70, val_main_v71, val_main_v72,
    val_main_v0, val_main_cst, val_main_v2, val_main_v3, val_main_v5, val_main_v6, val_main_v7, val_main_v8,
    val_main_v9, val_main_v10, val_main_v11, val_main_v12, val_main_v13, val_main_v14, val_main_v15, val_main_v16,
    val_main_v17, val_main_v18, val_main_v19, val_main_v20, val_main_v21, val_main_v22, val_main_v23, val_main_v24,
    val_main_v25, val_main_v26]
  simp only [convGrad_apply]
  unfold gateGrad
  generalize convGrad _ _ _ _ _ _ _ = d
  have e1 : (if h : 1 ≤ 2 + i0.val ∧ 2 + i0.val - 1 < 2048 then w (ix2 1 i1) * d ⟨2 + i0.val - 1, h.2⟩ else 0)
      = w (ix2 1 i1) * later 1 d i0 := by
    unfold later
    by_cases h : i0.val + 1 < 2048
    · rw [dif_pos (by omega), dif_pos h]; congr 2; apply Fin.ext; show 2 + i0.val - 1 = i0.val + 1; omega
    · rw [dif_neg (by omega), dif_neg h, mul_zero]
  have e2 : (if h : 2 + i0.val < 2048 then w (ix2 0 i1) * d ⟨2 + i0.val, h⟩ else 0)
      = w (ix2 0 i1) * later 2 d i0 := by
    unfold later
    by_cases h : i0.val + 2 < 2048
    · rw [dif_pos (by omega), dif_pos h]; congr 2; apply Fin.ext; show 2 + i0.val = i0.val + 2; omega
    · rw [dif_neg (by omega), dif_neg h, mul_zero]
  rw [e1, e2]

/-- The gradient with respect to the gated factor. -/
theorem up_eq : val_main_v71 g w b dh = upGrads g dh w b := by
  funext i
  idx_vars i
  show val_main_v71 g w b dh (ix2 _ _) = upGrad _ _ _ _ _ _ _
  pointwise [val_main_v71, val_main_v31, val_main_v30, val_main_call0_v0, val_main_call0_v1, val_main_call0_cst,
    val_main_call0_v2, val_main_call0_v3, val_main_call0_cst_0, val_main_call0_v4, val_main_v28_2,
    val_main_call0_cst_1, val_main_call0_v6, val_main_call0_v7, val_main_v28_1, val_main_v28_0, val_main_v29,
    val_main_v30, val_main_v31, val_main_v32, val_main_call1_v0, val_main_call1_v1, val_main_call1_v2, val_main_v33]
  rw [conv_apply]
  rfl

/-- The gradient with respect to the bias. -/
theorem bias_eq : val_main_v72 g u w b dh = biasGrads g u dh w b := by
  funext i
  idx_vars i
  pointwise [val_main_v34, val_main_v35, val_main_v36, val_main_cst_1, val_main_v37, val_main_v38, val_main_cst_2, val_main_v39,
    val_main_cst_3, val_main_v40, val_main_v41, val_main_cst_4, val_main_v42, val_main_v43, val_main_v44, val_main_v45,
    val_main_cst_5, val_main_v46, val_main_v47, val_main_cst_6, val_main_v48, val_main_cst_7, val_main_v49,
    val_main_v50, val_main_v51, val_main_cst_8, val_main_v52, val_main_v53, val_main_cst_9, val_main_v54, val_main_v55,
    val_main_cst_10, val_main_v56, val_main_v57, val_main_v58, val_main_v59, val_main_cst_11, val_main_v60,
    val_main_v61, val_main_cst_12, val_main_v62, val_main_cst_13, val_main_v63, val_main_v64, val_main_v65,
    val_main_cst_14, val_main_v66, val_main_v67, val_main_v68, val_main_v69, val_main_v70, val_main_v71, val_main_v72,
    val_main_v0, val_main_cst, val_main_v2, val_main_v3, val_main_v5, val_main_v6, val_main_v7, val_main_v8,
    val_main_v9, val_main_v10, val_main_v11, val_main_v12, val_main_v13, val_main_v14, val_main_v15, val_main_v16,
    val_main_v17, val_main_v18, val_main_v19, val_main_v20, val_main_v21, val_main_v22, val_main_v23, val_main_v24,
    val_main_v25, val_main_v26]
  simp only [convGrad_apply, Fin.sum_univ_one]
  rfl

/-- The gradient with respect to the taps. -/
theorem tap_eq : val_main_v67 g u w b dh = tapGrads g u dh w b := by
  funext i
  idx_vars i
  pointwise [val_main_v34, val_main_v35, val_main_v36, val_main_cst_1, val_main_v37, val_main_v38, val_main_cst_2, val_main_v39,
    val_main_cst_3, val_main_v40, val_main_v41, val_main_cst_4, val_main_v42, val_main_v43, val_main_v44, val_main_v45,
    val_main_cst_5, val_main_v46, val_main_v47, val_main_cst_6, val_main_v48, val_main_cst_7, val_main_v49,
    val_main_v50, val_main_v51, val_main_cst_8, val_main_v52, val_main_v53, val_main_cst_9, val_main_v54, val_main_v55,
    val_main_cst_10, val_main_v56, val_main_v57, val_main_v58, val_main_v59, val_main_cst_11, val_main_v60,
    val_main_v61, val_main_cst_12, val_main_v62, val_main_cst_13, val_main_v63, val_main_v64, val_main_v65,
    val_main_cst_14, val_main_v66, val_main_v67, val_main_v68, val_main_v69, val_main_v70, val_main_v71, val_main_v72,
    val_main_v0, val_main_cst, val_main_v2, val_main_v3, val_main_v5, val_main_v6, val_main_v7, val_main_v8,
    val_main_v9, val_main_v10, val_main_v11, val_main_v12, val_main_v13, val_main_v14, val_main_v15, val_main_v16,
    val_main_v17, val_main_v18, val_main_v19, val_main_v20, val_main_v21, val_main_v22, val_main_v23, val_main_v24,
    val_main_v25, val_main_v26]
  simp only [convGrad_apply, Fin.sum_univ_one, mul_zero, Finset.sum_const_zero, zero_add]
  show _ = tapGrad (2 - i0.val) (w (ix2 0 i1)) (w (ix2 1 i1)) (w (ix2 2 i1)) (b (ix1 i1)) (col g i1) (col u i1) (col dh i1)
  unfold tapGrad
  generalize convGrad (w (ix2 0 i1)) (w (ix2 1 i1)) (w (ix2 2 i1)) (b (ix1 i1)) (col g i1) (col u i1) (col dh i1) = d
  have e1 (x : Fin 2048) : (if h : 1 + x.val < 2 then (0 : EReal) else g (ix2 ⟨1 + x.val - 2, by omega⟩ i1))
      = earlier 1 (col g i1) x := by
    unfold earlier
    by_cases h : 1 + x.val < 2
    · rw [dif_pos h, if_neg (by omega)]
    · rw [dif_neg h, if_pos (by omega)]; congr 2; apply Fin.ext; show 1 + x.val - 2 = x.val - 1; omega
  have e2 : ∑ x : Fin 2046, d ⟨2 + x.val, by omega⟩ * g (ix2 ⟨x.val, by omega⟩ i1)
      = ∑ x, d x * earlier 2 (col g i1) x := by
    rw [Fin.sum_univ_add (a := 2) (b := 2046) (fun x => d x * earlier 2 (col g i1) x), Fin.sum_univ_two]
    have z (k : Fin 2) : earlier 2 (col g i1) (Fin.castAdd 2046 k) = 0 := if_neg (by have := k.isLt; simp [Fin.castAdd]; omega)
    rw [z, z, mul_zero, mul_zero, add_zero, zero_add]
    refine Finset.sum_congr rfl fun x _ => ?_
    unfold earlier
    rw [if_pos (by simp [Fin.natAdd])]
    congr 3
    apply Fin.ext; simp [Fin.natAdd]
  simp only [e1, e2]
  fin_cases i0
  · simp
  · simp
  · simp [earlier_zero]

end Cert.ReferenceIdeal.Conv

end
-- ==== Proof.Finite.lean ====
module

public import Idealize.ShloMosaic.Lib.ReduceAll
public import Idealize.ShloMosaic.PureOps.Ideal.Laws

@[expose] public section

noncomputable section

/-! # Numbers among the extended reals

What a precondition's two comparisons say of an extended real, and sums and quotients of numbers. -/

namespace Cert.Finite

open Idealize.ShloMosaic

/-- The word `0x7F800000` is plus infinity. -/
theorem inf_f32 : Ideal.ofBits .f32 0x7F800000#32 = ⊤ := by simp [Ideal.ofBits, Ideal.ieee]

/-- The word `0xFF800000` is minus infinity. -/
theorem neg_inf_f32 : Ideal.ofBits .f32 0xFF800000#32 = ⊥ := by simp [Ideal.ofBits, Ideal.ieee]

/-- An extended real strictly between the infinities is a number. -/
theorem real_of_compares (x : EReal)
    (hx : IntOp.andi (FloatOps.cmpf (F := Ideal) (φ := .f32) .olt x (Ideal.ofBits .f32 0x7F800000#32))
      (FloatOps.cmpf (F := Ideal) (φ := .f32) .ogt x (Ideal.ofBits .f32 0xFF800000#32)) = 1#1) : ∃ d : ℝ, x = d := by
  rw [inf_f32, neg_inf_f32] at hx
  obtain ⟨h1, h2⟩ := IntOp.andi_eq_one.1 hx
  induction x with
  | bot => exact absurd (show Ideal.cmp .ogt ⊥ ⊥ = 1#1 from h2) (by simp [Ideal.cmp])
  | top => exact absurd (show Ideal.cmp .olt ⊤ ⊤ = 1#1 from h1) (by simp [Ideal.cmp])
  | coe d => exact ⟨d, rfl⟩

/-- A sum of numbers is the sum taken among the reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, EReal.coe_add, ih]

/-- A quotient of numbers, off zero. -/
theorem div_coe_coe (a : ℝ) {b : ℝ} (h : b ≠ 0) : Ideal.div (a : EReal) (b : EReal) = ((a / b : ℝ) : EReal) := by
  rw [Ideal.div_coe h, ← EReal.coe_mul, mul_one_div]

end Cert.Finite

end
-- ==== Proof.ConvClaim.lean ====
/-
  The five claims about the gradient of the convolution gate: the printed kernel, its idealization and the reference
  run to the end and leave their arguments and every counter as they were; the idealization rewrote nothing; and over
  the extended reals the kernel's four results are the reference's, wherever `u` and `dh` hold no infinity.
-/
module

public import proofs.«01_k».proof.Defs
public import proofs.«01_k».proof.Proof.ConvKernel
public import proofs.«01_k».proof.Proof.ConvReference
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_cotangent
public import proofs.«01_k».proof.Proof.Finite
public import Idealize.ShloMosaic.Lib.ReduceAll

@[expose] public section

set_option maxRecDepth 16384

noncomputable section

namespace Cert.Proof.Conv

open Idealize.ShloMosaic Idealize.ShloMosaic.TcCoe Idealize.SL.Sem Cert.Finite

theorem frame_kernel : Cert.quiescent_Kernel := fun m ρ _ => Cert.Kernel.Gen.frame m ρ

theorem frame_ideal : Cert.quiescent_KernelIdeal := fun m ρ _ => Cert.KernelIdeal.Gen.frame m ρ

theorem frame_ideal_pre : Cert.quiescent_KernelIdeal_pre_finite_cotangent := fun m ρ _ => Cert.KernelIdeal.Gen.frame m ρ

/-- The reference writes results only, and it has no counter. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

theorem frame_reference_pre : Cert.quiescent_ReferenceIdeal_pre_finite_cotangent := fun m ρ _ =>
  frame_reference m ρ trivial

/-- What the precondition says of the product the kernel factors: it is a number. -/
theorem tame (m : (ℓ : Loc Cert.KernelIdeal.nD Cert.KernelIdeal.τ Cert.KernelIdeal.sig) → Buf (Elt Ideal) ℓ)
    (h : Cert.Pre_KernelIdeal_finite_cotangent m) (c : Dev Cert.KernelIdeal.nD) : Cert.KernelIdeal.Conv.Tame m c := by
  intro i
  have h := congrFun (h c) (fun k => nomatch k)
  dsimp only [Cert.Pre_finite_cotangent.fn] at h
  have hh := IntOp.andi_eq_one.1 h
  have hu := Host.reduce_andi_all _ _ _ _ _ hh.1 i
  have hd := Host.reduce_andi_all _ _ _ _ _ hh.2 i
  obtain ⟨a, ha⟩ := real_of_compares _ hu
  obtain ⟨b, hb⟩ := real_of_compares _ hd
  exact ⟨b * a, by rw [EReal.coe_mul, ← ha, ← hb]; rfl⟩

theorem algebraic : Cert.algebraic_KernelIdeal_ReferenceIdeal_pre_finite_cotangent := by
  intro m g m' g' hp hargs
  refine ⟨fun c => (Cert.KernelIdeal.Gen.dats m 0 c).arrAt 5 Cert.KernelIdeal.cfg0.N,
    fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, h2, h3, hr⟩ := h c
  obtain ⟨a0, a1, a2, a3, a4⟩ := hargs c
  refine ⟨h0.trans ?_, h1.trans ?_, h2.trans ?_, h3.trans ?_, hr⟩
  · rw [Cert.ReferenceIdeal.Read.val_main_v70_eq, a0, a1, a2, a3, a4, Cert.ReferenceIdeal.Conv.gate_eq]
    exact (Cert.KernelIdeal.Conv.final_dg (tame m hp c)).symm
  · rw [Cert.ReferenceIdeal.Read.val_main_v71_eq, a0, a2, a3, a4, Cert.ReferenceIdeal.Conv.up_eq]
    exact (Cert.KernelIdeal.Conv.final_du m c).symm
  · rw [Cert.ReferenceIdeal.Read.val_main_v67_eq, a0, a1, a2, a3, a4, Cert.ReferenceIdeal.Conv.tap_eq]
    exact (Cert.KernelIdeal.Conv.final_dw (tame m hp c)).symm
  · rw [Cert.ReferenceIdeal.Read.val_main_v72_eq, a0, a1, a2, a3, a4, Cert.ReferenceIdeal.Conv.bias_eq]
    exact (Cert.KernelIdeal.Conv.final_db (tame m hp c)).symm

end Cert.Proof.Conv

end
-- ==== Proof.Products.lean ====
/-
  The matrix products of the step, as sums over the extended reals. A weight is stacked: one block per chip of the
  tensor-parallel axis, of its rows (`w_out`, `w_down`) or of its columns (`w_in`, `w_gate`, `w_up`). No program is
  mentioned here: the `…Claim.lean` modules show that a kernel and its reference both compute one of these.
-/
module

public import Idealize.ShloMosaic.Lib.Pointwise

@[expose] public section

noncomputable section

open Idealize.ShloMosaic

namespace Cert.Products

/-- Matrices, and stacks of four matrices, of extended reals. -/
abbrev Mat (a b : Nat) : Type := (⟨2, ![a, b]⟩ : Shape).Idx → EReal
abbrev Stack (a b : Nat) : Type := (⟨3, ![4, a, b]⟩ : Shape).Idx → EReal

variable {n d s : Nat}

/-- The position of entry `q` of block `j` on the stacked axis. -/
abbrev place (j : Fin 4) (q : Fin s) : Fin (4 * s) :=
  ⟨j.val * s + q.val, by have := Nat.mul_le_mul_right s (Nat.le_sub_one_of_lt j.isLt); have := q.isLt; omega⟩

/-- `x` times the weight whose four blocks of `s` columns are stacked in `w`. -/
def timesColumns (x : Mat n d) (w : Stack d s) : Mat n (4 * s) := fun i =>
  ∑ k, x (ix2 (i 0) k) * w (ix3 (Fin.divNat (i 1 : Fin (4 * s))) k (Fin.modNat (i 1 : Fin (4 * s))))

/-- `h` times the weight whose four blocks of `s` rows are stacked in `w`. -/
def timesRows (h : Mat n (4 * s)) (w : Stack s d) : Mat n d := fun i =>
  ∑ p : Fin (4 * s), h (ix2 (i 0) p) * w (ix3 p.divNat p.modNat (i 1))

/-- `dz` times the transpose of the weight stacked by rows. -/
def timesRowsT (dz : Mat n d) (w : Stack s d) : Mat n (4 * s) := fun i =>
  ∑ k, dz (ix2 (i 0) k) * w (ix3 (Fin.divNat (i 1 : Fin (4 * s))) (Fin.modNat (i 1 : Fin (4 * s))) k)

/-- `dy` times the transpose of the weight stacked by columns. -/
def timesColumnsT (dy : Mat n (4 * s)) (w : Stack d s) : Mat n d := fun i =>
  ∑ p : Fin (4 * s), dy (ix2 (i 0) p) * w (ix3 p.divNat (i 1) p.modNat)

/-- The factor of the residual branch, and a gradient with the residual branch's added. -/
abbrev alpha : EReal := Ideal.ofBits .f32 0x3FB504F3#32
def plusResidual (dz p : Mat n d) : Mat n d := fun i => alpha * dz i + p i

/-- The transpose of `h` times `dz`, stacked by rows: the gradient of a weight stacked by rows. -/
def gradRows (h : Mat n (4 * s)) (dz : Mat n d) : Stack s d := fun i =>
  ∑ r, h (ix2 r (place (i 0) (i 1))) * dz (ix2 r (i 2))

/-- The transpose of `x` times `dy`, stacked by columns: the gradient of a weight stacked by columns. -/
def gradColumns (x : Mat n d) (dy : Mat n (4 * s)) : Stack d s := fun i =>
  ∑ r, x (ix2 r (i 1)) * dy (ix2 r (place (i 0) (i 2)))

/-- A sum over the stacked axis is a sum over the blocks of the sums over their entries. -/
theorem sum_stacked (f : Fin (4 * s) → Fin 4 → Fin s → EReal) :
    ∑ p : Fin (4 * s), f p p.divNat p.modNat = ∑ j, ∑ q, f (place j q) j q := by
  rw [← Fintype.sum_prod_type' fun j q => f (place j q) j q]
  refine Fintype.sum_equiv finProdFinEquiv.symm _ _ fun p => ?_
  have hp : place p.divNat p.modNat = p := Fin.ext (Nat.div_add_mod' p.val s)
  show f p p.divNat p.modNat = f (place p.divNat p.modNat) p.divNat p.modNat
  rw [hp]

/-- A sum over the stacked axis, one block after the other. -/
theorem sum_blocks (f : Fin (4 * s) → Fin 4 → Fin s → EReal) :
    ∑ p : Fin (4 * s), f p p.divNat p.modNat =
      (∑ q : Fin s, f ⟨q.val, by have := q.isLt; omega⟩ 0 q) + (∑ q : Fin s, f ⟨s + q.val, by have := q.isLt; omega⟩ 1 q)
        + (∑ q : Fin s, f ⟨2 * s + q.val, by have := q.isLt; omega⟩ 2 q)
        + (∑ q : Fin s, f ⟨3 * s + q.val, by have := q.isLt; omega⟩ 3 q) := by
  rw [sum_stacked, Fin.sum_univ_four]
  simp only [place, Fin.val_zero, Fin.val_one, zero_mul, one_mul, zero_add]
  rfl

end Cert.Products

end
-- ==== Proof.DownDxClaim.lean ====
/-
  `down_dx`: the incoming gradient times the transpose of `w_down`, whose rows are stacked by chip. Grid point `t` holds
  1024 rows of the gradient and all rows of one chip's block, so no sum is split between points.
-/
module

public import proofs.«01_k».proof.Defs
public import proofs.«01_k».proof.Proof.Products
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.DownDxRefIdeal.Result

open Cert.DownDxRefIdeal Cert.DownDxRefIdeal.Read

/-- The reference's result. -/
theorem result_eq (dz : Mat 2048 2048) (w : Stack 1408 2048) : val_main_v6 (F := Ideal) dz w = timesRowsT dz w := by
  funext i
  idx_vars i
  pointwise [val_main_v6, val_main_v5, val_main_v4, val_main_v2, val_main_v1]
  rfl

end Cert.DownDxRefIdeal.Result

namespace Cert.DownDxIdeal.Result

open Cert.DownDxIdeal Cert.DownDxIdeal.Gen

variable (m : (ℓ : Loc nD τ sig) → Buf (Elt Ideal) ℓ) (c : Dev nD)

/-- The blocks of grid point `t`. -/
theorem index_eq : ∀ t : Fin cfg0.N, win0_0.index t = ![t.val % 2, 0] ∧ win0_1.index t = ![t.val / 2, 0, 0]
    ∧ win0_2.index t = ![t.val % 2, t.val / 2] := by decide +kernel

theorem point (t : Fin cfg0.N) : t.val < 8 := lt_of_lt_of_eq t.isLt N_0

abbrev dz : Mat 2048 2048 := m ((c : Thread nD τ).loc main_arg0)
abbrev w : Stack 1408 2048 := m ((c : Thread nD τ).loc main_arg1)

/-- The row and the column of the result that entry `(r, q)` of grid point `t` is. -/
abbrev row (t : Fin cfg0.N) (r : Fin 1024) : Fin 2048 := ⟨t.val % 2 * 1024 + r.val, by omega⟩
abbrev column (t : Fin cfg0.N) (q : Fin 1408) : Fin (4 * 1408) :=
  ⟨t.val / 2 * 1408 + q.val, by have := point t; omega⟩

theorem emb_out (t : Fin cfg0.N) (r : Fin 1024) (q : Fin 1408) :
    ((View.whole main_v0).slice (win0_2.rect t)).emb (ix2 r q) = ix2 (row t r) (column t q) := by
  funext a; apply Fin.ext; fin_cases a <;> blk_simp [(index_eq t).2.2] <;> rfl

theorem dz_block (t : Fin cfg0.N) (r : Fin 1024) (k : Fin 2048) :
    (iblk m c 0 t (ix2 r k) : EReal) = dz m c (ix2 (row t r) k) := by
  blk_ext! [iblk, V, (index_eq t).1]

theorem w_block (t : Fin cfg0.N) (q : Fin 1408) (k : Fin 2048) :
    (iblk m c 1 t (ix3 0 q k) : EReal) = w m c (ix3 (column t q).divNat (column t q).modNat k) := by
  have := point t
  blk_ext! [iblk, V, (index_eq t).2.1]
  · show t.val / 2 + 0 = (t.val / 2 * 1408 + q.val) / 1408; omega
  · show q.val = (t.val / 2 * 1408 + q.val) % 1408; omega

/-- The result array. -/
theorem final : (dats m 0 c).arrAt 2 cfg0.N = timesRowsT (dz m c) (w m c) := by
  refine (dats m 0 c).arrAt_eq_of_covers 2 _ (by decide +kernel) fun t hf y => ?_
  blk_simp
  rw [after0_2]
  frame_out
  idx_vars y
  rw [emb_out]
  pointwise [k0_pay1]
  simp only [dz_block, w_block]
  rfl

end Cert.DownDxIdeal.Result

namespace Cert.Proof.DownDx

theorem frame_kernel : Cert.quiescent_DownDx := fun m ρ _ => Cert.DownDx.Gen.frame m ρ

theorem frame_ideal : Cert.quiescent_DownDxIdeal := fun m ρ _ => Cert.DownDxIdeal.Gen.frame m ρ

theorem frame_reference : Cert.quiescent_DownDxRefIdeal := fun m ρ _ =>
  (θ_run Cert.DownDxRefIdeal.defs _ _).mono
    (fun r h => ⟨fun c => (h c).2, sem_eq_zero_of_no_sems (by decide) r.2⟩) (Cert.DownDxRefIdeal.Value.run m ρ)

theorem algebraic : Cert.algebraic_DownDxIdeal_DownDxRefIdeal := by
  intro m g m' g' _ hargs
  refine ⟨_, Cert.DownDxIdeal.Value.run_blocks m g, ?_⟩
  refine (θ_run Cert.DownDxRefIdeal.defs _ _).mono (fun r h c => ⟨(h c).1.trans ?_, (h c).2⟩)
    (Cert.DownDxRefIdeal.Value.run m' g')
  obtain ⟨a0, a1⟩ := hargs c
  rw [Cert.DownDxIdeal.Result.final, Cert.DownDxRefIdeal.Read.val_main_v6_eq, a0, a1]
  exact Cert.DownDxRefIdeal.Result.result_eq _ _

end Cert.Proof.DownDx

end
-- ==== Proof.DownDwClaim.lean ====
/-
  `down_dw`: the gradient of `w_down`, stacked by chip along its rows: the transpose of the gated factor times the
  incoming gradient. Every grid point sums over all 2048 time steps.
-/
module

public import proofs.«01_k».proof.Defs
public import proofs.«01_k».proof.Proof.Products
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.DownDwRefIdeal.Result

open Cert.DownDwRefIdeal Cert.DownDwRefIdeal.Read

/-- The reference's result. -/
theorem result_eq (h : Mat 2048 (4 * 1408)) (dz : Mat 2048 2048) : val_main_v8 (F := Ideal) h dz = gradRows h dz := by
  funext i
  idx_vars i
  pointwise [val_main_cst, val_main_v0, val_main_v1, val_main_v2, val_main_v3, val_main_v4, val_main_v5, val_main_v6, val_main_v7, val_main_v8]
  exact Finset.sum_congr rfl fun _ _ => mul_comm (_ : EReal) _

end Cert.DownDwRefIdeal.Result

namespace Cert.DownDwIdeal.Result

open Cert.DownDwIdeal Cert.DownDwIdeal.Gen

variable (m : (ℓ : Loc nD τ sig) → Buf (Elt Ideal) ℓ) (c : Dev nD)

/-- The blocks of grid point `t`. -/
theorem index_eq : ∀ t : Fin cfg0.N, win0_0.index t = ![0, t.val / 2] ∧ win0_1.index t = ![0, t.val % 2]
    ∧ win0_2.index t = ![t.val / 2, 0, t.val % 2] := by decide +kernel

theorem point (t : Fin cfg0.N) : t.val < 8 := lt_of_lt_of_eq t.isLt N_0

/-- The two arguments. -/
abbrev h : Mat 2048 (4 * 1408) := m ((c : Thread nD τ).loc main_arg0)
abbrev dz : Mat 2048 2048 := m ((c : Thread nD τ).loc main_arg1)

/-- The row of `w` within chip `t / 2`'s block is `q`; the column of entry `(q, k)` of grid point `t`. -/
abbrev chip (t : Fin cfg0.N) : Fin 4 := ⟨t.val / 2, by have := point t; omega⟩
abbrev column (t : Fin cfg0.N) (k : Fin 1024) : Fin 2048 := ⟨t.val % 2 * 1024 + k.val, by omega⟩

theorem emb_out (t : Fin cfg0.N) (z : Fin 1) (q : Fin 1408) (k : Fin 1024) :
    ((View.whole main_v0).slice (win0_2.rect t)).emb (ix3 z q k) = ix3 (chip t) q (column t k) := by
  funext a; apply Fin.ext; fin_cases a <;> blk_simp [(index_eq t).2.2] <;> first | rfl | omega

theorem h_block (t : Fin cfg0.N) (r : Fin 2048) (q : Fin 1408) :
    (iblk m c 0 t (ix2 r q) : EReal) = h m c (ix2 r (place (chip t) q)) := by
  have := point t
  blk_ext! [iblk, V, (index_eq t).1]

theorem dz_block (t : Fin cfg0.N) (r : Fin 2048) (k : Fin 1024) :
    (iblk m c 1 t (ix2 r k) : EReal) = dz m c (ix2 r (column t k)) := by
  blk_ext! [iblk, V, (index_eq t).2.1]

/-- The result array. -/
theorem final : (dats m 0 c).arrAt 2 cfg0.N = gradRows (h m c) (dz m c) := by
  refine (dats m 0 c).arrAt_eq_of_covers 2 _ (by decide +kernel) fun t hf y => ?_
  blk_simp
  rw [after0_2]
  frame_out
  idx_vars y
  rw [emb_out]
  pointwise [k0_pay1]
  simp only [h_block, dz_block]
  rfl

end Cert.DownDwIdeal.Result

namespace Cert.Proof.DownDw

theorem frame_kernel : Cert.quiescent_DownDw := fun m ρ _ => Cert.DownDw.Gen.frame m ρ

theorem frame_ideal : Cert.quiescent_DownDwIdeal := fun m ρ _ => Cert.DownDwIdeal.Gen.frame m ρ

theorem frame_reference : Cert.quiescent_DownDwRefIdeal := fun m ρ _ =>
  (θ_run Cert.DownDwRefIdeal.defs _ _).mono
    (fun r h => ⟨fun c => (h c).2, sem_eq_zero_of_no_sems (by decide) r.2⟩) (Cert.DownDwRefIdeal.Value.run m ρ)

theorem algebraic : Cert.algebraic_DownDwIdeal_DownDwRefIdeal := by
  intro m g m' g' _ hargs
  refine ⟨_, Cert.DownDwIdeal.Value.run_blocks m g, ?_⟩
  refine (θ_run Cert.DownDwRefIdeal.defs _ _).mono (fun r h c => ⟨(h c).1.trans ?_, (h c).2⟩)
    (Cert.DownDwRefIdeal.Value.run m' g')
  obtain ⟨a0, a1⟩ := hargs c
  rw [Cert.DownDwIdeal.Result.final, Cert.DownDwRefIdeal.Read.val_main_v8_eq, a0, a1]
  exact Cert.DownDwRefIdeal.Result.result_eq _ _

end Cert.Proof.DownDw

end
-- ==== Proof.GateupDxClaim.lean ====
/-
  `gateup_dx`: the gradient of the ConvFFN's input, from the gradients of the gate's and of the up product: each times the
  transpose of its weight, whose columns are stacked by chip. Four grid points in a row add one block's four shares.
-/
module

public import proofs.«01_k».proof.Defs
public import proofs.«01_k».proof.Proof.Products
public import proofs.«01_k».proof.Proof.Gen.GateupDx
public import proofs.«01_k».proof.Proof.Gen.GateupDx.Frame
public import proofs.«01_k».proof.Proof.Gen.GateupDxIdeal
public import proofs.«01_k».proof.Proof.Gen.GateupDxIdeal.Frame
public import proofs.«01_k».proof.Proof.Gen.GateupDxIdeal.Value
public import proofs.«01_k».proof.Proof.Gen.GateupDxRefIdeal
public import proofs.«01_k».proof.Proof.Gen.GateupDxRefIdeal.Run
public import proofs.«01_k».proof.Proof.Gen.GateupDxRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.GateupDxRefIdeal.Result

open Cert.GateupDxRefIdeal Cert.GateupDxRefIdeal.Read

/-- The reference's result. -/
theorem result_eq (dg : Mat 2048 (4 * 1408)) (wg : Stack 2048 1408) (du : Mat 2048 (4 * 1408)) (wu : Stack 2048 1408) : val_main_v13 (F := Ideal) dg wg du wu =
      fun i => timesColumnsT dg wg i + timesColumnsT du wu i := by
  funext i
  idx_vars i
  pointwise [val_main_cst, val_main_v0, val_main_v1, val_main_v2, val_main_v3, val_main_v4, val_main_v5, val_main_v6, val_main_v7, val_main_v8, val_main_v9, val_main_v10, val_main_v11, val_main_v12, val_main_v13]
  exact add_comm (_ : EReal) _

end Cert.GateupDxRefIdeal.Result

namespace Cert.GateupDxIdeal.Result

open Cert.GateupDxIdeal Cert.GateupDxIdeal.Gen

variable (m : (ℓ : Loc nD τ sig) → Buf (Elt Ideal) ℓ) (c : Dev nD)

/-- The blocks of grid point `t`. -/
theorem index_eq : ∀ t : Fin cfg0.N, win0_0.index t = ![t.val / 8, t.val % 4] ∧ win0_1.index t = ![t.val % 4, t.val / 4 % 2, 0]
    ∧ win0_2.index t = ![t.val / 8, t.val % 4]
    ∧ win0_3.index t = ![t.val % 4, t.val / 4 % 2, 0] ∧ win0_4.index t = ![t.val / 8, t.val / 4 % 2] := by decide +kernel

theorem point (t : Fin cfg0.N) : t.val < 16 := lt_of_lt_of_eq t.isLt N_0

/-- The arguments. -/
abbrev dg : Mat 2048 (4 * 1408) := m ((c : Thread nD τ).loc main_arg0)
abbrev wg : Stack 2048 1408 := m ((c : Thread nD τ).loc main_arg1)
abbrev du : Mat 2048 (4 * 1408) := m ((c : Thread nD τ).loc main_arg2)
abbrev wu : Stack 2048 1408 := m ((c : Thread nD τ).loc main_arg3)

/-- The row and the column of the result that entry `(r, q)` of grid point `t` is, and the chip whose block it adds. -/
abbrev row (t : Fin cfg0.N) (r : Fin 1024) : Fin 2048 := ⟨t.val / 8 * 1024 + r.val, by have := point t; omega⟩
abbrev column (t : Fin cfg0.N) (q : Fin 1024) : Fin 2048 := ⟨t.val / 4 % 2 * 1024 + q.val, by have := point t; omega⟩
abbrev chip (t : Fin cfg0.N) : Fin 4 := ⟨t.val % 4, by omega⟩

theorem emb_out (t : Fin cfg0.N) (r : Fin 1024) (q : Fin 1024) :
    ((View.whole main_v0).slice (win0_4.rect t)).emb (ix2 r q) = ix2 (row t r) (column t q) := by
  funext a; apply Fin.ext; fin_cases a <;> blk_simp [(index_eq t).2.2.2.2] <;> rfl

theorem dg_block (t : Fin cfg0.N) (r : Fin 1024) (k : Fin 1408) :
    (iblk m c 0 t (ix2 r k) : EReal) = dg m c (ix2 (row t r) (place (chip t) k)) := by
  blk_ext! [iblk, V, (index_eq t).1]

theorem wg_block (t : Fin cfg0.N) (q : Fin 1024) (k : Fin 1408) :
    (iblk m c 1 t (ix3 0 q k) : EReal) = wg m c (ix3 (chip t) (column t q) k) := by
  blk_ext! [iblk, V, (index_eq t).2.1]

theorem du_block (t : Fin cfg0.N) (r : Fin 1024) (k : Fin 1408) :
    (iblk m c 2 t (ix2 r k) : EReal) = du m c (ix2 (row t r) (place (chip t) k)) := by
  blk_ext! [iblk, V, (index_eq t).2.2.1]

theorem wu_block (t : Fin cfg0.N) (q : Fin 1024) (k : Fin 1408) :
    (iblk m c 3 t (ix3 0 q k) : EReal) = wu m c (ix3 (chip t) (column t q) k) := by
  blk_ext! [iblk, V, (index_eq t).2.2.2.1]

/-- What grid point `t` adds: one chip's share of both products. -/
def share (t : Fin cfg0.N) : (⟨2, ![1024, 1024]⟩ : Shape).Idx → EReal := fun y =>
  (∑ k : Fin 1408, dg m c (ix2 (row t (y 0)) (place (chip t) k)) * wg m c (ix3 (chip t) (column t (y 1)) k))
    + ∑ k : Fin 1408, du m c (ix2 (row t (y 0)) (place (chip t) k)) * wu m c (ix3 (chip t) (column t (y 1)) k)

theorem share_eq (t : Fin cfg0.N) (y : (⟨2, ![1024, 1024]⟩ : Shape).Idx) :
    (k0_pay1 (F := Ideal) (iblk m c 0 t) (iblk m c 1 t) (iblk m c 2 t) (iblk m c 3 t) y : EReal) = share m c t y := by
  idx_vars y
  pointwise [k0_pay1]
  simp only [dg_block, wg_block, du_block, wu_block]
  rfl

/-- The accumulator after the first point of a run of four, and after each later one. -/
theorem acc_first (t : Fin cfg0.N) (h : t.val % 4 = 0) (y : (⟨2, ![1024, 1024]⟩ : Shape).Idx) :
    ((outsAt0 m c t.val t.isLt).2 y : EReal) = 0 + share m c t y := by
  rw [outsAt0_A m c t h (by omega) (by omega)]
  frame_out
  rw [← share_eq, zero_add]
  pointwise [k0_pay2]

theorem acc_later (t : Fin cfg0.N) (h : ¬t.val % 4 = 0) (y : (⟨2, ![1024, 1024]⟩ : Shape).Idx) :
    ((outsAt0 m c t.val t.isLt).2 y : EReal) =
      (outsAt0 m c (t.val - 1) (Nat.lt_of_le_of_lt (Nat.sub_le _ _) t.isLt)).2 y + share m c t y := by
  by_cases h3 : t.val % 4 = 3
  · rw [outsAt0_C m c t h (by omega) h3]
    frame_out
    rw [← share_eq]
    pointwise [k0_pay3]
    exact congrArg (fun a : EReal => a + _) (congrFun ((Memref.isWhole_whole cc0_scratch0).read_unread (Val := Elt Ideal) _) y)
  · rw [outsAt0_B m c t h (by omega) h3]
    frame_out
    rw [← share_eq]
    pointwise [k0_pay3]
    exact congrArg (fun a : EReal => a + _) (congrFun ((Memref.isWhole_whole cc0_scratch0).read_unread (Val := Elt Ideal) _) y)

/-- The last point of the run writes the accumulator out. -/
theorem out_last (t : Fin cfg0.N) (h : t.val % 4 = 3) (y : (⟨2, ![1024, 1024]⟩ : Shape).Idx) :
    ((outsAt0 m c t.val t.isLt).1 y : EReal) = (outsAt0 m c t.val t.isLt).2 y := by
  rw [outsAt0_C m c t (by omega) (by omega) h]
  frame_out

/-- The four shares of a run make up the whole sums. -/
theorem run_sum (t : Fin cfg0.N) (h : t.val % 4 = 3) (r q : Fin 1024) :
    timesColumnsT (dg m c) (wg m c) (ix2 (row t r) (column t q)) + timesColumnsT (du m c) (wu m c) (ix2 (row t r) (column t q))
      = ∑ s : Fin 4, share m c ⟨4 * (t.val / 4) + s.val, Pipeline.run_point_lt_of_flush t h s⟩ (ix2 r q) := by
  have e : ∀ s : Fin 4, share m c ⟨4 * (t.val / 4) + s.val, Pipeline.run_point_lt_of_flush t h s⟩ (ix2 r q) =
      (∑ k : Fin 1408, dg m c (ix2 (row t r) (place s k)) * wg m c (ix3 s (column t q) k))
        + ∑ k : Fin 1408, du m c (ix2 (row t r) (place s k)) * wu m c (ix3 s (column t q) k) := fun s => by
    have hc : chip ⟨4 * (t.val / 4) + s.val, Pipeline.run_point_lt_of_flush t h s⟩ = s := Fin.ext (by dsimp only; omega)
    have hr : row ⟨4 * (t.val / 4) + s.val, Pipeline.run_point_lt_of_flush t h s⟩ r = row t r := Fin.ext (by dsimp only; omega)
    have hq : column ⟨4 * (t.val / 4) + s.val, Pipeline.run_point_lt_of_flush t h s⟩ q = column t q :=
      Fin.ext (by dsimp only; omega)
    unfold share
    show (∑ k : Fin 1408, dg m c (ix2 (row _ r) (place (chip _) k)) * wg m c (ix3 (chip _) (column _ q) k))
      + (∑ k : Fin 1408, du m c (ix2 (row _ r) (place (chip _) k)) * wu m c (ix3 (chip _) (column _ q) k)) = _
    rw [hc, hr, hq]
  rw [Finset.sum_congr rfl fun s _ => e s, Finset.sum_add_distrib]
  exact congrArg₂ (· + ·) (sum_stacked fun p j k => dg m c (ix2 (row t r) p) * wg m c (ix3 j (column t q) k))
    (sum_stacked fun p j k => du m c (ix2 (row t r) p) * wu m c (ix3 j (column t q) k))

/-- The result array. -/
theorem final : (dats m 0 c).arrAt 4 cfg0.N = fun i => timesColumnsT (dg m c) (wg m c) i + timesColumnsT (du m c) (wu m c) i := by
  refine (dats m 0 c).arrAt_eq_of_covers 4 _ (by decide +kernel) fun t hf y => ?_
  have h3 : t.val % 4 = 3 := (flush0_4 t).mp hf
  blk_simp
  rw [after0_4]
  refine (out_last m c t h3 y).trans ?_
  refine (Pipeline.eq_sum_fin_of_reset_step_apply_of_flush (fun n h => (outsAt0 m c n h).2) 4 (fun _ => (0 : EReal)) (share m c)
    (acc_first m c) (acc_later m c) t h3 y).trans ?_
  idx_vars y
  rw [emb_out, zero_add]
  exact (run_sum m c t h3 y0 y1).symm

end Cert.GateupDxIdeal.Result

namespace Cert.Proof.GateupDx

theorem frame_kernel : Cert.quiescent_GateupDx := fun m ρ _ => Cert.GateupDx.Gen.frame m ρ

theorem frame_ideal : Cert.quiescent_GateupDxIdeal := fun m ρ _ => Cert.GateupDxIdeal.Gen.frame m ρ

theorem frame_reference : Cert.quiescent_GateupDxRefIdeal := fun m ρ _ =>
  (θ_run Cert.GateupDxRefIdeal.defs _ _).mono
    (fun r h => ⟨fun c => (h c).2, sem_eq_zero_of_no_sems (by decide) r.2⟩) (Cert.GateupDxRefIdeal.Value.run m ρ)

theorem algebraic : Cert.algebraic_GateupDxIdeal_GateupDxRefIdeal := by
  intro m g m' g' _ hargs
  refine ⟨_, Cert.GateupDxIdeal.Value.run_blocks m g, ?_⟩
  refine (θ_run Cert.GateupDxRefIdeal.defs _ _).mono (fun r h c => ⟨(h c).1.trans ?_, (h c).2⟩)
    (Cert.GateupDxRefIdeal.Value.run m' g')
  obtain ⟨a0, a1, a2, a3⟩ := hargs c
  rw [Cert.GateupDxIdeal.Result.final, Cert.GateupDxRefIdeal.Read.val_main_v13_eq, a0, a1, a2, a3]
  exact Cert.GateupDxRefIdeal.Result.result_eq _ _ _ _

end Cert.Proof.GateupDx

end
-- ==== Proof.InDwClaim.lean ====
/-
  `gate_dw`, `up_dw` and `proj_dw`: the gradient of a weight stacked by chip along its columns: the transpose of the
  layer's input times the incoming gradient. Every grid point sums over all 2048 time steps.
-/
module

public import proofs.«01_k».proof.Defs
public import proofs.«01_k».proof.Proof.Products
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.InDwRefIdeal.Result

open Cert.InDwRefIdeal Cert.InDwRefIdeal.Read

/-- The reference's result. -/
theorem result_eq (x : Mat 2048 2048) (dy : Mat 2048 (4 * 1408)) : val_main_v10 (F := Ideal) x dy = gradColumns x dy := by
  funext i
  idx_vars i
  pointwise [val_main_cst, val_main_v0, val_main_v1, val_main_v2, val_main_v3, val_main_v4, val_main_v5, val_main_v6, val_main_v7, val_main_v8, val_main_v9, val_main_v10]
  exact Finset.sum_congr rfl fun _ _ => mul_comm (_ : EReal) _

end Cert.InDwRefIdeal.Result

namespace Cert.InDwIdeal.Result

open Cert.InDwIdeal Cert.InDwIdeal.Gen

variable (m : (ℓ : Loc nD τ sig) → Buf (Elt Ideal) ℓ) (c : Dev nD)

/-- The blocks of grid point `t`. -/
theorem index_eq : ∀ t : Fin cfg0.N, win0_0.index t = ![0, t.val % 2] ∧ win0_1.index t = ![0, t.val / 2]
    ∧ win0_2.index t = ![t.val / 2, t.val % 2, 0] := by decide +kernel

theorem point (t : Fin cfg0.N) : t.val < 8 := lt_of_lt_of_eq t.isLt N_0

/-- The two arguments. -/
abbrev x : Mat 2048 2048 := m ((c : Thread nD τ).loc main_arg0)
abbrev dy : Mat 2048 (4 * 1408) := m ((c : Thread nD τ).loc main_arg1)

/-- Entry `(q, k)` of grid point `t` is row `row t q`, column `k` of chip `t / 2`'s block. -/
abbrev chip (t : Fin cfg0.N) : Fin 4 := ⟨t.val / 2, by have := point t; omega⟩
abbrev row (t : Fin cfg0.N) (q : Fin 1024) : Fin 2048 := ⟨t.val % 2 * 1024 + q.val, by omega⟩

theorem emb_out (t : Fin cfg0.N) (z : Fin 1) (q : Fin 1024) (k : Fin 1408) :
    ((View.whole main_v0).slice (win0_2.rect t)).emb (ix3 z q k) = ix3 (chip t) (row t q) k := by
  funext a; apply Fin.ext; fin_cases a <;> blk_simp [(index_eq t).2.2] <;> first | rfl | omega

theorem x_block (t : Fin cfg0.N) (r : Fin 2048) (q : Fin 1024) :
    (iblk m c 0 t (ix2 r q) : EReal) = x m c (ix2 r (row t q)) := by
  blk_ext! [iblk, V, (index_eq t).1]

theorem dy_block (t : Fin cfg0.N) (r : Fin 2048) (k : Fin 1408) :
    (iblk m c 1 t (ix2 r k) : EReal) = dy m c (ix2 r (place (chip t) k)) := by
  have := point t
  blk_ext! [iblk, V, (index_eq t).2.1]

/-- The result array. -/
theorem final : (dats m 0 c).arrAt 2 cfg0.N = gradColumns (x m c) (dy m c) := by
  refine (dats m 0 c).arrAt_eq_of_covers 2 _ (by decide +kernel) fun t hf y => ?_
  blk_simp
  rw [after0_2]
  frame_out
  idx_vars y
  rw [emb_out]
  pointwise [k0_pay1]
  simp only [x_block, dy_block]
  rfl

end Cert.InDwIdeal.Result

namespace Cert.Proof.InDw

theorem frame_kernel : Cert.quiescent_InDw := fun m ρ _ => Cert.InDw.Gen.frame m ρ

theorem frame_ideal : Cert.quiescent_InDwIdeal := fun m ρ _ => Cert.InDwIdeal.Gen.frame m ρ

theorem frame_reference : Cert.quiescent_InDwRefIdeal := fun m ρ _ =>
  (θ_run Cert.InDwRefIdeal.defs _ _).mono
    (fun r h => ⟨fun c => (h c).2, sem_eq_zero_of_no_sems (by decide) r.2⟩) (Cert.InDwRefIdeal.Value.run m ρ)

theorem algebraic : Cert.algebraic_InDwIdeal_InDwRefIdeal := by
  intro m g m' g' _ hargs
  refine ⟨_, Cert.InDwIdeal.Value.run_blocks m g, ?_⟩
  refine (θ_run Cert.InDwRefIdeal.defs _ _).mono (fun r h c => ⟨(h c).1.trans ?_, (h c).2⟩)
    (Cert.InDwRefIdeal.Value.run m' g')
  obtain ⟨a0, a1⟩ := hargs c
  rw [Cert.InDwIdeal.Result.final, Cert.InDwRefIdeal.Read.val_main_v10_eq, a0, a1]
  exact Cert.InDwRefIdeal.Result.result_eq _ _

end Cert.Proof.InDw

end
-- ==== Proof.WoutDxClaim.lean ====
/-
  `wout_dx`: the incoming gradient times the transpose of `w_out`, whose rows are stacked by chip. Grid point `t` holds
  1024 rows of the gradient and all rows of one chip's block, so no sum is split between points.
-/
module

public import proofs.«01_k».proof.Defs
public import proofs.«01_k».proof.Proof.Products
public import proofs.«01_k».proof.Proof.Gen.WoutDx
public import proofs.«01_k».proof.Proof.Gen.WoutDx.Frame
public import proofs.«01_k».proof.Proof.Gen.WoutDxIdeal
public import proofs.«01_k».proof.Proof.Gen.WoutDxIdeal.Frame
public import proofs.«01_k».proof.Proof.Gen.WoutDxIdeal.Value
public import proofs.«01_k».proof.Proof.Gen.WoutDxRefIdeal
public import proofs.«01_k».proof.Proof.Gen.WoutDxRefIdeal.Run
public import proofs.«01_k».proof.Proof.Gen.WoutDxRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.WoutDxRefIdeal.Result

open Cert.WoutDxRefIdeal Cert.WoutDxRefIdeal.Read

/-- The reference's result. -/
theorem result_eq (dz : Mat 2048 2048) (w : Stack 512 2048) : val_main_v5 (F := Ideal) dz w = timesRowsT dz w := by
  funext i
  idx_vars i
  pointwise [val_main_cst, val_main_v0, val_main_v1, val_main_v2, val_main_v3, val_main_v4, val_main_v5]
  rfl

end Cert.WoutDxRefIdeal.Result

namespace Cert.WoutDxIdeal.Result

open Cert.WoutDxIdeal Cert.WoutDxIdeal.Gen

variable (m : (ℓ : Loc nD τ sig) → Buf (Elt Ideal) ℓ) (c : Dev nD)

/-- The blocks of grid point `t`. -/
theorem index_eq : ∀ t : Fin cfg0.N, win0_0.index t = ![t.val % 2, 0] ∧ win0_1.index t = ![t.val / 2, 0, 0]
    ∧ win0_2.index t = ![t.val % 2, t.val / 2] := by decide +kernel

theorem point (t : Fin cfg0.N) : t.val < 8 := lt_of_lt_of_eq t.isLt N_0

/-- The two arguments. -/
abbrev dz : Mat 2048 2048 := m ((c : Thread nD τ).loc main_arg0)
abbrev w : Stack 512 2048 := m ((c : Thread nD τ).loc main_arg1)

/-- The row and the column of the result that entry `(r, q)` of grid point `t` is. -/
abbrev row (t : Fin cfg0.N) (r : Fin 1024) : Fin 2048 := ⟨t.val % 2 * 1024 + r.val, by have := point t; omega⟩
abbrev column (t : Fin cfg0.N) (q : Fin 512) : Fin (4 * 512) := ⟨t.val / 2 * 512 + q.val, by have := point t; omega⟩

theorem emb_out (t : Fin cfg0.N) (r : Fin 1024) (q : Fin 512) :
    ((View.whole main_v0).slice (win0_2.rect t)).emb (ix2 r q) = ix2 (row t r) (column t q) := by
  funext a; apply Fin.ext; fin_cases a <;> blk_simp [(index_eq t).2.2] <;> rfl

theorem dz_block (t : Fin cfg0.N) (r : Fin 1024) (k : Fin 2048) :
    (iblk m c 0 t (ix2 r k) : EReal) = dz m c (ix2 (row t r) k) := by
  blk_ext! [iblk, V, (index_eq t).1]

theorem w_block (t : Fin cfg0.N) (q : Fin 512) (k : Fin 2048) :
    (iblk m c 1 t (ix3 0 q k) : EReal) = w m c (ix3 (column t q).divNat (column t q).modNat k) := by
  have := point t
  blk_ext! [iblk, V, (index_eq t).2.1]
  · show t.val / 2 + 0 = (t.val / 2 * 512 + q.val) / 512; omega
  · show q.val = (t.val / 2 * 512 + q.val) % 512; omega

/-- The result array. -/
theorem final : (dats m 0 c).arrAt 2 cfg0.N = timesRowsT (dz m c) (w m c) := by
  refine (dats m 0 c).arrAt_eq_of_covers 2 _ (by decide +kernel) fun t hf y => ?_
  blk_simp
  rw [after0_2]
  frame_out
  idx_vars y
  rw [emb_out]
  pointwise [k0_pay1]
  simp only [dz_block, w_block]
  rfl

end Cert.WoutDxIdeal.Result

namespace Cert.Proof.WoutDx

theorem frame_kernel : Cert.quiescent_WoutDx := fun m ρ _ => Cert.WoutDx.Gen.frame m ρ

theorem frame_ideal : Cert.quiescent_WoutDxIdeal := fun m ρ _ => Cert.WoutDxIdeal.Gen.frame m ρ

theorem frame_reference : Cert.quiescent_WoutDxRefIdeal := fun m ρ _ =>
  (θ_run Cert.WoutDxRefIdeal.defs _ _).mono
    (fun r h => ⟨fun c => (h c).2, sem_eq_zero_of_no_sems (by decide) r.2⟩) (Cert.WoutDxRefIdeal.Value.run m ρ)

theorem algebraic : Cert.algebraic_WoutDxIdeal_WoutDxRefIdeal := by
  intro m g m' g' _ hargs
  refine ⟨_, Cert.WoutDxIdeal.Value.run_blocks m g, ?_⟩
  refine (θ_run Cert.WoutDxRefIdeal.defs _ _).mono (fun r h c => ⟨(h c).1.trans ?_, (h c).2⟩)
    (Cert.WoutDxRefIdeal.Value.run m' g')
  obtain ⟨a0, a1⟩ := hargs c
  rw [Cert.WoutDxIdeal.Result.final, Cert.WoutDxRefIdeal.Read.val_main_v5_eq, a0, a1]
  exact Cert.WoutDxRefIdeal.Result.result_eq _ _

end Cert.Proof.WoutDx

end
-- ==== Proof.WoutDwClaim.lean ====
/-
  `wout_dw`: the gradient of `w_out`, stacked by chip along its rows: the transpose of the mixer's output times the
  incoming gradient. Every grid point sums over all 2048 time steps.
-/
module

public import proofs.«01_k».proof.Defs
public import proofs.«01_k».proof.Proof.Products
public import proofs.«01_k».proof.Proof.Gen.WoutDw
public import proofs.«01_k».proof.Proof.Gen.WoutDw.Frame
public import proofs.«01_k».proof.Proof.Gen.WoutDwIdeal
public import proofs.«01_k».proof.Proof.Gen.WoutDwIdeal.Frame
public import proofs.«01_k».proof.Proof.Gen.WoutDwIdeal.Value
public import proofs.«01_k».proof.Proof.Gen.WoutDwRefIdeal
public import proofs.«01_k».proof.Proof.Gen.WoutDwRefIdeal.Run
public import proofs.«01_k».proof.Proof.Gen.WoutDwRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.WoutDwRefIdeal.Result

open Cert.WoutDwRefIdeal Cert.WoutDwRefIdeal.Read

/-- The reference's result. -/
theorem result_eq (h : Mat 2048 (4 * 512)) (dz : Mat 2048 2048) : val_main_v8 (F := Ideal) h dz = gradRows h dz := by
  funext i
  idx_vars i
  pointwise [val_main_cst, val_main_v0, val_main_v1, val_main_v2, val_main_v3, val_main_v4, val_main_v5, val_main_v6, val_main_v7, val_main_v8]
  exact Finset.sum_congr rfl fun _ _ => mul_comm (_ : EReal) _

end Cert.WoutDwRefIdeal.Result

namespace Cert.WoutDwIdeal.Result

open Cert.WoutDwIdeal Cert.WoutDwIdeal.Gen

variable (m : (ℓ : Loc nD τ sig) → Buf (Elt Ideal) ℓ) (c : Dev nD)

/-- The blocks of grid point `t`. -/
theorem index_eq : ∀ t : Fin cfg0.N, win0_0.index t = ![0, t.val / 2] ∧ win0_1.index t = ![0, t.val % 2]
    ∧ win0_2.index t = ![t.val / 2, 0, t.val % 2] := by decide +kernel

theorem point (t : Fin cfg0.N) : t.val < 8 := lt_of_lt_of_eq t.isLt N_0

/-- The two arguments. -/
abbrev h : Mat 2048 (4 * 512) := m ((c : Thread nD τ).loc main_arg0)
abbrev dz : Mat 2048 2048 := m ((c : Thread nD τ).loc main_arg1)

/-- The row of `w` within chip `t / 2`'s block is `q`; the column of entry `(q, k)` of grid point `t`. -/
abbrev chip (t : Fin cfg0.N) : Fin 4 := ⟨t.val / 2, by have := point t; omega⟩
abbrev column (t : Fin cfg0.N) (k : Fin 1024) : Fin 2048 := ⟨t.val % 2 * 1024 + k.val, by omega⟩

theorem emb_out (t : Fin cfg0.N) (z : Fin 1) (q : Fin 512) (k : Fin 1024) :
    ((View.whole main_v0).slice (win0_2.rect t)).emb (ix3 z q k) = ix3 (chip t) q (column t k) := by
  funext a; apply Fin.ext; fin_cases a <;> blk_simp [(index_eq t).2.2] <;> first | rfl | omega

theorem h_block (t : Fin cfg0.N) (r : Fin 2048) (q : Fin 512) :
    (iblk m c 0 t (ix2 r q) : EReal) = h m c (ix2 r (place (chip t) q)) := by
  have := point t
  blk_ext! [iblk, V, (index_eq t).1]

theorem dz_block (t : Fin cfg0.N) (r : Fin 2048) (k : Fin 1024) :
    (iblk m c 1 t (ix2 r k) : EReal) = dz m c (ix2 r (column t k)) := by
  blk_ext! [iblk, V, (index_eq t).2.1]

/-- The result array. -/
theorem final : (dats m 0 c).arrAt 2 cfg0.N = gradRows (h m c) (dz m c) := by
  refine (dats m 0 c).arrAt_eq_of_covers 2 _ (by decide +kernel) fun t hf y => ?_
  blk_simp
  rw [after0_2]
  frame_out
  idx_vars y
  rw [emb_out]
  pointwise [k0_pay1]
  simp only [h_block, dz_block]
  rfl

end Cert.WoutDwIdeal.Result

namespace Cert.Proof.WoutDw

theorem frame_kernel : Cert.quiescent_WoutDw := fun m ρ _ => Cert.WoutDw.Gen.frame m ρ

theorem frame_ideal : Cert.quiescent_WoutDwIdeal := fun m ρ _ => Cert.WoutDwIdeal.Gen.frame m ρ

theorem frame_reference : Cert.quiescent_WoutDwRefIdeal := fun m ρ _ =>
  (θ_run Cert.WoutDwRefIdeal.defs _ _).mono
    (fun r h => ⟨fun c => (h c).2, sem_eq_zero_of_no_sems (by decide) r.2⟩) (Cert.WoutDwRefIdeal.Value.run m ρ)

theorem algebraic : Cert.algebraic_WoutDwIdeal_WoutDwRefIdeal := by
  intro m g m' g' _ hargs
  refine ⟨_, Cert.WoutDwIdeal.Value.run_blocks m g, ?_⟩
  refine (θ_run Cert.WoutDwRefIdeal.defs _ _).mono (fun r h c => ⟨(h c).1.trans ?_, (h c).2⟩)
    (Cert.WoutDwRefIdeal.Value.run m' g')
  obtain ⟨a0, a1⟩ := hargs c
  rw [Cert.WoutDwIdeal.Result.final, Cert.WoutDwRefIdeal.Read.val_main_v8_eq, a0, a1]
  exact Cert.WoutDwRefIdeal.Result.result_eq _ _

end Cert.Proof.WoutDw

end
-- ==== Proof.ProjDxClaim.lean ====
/-
  `proj_dx` without a residual: the incoming gradient times the transpose of `w_in`, whose columns are stacked by chip.
  Grid point `t` adds four products, one per chip's block.
-/
module

public import proofs.«01_k».proof.Defs
public import proofs.«01_k».proof.Proof.Products
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.ProjDxRefIdeal.Result

open Cert.ProjDxRefIdeal Cert.ProjDxRefIdeal.Read

/-- The reference's result. -/
theorem result_eq (dy : Mat 2048 (4 * 1408)) (w : Stack 2048 1408) : val_main_v6 (F := Ideal) dy w = timesColumnsT dy w := by
  funext i
  idx_vars i
  pointwise [val_main_cst, val_main_v0, val_main_v1, val_main_v2, val_main_v3, val_main_v4, val_main_v5, val_main_v6]
  rfl

end Cert.ProjDxRefIdeal.Result

namespace Cert.ProjDxIdeal.Result

open Cert.ProjDxIdeal Cert.ProjDxIdeal.Gen

variable (m : (ℓ : Loc nD τ sig) → Buf (Elt Ideal) ℓ) (c : Dev nD)

/-- The blocks of grid point `t`. -/
theorem index_eq : ∀ t : Fin cfg0.N, win0_0.index t = ![t.val / 4, 0] ∧ win0_1.index t = ![0, t.val % 4, 0]
    ∧ win0_2.index t = ![t.val / 4, t.val % 4] := by decide +kernel

theorem point (t : Fin cfg0.N) : t.val < 8 := lt_of_lt_of_eq t.isLt N_0

/-- The two arguments. -/
abbrev dy : Mat 2048 (4 * 1408) := m ((c : Thread nD τ).loc main_arg0)
abbrev w : Stack 2048 1408 := m ((c : Thread nD τ).loc main_arg1)

/-- The row and the column of the result that entry `(r, q)` of grid point `t` is. -/
abbrev row (t : Fin cfg0.N) (r : Fin 1024) : Fin 2048 := ⟨t.val / 4 * 1024 + r.val, by have := point t; omega⟩
abbrev column (t : Fin cfg0.N) (q : Fin 512) : Fin 2048 := ⟨t.val % 4 * 512 + q.val, by have := point t; omega⟩

theorem emb_out (t : Fin cfg0.N) (r : Fin 1024) (q : Fin 512) :
    ((View.whole main_v0).slice (win0_2.rect t)).emb (ix2 r q) = ix2 (row t r) (column t q) := by
  funext a; apply Fin.ext; fin_cases a <;> blk_simp [(index_eq t).2.2] <;> rfl

theorem dy_block (t : Fin cfg0.N) (r : Fin 1024) (p : Fin (4 * 1408)) :
    (iblk m c 0 t (ix2 r p) : EReal) = dy m c (ix2 (row t r) p) := by
  blk_ext! [iblk, V, (index_eq t).1]

theorem w_block (t : Fin cfg0.N) (j : Fin 4) (q : Fin 512) (k : Fin 1408) :
    (iblk m c 1 t (ix3 j q k) : EReal) = w m c (ix3 j (column t q) k) := by
  blk_ext! [iblk, V, (index_eq t).2.1]

/-- The result array. -/
theorem final : (dats m 0 c).arrAt 2 cfg0.N = timesColumnsT (dy m c) (w m c) := by
  refine (dats m 0 c).arrAt_eq_of_covers 2 _ (by decide +kernel) fun t hf y => ?_
  blk_simp
  rw [after0_2]
  frame_out
  idx_vars y
  rw [emb_out]
  pointwise [k0_pay1]
  simp only [dy_block, w_block]
  exact (sum_blocks fun p j k => dy m c (ix2 (row t y0) p) * w m c (ix3 j (column t y1) k)).symm

end Cert.ProjDxIdeal.Result

namespace Cert.Proof.ProjDx

theorem frame_kernel : Cert.quiescent_ProjDx := fun m ρ _ => Cert.ProjDx.Gen.frame m ρ

theorem frame_ideal : Cert.quiescent_ProjDxIdeal := fun m ρ _ => Cert.ProjDxIdeal.Gen.frame m ρ

theorem frame_reference : Cert.quiescent_ProjDxRefIdeal := fun m ρ _ =>
  (θ_run Cert.ProjDxRefIdeal.defs _ _).mono
    (fun r h => ⟨fun c => (h c).2, sem_eq_zero_of_no_sems (by decide) r.2⟩) (Cert.ProjDxRefIdeal.Value.run m ρ)

theorem algebraic : Cert.algebraic_ProjDxIdeal_ProjDxRefIdeal := by
  intro m g m' g' _ hargs
  refine ⟨_, Cert.ProjDxIdeal.Value.run_blocks m g, ?_⟩
  refine (θ_run Cert.ProjDxRefIdeal.defs _ _).mono (fun r h c => ⟨(h c).1.trans ?_, (h c).2⟩)
    (Cert.ProjDxRefIdeal.Value.run m' g')
  obtain ⟨a0, a1⟩ := hargs c
  rw [Cert.ProjDxIdeal.Result.final, Cert.ProjDxRefIdeal.Read.val_main_v6_eq, a0, a1]
  exact Cert.ProjDxRefIdeal.Result.result_eq _ _

end Cert.Proof.ProjDx

end
-- ==== Proof.ProjDxResidualClaim.lean ====
/-
  `proj_dx` with a residual: `ALPHA` times the gradient that bypasses the mixer, plus the incoming gradient times the
  transpose of `w_in`, whose columns are stacked by chip. Grid point `t` adds four products, one per chip's block.
-/
module

public import proofs.«01_k».proof.Defs
public import proofs.«01_k».proof.Proof.Products
public import proofs.«01_k».proof.Proof.Gen.ProjDxResidual
public import proofs.«01_k».proof.Proof.Gen.ProjDxResidual.Frame
public import proofs.«01_k».proof.Proof.Gen.ProjDxResidualIdeal
public import proofs.«01_k».proof.Proof.Gen.ProjDxResidualIdeal.Frame
public import proofs.«01_k».proof.Proof.Gen.ProjDxResidualIdeal.Value
public import proofs.«01_k».proof.Proof.Gen.ProjDxResidualRefIdeal
public import proofs.«01_k».proof.Proof.Gen.ProjDxResidualRefIdeal.Run
public import proofs.«01_k».proof.Proof.Gen.ProjDxResidualRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.ProjDxResidualRefIdeal.Result

open Cert.ProjDxResidualRefIdeal Cert.ProjDxResidualRefIdeal.Read

/-- The reference's result. -/
theorem result_eq (dy : Mat 2048 (4 * 1408)) (w : Stack 2048 1408) (dz : Mat 2048 2048) : val_main_v11 (F := Ideal) dy w dz = plusResidual dz (timesColumnsT dy w) := by
  funext i
  idx_vars i
  pointwise [val_main_cst, val_main_v0, val_main_v1, val_main_v2, val_main_v3, val_main_v4, val_main_cst_0, val_main_v5, val_main_v6, val_main_v7, val_main_cst_1, val_main_v8, val_main_v9, val_main_v10, val_main_v11]
  rfl

end Cert.ProjDxResidualRefIdeal.Result

namespace Cert.ProjDxResidualIdeal.Result

open Cert.ProjDxResidualIdeal Cert.ProjDxResidualIdeal.Gen

variable (m : (ℓ : Loc nD τ sig) → Buf (Elt Ideal) ℓ) (c : Dev nD)

/-- The blocks of grid point `t`. -/
theorem index_eq : ∀ t : Fin cfg0.N, win0_0.index t = ![t.val / 4, 0] ∧ win0_1.index t = ![0, t.val % 4, 0]
    ∧ win0_2.index t = ![t.val / 4, t.val % 4] ∧ win0_3.index t = ![t.val / 4, t.val % 4] := by decide +kernel

theorem point (t : Fin cfg0.N) : t.val < 8 := lt_of_lt_of_eq t.isLt N_0

/-- The arguments. -/
abbrev dy : Mat 2048 (4 * 1408) := m ((c : Thread nD τ).loc main_arg0)
abbrev w : Stack 2048 1408 := m ((c : Thread nD τ).loc main_arg1)
abbrev dz : Mat 2048 2048 := m ((c : Thread nD τ).loc main_arg2)

/-- The row and the column of the result that entry `(r, q)` of grid point `t` is. -/
abbrev row (t : Fin cfg0.N) (r : Fin 1024) : Fin 2048 := ⟨t.val / 4 * 1024 + r.val, by have := point t; omega⟩
abbrev column (t : Fin cfg0.N) (q : Fin 512) : Fin 2048 := ⟨t.val % 4 * 512 + q.val, by have := point t; omega⟩

theorem emb_out (t : Fin cfg0.N) (r : Fin 1024) (q : Fin 512) :
    ((View.whole main_v0).slice (win0_3.rect t)).emb (ix2 r q) = ix2 (row t r) (column t q) := by
  funext a; apply Fin.ext; fin_cases a <;> blk_simp [(index_eq t).2.2.2] <;> rfl

theorem dy_block (t : Fin cfg0.N) (r : Fin 1024) (p : Fin (4 * 1408)) :
    (iblk m c 0 t (ix2 r p) : EReal) = dy m c (ix2 (row t r) p) := by
  blk_ext! [iblk, V, (index_eq t).1]

theorem w_block (t : Fin cfg0.N) (j : Fin 4) (q : Fin 512) (k : Fin 1408) :
    (iblk m c 1 t (ix3 j q k) : EReal) = w m c (ix3 j (column t q) k) := by
  blk_ext! [iblk, V, (index_eq t).2.1]

theorem residual_block (t : Fin cfg0.N) (r : Fin 1024) (q : Fin 512) :
    (iblk m c 2 t (ix2 r q) : EReal) = dz m c (ix2 (row t r) (column t q)) := by
  blk_ext! [iblk, V, (index_eq t).2.2.1]

/-- The result array. -/
theorem final : (dats m 0 c).arrAt 3 cfg0.N = plusResidual (dz m c) (timesColumnsT (dy m c) (w m c)) := by
  refine (dats m 0 c).arrAt_eq_of_covers 3 _ (by decide +kernel) fun t hf y => ?_
  blk_simp
  rw [after0_3]
  frame_out
  idx_vars y
  rw [emb_out]
  pointwise [k0_pay1]
  simp only [dy_block, w_block, residual_block]
  exact congrArg (alpha * dz m c (ix2 (row t y0) (column t y1)) + ·)
    (sum_blocks fun p j k => dy m c (ix2 (row t y0) p) * w m c (ix3 j (column t y1) k)).symm

end Cert.ProjDxResidualIdeal.Result

namespace Cert.Proof.ProjDxResidual

theorem frame_kernel : Cert.quiescent_ProjDxResidual := fun m ρ _ => Cert.ProjDxResidual.Gen.frame m ρ

theorem frame_ideal : Cert.quiescent_ProjDxResidualIdeal := fun m ρ _ => Cert.ProjDxResidualIdeal.Gen.frame m ρ

theorem frame_reference : Cert.quiescent_ProjDxResidualRefIdeal := fun m ρ _ =>
  (θ_run Cert.ProjDxResidualRefIdeal.defs _ _).mono
    (fun r h => ⟨fun c => (h c).2, sem_eq_zero_of_no_sems (by decide) r.2⟩) (Cert.ProjDxResidualRefIdeal.Value.run m ρ)

theorem algebraic : Cert.algebraic_ProjDxResidualIdeal_ProjDxResidualRefIdeal := by
  intro m g m' g' _ hargs
  refine ⟨_, Cert.ProjDxResidualIdeal.Value.run_blocks m g, ?_⟩
  refine (θ_run Cert.ProjDxResidualRefIdeal.defs _ _).mono (fun r h c => ⟨(h c).1.trans ?_, (h c).2⟩)
    (Cert.ProjDxResidualRefIdeal.Value.run m' g')
  obtain ⟨a0, a1, a2⟩ := hargs c
  rw [Cert.ProjDxResidualIdeal.Result.final, Cert.ProjDxResidualRefIdeal.Read.val_main_v11_eq, a0, a1, a2]
  exact Cert.ProjDxResidualRefIdeal.Result.result_eq _ _ _

end Cert.Proof.ProjDxResidual

end
-- ==== Proof.ProjClaim.lean ====
/-
  `proj`: the input projection, `x` times `w_in`, whose columns are stacked by chip. Grid point `t` holds 1024 rows of `x`
  and one chip's columns, so no sum is split between points.
-/
module

public import proofs.«01_k».proof.Defs
public import proofs.«01_k».proof.Proof.Products
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.ProjRefIdeal.Result

open Cert.ProjRefIdeal Cert.ProjRefIdeal.Read

/-- The reference's result. -/
theorem result_eq (x : Mat 2048 2048) (w : Stack 2048 1408) : val_main_v4 (F := Ideal) x w = timesColumns x w := by
  funext i
  idx_vars i
  pointwise [val_main_v0, val_main_v1, val_main_v2, val_main_v3, val_main_v4]
  rfl

end Cert.ProjRefIdeal.Result

namespace Cert.ProjIdeal.Result

open Cert.ProjIdeal Cert.ProjIdeal.Gen

variable (m : (ℓ : Loc nD τ sig) → Buf (Elt Ideal) ℓ) (c : Dev nD)

/-- The blocks of grid point `t`. -/
theorem index_eq : ∀ t : Fin cfg0.N, win0_0.index t = ![t.val % 2, 0] ∧ win0_1.index t = ![t.val / 2, 0, 0]
    ∧ win0_2.index t = ![t.val % 2, t.val / 2] := by decide +kernel

theorem point (t : Fin cfg0.N) : t.val < 8 := lt_of_lt_of_eq t.isLt N_0

/-- The two arguments. -/
abbrev x : Mat 2048 2048 := m ((c : Thread nD τ).loc main_arg0)
abbrev w : Stack 2048 1408 := m ((c : Thread nD τ).loc main_arg1)

/-- The row and the column of the result that entry `(r, q)` of grid point `t` is. -/
abbrev row (t : Fin cfg0.N) (r : Fin 1024) : Fin 2048 := ⟨t.val % 2 * 1024 + r.val, by have := point t; omega⟩
abbrev column (t : Fin cfg0.N) (q : Fin 1408) : Fin (4 * 1408) := ⟨t.val / 2 * 1408 + q.val, by have := point t; omega⟩

theorem emb_out (t : Fin cfg0.N) (r : Fin 1024) (q : Fin 1408) :
    ((View.whole main_v0).slice (win0_2.rect t)).emb (ix2 r q) = ix2 (row t r) (column t q) := by
  funext a; apply Fin.ext; fin_cases a <;> blk_simp [(index_eq t).2.2] <;> rfl

theorem x_block (t : Fin cfg0.N) (r : Fin 1024) (k : Fin 2048) :
    (iblk m c 0 t (ix2 r k) : EReal) = x m c (ix2 (row t r) k) := by
  blk_ext! [iblk, V, (index_eq t).1]

theorem w_block (t : Fin cfg0.N) (k : Fin 2048) (q : Fin 1408) :
    (iblk m c 1 t (ix3 0 k q) : EReal) = w m c (ix3 (column t q).divNat k (column t q).modNat) := by
  have := point t
  blk_ext! [iblk, V, (index_eq t).2.1]
  · show t.val / 2 + 0 = (t.val / 2 * 1408 + q.val) / 1408; omega
  · show q.val = (t.val / 2 * 1408 + q.val) % 1408; omega

/-- The result array. -/
theorem final : (dats m 0 c).arrAt 2 cfg0.N = timesColumns (x m c) (w m c) := by
  refine (dats m 0 c).arrAt_eq_of_covers 2 _ (by decide +kernel) fun t hf y => ?_
  blk_simp
  rw [after0_2]
  frame_out
  idx_vars y
  rw [emb_out]
  pointwise [k0_pay1]
  simp only [x_block, w_block]
  rfl

end Cert.ProjIdeal.Result

namespace Cert.Proof.Proj

theorem frame_kernel : Cert.quiescent_Proj := fun m ρ _ => Cert.Proj.Gen.frame m ρ

theorem frame_ideal : Cert.quiescent_ProjIdeal := fun m ρ _ => Cert.ProjIdeal.Gen.frame m ρ

theorem frame_reference : Cert.quiescent_ProjRefIdeal := fun m ρ _ =>
  (θ_run Cert.ProjRefIdeal.defs _ _).mono
    (fun r h => ⟨fun c => (h c).2, sem_eq_zero_of_no_sems (by decide) r.2⟩) (Cert.ProjRefIdeal.Value.run m ρ)

theorem algebraic : Cert.algebraic_ProjIdeal_ProjRefIdeal := by
  intro m g m' g' _ hargs
  refine ⟨_, Cert.ProjIdeal.Value.run_blocks m g, ?_⟩
  refine (θ_run Cert.ProjRefIdeal.defs _ _).mono (fun r h c => ⟨(h c).1.trans ?_, (h c).2⟩)
    (Cert.ProjRefIdeal.Value.run m' g')
  obtain ⟨a0, a1⟩ := hargs c
  rw [Cert.ProjIdeal.Result.final, Cert.ProjRefIdeal.Read.val_main_v4_eq, a0, a1]
  exact Cert.ProjRefIdeal.Result.result_eq _ _

end Cert.Proof.Proj

end
-- ==== Proof.GateClaim.lean ====
/-
  `gate` and `up`: `x` times `w_gate` or `w_up`, whose columns are stacked by chip; the result in bfloat16. Grid point
  `t` holds 1024 rows of `x` and one chip's columns, so no sum is split between points.
-/
module

public import proofs.«01_k».proof.Defs
public import proofs.«01_k».proof.Proof.Products
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.GateRefIdeal.Result

open Cert.GateRefIdeal Cert.GateRefIdeal.Read

/-- The reference's result. -/
theorem result_eq (x : Mat 2048 2048) (w : Stack 2048 1408) : val_main_v5 (F := Ideal) x w = timesColumns x w := by
  funext i
  idx_vars i
  pointwise [val_main_v0, val_main_v1, val_main_v2, val_main_v3, val_main_v4, val_main_v5]
  rfl

end Cert.GateRefIdeal.Result

namespace Cert.GateIdeal.Result

open Cert.GateIdeal Cert.GateIdeal.Gen

variable (m : (ℓ : Loc nD τ sig) → Buf (Elt Ideal) ℓ) (c : Dev nD)

/-- The blocks of grid point `t`. -/
theorem index_eq : ∀ t : Fin cfg0.N, win0_0.index t = ![t.val % 2, 0] ∧ win0_1.index t = ![t.val / 2, 0, 0]
    ∧ win0_2.index t = ![t.val % 2, t.val / 2] := by decide +kernel

theorem point (t : Fin cfg0.N) : t.val < 8 := lt_of_lt_of_eq t.isLt N_0

/-- The two arguments. -/
abbrev x : Mat 2048 2048 := m ((c : Thread nD τ).loc main_arg0)
abbrev w : Stack 2048 1408 := m ((c : Thread nD τ).loc main_arg1)

/-- The row and the column of the result that entry `(r, q)` of grid point `t` is. -/
abbrev row (t : Fin cfg0.N) (r : Fin 1024) : Fin 2048 := ⟨t.val % 2 * 1024 + r.val, by have := point t; omega⟩
abbrev column (t : Fin cfg0.N) (q : Fin 1408) : Fin (4 * 1408) := ⟨t.val / 2 * 1408 + q.val, by have := point t; omega⟩

theorem emb_out (t : Fin cfg0.N) (r : Fin 1024) (q : Fin 1408) :
    ((View.whole main_v0).slice (win0_2.rect t)).emb (ix2 r q) = ix2 (row t r) (column t q) := by
  funext a; apply Fin.ext; fin_cases a <;> blk_simp [(index_eq t).2.2] <;> rfl

theorem x_block (t : Fin cfg0.N) (r : Fin 1024) (k : Fin 2048) :
    (iblk m c 0 t (ix2 r k) : EReal) = x m c (ix2 (row t r) k) := by
  blk_ext! [iblk, V, (index_eq t).1]

theorem w_block (t : Fin cfg0.N) (k : Fin 2048) (q : Fin 1408) :
    (iblk m c 1 t (ix3 0 k q) : EReal) = w m c (ix3 (column t q).divNat k (column t q).modNat) := by
  have := point t
  blk_ext! [iblk, V, (index_eq t).2.1]
  · show t.val / 2 + 0 = (t.val / 2 * 1408 + q.val) / 1408; omega
  · show q.val = (t.val / 2 * 1408 + q.val) % 1408; omega

/-- The result array. -/
theorem final : (dats m 0 c).arrAt 2 cfg0.N = timesColumns (x m c) (w m c) := by
  refine (dats m 0 c).arrAt_eq_of_covers 2 _ (by decide +kernel) fun t hf y => ?_
  blk_simp
  rw [after0_2]
  frame_out
  idx_vars y
  rw [emb_out]
  pointwise [k0_pay1]
  simp only [x_block, w_block]
  rfl

end Cert.GateIdeal.Result

namespace Cert.Proof.Gate

theorem frame_kernel : Cert.quiescent_Gate := fun m ρ _ => Cert.Gate.Gen.frame m ρ

theorem frame_ideal : Cert.quiescent_GateIdeal := fun m ρ _ => Cert.GateIdeal.Gen.frame m ρ

theorem frame_reference : Cert.quiescent_GateRefIdeal := fun m ρ _ =>
  (θ_run Cert.GateRefIdeal.defs _ _).mono
    (fun r h => ⟨fun c => (h c).2, sem_eq_zero_of_no_sems (by decide) r.2⟩) (Cert.GateRefIdeal.Value.run m ρ)

theorem algebraic : Cert.algebraic_GateIdeal_GateRefIdeal := by
  intro m g m' g' _ hargs
  refine ⟨_, Cert.GateIdeal.Value.run_blocks m g, ?_⟩
  refine (θ_run Cert.GateRefIdeal.defs _ _).mono (fun r h c => ⟨(h c).1.trans ?_, (h c).2⟩)
    (Cert.GateRefIdeal.Value.run m' g')
  obtain ⟨a0, a1⟩ := hargs c
  rw [Cert.GateIdeal.Result.final, Cert.GateRefIdeal.Read.val_main_v5_eq, a0, a1]
  exact Cert.GateRefIdeal.Result.result_eq _ _

end Cert.Proof.Gate

end
-- ==== Proof.WoutClaim.lean ====
/-
  `wout`: the output projection of the mixer, whose weight's rows are stacked by chip. Grid point `t` holds 1024 rows of
  the mixer's output and 512 columns of the whole weight, so no sum is split between points.
-/
module

public import proofs.«01_k».proof.Defs
public import proofs.«01_k».proof.Proof.Products
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.WoutRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.WoutRefIdeal.Result

open Cert.WoutRefIdeal Cert.WoutRefIdeal.Read

/-- The reference's result. -/
theorem result_eq (h : Mat 2048 (4 * 512)) (w : Stack 512 2048) : val_main_v3 (F := Ideal) h w = timesRows h w := by
  funext i
  idx_vars i
  pointwise [val_main_v0, val_main_v1, val_main_v2, val_main_v3]
  rfl

end Cert.WoutRefIdeal.Result

namespace Cert.WoutIdeal.Result

open Cert.WoutIdeal Cert.WoutIdeal.Gen

variable (m : (ℓ : Loc nD τ sig) → Buf (Elt Ideal) ℓ) (c : Dev nD)

/-- The blocks of grid point `t`. -/
theorem index_eq : ∀ t : Fin cfg0.N, win0_0.index t = ![t.val / 4, 0] ∧ win0_1.index t = ![0, t.val % 4]
    ∧ win0_2.index t = ![t.val / 4, t.val % 4] := by decide +kernel

theorem point (t : Fin cfg0.N) : t.val < 8 := lt_of_lt_of_eq t.isLt N_0

/-- The two arguments. -/
abbrev h : Mat 2048 (4 * 512) := m ((c : Thread nD τ).loc main_arg0)
abbrev w : Stack 512 2048 := m ((c : Thread nD τ).loc main_arg1)

/-- The row and the column of the result that entry `(r, q)` of grid point `t` is. -/
abbrev row (t : Fin cfg0.N) (r : Fin 1024) : Fin 2048 := ⟨t.val / 4 * 1024 + r.val, by have := point t; omega⟩
abbrev column (t : Fin cfg0.N) (q : Fin 512) : Fin 2048 := ⟨t.val % 4 * 512 + q.val, by have := point t; omega⟩

theorem emb_out (t : Fin cfg0.N) (r : Fin 1024) (q : Fin 512) :
    ((View.whole main_v1).slice (win0_2.rect t)).emb (ix2 r q) = ix2 (row t r) (column t q) := by
  funext a; apply Fin.ext; fin_cases a <;> blk_simp [(index_eq t).2.2] <;> rfl

theorem h_block (t : Fin cfg0.N) (r : Fin 1024) (k : Fin (4 * 512)) :
    (iblk m c 0 t (ix2 r k) : EReal) = h m c (ix2 (row t r) k) := by
  blk_ext! [iblk, V, (index_eq t).1]

theorem w_block (t : Fin cfg0.N) (k : Fin (4 * 512)) (q : Fin 512) :
    (iblk m c 1 t (ix2 k q) : EReal) = w m c (ix3 k.divNat k.modNat (column t q)) := by
  have := point t
  blk_simp [iblk]
  entry_read
  pointwise
  blk_ext [(index_eq t).2.1] <;> rfl

/-- The result array. -/
theorem final : (dats m 0 c).arrAt 2 cfg0.N = timesRows (h m c) (w m c) := by
  refine (dats m 0 c).arrAt_eq_of_covers 2 _ (by decide +kernel) fun t hf y => ?_
  blk_simp
  rw [after0_2]
  frame_out
  idx_vars y
  rw [emb_out]
  pointwise [k0_pay1]
  simp only [h_block, w_block]
  rfl

end Cert.WoutIdeal.Result

namespace Cert.Proof.Wout

theorem frame_kernel : Cert.quiescent_Wout := fun m ρ _ => Cert.Wout.Gen.frame m ρ

theorem frame_ideal : Cert.quiescent_WoutIdeal := fun m ρ _ => Cert.WoutIdeal.Gen.frame m ρ

theorem frame_reference : Cert.quiescent_WoutRefIdeal := fun m ρ _ =>
  (θ_run Cert.WoutRefIdeal.defs _ _).mono
    (fun r h => ⟨fun c => (h c).2, sem_eq_zero_of_no_sems (by decide) r.2⟩) (Cert.WoutRefIdeal.Value.run m ρ)

theorem algebraic : Cert.algebraic_WoutIdeal_WoutRefIdeal := by
  intro m g m' g' _ hargs
  refine ⟨_, Cert.WoutIdeal.Value.run_blocks m g, ?_⟩
  refine (θ_run Cert.WoutRefIdeal.defs _ _).mono (fun r h c => ⟨(h c).1.trans ?_, (h c).2⟩)
    (Cert.WoutRefIdeal.Value.run m' g')
  obtain ⟨a0, a1⟩ := hargs c
  rw [Cert.WoutIdeal.Result.final, Cert.WoutRefIdeal.Read.val_main_v3_eq, a0, a1]
  exact Cert.WoutRefIdeal.Result.result_eq _ _

end Cert.Proof.Wout

end
-- ==== Proof.DownClaim.lean ====
/-
  `down`: the last product of the ConvFFN; the rows of `w_down` are stacked by chip. Grid point `t` holds 1024 rows of
  the gated factor and 512 columns of the whole weight, so no sum is split between points.
-/
module

public import proofs.«01_k».proof.Defs
public import proofs.«01_k».proof.Proof.Products
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import Idealize.ShloMosaic.Lib.Pipeline.ValueKit

@[expose] public section

set_option maxRecDepth 16384

noncomputable section

open Idealize.ShloMosaic Idealize.ShloMosaic.TcCoe Idealize.SL.Sem Cert.Products

namespace Cert.DownRefIdeal.Result

open Cert.DownRefIdeal Cert.DownRefIdeal.Read

/-- The reference's result. -/
theorem result_eq (h : Mat 2048 (4 * 1408)) (w : Stack 1408 2048) : val_main_v3 (F := Ideal) h w = timesRows h w := by
  funext i
  idx_vars i
  pointwise [val_main_v0, val_main_v1, val_main_v2, val_main_v3]
  rfl

end Cert.DownRefIdeal.Result

namespace Cert.DownIdeal.Result

open Cert.DownIdeal Cert.DownIdeal.Gen

variable (m : (ℓ : Loc nD τ sig) → Buf (Elt Ideal) ℓ) (c : Dev nD)

/-- The blocks of grid point `t`. -/
theorem index_eq : ∀ t : Fin cfg0.N, win0_0.index t = ![t.val / 4, 0] ∧ win0_1.index t = ![0, t.val % 4]
    ∧ win0_2.index t = ![t.val / 4, t.val % 4] := by decide +kernel

theorem point (t : Fin cfg0.N) : t.val < 8 := lt_of_lt_of_eq t.isLt N_0

/-- The two arguments. -/
abbrev h : Mat 2048 (4 * 1408) := m ((c : Thread nD τ).loc main_arg0)
abbrev w : Stack 1408 2048 := m ((c : Thread nD τ).loc main_arg1)

/-- The row and the column of the result that entry `(r, q)` of grid point `t` is. -/
abbrev row (t : Fin cfg0.N) (r : Fin 1024) : Fin 2048 := ⟨t.val / 4 * 1024 + r.val, by have := point t; omega⟩
abbrev column (t : Fin cfg0.N) (q : Fin 512) : Fin 2048 := ⟨t.val % 4 * 512 + q.val, by have := point t; omega⟩

theorem emb_out (t : Fin cfg0.N) (r : Fin 1024) (q : Fin 512) :
    ((View.whole main_v1).slice (win0_2.rect t)).emb (ix2 r q) = ix2 (row t r) (column t q) := by
  funext a; apply Fin.ext; fin_cases a <;> blk_simp [(index_eq t).2.2] <;> rfl

theorem h_block (t : Fin cfg0.N) (r : Fin 1024) (k : Fin (4 * 1408)) :
    (iblk m c 0 t (ix2 r k) : EReal) = h m c (ix2 (row t r) k) := by
  blk_ext! [iblk, V, (index_eq t).1]

theorem w_block (t : Fin cfg0.N) (k : Fin (4 * 1408)) (q : Fin 512) :
    (iblk m c 1 t (ix2 k q) : EReal) = w m c (ix3 k.divNat k.modNat (column t q)) := by
  have := point t
  blk_simp [iblk]
  entry_read
  pointwise
  blk_ext [(index_eq t).2.1] <;> rfl

/-- The result array. -/
theorem final : (dats m 0 c).arrAt 2 cfg0.N = timesRows (h m c) (w m c) := by
  refine (dats m 0 c).arrAt_eq_of_covers 2 _ (by decide +kernel) fun t hf y => ?_
  blk_simp
  rw [after0_2]
  frame_out
  idx_vars y
  rw [emb_out]
  pointwise [k0_pay1]
  simp only [h_block, w_block]
  rfl

end Cert.DownIdeal.Result

namespace Cert.Proof.Down

theorem frame_kernel : Cert.quiescent_Down := fun m ρ _ => Cert.Down.Gen.frame m ρ

theorem frame_ideal : Cert.quiescent_DownIdeal := fun m ρ _ => Cert.DownIdeal.Gen.frame m ρ

theorem frame_reference : Cert.quiescent_DownRefIdeal := fun m ρ _ =>
  (θ_run Cert.DownRefIdeal.defs _ _).mono
    (fun r h => ⟨fun c => (h c).2, sem_eq_zero_of_no_sems (by decide) r.2⟩) (Cert.DownRefIdeal.Value.run m ρ)

theorem algebraic : Cert.algebraic_DownIdeal_DownRefIdeal := by
  intro m g m' g' _ hargs
  refine ⟨_, Cert.DownIdeal.Value.run_blocks m g, ?_⟩
  refine (θ_run Cert.DownRefIdeal.defs _ _).mono (fun r h c => ⟨(h c).1.trans ?_, (h c).2⟩)
    (Cert.DownRefIdeal.Value.run m' g')
  obtain ⟨a0, a1⟩ := hargs c
  rw [Cert.DownIdeal.Result.final, Cert.DownRefIdeal.Read.val_main_v3_eq, a0, a1]
  exact Cert.DownRefIdeal.Result.result_eq _ _

end Cert.Proof.Down

end
-- ==== Proof.Adam.lean ====
module

public import proofs.«01_k».proof.Proof.Products

@[expose] public section

noncomputable section

/-! # The AdamW update

One step of AdamW on one entry of a parameter, and the stack of two layers' gradients that the updates of the large
matrices read. -/

namespace Cert.Adam

open Idealize.ShloMosaic Cert.Products

/-- The new first moment: nine tenths of the old one and a tenth of the gradient. -/
def moment (g m : EReal) : EReal :=
  Ideal.ofBits .f32 0x3F666666#32 * m + Ideal.ofBits .f32 0x3DCCCCCD#32 * g

/-- The new second moment: 0.999 of the old one and a thousandth of the squared gradient. -/
def square (g v : EReal) : EReal :=
  Ideal.ofBits .f32 0x3F7FBE77#32 * v + Ideal.ofBits .f32 0x3A83126F#32 * (g * g)

/-- The change of the parameter `w`: minus the learning rate times the first moment over the root of the second, both
    corrected for their start at zero, plus the weight decay. -/
def delta (w g m v : EReal) : EReal :=
  Ideal.ofBits .f32 0xBA83126F#32 *
    (Ideal.div (Ideal.div (moment g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- A parameter of both layers. -/
abbrev Layers (a b : Nat) : Type := (⟨3, ![2, a, b]⟩ : Shape).Idx → EReal

/-- The two layers' gradients, one above the other. -/
def stack {a b : Nat} (g0 g1 : Mat a b) : Layers a b :=
  fun i => if (i 0).val = 0 then g0 (ix2 (i 1) (i 2)) else g1 (ix2 (i 1) (i 2))

/-- The updates of a parameter of both layers. -/
def moments {a b : Nat} (g0 g1 : Mat a b) (m : Layers a b) : Layers a b := fun i => moment (stack g0 g1 i) (m i)
def squares {a b : Nat} (g0 g1 : Mat a b) (v : Layers a b) : Layers a b := fun i => square (stack g0 g1 i) (v i)
def deltas {a b : Nat} (w : Layers a b) (g0 g1 : Mat a b) (m v : Layers a b) : Layers a b :=
  fun i => delta (w i) (stack g0 g1 i) (m i) (v i)

end Cert.Adam

end
-- ==== Proof.AdamInClaim.lean ====
module

public import proofs.«01_k».proof.Defs
public import proofs.«01_k».proof.Proof.Adam
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import Idealize.ShloMosaic.Lib.Pipeline.ValueKit

@[expose] public section

set_option maxRecDepth 16384

noncomputable section

open Idealize.ShloMosaic Idealize.ShloMosaic.TcCoe Idealize.SL.Sem Cert.Products Cert.Adam

namespace Cert.AdamInRefIdeal.Result

open Cert.AdamInRefIdeal Cert.AdamInRefIdeal.Read

/-- The reference's stacked gradients. -/
theorem grad_eq (g0 g1 : Mat 2048 1408) : val_main_v2 (F := Ideal) g0 g1 = stack g0 g1 := by
  funext i
  idx_vars i
  pointwise [val_main_v2, val_main_v1, val_main_v0]
  show _ = if i0.val = 0 then g0 (ix2 i1 i2) else g1 (ix2 i1 i2)
  split
  · next h => rw [if_pos (show i0.val = 0 by omega)]
  · next h => rw [if_neg (show ¬ i0.val = 0 by omega)]

/-- The reference's first moments. -/
theorem moment_eq (g0 g1 : Mat 2048 1408) (m : Layers 2048 1408) :
    val_main_v7 (F := Ideal) g0 g1 m = moments g0 g1 m := by
  funext i
  pointwise [val_main_v7, val_main_v6, val_main_v5, val_main_v4, val_main_v3, val_main_cst, val_main_cst_0]
  rw [grad_eq]
  rfl

/-- The reference's second moments. -/
theorem square_eq (g0 g1 : Mat 2048 1408) (v : Layers 2048 1408) :
    val_main_v13 (F := Ideal) g0 g1 v = squares g0 g1 v := by
  funext i
  pointwise [val_main_v13, val_main_v12, val_main_v11, val_main_v10, val_main_v9, val_main_v8, val_main_cst_1,
    val_main_cst_2]
  rw [grad_eq]
  rfl

/-- The reference's changes of the parameter. -/
theorem delta_eq (w : Layers 2048 1408) (g0 g1 : Mat 2048 1408) (m v : Layers 2048 1408) :
    val_main_v26 (F := Ideal) w g0 g1 m v = deltas w g0 g1 m v := by
  funext i
  pointwise [val_main_v26, val_main_v25, val_main_v24, val_main_v23, val_main_v22, val_main_v21, val_main_v20,
    val_main_v19, val_main_v18, val_main_v17, val_main_v16, val_main_v15, val_main_v14, val_main_cst_3,
    val_main_cst_4, val_main_cst_5, val_main_cst_6, val_main_cst_7]
  rw [moment_eq, square_eq]
  rfl

end Cert.AdamInRefIdeal.Result

namespace Cert.AdamInIdeal.Result

open Cert.AdamInIdeal Cert.AdamInIdeal.Gen

variable (m : (ℓ : Loc nD τ sig) → Buf (Elt Ideal) ℓ) (c : Dev nD)

/-- The blocks of grid point `t`. -/
theorem index_eq : ∀ t : Fin cfg0.N, win0_0.index t = ![t.val / 8, t.val % 8, 0] ∧ win0_1.index t = ![t.val % 8, 0]
    ∧ win0_2.index t = ![t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] := by decide +kernel

theorem point (t : Fin cfg0.N) : t.val < 16 := lt_of_lt_of_eq t.isLt N_0

/-- The kernel's choice between the layers: the first coordinate of the grid point against zero. -/
theorem choice_eq : ∀ t : Fin cfg0.N, Scalar.cmpi .eq (BitVec.ofNat 32 (grid0.coords t 0).val) 0#32
    = if t.val / 8 = 0 then 1#1 else 0#1 := by decide +kernel

/-- The arguments: the weight, the two layers' gradients, and the moments. -/
abbrev w : Layers 2048 1408 := m ((c : Thread nD τ).loc main_arg0)
abbrev g0 : Mat 2048 1408 := m ((c : Thread nD τ).loc main_arg1)
abbrev g1 : Mat 2048 1408 := m ((c : Thread nD τ).loc main_arg2)
abbrev m1 : Layers 2048 1408 := m ((c : Thread nD τ).loc main_arg3)
abbrev v1 : Layers 2048 1408 := m ((c : Thread nD τ).loc main_arg4)

/-- The layer and the row that row `r` of grid point `t` belongs to. -/
abbrev layer (t : Fin cfg0.N) : Fin 2 := ⟨t.val / 8, by have := point t; omega⟩
abbrev row (t : Fin cfg0.N) (r : Fin 256) : Fin 2048 := ⟨t.val % 8 * 256 + r.val, by omega⟩

theorem emb_grad (t : Fin cfg0.N) (z : Fin 1) (r : Fin 256) (k : Fin 1408) :
    ((View.whole main_v0_0).slice (win0_5.rect t)).emb (ix3 z r k) = ix3 (layer t) (row t r) k := by
  funext a; apply Fin.ext; fin_cases a <;> blk_simp [(index_eq t).2.2.2.2.2.1] <;> first | rfl | omega

theorem emb_delta (t : Fin cfg0.N) (z : Fin 1) (r : Fin 256) (k : Fin 1408) :
    ((View.whole main_v0_1).slice (win0_6.rect t)).emb (ix3 z r k) = ix3 (layer t) (row t r) k := by
  funext a; apply Fin.ext; fin_cases a <;> blk_simp [(index_eq t).2.2.2.2.2.2.1] <;> first | rfl | omega

theorem emb_moment (t : Fin cfg0.N) (z : Fin 1) (r : Fin 256) (k : Fin 1408) :
    ((View.whole main_v0_2).slice (win0_7.rect t)).emb (ix3 z r k) = ix3 (layer t) (row t r) k := by
  funext a; apply Fin.ext; fin_cases a <;> blk_simp [(index_eq t).2.2.2.2.2.2.2.1] <;> first | rfl | omega

theorem emb_square (t : Fin cfg0.N) (z : Fin 1) (r : Fin 256) (k : Fin 1408) :
    ((View.whole main_v0_3).slice (win0_8.rect t)).emb (ix3 z r k) = ix3 (layer t) (row t r) k := by
  funext a; apply Fin.ext; fin_cases a <;> blk_simp [(index_eq t).2.2.2.2.2.2.2.2] <;> first | rfl | omega

theorem w_block (t : Fin cfg0.N) (r : Fin 256) (k : Fin 1408) :
    (iblk m c 0 t (ix3 0 r k) : EReal) = w m c (ix3 (layer t) (row t r) k) := by
  blk_ext! [iblk, V, (index_eq t).1]

theorem m1_block (t : Fin cfg0.N) (r : Fin 256) (k : Fin 1408) :
    (iblk m c 3 t (ix3 0 r k) : EReal) = m1 m c (ix3 (layer t) (row t r) k) := by
  blk_ext! [iblk, V, (index_eq t).2.2.2.1]

theorem v1_block (t : Fin cfg0.N) (r : Fin 256) (k : Fin 1408) :
    (iblk m c 4 t (ix3 0 r k) : EReal) = v1 m c (ix3 (layer t) (row t r) k) := by
  blk_ext! [iblk, V, (index_eq t).2.2.2.2.1]

theorem g0_block (t : Fin cfg0.N) (r : Fin 256) (k : Fin 1408) :
    (iblk m c 1 t (ix2 r k) : EReal) = g0 m c (ix2 (row t r) k) := by
  blk_ext! [iblk, V, (index_eq t).2.1]

theorem g1_block (t : Fin cfg0.N) (r : Fin 256) (k : Fin 1408) :
    (iblk m c 2 t (ix2 r k) : EReal) = g1 m c (ix2 (row t r) k) := by
  blk_ext! [iblk, V, (index_eq t).2.2.1]

/-- A grid point reads its own layer's gradient. -/
theorem chosen {α : Type} (t : Fin cfg0.N) (x y : α) :
    Scalar.select (Scalar.cmpi .eq (BitVec.ofNat 32 (grid0.coords t 0).val) 0#32) x y
      = if (layer t).val = 0 then x else y := by
  rw [choice_eq]
  by_cases h : t.val / 8 = 0
  · rw [if_pos h, if_pos (show (layer t).val = 0 from h)]; rfl
  · rw [if_neg h, if_neg (show ¬ (layer t).val = 0 from h)]; rfl

/-- The stacked gradients the kernel returns. -/
theorem grad_final : (dats m 0 c).arrAt 5 cfg0.N = stack (g0 m c) (g1 m c) := by
  refine (dats m 0 c).arrAt_eq_of_covers 5 _ (by decide +kernel) fun t hf y => ?_
  blk_simp
  rw [after0_5]
  frame_out
  idx_vars y
  rw [emb_grad]
  pointwise [k0_pay5, k0_pay4]
  simp only [g0_block, g1_block, chosen]
  rfl

/-- The changes of the parameter. -/
theorem delta_final : (dats m 0 c).arrAt 6 cfg0.N = deltas (w m c) (g0 m c) (g1 m c) (m1 m c) (v1 m c) := by
  refine (dats m 0 c).arrAt_eq_of_covers 6 _ (by decide +kernel) fun t hf y => ?_
  blk_simp
  rw [after0_6]
  frame_out
  idx_vars y
  rw [emb_delta]
  pointwise [k0_pay1, k0_pay9, k0_pay8, k0_pay7, k0_pay6, k0_pay4]
  simp only [w_block, m1_block, v1_block, g0_block, g1_block, chosen]
  rfl

/-- The new first moments. -/
theorem moment_final : (dats m 0 c).arrAt 7 cfg0.N = moments (g0 m c) (g1 m c) (m1 m c) := by
  refine (dats m 0 c).arrAt_eq_of_covers 7 _ (by decide +kernel) fun t hf y => ?_
  blk_simp
  rw [after0_7]
  frame_out
  idx_vars y
  rw [emb_moment]
  pointwise [k0_pay2, k0_pay7, k0_pay4]
  simp only [m1_block, g0_block, g1_block, chosen]
  rfl

/-- The new second moments. -/
theorem square_final : (dats m 0 c).arrAt 8 cfg0.N = squares (g0 m c) (g1 m c) (v1 m c) := by
  refine (dats m 0 c).arrAt_eq_of_covers 8 _ (by decide +kernel) fun t hf y => ?_
  blk_simp
  rw [after0_8]
  frame_out
  idx_vars y
  rw [emb_square]
  pointwise [k0_pay3, k0_pay8, k0_pay4]
  simp only [v1_block, g0_block, g1_block, chosen]
  rfl

end Cert.AdamInIdeal.Result

namespace Cert.Proof.AdamIn

theorem frame_kernel : Cert.quiescent_AdamIn := fun m ρ _ => Cert.AdamIn.Gen.frame m ρ

theorem frame_ideal : Cert.quiescent_AdamInIdeal := fun m ρ _ => Cert.AdamInIdeal.Gen.frame m ρ

theorem frame_reference : Cert.quiescent_AdamInRefIdeal := fun m ρ _ =>
  (θ_run Cert.AdamInRefIdeal.defs _ _).mono
    (fun r h => ⟨fun c => (h c).2.2.2.2, sem_eq_zero_of_no_sems (by decide) r.2⟩) (Cert.AdamInRefIdeal.Value.run m ρ)

theorem algebraic : Cert.algebraic_AdamInIdeal_AdamInRefIdeal := by
  intro m g m' g' _ hargs
  refine ⟨_, _, _, _, Cert.AdamInIdeal.Value.run_blocks m g, ?_⟩
  refine (θ_run Cert.AdamInRefIdeal.defs _ _).mono (fun r h c => ?_) (Cert.AdamInRefIdeal.Value.run m' g')
  obtain ⟨h0, h1, h2, h3, hr⟩ := h c
  obtain ⟨a0, a1, a2, a3, a4⟩ := hargs c
  refine ⟨h0.trans ?_, h1.trans ?_, h2.trans ?_, h3.trans ?_, hr⟩
  · rw [Cert.AdamInIdeal.Result.grad_final, Cert.AdamInRefIdeal.Read.val_main_v2_eq, a1, a2]
    exact Cert.AdamInRefIdeal.Result.grad_eq _ _
  · rw [Cert.AdamInIdeal.Result.delta_final, Cert.AdamInRefIdeal.Read.val_main_v26_eq, a0, a1, a2, a3, a4]
    exact Cert.AdamInRefIdeal.Result.delta_eq _ _ _ _ _
  · rw [Cert.AdamInIdeal.Result.moment_final, Cert.AdamInRefIdeal.Read.val_main_v7_eq, a1, a2, a3]
    exact Cert.AdamInRefIdeal.Result.moment_eq _ _ _
  · rw [Cert.AdamInIdeal.Result.square_final, Cert.AdamInRefIdeal.Read.val_main_v13_eq, a1, a2, a4]
    exact Cert.AdamInRefIdeal.Result.square_eq _ _ _

end Cert.Proof.AdamIn

end
-- ==== Proof.AdamOutClaim.lean ====
module

public import proofs.«01_k».proof.Defs
public import proofs.«01_k».proof.Proof.Adam
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import Idealize.ShloMosaic.Lib.Pipeline.ValueKit

@[expose] public section

set_option maxRecDepth 16384

noncomputable section

open Idealize.ShloMosaic Idealize.ShloMosaic.TcCoe Idealize.SL.Sem Cert.Products Cert.Adam

namespace Cert.AdamOutRefIdeal.Result

open Cert.AdamOutRefIdeal Cert.AdamOutRefIdeal.Read

/-- The reference's stacked gradients. -/
theorem grad_eq (g0 g1 : Mat 512 2048) : val_main_v2 (F := Ideal) g0 g1 = stack g0 g1 := by
  funext i
  idx_vars i
  pointwise [val_main_v2, val_main_v1, val_main_v0]
  show _ = if i0.val = 0 then g0 (ix2 i1 i2) else g1 (ix2 i1 i2)
  split
  · next h => rw [if_pos (show i0.val = 0 by omega)]
  · next h => rw [if_neg (show ¬ i0.val = 0 by omega)]

/-- The reference's first moments. -/
theorem moment_eq (g0 g1 : Mat 512 2048) (m : Layers 512 2048) :
    val_main_v7 (F := Ideal) g0 g1 m = moments g0 g1 m := by
  funext i
  pointwise [val_main_v7, val_main_v6, val_main_v5, val_main_v4, val_main_v3, val_main_cst, val_main_cst_0]
  rw [grad_eq]
  rfl

/-- The reference's second moments. -/
theorem square_eq (g0 g1 : Mat 512 2048) (v : Layers 512 2048) :
    val_main_v13 (F := Ideal) g0 g1 v = squares g0 g1 v := by
  funext i
  pointwise [val_main_v13, val_main_v12, val_main_v11, val_main_v10, val_main_v9, val_main_v8, val_main_cst_1,
    val_main_cst_2]
  rw [grad_eq]
  rfl

/-- The reference's changes of the parameter. -/
theorem delta_eq (w : Layers 512 2048) (g0 g1 : Mat 512 2048) (m v : Layers 512 2048) :
    val_main_v26 (F := Ideal) w g0 g1 m v = deltas w g0 g1 m v := by
  funext i
  pointwise [val_main_v26, val_main_v25, val_main_v24, val_main_v23, val_main_v22, val_main_v21, val_main_v20,
    val_main_v19, val_main_v18, val_main_v17, val_main_v16, val_main_v15, val_main_v14, val_main_cst_3,
    val_main_cst_4, val_main_cst_5, val_main_cst_6, val_main_cst_7]
  rw [moment_eq, square_eq]
  rfl

end Cert.AdamOutRefIdeal.Result

namespace Cert.AdamOutIdeal.Result

open Cert.AdamOutIdeal Cert.AdamOutIdeal.Gen

variable (m : (ℓ : Loc nD τ sig) → Buf (Elt Ideal) ℓ) (c : Dev nD)

/-- The blocks of grid point `t`. -/
theorem index_eq : ∀ t : Fin cfg0.N, win0_0.index t = ![t.val / 8, t.val % 8, 0] ∧ win0_1.index t = ![t.val % 8, 0]
    ∧ win0_2.index t = ![t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] := by decide +kernel

theorem point (t : Fin cfg0.N) : t.val < 16 := lt_of_lt_of_eq t.isLt N_0

/-- The kernel's choice between the layers: the first coordinate of the grid point against zero. -/
theorem choice_eq : ∀ t : Fin cfg0.N, Scalar.cmpi .eq (BitVec.ofNat 32 (grid0.coords t 0).val) 0#32
    = if t.val / 8 = 0 then 1#1 else 0#1 := by decide +kernel

/-- The arguments: the weight, the two layers' gradients, and the moments. -/
abbrev w : Layers 512 2048 := m ((c : Thread nD τ).loc main_arg0)
abbrev g0 : Mat 512 2048 := m ((c : Thread nD τ).loc main_arg1)
abbrev g1 : Mat 512 2048 := m ((c : Thread nD τ).loc main_arg2)
abbrev m1 : Layers 512 2048 := m ((c : Thread nD τ).loc main_arg3)
abbrev v1 : Layers 512 2048 := m ((c : Thread nD τ).loc main_arg4)

/-- The layer and the row that row `r` of grid point `t` belongs to. -/
abbrev layer (t : Fin cfg0.N) : Fin 2 := ⟨t.val / 8, by have := point t; omega⟩
abbrev row (t : Fin cfg0.N) (r : Fin 64) : Fin 512 := ⟨t.val % 8 * 64 + r.val, by omega⟩

theorem emb_grad (t : Fin cfg0.N) (z : Fin 1) (r : Fin 64) (k : Fin 2048) :
    ((View.whole main_v0_0).slice (win0_5.rect t)).emb (ix3 z r k) = ix3 (layer t) (row t r) k := by
  funext a; apply Fin.ext; fin_cases a <;> blk_simp [(index_eq t).2.2.2.2.2.1] <;> first | rfl | omega

theorem emb_delta (t : Fin cfg0.N) (z : Fin 1) (r : Fin 64) (k : Fin 2048) :
    ((View.whole main_v0_1).slice (win0_6.rect t)).emb (ix3 z r k) = ix3 (layer t) (row t r) k := by
  funext a; apply Fin.ext; fin_cases a <;> blk_simp [(index_eq t).2.2.2.2.2.2.1] <;> first | rfl | omega

theorem emb_moment (t : Fin cfg0.N) (z : Fin 1) (r : Fin 64) (k : Fin 2048) :
    ((View.whole main_v0_2).slice (win0_7.rect t)).emb (ix3 z r k) = ix3 (layer t) (row t r) k := by
  funext a; apply Fin.ext; fin_cases a <;> blk_simp [(index_eq t).2.2.2.2.2.2.2.1] <;> first | rfl | omega

theorem emb_square (t : Fin cfg0.N) (z : Fin 1) (r : Fin 64) (k : Fin 2048) :
    ((View.whole main_v0_3).slice (win0_8.rect t)).emb (ix3 z r k) = ix3 (layer t) (row t r) k := by
  funext a; apply Fin.ext; fin_cases a <;> blk_simp [(index_eq t).2.2.2.2.2.2.2.2] <;> first | rfl | omega

theorem w_block (t : Fin cfg0.N) (r : Fin 64) (k : Fin 2048) :
    (iblk m c 0 t (ix3 0 r k) : EReal) = w m c (ix3 (layer t) (row t r) k) := by
  blk_ext! [iblk, V, (index_eq t).1]

theorem m1_block (t : Fin cfg0.N) (r : Fin 64) (k : Fin 2048) :
    (iblk m c 3 t (ix3 0 r k) : EReal) = m1 m c (ix3 (layer t) (row t r) k) := by
  blk_ext! [iblk, V, (index_eq t).2.2.2.1]

theorem v1_block (t : Fin cfg0.N) (r : Fin 64) (k : Fin 2048) :
    (iblk m c 4 t (ix3 0 r k) : EReal) = v1 m c (ix3 (layer t) (row t r) k) := by
  blk_ext! [iblk, V, (index_eq t).2.2.2.2.1]

theorem g0_block (t : Fin cfg0.N) (r : Fin 64) (k : Fin 2048) :
    (iblk m c 1 t (ix2 r k) : EReal) = g0 m c (ix2 (row t r) k) := by
  blk_ext! [iblk, V, (index_eq t).2.1]

theorem g1_block (t : Fin cfg0.N) (r : Fin 64) (k : Fin 2048) :
    (iblk m c 2 t (ix2 r k) : EReal) = g1 m c (ix2 (row t r) k) := by
  blk_ext! [iblk, V, (index_eq t).2.2.1]

/-- A grid point reads its own layer's gradient. -/
theorem chosen {α : Type} (t : Fin cfg0.N) (x y : α) :
    Scalar.select (Scalar.cmpi .eq (BitVec.ofNat 32 (grid0.coords t 0).val) 0#32) x y
      = if (layer t).val = 0 then x else y := by
  rw [choice_eq]
  by_cases h : t.val / 8 = 0
  · rw [if_pos h, if_pos (show (layer t).val = 0 from h)]; rfl
  · rw [if_neg h, if_neg (show ¬ (layer t).val = 0 from h)]; rfl

/-- The stacked gradients the kernel returns. -/
theorem grad_final : (dats m 0 c).arrAt 5 cfg0.N = stack (g0 m c) (g1 m c) := by
  refine (dats m 0 c).arrAt_eq_of_covers 5 _ (by decide +kernel) fun t hf y => ?_
  blk_simp
  rw [after0_5]
  frame_out
  idx_vars y
  rw [emb_grad]
  pointwise [k0_pay5, k0_pay4]
  simp only [g0_block, g1_block, chosen]
  rfl

/-- The changes of the parameter. -/
theorem delta_final : (dats m 0 c).arrAt 6 cfg0.N = deltas (w m c) (g0 m c) (g1 m c) (m1 m c) (v1 m c) := by
  refine (dats m 0 c).arrAt_eq_of_covers 6 _ (by decide +kernel) fun t hf y => ?_
  blk_simp
  rw [after0_6]
  frame_out
  idx_vars y
  rw [emb_delta]
  pointwise [k0_pay1, k0_pay9, k0_pay8, k0_pay7, k0_pay6, k0_pay4]
  simp only [w_block, m1_block, v1_block, g0_block, g1_block, chosen]
  rfl

/-- The new first moments. -/
theorem moment_final : (dats m 0 c).arrAt 7 cfg0.N = moments (g0 m c) (g1 m c) (m1 m c) := by
  refine (dats m 0 c).arrAt_eq_of_covers 7 _ (by decide +kernel) fun t hf y => ?_
  blk_simp
  rw [after0_7]
  frame_out
  idx_vars y
  rw [emb_moment]
  pointwise [k0_pay2, k0_pay7, k0_pay4]
  simp only [m1_block, g0_block, g1_block, chosen]
  rfl

/-- The new second moments. -/
theorem square_final : (dats m 0 c).arrAt 8 cfg0.N = squares (g0 m c) (g1 m c) (v1 m c) := by
  refine (dats m 0 c).arrAt_eq_of_covers 8 _ (by decide +kernel) fun t hf y => ?_
  blk_simp
  rw [after0_8]
  frame_out
  idx_vars y
  rw [emb_square]
  pointwise [k0_pay3, k0_pay8, k0_pay4]
  simp only [v1_block, g0_block, g1_block, chosen]
  rfl

end Cert.AdamOutIdeal.Result

namespace Cert.Proof.AdamOut

theorem frame_kernel : Cert.quiescent_AdamOut := fun m ρ _ => Cert.AdamOut.Gen.frame m ρ

theorem frame_ideal : Cert.quiescent_AdamOutIdeal := fun m ρ _ => Cert.AdamOutIdeal.Gen.frame m ρ

theorem frame_reference : Cert.quiescent_AdamOutRefIdeal := fun m ρ _ =>
  (θ_run Cert.AdamOutRefIdeal.defs _ _).mono
    (fun r h => ⟨fun c => (h c).2.2.2.2, sem_eq_zero_of_no_sems (by decide) r.2⟩) (Cert.AdamOutRefIdeal.Value.run m ρ)

theorem algebraic : Cert.algebraic_AdamOutIdeal_AdamOutRefIdeal := by
  intro m g m' g' _ hargs
  refine ⟨_, _, _, _, Cert.AdamOutIdeal.Value.run_blocks m g, ?_⟩
  refine (θ_run Cert.AdamOutRefIdeal.defs _ _).mono (fun r h c => ?_) (Cert.AdamOutRefIdeal.Value.run m' g')
  obtain ⟨h0, h1, h2, h3, hr⟩ := h c
  obtain ⟨a0, a1, a2, a3, a4⟩ := hargs c
  refine ⟨h0.trans ?_, h1.trans ?_, h2.trans ?_, h3.trans ?_, hr⟩
  · rw [Cert.AdamOutIdeal.Result.grad_final, Cert.AdamOutRefIdeal.Read.val_main_v2_eq, a1, a2]
    exact Cert.AdamOutRefIdeal.Result.grad_eq _ _
  · rw [Cert.AdamOutIdeal.Result.delta_final, Cert.AdamOutRefIdeal.Read.val_main_v26_eq, a0, a1, a2, a3, a4]
    exact Cert.AdamOutRefIdeal.Result.delta_eq _ _ _ _ _
  · rw [Cert.AdamOutIdeal.Result.moment_final, Cert.AdamOutRefIdeal.Read.val_main_v7_eq, a1, a2, a3]
    exact Cert.AdamOutRefIdeal.Result.moment_eq _ _ _
  · rw [Cert.AdamOutIdeal.Result.square_final, Cert.AdamOutRefIdeal.Read.val_main_v13_eq, a1, a2, a4]
    exact Cert.AdamOutRefIdeal.Result.square_eq _ _ _

end Cert.Proof.AdamOut

end
-- ==== Proof.AdamDownClaim.lean ====
module

public import proofs.«01_k».proof.Defs
public import proofs.«01_k».proof.Proof.Adam
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import Idealize.ShloMosaic.Lib.Pipeline.ValueKit

@[expose] public section

set_option maxRecDepth 16384

noncomputable section

open Idealize.ShloMosaic Idealize.ShloMosaic.TcCoe Idealize.SL.Sem Cert.Products Cert.Adam

namespace Cert.AdamDownRefIdeal.Result

open Cert.AdamDownRefIdeal Cert.AdamDownRefIdeal.Read

/-- The reference's stacked gradients. -/
theorem grad_eq (g0 g1 : Mat 1408 2048) : val_main_v2 (F := Ideal) g0 g1 = stack g0 g1 := by
  funext i
  idx_vars i
  pointwise [val_main_v2, val_main_v1, val_main_v0]
  show _ = if i0.val = 0 then g0 (ix2 i1 i2) else g1 (ix2 i1 i2)
  split
  · next h => rw [if_pos (show i0.val = 0 by omega)]
  · next h => rw [if_neg (show ¬ i0.val = 0 by omega)]

/-- The reference's first moments. -/
theorem moment_eq (g0 g1 : Mat 1408 2048) (m : Layers 1408 2048) :
    val_main_v7 (F := Ideal) g0 g1 m = moments g0 g1 m := by
  funext i
  pointwise [val_main_v7, val_main_v6, val_main_v5, val_main_v4, val_main_v3, val_main_cst, val_main_cst_0]
  rw [grad_eq]
  rfl

/-- The reference's second moments. -/
theorem square_eq (g0 g1 : Mat 1408 2048) (v : Layers 1408 2048) :
    val_main_v13 (F := Ideal) g0 g1 v = squares g0 g1 v := by
  funext i
  pointwise [val_main_v13, val_main_v12, val_main_v11, val_main_v10, val_main_v9, val_main_v8, val_main_cst_1,
    val_main_cst_2]
  rw [grad_eq]
  rfl

/-- The reference's changes of the parameter. -/
theorem delta_eq (w : Layers 1408 2048) (g0 g1 : Mat 1408 2048) (m v : Layers 1408 2048) :
    val_main_v26 (F := Ideal) w g0 g1 m v = deltas w g0 g1 m v := by
  funext i
  pointwise [val_main_v26, val_main_v25, val_main_v24, val_main_v23, val_main_v22, val_main_v21, val_main_v20,
    val_main_v19, val_main_v18, val_main_v17, val_main_v16, val_main_v15, val_main_v14, val_main_cst_3,
    val_main_cst_4, val_main_cst_5, val_main_cst_6, val_main_cst_7]
  rw [moment_eq, square_eq]
  rfl

end Cert.AdamDownRefIdeal.Result

namespace Cert.AdamDownIdeal.Result

open Cert.AdamDownIdeal Cert.AdamDownIdeal.Gen

variable (m : (ℓ : Loc nD τ sig) → Buf (Elt Ideal) ℓ) (c : Dev nD)

/-- The blocks of grid point `t`. -/
theorem index_eq : ∀ t : Fin cfg0.N, win0_0.index t = ![t.val / 8, t.val % 8, 0] ∧ win0_1.index t = ![t.val % 8, 0]
    ∧ win0_2.index t = ![t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] := by decide +kernel

theorem point (t : Fin cfg0.N) : t.val < 16 := lt_of_lt_of_eq t.isLt N_0

/-- The kernel's choice between the layers: the first coordinate of the grid point against zero. -/
theorem choice_eq : ∀ t : Fin cfg0.N, Scalar.cmpi .eq (BitVec.ofNat 32 (grid0.coords t 0).val) 0#32
    = if t.val / 8 = 0 then 1#1 else 0#1 := by decide +kernel

/-- The arguments: the weight, the two layers' gradients, and the moments. -/
abbrev w : Layers 1408 2048 := m ((c : Thread nD τ).loc main_arg0)
abbrev g0 : Mat 1408 2048 := m ((c : Thread nD τ).loc main_arg1)
abbrev g1 : Mat 1408 2048 := m ((c : Thread nD τ).loc main_arg2)
abbrev m1 : Layers 1408 2048 := m ((c : Thread nD τ).loc main_arg3)
abbrev v1 : Layers 1408 2048 := m ((c : Thread nD τ).loc main_arg4)

/-- The layer and the row that row `r` of grid point `t` belongs to. -/
abbrev layer (t : Fin cfg0.N) : Fin 2 := ⟨t.val / 8, by have := point t; omega⟩
abbrev row (t : Fin cfg0.N) (r : Fin 176) : Fin 1408 := ⟨t.val % 8 * 176 + r.val, by omega⟩

theorem emb_grad (t : Fin cfg0.N) (z : Fin 1) (r : Fin 176) (k : Fin 2048) :
    ((View.whole main_v0_0).slice (win0_5.rect t)).emb (ix3 z r k) = ix3 (layer t) (row t r) k := by
  funext a; apply Fin.ext; fin_cases a <;> blk_simp [(index_eq t).2.2.2.2.2.1] <;> first | rfl | omega

theorem emb_delta (t : Fin cfg0.N) (z : Fin 1) (r : Fin 176) (k : Fin 2048) :
    ((View.whole main_v0_1).slice (win0_6.rect t)).emb (ix3 z r k) = ix3 (layer t) (row t r) k := by
  funext a; apply Fin.ext; fin_cases a <;> blk_simp [(index_eq t).2.2.2.2.2.2.1] <;> first | rfl | omega

theorem emb_moment (t : Fin cfg0.N) (z : Fin 1) (r : Fin 176) (k : Fin 2048) :
    ((View.whole main_v0_2).slice (win0_7.rect t)).emb (ix3 z r k) = ix3 (layer t) (row t r) k := by
  funext a; apply Fin.ext; fin_cases a <;> blk_simp [(index_eq t).2.2.2.2.2.2.2.1] <;> first | rfl | omega

theorem emb_square (t : Fin cfg0.N) (z : Fin 1) (r : Fin 176) (k : Fin 2048) :
    ((View.whole main_v0_3).slice (win0_8.rect t)).emb (ix3 z r k) = ix3 (layer t) (row t r) k := by
  funext a; apply Fin.ext; fin_cases a <;> blk_simp [(index_eq t).2.2.2.2.2.2.2.2] <;> first | rfl | omega

theorem w_block (t : Fin cfg0.N) (r : Fin 176) (k : Fin 2048) :
    (iblk m c 0 t (ix3 0 r k) : EReal) = w m c (ix3 (layer t) (row t r) k) := by
  blk_ext! [iblk, V, (index_eq t).1]

theorem m1_block (t : Fin cfg0.N) (r : Fin 176) (k : Fin 2048) :
    (iblk m c 3 t (ix3 0 r k) : EReal) = m1 m c (ix3 (layer t) (row t r) k) := by
  blk_ext! [iblk, V, (index_eq t).2.2.2.1]

theorem v1_block (t : Fin cfg0.N) (r : Fin 176) (k : Fin 2048) :
    (iblk m c 4 t (ix3 0 r k) : EReal) = v1 m c (ix3 (layer t) (row t r) k) := by
  blk_ext! [iblk, V, (index_eq t).2.2.2.2.1]

theorem g0_block (t : Fin cfg0.N) (r : Fin 176) (k : Fin 2048) :
    (iblk m c 1 t (ix2 r k) : EReal) = g0 m c (ix2 (row t r) k) := by
  blk_ext! [iblk, V, (index_eq t).2.1]

theorem g1_block (t : Fin cfg0.N) (r : Fin 176) (k : Fin 2048) :
    (iblk m c 2 t (ix2 r k) : EReal) = g1 m c (ix2 (row t r) k) := by
  blk_ext! [iblk, V, (index_eq t).2.2.1]

/-- A grid point reads its own layer's gradient. -/
theorem chosen {α : Type} (t : Fin cfg0.N) (x y : α) :
    Scalar.select (Scalar.cmpi .eq (BitVec.ofNat 32 (grid0.coords t 0).val) 0#32) x y
      = if (layer t).val = 0 then x else y := by
  rw [choice_eq]
  by_cases h : t.val / 8 = 0
  · rw [if_pos h, if_pos (show (layer t).val = 0 from h)]; rfl
  · rw [if_neg h, if_neg (show ¬ (layer t).val = 0 from h)]; rfl

/-- The stacked gradients the kernel returns. -/
theorem grad_final : (dats m 0 c).arrAt 5 cfg0.N = stack (g0 m c) (g1 m c) := by
  refine (dats m 0 c).arrAt_eq_of_covers 5 _ (by decide +kernel) fun t hf y => ?_
  blk_simp
  rw [after0_5]
  frame_out
  idx_vars y
  rw [emb_grad]
  pointwise [k0_pay5, k0_pay4]
  simp only [g0_block, g1_block, chosen]
  rfl

/-- The changes of the parameter. -/
theorem delta_final : (dats m 0 c).arrAt 6 cfg0.N = deltas (w m c) (g0 m c) (g1 m c) (m1 m c) (v1 m c) := by
  refine (dats m 0 c).arrAt_eq_of_covers 6 _ (by decide +kernel) fun t hf y => ?_
  blk_simp
  rw [after0_6]
  frame_out
  idx_vars y
  rw [emb_delta]
  pointwise [k0_pay1, k0_pay9, k0_pay8, k0_pay7, k0_pay6, k0_pay4]
  simp only [w_block, m1_block, v1_block, g0_block, g1_block, chosen]
  rfl

/-- The new first moments. -/
theorem moment_final : (dats m 0 c).arrAt 7 cfg0.N = moments (g0 m c) (g1 m c) (m1 m c) := by
  refine (dats m 0 c).arrAt_eq_of_covers 7 _ (by decide +kernel) fun t hf y => ?_
  blk_simp
  rw [after0_7]
  frame_out
  idx_vars y
  rw [emb_moment]
  pointwise [k0_pay2, k0_pay7, k0_pay4]
  simp only [m1_block, g0_block, g1_block, chosen]
  rfl

/-- The new second moments. -/
theorem square_final : (dats m 0 c).arrAt 8 cfg0.N = squares (g0 m c) (g1 m c) (v1 m c) := by
  refine (dats m 0 c).arrAt_eq_of_covers 8 _ (by decide +kernel) fun t hf y => ?_
  blk_simp
  rw [after0_8]
  frame_out
  idx_vars y
  rw [emb_square]
  pointwise [k0_pay3, k0_pay8, k0_pay4]
  simp only [v1_block, g0_block, g1_block, chosen]
  rfl

end Cert.AdamDownIdeal.Result

namespace Cert.Proof.AdamDown

theorem frame_kernel : Cert.quiescent_AdamDown := fun m ρ _ => Cert.AdamDown.Gen.frame m ρ

theorem frame_ideal : Cert.quiescent_AdamDownIdeal := fun m ρ _ => Cert.AdamDownIdeal.Gen.frame m ρ

theorem frame_reference : Cert.quiescent_AdamDownRefIdeal := fun m ρ _ =>
  (θ_run Cert.AdamDownRefIdeal.defs _ _).mono
    (fun r h => ⟨fun c => (h c).2.2.2.2, sem_eq_zero_of_no_sems (by decide) r.2⟩) (Cert.AdamDownRefIdeal.Value.run m ρ)

theorem algebraic : Cert.algebraic_AdamDownIdeal_AdamDownRefIdeal := by
  intro m g m' g' _ hargs
  refine ⟨_, _, _, _, Cert.AdamDownIdeal.Value.run_blocks m g, ?_⟩
  refine (θ_run Cert.AdamDownRefIdeal.defs _ _).mono (fun r h c => ?_) (Cert.AdamDownRefIdeal.Value.run m' g')
  obtain ⟨h0, h1, h2, h3, hr⟩ := h c
  obtain ⟨a0, a1, a2, a3, a4⟩ := hargs c
  refine ⟨h0.trans ?_, h1.trans ?_, h2.trans ?_, h3.trans ?_, hr⟩
  · rw [Cert.AdamDownIdeal.Result.grad_final, Cert.AdamDownRefIdeal.Read.val_main_v2_eq, a1, a2]
    exact Cert.AdamDownRefIdeal.Result.grad_eq _ _
  · rw [Cert.AdamDownIdeal.Result.delta_final, Cert.AdamDownRefIdeal.Read.val_main_v26_eq, a0, a1, a2, a3, a4]
    exact Cert.AdamDownRefIdeal.Result.delta_eq _ _ _ _ _
  · rw [Cert.AdamDownIdeal.Result.moment_final, Cert.AdamDownRefIdeal.Read.val_main_v7_eq, a1, a2, a3]
    exact Cert.AdamDownRefIdeal.Result.moment_eq _ _ _
  · rw [Cert.AdamDownIdeal.Result.square_final, Cert.AdamDownRefIdeal.Read.val_main_v13_eq, a1, a2, a4]
    exact Cert.AdamDownRefIdeal.Result.square_eq _ _ _

end Cert.Proof.AdamDown

end
-- ==== Proof.AdamSmallClaim.lean ====
module

public import proofs.«01_k».proof.Defs
public import proofs.«01_k».proof.Proof.Adam
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import Idealize.ShloMosaic.Lib.Pipeline.ValueKit

@[expose] public section

set_option maxRecDepth 16384

noncomputable section

open Idealize.ShloMosaic Idealize.ShloMosaic.TcCoe Idealize.SL.Sem Cert.Products Cert.Adam

/-! # The AdamW update of the small parameters

All small parameters lie packed in one array, and one grid point updates it whole. -/

namespace Cert.AdamSmallRefIdeal.Result

open Cert.AdamSmallRefIdeal Cert.AdamSmallRefIdeal.Read

/-- The reference's first moments, at an index. -/
theorem moment_eq (g m : Mat 296 128) (i : (⟨2, ![296, 128]⟩ : Shape).Idx) :
    val_main_v4 (F := Ideal) g m i = moment (g i) (m i) := by
  pointwise [val_main_v4, val_main_v3, val_main_v2, val_main_v1, val_main_v0, val_main_cst, val_main_cst_0]
  rfl

/-- The reference's second moments, at an index. -/
theorem square_eq (g v : Mat 296 128) (i : (⟨2, ![296, 128]⟩ : Shape).Idx) :
    val_main_v10 (F := Ideal) g v i = square (g i) (v i) := by
  pointwise [val_main_v10, val_main_v9, val_main_v8, val_main_v7, val_main_v6, val_main_v5, val_main_cst_1, val_main_cst_2]
  rfl

/-- The reference's changes, at an index. -/
theorem delta_eq (w g m v : Mat 296 128) (i : (⟨2, ![296, 128]⟩ : Shape).Idx) :
    val_main_v23 (F := Ideal) w g m v i = delta (w i) (g i) (m i) (v i) := by
  pointwise [val_main_v23, val_main_v22, val_main_v21, val_main_v20, val_main_v19, val_main_v18, val_main_v17,
    val_main_v16, val_main_v15, val_main_v14, val_main_v13, val_main_v12, val_main_v11, val_main_cst_3,
    val_main_cst_4, val_main_cst_5, val_main_cst_6, val_main_cst_7]
  rw [moment_eq, square_eq]
  rfl

end Cert.AdamSmallRefIdeal.Result

namespace Cert.AdamSmallIdeal.Result

open Cert.AdamSmallIdeal Cert.AdamSmallIdeal.Gen

variable (m : (ℓ : Loc nD τ sig) → Buf (Elt Ideal) ℓ) (c : Dev nD)

/-- Every window is its whole array. -/
theorem index_eq : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- The packed weights, gradients, first and second moments. -/
abbrev w : Mat 296 128 := m ((c : Thread nD τ).loc main_arg0)
abbrev g : Mat 296 128 := m ((c : Thread nD τ).loc main_arg1)
abbrev m1 : Mat 296 128 := m ((c : Thread nD τ).loc main_arg2)
abbrev v1 : Mat 296 128 := m ((c : Thread nD τ).loc main_arg3)

theorem w_block (t : Fin cfg0.N) (r : Fin 296) (k : Fin 128) : (iblk m c 0 t (ix2 r k) : EReal) = w m c (ix2 r k) := by
  blk_ext! [iblk, V, (index_eq t).1]

theorem g_block (t : Fin cfg0.N) (r : Fin 296) (k : Fin 128) : (iblk m c 1 t (ix2 r k) : EReal) = g m c (ix2 r k) := by
  blk_ext! [iblk, V, (index_eq t).2.1]

theorem m1_block (t : Fin cfg0.N) (r : Fin 296) (k : Fin 128) : (iblk m c 2 t (ix2 r k) : EReal) = m1 m c (ix2 r k) := by
  blk_ext! [iblk, V, (index_eq t).2.2.1]

theorem v1_block (t : Fin cfg0.N) (r : Fin 296) (k : Fin 128) : (iblk m c 3 t (ix2 r k) : EReal) = v1 m c (ix2 r k) := by
  blk_ext! [iblk, V, (index_eq t).2.2.2.1]

theorem delta_final : (dats m 0 c).arrAt 4 cfg0.N = fun i => delta (w m c i) (g m c i) (m1 m c i) (v1 m c i) := by
  refine (dats m 0 c).arrAt_eq_of_covers 4 _ (by decide +kernel) fun t hf y => ?_
  blk_simp
  rw [after0_4]
  frame_out
  idx_vars y
  rw [show ((View.whole main_v0_0).slice (win0_4.rect t)).emb (ix2 y0 y1) = ix2 y0 y1 by
    funext a; apply Fin.ext; fin_cases a <;> blk_simp [(index_eq t).2.2.2.2.1] <;> rfl]
  pointwise [k0_pay3, k0_pay2, k0_pay1]
  simp only [w_block, g_block, m1_block, v1_block]
  rfl

theorem moment_final : (dats m 0 c).arrAt 5 cfg0.N = fun i => moment (g m c i) (m1 m c i) := by
  refine (dats m 0 c).arrAt_eq_of_covers 5 _ (by decide +kernel) fun t hf y => ?_
  blk_simp
  rw [after0_5]
  frame_out
  idx_vars y
  rw [show ((View.whole main_v0_1).slice (win0_5.rect t)).emb (ix2 y0 y1) = ix2 y0 y1 by
    funext a; apply Fin.ext; fin_cases a <;> blk_simp [(index_eq t).2.2.2.2.2.1] <;> rfl]
  pointwise [k0_pay3, k0_pay2, k0_pay1]
  simp only [w_block, g_block, m1_block, v1_block]
  rfl

theorem square_final : (dats m 0 c).arrAt 6 cfg0.N = fun i => square (g m c i) (v1 m c i) := by
  refine (dats m 0 c).arrAt_eq_of_covers 6 _ (by decide +kernel) fun t hf y => ?_
  blk_simp
  rw [after0_6]
  frame_out
  idx_vars y
  rw [show ((View.whole main_v0_2).slice (win0_6.rect t)).emb (ix2 y0 y1) = ix2 y0 y1 by
    funext a; apply Fin.ext; fin_cases a <;> blk_simp [(index_eq t).2.2.2.2.2.2] <;> rfl]
  pointwise [k0_pay3, k0_pay2, k0_pay1]
  simp only [w_block, g_block, m1_block, v1_block]
  rfl

end Cert.AdamSmallIdeal.Result

namespace Cert.Proof.AdamSmall

theorem frame_kernel : Cert.quiescent_AdamSmall := fun m ρ _ => Cert.AdamSmall.Gen.frame m ρ

theorem frame_ideal : Cert.quiescent_AdamSmallIdeal := fun m ρ _ => Cert.AdamSmallIdeal.Gen.frame m ρ

theorem frame_reference : Cert.quiescent_AdamSmallRefIdeal := fun m ρ _ =>
  (θ_run Cert.AdamSmallRefIdeal.defs _ _).mono
    (fun r h => ⟨fun c => (h c).2.2.2, sem_eq_zero_of_no_sems (by decide) r.2⟩) (Cert.AdamSmallRefIdeal.Value.run m ρ)

theorem algebraic : Cert.algebraic_AdamSmallIdeal_AdamSmallRefIdeal := by
  intro m g m' g' _ hargs
  refine ⟨_, _, _, Cert.AdamSmallIdeal.Value.run_blocks m g, ?_⟩
  refine (θ_run Cert.AdamSmallRefIdeal.defs _ _).mono (fun r h c => ?_) (Cert.AdamSmallRefIdeal.Value.run m' g')
  obtain ⟨h0, h1, h2, hr⟩ := h c
  obtain ⟨a0, a1, a2, a3⟩ := hargs c
  refine ⟨h0.trans ?_, h1.trans ?_, h2.trans ?_, hr⟩
  · rw [Cert.AdamSmallIdeal.Result.delta_final, Cert.AdamSmallRefIdeal.Read.val_main_v23_eq, a0, a1, a2, a3]
    exact funext fun i => Cert.AdamSmallRefIdeal.Result.delta_eq _ _ _ _ i
  · rw [Cert.AdamSmallIdeal.Result.moment_final, Cert.AdamSmallRefIdeal.Read.val_main_v4_eq, a1, a2]
    exact funext fun i => Cert.AdamSmallRefIdeal.Result.moment_eq _ _ i
  · rw [Cert.AdamSmallIdeal.Result.square_final, Cert.AdamSmallRefIdeal.Read.val_main_v10_eq, a1, a3]
    exact funext fun i => Cert.AdamSmallRefIdeal.Result.square_eq _ _ i

end Cert.Proof.AdamSmall

end
-- ==== Proof.SumSmallClaim.lean ====
module

public import proofs.«01_k».proof.Defs
public import proofs.«01_k».proof.Proof.Products
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import Idealize.ShloMosaic.Lib.Pipeline.ValueKit

@[expose] public section

set_option maxRecDepth 16384

noncomputable section

open Idealize.ShloMosaic Idealize.ShloMosaic.TcCoe Idealize.SL.Sem Cert.Products

/-! # The sum of the packed small gradients over the devices -/

namespace Cert.SumSmallIdeal.Result

open Cert.SumSmallIdeal Cert.SumSmallIdeal.Gen

variable (m : (ℓ : Loc nD τ sig) → Buf (Elt Ideal) ℓ) (c : Dev nD)

/-- Both windows are their whole arrays. -/
theorem index_eq : ∀ t : Fin cfg0.N, win0_0.index t = ![0, 0, 0] ∧ win0_1.index t = ![0, 0] := by decide +kernel

/-- The eight devices' packed gradients. -/
abbrev x : (⟨3, ![8, 496, 128]⟩ : Shape).Idx → EReal := m ((c : Thread nD τ).loc main_arg0)

theorem block (t : Fin cfg0.N) (d : Fin 8) (r : Fin 496) (k : Fin 128) :
    (iblk m c 0 t (ix3 d r k) : EReal) = x m c (ix3 d r k) := by
  blk_ext! [iblk, V, (index_eq t).1]

theorem final : (dats m 0 c).arrAt 1 cfg0.N = fun i => ∑ d : Fin 8, x m c (ix3 d (i 0) (i 1)) := by
  refine (dats m 0 c).arrAt_eq_of_covers 1 _ (by decide +kernel) fun t hf y => ?_
  blk_simp
  rw [after0_1]
  frame_out
  idx_vars y
  rw [show ((View.whole main_v0).slice (win0_1.rect t)).emb (ix2 y0 y1) = ix2 y0 y1 by
    funext a; apply Fin.ext; fin_cases a <;> blk_simp [(index_eq t).2] <;> rfl]
  pointwise [k0_pay1]
  rw [Fin.sum_univ_eight]
  simp only [block]

end Cert.SumSmallIdeal.Result

namespace Cert.Proof.SumSmall

theorem frame_kernel : Cert.quiescent_SumSmall := fun m ρ _ => Cert.SumSmall.Gen.frame m ρ

theorem frame_ideal : Cert.quiescent_SumSmallIdeal := fun m ρ _ => Cert.SumSmallIdeal.Gen.frame m ρ

theorem frame_reference : Cert.quiescent_SumSmallRefIdeal := fun m ρ _ =>
  (θ_run Cert.SumSmallRefIdeal.defs _ _).mono
    (fun r h => ⟨fun c => (h c).2, sem_eq_zero_of_no_sems (by decide) r.2⟩) (Cert.SumSmallRefIdeal.Value.run m ρ)

theorem algebraic : Cert.algebraic_SumSmallIdeal_SumSmallRefIdeal := by
  intro m g m' g' _ hargs
  refine ⟨_, Cert.SumSmallIdeal.Value.run_blocks m g, ?_⟩
  refine (θ_run Cert.SumSmallRefIdeal.defs _ _).mono (fun r h c => ⟨(h c).1.trans ?_, (h c).2⟩)
    (Cert.SumSmallRefIdeal.Value.run m' g')
  rw [Cert.SumSmallIdeal.Result.final, Cert.SumSmallRefIdeal.Read.val_main_v0_eq, hargs c]
  funext i
  idx_vars i
  pointwise [Cert.SumSmallRefIdeal.Read.val_main_v0, Cert.SumSmallRefIdeal.Read.val_main_cst]

end Cert.Proof.SumSmall

end
-- ==== Proof.ConvGateClaim.lean ====
module

public import proofs.«01_k».proof.Defs
public import proofs.«01_k».proof.Proof.ConvColumn
public import proofs.«01_k».proof.Proof.Gen.ConvGate
public import proofs.«01_k».proof.Proof.Gen.ConvGate.Frame
public import proofs.«01_k».proof.Proof.Gen.ConvGateIdeal
public import proofs.«01_k».proof.Proof.Gen.ConvGateIdeal.Frame
public import proofs.«01_k».proof.Proof.Gen.ConvGateIdeal.Value
public import proofs.«01_k».proof.Proof.Gen.ConvGateRefIdeal
public import proofs.«01_k».proof.Proof.Gen.ConvGateRefIdeal.Run
public import proofs.«01_k».proof.Proof.Gen.ConvGateRefIdeal.Read
public import Idealize.ShloMosaic.Lib.Pipeline.ValueKit

@[expose] public section

set_option maxRecDepth 16384

noncomputable section

open Idealize.ShloMosaic Idealize.ShloMosaic.TcCoe Idealize.SL.Sem Cert.ConvColumn

/-! # The convolution and the gate of the forward pass

The gated value is `conv · logistic conv · u`. As a function it is the gradient with respect to `u` that
`ConvColumn.lean` names, with `u` in the place of the incoming gradient, so that its name serves here too. -/

namespace Cert.ConvGateRefIdeal.Result

open Cert.ConvGateRefIdeal Cert.ConvGateRefIdeal.Read

variable (g u : (⟨S2048x5632, .bf16⟩ : BufTy).Contents (Elt Ideal)) (w : (⟨S3x5632, .f32⟩ : BufTy).Contents (Elt Ideal))
  (b : (⟨S5632, .f32⟩ : BufTy).Contents (Elt Ideal))

/-- The reference's convolution. -/
theorem conv_apply (r : Fin 2048) (j : Fin 5632) :
    val_main_v26 g w b (ix2 r j) = conv (w (ix2 0 j)) (w (ix2 1 j)) (w (ix2 2 j)) (b (ix1 j)) (col g j) r := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst]
  have e1 : (if h : 1 + r.val < 2 then (0 : EReal) else g (ix2 ⟨1 + r.val - 2, by omega⟩ j)) = earlier 1 (col g j) r := by
    unfold earlier
    by_cases h : 1 + r.val < 2
    · rw [dif_pos h, if_neg (by omega)]
    · rw [dif_neg h, if_pos (by omega)]; congr 2; apply Fin.ext; show 1 + r.val - 2 = r.val - 1; omega
  have e2 : (if h : r.val < 2 then (0 : EReal) else g (ix2 ⟨r.val - 2, by omega⟩ j)) = earlier 2 (col g j) r := by
    unfold earlier
    by_cases h : r.val < 2
    · rw [dif_pos h, if_neg (by omega)]
    · rw [dif_neg h, if_pos (by omega)]
  rw [e1, e2]
  unfold conv
  rw [add_right_comm _ _ (w (ix2 2 j) * _), add_right_comm (b (ix1 j)) _ (w (ix2 2 j) * _), add_right_comm]

/-- The reference's gated value. -/
theorem gated_eq : val_main_v29 g u w b = upGrads g u w b := by
  funext i
  idx_vars i
  show val_main_v29 g u w b (ix2 _ _) = upGrad _ _ _ _ _ _ _
  pointwise [val_main_v29, val_main_v28, val_main_v27, val_main_call0_v5, val_main_call0_v4, val_main_call0_cst_0,
    val_main_call0_v3, val_main_call0_v2, val_main_call0_cst, val_main_call0_v1, val_main_call0_v0, val_main_v1]
  rw [conv_apply]
  rfl

end Cert.ConvGateRefIdeal.Result

namespace Cert.ConvGateIdeal.Result

open Cert.ConvGateIdeal Cert.ConvGateIdeal.Gen

section Payloads

variable (x0 x1 : Vec Ideal S2048x512 .bf16) (b w2 w1 w0 : Vec Ideal S1x512 .f32)

/-- The gated value of a block. -/
theorem gated_apply (r : Fin 2048) (q : Fin 512) :
    k0_pay1 (k0_pay2 x0 b w2 w1 w0) (k0_pay3 x1) (ix2 r q)
      = upGrad (w0 (ix2 0 q)) (w1 (ix2 0 q)) (w2 (ix2 0 q)) (b (ix2 0 q)) (col x0 q) (col x1 q) r := by
  unfold upGrad
  rw [← half_tanh_half, ← half_f32]
  pointwise [k0_pay1, k0_pay2, k0_pay3]
  rw [select_mul_rotate_earlier 1 (by omega) (w1 (ix2 0 q)) (col x0 q) r,
    select_mul_rotate_earlier 2 (by omega) (w0 (ix2 0 q)) (col x0 q) r]
  rfl

end Payloads

variable (m : (ℓ : Loc nD τ sig) → Buf (Elt Ideal) ℓ) (c : Dev nD)

/-- Grid point `t` holds channels `512 t` to `512 t + 511` of every array. -/
theorem index_eq : ∀ t : Fin cfg0.N, win0_0.index t = ![0, t.val] ∧ win0_1.index t = ![0, t.val]
    ∧ win0_2.index t = ![0, t.val] ∧ win0_3.index t = ![0, t.val] ∧ win0_4.index t = ![0, t.val] := by decide +kernel

/-- Channel `q` of grid point `t`, in the whole arrays. -/
abbrev chan (t : Fin cfg0.N) (q : Fin 512) : Fin 5632 :=
  ⟨t.val * 512 + q.val, by have := t.isLt; have : cfg0.N = 11 := N_0; have := q.isLt; omega⟩

abbrev gArg : S2048x5632.Idx → EReal := m ((c : Thread nD τ).loc main_arg0)
abbrev uArg : S2048x5632.Idx → EReal := m ((c : Thread nD τ).loc main_arg1)
abbrev wArg : S3x5632.Idx → EReal := m ((c : Thread nD τ).loc main_arg2)
abbrev bArg : S5632.Idx → EReal := m ((c : Thread nD τ).loc main_arg3)

theorem g_block (t : Fin cfg0.N) (q : Fin 512) :
    col (iblk m c 0 t : Vec Ideal S2048x512 .bf16) q = col (gArg m c) (chan t q) := by
  funext r
  show iblk m c 0 t (ix2 r q) = m ((c : Thread nD τ).loc main_arg0) (ix2 r (chan t q))
  blk_ext! [iblk, V, (index_eq t).1]

theorem u_block (t : Fin cfg0.N) (q : Fin 512) :
    col (iblk m c 1 t : Vec Ideal S2048x512 .bf16) q = col (uArg m c) (chan t q) := by
  funext r
  show iblk m c 1 t (ix2 r q) = m ((c : Thread nD τ).loc main_arg1) (ix2 r (chan t q))
  blk_ext! [iblk, V, (index_eq t).2.1]

theorem w_block (t : Fin cfg0.N) (k : Fin 3) (q : Fin 512) :
    (iblk m c 2 t (ix2 k q) : EReal) = wArg m c (ix2 k (chan t q)) := by
  blk_ext! [iblk, V, (index_eq t).2.2.1]

theorem b_block (t : Fin cfg0.N) (z : Fin 1) (q : Fin 512) :
    (iblk m c 3 t (ix2 z q) : EReal) = bArg m c (ix1 (chan t q)) := by
  blk_simp [iblk]
  entry_read
  pointwise
  blk_ext [(index_eq t).2.2.2.1]

theorem final : (dats m 0 c).arrAt 4 cfg0.N = upGrads (gArg m c) (uArg m c) (wArg m c) (bArg m c) := by
  refine (dats m 0 c).arrAt_eq_of_covers 4 _ (by decide +kernel) fun t hf y => ?_
  blk_simp
  rw [after0_4]
  frame_out
  idx_vars y
  rw [show ((View.whole main_v1).slice (win0_4.rect t)).emb (ix2 y0 y1) = ix2 y0 (chan t y1) by
    funext a; apply Fin.ext; fin_cases a <;> blk_simp [(index_eq t).2.2.2.2] <;> rfl]
  rw [gated_apply]
  pointwise
  rw [g_block, u_block, b_block]
  simp only [w_block]
  rfl

end Cert.ConvGateIdeal.Result

namespace Cert.Proof.ConvGate

theorem frame_kernel : Cert.quiescent_ConvGate := fun m ρ _ => Cert.ConvGate.Gen.frame m ρ

theorem frame_ideal : Cert.quiescent_ConvGateIdeal := fun m ρ _ => Cert.ConvGateIdeal.Gen.frame m ρ

theorem frame_reference : Cert.quiescent_ConvGateRefIdeal := fun m ρ _ =>
  (θ_run Cert.ConvGateRefIdeal.defs _ _).mono
    (fun r h => ⟨fun c => (h c).2, sem_eq_zero_of_no_sems (by decide) r.2⟩) (Cert.ConvGateRefIdeal.Value.run m ρ)

theorem algebraic : Cert.algebraic_ConvGateIdeal_ConvGateRefIdeal := by
  intro m g m' g' _ hargs
  refine ⟨_, Cert.ConvGateIdeal.Value.run_blocks m g, ?_⟩
  refine (θ_run Cert.ConvGateRefIdeal.defs _ _).mono (fun r h c => ⟨(h c).1.trans ?_, (h c).2⟩)
    (Cert.ConvGateRefIdeal.Value.run m' g')
  obtain ⟨a0, a1, a2, a3⟩ := hargs c
  rw [Cert.ConvGateIdeal.Result.final, Cert.ConvGateRefIdeal.Read.val_main_v29_eq, a0, a1, a2, a3]
  exact Cert.ConvGateRefIdeal.Result.gated_eq _ _ _ _

end Cert.Proof.ConvGate

end
-- ==== Proof.Norm.lean ====
module

public import proofs.«01_k».proof.Proof.Products

@[expose] public section

noncomputable section

/-! # Layer normalisation

The normalisation of one row of 2048 numbers, and of a stream of rows to which the residual is added first. -/

namespace Cert.Norm

open Idealize.ShloMosaic Cert.Products

/-- A row: a number per feature. -/
abbrev Row : Type := Fin 2048 → EReal

/-- The mean of a row. -/
def mean (z : Row) : EReal := Ideal.div (∑ k, z k) (Ideal.ofBits .f32 0x45000000#32)

/-- The row with its mean taken off. -/
def centred (z : Row) : Row := fun k => z k - mean z

/-- One over the standard deviation of a row, with the small constant under the root. -/
def scale (z : Row) : EReal :=
  Ideal.rsqrt (mean (fun k => centred z k * centred z k) + Ideal.ofBits .f32 0x3727C5AC#32)

/-- The normalised row times the gain plus the bias. -/
def norm (g b : Row) (z : Row) : Row := fun k => centred z k * scale z * g k + b k

/-- The stream times the residual's factor plus the sublayer's output, a row of it. -/
def residual (x r : Mat 2048 2048) (i : Fin 2048) : Row :=
  fun k => Ideal.ofBits .f32 0x3FB504F3#32 * x (ix2 i k) + r (ix2 i k)

/-- The normalised stream. -/
def norms (x r : Mat 2048 2048) (g b : (⟨1, ![2048]⟩ : Shape).Idx → EReal) : Mat 2048 2048 :=
  fun i => norm (fun k => g (ix1 k)) (fun k => b (ix1 k)) (residual x r (i 0)) (i 1)

end Cert.Norm

end
-- ==== Proof.LnClaim.lean ====
module

public import proofs.«01_k».proof.Defs
public import proofs.«01_k».proof.Proof.Norm
public import proofs.«01_k».proof.Proof.Gen.Ln
public import proofs.«01_k».proof.Proof.Gen.Ln.Frame
public import proofs.«01_k».proof.Proof.Gen.LnIdeal
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.LnRefIdeal.Read
public import Idealize.ShloMosaic.Lib.Pipeline.ValueKit

@[expose] public section

set_option maxRecDepth 16384

noncomputable section

open Idealize.ShloMosaic Idealize.ShloMosaic.TcCoe Idealize.SL.Sem Cert.Products Cert.Norm

/-! # The layer normalisation of the forward pass -/

namespace Cert.LnRefIdeal.Result

open Cert.LnRefIdeal Cert.LnRefIdeal.Read

variable (x r : Mat 2048 2048) (g b : (⟨1, ![2048]⟩ : Shape).Idx → EReal)

/-- The reference's row before the normalisation. -/
theorem residual_eq (i k : Fin 2048) : val_main_v2 (F := Ideal) x r (ix2 i k) = residual x r i k := by
  pointwise [val_main_v2, val_main_v1, val_main_v0, val_main_cst]
  rfl

/-- The reference's row with its mean taken off, at both places it is computed. -/
theorem centred_eq (i k : Fin 2048) : val_main_v8 (F := Ideal) x r (ix2 i k) = centred (residual x r i) k := by
  pointwise [val_main_v8, val_main_v7, val_main_v6, val_main_v5, val_main_v4, val_main_v3, val_main_cst_0, val_main_cst_1]
  simp only [residual_eq]
  rfl

theorem centred_again (i k : Fin 2048) : val_main_v15 (F := Ideal) x r (ix2 i k) = centred (residual x r i) k := by
  pointwise [val_main_v15, val_main_v14, val_main_v6, val_main_v5, val_main_v4, val_main_v3, val_main_cst_0, val_main_cst_1]
  simp only [residual_eq]
  rfl

/-- The reference's normalised stream. -/
theorem norms_eq : val_main_v26 (F := Ideal) x r g b = norms x r g b := by
  funext i
  idx_vars i
  pointwise [val_main_v26, val_main_v25, val_main_v24, val_main_v23, val_main_v22, val_main_v21, val_main_v20, val_main_v19,
    val_main_v18, val_main_v17, val_main_v16, val_main_v13, val_main_v12, val_main_v11, val_main_v10,
    val_main_v9, val_main_cst_2, val_main_cst_3, val_main_cst_4]
  simp only [centred_eq, centred_again]
  rfl

end Cert.LnRefIdeal.Result

namespace Cert.LnIdeal.Result

open Cert.LnIdeal Cert.LnIdeal.Gen

variable (m : (ℓ : Loc nD τ sig) → Buf (Elt Ideal) ℓ) (c : Dev nD)

/-- Grid point `t` holds rows `256 t` to `256 t + 255`, and the whole gain and bias. -/
theorem index_eq : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] := by decide +kernel

theorem point (t : Fin cfg0.N) : t.val < 8 := lt_of_lt_of_eq t.isLt N_0

abbrev x : Mat 2048 2048 := m ((c : Thread nD τ).loc main_arg0)
abbrev r : Mat 2048 2048 := m ((c : Thread nD τ).loc main_arg1)
abbrev g : (⟨1, ![2048]⟩ : Shape).Idx → EReal := m ((c : Thread nD τ).loc main_arg2)
abbrev b : (⟨1, ![2048]⟩ : Shape).Idx → EReal := m ((c : Thread nD τ).loc main_arg3)

/-- The row of the stream that row `i` of grid point `t` is. -/
abbrev row (t : Fin cfg0.N) (i : Fin 256) : Fin 2048 := ⟨t.val * 256 + i.val, by have := point t; omega⟩

theorem x_block (t : Fin cfg0.N) (i : Fin 256) (k : Fin 2048) :
    (iblk m c 0 t (ix2 i k) : EReal) = x m c (ix2 (row t i) k) := by
  blk_ext! [iblk, V, (index_eq t).1]

theorem r_block (t : Fin cfg0.N) (i : Fin 256) (k : Fin 2048) :
    (iblk m c 1 t (ix2 i k) : EReal) = r m c (ix2 (row t i) k) := by
  blk_ext! [iblk, V, (index_eq t).2.1]

theorem g_block (t : Fin cfg0.N) (z : Fin 1) (k : Fin 2048) : (iblk m c 2 t (ix2 z k) : EReal) = g m c (ix1 k) := by
  blk_simp [iblk]
  entry_read
  pointwise
  blk_ext [(index_eq t).2.2.1] <;> rfl

theorem b_block (t : Fin cfg0.N) (z : Fin 1) (k : Fin 2048) : (iblk m c 3 t (ix2 z k) : EReal) = b m c (ix1 k) := by
  blk_simp [iblk]
  entry_read
  pointwise
  blk_ext [(index_eq t).2.2.2.1] <;> rfl

/-- The kernel's normalised block. -/
theorem payload (t : Fin cfg0.N) (i : Fin 256) (k : Fin 2048) :
    k0_pay1 (F := Ideal) (iblk m c 0 t) (iblk m c 1 t) (iblk m c 2 t) (iblk m c 3 t) (ix2 i k)
      = norms (x m c) (r m c) (g m c) (b m c) (ix2 (row t i) k) := by
  pointwise [k0_pay1]
  simp only [x_block, r_block, g_block, b_block]
  rfl

theorem stream_final : (dats m 0 c).arrAt 4 cfg0.N = norms (x m c) (r m c) (g m c) (b m c) := by
  refine (dats m 0 c).arrAt_eq_of_covers 4 _ (by decide +kernel) fun t hf y => ?_
  blk_simp
  rw [after0_4]
  frame_out
  idx_vars y
  rw [show ((View.whole main_v2_0).slice (win0_4.rect t)).emb (ix2 y0 y1) = ix2 (row t y0) y1 by
    funext a; apply Fin.ext; fin_cases a <;> blk_simp [(index_eq t).2.2.2.2.1] <;> rfl]
  exact payload m c t y0 y1

theorem copy_final : (dats m 0 c).arrAt 5 cfg0.N = norms (x m c) (r m c) (g m c) (b m c) := by
  refine (dats m 0 c).arrAt_eq_of_covers 5 _ (by decide +kernel) fun t hf y => ?_
  blk_simp
  rw [after0_5]
  frame_out
  idx_vars y
  rw [show ((View.whole main_v2_1).slice (win0_5.rect t)).emb (ix2 y0 y1) = ix2 (row t y0) y1 by
    funext a; apply Fin.ext; fin_cases a <;> blk_simp [(index_eq t).2.2.2.2.2] <;> rfl]
  exact payload m c t y0 y1

end Cert.LnIdeal.Result

namespace Cert.Proof.Ln

theorem frame_kernel : Cert.quiescent_Ln := fun m ρ _ => Cert.Ln.Gen.frame m ρ

theorem frame_ideal : Cert.quiescent_LnIdeal := fun m ρ _ => Cert.LnIdeal.Gen.frame m ρ

theorem frame_reference : Cert.quiescent_LnRefIdeal := fun m ρ _ =>
  (θ_run Cert.LnRefIdeal.defs _ _).mono
    (fun r h => ⟨fun c => (h c).2.2, sem_eq_zero_of_no_sems (by decide) r.2⟩) (Cert.LnRefIdeal.Value.run m ρ)

theorem algebraic : Cert.algebraic_LnIdeal_LnRefIdeal := by
  intro m g m' g' _ hargs
  refine ⟨_, _, Cert.LnIdeal.Value.run_blocks m g, ?_⟩
  refine (θ_run Cert.LnRefIdeal.defs _ _).mono (fun r h c => ?_) (Cert.LnRefIdeal.Value.run m' g')
  obtain ⟨h0, h1, hr⟩ := h c
  obtain ⟨a0, a1, a2, a3⟩ := hargs c
  refine ⟨h0.trans ?_, h1.trans ?_, hr⟩
  · rw [Cert.LnIdeal.Result.stream_final, Cert.LnRefIdeal.Read.val_main_v26_eq, a0, a1, a2, a3]
    exact Cert.LnRefIdeal.Result.norms_eq _ _ _ _
  · rw [Cert.LnIdeal.Result.copy_final, Cert.LnRefIdeal.Read.val_main_v27_eq, a0, a1, a2, a3]
    exact Cert.LnRefIdeal.Result.norms_eq _ _ _ _

end Cert.Proof.Ln

end
-- ==== Proof.WindowBand.lean ====
module

public import proofs.«01_k».proof.Proof.Products
public import proofs.«01_k».proof.Proof.Finite
public import Idealize.ShloMosaic.Lib.Pipeline.ValueKit

@[expose] public section

noncomputable section

open Idealize.ShloMosaic Idealize.ShloMosaic.TcCoe Cert.Products

/-! # Attention over a row's own block of 128 keys and the block before

A sequence of 2048 rows is 16 blocks of 128. A row sees the keys of its own block up to itself, and of the block before
those that come after its own place in the block, 128 keys in all. A sink is one more score with no value. -/

namespace Cert.Band

/-- The factor of the scores, one over the root of 128. -/
def scale : EReal := Ideal.ofBits .f32 0x3DB504F3#32

/-- Place `i` of block `b`. -/
def row (b : Fin 16) (i : Fin 128) : Fin 2048 := ⟨b.val * 128 + i.val, by omega⟩

/-- The block before (the first has none, and is its own). -/
def before (b : Fin 16) : Fin 16 := ⟨b.val - 1, by omega⟩

/-- A row's block, and its place there. -/
def blockOf (l : Fin 2048) : Fin 16 := ⟨l.val / 128, by omega⟩
def placeOf (l : Fin 2048) : Fin 128 := ⟨l.val % 128, by omega⟩

variable (q k v : Mat 2048 128) (s : EReal) (b : Fin 16) (i : Fin 128)

/-- The score of a row and a key. -/
def score (r l : Fin 2048) : EReal := (∑ d, q (ix2 r d) * k (ix2 l d)) * scale

/-- The scores with the row's own block, and with the block before. -/
def own (j : Fin 128) : EReal := if j ≤ i then score q k (row b i) (row b j) else ⊥
def prev (j : Fin 128) : EReal := if 0 < b.val ∧ i < j then score q k (row b i) (row (before b) j) else ⊥

/-- The largest score. -/
def top : EReal :=
  max (max (Finset.univ.fold max ⊥ (own q k b i)) (Finset.univ.fold max ⊥ (prev q k b i))) s

/-- The sum of the weights. -/
def total : EReal :=
  ∑ j, Ideal.exp (own q k b i j - top q k s b i) + ∑ j, Ideal.exp (prev q k b i j - top q k s b i)
    + Ideal.exp (s - top q k s b i)

/-- The weighted mean of the values, and the logarithm of the sum of the exponentials. -/
def mean (d : Fin 128) : EReal :=
  Ideal.div (∑ j, Ideal.exp (own q k b i j - top q k s b i) * v (ix2 (row b j) d)
    + ∑ j, Ideal.exp (prev q k b i j - top q k s b i) * v (ix2 (row (before b) j) d)) (total q k s b i)
def lse : EReal := top q k s b i + Ideal.log (total q k s b i)

/-! ## 256 keys as twice 128 -/

def lo (j : Fin 128) : Fin 256 := ⟨j.val, by omega⟩
def hi (j : Fin 128) : Fin 256 := ⟨128 + j.val, by omega⟩

theorem sum_halves (f : Fin 256 → EReal) : ∑ x, f x = ∑ j, f (lo j) + ∑ j, f (hi j) :=
  Fin.sum_univ_add (a := 128) (b := 128) f

theorem lo_or_hi (x : Fin 256) : (∃ j, x = lo j) ∨ ∃ j, x = hi j := by
  by_cases h : x.val < 128
  · exact .inl ⟨⟨x.val, h⟩, rfl⟩
  · exact .inr ⟨⟨x.val - 128, by omega⟩, Fin.ext (by simp only [hi]; omega)⟩

theorem max_halves (f : Fin 256 → EReal) : Finset.univ.fold max ⊥ f
    = max (Finset.univ.fold max ⊥ fun j => f (lo j)) (Finset.univ.fold max ⊥ fun j => f (hi j)) := by
  apply le_antisymm
  · rw [Finset.fold_max_le]
    refine ⟨bot_le, fun x _ => ?_⟩
    rcases lo_or_hi x with ⟨j, rfl⟩ | ⟨j, rfl⟩
    · exact le_max_of_le_left ((Finset.le_fold_max _).mpr (.inr ⟨j, Finset.mem_univ _, le_rfl⟩))
    · exact le_max_of_le_right ((Finset.le_fold_max _).mpr (.inr ⟨j, Finset.mem_univ _, le_rfl⟩))
  · refine max_le ?_ ?_ <;> rw [Finset.fold_max_le] <;>
      exact ⟨bot_le, fun x _ => (Finset.le_fold_max _).mpr (.inr ⟨_, Finset.mem_univ _, le_rfl⟩)⟩

/-! ## The masks, as comparisons of words -/

theorem select_ite {α : Type} (p : Prop) [Decidable p] (x y : α) :
    Scalar.select (if p then 1#1 else 0#1) x y = if p then x else y := by
  split <;> rfl

theorem and_ite (p r : Prop) [Decidable p] [Decidable r] :
    IntOp.andi (if p then 1#1 else 0#1) (if r then 1#1 else 0#1) = (if p ∧ r then 1#1 else 0#1 : BitVec 1) := by
  by_cases p <;> by_cases r <;> simp [*] <;> rfl

theorem own_mask : ∀ i j : Fin 128,
    IntOp.cmpi .sge (BitVec.ofNat 32 i.val) (BitVec.ofNat 32 j.val) = if j ≤ i then 1#1 else 0#1 := by
  decide +kernel

theorem prev_mask : ∀ i j : Fin 128,
    IntOp.cmpi .sle (IntOp.subi (IntOp.addi (128#32) (BitVec.ofNat 32 i.val)) (BitVec.ofNat 32 j.val)) 127#32
      = if i < j then 1#1 else 0#1 := by
  decide +kernel

theorem band_mask : ∀ (i : Fin 128) (x : Fin 256),
    IntOp.andi
        (IntOp.cmpi .sge (IntOp.subi (IntOp.addi (128#32) (BitVec.ofNat 32 i.val)) (BitVec.ofNat 32 x.val)) 0#32)
        (IntOp.cmpi .sle (IntOp.subi (IntOp.addi (128#32) (BitVec.ofNat 32 i.val)) (BitVec.ofNat 32 x.val)) 127#32)
      = if x.val ≤ 128 + i.val ∧ i.val < x.val then 1#1 else 0#1 := by
  decide +kernel

theorem start_mask : ∀ (b : Fin 16) (x : Fin 256),
    IntOp.cmpi .sge (IntOp.addi (IntOp.muli (IntOp.subi (BitVec.ofNat 32 b.val) 1#32) 128#32) (BitVec.ofNat 32 x.val)) 0#32
      = if 128 ≤ b.val * 128 + x.val then 1#1 else 0#1 := by
  decide +kernel

end Cert.Band

end
-- ==== Proof.WindowHead.lean ====
module

public import proofs.«01_k».proof.Defs
public import proofs.«01_k».proof.Proof.WindowBand
public import proofs.«01_k».proof.Proof.Gen.WindowIdeal
public import proofs.«01_k».proof.Proof.Gen.WindowIdeal.Skeleton

@[expose] public section

set_option maxRecDepth 16384

noncomputable section

open Idealize.ShloMosaic Idealize.ShloMosaic.TcCoe Idealize.SL.Sem Cert.Products Cert.Band

/-! # What one grid point of the windowed attention computes

A grid point is a head. It holds the scores with a row's own block and those with the block before in two arrays of sixteen
blocks; the first block takes itself for the block before, and its scores there are masked. -/

namespace Cert.WindowIdeal.Head

open Cert.WindowIdeal Cert.WindowIdeal.Gen

variable (q k v : Mat 2048 128) (s : FVec Ideal S1x1 .f32) (b : Fin 16) (i j d : Fin 128) (l : Fin 2048) (z : Fin 1)

theorem own_eq : k0_pay15 (F := Ideal) (k0_pay11 (F := Ideal) q) k (ix3 b i j) = own q k b i j := by
  pointwise [k0_pay15, k0_pay12, k0_pay11]
  rw [own_mask, select_ite]
  unfold own
  by_cases h : j ≤ i
  · exact (if_pos h).trans (if_pos h).symm
  · exact (if_neg h).trans (Cert.Finite.neg_inf_f32.trans (if_neg h).symm)

theorem largest_eq : k0_pay16 (F := Ideal) (k0_pay11 (F := Ideal) q) k (ix3 b i z) = Finset.univ.fold max ⊥ (own q k b i) := by
  pointwise [k0_pay16]
  rw [funext (own_eq q k b i)]
  exact congrArg (fun e => Finset.univ.fold max e _) Cert.Finite.neg_inf_f32

theorem mask_eq : k0_pay14 (ix3 b i j) = if 0 < b.val ∧ i < j then 1#1 else 0#1 := by
  pointwise [k0_pay14]
  rw [prev_mask, ← and_ite]
  congr 1
  revert b
  decide +kernel

theorem shifted_eq (u : Mat 2048 128) : k0_pay17 (F := Ideal) u (ix3 b i d) = u (ix2 (row (before b) i) d) := by
  pointwise [k0_pay17, k0_pay12]
  split
  · exact congrArg (fun r => u (ix2 r d)) (Fin.ext (show b.val * 128 + i.val = (b.val - 1) * 128 + i.val by omega))
  · rfl

theorem prev_eq : k0_pay18 (F := Ideal) (k0_pay11 (F := Ideal) q) k0_pay14 (k0_pay17 (F := Ideal) k) (ix3 b i j) = prev q k b i j := by
  pointwise [k0_pay18, k0_pay11]
  simp only [shifted_eq]
  rw [mask_eq, select_ite]
  unfold prev
  by_cases h : 0 < b.val ∧ i < j
  · exact (if_pos h).trans (if_pos h).symm
  · exact (if_neg h).trans (Cert.Finite.neg_inf_f32.trans (if_neg h).symm)

theorem top_eq : k0_pay19 (F := Ideal) s (k0_pay11 (F := Ideal) q) k0_pay14 (k0_pay16 (F := Ideal) (k0_pay11 (F := Ideal) q) k)
    (k0_pay17 (F := Ideal) k) (ix3 b i z) = top q k (s (ix2 0 0)) b i := by
  pointwise [k0_pay19]
  rw [largest_eq, funext (prev_eq q k b i)]
  exact congrArg (fun e => max (max _ (Finset.univ.fold max e _)) _) Cert.Finite.neg_inf_f32

theorem total_eq : k0_pay22 (F := Ideal) s (k0_pay11 (F := Ideal) q) k0_pay14 (k0_pay15 (F := Ideal) (k0_pay11 (F := Ideal) q) k)
    (k0_pay16 (F := Ideal) (k0_pay11 (F := Ideal) q) k) (k0_pay17 (F := Ideal) k) (ix3 b i z) = total q k (s (ix2 0 0)) b i := by
  pointwise [k0_pay22, k0_pay21, k0_pay20]
  simp only [top_eq, own_eq, prev_eq]
  rfl

theorem mean_eq : k0_pay23 (F := Ideal) s (k0_pay11 (F := Ideal) q) (k0_pay13 (F := Ideal) v) k0_pay14
    (k0_pay15 (F := Ideal) (k0_pay11 (F := Ideal) q) k) (k0_pay16 (F := Ideal) (k0_pay11 (F := Ideal) q) k) (k0_pay17 (F := Ideal) k) (ix3 z l d)
      = mean q k v (s (ix2 0 0)) (blockOf l) (placeOf l) d := by
  pointwise [k0_pay23, k0_pay21, k0_pay20, k0_pay13]
  rw [total_eq]
  simp only [top_eq, own_eq, prev_eq]
  unfold mean
  refine congrArg (fun e => Ideal.div (_ + e) _) (Finset.sum_congr (M := EReal) rfl fun y _ => congrArg (HMul.hMul _) ?_)
  split
  · exact congrArg (fun r => v (ix2 r d)) (Fin.ext (show l.val / 128 * 128 + y.val = (l.val / 128 - 1) * 128 + y.val by omega))
  · rfl

theorem lse_eq : k0_pay24 (F := Ideal) s (k0_pay11 (F := Ideal) q) k0_pay14
    (k0_pay15 (F := Ideal) (k0_pay11 (F := Ideal) q) k) (k0_pay16 (F := Ideal) (k0_pay11 (F := Ideal) q) k) (k0_pay17 (F := Ideal) k) (ix2 l d)
      = lse q k (s (ix2 0 0)) (blockOf l) (placeOf l) := by
  pointwise [k0_pay24]
  rw [top_eq, total_eq]
  rfl

theorem logs_apply (u : FVec Ideal S2048x128 .f32) : k0_pay3 (F := Ideal) (k0_pay1 (F := Ideal) u) (ix3 z l d) = u (ix2 l d) := by
  pointwise [k0_pay3, k0_pay1]

theorem columns_apply (u : FVec Ideal S1x2048x128 .f32) : k0_pay2 (F := Ideal) u (ix2 l d) = u (ix3 0 l d) := by
  pointwise [k0_pay2]

theorem columns_bf_apply (u : FVec Ideal S1x2048x128 .f32) : k0_pay4 (F := Ideal) u (ix2 l d) = u (ix3 0 l d) := by
  pointwise [k0_pay4, k0_pay2]

/-- The turning with the three tables: the column itself, and those 16 before and 16 after. -/
theorem turn_eq (x y w u : Mat 2048 128) : k0_pay9 (F := Ideal) x y w u (ix2 l d)
    = u (ix2 l d) * x (ix2 l d) + u (ix2 l ⟨(d.val + 128 - 16) % 128, by omega⟩) * y (ix2 l d)
      + u (ix2 l ⟨(d.val + 128 - 112) % 128, by omega⟩) * w (ix2 l d) := by
  pointwise [k0_pay9, k0_pay6, k0_pay7, k0_pay8]

theorem turn_key_eq (x y w u : Mat 2048 128) : k0_pay10 (F := Ideal) x y w u (ix2 l d) = k0_pay9 (F := Ideal) x y w u (ix2 l d) := by
  rw [turn_eq]
  pointwise [k0_pay10, k0_pay6, k0_pay7, k0_pay8]

end Cert.WindowIdeal.Head

end
-- ==== Proof.WindowReference.lean ====
module

public import proofs.«01_k».proof.Defs
public import proofs.«01_k».proof.Proof.WindowBand
public import proofs.«01_k».proof.Proof.Gen.WindowRefIdeal
public import proofs.«01_k».proof.Proof.Gen.WindowRefIdeal.Run
public import proofs.«01_k».proof.Proof.Gen.WindowRefIdeal.Read

@[expose] public section

set_option maxRecDepth 16384

noncomputable section

open Idealize.ShloMosaic Idealize.ShloMosaic.TcCoe Idealize.SL.Sem Cert.Products Cert.Band

/-! # The windowed attention's reference

A head's queries and keys are turned by the positions' angles; a row attends to the last 128 keys up to itself, and to a sink.
The reference holds, for each block of 128 rows, the 256 keys of the block before and of the block. Three heads share keys
and values. -/

namespace Cert.WindowRefIdeal.Result

open Cert.WindowRefIdeal Cert.WindowRefIdeal.Read

/-- The turning of a block's columns: the first 16 and the next 16 by the angles, the others as they are. -/
def turned (u : Mat 2048 128) : Mat 2048 128 := fun y =>
  if _ : (y 1).val < 16 then
    u (ix2 (y 0) ⟨(y 1).val, (y 1).isLt⟩) * val_main_v16 (F := Ideal) (ix2 (y 0) ⟨(y 1).val, by omega⟩)
      - u (ix2 (y 0) ⟨(y 1).val + 16, by omega⟩) * val_main_v17 (F := Ideal) (ix2 (y 0) ⟨(y 1).val, by omega⟩)
  else if _ : (y 1).val < 32 then
    u (ix2 (y 0) ⟨(y 1).val, (y 1).isLt⟩) * val_main_v16 (F := Ideal) (ix2 (y 0) ⟨(y 1).val - 16, by omega⟩)
      + u (ix2 (y 0) ⟨(y 1).val - 16, by omega⟩) * val_main_v17 (F := Ideal) (ix2 (y 0) ⟨(y 1).val - 16, by omega⟩)
  else u (ix2 (y 0) ⟨(y 1).val, (y 1).isLt⟩)

/-- A block of 128 columns of the projections. -/
def columns (x : Mat 2048 5632) (p : Fin 44) : Mat 2048 128 := fun y => x (ix2 (y 0) ⟨p.val * 128 + (y 1).val, by have := (y 1).isLt; change _ < 128 at this; omega⟩)

/-- A head's queries, keys and values. -/
def queries (x : Mat 2048 5632) (h : Fin 6) : Mat 2048 128 := turned (columns x ⟨34 + h.val, by omega⟩)
def keys (x : Mat 2048 5632) (h : Fin 6) : Mat 2048 128 := turned (columns x ⟨40 + h.val / 3, by omega⟩)
def values (x : Mat 2048 5632) (h : Fin 6) : Mat 2048 128 := columns x ⟨42 + h.val / 3, by omega⟩

variable (x : Mat 2048 5632) (s : FVec Ideal S6 .f32)
  (h : Fin 6) (b : Fin 16) (i j d : Fin 128) (l : Fin 2048)

theorem queries_eq : val_main_v70 (F := Ideal) x (ix3 h l d) = queries x h (ix2 l d) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48]
  unfold queries turned columns
  by_cases h16 : d.val < 16
  · rw [dif_pos (show d.val < 32 by omega), dif_pos h16]
    refine Eq.trans ?_ (dif_pos h16).symm
    exact congrArg₂ (· - ·)
      (congrArg (· * _) (congrArg x (congrArg (ix2 l) (Fin.ext (show 4352 + (h.val * 128 + d.val) = (34 + h.val) * 128 + (d.val) by omega)))))
      (congrArg (· * _) (congrArg x (congrArg (ix2 l) (Fin.ext (show 4352 + (h.val * 128 + (16 + d.val)) = (34 + h.val) * 128 + (d.val + 16) by omega)))))
  · refine Eq.trans ?_ (dif_neg h16).symm
    by_cases h32 : d.val < 32
    · rw [dif_pos h32, dif_neg h16]
      refine Eq.trans ?_ (dif_pos h32).symm
      exact congrArg₂ (· + ·)
        (congrArg (· * _) (congrArg x (congrArg (ix2 l) (Fin.ext (show 4352 + (h.val * 128 + (16 + (d.val - 16))) = (34 + h.val) * 128 + (d.val) by omega)))))
        (congrArg (· * _) (congrArg x (congrArg (ix2 l) (Fin.ext (show 4352 + (h.val * 128 + (d.val - 16)) = (34 + h.val) * 128 + (d.val - 16) by omega)))))
    · rw [dif_neg h32]
      refine Eq.trans ?_ (dif_neg h32).symm
      exact (congrArg x (congrArg (ix2 l) (Fin.ext (show 4352 + (h.val * 128 + (32 + (d.val - 32))) = (34 + h.val) * 128 + (d.val) by omega))))

theorem keys_eq : val_main_v42 (F := Ideal) x (ix3 h l d) = keys x h (ix2 l d) := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18]
  unfold keys turned columns
  by_cases h16 : d.val < 16
  · rw [dif_pos (show d.val < 32 by omega), dif_pos h16]
    refine Eq.trans ?_ (dif_pos h16).symm
    exact congrArg₂ (· - ·)
      (congrArg (· * _) (congrArg x (congrArg (ix2 l) (Fin.ext (show 5120 + (h.val / 3 * 128 + d.val) = (40 + h.val / 3) * 128 + (d.val) by omega)))))
      (congrArg (· * _) (congrArg x (congrArg (ix2 l) (Fin.ext (show 5120 + (h.val / 3 * 128 + (16 + d.val)) = (40 + h.val / 3) * 128 + (d.val + 16) by omega)))))
  · refine Eq.trans ?_ (dif_neg h16).symm
    by_cases h32 : d.val < 32
    · rw [dif_pos h32, dif_neg h16]
      refine Eq.trans ?_ (dif_pos h32).symm
      exact congrArg₂ (· + ·)
        (congrArg (· * _) (congrArg x (congrArg (ix2 l) (Fin.ext (show 5120 + (h.val / 3 * 128 + (16 + (d.val - 16))) = (40 + h.val / 3) * 128 + (d.val) by omega)))))
        (congrArg (· * _) (congrArg x (congrArg (ix2 l) (Fin.ext (show 5120 + (h.val / 3 * 128 + (d.val - 16)) = (40 + h.val / 3) * 128 + (d.val - 16) by omega)))))
    · rw [dif_neg h32]
      refine Eq.trans ?_ (dif_neg h32).symm
      exact (congrArg x (congrArg (ix2 l) (Fin.ext (show 5120 + (h.val / 3 * 128 + (32 + (d.val - 32))) = (40 + h.val / 3) * 128 + (d.val) by omega))))

theorem values_eq : val_main_v47 (F := Ideal) x (ix3 h l d) = values x h (ix2 l d) := by
  pointwise [val_main_v47, val_main_v46, val_main_v45, val_main_v44, val_main_v43]
  exact congrArg x (congrArg (ix2 l) (Fin.ext (show 5376 + (h.val / 3 * 128 + d.val) = (42 + h.val / 3) * 128 + d.val by omega)))

theorem mask_eq (y : Fin 256) : val_main_v112 (F := Ideal) (ix3 b i y)
    = if (y.val ≤ 128 + i.val ∧ i.val < y.val) ∧ 128 ≤ b.val * 128 + y.val then 1#1 else 0#1 := by
  pointwise [val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_c_5, val_main_c_6, val_main_c_7, val_main_c_8, val_main_c_9, val_main_c_10]
  rw [band_mask, start_mask, and_ite]

theorem dot_lo (hb : 0 < b.val) : val_main_v80 (F := Ideal) x (ix4 h b i (lo j)) * scale
    = score (queries x h) (keys x h) (row b i) (row (before b) j) := by
  unfold score
  congr 1
  pointwise [val_main_v80, val_main_v71, val_main_v76, val_main_v75, val_main_v74, val_main_v72]
  refine Finset.sum_congr (M := EReal) rfl fun d _ => ?_
  rw [dif_pos (show (lo j).val < 128 from j.isLt), dif_pos (by have : (lo j).val < 128 := j.isLt; omega), queries_eq, keys_eq]
  rfl

theorem dot_hi : val_main_v80 (F := Ideal) x (ix4 h b i (hi j)) * scale = score (queries x h) (keys x h) (row b i) (row b j) := by
  unfold score
  congr 1
  pointwise [val_main_v80, val_main_v71, val_main_v76, val_main_v75, val_main_v74, val_main_v72]
  refine Finset.sum_congr (M := EReal) rfl fun d _ => ?_
  rw [dif_neg (show ¬ (hi j).val < 128 by simp only [hi]; omega), queries_eq, keys_eq]
  congr 2
  exact congrArg (fun r => ix2 r d) (Fin.ext (by simp only [hi, row]; omega))

theorem score_lo : val_main_v113 (F := Ideal) x (ix4 h b i (lo j)) = prev (queries x h) (keys x h) b i j := by
  pointwise [val_main_v113, val_main_v82, val_main_v81, val_main_cst_4, val_main_call2_v0, val_main_call2_v1, val_main_call2_v2,
    val_main_cst_11]
  rw [mask_eq, select_ite]
  unfold prev
  by_cases hb : 0 < b.val ∧ i < j
  · exact (if_pos ⟨⟨show j.val ≤ 128 + i.val by omega, hb.2⟩, show 128 ≤ b.val * 128 + j.val by omega⟩).trans
      ((dot_lo x h b i j hb.1).trans (if_pos hb).symm)
  · exact (if_neg fun e => hb ⟨by have : 128 ≤ b.val * 128 + j.val := e.2; omega, e.1.2⟩).trans
      (Cert.Finite.neg_inf_f32.trans (if_neg hb).symm)

theorem score_hi : val_main_v113 (F := Ideal) x (ix4 h b i (hi j)) = own (queries x h) (keys x h) b i j := by
  pointwise [val_main_v113, val_main_v82, val_main_v81, val_main_cst_4, val_main_call2_v0, val_main_call2_v1, val_main_call2_v2,
    val_main_cst_11]
  rw [mask_eq, select_ite]
  unfold own
  by_cases hb : j ≤ i
  · have hb' : j.val ≤ i.val := hb
    exact (if_pos ⟨⟨show 128 + j.val ≤ 128 + i.val by omega, show i.val < 128 + j.val by omega⟩,
        show 128 ≤ b.val * 128 + (128 + j.val) by omega⟩).trans ((dot_hi x h b i j).trans (if_pos hb).symm)
  · exact (if_neg fun e => hb (by have : 128 + j.val ≤ 128 + i.val := e.1.1; exact (show j.val ≤ i.val by omega))).trans
      (Cert.Finite.neg_inf_f32.trans (if_neg hb).symm)

theorem value_lo (e : EReal) (he : b.val = 0 → e = 0) :
    e * val_main_v79 (F := Ideal) x (ix4 h b (lo j) d) = e * values x h (ix2 (row (before b) j) d) := by
  by_cases hb : b.val = 0
  · rw [he hb, zero_mul, zero_mul]
  · pointwise [val_main_v79, val_main_v78, val_main_v77, val_main_v73]
    rw [dif_pos (show (lo j).val < 128 from j.isLt), dif_pos (by have : (lo j).val < 128 := j.isLt; omega), values_eq]
    rfl

theorem value_hi : val_main_v79 (F := Ideal) x (ix4 h b (hi j) d) = values x h (ix2 (row b j) d) := by
  pointwise [val_main_v79, val_main_v78, val_main_v77, val_main_v73]
  rw [dif_neg (show ¬ (hi j).val < 128 by simp only [hi]; omega), values_eq]
  exact congrArg (fun r => values x h (ix2 r d)) (Fin.ext (by simp only [hi, row]; omega))

theorem largest_eq : val_main_v114 (F := Ideal) x (ix3 h b i) = max (Finset.univ.fold max ⊥ (own (queries x h) (keys x h) b i))
    (Finset.univ.fold max ⊥ (prev (queries x h) (keys x h) b i)) := by
  unfold val_main_v114
  rw [Host.reduce_eq_fold, Shape.ReducesTo.fold_fiber_r4_a3,
    show val_main_cst_12 (F := Ideal) (Shape.Idx.first Gen.h_S_) = ⊥ from Cert.Finite.neg_inf_f32]
  refine Eq.trans (max_halves fun y => val_main_v113 (F := Ideal) x (ix4 h b i y)) ?_
  rw [max_comm, funext (score_lo x h b i), funext (score_hi x h b i)]

theorem sink_at : val_main_v116 (F := Ideal) s (ix3 h b i) = s (ix1 h) := by
  pointwise [val_main_v116, val_main_v115]

theorem larger_at {S : Shape} (u w : FVec Ideal S .f32) (y : S.Idx) : maximumf u w y = max (u y) (w y) := rfl

theorem top_eq : val_main_v117 (F := Ideal) x s (ix3 h b i) = top (queries x h) (keys x h) (s (ix1 h)) b i := by
  unfold val_main_v117
  exact (larger_at _ _ _).trans (congrArg₂ max (largest_eq x h b i) (sink_at s h b i))

theorem total_eq : val_main_v126 (F := Ideal) x s (ix3 h b i) = total (queries x h) (keys x h) (s (ix1 h)) b i := by
  pointwise [val_main_v126, val_main_v125, val_main_v124, val_main_v123, val_main_v122, val_main_v121, val_main_v120,
    val_main_v119, val_main_v118, val_main_cst_13, val_main_v115]
  rw [sum_halves]
  simp only [top_eq, score_lo, score_hi]
  unfold total
  rw [add_comm (∑ j, _) (∑ j, _)]

/-- A key that is not seen weighs nothing. -/
theorem exp_bot_sub (a : EReal) : Ideal.exp (⊥ - a) = 0 := by
  rw [sub_eq_add_neg, EReal.bot_add]; rfl

theorem mean_eq : val_main_v130 (F := Ideal) x s (ix4 h b i d)
    = mean (queries x h) (keys x h) (values x h) (s (ix1 h)) b i d := by
  pointwise [val_main_v130, val_main_v129, val_main_v128, val_main_v127, val_main_v121, val_main_v120, val_main_v119, val_main_v118]
  rw [total_eq, sum_halves]
  simp only [top_eq, score_lo, score_hi, value_hi]
  unfold mean
  rw [add_comm (∑ j, _) (∑ j, _)]
  congr 2
  refine Finset.sum_congr (M := EReal) rfl fun j _ => value_lo x h b j d _ fun hb => ?_
  unfold prev
  rw [if_neg (by omega), exp_bot_sub]

theorem plus_log_at {S : Shape} (u w : FVec Ideal S .f32) (y : S.Idx) :
    addf u (log w) y = u y + Ideal.log (w y) := rfl

theorem lse_eq : val_main_v143 (F := Ideal) x s (ix3 h l d)
    = lse (queries x h) (keys x h) (s (ix1 h)) (blockOf l) (placeOf l) := by
  have e : val_main_v132 (F := Ideal) x s (ix3 h (blockOf l) (placeOf l))
      = lse (queries x h) (keys x h) (s (ix1 h)) (blockOf l) (placeOf l) := by
    unfold val_main_v132 val_main_v131 lse
    rw [← top_eq, ← total_eq]
    exact plus_log_at _ _ _
  unfold val_main_v143 val_main_v142 val_main_v134
  rw [← e]
  generalize val_main_v132 (F := Ideal) x s = u
  pointwise
  rfl

/-- The columns of the heads. -/
def headOf (p : Fin 2048) : Fin 6 := ⟨p.val / 128 - 10, by omega⟩

theorem mixed_eq (old : Mat 2048 2048) (p : Fin 2048) : val_main_v138 (F := Ideal) x s old (ix2 l p)
    = if 10 ≤ p.val / 128 then mean (queries x (headOf p)) (keys x (headOf p)) (values x (headOf p)) (s (ix1 (headOf p)))
        (blockOf l) (placeOf l) (placeOf p) else old (ix2 l p) := by
  unfold val_main_v138 val_main_v137 val_main_v136 val_main_v135 val_main_v133
  by_cases hp : 10 ≤ p.val / 128
  · rw [if_pos hp, ← mean_eq]
    generalize val_main_v130 (F := Ideal) x s = u
    pointwise
    rw [dif_neg (by omega)]
    refine congrArg u ?_
    exact congrArg₂ (fun a e => ix4 a (blockOf l) (placeOf l) e)
      (Fin.ext (show (p.val - 1280) / 128 = p.val / 128 - 10 by omega))
      (Fin.ext (show (p.val - 1280) % 128 = p.val % 128 by omega))
  · rw [if_neg hp]
    generalize val_main_v130 (F := Ideal) x s = u
    pointwise
    rw [dif_pos (by omega)]

theorem mixed_bf_eq (old : FVec Ideal S2048x2048 .bf16) (p : Fin 2048) : val_main_v141 (F := Ideal) x s old (ix2 l p)
    = if 10 ≤ p.val / 128 then mean (queries x (headOf p)) (keys x (headOf p)) (values x (headOf p)) (s (ix1 (headOf p)))
        (blockOf l) (placeOf l) (placeOf p) else old (ix2 l p) := by
  unfold val_main_v141 val_main_v140 val_main_v139 val_main_v136 val_main_v135 val_main_v133
  by_cases hp : 10 ≤ p.val / 128
  · rw [if_pos hp, ← mean_eq]
    generalize val_main_v130 (F := Ideal) x s = u
    pointwise
    rw [dif_neg (by omega)]
    refine congrArg u ?_
    exact congrArg₂ (fun a e => ix4 a (blockOf l) (placeOf l) e)
      (Fin.ext (show (p.val - 1280) / 128 = p.val / 128 - 10 by omega))
      (Fin.ext (show (p.val - 1280) % 128 = p.val % 128 by omega))
  · rw [if_neg hp]
    generalize val_main_v130 (F := Ideal) x s = u
    pointwise
    rw [dif_pos (by omega)]

end Cert.WindowRefIdeal.Result

end
-- ==== Proof.WindowClaim.lean ====
/-
  `window_fwd`: the windowed heads of the attention, forward. A grid point is a head: it turns the head's queries and keys by the
  positions' angles, lets each row attend to the last 128 keys up to itself and to a sink, and writes the head's columns of the
  mixed array, the same rounded, and the logarithms of the sums. Three heads share keys and values.
-/
module

public import proofs.«01_k».proof.Defs
public import proofs.«01_k».proof.Proof.Gen.Window
public import proofs.«01_k».proof.Proof.Gen.Window.Frame
public import proofs.«01_k».proof.Proof.Gen.WindowIdeal
public import proofs.«01_k».proof.Proof.Gen.WindowIdeal.Frame
public import proofs.«01_k».proof.Proof.Gen.WindowIdeal.Value
public import proofs.«01_k».proof.Proof.Gen.WindowRefIdeal
public import proofs.«01_k».proof.Proof.Gen.WindowRefIdeal.Run
public import proofs.«01_k».proof.Proof.Gen.WindowRefIdeal.Read
public import proofs.«01_k».proof.Proof.WindowHead
public import proofs.«01_k».proof.Proof.WindowReference

@[expose] public section

set_option maxRecDepth 16384

noncomputable section

open Idealize.ShloMosaic Idealize.ShloMosaic.TcCoe Idealize.SL.Sem Cert.Products Cert.Band

namespace Cert.WindowIdeal.Result

open Cert.WindowIdeal Cert.WindowIdeal.Gen Cert.WindowRefIdeal.Result Cert.WindowRefIdeal.Read

variable (m : (ℓ : Loc nD τ sig) → Buf (Elt Ideal) ℓ) (c : Dev nD)

/-- Grid point `t` is a head: it reads columns `34 + t`, `40 + t / 3` and `42 + t / 3` of the projections, the three tables, and
    writes columns `10 + t`, each column 128 wide. -/
theorem index_eq : ∀ t : Fin cfg0.N, win0_0.index t = ![0, 34 + t.val] ∧ win0_1.index t = ![0, 40 + t.val / 3]
    ∧ win0_2.index t = ![0, 42 + t.val / 3] ∧ win0_3.index t = ![0, 0] ∧ win0_4.index t = ![0, 0] ∧ win0_5.index t = ![0, 0]
    ∧ win0_6.index t = ![t.val, 0, 0] ∧ win0_7.index t = ![0, 10 + t.val] ∧ win0_8.index t = ![0, 10 + t.val]
    ∧ win0_9.index t = ![t.val, 0, 0] := by decide +kernel

theorem point (t : Fin cfg0.N) : t.val < 6 := lt_of_lt_of_eq t.isLt N_0

/-- The arguments. -/
abbrev projections : Mat 2048 5632 := m ((c : Thread nD τ).loc main_arg0)
abbrev sinks : FVec Ideal S6 .f32 := m ((c : Thread nD τ).loc main_arg1)
abbrev old : Mat 2048 2048 := m ((c : Thread nD τ).loc main_arg2)
abbrev old_bf : FVec Ideal S2048x2048 .bf16 := m ((c : Thread nD τ).loc main_arg3)

/-- The head of a grid point. -/
abbrev head (t : Fin cfg0.N) : Fin 6 := ⟨t.val, point t⟩

theorem query_block (t : Fin cfg0.N) : (iblk m c 0 t : Mat 2048 128) = columns (projections m c) ⟨34 + t.val, by have := point t; omega⟩ := by
  funext y
  idx_vars y
  show iblk m c 0 t (ix2 y0 y1) = m ((c : Thread nD τ).loc main_arg0) (ix2 y0 ⟨(34 + t.val) * 128 + y1.val, by have := point t; omega⟩)
  blk_ext! [iblk, V, (index_eq t).1]

theorem key_block (t : Fin cfg0.N) : (iblk m c 1 t : Mat 2048 128) = columns (projections m c) ⟨40 + t.val / 3, by have := point t; omega⟩ := by
  funext y
  idx_vars y
  show iblk m c 1 t (ix2 y0 y1) = m ((c : Thread nD τ).loc main_arg0) (ix2 y0 ⟨(40 + t.val / 3) * 128 + y1.val, by have := point t; omega⟩)
  blk_ext! [iblk, V, (index_eq t).2.1]

theorem value_block (t : Fin cfg0.N) : (iblk m c 2 t : Mat 2048 128) = columns (projections m c) ⟨42 + t.val / 3, by have := point t; omega⟩ := by
  funext y
  idx_vars y
  show iblk m c 2 t (ix2 y0 y1) = m ((c : Thread nD τ).loc main_arg0) (ix2 y0 ⟨(42 + t.val / 3) * 128 + y1.val, by have := point t; omega⟩)
  blk_ext! [iblk, V, (index_eq t).2.2.1]

theorem sink_block (t : Fin cfg0.N) (i : Fin 8) (j : Fin 128) : (iblk m c 6 t (ix3 0 i j) : EReal) = sinks m c (ix1 (head t)) := by
  blk_simp [iblk]
  entry_read
  pointwise
  blk_ext [(index_eq t).2.2.2.2.2.2.1] <;> rfl

/-- Zeros and ones. -/
def none16 : FVec Ideal S2048x16 .f32 := broadcastInDim S2048x16 ![] bcast_S_S2048x16 (constant S_ .f32 0x00000000#32)
def none96 : FVec Ideal S2048x96 .f32 := broadcastInDim S2048x96 ![] bcast_S_S2048x96 (constant S_ .f32 0x00000000#32)
def ones96 : FVec Ideal S2048x96 .f32 := addf none96 (broadcastInDim S2048x96 ![] bcast_S_S2048x96 (constant S_ .f32 0x3F800000#32))

/-- A table of 16, 16 and 96 columns. -/
def table (a b : FVec Ideal S2048x16 .f32) (e : FVec Ideal S2048x96 .f32) : FVec Ideal S2048x128 .f32 :=
  concatenate S2048x128 1 [⟨S2048x16, a⟩, ⟨S2048x16, b⟩, ⟨S2048x96, e⟩] concatenates_S2048x16_S2048x16_S2048x96_S2048x128_d1

theorem table_apply (a b : FVec Ideal S2048x16 .f32) (e : FVec Ideal S2048x96 .f32) (l : Fin 2048) (d : Fin 128) :
    table a b e (ix2 l d) = if h : d.val < 16 then a (ix2 l ⟨d.val, h⟩)
      else if h : d.val < 32 then b (ix2 l ⟨d.val - 16, by omega⟩) else e (ix2 l ⟨d.val - 32, by omega⟩) := by
  unfold table
  pointwise
  by_cases h16 : d.val < 16
  · rw [dif_pos h16, dif_pos h16]
  · by_cases h32 : d.val < 32
    · rw [dif_neg h16, dif_neg h16, dif_pos h32, dif_pos (show d.val - 16 < 16 by omega)]
    · rw [dif_neg h16, dif_neg h16, dif_neg h32, dif_neg (show ¬ d.val - 16 < 16 by omega)]
      exact congrArg e (congrArg (ix2 l) (Fin.ext (show d.val - 16 - 16 = d.val - 32 by omega)))

theorem none16_apply (y : S2048x16.Idx) : none16 y = 0 := by
  unfold none16
  idx_vars y
  pointwise

theorem none96_apply (y : S2048x96.Idx) : none96 y = 0 := by
  unfold none96
  idx_vars y
  pointwise

theorem ones96_apply (y : S2048x96.Idx) : ones96 y = 1 := by
  unfold ones96
  idx_vars y
  show none96 (ix2 y0 y1) + _ = (1 : EReal)
  rw [none96_apply, zero_add]
  pointwise

/-- The three tables the host prepares: the cosines, and the sines for the two shifts. -/
theorem cosines : V m c main_v24 = table (val_main_v16 (F := Ideal)) (val_main_v16 (F := Ideal)) ones96 := by
  unfold V
  after_results_simp
  rfl

theorem sines_after : V m c main_v25 = table none16 (val_main_v17 (F := Ideal)) none96 := by
  unfold V
  after_results_simp
  rfl

theorem sines_before : V m c main_v27 = table (Host.negf (val_main_v17 (F := Ideal))) none16 none96 := by
  unfold V
  after_results_simp
  rfl

theorem before_eq : V m c main_v28_0 = old m c := by
  unfold V
  after_results_simp
  rfl

theorem before_bf_eq : V m c main_v28_1 = old_bf m c := by
  unfold V
  after_results_simp
  rfl

theorem cosine_block (t : Fin cfg0.N) : (iblk m c 3 t : Mat 2048 128) = table (val_main_v16 (F := Ideal)) (val_main_v16 (F := Ideal)) ones96 := by
  rw [← cosines m c]
  funext y
  idx_vars y
  blk_ext! [iblk, (index_eq t).2.2.2.1]

theorem sine_after_block (t : Fin cfg0.N) : (iblk m c 4 t : Mat 2048 128) = table none16 (val_main_v17 (F := Ideal)) none96 := by
  rw [← sines_after m c]
  funext y
  idx_vars y
  blk_ext! [iblk, (index_eq t).2.2.2.2.1]

theorem sine_before_block (t : Fin cfg0.N) : (iblk m c 5 t : Mat 2048 128) = table (Host.negf (val_main_v17 (F := Ideal))) none16 none96 := by
  rw [← sines_before m c]
  funext y
  idx_vars y
  blk_ext! [iblk, (index_eq t).2.2.2.2.2.1]

/-- The tables turn a block as the angles do. -/
theorem turn (u : Mat 2048 128) : k0_pay9 (F := Ideal) (table (val_main_v16 (F := Ideal)) (val_main_v16 (F := Ideal)) ones96)
    (table none16 (val_main_v17 (F := Ideal)) none96) (table (Host.negf (val_main_v17 (F := Ideal))) none16 none96) u = turned u := by
  funext y
  idx_vars y
  rw [Cert.WindowIdeal.Head.turn_eq, table_apply, table_apply, table_apply]
  by_cases h16 : y1.val < 16
  · rw [dif_pos h16, dif_pos h16, dif_pos h16, none16_apply]
    refine Eq.trans ?_ (dif_pos h16).symm
    rw [mul_zero, add_zero, sub_eq_add_neg]
    refine congrArg (HAdd.hAdd _) (Eq.trans (mul_neg _ _) (congrArg (fun e => -(u (ix2 y0 e) * _)) (Fin.ext ?_)))
    show (y1.val + 128 - 112) % 128 = y1.val + 16
    omega
  · rw [dif_neg h16, dif_neg h16, dif_neg h16]
    refine Eq.trans ?_ (dif_neg h16).symm
    by_cases h32 : y1.val < 32
    · rw [dif_pos h32, dif_pos h32, dif_pos h32, none16_apply]
      refine Eq.trans ?_ (dif_pos h32).symm
      rw [mul_zero, add_zero]
      refine congrArg (fun e => _ + e * _) (congrArg (fun e => u (ix2 y0 e)) (Fin.ext ?_))
      show (y1.val + 128 - 16) % 128 = y1.val - 16
      omega
    · rw [dif_neg h32, dif_neg h32, dif_neg h32, none96_apply, ones96_apply]
      refine Eq.trans ?_ (dif_neg h32).symm
      rw [mul_zero, mul_zero, add_zero, add_zero, mul_one]
      rfl

theorem query_eq (t : Fin cfg0.N) : k0_pay9 (F := Ideal) (iblk m c 3 t) (iblk m c 4 t) (iblk m c 5 t) (iblk m c 0 t)
    = queries (projections m c) (head t) := by
  rw [cosine_block, sine_after_block, sine_before_block, query_block, turn]
  rfl

theorem key_eq (t : Fin cfg0.N) : k0_pay10 (F := Ideal) (iblk m c 3 t) (iblk m c 4 t) (iblk m c 5 t) (iblk m c 1 t)
    = keys (projections m c) (head t) := by
  rw [cosine_block, sine_after_block, sine_before_block, key_block]
  refine Eq.trans (funext fun y => ?_) (turn _)
  idx_vars y
  exact Cert.WindowIdeal.Head.turn_key_eq _ _ _ _ _ _

theorem sink_eq (t : Fin cfg0.N) : k0_pay5 (F := Ideal) (View.ld (iblk m c 6 t) (Rect.unit ![0, 0, 0] ![1, 1, 1] inb_S1x8x128_S1x1x1_0_0_0)) (ix2 0 0)
    = sinks m c (ix1 (head t)) := by
  rw [← sink_block m c t 0 0]
  pointwise [k0_pay5]

/-- The logarithms. -/
def logs (x : Mat 2048 5632) (s : FVec Ideal S6 .f32) : FVec Ideal S6x2048x128 .f32 := fun y =>
  lse (queries x (y 0)) (keys x (y 0)) (s (ix1 (y 0))) (blockOf (y 1)) (placeOf (y 1))

/-- What a head's column holds. -/
def headMean (x : Mat 2048 5632) (s : FVec Ideal S6 .f32) (l p : Fin 2048) : EReal :=
  mean (queries x (headOf p)) (keys x (headOf p)) (values x (headOf p)) (s (ix1 (headOf p))) (blockOf l) (placeOf l) (placeOf p)

/-- The heads' columns, and the others as they were. -/
def filled (x : Mat 2048 5632) (s : FVec Ideal S6 .f32) (old : Mat 2048 2048) : Mat 2048 2048 := fun y =>
  if 10 ≤ (y 1).val / 128 then headMean x s (y 0) (y 1) else old y

theorem headMean_eq (x : Mat 2048 5632) (s : FVec Ideal S6 .f32) (l : Fin 2048) (t : Fin cfg0.N) (d : Fin 128)
    (h : (10 + t.val) * 128 + d.val < 2048) : headMean x s l ⟨(10 + t.val) * 128 + d.val, h⟩
      = mean (queries x (head t)) (keys x (head t)) (values x (head t)) (s (ix1 (head t))) (blockOf l) (placeOf l) d := by
  have e : headOf ⟨(10 + t.val) * 128 + d.val, h⟩ = head t :=
    Fin.ext (show ((10 + t.val) * 128 + d.val) / 128 - 10 = t.val by omega)
  have f : placeOf ⟨(10 + t.val) * 128 + d.val, h⟩ = d := Fin.ext (show ((10 + t.val) * 128 + d.val) % 128 = d.val by omega)
  rw [headMean, e, f]

/-- What a grid point writes: its head's logarithms, and its columns. -/
theorem logs_block (t : Fin cfg0.N) (z : Fin 1) (l : Fin 2048) (d : Fin 128) :
    k0_pay3 (F := Ideal) (k0_pay1 (k0_pay24 (k0_pay5 (View.ld (iblk m c 6 t) (Rect.unit ![0, 0, 0] ![1, 1, 1] inb_S1x8x128_S1x1x1_0_0_0)))
          (k0_pay11 (k0_pay9 (iblk m c 3 t) (iblk m c 4 t) (iblk m c 5 t) (iblk m c 0 t))) k0_pay14
          (k0_pay15 (k0_pay11 (k0_pay9 (iblk m c 3 t) (iblk m c 4 t) (iblk m c 5 t) (iblk m c 0 t)))
            (k0_pay10 (iblk m c 3 t) (iblk m c 4 t) (iblk m c 5 t) (iblk m c 1 t)))
          (k0_pay16 (k0_pay11 (k0_pay9 (iblk m c 3 t) (iblk m c 4 t) (iblk m c 5 t) (iblk m c 0 t)))
            (k0_pay10 (iblk m c 3 t) (iblk m c 4 t) (iblk m c 5 t) (iblk m c 1 t)))
          (k0_pay17 (k0_pay10 (iblk m c 3 t) (iblk m c 4 t) (iblk m c 5 t) (iblk m c 1 t))))) (ix3 z l d)
      = logs (projections m c) (sinks m c) (ix3 (head t) l d) := by
  rw [query_eq, key_eq, Cert.WindowIdeal.Head.logs_apply, Cert.WindowIdeal.Head.lse_eq, sink_eq]
  rfl

theorem filled_block (t : Fin cfg0.N) (z : Fin 1) (l : Fin 2048) (d : Fin 128) :
    k0_pay23 (F := Ideal) (k0_pay5 (View.ld (iblk m c 6 t) (Rect.unit ![0, 0, 0] ![1, 1, 1] inb_S1x8x128_S1x1x1_0_0_0)))
          (k0_pay11 (k0_pay9 (iblk m c 3 t) (iblk m c 4 t) (iblk m c 5 t) (iblk m c 0 t))) (k0_pay13 (iblk m c 2 t)) k0_pay14
          (k0_pay15 (k0_pay11 (k0_pay9 (iblk m c 3 t) (iblk m c 4 t) (iblk m c 5 t) (iblk m c 0 t)))
            (k0_pay10 (iblk m c 3 t) (iblk m c 4 t) (iblk m c 5 t) (iblk m c 1 t)))
          (k0_pay16 (k0_pay11 (k0_pay9 (iblk m c 3 t) (iblk m c 4 t) (iblk m c 5 t) (iblk m c 0 t)))
            (k0_pay10 (iblk m c 3 t) (iblk m c 4 t) (iblk m c 5 t) (iblk m c 1 t)))
          (k0_pay17 (k0_pay10 (iblk m c 3 t) (iblk m c 4 t) (iblk m c 5 t) (iblk m c 1 t))) (ix3 z l d)
      = mean (queries (projections m c) (head t)) (keys (projections m c) (head t)) (values (projections m c) (head t))
          (sinks m c (ix1 (head t))) (blockOf l) (placeOf l) d := by
  rw [query_eq, key_eq, Cert.WindowIdeal.Head.mean_eq, sink_eq, value_block]
  rfl

theorem logs_final : (dats m 0 c).arrAt 9 cfg0.N = logs (projections m c) (sinks m c) := by
  refine (dats m 0 c).arrAt_eq_of_covers 9 _ (by decide +kernel) fun t hf y => ?_
  blk_simp
  rw [after0_9]
  frame_out
  idx_vars y
  rw [show ((View.whole main_v28_2).slice (win0_9.rect t)).emb (ix3 y0 y1 y2) = ix3 (head t) y1 y2 by
    funext a; apply Fin.ext; fin_cases a <;> blk_simp [(index_eq t).2.2.2.2.2.2.2.2.2] <;> rfl]
  exact logs_block m c t y0 y1 y2

theorem filled_final : (dats m 0 c).arrAt 7 cfg0.N = filled (projections m c) (sinks m c) (old m c) := by
  rw [← before_eq]
  refine (dats m 0 c).arrAt_eq_of_coversWhere 7 _ (fun β => 10 ≤ β (1 : Fin _)) (by decide +kernel) (fun t hf y => ?_) (fun j => Iff.rfl)
  blk_simp
  rw [after0_7]
  unfold outsAt0
  frame_out
  idx_vars y
  rw [show ((View.whole main_v28_0).slice (win0_7.rect t)).emb (ix2 y0 y1) = ix2 y0 ⟨(10 + t.val) * 128 + y1.val, by have := point t; omega⟩ by
    funext a; apply Fin.ext; fin_cases a <;> blk_simp [(index_eq t).2.2.2.2.2.2.2.1] <;> rfl]
  exact (Cert.WindowIdeal.Head.columns_apply y1 y0 _).trans
    ((filled_block m c t 0 y0 y1).trans (headMean_eq _ _ y0 t y1 _).symm)

theorem filled_bf_final : (dats m 0 c).arrAt 8 cfg0.N = filled (projections m c) (sinks m c) (old_bf m c) := by
  rw [← before_bf_eq]
  refine (dats m 0 c).arrAt_eq_of_coversWhere 8 _ (fun β => 10 ≤ β (1 : Fin _)) (by decide +kernel) (fun t hf y => ?_) (fun j => Iff.rfl)
  blk_simp
  rw [after0_8]
  unfold outsAt0
  frame_out
  idx_vars y
  rw [show ((View.whole main_v28_1).slice (win0_8.rect t)).emb (ix2 y0 y1) = ix2 y0 ⟨(10 + t.val) * 128 + y1.val, by have := point t; omega⟩ by
    funext a; apply Fin.ext; fin_cases a <;> blk_simp [(index_eq t).2.2.2.2.2.2.2.2.1] <;> rfl]
  exact (Cert.WindowIdeal.Head.columns_bf_apply y1 y0 _).trans
    ((filled_block m c t 0 y0 y1).trans (headMean_eq _ _ y0 t y1 _).symm)

/-- The reference's three results. -/
theorem reference_filled (x : Mat 2048 5632) (s : FVec Ideal S6 .f32) (old : Mat 2048 2048) :
    val_main_v138 (F := Ideal) x s old = filled x s old := by
  funext y
  idx_vars y
  exact mixed_eq x s y0 old y1

theorem reference_filled_bf (x : Mat 2048 5632) (s : FVec Ideal S6 .f32) (old : FVec Ideal S2048x2048 .bf16) :
    val_main_v141 (F := Ideal) x s old = filled x s old := by
  funext y
  idx_vars y
  exact mixed_bf_eq x s y0 old y1

theorem reference_logs (x : Mat 2048 5632) (s : FVec Ideal S6 .f32) : val_main_v143 (F := Ideal) x s = logs x s := by
  funext y
  idx_vars y
  exact Cert.WindowRefIdeal.Result.lse_eq x s y0 y2 y1

end Cert.WindowIdeal.Result

namespace Cert.Proof.Window

theorem frame_kernel : Cert.quiescent_Window := fun m ρ _ => Cert.Window.Gen.frame m ρ

theorem frame_ideal : Cert.quiescent_WindowIdeal := fun m ρ _ => Cert.WindowIdeal.Gen.frame m ρ

theorem frame_reference : Cert.quiescent_WindowRefIdeal := fun m ρ _ =>
  (θ_run Cert.WindowRefIdeal.defs _ _).mono
    (fun r h => ⟨fun c => (h c).2.2.2, sem_eq_zero_of_no_sems (by decide) r.2⟩) (Cert.WindowRefIdeal.Value.run m ρ)

theorem algebraic : Cert.algebraic_WindowIdeal_WindowRefIdeal := by
  intro m g m' g' _ hargs
  refine ⟨_, _, _, Cert.WindowIdeal.Value.run_blocks m g, ?_⟩
  refine (θ_run Cert.WindowRefIdeal.defs _ _).mono (fun r h c => ?_) (Cert.WindowRefIdeal.Value.run m' g')
  obtain ⟨h0, h1, h2, hr⟩ := h c
  obtain ⟨a0, a1, a2, a3⟩ := hargs c
  refine ⟨h0.trans ?_, h1.trans ?_, h2.trans ?_, hr⟩
  · rw [Cert.WindowIdeal.Result.filled_final, Cert.WindowRefIdeal.Read.val_main_v138_eq, a0, a1, a2]
    exact Cert.WindowIdeal.Result.reference_filled _ _ _
  · rw [Cert.WindowIdeal.Result.filled_bf_final, Cert.WindowRefIdeal.Read.val_main_v141_eq, a0, a1, a3]
    exact Cert.WindowIdeal.Result.reference_filled_bf _ _ _
  · rw [Cert.WindowIdeal.Result.logs_final, Cert.WindowRefIdeal.Read.val_main_v143_eq, a0, a1]
    exact Cert.WindowIdeal.Result.reference_logs _ _

end Cert.Proof.Window

end
-- ==== Proof.DilatedBand.lean ====
/-
  Attention over a dilated sequence, as sums over the extended reals, and the mixture of three dilations. No program is mentioned
  here: `DilatedHead.lean` shows that the kernel computes it, and `DilatedReference.lean` that the reference does.
-/
module

public import proofs.«01_k».proof.Proof.WindowBand

@[expose] public section

noncomputable section

open Idealize.ShloMosaic Idealize.ShloMosaic.TcCoe Cert.Products

/-! # Dilated attention

A dilation `d` splits 2048 rows into `d` classes of rows that are `d` apart. A class is `e` blocks of 128 rows, and the 16 blocks
of all classes stand class after class. A row sees the keys of its own block up to itself, and of the block before in its class
those from its own place on. -/

namespace Cert.Dilated

open Cert.Band (scale before)

/-- Sixteen blocks of 128 rows. -/
abbrev Blocks := FVec Ideal (⟨3, ![16, 128, 128]⟩ : Shape) .f32

variable (d e : ℕ)

/-- Place `i` of block `b`. -/
def row (b : Fin 16) (i : Fin 128) : Fin 2048 :=
  ⟨(b.val / e + d * ((b.val % e) * 128 + i.val)) % 2048, Nat.mod_lt _ (by decide)⟩

/-- A row's block, and its place there. -/
def blockOf (l : Fin 2048) : Fin 16 := ⟨((l.val % d) * e + l.val / d / 128) % 16, Nat.mod_lt _ (by decide)⟩
def placeOf (l : Fin 2048) : Fin 128 := ⟨(l.val / d) % 128, Nat.mod_lt _ (by decide)⟩

/-- The rows of a sequence, block by block. -/
def blocks (u : Mat 2048 128) : Blocks := fun y => u (ix2 (row d e (y 0) (y 1)) (y 2))

variable (q k v : Blocks) (b : Fin 16) (i : Fin 128)

/-- The scores with the row's own block, and with the block before. -/
def own (j : Fin 128) : EReal := if j ≤ i then (∑ x, q (ix3 b i x) * k (ix3 b j x)) * scale else ⊥
def prev (j : Fin 128) : EReal :=
  if b.val % e ≠ 0 ∧ i ≤ j then (∑ x, q (ix3 b i x) * k (ix3 (before b) j x)) * scale else ⊥

/-- The largest score. -/
def top : EReal := max (Finset.univ.fold max ⊥ (own q k b i)) (Finset.univ.fold max ⊥ (prev e q k b i))

/-- The sum of the weights. -/
def total : EReal := ∑ j, Ideal.exp (own q k b i j - top e q k b i) + ∑ j, Ideal.exp (prev e q k b i j - top e q k b i)

/-- The weighted mean of the values, and the logarithm of the sum of the exponentials. -/
def mean (x : Fin 128) : EReal :=
  Ideal.div (∑ j, Ideal.exp (own q k b i j - top e q k b i) * v (ix3 b j x)
    + ∑ j, Ideal.exp (prev e q k b i j - top e q k b i) * v (ix3 (before b) j x)) (total e q k b i)
def lse : EReal := top e q k b i + Ideal.log (total e q k b i)

/-! ## Classes of one block: no block before -/

/-- A key that is not seen weighs nothing. -/
theorem exp_bot_sub (a : EReal) : Ideal.exp (⊥ - a) = 0 := by
  rw [sub_eq_add_neg, EReal.bot_add]; rfl

theorem prev_one (j : Fin 128) : prev 1 q k b i j = ⊥ := if_neg fun h => h.1 (Nat.mod_one _)

theorem top_one : top 1 q k b i = Finset.univ.fold max ⊥ (own q k b i) := by
  refine max_eq_left (le_trans ?_ bot_le)
  rw [Finset.fold_max_le]
  exact ⟨le_rfl, fun j _ => (prev_one q k b i j).le⟩

theorem total_one : total 1 q k b i = ∑ j, Ideal.exp (own q k b i j - top 1 q k b i) := by
  unfold total
  rw [Finset.sum_eq_zero (M := EReal) fun j _ => (congrArg (fun s => Ideal.exp (s - _)) (prev_one q k b i j)).trans (exp_bot_sub _), add_zero]

theorem mean_one (x : Fin 128) : mean 1 q k v b i x
    = Ideal.div (∑ j, Ideal.exp (own q k b i j - top 1 q k b i) * v (ix3 b j x)) (total 1 q k b i) := by
  have h : ∑ j, Ideal.exp (prev 1 q k b i j - top 1 q k b i) * v (ix3 (before b) j x) = 0 :=
    Finset.sum_eq_zero (M := EReal) fun j _ => by rw [prev_one, exp_bot_sub, zero_mul]
  unfold mean
  rw [h, add_zero]

/-! ## The mixture of three dilations -/

/-- Three logarithms' largest, the sum of their exponentials relative to it, its logarithm, and the mean they weigh. -/
def peak (r s t : EReal) : EReal := max (max r s) t
def mass (r s t : EReal) : EReal :=
  Ideal.exp (r - peak r s t) + Ideal.exp (s - peak r s t) + Ideal.exp (t - peak r s t)
def joint (r s t : EReal) : EReal := peak r s t + Ideal.log (mass r s t)
def mix (r s t x y z : EReal) : EReal :=
  Ideal.div (Ideal.exp (r - peak r s t)) (mass r s t) * x + Ideal.div (Ideal.exp (s - peak r s t)) (mass r s t) * y
    + Ideal.div (Ideal.exp (t - peak r s t)) (mass r s t) * z

/-- A row's mean and logarithm at dilation `d`. -/
def meanAt (q k v : Mat 2048 128) (l : Fin 2048) (x : Fin 128) : EReal :=
  mean e (blocks d e q) (blocks d e k) (blocks d e v) (blockOf d e l) (placeOf d l) x
def lseAt (q k : Mat 2048 128) (l : Fin 2048) : EReal :=
  lse e (blocks d e q) (blocks d e k) (blockOf d e l) (placeOf d l)

/-- A row's result, and its logarithm. -/
def attend (q k v : Mat 2048 128) (l : Fin 2048) (x : Fin 128) : EReal :=
  mix (lseAt 1 16 q k l) (lseAt 4 4 q k l) (lseAt 16 1 q k l)
    (meanAt 1 16 q k v l x) (meanAt 4 4 q k v l x) (meanAt 16 1 q k v l x)
def attendLog (q k : Mat 2048 128) (l : Fin 2048) : EReal :=
  joint (lseAt 1 16 q k l) (lseAt 4 4 q k l) (lseAt 16 1 q k l)

/-! ## Blocks and places of rows -/

theorem row_val_4 : (row 4 4 b i).val = b.val / 4 + 4 * ((b.val % 4) * 128 + i.val) := by
  show (b.val / 4 + 4 * ((b.val % 4) * 128 + i.val)) % 2048 = _; omega
theorem row_val_16 : (row 16 1 b i).val = b.val + 16 * i.val := by
  show (b.val / 1 + 16 * ((b.val % 1) * 128 + i.val)) % 2048 = _; omega

theorem div_mod_4 : ((row 4 4 b i).val / 4 = (b.val % 4) * 128 + i.val) ∧ (row 4 4 b i).val % 4 = b.val / 4 := by
  rw [row_val_4]; omega
theorem blockOf_row_4 : blockOf 4 4 (row 4 4 b i) = b := by
  apply Fin.ext
  show ((row 4 4 b i).val % 4 * 4 + (row 4 4 b i).val / 4 / 128) % 16 = b.val
  rw [(div_mod_4 b i).1, (div_mod_4 b i).2]; omega
theorem placeOf_row_4 : placeOf 4 (row 4 4 b i) = i := by
  apply Fin.ext; show (row 4 4 b i).val / 4 % 128 = i.val; rw [(div_mod_4 b i).1]; omega
theorem blockOf_row_16 : blockOf 16 1 (row 16 1 b i) = b := by
  apply Fin.ext; show ((row 16 1 b i).val % 16 * 1 + (row 16 1 b i).val / 16 / 128) % 16 = b.val; rw [row_val_16]; omega
theorem placeOf_row_16 : placeOf 16 (row 16 1 b i) = i := by
  apply Fin.ext; show (row 16 1 b i).val / 16 % 128 = i.val; rw [row_val_16]; omega

/-! ## The masks, as comparisons of words -/

theorem prev_mask : ∀ i j : Fin 128,
    IntOp.cmpi .sle (IntOp.subi (IntOp.addi (128#32) (BitVec.ofNat 32 i.val)) (BitVec.ofNat 32 j.val)) 128#32
      = if i ≤ j then 1#1 else 0#1 := by
  decide +kernel

theorem band_mask : ∀ (i : Fin 128) (x : Fin 256),
    IntOp.andi
        (IntOp.cmpi .sge (IntOp.subi (IntOp.addi (128#32) (BitVec.ofNat 32 i.val)) (BitVec.ofNat 32 x.val)) 0#32)
        (IntOp.cmpi .sle (IntOp.subi (IntOp.addi (128#32) (BitVec.ofNat 32 i.val)) (BitVec.ofNat 32 x.val)) 128#32)
      = if x.val ≤ 128 + i.val ∧ i.val ≤ x.val then 1#1 else 0#1 := by
  decide +kernel

end Cert.Dilated

end
-- ==== Proof.DilatedHead.lean ====
/-
  What one grid point of the dilated attention computes from its queries, keys and values in blocks, at each of the three
  dilations, and from the three dilations' means and logarithms.
-/
module

public import proofs.«01_k».proof.Defs
public import proofs.«01_k».proof.Proof.DilatedBand
public import proofs.«01_k».proof.Proof.Gen.DilatedIdeal
public import proofs.«01_k».proof.Proof.Gen.DilatedIdeal.Skeleton

@[expose] public section

set_option maxRecDepth 16384

noncomputable section

open Idealize.ShloMosaic Idealize.ShloMosaic.TcCoe Idealize.SL.Sem Cert.Products Cert.Dilated

/-! # Dilated attention at one grid point

A grid point is a head. The scores stand in two arrays of sixteen blocks, with a row's own block and with the block before;
the first block takes itself for the block before, and its scores there are masked. At dilation 16 a class is one block, and
the kernel has no scores with a block before. -/

namespace Cert.DilatedIdeal.Head

open Cert.DilatedIdeal Cert.DilatedIdeal.Gen
open Cert.Band (scale before own_mask select_ite and_ite)

variable (q k v : Blocks) (b : Fin 16) (i j x : Fin 128) (l : Fin 2048) (z : Fin 1)

/-! ## Dilation 1 -/

theorem own1 : k0_pay13 (F := Ideal) q k (ix3 b i j) = own q k b i j := by
  pointwise [k0_pay13]
  rw [own_mask, select_ite]
  unfold own
  by_cases h : j ≤ i
  · exact (if_pos h).trans (if_pos h).symm
  · exact (if_neg h).trans (Cert.Finite.neg_inf_f32.trans (if_neg h).symm)

theorem largest1 : k0_pay14 (F := Ideal) q k (ix3 b i z) = Finset.univ.fold max ⊥ (own q k b i) := by
  pointwise [k0_pay14]
  rw [funext (own1 q k b i)]
  exact congrArg (fun e => Finset.univ.fold max e _) Cert.Finite.neg_inf_f32

theorem mask1 : k0_pay12 (ix3 b i j) = if b.val % 16 ≠ 0 ∧ i ≤ j then 1#1 else 0#1 := by
  pointwise [k0_pay12]
  rw [prev_mask, ← and_ite]
  congr 1
  revert b
  decide +kernel

theorem shifted1 : k0_pay16 (F := Ideal) q k (ix3 b i j) = ∑ d, q (ix3 b i d) * k (ix3 (before b) j d) := by
  pointwise [k0_pay16]
  refine Finset.sum_congr (M := EReal) rfl fun d _ => congrArg (HMul.hMul _) ?_
  split
  · exact congrArg (fun r => k (ix3 r j d)) (Fin.ext (show b.val = b.val - 1 by omega))
  · exact congrArg (fun r => k (ix3 r j d)) (Fin.ext rfl)

theorem prev1 : k0_pay17 (F := Ideal) k0_pay12 (k0_pay16 (F := Ideal) q k) (ix3 b i j) = prev 16 q k b i j := by
  pointwise [k0_pay17]
  rw [shifted1, mask1, select_ite]
  unfold prev
  by_cases h : b.val % 16 ≠ 0 ∧ i ≤ j
  · exact (if_pos h).trans (if_pos h).symm
  · exact (if_neg h).trans (Cert.Finite.neg_inf_f32.trans (if_neg h).symm)

theorem top1 : k0_pay18 (F := Ideal) k0_pay12 (k0_pay14 (F := Ideal) q k) (k0_pay16 (F := Ideal) q k) (ix3 b i z) = top 16 q k b i := by
  pointwise [k0_pay18]
  rw [largest1, funext (prev1 q k b i)]
  exact congrArg (fun e => max _ (Finset.univ.fold max e _)) Cert.Finite.neg_inf_f32

theorem total1 : k0_pay21 (F := Ideal) k0_pay12 (k0_pay13 (F := Ideal) q k) (k0_pay14 (F := Ideal) q k) (k0_pay16 (F := Ideal) q k) (ix3 b i z)
    = total 16 q k b i := by
  pointwise [k0_pay21, k0_pay20, k0_pay19]
  simp only [top1, own1, prev1]
  rfl

/-- The rows in blocks, at dilation 1. -/
theorem dense_blocks (u : Mat 2048 128) : k0_pay9 (F := Ideal) u = blocks 1 16 u := by
  funext y
  idx_vars y
  pointwise [k0_pay9]
  refine congrArg (fun r => u (ix2 r y2)) (Fin.ext ?_)
  show y0.val * 128 + y1.val = (y0.val / 16 + 1 * ((y0.val % 16) * 128 + y1.val)) % 2048
  rw [Nat.div_eq_of_lt y0.isLt, Nat.mod_eq_of_lt y0.isLt]
  omega

theorem dense_keys (u : Mat 2048 128) : k0_pay10 (F := Ideal) u = blocks 1 16 u := dense_blocks u

theorem dense_values (u : Mat 2048 128) : k0_pay11 (F := Ideal) u = blocks 1 16 u := dense_blocks u

theorem before_values (u : Mat 2048 128) : k0_pay15 (F := Ideal) u (ix3 b j x) = blocks 1 16 u (ix3 (before b) j x) := by
  pointwise [k0_pay15]
  rw [dense_values]
  split
  · exact congrArg (fun r => blocks 1 16 u (ix3 r j x)) (Fin.ext (show b.val = b.val - 1 by omega))
  · exact congrArg (fun r => blocks 1 16 u (ix3 r j x)) (Fin.ext rfl)

theorem mean1 (u : Mat 2048 128) : k0_pay22 (F := Ideal) (k0_pay11 (F := Ideal) u) k0_pay12 (k0_pay13 (F := Ideal) q k)
    (k0_pay14 (F := Ideal) q k) (k0_pay15 (F := Ideal) u) (k0_pay16 (F := Ideal) q k) (ix3 z l x)
      = mean 16 q k (blocks 1 16 u) (blockOf 1 16 l) (placeOf 1 l) x := by
  pointwise [k0_pay22, k0_pay20, k0_pay19]
  rw [total1]
  simp only [top1, own1, prev1, before_values, dense_values]
  have hb : (⟨l.val / 128, by omega⟩ : Fin 16) = blockOf 1 16 l :=
    Fin.ext (show l.val / 128 = ((l.val % 1) * 16 + l.val / 1 / 128) % 16 by omega)
  have hp : (⟨l.val % 128, by omega⟩ : Fin 128) = placeOf 1 l := Fin.ext (show l.val % 128 = (l.val / 1) % 128 by omega)
  rw [← hb, ← hp]
  rfl

theorem log1 : k0_pay23 (F := Ideal) k0_pay12 (k0_pay13 (F := Ideal) q k) (k0_pay14 (F := Ideal) q k) (k0_pay16 (F := Ideal) q k) (ix3 z l x)
      = lse 16 q k (blockOf 1 16 l) (placeOf 1 l) := by
  pointwise [k0_pay23]
  rw [top1, total1]
  have hb : (⟨l.val / 128, by omega⟩ : Fin 16) = blockOf 1 16 l :=
    Fin.ext (show l.val / 128 = ((l.val % 1) * 16 + l.val / 1 / 128) % 16 by omega)
  have hp : (⟨l.val % 128, by omega⟩ : Fin 128) = placeOf 1 l := Fin.ext (show l.val % 128 = (l.val / 1) % 128 by omega)
  rw [← hb, ← hp]
  rfl

/-! ## Dilation 4 -/

theorem own4 : k0_pay50 (F := Ideal) q k (ix3 b i j) = own q k b i j := own1 q k b i j

theorem largest4 : k0_pay51 (F := Ideal) q k (ix3 b i z) = Finset.univ.fold max ⊥ (own q k b i) := largest1 q k b i z

theorem mask4 : k0_pay49 (ix3 b i j) = if b.val % 4 ≠ 0 ∧ i ≤ j then 1#1 else 0#1 := by
  pointwise [k0_pay49]
  rw [prev_mask, ← and_ite]
  congr 1
  revert b
  decide +kernel

theorem prev4 : k0_pay54 (F := Ideal) q k0_pay49 (k0_pay52 (F := Ideal) k) (k0_pay53 (F := Ideal) k) (ix3 b i j) = prev 4 q k b i j := by
  have h : k0_pay54 (F := Ideal) q k0_pay49 (k0_pay52 (F := Ideal) k) (k0_pay53 (F := Ideal) k) (ix3 b i j)
      = Scalar.select (k0_pay49 (ix3 b i j)) (k0_pay16 (F := Ideal) q k (ix3 b i j) * scale) (Ideal.ofBits .f32 0xFF800000#32) := rfl
  rw [h, shifted1, mask4, select_ite]
  unfold prev
  by_cases h : b.val % 4 ≠ 0 ∧ i ≤ j
  · exact (if_pos h).trans (if_pos h).symm
  · exact (if_neg h).trans (Cert.Finite.neg_inf_f32.trans (if_neg h).symm)

theorem top4 : k0_pay55 (F := Ideal) q k0_pay49 (k0_pay51 (F := Ideal) q k) (k0_pay52 (F := Ideal) k) (k0_pay53 (F := Ideal) k) (ix3 b i z)
    = top 4 q k b i := by
  pointwise [k0_pay55]
  rw [largest4, funext (prev4 q k b i)]
  exact congrArg (fun e => max _ (Finset.univ.fold max e _)) Cert.Finite.neg_inf_f32

theorem total4 : k0_pay58 (F := Ideal) q k0_pay49 (k0_pay50 (F := Ideal) q k) (k0_pay51 (F := Ideal) q k) (k0_pay52 (F := Ideal) k)
    (k0_pay53 (F := Ideal) k) (ix3 b i z) = total 4 q k b i := by
  pointwise [k0_pay58, k0_pay57, k0_pay56]
  simp only [top4, own4, prev4]
  rfl

theorem mean4 : k0_pay59 (F := Ideal) q v k0_pay49 (k0_pay50 (F := Ideal) q k) (k0_pay51 (F := Ideal) q k) (k0_pay52 (F := Ideal) k)
    (k0_pay53 (F := Ideal) k) (ix3 b i x) = mean 4 q k v b i x := by
  pointwise [k0_pay59, k0_pay57, k0_pay56]
  rw [total4]
  simp only [top4, own4, prev4]
  unfold mean
  refine congrArg (fun e => Ideal.div (_ + e) _) (Finset.sum_congr (M := EReal) rfl fun y _ => congrArg (HMul.hMul _) ?_)
  split
  · exact congrArg (fun r => v (ix3 r y x)) (Fin.ext (show b.val = b.val - 1 by omega))
  · exact congrArg (fun r => v (ix3 r y x)) (Fin.ext rfl)

theorem log4 : k0_pay79 (F := Ideal)
    (k0_pay55 (F := Ideal) q k0_pay49 (k0_pay51 (F := Ideal) q k) (k0_pay52 (F := Ideal) k) (k0_pay53 (F := Ideal) k))
    (k0_pay58 (F := Ideal) q k0_pay49 (k0_pay50 (F := Ideal) q k) (k0_pay51 (F := Ideal) q k) (k0_pay52 (F := Ideal) k) (k0_pay53 (F := Ideal) k))
    (ix3 b i x) = lse 4 q k b i := by
  pointwise [k0_pay79]
  rw [top4, total4]
  rfl

/-! ## Dilation 16 -/

/-- The products are added to zeros. -/
abbrev zeros : Blocks := constant (F := Ideal) S16x128x128 .f32 0x00000000#32

theorem own16 : k0_pay103 (F := Ideal) q k k0_pay102 zeros (ix3 b i j) = own q k b i j := own1 q k b i j

theorem top16 : k0_pay104 (F := Ideal) q k k0_pay102 zeros (ix3 b i z) = top 1 q k b i :=
  (largest1 q k b i z).trans (top_one q k b i).symm

theorem total16 : k0_pay106 (F := Ideal) q k k0_pay102 zeros (ix3 b i z) = total 1 q k b i := by
  rw [total_one]
  pointwise [k0_pay106, k0_pay105]
  simp only [top16, own16]

theorem mean16 : k0_pay107 (F := Ideal) q k v k0_pay102 zeros (ix3 b i x) = mean 1 q k v b i x := by
  rw [mean_one]
  pointwise [k0_pay107, k0_pay105]
  rw [total16]
  simp only [top16, own16]

theorem log16 : k0_pay126 (F := Ideal) (k0_pay104 (F := Ideal) q k k0_pay102 zeros) (k0_pay106 (F := Ideal) q k k0_pay102 zeros) (ix3 b i x)
    = lse 1 q k b i := by
  pointwise [k0_pay126]
  rw [top16, total16]
  rfl

/-! ## The mixture -/

theorem joint_eq (r s t : FVec Ideal S1x2048x128 .f32) : k0_pay2 (F := Ideal) (k0_pay150 (F := Ideal) r s t) (k0_pay154 (F := Ideal) r s t) (ix3 z l x)
    = joint (r (ix3 0 l x)) (s (ix3 0 l x)) (t (ix3 0 l x)) := by
  pointwise [k0_pay2, k0_pay154, k0_pay153, k0_pay152, k0_pay151, k0_pay150, k0_pay149, k0_pay148, k0_pay147]
  rfl

theorem mix_eq (r s t f g h : FVec Ideal S1x2048x128 .f32) :
    k0_pay1 (F := Ideal) (k0_pay153 (F := Ideal) r s t) (k0_pay154 (F := Ideal) r s t) (k0_pay155 (F := Ideal) r s t f)
      (k0_pay156 (F := Ideal) r s t g) h (ix2 l x)
    = mix (r (ix3 0 l x)) (s (ix3 0 l x)) (t (ix3 0 l x)) (f (ix3 0 l x)) (g (ix3 0 l x)) (h (ix3 0 l x)) := by
  pointwise [k0_pay1, k0_pay156, k0_pay155, k0_pay154, k0_pay153, k0_pay152, k0_pay151, k0_pay150, k0_pay149, k0_pay148, k0_pay147]
  rfl

/-- The turning with the three tables: the column itself, and those 16 before and 16 after. -/
theorem turn_eq (f g h u : Mat 2048 128) : k0_pay7 (F := Ideal) f g h u (ix2 l x)
    = u (ix2 l x) * f (ix2 l x) + u (ix2 l ⟨(x.val + 128 - 16) % 128, by omega⟩) * g (ix2 l x)
      + u (ix2 l ⟨(x.val + 128 - 112) % 128, by omega⟩) * h (ix2 l x) := by
  pointwise [k0_pay7, k0_pay4, k0_pay5, k0_pay6]

theorem turn_key_eq (f g h u : Mat 2048 128) : k0_pay8 (F := Ideal) f g h u (ix2 l x) = k0_pay7 (F := Ideal) f g h u (ix2 l x) := by
  rw [turn_eq]
  pointwise [k0_pay8, k0_pay4, k0_pay5, k0_pay6]

end Cert.DilatedIdeal.Head

end
-- ==== Proof.DilatedStore.lean ====
/-
  Two scratch arrays of the dilated attention hold the three dilations' results in three planes, each row at its place in the
  sequence: a plane is stored whole, or in sixteen stripes of rows that are 4 or 16 apart. Blocks of rows are read the same way.
-/
module

public import proofs.«01_k».proof.Defs
public import proofs.«01_k».proof.Proof.DilatedBand
public import proofs.«01_k».proof.Proof.Gen.DilatedIdeal
public import proofs.«01_k».proof.Proof.Gen.DilatedIdeal.Skeleton

@[expose] public section

set_option maxRecDepth 16384

noncomputable section

open Idealize.ShloMosaic Idealize.ShloMosaic.TcCoe Idealize.SL.Sem Cert.Products Cert.Dilated

namespace Cert.DilatedIdeal.Store

open Cert.DilatedIdeal Cert.DilatedIdeal.Gen

/-! ## Rectangles -/

/-- Plane `p`. -/
theorem plane_inb (p : ℕ) (hp : p < 3) : ∀ a, (![p, 0, 0] : Fin 3 → ℕ) a + (![1, 2048, 128] : Fin 3 → ℕ) a ≤ S3x2048x128.size a := by
  intro a
  match a with
  | ⟨0, _⟩ => show p + 1 ≤ 3; omega
  | ⟨1, _⟩ => show 0 + 2048 ≤ 2048; omega
  | ⟨2, _⟩ => show 0 + 128 ≤ 128; omega

@[reducible] def plane (p : ℕ) (hp : p < 3) : Rect S3x2048x128 := Rect.unit ![p, 0, 0] ![1, 2048, 128] (plane_inb p hp)

/-- 128 rows that are `d` apart, from row `o` on. -/
theorem box_inb (o d : ℕ) (h : o + d * 127 < 2048) :
    ∀ a, (![128, 128] : Fin 2 → ℕ) a = 0 ∨ (![o, 0] : Fin 2 → ℕ) a + (![d, 1] : Fin 2 → ℕ) a * ((![128, 128] : Fin 2 → ℕ) a - 1) < S2048x128.size a := by
  intro a
  match a with
  | ⟨0, _⟩ => exact Or.inr h
  | ⟨1, _⟩ => exact Or.inr (show 0 + 1 * (128 - 1) < 128 by omega)

@[reducible] def box (o d : ℕ) (h : o + d * 127 < 2048) : LoadRect S2048x128 := ⟨![o, 0], ![128, 128], ![d, 1], box_inb o d h⟩

theorem box_pos (d : ℕ) (hd : 0 < d) : ∀ a, 0 < (![d, 1] : Fin 2 → ℕ) a := by
  intro a
  match a with
  | ⟨0, _⟩ => exact hd
  | ⟨1, _⟩ => exact Nat.one_pos

@[reducible] def stripe (o d : ℕ) (h : o + d * 127 < 2048) (hd : 0 < d) : Rect S2048x128 := ⟨box o d h, box_pos d hd⟩

/-- A stripe of plane `p`. -/
@[reducible] def lifted (o d : ℕ) (h : o + d * 127 < 2048) (hd : 0 < d) : Rect (⟨3, ![1, 2048, 128]⟩ : Shape) :=
  Rect.consLift (d := ![2048, 128]) (stripe o d h hd) ![1, 2048, 128] (by decide) (by decide)

@[reducible] def region (p o d : ℕ) (hp : p < 3) (h : o + d * 127 < 2048) (hd : 0 < d) : Rect S3x2048x128 :=
  (plane p hp).within (lifted o d h hd) (fun _ => rfl)

/-- What is stored there. -/
@[reducible] def piece (p o d : ℕ) (hp : p < 3) (h : o + d * 127 < 2048) (hd : 0 < d) (w : Vec Ideal S128x128 .f32) :
    View.Piece (Elt Ideal) S3x2048x128 .f32 :=
  ⟨region p o d hp h hd, Rect.payAlong (R := lifted o d h hd)
    (Rect.numel_consLift (d := ![2048, 128]) (stripe o d h hd) ![1, 2048, 128] (by decide) (by decide)) w⟩

/-- The element of a stripe at row `r` and column `x`. -/
theorem region_emb (p o d : ℕ) (hp : p < 3) (h : o + d * 127 < 2048) (hd : 0 < d) (y : (region p o d hp h hd).shape.Idx) :
    ∃ (r x : Fin 128), (region p o d hp h hd).emb y = ix3 ⟨p, hp⟩ ⟨o + d * r.val, by have := Nat.mul_le_mul_left d (show r.val ≤ 127 by omega); omega⟩ x
      ∧ ∀ w : Vec Ideal S128x128 .f32, (piece p o d hp h hd w).2 y = w (ix2 r x) := by
  have y0 : (y 0).val < 1 := (y 0).isLt
  refine ⟨⟨(y 1).val, (y 1).isLt⟩, ⟨(y 2).val, (y 2).isLt⟩, ?_, fun w => ?_⟩
  · funext a
    apply Fin.ext
    match a with
    | ⟨0, _⟩ => show p + 0 + 1 * (y 0).val = p; omega
    | ⟨1, _⟩ => show 0 + o + d * (y 1).val = o + d * (y 1).val; omega
    | ⟨2, _⟩ => show 0 + 0 + 1 * (y 2).val = (y 2).val; omega
  · refine Rect.payAlong_consLift (d := ![2048, 128]) (stripe o d h hd) ![1, 2048, 128] (by decide) (by decide) w _ y _ fun i => ?_
    match i with
    | ⟨0, _⟩ => rfl
    | ⟨1, _⟩ => rfl

/-- A row of a stripe lies there. -/
theorem mem_region (p o d : ℕ) (hp : p < 3) (h : o + d * 127 < 2048) (hd : 0 < d) (l : Fin 2048) (x r : Fin 128)
    (e : l.val = o + d * r.val) : ix3 (⟨p, hp⟩ : Fin 3) l x ∈ (region p o d hp h hd).set := by
  rw [LoadRect.mem_set]
  intro a
  match a with
  | ⟨0, _⟩ => exact ⟨0, Nat.one_pos, show p = p + 0 + 1 * 0 by omega⟩
  | ⟨1, _⟩ => exact ⟨r.val, r.isLt, show l.val = 0 + o + d * r.val by omega⟩
  | ⟨2, _⟩ => exact ⟨x.val, x.isLt, show x.val = 0 + 0 + 1 * x.val by omega⟩

/-! ## The three planes -/

/-- The stripes of plane 1 are 4 apart, and those of plane 2 are 16 apart. -/
@[reducible] def piece4 (o : ℕ) (h : o + 4 * 127 < 2048) (w : Vec Ideal S128x128 .f32) : View.Piece (Elt Ideal) S3x2048x128 .f32 :=
  piece 1 o 4 (by decide) h (by decide) w
@[reducible] def piece16 (o : ℕ) (h : o + 16 * 127 < 2048) (w : Vec Ideal S128x128 .f32) : View.Piece (Elt Ideal) S3x2048x128 .f32 :=
  piece 2 o 16 (by decide) h (by decide) w

/-- The stores, the last one first. -/
@[reducible] def stack (w : Vec Ideal S1x2048x128 .f32) (a0 a1 a2 a3 a4 a5 a6 a7 a8 a9 a10 a11 a12 a13 a14 a15 b0 b1 b2 b3 b4 b5 b6 b7 b8 b9 b10 b11 b12 b13 b14 b15 : Vec Ideal S128x128 .f32) : List (View.Piece (Elt Ideal) S3x2048x128 .f32) :=
  [piece16 15 (by decide) b15, piece16 14 (by decide) b14, piece16 13 (by decide) b13, piece16 12 (by decide) b12,
   piece16 11 (by decide) b11, piece16 10 (by decide) b10, piece16 9 (by decide) b9, piece16 8 (by decide) b8,
   piece16 7 (by decide) b7, piece16 6 (by decide) b6, piece16 5 (by decide) b5, piece16 4 (by decide) b4,
   piece16 3 (by decide) b3, piece16 2 (by decide) b2, piece16 1 (by decide) b1, piece16 0 (by decide) b0,
   piece4 1539 (by decide) a15, piece4 1027 (by decide) a14, piece4 515 (by decide) a13, piece4 3 (by decide) a12,
   piece4 1538 (by decide) a11, piece4 1026 (by decide) a10, piece4 514 (by decide) a9, piece4 2 (by decide) a8,
   piece4 1537 (by decide) a7, piece4 1025 (by decide) a6, piece4 513 (by decide) a5, piece4 1 (by decide) a4,
   piece4 1536 (by decide) a3, piece4 1024 (by decide) a2, piece4 512 (by decide) a1, piece4 0 (by decide) a0,
   ⟨plane 0 (by decide), w⟩]

variable (f : Fin 2048 → Fin 128 → EReal) (g h : Fin 16 → Fin 128 → Fin 128 → EReal)

/-- What the planes hold, from the rows at dilation 1 and the blocks at dilations 4 and 16. -/
def held (p : Fin 3) (l : Fin 2048) (x : Fin 128) : EReal :=
  if p = 0 then f l x else if p = 1 then g (blockOf 4 4 l) (placeOf 4 l) x else h (blockOf 16 1 l) (placeOf 16 l) x

abbrev heldAt : S3x2048x128.Idx → EReal := fun y => held f g h (y 0) (y 1) (y 2)

/-- A store that agrees with what the planes hold. -/
abbrev Agrees (p : View.Piece (Elt Ideal) S3x2048x128 .f32) : Prop := ∀ y : p.1.shape.Idx, p.2 y = heldAt f g h (p.1.emb y)

theorem agrees_dense (w : Vec Ideal S1x2048x128 .f32) (hw : ∀ l x, w (ix3 0 l x) = f l x) : Agrees f g h ⟨plane 0 (by decide), w⟩ := by
  intro y
  have e : (plane 0 (by decide)).emb y = ix3 (0 : Fin 3) (⟨(y 1).val, (y 1).isLt⟩ : Fin 2048) (⟨(y 2).val, (y 2).isLt⟩ : Fin 128) := by
    have y0 : (y 0).val < 1 := (y 0).isLt
    funext a
    apply Fin.ext
    match a with
    | ⟨0, _⟩ => show 0 + 1 * (y 0).val = 0; omega
    | ⟨1, _⟩ => show 0 + 1 * (y 1).val = (y 1).val; omega
    | ⟨2, _⟩ => show 0 + 1 * (y 2).val = (y 2).val; omega
  have e' : y = ix3 (0 : Fin 1) (⟨(y 1).val, (y 1).isLt⟩ : Fin 2048) (⟨(y 2).val, (y 2).isLt⟩ : Fin 128) := by
    have y0 : (y 0).val < 1 := (y 0).isLt
    funext a
    apply Fin.ext
    match a with
    | ⟨0, _⟩ => show (y 0).val = 0; omega
    | ⟨1, _⟩ => rfl
    | ⟨2, _⟩ => rfl
  show w y = heldAt f g h ((plane 0 (by decide)).emb y)
  rw [e]
  exact (congrArg w e').trans (hw _ _)

theorem agrees4 (b : Fin 16) (o : ℕ) (ho : o + 4 * 127 < 2048) (e : o = b.val / 4 + 512 * (b.val % 4)) (w : Vec Ideal S128x128 .f32)
    (hw : ∀ r x, w (ix2 r x) = g b r x) : Agrees f g h (piece4 o ho w) := by
  intro y
  obtain ⟨r, x, e1, e2⟩ := region_emb 1 o 4 (by decide) ho (by decide) y
  refine ((e2 w).trans (hw r x)).trans ?_
  show _ = heldAt f g h ((region 1 o 4 (by decide) ho (by decide)).emb y)
  rw [e1]
  have er : (⟨o + 4 * r.val, by omega⟩ : Fin 2048) = row 4 4 b r := Fin.ext (by rw [row_val_4]; show o + 4 * r.val = _; omega)
  show _ = held f g h 1 (⟨o + 4 * r.val, _⟩ : Fin 2048) x
  rw [er]
  unfold held
  rw [if_neg (by decide), if_pos rfl, blockOf_row_4, placeOf_row_4]

theorem agrees16 (b : Fin 16) (o : ℕ) (ho : o + 16 * 127 < 2048) (e : o = b.val) (w : Vec Ideal S128x128 .f32)
    (hw : ∀ r x, w (ix2 r x) = h b r x) : Agrees f g h (piece16 o ho w) := by
  intro y
  obtain ⟨r, x, e1, e2⟩ := region_emb 2 o 16 (by decide) ho (by decide) y
  refine ((e2 w).trans (hw r x)).trans ?_
  show _ = heldAt f g h ((region 2 o 16 (by decide) ho (by decide)).emb y)
  rw [e1]
  have er : (⟨o + 16 * r.val, by omega⟩ : Fin 2048) = row 16 1 b r := Fin.ext (by rw [row_val_16]; show o + 16 * r.val = _; omega)
  show _ = held f g h 2 (⟨o + 16 * r.val, _⟩ : Fin 2048) x
  rw [er]
  unfold held
  rw [if_neg (by decide), if_neg (by decide), blockOf_row_16, placeOf_row_16]

theorem agrees_cons (p : View.Piece (Elt Ideal) S3x2048x128 .f32) (L : List (View.Piece (Elt Ideal) S3x2048x128 .f32))
    (hp : Agrees f g h p) (hL : ∀ q ∈ L, Agrees f g h q) : ∀ q ∈ p :: L, Agrees f g h q :=
  List.forall_mem_cons.mpr ⟨hp, hL⟩

/-- Some store reaches every element. -/
theorem reached_cons (P : Prop) (p : View.Piece (Elt Ideal) S3x2048x128 .f32) (L : List (View.Piece (Elt Ideal) S3x2048x128 .f32))
    (y : S3x2048x128.Idx) (hp : P → y ∈ p.1.set) (hL : ¬P → ∃ q ∈ L, y ∈ q.1.set) : ∃ q ∈ p :: L, y ∈ q.1.set := by
  by_cases hP : P
  · exact ⟨p, List.mem_cons_self, hp hP⟩
  · obtain ⟨q, hq, hy⟩ := hL hP
    exact ⟨q, List.mem_cons_of_mem _ hq, hy⟩

theorem reached4 (b : Fin 16) (o : ℕ) (ho : o + 4 * 127 < 2048) (e : o = b.val / 4 + 512 * (b.val % 4)) (w : Vec Ideal S128x128 .f32)
    (p : Fin 3) (l : Fin 2048) (x : Fin 128) (hb : p.val = 1 ∧ (l.val % 4) * 4 + l.val / 4 / 128 = b.val) :
    ix3 p l x ∈ (piece4 o ho w).1.set := by
  obtain rfl : p = 1 := Fin.ext hb.1
  refine mem_region 1 o 4 (by decide) ho (by decide) l x ⟨l.val / 4 % 128, by omega⟩ ?_
  show l.val = o + 4 * (l.val / 4 % 128)
  have := hb.2
  omega

theorem reached16 (b : Fin 16) (o : ℕ) (ho : o + 16 * 127 < 2048) (e : o = b.val) (w : Vec Ideal S128x128 .f32)
    (p : Fin 3) (l : Fin 2048) (x : Fin 128) (hb : p.val = 2 ∧ l.val % 16 = b.val) : ix3 p l x ∈ (piece16 o ho w).1.set := by
  obtain rfl : p = 2 := Fin.ext hb.1
  refine mem_region 2 o 16 (by decide) ho (by decide) l x ⟨l.val / 16, by omega⟩ ?_
  show l.val = o + 16 * (l.val / 16)
  have := hb.2
  omega

theorem reached_dense (w : Vec Ideal S1x2048x128 .f32) (l : Fin 2048) (x : Fin 128) :
    ix3 (0 : Fin 3) l x ∈ (⟨plane 0 (by decide), w⟩ : View.Piece (Elt Ideal) S3x2048x128 .f32).1.set := by
  rw [LoadRect.mem_set]
  intro a
  match a with
  | ⟨0, _⟩ => exact ⟨0, Nat.one_pos, show 0 = 0 + 1 * 0 by omega⟩
  | ⟨1, _⟩ => exact ⟨l.val, l.isLt, show l.val = 0 + 1 * l.val by omega⟩
  | ⟨2, _⟩ => exact ⟨x.val, x.isLt, show x.val = 0 + 1 * x.val by omega⟩

/-- A plane read after all the stores. -/
theorem read_plane {sp : Space} {κ : Kind} (v : View sig κ sp S3x2048x128 .f32) (w : Vec Ideal S1x2048x128 .f32) (a0 a1 a2 a3 a4 a5 a6 a7 a8 a9 a10 a11 a12 a13 a14 a15 b0 b1 b2 b3 b4 b5 b6 b7 b8 b9 b10 b11 b12 b13 b14 b15 : Vec Ideal S128x128 .f32)
    (hw : ∀ l x, w (ix3 0 l x) = f l x)
    (ha0 : ∀ r x, a0 (ix2 r x) = g 0 r x) (ha1 : ∀ r x, a1 (ix2 r x) = g 1 r x) (ha2 : ∀ r x, a2 (ix2 r x) = g 2 r x) (ha3 : ∀ r x, a3 (ix2 r x) = g 3 r x)
    (ha4 : ∀ r x, a4 (ix2 r x) = g 4 r x) (ha5 : ∀ r x, a5 (ix2 r x) = g 5 r x) (ha6 : ∀ r x, a6 (ix2 r x) = g 6 r x) (ha7 : ∀ r x, a7 (ix2 r x) = g 7 r x)
    (ha8 : ∀ r x, a8 (ix2 r x) = g 8 r x) (ha9 : ∀ r x, a9 (ix2 r x) = g 9 r x) (ha10 : ∀ r x, a10 (ix2 r x) = g 10 r x) (ha11 : ∀ r x, a11 (ix2 r x) = g 11 r x)
    (ha12 : ∀ r x, a12 (ix2 r x) = g 12 r x) (ha13 : ∀ r x, a13 (ix2 r x) = g 13 r x) (ha14 : ∀ r x, a14 (ix2 r x) = g 14 r x) (ha15 : ∀ r x, a15 (ix2 r x) = g 15 r x)
    (hb0 : ∀ r x, b0 (ix2 r x) = h 0 r x) (hb1 : ∀ r x, b1 (ix2 r x) = h 1 r x) (hb2 : ∀ r x, b2 (ix2 r x) = h 2 r x) (hb3 : ∀ r x, b3 (ix2 r x) = h 3 r x)
    (hb4 : ∀ r x, b4 (ix2 r x) = h 4 r x) (hb5 : ∀ r x, b5 (ix2 r x) = h 5 r x) (hb6 : ∀ r x, b6 (ix2 r x) = h 6 r x) (hb7 : ∀ r x, b7 (ix2 r x) = h 7 r x)
    (hb8 : ∀ r x, b8 (ix2 r x) = h 8 r x) (hb9 : ∀ r x, b9 (ix2 r x) = h 9 r x) (hb10 : ∀ r x, b10 (ix2 r x) = h 10 r x) (hb11 : ∀ r x, b11 (ix2 r x) = h 11 r x)
    (hb12 : ∀ r x, b12 (ix2 r x) = h 12 r x) (hb13 : ∀ r x, b13 (ix2 r x) = h 13 r x) (hb14 : ∀ r x, b14 (ix2 r x) = h 14 r x) (hb15 : ∀ r x, b15 (ix2 r x) = h 15 r x)
    (p : Fin 3) (z : Fin 1) (l : Fin 2048) (x : Fin 128) :
    v.readCov (Val := Elt Ideal) (stack w a0 a1 a2 a3 a4 a5 a6 a7 a8 a9 a10 a11 a12 a13 a14 a15 b0 b1 b2 b3 b4 b5 b6 b7 b8 b9 b10 b11 b12 b13 b14 b15) (plane p.val p.isLt).toLoadRect (ix3 z l x) = held f g h p l x := by
  rw [View.readCov_eq_canon']
  have e : (plane p.val p.isLt).toLoadRect.idx (ix3 z l x) = ix3 p l x := by
    funext a
    apply Fin.ext
    match a with
    | ⟨0, _⟩ => show p.val + 1 * z.val = p.val; omega
    | ⟨1, _⟩ => show 0 + 1 * l.val = l.val; omega
    | ⟨2, _⟩ => show 0 + 1 * x.val = x.val; omega
  refine (congrArg _ e).trans (View.canon_apply_of_pieces (Val := Elt Ideal) (S := S3x2048x128) (e := .f32) (heldAt f g h) _ ?_ _ ?_)
  · refine agrees_cons f g h _ _ (agrees16 f g h 15 15 (by decide) (by decide) _ hb15) ?_
    refine agrees_cons f g h _ _ (agrees16 f g h 14 14 (by decide) (by decide) _ hb14) ?_
    refine agrees_cons f g h _ _ (agrees16 f g h 13 13 (by decide) (by decide) _ hb13) ?_
    refine agrees_cons f g h _ _ (agrees16 f g h 12 12 (by decide) (by decide) _ hb12) ?_
    refine agrees_cons f g h _ _ (agrees16 f g h 11 11 (by decide) (by decide) _ hb11) ?_
    refine agrees_cons f g h _ _ (agrees16 f g h 10 10 (by decide) (by decide) _ hb10) ?_
    refine agrees_cons f g h _ _ (agrees16 f g h 9 9 (by decide) (by decide) _ hb9) ?_
    refine agrees_cons f g h _ _ (agrees16 f g h 8 8 (by decide) (by decide) _ hb8) ?_
    refine agrees_cons f g h _ _ (agrees16 f g h 7 7 (by decide) (by decide) _ hb7) ?_
    refine agrees_cons f g h _ _ (agrees16 f g h 6 6 (by decide) (by decide) _ hb6) ?_
    refine agrees_cons f g h _ _ (agrees16 f g h 5 5 (by decide) (by decide) _ hb5) ?_
    refine agrees_cons f g h _ _ (agrees16 f g h 4 4 (by decide) (by decide) _ hb4) ?_
    refine agrees_cons f g h _ _ (agrees16 f g h 3 3 (by decide) (by decide) _ hb3) ?_
    refine agrees_cons f g h _ _ (agrees16 f g h 2 2 (by decide) (by decide) _ hb2) ?_
    refine agrees_cons f g h _ _ (agrees16 f g h 1 1 (by decide) (by decide) _ hb1) ?_
    refine agrees_cons f g h _ _ (agrees16 f g h 0 0 (by decide) (by decide) _ hb0) ?_
    refine agrees_cons f g h _ _ (agrees4 f g h 15 1539 (by decide) (by decide) _ ha15) ?_
    refine agrees_cons f g h _ _ (agrees4 f g h 14 1027 (by decide) (by decide) _ ha14) ?_
    refine agrees_cons f g h _ _ (agrees4 f g h 13 515 (by decide) (by decide) _ ha13) ?_
    refine agrees_cons f g h _ _ (agrees4 f g h 12 3 (by decide) (by decide) _ ha12) ?_
    refine agrees_cons f g h _ _ (agrees4 f g h 11 1538 (by decide) (by decide) _ ha11) ?_
    refine agrees_cons f g h _ _ (agrees4 f g h 10 1026 (by decide) (by decide) _ ha10) ?_
    refine agrees_cons f g h _ _ (agrees4 f g h 9 514 (by decide) (by decide) _ ha9) ?_
    refine agrees_cons f g h _ _ (agrees4 f g h 8 2 (by decide) (by decide) _ ha8) ?_
    refine agrees_cons f g h _ _ (agrees4 f g h 7 1537 (by decide) (by decide) _ ha7) ?_
    refine agrees_cons f g h _ _ (agrees4 f g h 6 1025 (by decide) (by decide) _ ha6) ?_
    refine agrees_cons f g h _ _ (agrees4 f g h 5 513 (by decide) (by decide) _ ha5) ?_
    refine agrees_cons f g h _ _ (agrees4 f g h 4 1 (by decide) (by decide) _ ha4) ?_
    refine agrees_cons f g h _ _ (agrees4 f g h 3 1536 (by decide) (by decide) _ ha3) ?_
    refine agrees_cons f g h _ _ (agrees4 f g h 2 1024 (by decide) (by decide) _ ha2) ?_
    refine agrees_cons f g h _ _ (agrees4 f g h 1 512 (by decide) (by decide) _ ha1) ?_
    refine agrees_cons f g h _ _ (agrees4 f g h 0 0 (by decide) (by decide) _ ha0) ?_
    exact agrees_cons f g h _ _ (agrees_dense f g h w hw) (fun _ hq => absurd hq List.not_mem_nil)
  · refine reached_cons _ _ _ _ (reached16 15 15 (by decide) (by decide) _ p l x) fun n15 => ?_
    refine reached_cons _ _ _ _ (reached16 14 14 (by decide) (by decide) _ p l x) fun n14 => ?_
    refine reached_cons _ _ _ _ (reached16 13 13 (by decide) (by decide) _ p l x) fun n13 => ?_
    refine reached_cons _ _ _ _ (reached16 12 12 (by decide) (by decide) _ p l x) fun n12 => ?_
    refine reached_cons _ _ _ _ (reached16 11 11 (by decide) (by decide) _ p l x) fun n11 => ?_
    refine reached_cons _ _ _ _ (reached16 10 10 (by decide) (by decide) _ p l x) fun n10 => ?_
    refine reached_cons _ _ _ _ (reached16 9 9 (by decide) (by decide) _ p l x) fun n9 => ?_
    refine reached_cons _ _ _ _ (reached16 8 8 (by decide) (by decide) _ p l x) fun n8 => ?_
    refine reached_cons _ _ _ _ (reached16 7 7 (by decide) (by decide) _ p l x) fun n7 => ?_
    refine reached_cons _ _ _ _ (reached16 6 6 (by decide) (by decide) _ p l x) fun n6 => ?_
    refine reached_cons _ _ _ _ (reached16 5 5 (by decide) (by decide) _ p l x) fun n5 => ?_
    refine reached_cons _ _ _ _ (reached16 4 4 (by decide) (by decide) _ p l x) fun n4 => ?_
    refine reached_cons _ _ _ _ (reached16 3 3 (by decide) (by decide) _ p l x) fun n3 => ?_
    refine reached_cons _ _ _ _ (reached16 2 2 (by decide) (by decide) _ p l x) fun n2 => ?_
    refine reached_cons _ _ _ _ (reached16 1 1 (by decide) (by decide) _ p l x) fun n1 => ?_
    refine reached_cons _ _ _ _ (reached16 0 0 (by decide) (by decide) _ p l x) fun n0 => ?_
    refine reached_cons _ _ _ _ (reached4 15 1539 (by decide) (by decide) _ p l x) fun m15 => ?_
    refine reached_cons _ _ _ _ (reached4 14 1027 (by decide) (by decide) _ p l x) fun m14 => ?_
    refine reached_cons _ _ _ _ (reached4 13 515 (by decide) (by decide) _ p l x) fun m13 => ?_
    refine reached_cons _ _ _ _ (reached4 12 3 (by decide) (by decide) _ p l x) fun m12 => ?_
    refine reached_cons _ _ _ _ (reached4 11 1538 (by decide) (by decide) _ p l x) fun m11 => ?_
    refine reached_cons _ _ _ _ (reached4 10 1026 (by decide) (by decide) _ p l x) fun m10 => ?_
    refine reached_cons _ _ _ _ (reached4 9 514 (by decide) (by decide) _ p l x) fun m9 => ?_
    refine reached_cons _ _ _ _ (reached4 8 2 (by decide) (by decide) _ p l x) fun m8 => ?_
    refine reached_cons _ _ _ _ (reached4 7 1537 (by decide) (by decide) _ p l x) fun m7 => ?_
    refine reached_cons _ _ _ _ (reached4 6 1025 (by decide) (by decide) _ p l x) fun m6 => ?_
    refine reached_cons _ _ _ _ (reached4 5 513 (by decide) (by decide) _ p l x) fun m5 => ?_
    refine reached_cons _ _ _ _ (reached4 4 1 (by decide) (by decide) _ p l x) fun m4 => ?_
    refine reached_cons _ _ _ _ (reached4 3 1536 (by decide) (by decide) _ p l x) fun m3 => ?_
    refine reached_cons _ _ _ _ (reached4 2 1024 (by decide) (by decide) _ p l x) fun m2 => ?_
    refine reached_cons _ _ _ _ (reached4 1 512 (by decide) (by decide) _ p l x) fun m1 => ?_
    refine reached_cons _ _ _ _ (reached4 0 0 (by decide) (by decide) _ p l x) fun m0 => ?_
    have hp : p = 0 := by
      have hx := p.isLt
      by_contra hne
      have hp0 : p.val ≠ 0 := fun e => hne (Fin.ext e)
      rcases (show p.val = 1 ∨ p.val = 2 by omega) with e1 | e2
      · obtain ⟨c, hc⟩ : ∃ c : Fin 16, (l.val % 4) * 4 + l.val / 4 / 128 = c.val := ⟨⟨_, by omega⟩, rfl⟩
        fin_cases c
        · exact m0 ⟨e1, hc⟩
        · exact m1 ⟨e1, hc⟩
        · exact m2 ⟨e1, hc⟩
        · exact m3 ⟨e1, hc⟩
        · exact m4 ⟨e1, hc⟩
        · exact m5 ⟨e1, hc⟩
        · exact m6 ⟨e1, hc⟩
        · exact m7 ⟨e1, hc⟩
        · exact m8 ⟨e1, hc⟩
        · exact m9 ⟨e1, hc⟩
        · exact m10 ⟨e1, hc⟩
        · exact m11 ⟨e1, hc⟩
        · exact m12 ⟨e1, hc⟩
        · exact m13 ⟨e1, hc⟩
        · exact m14 ⟨e1, hc⟩
        · exact m15 ⟨e1, hc⟩
      · obtain ⟨c, hc⟩ : ∃ c : Fin 16, l.val % 16 = c.val := ⟨⟨_, by omega⟩, rfl⟩
        fin_cases c
        · exact n0 ⟨e2, hc⟩
        · exact n1 ⟨e2, hc⟩
        · exact n2 ⟨e2, hc⟩
        · exact n3 ⟨e2, hc⟩
        · exact n4 ⟨e2, hc⟩
        · exact n5 ⟨e2, hc⟩
        · exact n6 ⟨e2, hc⟩
        · exact n7 ⟨e2, hc⟩
        · exact n8 ⟨e2, hc⟩
        · exact n9 ⟨e2, hc⟩
        · exact n10 ⟨e2, hc⟩
        · exact n11 ⟨e2, hc⟩
        · exact n12 ⟨e2, hc⟩
        · exact n13 ⟨e2, hc⟩
        · exact n14 ⟨e2, hc⟩
        · exact n15 ⟨e2, hc⟩
    subst hp
    exact ⟨_, List.mem_cons_self, reached_dense w l x⟩

/-! ## Blocks of rows read -/

variable (u : Mat 2048 128)

/-- The rows of a box, out of an array stored whole. -/
theorem load_stored {sp : Space} {κ : Kind} (v : View sig κ sp S2048x128 .f32) (inb) (B : LoadRect S2048x128) (y : B.shape.Idx) :
    v.readCov (Val := Elt Ideal) [(⟨Rect.unit ![0, 0] ![2048, 128] inb, u⟩ : View.Piece (Elt Ideal) S2048x128 .f32)] B y = u (B.idx y) := by
  rw [View.readCov_eq_canon']
  refine View.canon_apply_of_pieces (Val := Elt Ideal) (S := S2048x128) (e := .f32) u _ (fun p hp x => ?_) _ ⟨_, List.mem_cons_self, ?_⟩
  · obtain rfl := List.mem_singleton.mp hp
    refine congrArg u (funext fun a => Fin.ext ?_)
    match a with
    | ⟨0, _⟩ => show (x 0).val = 0 + 1 * (x 0).val; omega
    | ⟨1, _⟩ => show (x 1).val = 0 + 1 * (x 1).val; omega
  · rw [LoadRect.mem_set]
    intro a
    match a with
    | ⟨0, _⟩ => exact ⟨(B.idx y 0).val, (B.idx y 0).isLt, show (B.idx y 0).val = 0 + 1 * (B.idx y 0).val by omega⟩
    | ⟨1, _⟩ => exact ⟨(B.idx y 1).val, (B.idx y 1).isLt, show (B.idx y 1).val = 0 + 1 * (B.idx y 1).val by omega⟩

/-- The rows of a box, out of a block. -/
theorem load_block {sp : Space} {κ : Kind} (m : Memref sig κ sp S2048x128 .f32) (hm : m.IsWhole) (B : LoadRect S2048x128) (y : B.shape.Idx) :
    m.view.readAt (Elt Ideal) B (hm.unread (Val := Elt Ideal) u) y = u (B.idx y) :=
  congrFun (hm.read_unread (Val := Elt Ideal) u) (B.idx y)

/-- The boxes of the sixteen blocks. -/
@[reducible] def box4 (o : ℕ) (h : o + 4 * 127 < 2048 := by decide) : LoadRect S2048x128 := box o 4 h
@[reducible] def box16 (o : ℕ) (h : o + 16 * 127 < 2048 := by decide) : LoadRect S2048x128 := box o 16 h

theorem box4_row (b : Fin 16) (o : ℕ) (ho : o + 4 * 127 < 2048) (e : o = b.val / 4 + 512 * (b.val % 4)) (i x : Fin 128) :
    (box4 o ho).idx (ix2 i x) = ix2 (row 4 4 b i) x := by
  funext a
  apply Fin.ext
  match a with
  | ⟨0, _⟩ => show o + 4 * i.val = (row 4 4 b i).val; rw [row_val_4]; omega
  | ⟨1, _⟩ => show 0 + 1 * x.val = x.val; omega

theorem box16_row (b : Fin 16) (o : ℕ) (ho : o + 16 * 127 < 2048) (e : o = b.val) (i x : Fin 128) :
    (box16 o ho).idx (ix2 i x) = ix2 (row 16 1 b i) x := by
  funext a
  apply Fin.ext
  match a with
  | ⟨0, _⟩ => show o + 16 * i.val = (row 16 1 b i).val; rw [row_val_16]; omega
  | ⟨1, _⟩ => show 0 + 1 * x.val = x.val; omega

variable (A : Fin 16 → Vec Ideal S128x128 .f32) (b : Fin 16) (i x : Fin 128)

theorem gather_24 : k0_pay24 (F := Ideal) (A 0) (A 1) (A 2) (A 3) (A 4) (A 5) (A 6) (A 7) (A 8) (A 9) (A 10) (A 11) (A 12) (A 13) (A 14) (A 15) (ix3 b i x) = A b (ix2 i x) := by
  fin_cases b <;> pointwise [k0_pay24]
theorem gather_39 : k0_pay39 (F := Ideal) (A 14) (A 15) (k0_pay25 (F := Ideal) (A 0)) (k0_pay26 (F := Ideal) (A 1)) (k0_pay27 (F := Ideal) (A 2)) (k0_pay28 (F := Ideal) (A 3)) (k0_pay29 (F := Ideal) (A 4)) (k0_pay30 (F := Ideal) (A 5)) (k0_pay31 (F := Ideal) (A 6)) (k0_pay32 (F := Ideal) (A 7)) (k0_pay33 (F := Ideal) (A 8)) (k0_pay34 (F := Ideal) (A 9)) (k0_pay35 (F := Ideal) (A 10)) (k0_pay36 (F := Ideal) (A 11)) (k0_pay37 (F := Ideal) (A 12)) (k0_pay38 (F := Ideal) (A 13)) (ix3 b i x) = A b (ix2 i x) := by
  fin_cases b <;> pointwise [k0_pay39, k0_pay25, k0_pay26, k0_pay27, k0_pay28, k0_pay29, k0_pay30, k0_pay31, k0_pay32, k0_pay33, k0_pay34, k0_pay35, k0_pay36, k0_pay37, k0_pay38]
theorem gather_48 : k0_pay48 (F := Ideal) (A 8) (A 9) (A 10) (A 11) (A 12) (A 13) (A 14) (A 15) (k0_pay40 (F := Ideal) (A 0)) (k0_pay41 (F := Ideal) (A 1)) (k0_pay42 (F := Ideal) (A 2)) (k0_pay43 (F := Ideal) (A 3)) (k0_pay44 (F := Ideal) (A 4)) (k0_pay45 (F := Ideal) (A 5)) (k0_pay46 (F := Ideal) (A 6)) (k0_pay47 (F := Ideal) (A 7)) (ix3 b i x) = A b (ix2 i x) := by
  fin_cases b <;> pointwise [k0_pay48, k0_pay40, k0_pay41, k0_pay42, k0_pay43, k0_pay44, k0_pay45, k0_pay46, k0_pay47]
theorem gather_99 : k0_pay99 (F := Ideal) (A 0) (A 1) (A 2) (A 3) (A 4) (A 5) (A 6) (A 7) (A 8) (A 9) (A 10) (A 11) (A 12) (A 13) (A 14) (A 15) (ix3 b i x) = A b (ix2 i x) := by
  fin_cases b <;> pointwise [k0_pay99]
theorem gather_100 : k0_pay100 (F := Ideal) (A 0) (A 1) (A 2) (A 3) (A 4) (A 5) (A 6) (A 7) (A 8) (A 9) (A 10) (A 11) (A 12) (A 13) (A 14) (A 15) (ix3 b i x) = A b (ix2 i x) := gather_99 A b i x
theorem gather_101 : k0_pay101 (F := Ideal) (A 0) (A 1) (A 2) (A 3) (A 4) (A 5) (A 6) (A 7) (A 8) (A 9) (A 10) (A 11) (A 12) (A 13) (A 14) (A 15) (ix3 b i x) = A b (ix2 i x) := gather_99 A b i x

end Cert.DilatedIdeal.Store

end
-- ==== Proof.DilatedStack.lean ====
/-
  What the two scratch arrays of the dilated attention hold after all stores, and what a grid point writes.
-/
module

public import proofs.«01_k».proof.Defs
public import proofs.«01_k».proof.Proof.DilatedHead
public import proofs.«01_k».proof.Proof.DilatedStore

@[expose] public section

set_option maxRecDepth 16384

noncomputable section

open Idealize.ShloMosaic Idealize.ShloMosaic.TcCoe Idealize.SL.Sem Cert.Products Cert.Dilated

namespace Cert.DilatedIdeal.Stack

open Cert.DilatedIdeal Cert.DilatedIdeal.Gen Cert.DilatedIdeal.Head Cert.DilatedIdeal.Store

/-! ## The blocks that the stripes are cut from -/

section
variable (r x : Fin 128)

theorem slice_146 (a : FVec Ideal S16x128x128 .f32) : k0_pay146 (F := Ideal) a (ix2 r x) = a (ix3 15 r x) := by
  pointwise [k0_pay146]
theorem slice_145 (a : FVec Ideal S16x128x128 .f32) : k0_pay145 (F := Ideal) (k0_pay144 (F := Ideal) a) (ix2 r x) = a (ix3 14 r x) := by
  pointwise [k0_pay145, k0_pay144]
theorem slice_143 (a : FVec Ideal S16x128x128 .f32) : k0_pay143 (F := Ideal) a (ix2 r x) = a (ix3 13 r x) := by
  pointwise [k0_pay143]
theorem slice_142 (a : FVec Ideal S16x128x128 .f32) : k0_pay142 (F := Ideal) a (ix2 r x) = a (ix3 12 r x) := by
  pointwise [k0_pay142]
theorem slice_141 (a : FVec Ideal S16x128x128 .f32) : k0_pay141 (F := Ideal) a (ix2 r x) = a (ix3 11 r x) := by
  pointwise [k0_pay141]
theorem slice_140 (a : FVec Ideal S16x128x128 .f32) : k0_pay140 (F := Ideal) a (ix2 r x) = a (ix3 10 r x) := by
  pointwise [k0_pay140]
theorem slice_139 (a : FVec Ideal S16x128x128 .f32) : k0_pay139 (F := Ideal) (k0_pay138 (F := Ideal) a) (ix2 r x) = a (ix3 9 r x) := by
  pointwise [k0_pay139, k0_pay138]
theorem slice_137 (a : FVec Ideal S16x128x128 .f32) : k0_pay137 (F := Ideal) a (ix2 r x) = a (ix3 8 r x) := by
  pointwise [k0_pay137]
theorem slice_136 (a : FVec Ideal S16x128x128 .f32) : k0_pay136 (F := Ideal) a (ix2 r x) = a (ix3 7 r x) := by
  pointwise [k0_pay136]
theorem slice_135 (a : FVec Ideal S16x128x128 .f32) : k0_pay135 (F := Ideal) a (ix2 r x) = a (ix3 6 r x) := by
  pointwise [k0_pay135]
theorem slice_134 (a : FVec Ideal S16x128x128 .f32) : k0_pay134 (F := Ideal) (k0_pay133 (F := Ideal) a) (ix2 r x) = a (ix3 5 r x) := by
  pointwise [k0_pay134, k0_pay133]
theorem slice_132 (a : FVec Ideal S16x128x128 .f32) : k0_pay132 (F := Ideal) a (ix2 r x) = a (ix3 4 r x) := by
  pointwise [k0_pay132]
theorem slice_131 (a : FVec Ideal S16x128x128 .f32) : k0_pay131 (F := Ideal) a (ix2 r x) = a (ix3 3 r x) := by
  pointwise [k0_pay131]
theorem slice_130 (a : FVec Ideal S16x128x128 .f32) : k0_pay130 (F := Ideal) a (ix2 r x) = a (ix3 2 r x) := by
  pointwise [k0_pay130]
theorem slice_129 (a : FVec Ideal S16x128x128 .f32) : k0_pay129 (F := Ideal) a (ix2 r x) = a (ix3 1 r x) := by
  pointwise [k0_pay129]
theorem slice_128 (a : FVec Ideal S16x128x1 .f32) (b : FVec Ideal S16x128x1 .f32) : k0_pay128 (F := Ideal) (k0_pay127 (F := Ideal) a b) (ix2 r x) = (k0_pay126 (F := Ideal) a b) (ix3 0 r x) := by
  pointwise [k0_pay128, k0_pay127]
theorem slice_98 (a : FVec Ideal S16x128x128 .f32) : k0_pay98 (F := Ideal) a (ix2 r x) = a (ix3 15 r x) := by
  pointwise [k0_pay98]
theorem slice_97 (a : FVec Ideal S16x128x128 .f32) : k0_pay97 (F := Ideal) a (ix2 r x) = a (ix3 14 r x) := by
  pointwise [k0_pay97]
theorem slice_96 (a : FVec Ideal S16x128x128 .f32) : k0_pay96 (F := Ideal) (k0_pay95 (F := Ideal) a) (ix2 r x) = a (ix3 13 r x) := by
  pointwise [k0_pay96, k0_pay95]
theorem slice_94 (a : FVec Ideal S16x128x128 .f32) : k0_pay94 (F := Ideal) a (ix2 r x) = a (ix3 12 r x) := by
  pointwise [k0_pay94]
theorem slice_93 (a : FVec Ideal S16x128x128 .f32) : k0_pay93 (F := Ideal) a (ix2 r x) = a (ix3 11 r x) := by
  pointwise [k0_pay93]
theorem slice_92 (a : FVec Ideal S16x128x128 .f32) : k0_pay92 (F := Ideal) a (ix2 r x) = a (ix3 10 r x) := by
  pointwise [k0_pay92]
theorem slice_91 (a : FVec Ideal S16x128x128 .f32) : k0_pay91 (F := Ideal) a (ix2 r x) = a (ix3 9 r x) := by
  pointwise [k0_pay91]
theorem slice_90 (a : FVec Ideal S16x128x128 .f32) : k0_pay90 (F := Ideal) (k0_pay89 (F := Ideal) a) (ix2 r x) = a (ix3 8 r x) := by
  pointwise [k0_pay90, k0_pay89]
theorem slice_88 (a : FVec Ideal S16x128x128 .f32) : k0_pay88 (F := Ideal) a (ix2 r x) = a (ix3 7 r x) := by
  pointwise [k0_pay88]
theorem slice_87 (a : FVec Ideal S16x128x128 .f32) : k0_pay87 (F := Ideal) a (ix2 r x) = a (ix3 6 r x) := by
  pointwise [k0_pay87]
theorem slice_86 (a : FVec Ideal S16x128x128 .f32) : k0_pay86 (F := Ideal) a (ix2 r x) = a (ix3 5 r x) := by
  pointwise [k0_pay86]
theorem slice_85 (a : FVec Ideal S16x128x128 .f32) : k0_pay85 (F := Ideal) a (ix2 r x) = a (ix3 4 r x) := by
  pointwise [k0_pay85]
theorem slice_84 (a : FVec Ideal S16x128x1 .f32) (b : FVec Ideal S16x128x1 .f32) : k0_pay84 (F := Ideal) (k0_pay83 (F := Ideal) a b) (ix2 r x) = (k0_pay79 (F := Ideal) a b) (ix3 3 r x) := by
  pointwise [k0_pay84, k0_pay83]
theorem slice_82 (a : FVec Ideal S16x128x1 .f32) (b : FVec Ideal S16x128x1 .f32) : k0_pay82 (F := Ideal) a b (ix2 r x) = (k0_pay79 (F := Ideal) a b) (ix3 2 r x) := by
  pointwise [k0_pay82]
theorem slice_81 (a : FVec Ideal S16x128x1 .f32) (b : FVec Ideal S16x128x1 .f32) : k0_pay81 (F := Ideal) a b (ix2 r x) = (k0_pay79 (F := Ideal) a b) (ix3 1 r x) := by
  pointwise [k0_pay81]
theorem slice_80 (a : FVec Ideal S16x128x1 .f32) (b : FVec Ideal S16x128x1 .f32) : k0_pay80 (F := Ideal) a b (ix2 r x) = (k0_pay79 (F := Ideal) a b) (ix3 0 r x) := by
  pointwise [k0_pay80]
theorem slice_125 (a : FVec Ideal S16x128x128 .f32) : k0_pay125 (F := Ideal) a (ix2 r x) = a (ix3 15 r x) := by
  pointwise [k0_pay125]
theorem slice_124 (a : FVec Ideal S16x128x128 .f32) : k0_pay124 (F := Ideal) a (ix2 r x) = a (ix3 14 r x) := by
  pointwise [k0_pay124]
theorem slice_123 (a : FVec Ideal S16x128x128 .f32) : k0_pay123 (F := Ideal) a (ix2 r x) = a (ix3 13 r x) := by
  pointwise [k0_pay123]
theorem slice_122 (a : FVec Ideal S16x128x128 .f32) : k0_pay122 (F := Ideal) (k0_pay121 (F := Ideal) a) (ix2 r x) = a (ix3 12 r x) := by
  pointwise [k0_pay122, k0_pay121]
theorem slice_120 (a : FVec Ideal S16x128x128 .f32) : k0_pay120 (F := Ideal) a (ix2 r x) = a (ix3 11 r x) := by
  pointwise [k0_pay120]
theorem slice_119 (a : FVec Ideal S16x128x128 .f32) : k0_pay119 (F := Ideal) a (ix2 r x) = a (ix3 10 r x) := by
  pointwise [k0_pay119]
theorem slice_118 (a : FVec Ideal S16x128x128 .f32) : k0_pay118 (F := Ideal) a (ix2 r x) = a (ix3 9 r x) := by
  pointwise [k0_pay118]
theorem slice_117 (a : FVec Ideal S16x128x128 .f32) : k0_pay117 (F := Ideal) a (ix2 r x) = a (ix3 8 r x) := by
  pointwise [k0_pay117]
theorem slice_116 (a : FVec Ideal S16x128x128 .f32) : k0_pay116 (F := Ideal) (k0_pay115 (F := Ideal) a) (ix2 r x) = a (ix3 7 r x) := by
  pointwise [k0_pay116, k0_pay115]
theorem slice_114 (a : FVec Ideal S16x128x128 .f32) : k0_pay114 (F := Ideal) a (ix2 r x) = a (ix3 6 r x) := by
  pointwise [k0_pay114]
theorem slice_113 (a : FVec Ideal S16x128x128 .f32) : k0_pay113 (F := Ideal) a (ix2 r x) = a (ix3 5 r x) := by
  pointwise [k0_pay113]
theorem slice_112 (a : FVec Ideal S16x128x128 .f32) : k0_pay112 (F := Ideal) a (ix2 r x) = a (ix3 4 r x) := by
  pointwise [k0_pay112]
theorem slice_111 (a : FVec Ideal S16x128x128 .f32) : k0_pay111 (F := Ideal) a (ix2 r x) = a (ix3 3 r x) := by
  pointwise [k0_pay111]
theorem slice_110 (a : FVec Ideal S16x128x128 .bf16) (b : FVec Ideal S16x128x128 .bf16) (c : FVec Ideal S16x128x128 .bf16) (d : IVec S16x128x128 1) (e : FVec Ideal S16x128x128 .f32) : k0_pay110 (F := Ideal) a b c d e (ix2 r x) = (k0_pay107 (F := Ideal) a b c d e) (ix3 2 r x) := by
  pointwise [k0_pay110]
theorem slice_109 (a : FVec Ideal S16x128x128 .bf16) (b : FVec Ideal S16x128x128 .bf16) (c : FVec Ideal S16x128x128 .bf16) (d : IVec S16x128x128 1) (e : FVec Ideal S16x128x128 .f32) : k0_pay109 (F := Ideal) a b c d e (ix2 r x) = (k0_pay107 (F := Ideal) a b c d e) (ix3 1 r x) := by
  pointwise [k0_pay109]
theorem slice_108 (a : FVec Ideal S16x128x128 .bf16) (b : FVec Ideal S16x128x128 .bf16) (c : FVec Ideal S16x128x128 .bf16) (d : IVec S16x128x128 1) (e : FVec Ideal S16x128x128 .f32) : k0_pay108 (F := Ideal) a b c d e (ix2 r x) = (k0_pay107 (F := Ideal) a b c d e) (ix3 0 r x) := by
  pointwise [k0_pay108]
theorem slice_78 (a : FVec Ideal S16x128x128 .f32) : k0_pay78 (F := Ideal) (k0_pay77 (F := Ideal) a) (ix2 r x) = a (ix3 15 r x) := by
  pointwise [k0_pay78, k0_pay77]
theorem slice_76 (a : FVec Ideal S16x128x128 .f32) : k0_pay76 (F := Ideal) a (ix2 r x) = a (ix3 14 r x) := by
  pointwise [k0_pay76]
theorem slice_75 (a : FVec Ideal S16x128x128 .f32) : k0_pay75 (F := Ideal) a (ix2 r x) = a (ix3 13 r x) := by
  pointwise [k0_pay75]
theorem slice_74 (a : FVec Ideal S16x128x128 .f32) : k0_pay74 (F := Ideal) a (ix2 r x) = a (ix3 12 r x) := by
  pointwise [k0_pay74]
theorem slice_73 (a : FVec Ideal S16x128x128 .f32) : k0_pay73 (F := Ideal) a (ix2 r x) = a (ix3 11 r x) := by
  pointwise [k0_pay73]
theorem slice_72 (a : FVec Ideal S16x128x128 .f32) : k0_pay72 (F := Ideal) a (ix2 r x) = a (ix3 10 r x) := by
  pointwise [k0_pay72]
theorem slice_71 (a : FVec Ideal S16x128x128 .f32) : k0_pay71 (F := Ideal) a (ix2 r x) = a (ix3 9 r x) := by
  pointwise [k0_pay71]
theorem slice_70 (a : FVec Ideal S16x128x128 .f32) : k0_pay70 (F := Ideal) a (ix2 r x) = a (ix3 8 r x) := by
  pointwise [k0_pay70]
theorem slice_69 (a : FVec Ideal S16x128x128 .f32) : k0_pay69 (F := Ideal) a (ix2 r x) = a (ix3 7 r x) := by
  pointwise [k0_pay69]
theorem slice_68 (a : FVec Ideal S16x128x128 .f32) : k0_pay68 (F := Ideal) (k0_pay67 (F := Ideal) a) (ix2 r x) = a (ix3 6 r x) := by
  pointwise [k0_pay68, k0_pay67]
theorem slice_66 (a : FVec Ideal S16x128x128 .f32) : k0_pay66 (F := Ideal) a (ix2 r x) = a (ix3 5 r x) := by
  pointwise [k0_pay66]
theorem slice_65 (a : FVec Ideal S16x128x128 .f32) : k0_pay65 (F := Ideal) a (ix2 r x) = a (ix3 4 r x) := by
  pointwise [k0_pay65]
theorem slice_64 (a : FVec Ideal S16x128x128 .f32) : k0_pay64 (F := Ideal) a (ix2 r x) = a (ix3 3 r x) := by
  pointwise [k0_pay64]
theorem slice_63 (a : FVec Ideal S16x128x128 .f32) : k0_pay63 (F := Ideal) a (ix2 r x) = a (ix3 2 r x) := by
  pointwise [k0_pay63]
theorem slice_62 (a : FVec Ideal S16x128x128 .bf16) (b : FVec Ideal S16x128x128 .bf16) (c : IVec S16x128x128 1) (d : FVec Ideal S16x128x128 .f32) (e : FVec Ideal S16x128x1 .f32) (f : FVec Ideal S1x128x128 .bf16) (g : FVec Ideal S15x128x128 .bf16) : k0_pay62 (F := Ideal) (k0_pay61 (F := Ideal) a b c d e f g) (ix2 r x) = (k0_pay59 (F := Ideal) a b c d e f g) (ix3 1 r x) := by
  pointwise [k0_pay62, k0_pay61]
theorem slice_60 (a : FVec Ideal S16x128x128 .bf16) (b : FVec Ideal S16x128x128 .bf16) (c : IVec S16x128x128 1) (d : FVec Ideal S16x128x128 .f32) (e : FVec Ideal S16x128x1 .f32) (f : FVec Ideal S1x128x128 .bf16) (g : FVec Ideal S15x128x128 .bf16) : k0_pay60 (F := Ideal) a b c d e f g (ix2 r x) = (k0_pay59 (F := Ideal) a b c d e f g) (ix3 0 r x) := by
  pointwise [k0_pay60]

end

/-! ## The means and the logarithms -/

abbrev tops4 (q k : Blocks) := k0_pay55 (F := Ideal) q k0_pay49 (k0_pay51 (F := Ideal) q k) (k0_pay52 (F := Ideal) k) (k0_pay53 (F := Ideal) k)
abbrev totals4 (q k : Blocks) := k0_pay58 (F := Ideal) q k0_pay49 (k0_pay50 (F := Ideal) q k) (k0_pay51 (F := Ideal) q k) (k0_pay52 (F := Ideal) k) (k0_pay53 (F := Ideal) k)
abbrev logs4 (q k : Blocks) := k0_pay79 (F := Ideal) (tops4 q k) (totals4 q k)
abbrev means4 (q k v : Blocks) := k0_pay59 (F := Ideal) q v k0_pay49 (k0_pay50 (F := Ideal) q k) (k0_pay51 (F := Ideal) q k) (k0_pay52 (F := Ideal) k) (k0_pay53 (F := Ideal) k)
abbrev tops16 (q k : Blocks) := k0_pay104 (F := Ideal) q k k0_pay102 zeros
abbrev totals16 (q k : Blocks) := k0_pay106 (F := Ideal) q k k0_pay102 zeros
abbrev logs16 (q k : Blocks) := k0_pay126 (F := Ideal) (tops16 q k) (totals16 q k)
abbrev means16 (q k v : Blocks) := k0_pay107 (F := Ideal) q k v k0_pay102 zeros

variable (uq uk uv : Mat 2048 128) (q4 k4 v4 q16 k16 v16 : Blocks)

/-- The stores of the logarithms, and of the means. -/
@[reducible] def logStores : List (View.Piece (Elt Ideal) S3x2048x128 .f32) :=
  stack (k0_pay23 (F := Ideal) k0_pay12 (k0_pay13 (F := Ideal) (k0_pay9 (F := Ideal) uq) (k0_pay10 (F := Ideal) uk))
      (k0_pay14 (F := Ideal) (k0_pay9 (F := Ideal) uq) (k0_pay10 (F := Ideal) uk)) (k0_pay16 (F := Ideal) (k0_pay9 (F := Ideal) uq) (k0_pay10 (F := Ideal) uk)))
    (k0_pay80 (F := Ideal) (tops4 q4 k4) (totals4 q4 k4))
    (k0_pay81 (F := Ideal) (tops4 q4 k4) (totals4 q4 k4))
    (k0_pay82 (F := Ideal) (tops4 q4 k4) (totals4 q4 k4))
    (k0_pay84 (F := Ideal) (k0_pay83 (F := Ideal) (tops4 q4 k4) (totals4 q4 k4)))
    (k0_pay85 (F := Ideal) (logs4 q4 k4))
    (k0_pay86 (F := Ideal) (logs4 q4 k4))
    (k0_pay87 (F := Ideal) (logs4 q4 k4))
    (k0_pay88 (F := Ideal) (logs4 q4 k4))
    (k0_pay90 (F := Ideal) (k0_pay89 (F := Ideal) (logs4 q4 k4)))
    (k0_pay91 (F := Ideal) (logs4 q4 k4))
    (k0_pay92 (F := Ideal) (logs4 q4 k4))
    (k0_pay93 (F := Ideal) (logs4 q4 k4))
    (k0_pay94 (F := Ideal) (logs4 q4 k4))
    (k0_pay96 (F := Ideal) (k0_pay95 (F := Ideal) (logs4 q4 k4)))
    (k0_pay97 (F := Ideal) (logs4 q4 k4))
    (k0_pay98 (F := Ideal) (logs4 q4 k4))
    (k0_pay128 (F := Ideal) (k0_pay127 (F := Ideal) (tops16 q16 k16) (totals16 q16 k16)))
    (k0_pay129 (F := Ideal) (logs16 q16 k16))
    (k0_pay130 (F := Ideal) (logs16 q16 k16))
    (k0_pay131 (F := Ideal) (logs16 q16 k16))
    (k0_pay132 (F := Ideal) (logs16 q16 k16))
    (k0_pay134 (F := Ideal) (k0_pay133 (F := Ideal) (logs16 q16 k16)))
    (k0_pay135 (F := Ideal) (logs16 q16 k16))
    (k0_pay136 (F := Ideal) (logs16 q16 k16))
    (k0_pay137 (F := Ideal) (logs16 q16 k16))
    (k0_pay139 (F := Ideal) (k0_pay138 (F := Ideal) (logs16 q16 k16)))
    (k0_pay140 (F := Ideal) (logs16 q16 k16))
    (k0_pay141 (F := Ideal) (logs16 q16 k16))
    (k0_pay142 (F := Ideal) (logs16 q16 k16))
    (k0_pay143 (F := Ideal) (logs16 q16 k16))
    (k0_pay145 (F := Ideal) (k0_pay144 (F := Ideal) (logs16 q16 k16)))
    (k0_pay146 (F := Ideal) (logs16 q16 k16))

@[reducible] def meanStores : List (View.Piece (Elt Ideal) S3x2048x128 .f32) :=
  stack (k0_pay22 (F := Ideal) (k0_pay11 (F := Ideal) uv) k0_pay12 (k0_pay13 (F := Ideal) (k0_pay9 (F := Ideal) uq) (k0_pay10 (F := Ideal) uk))
      (k0_pay14 (F := Ideal) (k0_pay9 (F := Ideal) uq) (k0_pay10 (F := Ideal) uk)) (k0_pay15 (F := Ideal) uv)
      (k0_pay16 (F := Ideal) (k0_pay9 (F := Ideal) uq) (k0_pay10 (F := Ideal) uk)))
    (k0_pay60 (F := Ideal) q4 v4 k0_pay49 (k0_pay50 (F := Ideal) q4 k4) (k0_pay51 (F := Ideal) q4 k4) (k0_pay52 (F := Ideal) k4) (k0_pay53 (F := Ideal) k4))
    (k0_pay62 (F := Ideal) (k0_pay61 (F := Ideal) q4 v4 k0_pay49 (k0_pay50 (F := Ideal) q4 k4) (k0_pay51 (F := Ideal) q4 k4) (k0_pay52 (F := Ideal) k4) (k0_pay53 (F := Ideal) k4)))
    (k0_pay63 (F := Ideal) (means4 q4 k4 v4))
    (k0_pay64 (F := Ideal) (means4 q4 k4 v4))
    (k0_pay65 (F := Ideal) (means4 q4 k4 v4))
    (k0_pay66 (F := Ideal) (means4 q4 k4 v4))
    (k0_pay68 (F := Ideal) (k0_pay67 (F := Ideal) (means4 q4 k4 v4)))
    (k0_pay69 (F := Ideal) (means4 q4 k4 v4))
    (k0_pay70 (F := Ideal) (means4 q4 k4 v4))
    (k0_pay71 (F := Ideal) (means4 q4 k4 v4))
    (k0_pay72 (F := Ideal) (means4 q4 k4 v4))
    (k0_pay73 (F := Ideal) (means4 q4 k4 v4))
    (k0_pay74 (F := Ideal) (means4 q4 k4 v4))
    (k0_pay75 (F := Ideal) (means4 q4 k4 v4))
    (k0_pay76 (F := Ideal) (means4 q4 k4 v4))
    (k0_pay78 (F := Ideal) (k0_pay77 (F := Ideal) (means4 q4 k4 v4)))
    (k0_pay108 (F := Ideal) q16 k16 v16 k0_pay102 zeros)
    (k0_pay109 (F := Ideal) q16 k16 v16 k0_pay102 zeros)
    (k0_pay110 (F := Ideal) q16 k16 v16 k0_pay102 zeros)
    (k0_pay111 (F := Ideal) (means16 q16 k16 v16))
    (k0_pay112 (F := Ideal) (means16 q16 k16 v16))
    (k0_pay113 (F := Ideal) (means16 q16 k16 v16))
    (k0_pay114 (F := Ideal) (means16 q16 k16 v16))
    (k0_pay116 (F := Ideal) (k0_pay115 (F := Ideal) (means16 q16 k16 v16)))
    (k0_pay117 (F := Ideal) (means16 q16 k16 v16))
    (k0_pay118 (F := Ideal) (means16 q16 k16 v16))
    (k0_pay119 (F := Ideal) (means16 q16 k16 v16))
    (k0_pay120 (F := Ideal) (means16 q16 k16 v16))
    (k0_pay122 (F := Ideal) (k0_pay121 (F := Ideal) (means16 q16 k16 v16)))
    (k0_pay123 (F := Ideal) (means16 q16 k16 v16))
    (k0_pay124 (F := Ideal) (means16 q16 k16 v16))
    (k0_pay125 (F := Ideal) (means16 q16 k16 v16))

variable {sp : Space} {κ : Kind} (vl vm : View sig κ sp S3x2048x128 .f32) (z : Fin 1) (l : Fin 2048) (x : Fin 128)

theorem read_logs (p : Fin 3) : vl.readCov (Val := Elt Ideal) (logStores uq uk q4 k4 q16 k16) (plane p.val p.isLt).toLoadRect (ix3 z l x)
    = held (fun l _ => lse 16 (blocks 1 16 uq) (blocks 1 16 uk) (blockOf 1 16 l) (placeOf 1 l))
        (fun b r _ => lse 4 q4 k4 b r) (fun b r _ => lse 1 q16 k16 b r) p l x :=
  read_plane _ _ _ vl _ _ _ _ _ _ _ _ _ _ _ _ _ _ _ _ _ _ _ _ _ _ _ _ _ _ _ _ _ _ _ _ _
    (fun l x => (log1 _ _ x l 0).trans (by rw [dense_blocks, dense_keys]))
    (fun r x => (slice_80 r x _ _).trans (log4 q4 k4 0 r x))
    (fun r x => (slice_81 r x _ _).trans (log4 q4 k4 1 r x))
    (fun r x => (slice_82 r x _ _).trans (log4 q4 k4 2 r x))
    (fun r x => (slice_84 r x _ _).trans (log4 q4 k4 3 r x))
    (fun r x => (slice_85 r x _).trans (log4 q4 k4 4 r x))
    (fun r x => (slice_86 r x _).trans (log4 q4 k4 5 r x))
    (fun r x => (slice_87 r x _).trans (log4 q4 k4 6 r x))
    (fun r x => (slice_88 r x _).trans (log4 q4 k4 7 r x))
    (fun r x => (slice_90 r x _).trans (log4 q4 k4 8 r x))
    (fun r x => (slice_91 r x _).trans (log4 q4 k4 9 r x))
    (fun r x => (slice_92 r x _).trans (log4 q4 k4 10 r x))
    (fun r x => (slice_93 r x _).trans (log4 q4 k4 11 r x))
    (fun r x => (slice_94 r x _).trans (log4 q4 k4 12 r x))
    (fun r x => (slice_96 r x _).trans (log4 q4 k4 13 r x))
    (fun r x => (slice_97 r x _).trans (log4 q4 k4 14 r x))
    (fun r x => (slice_98 r x _).trans (log4 q4 k4 15 r x))
    (fun r x => (slice_128 r x _ _).trans (log16 q16 k16 0 r x))
    (fun r x => (slice_129 r x _).trans (log16 q16 k16 1 r x))
    (fun r x => (slice_130 r x _).trans (log16 q16 k16 2 r x))
    (fun r x => (slice_131 r x _).trans (log16 q16 k16 3 r x))
    (fun r x => (slice_132 r x _).trans (log16 q16 k16 4 r x))
    (fun r x => (slice_134 r x _).trans (log16 q16 k16 5 r x))
    (fun r x => (slice_135 r x _).trans (log16 q16 k16 6 r x))
    (fun r x => (slice_136 r x _).trans (log16 q16 k16 7 r x))
    (fun r x => (slice_137 r x _).trans (log16 q16 k16 8 r x))
    (fun r x => (slice_139 r x _).trans (log16 q16 k16 9 r x))
    (fun r x => (slice_140 r x _).trans (log16 q16 k16 10 r x))
    (fun r x => (slice_141 r x _).trans (log16 q16 k16 11 r x))
    (fun r x => (slice_142 r x _).trans (log16 q16 k16 12 r x))
    (fun r x => (slice_143 r x _).trans (log16 q16 k16 13 r x))
    (fun r x => (slice_145 r x _).trans (log16 q16 k16 14 r x))
    (fun r x => (slice_146 r x _).trans (log16 q16 k16 15 r x))
    p z l x

theorem read_means (p : Fin 3) : vm.readCov (Val := Elt Ideal) (meanStores uq uk uv q4 k4 v4 q16 k16 v16) (plane p.val p.isLt).toLoadRect (ix3 z l x)
    = held (fun l x => mean 16 (blocks 1 16 uq) (blocks 1 16 uk) (blocks 1 16 uv) (blockOf 1 16 l) (placeOf 1 l) x)
        (fun b r x => mean 4 q4 k4 v4 b r x) (fun b r x => mean 1 q16 k16 v16 b r x) p l x :=
  read_plane _ _ _ vm _ _ _ _ _ _ _ _ _ _ _ _ _ _ _ _ _ _ _ _ _ _ _ _ _ _ _ _ _ _ _ _ _
    (fun l x => (mean1 _ _ x l 0 uv).trans (by rw [dense_blocks, dense_keys]))
    (fun r x => (slice_60 r x _ _ _ _ _ _ _).trans (mean4 q4 k4 v4 0 r x))
    (fun r x => (slice_62 r x _ _ _ _ _ _ _).trans (mean4 q4 k4 v4 1 r x))
    (fun r x => (slice_63 r x _).trans (mean4 q4 k4 v4 2 r x))
    (fun r x => (slice_64 r x _).trans (mean4 q4 k4 v4 3 r x))
    (fun r x => (slice_65 r x _).trans (mean4 q4 k4 v4 4 r x))
    (fun r x => (slice_66 r x _).trans (mean4 q4 k4 v4 5 r x))
    (fun r x => (slice_68 r x _).trans (mean4 q4 k4 v4 6 r x))
    (fun r x => (slice_69 r x _).trans (mean4 q4 k4 v4 7 r x))
    (fun r x => (slice_70 r x _).trans (mean4 q4 k4 v4 8 r x))
    (fun r x => (slice_71 r x _).trans (mean4 q4 k4 v4 9 r x))
    (fun r x => (slice_72 r x _).trans (mean4 q4 k4 v4 10 r x))
    (fun r x => (slice_73 r x _).trans (mean4 q4 k4 v4 11 r x))
    (fun r x => (slice_74 r x _).trans (mean4 q4 k4 v4 12 r x))
    (fun r x => (slice_75 r x _).trans (mean4 q4 k4 v4 13 r x))
    (fun r x => (slice_76 r x _).trans (mean4 q4 k4 v4 14 r x))
    (fun r x => (slice_78 r x _).trans (mean4 q4 k4 v4 15 r x))
    (fun r x => (slice_108 r x _ _ _ _ _).trans (mean16 q16 k16 v16 0 r x))
    (fun r x => (slice_109 r x _ _ _ _ _).trans (mean16 q16 k16 v16 1 r x))
    (fun r x => (slice_110 r x _ _ _ _ _).trans (mean16 q16 k16 v16 2 r x))
    (fun r x => (slice_111 r x _).trans (mean16 q16 k16 v16 3 r x))
    (fun r x => (slice_112 r x _).trans (mean16 q16 k16 v16 4 r x))
    (fun r x => (slice_113 r x _).trans (mean16 q16 k16 v16 5 r x))
    (fun r x => (slice_114 r x _).trans (mean16 q16 k16 v16 6 r x))
    (fun r x => (slice_116 r x _).trans (mean16 q16 k16 v16 7 r x))
    (fun r x => (slice_117 r x _).trans (mean16 q16 k16 v16 8 r x))
    (fun r x => (slice_118 r x _).trans (mean16 q16 k16 v16 9 r x))
    (fun r x => (slice_119 r x _).trans (mean16 q16 k16 v16 10 r x))
    (fun r x => (slice_120 r x _).trans (mean16 q16 k16 v16 11 r x))
    (fun r x => (slice_122 r x _).trans (mean16 q16 k16 v16 12 r x))
    (fun r x => (slice_123 r x _).trans (mean16 q16 k16 v16 13 r x))
    (fun r x => (slice_124 r x _).trans (mean16 q16 k16 v16 14 r x))
    (fun r x => (slice_125 r x _).trans (mean16 q16 k16 v16 15 r x))
    p z l x

/-- The three planes. -/
abbrev three (L : List (View.Piece (Elt Ideal) S3x2048x128 .f32)) (w : View sig κ sp S3x2048x128 .f32) (p : Fin 3) : FVec Ideal S1x2048x128 .f32 :=
  w.readCov (Val := Elt Ideal) L (plane p.val p.isLt).toLoadRect

/-- The logarithms that a grid point writes, when its blocks are the rows of its queries and keys. -/
theorem written_logs (q k : Mat 2048 128) (hq : uq = q) (hk : uk = k) (hq4 : q4 = blocks 4 4 uq) (hk4 : k4 = blocks 4 4 uk)
    (hq16 : q16 = blocks 16 1 uq) (hk16 : k16 = blocks 16 1 uk) :
    k0_pay2 (F := Ideal)
      (k0_pay150 (F := Ideal) (three (logStores uq uk q4 k4 q16 k16) vl 0) (three (logStores uq uk q4 k4 q16 k16) vl 1) (three (logStores uq uk q4 k4 q16 k16) vl 2))
      (k0_pay154 (F := Ideal) (three (logStores uq uk q4 k4 q16 k16) vl 0) (three (logStores uq uk q4 k4 q16 k16) vl 1) (three (logStores uq uk q4 k4 q16 k16) vl 2))
      (ix3 z l x) = attendLog q k l := by
  refine (joint_eq x l z _ _ _).trans ?_
  subst hq hk hq4 hk4 hq16 hk16
  unfold attendLog
  exact congr (congr (congrArg joint (read_logs _ _ _ _ _ _ vl 0 l x 0)) (read_logs _ _ _ _ _ _ vl 0 l x 1)) (read_logs _ _ _ _ _ _ vl 0 l x 2)

/-- The columns that it writes. -/
theorem written (q k v : Mat 2048 128) (hq : uq = q) (hk : uk = k) (hv : uv = v) (hq4 : q4 = blocks 4 4 uq) (hk4 : k4 = blocks 4 4 uk)
    (hv4 : v4 = blocks 4 4 uv) (hq16 : q16 = blocks 16 1 uq) (hk16 : k16 = blocks 16 1 uk) (hv16 : v16 = blocks 16 1 uv) :
    k0_pay1 (F := Ideal)
      (k0_pay153 (F := Ideal) (three (logStores uq uk q4 k4 q16 k16) vl 0) (three (logStores uq uk q4 k4 q16 k16) vl 1) (three (logStores uq uk q4 k4 q16 k16) vl 2))
      (k0_pay154 (F := Ideal) (three (logStores uq uk q4 k4 q16 k16) vl 0) (three (logStores uq uk q4 k4 q16 k16) vl 1) (three (logStores uq uk q4 k4 q16 k16) vl 2))
      (k0_pay155 (F := Ideal) (three (logStores uq uk q4 k4 q16 k16) vl 0) (three (logStores uq uk q4 k4 q16 k16) vl 1) (three (logStores uq uk q4 k4 q16 k16) vl 2)
        (three (meanStores uq uk uv q4 k4 v4 q16 k16 v16) vm 0))
      (k0_pay156 (F := Ideal) (three (logStores uq uk q4 k4 q16 k16) vl 0) (three (logStores uq uk q4 k4 q16 k16) vl 1) (three (logStores uq uk q4 k4 q16 k16) vl 2)
        (three (meanStores uq uk uv q4 k4 v4 q16 k16 v16) vm 1))
      (three (meanStores uq uk uv q4 k4 v4 q16 k16 v16) vm 2) (ix2 l x) = attend q k v l x := by
  refine (mix_eq x l _ _ _ _ _ _).trans ?_
  subst hq hk hv hq4 hk4 hv4 hq16 hk16 hv16
  unfold attend
  exact congr (congr (congr (congr (congr (congrArg mix (read_logs _ _ _ _ _ _ vl 0 l x 0)) (read_logs _ _ _ _ _ _ vl 0 l x 1))
    (read_logs _ _ _ _ _ _ vl 0 l x 2)) (read_means _ _ _ _ _ _ _ _ _ vm 0 l x 0)) (read_means _ _ _ _ _ _ _ _ _ vm 0 l x 1))
    (read_means _ _ _ _ _ _ _ _ _ vm 0 l x 2)

/-! ## The blocks that the boxes read -/

section
variable {sq : Space} {κq : Kind} (w : View sig κq sq S2048x128 .f32) (mr : Memref sig κq sq S2048x128 .f32) (hm : mr.IsWhole) (u : Mat 2048 128)
  (inb : ∀ a, (![0, 0] : Fin 2 → ℕ) a + (![2048, 128] : Fin 2 → ℕ) a ≤ S2048x128.size a)

/-- A box of an array stored whole, and of a block. -/
abbrev stored (B : LoadRect S2048x128) : B.shape.Idx → EReal :=
  w.readCov (Val := Elt Ideal) [(⟨Rect.unit ![0, 0] ![2048, 128] inb, u⟩ : View.Piece (Elt Ideal) S2048x128 .f32)] B
abbrev loaded (B : LoadRect S2048x128) : B.shape.Idx → EReal := mr.view.readAt (Elt Ideal) B (hm.unread (Val := Elt Ideal) u)

/-- The sixteen boxes of an array, at the two dilations. -/
abbrev at4 (f : (B : LoadRect S2048x128) → B.shape.Idx → EReal) : Fin 16 → Vec Ideal S128x128 .f32 :=
  ![f (box4 0), f (box4 512), f (box4 1024), f (box4 1536),
    f (box4 1), f (box4 513), f (box4 1025), f (box4 1537),
    f (box4 2), f (box4 514), f (box4 1026), f (box4 1538),
    f (box4 3), f (box4 515), f (box4 1027), f (box4 1539)]
abbrev at16 (f : (B : LoadRect S2048x128) → B.shape.Idx → EReal) : Fin 16 → Vec Ideal S128x128 .f32 :=
  ![f (box16 0), f (box16 1), f (box16 2), f (box16 3),
    f (box16 4), f (box16 5), f (box16 6), f (box16 7),
    f (box16 8), f (box16 9), f (box16 10), f (box16 11),
    f (box16 12), f (box16 13), f (box16 14), f (box16 15)]

theorem at4_apply (f : (B : LoadRect S2048x128) → B.shape.Idx → EReal) (hf : ∀ B y, f B y = u (B.idx y)) (b : Fin 16) (i j : Fin 128) :
    at4 f b (ix2 i j) = blocks 4 4 u (ix3 b i j) := by
  fin_cases b
  · exact (hf _ _).trans (congrArg u (box4_row 0 0 (by decide) (by decide) i j))
  · exact (hf _ _).trans (congrArg u (box4_row 1 512 (by decide) (by decide) i j))
  · exact (hf _ _).trans (congrArg u (box4_row 2 1024 (by decide) (by decide) i j))
  · exact (hf _ _).trans (congrArg u (box4_row 3 1536 (by decide) (by decide) i j))
  · exact (hf _ _).trans (congrArg u (box4_row 4 1 (by decide) (by decide) i j))
  · exact (hf _ _).trans (congrArg u (box4_row 5 513 (by decide) (by decide) i j))
  · exact (hf _ _).trans (congrArg u (box4_row 6 1025 (by decide) (by decide) i j))
  · exact (hf _ _).trans (congrArg u (box4_row 7 1537 (by decide) (by decide) i j))
  · exact (hf _ _).trans (congrArg u (box4_row 8 2 (by decide) (by decide) i j))
  · exact (hf _ _).trans (congrArg u (box4_row 9 514 (by decide) (by decide) i j))
  · exact (hf _ _).trans (congrArg u (box4_row 10 1026 (by decide) (by decide) i j))
  · exact (hf _ _).trans (congrArg u (box4_row 11 1538 (by decide) (by decide) i j))
  · exact (hf _ _).trans (congrArg u (box4_row 12 3 (by decide) (by decide) i j))
  · exact (hf _ _).trans (congrArg u (box4_row 13 515 (by decide) (by decide) i j))
  · exact (hf _ _).trans (congrArg u (box4_row 14 1027 (by decide) (by decide) i j))
  · exact (hf _ _).trans (congrArg u (box4_row 15 1539 (by decide) (by decide) i j))

theorem at16_apply (f : (B : LoadRect S2048x128) → B.shape.Idx → EReal) (hf : ∀ B y, f B y = u (B.idx y)) (b : Fin 16) (i j : Fin 128) :
    at16 f b (ix2 i j) = blocks 16 1 u (ix3 b i j) := by
  fin_cases b
  · exact (hf _ _).trans (congrArg u (box16_row 0 0 (by decide) (by decide) i j))
  · exact (hf _ _).trans (congrArg u (box16_row 1 1 (by decide) (by decide) i j))
  · exact (hf _ _).trans (congrArg u (box16_row 2 2 (by decide) (by decide) i j))
  · exact (hf _ _).trans (congrArg u (box16_row 3 3 (by decide) (by decide) i j))
  · exact (hf _ _).trans (congrArg u (box16_row 4 4 (by decide) (by decide) i j))
  · exact (hf _ _).trans (congrArg u (box16_row 5 5 (by decide) (by decide) i j))
  · exact (hf _ _).trans (congrArg u (box16_row 6 6 (by decide) (by decide) i j))
  · exact (hf _ _).trans (congrArg u (box16_row 7 7 (by decide) (by decide) i j))
  · exact (hf _ _).trans (congrArg u (box16_row 8 8 (by decide) (by decide) i j))
  · exact (hf _ _).trans (congrArg u (box16_row 9 9 (by decide) (by decide) i j))
  · exact (hf _ _).trans (congrArg u (box16_row 10 10 (by decide) (by decide) i j))
  · exact (hf _ _).trans (congrArg u (box16_row 11 11 (by decide) (by decide) i j))
  · exact (hf _ _).trans (congrArg u (box16_row 12 12 (by decide) (by decide) i j))
  · exact (hf _ _).trans (congrArg u (box16_row 13 13 (by decide) (by decide) i j))
  · exact (hf _ _).trans (congrArg u (box16_row 14 14 (by decide) (by decide) i j))
  · exact (hf _ _).trans (congrArg u (box16_row 15 15 (by decide) (by decide) i j))

theorem queries4 : k0_pay24 (F := Ideal) (stored w u inb (box4 0)) (stored w u inb (box4 512)) (stored w u inb (box4 1024)) (stored w u inb (box4 1536)) (stored w u inb (box4 1)) (stored w u inb (box4 513)) (stored w u inb (box4 1025)) (stored w u inb (box4 1537)) (stored w u inb (box4 2)) (stored w u inb (box4 514)) (stored w u inb (box4 1026)) (stored w u inb (box4 1538)) (stored w u inb (box4 3)) (stored w u inb (box4 515)) (stored w u inb (box4 1027)) (stored w u inb (box4 1539))
      = blocks 4 4 u := by
  funext y
  idx_vars y
  exact (gather_24 (at4 (stored w u inb)) y0 y1 y2).trans (at4_apply u _ (load_stored u w inb) y0 y1 y2)

theorem keys4 : k0_pay39 (F := Ideal) (stored w u inb (box4 1027)) (stored w u inb (box4 1539)) (k0_pay25 (F := Ideal) (stored w u inb (box4 0))) (k0_pay26 (F := Ideal) (stored w u inb (box4 512))) (k0_pay27 (F := Ideal) (stored w u inb (box4 1024))) (k0_pay28 (F := Ideal) (stored w u inb (box4 1536))) (k0_pay29 (F := Ideal) (stored w u inb (box4 1))) (k0_pay30 (F := Ideal) (stored w u inb (box4 513))) (k0_pay31 (F := Ideal) (stored w u inb (box4 1025))) (k0_pay32 (F := Ideal) (stored w u inb (box4 1537))) (k0_pay33 (F := Ideal) (stored w u inb (box4 2))) (k0_pay34 (F := Ideal) (stored w u inb (box4 514))) (k0_pay35 (F := Ideal) (stored w u inb (box4 1026))) (k0_pay36 (F := Ideal) (stored w u inb (box4 1538))) (k0_pay37 (F := Ideal) (stored w u inb (box4 3))) (k0_pay38 (F := Ideal) (stored w u inb (box4 515)))
      = blocks 4 4 u := by
  funext y
  idx_vars y
  exact (gather_39 (at4 (stored w u inb)) y0 y1 y2).trans (at4_apply u _ (load_stored u w inb) y0 y1 y2)

theorem values4 : k0_pay48 (F := Ideal) (loaded mr hm u (box4 2)) (loaded mr hm u (box4 514)) (loaded mr hm u (box4 1026)) (loaded mr hm u (box4 1538)) (loaded mr hm u (box4 3)) (loaded mr hm u (box4 515)) (loaded mr hm u (box4 1027)) (loaded mr hm u (box4 1539)) (k0_pay40 (F := Ideal) (loaded mr hm u (box4 0))) (k0_pay41 (F := Ideal) (loaded mr hm u (box4 512))) (k0_pay42 (F := Ideal) (loaded mr hm u (box4 1024))) (k0_pay43 (F := Ideal) (loaded mr hm u (box4 1536))) (k0_pay44 (F := Ideal) (loaded mr hm u (box4 1))) (k0_pay45 (F := Ideal) (loaded mr hm u (box4 513))) (k0_pay46 (F := Ideal) (loaded mr hm u (box4 1025))) (k0_pay47 (F := Ideal) (loaded mr hm u (box4 1537)))
      = blocks 4 4 u := by
  funext y
  idx_vars y
  exact (gather_48 (at4 (loaded mr hm u)) y0 y1 y2).trans (at4_apply u _ (load_block u mr hm) y0 y1 y2)

theorem queries16 : k0_pay99 (F := Ideal) (stored w u inb (box16 0)) (stored w u inb (box16 1)) (stored w u inb (box16 2)) (stored w u inb (box16 3)) (stored w u inb (box16 4)) (stored w u inb (box16 5)) (stored w u inb (box16 6)) (stored w u inb (box16 7)) (stored w u inb (box16 8)) (stored w u inb (box16 9)) (stored w u inb (box16 10)) (stored w u inb (box16 11)) (stored w u inb (box16 12)) (stored w u inb (box16 13)) (stored w u inb (box16 14)) (stored w u inb (box16 15))
      = blocks 16 1 u := by
  funext y
  idx_vars y
  exact (gather_99 (at16 (stored w u inb)) y0 y1 y2).trans (at16_apply u _ (load_stored u w inb) y0 y1 y2)

theorem keys16 : k0_pay100 (F := Ideal) (stored w u inb (box16 0)) (stored w u inb (box16 1)) (stored w u inb (box16 2)) (stored w u inb (box16 3)) (stored w u inb (box16 4)) (stored w u inb (box16 5)) (stored w u inb (box16 6)) (stored w u inb (box16 7)) (stored w u inb (box16 8)) (stored w u inb (box16 9)) (stored w u inb (box16 10)) (stored w u inb (box16 11)) (stored w u inb (box16 12)) (stored w u inb (box16 13)) (stored w u inb (box16 14)) (stored w u inb (box16 15))
      = blocks 16 1 u := by
  funext y
  idx_vars y
  exact (gather_100 (at16 (stored w u inb)) y0 y1 y2).trans (at16_apply u _ (load_stored u w inb) y0 y1 y2)

theorem values16 : k0_pay101 (F := Ideal) (loaded mr hm u (box16 0)) (loaded mr hm u (box16 1)) (loaded mr hm u (box16 2)) (loaded mr hm u (box16 3)) (loaded mr hm u (box16 4)) (loaded mr hm u (box16 5)) (loaded mr hm u (box16 6)) (loaded mr hm u (box16 7)) (loaded mr hm u (box16 8)) (loaded mr hm u (box16 9)) (loaded mr hm u (box16 10)) (loaded mr hm u (box16 11)) (loaded mr hm u (box16 12)) (loaded mr hm u (box16 13)) (loaded mr hm u (box16 14)) (loaded mr hm u (box16 15))
      = blocks 16 1 u := by
  funext y
  idx_vars y
  exact (gather_101 (at16 (loaded mr hm u)) y0 y1 y2).trans (at16_apply u _ (load_block u mr hm) y0 y1 y2)

end

end Cert.DilatedIdeal.Stack

end
-- ==== Proof.DilatedSource.lean ====
/-
  The dilated attention's reference, stage by stage: it is `Cert.Dilated.attend` of each head, written into the columns of the
  heads, and `Cert.Dilated.attendLog`.
-/
module

public import proofs.«01_k».proof.Defs
public import proofs.«01_k».proof.Proof.DilatedBand
public import proofs.«01_k».proof.Proof.Gen.DilatedRefIdeal
public import proofs.«01_k».proof.Proof.Gen.DilatedRefIdeal.Run
public import proofs.«01_k».proof.Proof.Gen.DilatedRefIdeal.Read

@[expose] public section

set_option maxRecDepth 16384

noncomputable section

open Idealize.ShloMosaic Idealize.ShloMosaic.TcCoe Idealize.SL.Sem Cert.Products

/-! # The dilated attention's reference

A head's queries and keys are turned by the positions' angles. For each of the dilations 1, 4 and 16 the rows are split into classes,
and the classes of all heads stand one after the other; a block of 128 rows of a class is held against the 256 keys of the block
before and of the block. -/

namespace Cert.DilatedRefIdeal.Result

open Cert.DilatedRefIdeal Cert.DilatedRefIdeal.Read Cert.Dilated
open Cert.Band (scale before own_mask select_ite and_ite sum_halves max_halves lo hi start_mask)

/-- The turning of a block's columns: the first 16 and the next 16 by the angles, the others as they are. -/
def turned (u : Mat 2048 128) : Mat 2048 128 := fun y =>
  if _ : (y 1).val < 16 then
    u (ix2 (y 0) ⟨(y 1).val, (y 1).isLt⟩) * val_main_v16 (F := Ideal) (ix2 (y 0) ⟨(y 1).val, by omega⟩)
      - u (ix2 (y 0) ⟨(y 1).val + 16, by omega⟩) * val_main_v17 (F := Ideal) (ix2 (y 0) ⟨(y 1).val, by omega⟩)
  else if _ : (y 1).val < 32 then
    u (ix2 (y 0) ⟨(y 1).val, (y 1).isLt⟩) * val_main_v16 (F := Ideal) (ix2 (y 0) ⟨(y 1).val - 16, by omega⟩)
      + u (ix2 (y 0) ⟨(y 1).val - 16, by omega⟩) * val_main_v17 (F := Ideal) (ix2 (y 0) ⟨(y 1).val - 16, by omega⟩)
  else u (ix2 (y 0) ⟨(y 1).val, (y 1).isLt⟩)

/-- A block of 128 columns of the projections. -/
def columns (x : Mat 2048 5632) (p : Fin 44) : Mat 2048 128 := fun y => x (ix2 (y 0) ⟨p.val * 128 + (y 1).val, by have := (y 1).isLt; change _ < 128 at this; omega⟩)

/-- A head's queries, keys and values. -/
def queries (x : Mat 2048 5632) (h : Fin 6) : Mat 2048 128 := turned (columns x ⟨16 + h.val, by omega⟩)
def keys (x : Mat 2048 5632) (h : Fin 6) : Mat 2048 128 := turned (columns x ⟨22 + h.val, by omega⟩)
def values (x : Mat 2048 5632) (h : Fin 6) : Mat 2048 128 := columns x ⟨28 + h.val, by omega⟩

variable (x : Mat 2048 5632) (h : Fin 6) (l : Fin 2048) (d : Fin 128)

theorem queries_eq : val_main_v40 (F := Ideal) x (ix3 h l d) = queries x h (ix2 l d) := by
  pointwise [val_main_v40, val_main_v39, val_main_v38, val_main_v37, val_main_v36, val_main_v35, val_main_v16, val_main_v33, val_main_v32, val_main_v31, val_main_v30, val_main_v29, val_main_v28, val_main_v27, val_main_v26, val_main_v25, val_main_v24, val_main_v23, val_main_v22, val_main_v21, val_main_v20, val_main_v19, val_main_v18]
  unfold queries turned columns
  by_cases h16 : d.val < 16
  · rw [dif_pos (show d.val < 32 by omega), dif_pos h16]
    refine Eq.trans ?_ (dif_pos h16).symm
    exact congrArg₂ (· - ·)
      (congrArg (· * _) (congrArg x (congrArg (ix2 l) (Fin.ext (show 2048 + (h.val * 128 + d.val) = (16 + h.val) * 128 + (d.val) by omega)))))
      (congrArg (· * _) (congrArg x (congrArg (ix2 l) (Fin.ext (show 2048 + (h.val * 128 + (16 + d.val)) = (16 + h.val) * 128 + (d.val + 16) by omega)))))
  · refine Eq.trans ?_ (dif_neg h16).symm
    by_cases h32 : d.val < 32
    · rw [dif_pos h32, dif_neg h16]
      refine Eq.trans ?_ (dif_pos h32).symm
      exact congrArg₂ (· + ·)
        (congrArg (· * _) (congrArg x (congrArg (ix2 l) (Fin.ext (show 2048 + (h.val * 128 + (16 + (d.val - 16))) = (16 + h.val) * 128 + (d.val) by omega)))))
        (congrArg (· * _) (congrArg x (congrArg (ix2 l) (Fin.ext (show 2048 + (h.val * 128 + (d.val - 16)) = (16 + h.val) * 128 + (d.val - 16) by omega)))))
    · rw [dif_neg h32]
      refine Eq.trans ?_ (dif_neg h32).symm
      exact (congrArg x (congrArg (ix2 l) (Fin.ext (show 2048 + (h.val * 128 + (32 + (d.val - 32))) = (16 + h.val) * 128 + (d.val) by omega))))

theorem keys_eq : val_main_v63 (F := Ideal) x (ix3 h l d) = keys x h (ix2 l d) := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41]
  unfold keys turned columns
  by_cases h16 : d.val < 16
  · rw [dif_pos (show d.val < 32 by omega), dif_pos h16]
    refine Eq.trans ?_ (dif_pos h16).symm
    exact congrArg₂ (· - ·)
      (congrArg (· * _) (congrArg x (congrArg (ix2 l) (Fin.ext (show 2816 + (h.val * 128 + d.val) = (22 + h.val) * 128 + (d.val) by omega)))))
      (congrArg (· * _) (congrArg x (congrArg (ix2 l) (Fin.ext (show 2816 + (h.val * 128 + (16 + d.val)) = (22 + h.val) * 128 + (d.val + 16) by omega)))))
  · refine Eq.trans ?_ (dif_neg h16).symm
    by_cases h32 : d.val < 32
    · rw [dif_pos h32, dif_neg h16]
      refine Eq.trans ?_ (dif_pos h32).symm
      exact congrArg₂ (· + ·)
        (congrArg (· * _) (congrArg x (congrArg (ix2 l) (Fin.ext (show 2816 + (h.val * 128 + (16 + (d.val - 16))) = (22 + h.val) * 128 + (d.val) by omega)))))
        (congrArg (· * _) (congrArg x (congrArg (ix2 l) (Fin.ext (show 2816 + (h.val * 128 + (d.val - 16)) = (22 + h.val) * 128 + (d.val - 16) by omega)))))
    · rw [dif_neg h32]
      refine Eq.trans ?_ (dif_neg h32).symm
      exact (congrArg x (congrArg (ix2 l) (Fin.ext (show 2816 + (h.val * 128 + (32 + (d.val - 32))) = (22 + h.val) * 128 + (d.val) by omega))))

theorem values_eq : val_main_v66 (F := Ideal) x (ix3 h l d) = values x h (ix2 l d) := by
  pointwise [val_main_v66, val_main_v65, val_main_v64]
  exact congrArg x (congrArg (ix2 l) (Fin.ext (show 3584 + (h.val * 128 + d.val) = (28 + h.val) * 128 + d.val by omega)))

theorem row_val_1 (b : Fin 16) (i : Fin 128) : (row 1 16 b i).val = b.val * 128 + i.val := by
  show (b.val / 16 + 1 * ((b.val % 16) * 128 + i.val)) % 2048 = _
  rw [Nat.div_eq_of_lt b.isLt, Nat.mod_eq_of_lt b.isLt, Nat.mod_eq_of_lt (by omega)]
  omega

/-- The head that a column belongs to, and its place there. -/
def headOf (p : Fin 2048) : Fin 6 := ⟨(p.val / 128 - 4) % 6, by omega⟩
def inHead (p : Fin 2048) : Fin 128 := ⟨p.val % 128, by omega⟩

theorem plus_log_at {S : Shape} (u w : FVec Ideal S .f32) (y : S.Idx) :
    addf u (log w) y = u y + Ideal.log (w y) := rfl

end Cert.DilatedRefIdeal.Result

end
-- ==== Proof.DilatedValue.lean ====
/-
  `dilated_fwd`: the dilated heads of the attention, forward. A grid point is a head: it turns the head's queries and keys by the
  positions' angles, attends at the dilations 1, 4 and 16, and writes the head's columns of the mixed array, the same rounded, and
  the logarithms of the sums. Here: what the call leaves.
-/
module

public import proofs.«01_k».proof.Defs
public import proofs.«01_k».proof.Proof.Gen.DilatedIdeal
public import proofs.«01_k».proof.Proof.Gen.DilatedIdeal.Frame
public import proofs.«01_k».proof.Proof.Gen.DilatedIdeal.Value
public import proofs.«01_k».proof.Proof.DilatedStack
public import proofs.«01_k».proof.Proof.DilatedSource

@[expose] public section

set_option maxRecDepth 16384

noncomputable section

open Idealize.ShloMosaic Idealize.ShloMosaic.TcCoe Idealize.SL.Sem Cert.Products

namespace Cert.DilatedIdeal.Result

open Cert.DilatedIdeal Cert.DilatedIdeal.Gen Cert.DilatedIdeal.Head Cert.DilatedIdeal.Stack Cert.DilatedRefIdeal.Result Cert.DilatedRefIdeal.Read Cert.Dilated

variable (m : (ℓ : Loc nD τ sig) → Buf (Elt Ideal) ℓ) (c : Dev nD)

/-- Grid point `t` is a head: it reads columns `16 + t`, `22 + t` and `28 + t` of the projections, the three tables, and writes
    columns `4 + t`, each column 128 wide. -/
theorem index_eq : ∀ t : Fin cfg0.N, win0_0.index t = ![0, 16 + t.val] ∧ win0_1.index t = ![0, 22 + t.val]
    ∧ win0_2.index t = ![0, 28 + t.val] ∧ win0_3.index t = ![0, 0] ∧ win0_4.index t = ![0, 0] ∧ win0_5.index t = ![0, 0]
    ∧ win0_6.index t = ![0, 4 + t.val] ∧ win0_7.index t = ![0, 4 + t.val] ∧ win0_8.index t = ![t.val, 0, 0] := by decide +kernel

theorem point (t : Fin cfg0.N) : t.val < 6 := lt_of_lt_of_eq t.isLt N_0

/-- The arguments. -/
abbrev projections : Mat 2048 5632 := m ((c : Thread nD τ).loc main_arg0)
abbrev old : Mat 2048 2048 := m ((c : Thread nD τ).loc main_arg1)
abbrev old_bf : FVec Ideal S2048x2048 .bf16 := m ((c : Thread nD τ).loc main_arg2)

/-- The head of a grid point. -/
abbrev head (t : Fin cfg0.N) : Fin 6 := ⟨t.val, point t⟩

theorem query_block (t : Fin cfg0.N) : (iblk m c 0 t : Mat 2048 128) = columns (projections m c) ⟨16 + t.val, by have := point t; omega⟩ := by
  funext y
  idx_vars y
  show iblk m c 0 t (ix2 y0 y1) = m ((c : Thread nD τ).loc main_arg0) (ix2 y0 ⟨(16 + t.val) * 128 + y1.val, by have := point t; omega⟩)
  blk_ext! [iblk, V, (index_eq t).1]

theorem key_block (t : Fin cfg0.N) : (iblk m c 1 t : Mat 2048 128) = columns (projections m c) ⟨22 + t.val, by have := point t; omega⟩ := by
  funext y
  idx_vars y
  show iblk m c 1 t (ix2 y0 y1) = m ((c : Thread nD τ).loc main_arg0) (ix2 y0 ⟨(22 + t.val) * 128 + y1.val, by have := point t; omega⟩)
  blk_ext! [iblk, V, (index_eq t).2.1]

theorem value_block (t : Fin cfg0.N) : (iblk m c 2 t : Mat 2048 128) = columns (projections m c) ⟨28 + t.val, by have := point t; omega⟩ := by
  funext y
  idx_vars y
  show iblk m c 2 t (ix2 y0 y1) = m ((c : Thread nD τ).loc main_arg0) (ix2 y0 ⟨(28 + t.val) * 128 + y1.val, by have := point t; omega⟩)
  blk_ext! [iblk, V, (index_eq t).2.2.1]

/-- Zeros and ones. -/
def none16 : FVec Ideal S2048x16 .f32 := broadcastInDim S2048x16 ![] bcast_S_S2048x16 (constant S_ .f32 0x00000000#32)
def none96 : FVec Ideal S2048x96 .f32 := broadcastInDim S2048x96 ![] bcast_S_S2048x96 (constant S_ .f32 0x00000000#32)
def ones96 : FVec Ideal S2048x96 .f32 := addf none96 (broadcastInDim S2048x96 ![] bcast_S_S2048x96 (constant S_ .f32 0x3F800000#32))

/-- A table of 16, 16 and 96 columns. -/
def table (a b : FVec Ideal S2048x16 .f32) (e : FVec Ideal S2048x96 .f32) : FVec Ideal S2048x128 .f32 :=
  concatenate S2048x128 1 [⟨S2048x16, a⟩, ⟨S2048x16, b⟩, ⟨S2048x96, e⟩] concatenates_S2048x16_S2048x16_S2048x96_S2048x128_d1

theorem table_apply (a b : FVec Ideal S2048x16 .f32) (e : FVec Ideal S2048x96 .f32) (l : Fin 2048) (d : Fin 128) :
    table a b e (ix2 l d) = if h : d.val < 16 then a (ix2 l ⟨d.val, h⟩)
      else if h : d.val < 32 then b (ix2 l ⟨d.val - 16, by omega⟩) else e (ix2 l ⟨d.val - 32, by omega⟩) := by
  unfold table
  pointwise
  by_cases h16 : d.val < 16
  · rw [dif_pos h16, dif_pos h16]
  · by_cases h32 : d.val < 32
    · rw [dif_neg h16, dif_neg h16, dif_pos h32, dif_pos (show d.val - 16 < 16 by omega)]
    · rw [dif_neg h16, dif_neg h16, dif_neg h32, dif_neg (show ¬ d.val - 16 < 16 by omega)]
      exact congrArg e (congrArg (ix2 l) (Fin.ext (show d.val - 16 - 16 = d.val - 32 by omega)))

theorem none16_apply (y : S2048x16.Idx) : none16 y = 0 := by
  unfold none16
  idx_vars y
  pointwise

theorem none96_apply (y : S2048x96.Idx) : none96 y = 0 := by
  unfold none96
  idx_vars y
  pointwise

theorem ones96_apply (y : S2048x96.Idx) : ones96 y = 1 := by
  unfold ones96
  idx_vars y
  show none96 (ix2 y0 y1) + _ = (1 : EReal)
  rw [none96_apply, zero_add]
  pointwise

/-- The three tables the host prepares: the cosines, and the sines for the two shifts. -/
theorem cosines : V m c main_v22 = table (val_main_v16 (F := Ideal)) (val_main_v16 (F := Ideal)) ones96 := by
  unfold V
  after_results_simp
  rfl

theorem sines_after : V m c main_v23 = table none16 (val_main_v17 (F := Ideal)) none96 := by
  unfold V
  after_results_simp
  rfl

theorem sines_before : V m c main_v25 = table (Host.negf (val_main_v17 (F := Ideal))) none16 none96 := by
  unfold V
  after_results_simp
  rfl

theorem before_eq : V m c main_v26_0 = old m c := by
  unfold V
  after_results_simp
  rfl

theorem before_bf_eq : V m c main_v26_1 = old_bf m c := by
  unfold V
  after_results_simp
  rfl

theorem cosine_block (t : Fin cfg0.N) : (iblk m c 3 t : Mat 2048 128) = table (val_main_v16 (F := Ideal)) (val_main_v16 (F := Ideal)) ones96 := by
  rw [← cosines m c]
  funext y
  idx_vars y
  blk_ext! [iblk, (index_eq t).2.2.2.1]

theorem sine_after_block (t : Fin cfg0.N) : (iblk m c 4 t : Mat 2048 128) = table none16 (val_main_v17 (F := Ideal)) none96 := by
  rw [← sines_after m c]
  funext y
  idx_vars y
  blk_ext! [iblk, (index_eq t).2.2.2.2.1]

theorem sine_before_block (t : Fin cfg0.N) : (iblk m c 5 t : Mat 2048 128) = table (Host.negf (val_main_v17 (F := Ideal))) none16 none96 := by
  rw [← sines_before m c]
  funext y
  idx_vars y
  blk_ext! [iblk, (index_eq t).2.2.2.2.2.1]

/-- The tables turn a block as the angles do. -/
theorem turn (u : Mat 2048 128) : k0_pay7 (F := Ideal) (table (val_main_v16 (F := Ideal)) (val_main_v16 (F := Ideal)) ones96)
    (table none16 (val_main_v17 (F := Ideal)) none96) (table (Host.negf (val_main_v17 (F := Ideal))) none16 none96) u = turned u := by
  funext y
  idx_vars y
  rw [turn_eq, table_apply, table_apply, table_apply]
  by_cases h16 : y1.val < 16
  · rw [dif_pos h16, dif_pos h16, dif_pos h16, none16_apply]
    refine Eq.trans ?_ (dif_pos h16).symm
    rw [mul_zero, add_zero, sub_eq_add_neg]
    refine congrArg (HAdd.hAdd _) (Eq.trans (mul_neg _ _) (congrArg (fun e => -(u (ix2 y0 e) * _)) (Fin.ext ?_)))
    show (y1.val + 128 - 112) % 128 = y1.val + 16
    omega
  · rw [dif_neg h16, dif_neg h16, dif_neg h16]
    refine Eq.trans ?_ (dif_neg h16).symm
    by_cases h32 : y1.val < 32
    · rw [dif_pos h32, dif_pos h32, dif_pos h32, none16_apply]
      refine Eq.trans ?_ (dif_pos h32).symm
      rw [mul_zero, add_zero]
      refine congrArg (fun e => _ + e * _) (congrArg (fun e => u (ix2 y0 e)) (Fin.ext ?_))
      show (y1.val + 128 - 16) % 128 = y1.val - 16
      omega
    · rw [dif_neg h32, dif_neg h32, dif_neg h32, none96_apply, ones96_apply]
      refine Eq.trans ?_ (dif_neg h32).symm
      rw [mul_zero, mul_zero, add_zero, add_zero, mul_one]
      rfl

theorem query_eq (t : Fin cfg0.N) : k0_pay7 (F := Ideal) (iblk m c 3 t) (iblk m c 4 t) (iblk m c 5 t) (iblk m c 0 t)
    = queries (projections m c) (head t) := by
  rw [cosine_block, sine_after_block, sine_before_block, query_block, turn]
  rfl

theorem key_eq (t : Fin cfg0.N) : k0_pay8 (F := Ideal) (iblk m c 3 t) (iblk m c 4 t) (iblk m c 5 t) (iblk m c 1 t)
    = keys (projections m c) (head t) := by
  rw [cosine_block, sine_after_block, sine_before_block, key_block]
  refine Eq.trans (funext fun y => ?_) (turn _)
  idx_vars y
  exact turn_key_eq _ _ _ _ _ _

/-- The logarithms. -/
def logs (x : Mat 2048 5632) : FVec Ideal S6x2048x128 .f32 := fun y => attendLog (queries x (y 0)) (keys x (y 0)) (y 1)

/-- What a head's column holds. -/
def headMean (x : Mat 2048 5632) (l p : Fin 2048) : EReal :=
  attend (queries x (headOf p)) (keys x (headOf p)) (values x (headOf p)) l (inHead p)

/-- The heads' columns, and the others as they were. -/
def filled (x : Mat 2048 5632) (old : Mat 2048 2048) : Mat 2048 2048 := fun y =>
  if 4 ≤ (y 1).val / 128 ∧ (y 1).val / 128 < 10 then headMean x (y 0) (y 1) else old y

theorem headMean_eq (x : Mat 2048 5632) (l : Fin 2048) (t : Fin cfg0.N) (d : Fin 128)
    (h : (4 + t.val) * 128 + d.val < 2048) : headMean x l ⟨(4 + t.val) * 128 + d.val, h⟩
      = attend (queries x (head t)) (keys x (head t)) (values x (head t)) l d := by
  have ht := point t
  have e : headOf ⟨(4 + t.val) * 128 + d.val, h⟩ = head t :=
    Fin.ext (show (((4 + t.val) * 128 + d.val) / 128 - 4) % 6 = t.val by omega)
  have f : inHead ⟨(4 + t.val) * 128 + d.val, h⟩ = d := Fin.ext (show ((4 + t.val) * 128 + d.val) % 128 = d.val by omega)
  rw [headMean, e, f]

theorem logs_final : (dats m 0 c).arrAt 8 cfg0.N = logs (projections m c) := by
  refine (dats m 0 c).arrAt_eq_of_covers 8 _ (by decide +kernel) fun t hf y => ?_
  blk_simp
  rw [after0_8]
  idx_vars y
  rw [show ((View.whole main_v26_2).slice (win0_8.rect t)).emb (ix3 y0 y1 y2) = ix3 (head t) y1 y2 by
    funext a; apply Fin.ext; fin_cases a <;> blk_simp [(index_eq t).2.2.2.2.2.2.2.2] <;> rfl]
  unfold outsAt0
  dsimp only
  frame_out
  refine written_logs _ _ _ _ _ _ _ _ _ _ (queries (projections m c) (head t)) (keys (projections m c) (head t)) ?_ ?_ ?_ ?_ ?_ ?_
  · exact query_eq m c t
  · exact key_eq m c t
  · exact queries4 _ _ _
  · exact keys4 _ _ _
  · exact queries16 _ _ _
  · exact keys16 _ _ _

theorem rounded_eq (a b e f : FVec Ideal S2048x128 .f32) (g : FVec Ideal S1x2048x128 .f32) (l : Fin 2048) (d : Fin 128) :
    k0_pay3 (F := Ideal) a b e f g (ix2 l d) = k0_pay1 (F := Ideal) a b e f g (ix2 l d) := rfl

theorem filled_final : (dats m 0 c).arrAt 6 cfg0.N = filled (projections m c) (old m c) := by
  rw [← before_eq]
  refine (dats m 0 c).arrAt_eq_of_coversWhere 6 _ (fun β => 4 ≤ β (1 : Fin _) ∧ β (1 : Fin _) < 10) (by decide +kernel) (fun t hf y => ?_) (fun j => Iff.rfl)
  blk_simp
  rw [after0_6]
  idx_vars y
  rw [show ((View.whole main_v26_0).slice (win0_6.rect t)).emb (ix2 y0 y1) = ix2 y0 ⟨(4 + t.val) * 128 + y1.val, by have := point t; omega⟩ by
    funext a; apply Fin.ext; fin_cases a <;> blk_simp [(index_eq t).2.2.2.2.2.2.1] <;> rfl]
  refine Eq.trans ?_ (headMean_eq _ y0 t y1 _).symm
  unfold outsAt0
  dsimp only
  frame_out
  refine written _ _ _ _ _ _ _ _ _ _ _ _ _ (queries (projections m c) (head t)) (keys (projections m c) (head t))
    (values (projections m c) (head t)) ?_ ?_ ?_ ?_ ?_ ?_ ?_ ?_ ?_
  · exact query_eq m c t
  · exact key_eq m c t
  · exact value_block m c t
  · exact queries4 _ _ _
  · exact keys4 _ _ _
  · exact values4 _ _ _
  · exact queries16 _ _ _
  · exact keys16 _ _ _
  · exact values16 _ _ _

theorem filled_bf_final : (dats m 0 c).arrAt 7 cfg0.N = filled (projections m c) (old_bf m c) := by
  rw [← before_bf_eq]
  refine (dats m 0 c).arrAt_eq_of_coversWhere 7 _ (fun β => 4 ≤ β (1 : Fin _) ∧ β (1 : Fin _) < 10) (by decide +kernel) (fun t hf y => ?_) (fun j => Iff.rfl)
  blk_simp
  rw [after0_7]
  idx_vars y
  rw [show ((View.whole main_v26_1).slice (win0_7.rect t)).emb (ix2 y0 y1) = ix2 y0 ⟨(4 + t.val) * 128 + y1.val, by have := point t; omega⟩ by
    funext a; apply Fin.ext; fin_cases a <;> blk_simp [(index_eq t).2.2.2.2.2.2.2.1] <;> rfl]
  refine Eq.trans ?_ (headMean_eq _ y0 t y1 _).symm
  unfold outsAt0
  dsimp only
  frame_out
  refine (rounded_eq _ _ _ _ _ y0 y1).trans ?_
  refine written _ _ _ _ _ _ _ _ _ _ _ _ _ (queries (projections m c) (head t)) (keys (projections m c) (head t))
    (values (projections m c) (head t)) ?_ ?_ ?_ ?_ ?_ ?_ ?_ ?_ ?_
  · exact query_eq m c t
  · exact key_eq m c t
  · exact value_block m c t
  · exact queries4 _ _ _
  · exact keys4 _ _ _
  · exact values4 _ _ _
  · exact queries16 _ _ _
  · exact keys16 _ _ _
  · exact values16 _ _ _

end Cert.DilatedIdeal.Result

end
-- ==== Proof.DilatedOne.lean ====
/-
  The dilated attention's reference at dilation 1, stage by stage.
-/
module

public import proofs.«01_k».proof.Defs
public import proofs.«01_k».proof.Proof.DilatedSource
public import proofs.«01_k».proof.Proof.Gen.DilatedRefIdeal
public import proofs.«01_k».proof.Proof.Gen.DilatedRefIdeal.Run
public import proofs.«01_k».proof.Proof.Gen.DilatedRefIdeal.Read

@[expose] public section

set_option maxRecDepth 16384

noncomputable section

open Idealize.ShloMosaic Idealize.ShloMosaic.TcCoe Idealize.SL.Sem Cert.Products

namespace Cert.DilatedRefIdeal.Result

open Cert.DilatedRefIdeal Cert.DilatedRefIdeal.Read Cert.Dilated
open Cert.Band (scale before own_mask select_ite and_ite sum_halves max_halves lo hi start_mask)

variable (x : Mat 2048 5632) (h : Fin 6) (l : Fin 2048)

/-! ## Dilation 1 -/

namespace D1

variable (b : Fin 16) (g : Fin 6) (n : Fin 16) (i j y : Fin 128)
  (hg : g.val = h.val * 1 + b.val / 16) (hn : n.val = b.val % 16)

theorem mask_eq (z : Fin 256) : val_main_v117 (F := Ideal) (ix3 n i z)
    = if (z.val ≤ 128 + i.val ∧ i.val ≤ z.val) ∧ 128 ≤ n.val * 128 + z.val then 1#1 else 0#1 := by
  pointwise [val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_c_5, val_main_c_6, val_main_c_7, val_main_c_8, val_main_c_9, val_main_c_10]
  rw [band_mask]
  exact (congrArg _ (start_mask n z)).trans (and_ite _ _)

include hg hn

theorem query_at : val_main_v76 (F := Ideal) x (ix4 g n i y) = blocks 1 16 (queries x h) (ix3 b i y) := by
  unfold val_main_v76 val_main_v69 val_main_v68 val_main_v67
  refine Eq.trans ?_ (queries_eq x h (row 1 16 b i) y)
  generalize val_main_v40 (F := Ideal) x = u
  pointwise
  refine congrArg u ?_
  exact congrArg₂ (fun a r => ix3 a r y) (Fin.ext (by omega)) (Fin.ext (by rw [row_val_1]; show n.val * 128 + i.val = _; omega))

theorem key_at : val_main_v77 (F := Ideal) x (ix4 g n i y) = blocks 1 16 (keys x h) (ix3 b i y) := by
  unfold val_main_v77 val_main_v72 val_main_v71 val_main_v70
  refine Eq.trans ?_ (keys_eq x h (row 1 16 b i) y)
  generalize val_main_v63 (F := Ideal) x = u
  pointwise
  refine congrArg u ?_
  exact congrArg₂ (fun a r => ix3 a r y) (Fin.ext (by omega)) (Fin.ext (by rw [row_val_1]; show n.val * 128 + i.val = _; omega))

theorem value_at : val_main_v78 (F := Ideal) x (ix4 g n i y) = blocks 1 16 (values x h) (ix3 b i y) := by
  unfold val_main_v78 val_main_v75 val_main_v74 val_main_v73
  refine Eq.trans ?_ (values_eq x h (row 1 16 b i) y)
  generalize val_main_v66 (F := Ideal) x = u
  pointwise
  refine congrArg u ?_
  exact congrArg₂ (fun a r => ix3 a r y) (Fin.ext (by omega)) (Fin.ext (by rw [row_val_1]; show n.val * 128 + i.val = _; omega))

theorem score_hi : val_main_v118 (F := Ideal) x (ix4 g n i (hi j)) = own (blocks 1 16 (queries x h)) (blocks 1 16 (keys x h)) b i j := by
  pointwise [val_main_v118, val_main_v87, val_main_v86, val_main_cst_4, val_main_call2_v0, val_main_call2_v1, val_main_call2_v2, val_main_cst_11]
  rw [mask_eq, select_ite]
  unfold own
  by_cases hb : j ≤ i
  · have hb' : j.val ≤ i.val := hb
    refine (if_pos ⟨⟨show 128 + j.val ≤ 128 + i.val by omega, show i.val ≤ 128 + j.val by omega⟩,
        show 128 ≤ n.val * 128 + (128 + j.val) by omega⟩).trans (Eq.trans ?_ (if_pos hb).symm)
    refine congrArg (· * scale) ?_
    pointwise [val_main_v85, val_main_v81]
    refine Finset.sum_congr (M := EReal) rfl fun y _ => ?_
    rw [dif_neg (show ¬ (hi j).val < 128 by simp only [hi]; omega), query_at x h b g n i y hg hn,
      ← key_at x h b g n j y hg hn]
    refine congrArg (fun r => _ * val_main_v77 (F := Ideal) x (ix4 g n r y)) (Fin.ext ?_)
    show 128 + j.val - 128 = j.val
    omega
  · refine (if_neg fun a => hb ?_).trans (Cert.Finite.neg_inf_f32.trans (if_neg hb).symm)
    have : 128 + j.val ≤ 128 + i.val := a.1.1
    exact (show j.val ≤ i.val by omega)

theorem score_lo : val_main_v118 (F := Ideal) x (ix4 g n i (lo j)) = prev 16 (blocks 1 16 (queries x h)) (blocks 1 16 (keys x h)) b i j := by
  pointwise [val_main_v118, val_main_v87, val_main_v86, val_main_cst_4, val_main_call2_v0, val_main_call2_v1, val_main_call2_v2, val_main_cst_11]
  rw [mask_eq, select_ite]
  unfold prev
  by_cases hb : b.val % 16 ≠ 0 ∧ i ≤ j
  · have hb0 : 0 < n.val := by omega
    refine (if_pos ⟨⟨show j.val ≤ 128 + i.val by omega, hb.2⟩, show 128 ≤ n.val * 128 + j.val by omega⟩).trans
      (Eq.trans ?_ (if_pos hb).symm)
    refine congrArg (· * scale) ?_
    pointwise [val_main_v85, val_main_v81, val_main_v80, val_main_v79]
    refine Finset.sum_congr (M := EReal) rfl fun y _ => ?_
    rw [dif_pos (show (lo j).val < 128 from j.isLt), dif_pos (by have : (lo j).val < 128 := j.isLt; omega),
      query_at x h b g n i y hg hn]
    exact congrArg (_ * ·) (key_at x h (before b) g ⟨n.val - 1, by omega⟩ j y
      (show g.val = h.val * 1 + (b.val - 1) / 16 by omega) (show n.val - 1 = (b.val - 1) % 16 by omega))
  · refine (if_neg fun a => hb ?_).trans (Cert.Finite.neg_inf_f32.trans (if_neg hb).symm)
    have : 128 ≤ n.val * 128 + j.val := a.2
    exact ⟨by omega, a.1.2⟩

theorem value_lo (w : EReal) (hw : b.val % 16 = 0 → w = 0) :
    w * val_main_v84 (F := Ideal) x (ix4 g n (lo j) y) = w * blocks 1 16 (values x h) (ix3 (before b) j y) := by
  by_cases hb : b.val % 16 = 0
  · rw [hw hb, zero_mul, zero_mul]
  · pointwise [val_main_v84, val_main_v83, val_main_v82]
    rw [dif_pos (show (lo j).val < 128 from j.isLt), dif_pos (by have : (lo j).val < 128 := j.isLt; omega)]
    exact congrArg (_ * ·) (value_at x h (before b) g ⟨n.val - 1, by omega⟩ j y
      (show g.val = h.val * 1 + (b.val - 1) / 16 by omega) (show n.val - 1 = (b.val - 1) % 16 by omega))

theorem value_hi : val_main_v84 (F := Ideal) x (ix4 g n (hi j) y) = blocks 1 16 (values x h) (ix3 b j y) := by
  pointwise [val_main_v84]
  rw [dif_neg (show ¬ (hi j).val < 128 by simp only [hi]; omega), ← value_at x h b g n j y hg hn]
  refine congrArg (fun r => val_main_v78 (F := Ideal) x (ix4 g n r y)) (Fin.ext ?_)
  show 128 + j.val - 128 = j.val
  omega

theorem top_eq : val_main_v119 (F := Ideal) x (ix3 g n i) = top 16 (blocks 1 16 (queries x h)) (blocks 1 16 (keys x h)) b i := by
  unfold val_main_v119
  rw [Host.reduce_eq_fold, Shape.ReducesTo.fold_fiber_r4_a3,
    show val_main_cst_12 (F := Ideal) (Shape.Idx.first Gen.h_S_) = ⊥ from Cert.Finite.neg_inf_f32]
  refine Eq.trans (max_halves fun z => val_main_v118 (F := Ideal) x (ix4 g n i z)) ?_
  rw [max_comm, funext fun j => score_lo x h b g n i j hg hn, funext fun j => score_hi x h b g n i j hg hn]
  rfl

theorem total_eq : val_main_v124 (F := Ideal) x (ix3 g n i) = total 16 (blocks 1 16 (queries x h)) (blocks 1 16 (keys x h)) b i := by
  pointwise [val_main_v124, val_main_v123, val_main_v122, val_main_v121, val_main_v120, val_main_cst_13]
  rw [sum_halves]
  simp only [top_eq x h b g n i hg hn, score_lo x h b g n i _ hg hn, score_hi x h b g n i _ hg hn]
  unfold total
  rw [add_comm (∑ j, _) (∑ j, _)]

theorem mean_eq : val_main_v128 (F := Ideal) x (ix4 g n i y) = mean 16 (blocks 1 16 (queries x h)) (blocks 1 16 (keys x h)) (blocks 1 16 (values x h)) b i y := by
  pointwise [val_main_v128, val_main_v127, val_main_v126, val_main_v125, val_main_v123, val_main_v122, val_main_v121, val_main_v120]
  rw [total_eq x h b g n i hg hn, sum_halves]
  simp only [top_eq x h b g n i hg hn, score_lo x h b g n i _ hg hn, score_hi x h b g n i _ hg hn, value_hi x h b g n _ y hg hn]
  unfold mean
  rw [add_comm (∑ j, _) (∑ j, _)]
  congr 2
  refine Finset.sum_congr (M := EReal) rfl fun j _ => value_lo x h b g n j y hg hn _ fun hb => ?_
  unfold prev
  rw [if_neg (fun a => a.1 hb), exp_bot_sub]

theorem lse_eq : val_main_v130 (F := Ideal) x (ix3 g n i) = lse 16 (blocks 1 16 (queries x h)) (blocks 1 16 (keys x h)) b i := by
  unfold val_main_v130 val_main_v129 lse
  rw [← top_eq x h b g n i hg hn, ← total_eq x h b g n i hg hn]
  exact plus_log_at _ _ _

omit hg hn in
theorem means_eq : val_main_v135 (F := Ideal) x (ix3 h l y) = meanAt 1 16 (queries x h) (keys x h) (values x h) l y := by
  unfold val_main_v135 val_main_v134 val_main_v133 val_main_v131 meanAt
  refine Eq.trans ?_ (mean_eq x h (blockOf 1 16 l) h ⟨l.val / 128, by omega⟩ (placeOf 1 l) y (by show h.val = h.val * 1 + (l.val % 1 * 16 + l.val / 1 / 128) % 16 / 16; omega) (by show l.val / 128 = (l.val % 1 * 16 + l.val / 1 / 128) % 16 % 16; omega))
  generalize val_main_v128 (F := Ideal) x = u
  pointwise
  exact congrArg (fun r => u (ix4 _ _ r y)) (Fin.ext (show l.val % 128 = l.val / 1 % 128 by omega))

omit hg hn in
theorem logs_eq : val_main_v138 (F := Ideal) x (ix2 h l) = lseAt 1 16 (queries x h) (keys x h) l := by
  unfold val_main_v138 val_main_v137 val_main_v136 val_main_v132 lseAt
  refine Eq.trans ?_ (lse_eq x h (blockOf 1 16 l) h ⟨l.val / 128, by omega⟩ (placeOf 1 l) (by show h.val = h.val * 1 + (l.val % 1 * 16 + l.val / 1 / 128) % 16 / 16; omega) (by show l.val / 128 = (l.val % 1 * 16 + l.val / 1 / 128) % 16 % 16; omega))
  generalize val_main_v130 (F := Ideal) x = u
  pointwise
  exact congrArg (fun r => u (ix3 _ _ r)) (Fin.ext (show l.val % 128 = l.val / 1 % 128 by omega))

end D1

end Cert.DilatedRefIdeal.Result

end
-- ==== Proof.DilatedFour.lean ====
/-
  The dilated attention's reference at dilation 4, stage by stage.
-/
module

public import proofs.«01_k».proof.Defs
public import proofs.«01_k».proof.Proof.DilatedSource
public import proofs.«01_k».proof.Proof.Gen.DilatedRefIdeal
public import proofs.«01_k».proof.Proof.Gen.DilatedRefIdeal.Run
public import proofs.«01_k».proof.Proof.Gen.DilatedRefIdeal.Read

@[expose] public section

set_option maxRecDepth 16384

noncomputable section

open Idealize.ShloMosaic Idealize.ShloMosaic.TcCoe Idealize.SL.Sem Cert.Products

namespace Cert.DilatedRefIdeal.Result

open Cert.DilatedRefIdeal Cert.DilatedRefIdeal.Read Cert.Dilated
open Cert.Band (scale before own_mask select_ite and_ite sum_halves max_halves lo hi start_mask)

variable (x : Mat 2048 5632) (h : Fin 6) (l : Fin 2048)

/-! ## Dilation 4 -/

namespace D4

variable (b : Fin 16) (g : Fin 24) (n : Fin 4) (i j y : Fin 128)
  (hg : g.val = h.val * 4 + b.val / 4) (hn : n.val = b.val % 4)

theorem mask_eq (z : Fin 256) : val_main_v189 (F := Ideal) (ix3 n i z)
    = if (z.val ≤ 128 + i.val ∧ i.val ≤ z.val) ∧ 128 ≤ n.val * 128 + z.val then 1#1 else 0#1 := by
  pointwise [val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_c_17, val_main_c_18, val_main_c_19, val_main_c_20, val_main_c_21, val_main_c_22]
  rw [band_mask]
  exact (congrArg _ (start_mask ⟨n.val, by omega⟩ z)).trans (and_ite _ _)

include hg hn

theorem query_at : val_main_v148 (F := Ideal) x (ix4 g n i y) = blocks 4 4 (queries x h) (ix3 b i y) := by
  unfold val_main_v148 val_main_v141 val_main_v140 val_main_v139
  refine Eq.trans ?_ (queries_eq x h (row 4 4 b i) y)
  generalize val_main_v40 (F := Ideal) x = u
  pointwise
  refine congrArg u ?_
  exact congrArg₂ (fun a r => ix3 a r y) (Fin.ext (by show g.val / 4 = h.val; omega)) (Fin.ext (by rw [row_val_4]; show (n.val * 128 + i.val) * 4 + g.val % 4 = _; omega))

theorem key_at : val_main_v149 (F := Ideal) x (ix4 g n i y) = blocks 4 4 (keys x h) (ix3 b i y) := by
  unfold val_main_v149 val_main_v144 val_main_v143 val_main_v142
  refine Eq.trans ?_ (keys_eq x h (row 4 4 b i) y)
  generalize val_main_v63 (F := Ideal) x = u
  pointwise
  refine congrArg u ?_
  exact congrArg₂ (fun a r => ix3 a r y) (Fin.ext (by show g.val / 4 = h.val; omega)) (Fin.ext (by rw [row_val_4]; show (n.val * 128 + i.val) * 4 + g.val % 4 = _; omega))

theorem value_at : val_main_v150 (F := Ideal) x (ix4 g n i y) = blocks 4 4 (values x h) (ix3 b i y) := by
  unfold val_main_v150 val_main_v147 val_main_v146 val_main_v145
  refine Eq.trans ?_ (values_eq x h (row 4 4 b i) y)
  generalize val_main_v66 (F := Ideal) x = u
  pointwise
  refine congrArg u ?_
  exact congrArg₂ (fun a r => ix3 a r y) (Fin.ext (by show g.val / 4 = h.val; omega)) (Fin.ext (by rw [row_val_4]; show (n.val * 128 + i.val) * 4 + g.val % 4 = _; omega))

theorem score_hi : val_main_v190 (F := Ideal) x (ix4 g n i (hi j)) = own (blocks 4 4 (queries x h)) (blocks 4 4 (keys x h)) b i j := by
  pointwise [val_main_v190, val_main_v159, val_main_v158, val_main_cst_16, val_main_call5_v0, val_main_call5_v1, val_main_call5_v2, val_main_cst_23]
  rw [mask_eq, select_ite]
  unfold own
  by_cases hb : j ≤ i
  · have hb' : j.val ≤ i.val := hb
    refine (if_pos ⟨⟨show 128 + j.val ≤ 128 + i.val by omega, show i.val ≤ 128 + j.val by omega⟩,
        show 128 ≤ n.val * 128 + (128 + j.val) by omega⟩).trans (Eq.trans ?_ (if_pos hb).symm)
    refine congrArg (· * scale) ?_
    pointwise [val_main_v157, val_main_v153]
    refine Finset.sum_congr (M := EReal) rfl fun y _ => ?_
    rw [dif_neg (show ¬ (hi j).val < 128 by simp only [hi]; omega), query_at x h b g n i y hg hn,
      ← key_at x h b g n j y hg hn]
    refine congrArg (fun r => _ * val_main_v149 (F := Ideal) x (ix4 g n r y)) (Fin.ext ?_)
    show 128 + j.val - 128 = j.val
    omega
  · refine (if_neg fun a => hb ?_).trans (Cert.Finite.neg_inf_f32.trans (if_neg hb).symm)
    have : 128 + j.val ≤ 128 + i.val := a.1.1
    exact (show j.val ≤ i.val by omega)

theorem score_lo : val_main_v190 (F := Ideal) x (ix4 g n i (lo j)) = prev 4 (blocks 4 4 (queries x h)) (blocks 4 4 (keys x h)) b i j := by
  pointwise [val_main_v190, val_main_v159, val_main_v158, val_main_cst_16, val_main_call5_v0, val_main_call5_v1, val_main_call5_v2, val_main_cst_23]
  rw [mask_eq, select_ite]
  unfold prev
  by_cases hb : b.val % 4 ≠ 0 ∧ i ≤ j
  · have hb0 : 0 < n.val := by omega
    refine (if_pos ⟨⟨show j.val ≤ 128 + i.val by omega, hb.2⟩, show 128 ≤ n.val * 128 + j.val by omega⟩).trans
      (Eq.trans ?_ (if_pos hb).symm)
    refine congrArg (· * scale) ?_
    pointwise [val_main_v157, val_main_v153, val_main_v152, val_main_v151]
    refine Finset.sum_congr (M := EReal) rfl fun y _ => ?_
    rw [dif_pos (show (lo j).val < 128 from j.isLt), dif_pos (by have : (lo j).val < 128 := j.isLt; omega),
      query_at x h b g n i y hg hn]
    exact congrArg (_ * ·) (key_at x h (before b) g ⟨n.val - 1, by omega⟩ j y
      (show g.val = h.val * 4 + (b.val - 1) / 4 by omega) (show n.val - 1 = (b.val - 1) % 4 by omega))
  · refine (if_neg fun a => hb ?_).trans (Cert.Finite.neg_inf_f32.trans (if_neg hb).symm)
    have : 128 ≤ n.val * 128 + j.val := a.2
    exact ⟨by omega, a.1.2⟩

theorem value_lo (w : EReal) (hw : b.val % 4 = 0 → w = 0) :
    w * val_main_v156 (F := Ideal) x (ix4 g n (lo j) y) = w * blocks 4 4 (values x h) (ix3 (before b) j y) := by
  by_cases hb : b.val % 4 = 0
  · rw [hw hb, zero_mul, zero_mul]
  · pointwise [val_main_v156, val_main_v155, val_main_v154]
    rw [dif_pos (show (lo j).val < 128 from j.isLt), dif_pos (by have : (lo j).val < 128 := j.isLt; omega)]
    exact congrArg (_ * ·) (value_at x h (before b) g ⟨n.val - 1, by omega⟩ j y
      (show g.val = h.val * 4 + (b.val - 1) / 4 by omega) (show n.val - 1 = (b.val - 1) % 4 by omega))

theorem value_hi : val_main_v156 (F := Ideal) x (ix4 g n (hi j) y) = blocks 4 4 (values x h) (ix3 b j y) := by
  pointwise [val_main_v156]
  rw [dif_neg (show ¬ (hi j).val < 128 by simp only [hi]; omega), ← value_at x h b g n j y hg hn]
  refine congrArg (fun r => val_main_v150 (F := Ideal) x (ix4 g n r y)) (Fin.ext ?_)
  show 128 + j.val - 128 = j.val
  omega

theorem top_eq : val_main_v191 (F := Ideal) x (ix3 g n i) = top 4 (blocks 4 4 (queries x h)) (blocks 4 4 (keys x h)) b i := by
  unfold val_main_v191
  rw [Host.reduce_eq_fold, Shape.ReducesTo.fold_fiber_r4_a3,
    show val_main_cst_24 (F := Ideal) (Shape.Idx.first Gen.h_S_) = ⊥ from Cert.Finite.neg_inf_f32]
  refine Eq.trans (max_halves fun z => val_main_v190 (F := Ideal) x (ix4 g n i z)) ?_
  rw [max_comm, funext fun j => score_lo x h b g n i j hg hn, funext fun j => score_hi x h b g n i j hg hn]
  rfl

theorem total_eq : val_main_v196 (F := Ideal) x (ix3 g n i) = total 4 (blocks 4 4 (queries x h)) (blocks 4 4 (keys x h)) b i := by
  pointwise [val_main_v196, val_main_v195, val_main_v194, val_main_v193, val_main_v192, val_main_cst_25]
  rw [sum_halves]
  simp only [top_eq x h b g n i hg hn, score_lo x h b g n i _ hg hn, score_hi x h b g n i _ hg hn]
  unfold total
  rw [add_comm (∑ j, _) (∑ j, _)]

theorem mean_eq : val_main_v200 (F := Ideal) x (ix4 g n i y) = mean 4 (blocks 4 4 (queries x h)) (blocks 4 4 (keys x h)) (blocks 4 4 (values x h)) b i y := by
  pointwise [val_main_v200, val_main_v199, val_main_v198, val_main_v197, val_main_v195, val_main_v194, val_main_v193, val_main_v192]
  rw [total_eq x h b g n i hg hn, sum_halves]
  simp only [top_eq x h b g n i hg hn, score_lo x h b g n i _ hg hn, score_hi x h b g n i _ hg hn, value_hi x h b g n _ y hg hn]
  unfold mean
  rw [add_comm (∑ j, _) (∑ j, _)]
  congr 2
  refine Finset.sum_congr (M := EReal) rfl fun j _ => value_lo x h b g n j y hg hn _ fun hb => ?_
  unfold prev
  rw [if_neg (fun a => a.1 hb), exp_bot_sub]

theorem lse_eq : val_main_v202 (F := Ideal) x (ix3 g n i) = lse 4 (blocks 4 4 (queries x h)) (blocks 4 4 (keys x h)) b i := by
  unfold val_main_v202 val_main_v201 lse
  rw [← top_eq x h b g n i hg hn, ← total_eq x h b g n i hg hn]
  exact plus_log_at _ _ _

omit hg hn in
theorem means_eq : val_main_v207 (F := Ideal) x (ix3 h l y) = meanAt 4 4 (queries x h) (keys x h) (values x h) l y := by
  unfold val_main_v207 val_main_v206 val_main_v205 val_main_v203 meanAt
  refine Eq.trans ?_ (mean_eq x h (blockOf 4 4 l) ⟨h.val * 4 + l.val % 4, by omega⟩ ⟨l.val / 4 / 128, by omega⟩ (placeOf 4 l) y (by show h.val * 4 + l.val % 4 = h.val * 4 + (l.val % 4 * 4 + l.val / 4 / 128) % 16 / 4; have h1 : l.val / 4 / 128 < 4 := (by omega); rw [Nat.mod_eq_of_lt (show l.val % 4 * 4 + l.val / 4 / 128 < 16 by omega)]; omega) (by show l.val / 4 / 128 = (l.val % 4 * 4 + l.val / 4 / 128) % 16 % 4; have h1 : l.val / 4 / 128 < 4 := (by omega); rw [Nat.mod_eq_of_lt (show l.val % 4 * 4 + l.val / 4 / 128 < 16 by omega)]; omega))
  generalize val_main_v200 (F := Ideal) x = u
  pointwise
  exact congrArg (fun r => u (ix4 _ _ r y)) (Fin.ext (show l.val / 4 % 128 = l.val / 4 % 128 by omega))

omit hg hn in
theorem logs_eq : val_main_v210 (F := Ideal) x (ix2 h l) = lseAt 4 4 (queries x h) (keys x h) l := by
  unfold val_main_v210 val_main_v209 val_main_v208 val_main_v204 lseAt
  refine Eq.trans ?_ (lse_eq x h (blockOf 4 4 l) ⟨h.val * 4 + l.val % 4, by omega⟩ ⟨l.val / 4 / 128, by omega⟩ (placeOf 4 l) (by show h.val * 4 + l.val % 4 = h.val * 4 + (l.val % 4 * 4 + l.val / 4 / 128) % 16 / 4; have h1 : l.val / 4 / 128 < 4 := (by omega); rw [Nat.mod_eq_of_lt (show l.val % 4 * 4 + l.val / 4 / 128 < 16 by omega)]; omega) (by show l.val / 4 / 128 = (l.val % 4 * 4 + l.val / 4 / 128) % 16 % 4; have h1 : l.val / 4 / 128 < 4 := (by omega); rw [Nat.mod_eq_of_lt (show l.val % 4 * 4 + l.val / 4 / 128 < 16 by omega)]; omega))
  generalize val_main_v202 (F := Ideal) x = u
  pointwise
  exact congrArg (fun r => u (ix3 _ _ r)) (Fin.ext (show l.val / 4 % 128 = l.val / 4 % 128 by omega))

end D4

end Cert.DilatedRefIdeal.Result

end
-- ==== Proof.DilatedSixteen.lean ====
/-
  The dilated attention's reference at dilation 16, stage by stage.
-/
module

public import proofs.«01_k».proof.Defs
public import proofs.«01_k».proof.Proof.DilatedSource
public import proofs.«01_k».proof.Proof.Gen.DilatedRefIdeal
public import proofs.«01_k».proof.Proof.Gen.DilatedRefIdeal.Run
public import proofs.«01_k».proof.Proof.Gen.DilatedRefIdeal.Read

@[expose] public section

set_option maxRecDepth 16384

noncomputable section

open Idealize.ShloMosaic Idealize.ShloMosaic.TcCoe Idealize.SL.Sem Cert.Products

namespace Cert.DilatedRefIdeal.Result

open Cert.DilatedRefIdeal Cert.DilatedRefIdeal.Read Cert.Dilated
open Cert.Band (scale before own_mask select_ite and_ite sum_halves max_halves lo hi start_mask)

variable (x : Mat 2048 5632) (h : Fin 6) (l : Fin 2048)

/-! ## Dilation 16 -/

namespace D16

variable (b : Fin 16) (g : Fin 96) (i j y : Fin 128)
  (hg : g.val = h.val * 16 + b.val / 1)

theorem mask_eq (z : Fin 256) : val_main_v259 (F := Ideal) (ix3 0 i z)
    = if (z.val ≤ 128 + i.val ∧ i.val ≤ z.val) ∧ 128 ≤ z.val then 1#1 else 0#1 := by
  pointwise [val_main_v259, val_main_v258, val_main_v257, val_main_v256, val_main_v255, val_main_v254, val_main_v253, val_main_v252, val_main_v251, val_main_v250, val_main_v249, val_main_v248, val_main_v247, val_main_v246, val_main_v245, val_main_v244, val_main_v243, val_main_v242, val_main_v241, val_main_v240, val_main_v239, val_main_v238, val_main_v237, val_main_v236, val_main_v235, val_main_v234, val_main_v233, val_main_v232, val_main_c_29, val_main_c_30, val_main_c_31, val_main_c_32, val_main_c_33, val_main_c_34]
  rw [band_mask]
  exact (congrArg _ ((start_mask 0 z).trans (if_congr (show 128 ≤ 0 * 128 + z.val ↔ 128 ≤ z.val by omega) rfl rfl))).trans (and_ite _ _)

include hg

theorem query_at : val_main_v220 (F := Ideal) x (ix4 g 0 i y) = blocks 16 1 (queries x h) (ix3 b i y) := by
  unfold val_main_v220 val_main_v213 val_main_v212 val_main_v211
  refine Eq.trans ?_ (queries_eq x h (row 16 1 b i) y)
  generalize val_main_v40 (F := Ideal) x = u
  pointwise
  refine congrArg u ?_
  exact congrArg₂ (fun a r => ix3 a r y) (Fin.ext (by show g.val / 16 = h.val; omega)) (Fin.ext (by rw [row_val_16]; show i.val * 16 + g.val % 16 = _; omega))

theorem key_at : val_main_v221 (F := Ideal) x (ix4 g 0 i y) = blocks 16 1 (keys x h) (ix3 b i y) := by
  unfold val_main_v221 val_main_v216 val_main_v215 val_main_v214
  refine Eq.trans ?_ (keys_eq x h (row 16 1 b i) y)
  generalize val_main_v63 (F := Ideal) x = u
  pointwise
  refine congrArg u ?_
  exact congrArg₂ (fun a r => ix3 a r y) (Fin.ext (by show g.val / 16 = h.val; omega)) (Fin.ext (by rw [row_val_16]; show i.val * 16 + g.val % 16 = _; omega))

theorem value_at : val_main_v222 (F := Ideal) x (ix4 g 0 i y) = blocks 16 1 (values x h) (ix3 b i y) := by
  unfold val_main_v222 val_main_v219 val_main_v218 val_main_v217
  refine Eq.trans ?_ (values_eq x h (row 16 1 b i) y)
  generalize val_main_v66 (F := Ideal) x = u
  pointwise
  refine congrArg u ?_
  exact congrArg₂ (fun a r => ix3 a r y) (Fin.ext (by show g.val / 16 = h.val; omega)) (Fin.ext (by rw [row_val_16]; show i.val * 16 + g.val % 16 = _; omega))

theorem score_hi : val_main_v260 (F := Ideal) x (ix4 g 0 i (hi j)) = own (blocks 16 1 (queries x h)) (blocks 16 1 (keys x h)) b i j := by
  pointwise [val_main_v260, val_main_v231, val_main_v230, val_main_cst_28, val_main_call8_v0, val_main_call8_v1, val_main_call8_v2, val_main_cst_35]
  rw [mask_eq, select_ite]
  unfold own
  by_cases hb : j ≤ i
  · have hb' : j.val ≤ i.val := hb
    refine (if_pos ⟨⟨show 128 + j.val ≤ 128 + i.val by omega, show i.val ≤ 128 + j.val by omega⟩,
        show 128 ≤ (128 + j.val) by omega⟩).trans (Eq.trans ?_ (if_pos hb).symm)
    refine congrArg (· * scale) ?_
    pointwise [val_main_v229, val_main_v225]
    refine Finset.sum_congr (M := EReal) rfl fun y _ => ?_
    rw [dif_neg (show ¬ (hi j).val < 128 by simp only [hi]; omega), query_at x h b g i y hg,
      ← key_at x h b g j y hg]
    refine congrArg (fun r => _ * val_main_v221 (F := Ideal) x (ix4 g 0 r y)) (Fin.ext ?_)
    show 128 + j.val - 128 = j.val
    omega
  · refine (if_neg fun a => hb ?_).trans (Cert.Finite.neg_inf_f32.trans (if_neg hb).symm)
    have : 128 + j.val ≤ 128 + i.val := a.1.1
    exact (show j.val ≤ i.val by omega)

theorem score_lo : val_main_v260 (F := Ideal) x (ix4 g 0 i (lo j)) = prev 1 (blocks 16 1 (queries x h)) (blocks 16 1 (keys x h)) b i j := by
  pointwise [val_main_v260, val_main_v231, val_main_v230, val_main_cst_28, val_main_call8_v0, val_main_call8_v1, val_main_call8_v2, val_main_cst_35]
  rw [mask_eq, select_ite, prev_one]
  refine (if_neg fun a => ?_).trans Cert.Finite.neg_inf_f32
  have h2 : 128 ≤ j.val := a.2
  omega

theorem value_lo (w : EReal) (hw : b.val % 1 = 0 → w = 0) :
    w * val_main_v228 (F := Ideal) x (ix4 g 0 (lo j) y) = w * blocks 16 1 (values x h) (ix3 (before b) j y) := by
  rw [hw (Nat.mod_one _), zero_mul, zero_mul]

theorem value_hi : val_main_v228 (F := Ideal) x (ix4 g 0 (hi j) y) = blocks 16 1 (values x h) (ix3 b j y) := by
  pointwise [val_main_v228]
  rw [dif_neg (show ¬ (hi j).val < 128 by simp only [hi]; omega), ← value_at x h b g j y hg]
  refine congrArg (fun r => val_main_v222 (F := Ideal) x (ix4 g 0 r y)) (Fin.ext ?_)
  show 128 + j.val - 128 = j.val
  omega

theorem top_eq : val_main_v261 (F := Ideal) x (ix3 g 0 i) = top 1 (blocks 16 1 (queries x h)) (blocks 16 1 (keys x h)) b i := by
  unfold val_main_v261
  rw [Host.reduce_eq_fold, Shape.ReducesTo.fold_fiber_r4_a3,
    show val_main_cst_36 (F := Ideal) (Shape.Idx.first Gen.h_S_) = ⊥ from Cert.Finite.neg_inf_f32]
  refine Eq.trans (max_halves fun z => val_main_v260 (F := Ideal) x (ix4 g 0 i z)) ?_
  rw [max_comm, funext fun j => score_lo x h b g i j hg, funext fun j => score_hi x h b g i j hg]
  rfl

theorem total_eq : val_main_v266 (F := Ideal) x (ix3 g 0 i) = total 1 (blocks 16 1 (queries x h)) (blocks 16 1 (keys x h)) b i := by
  pointwise [val_main_v266, val_main_v265, val_main_v264, val_main_v263, val_main_v262, val_main_cst_37]
  rw [sum_halves]
  simp only [top_eq x h b g i hg, score_lo x h b g i _ hg, score_hi x h b g i _ hg]
  unfold total
  rw [add_comm (∑ j, _) (∑ j, _)]

theorem mean_eq : val_main_v270 (F := Ideal) x (ix4 g 0 i y) = mean 1 (blocks 16 1 (queries x h)) (blocks 16 1 (keys x h)) (blocks 16 1 (values x h)) b i y := by
  pointwise [val_main_v270, val_main_v269, val_main_v268, val_main_v267, val_main_v265, val_main_v264, val_main_v263, val_main_v262]
  rw [total_eq x h b g i hg, sum_halves]
  simp only [top_eq x h b g i hg, score_lo x h b g i _ hg, score_hi x h b g i _ hg, value_hi x h b g _ y hg]
  unfold mean
  rw [add_comm (∑ j, _) (∑ j, _)]
  congr 2
  refine Finset.sum_congr (M := EReal) rfl fun j _ => value_lo x h b g j y hg _ fun hb => ?_
  unfold prev
  rw [if_neg (fun a => a.1 hb), exp_bot_sub]

theorem lse_eq : val_main_v272 (F := Ideal) x (ix3 g 0 i) = lse 1 (blocks 16 1 (queries x h)) (blocks 16 1 (keys x h)) b i := by
  unfold val_main_v272 val_main_v271 lse
  rw [← top_eq x h b g i hg, ← total_eq x h b g i hg]
  exact plus_log_at _ _ _

omit hg in
theorem means_eq : val_main_v277 (F := Ideal) x (ix3 h l y) = meanAt 16 1 (queries x h) (keys x h) (values x h) l y := by
  unfold val_main_v277 val_main_v276 val_main_v275 val_main_v273 meanAt
  refine Eq.trans ?_ (mean_eq x h (blockOf 16 1 l) ⟨h.val * 16 + l.val % 16, by omega⟩ (placeOf 16 l) y (by show h.val * 16 + l.val % 16 = h.val * 16 + (l.val % 16 * 1 + l.val / 16 / 128) % 16 / 1; have h1 : l.val / 16 / 128 = 0 := Nat.div_eq_of_lt (by omega); rw [h1]; omega))
  generalize val_main_v270 (F := Ideal) x = u
  pointwise
  exact congrArg (fun r => u (ix4 _ _ r y)) (Fin.ext (show l.val / 16 = l.val / 16 % 128 by omega))

omit hg in
theorem logs_eq : val_main_v280 (F := Ideal) x (ix2 h l) = lseAt 16 1 (queries x h) (keys x h) l := by
  unfold val_main_v280 val_main_v279 val_main_v278 val_main_v274 lseAt
  refine Eq.trans ?_ (lse_eq x h (blockOf 16 1 l) ⟨h.val * 16 + l.val % 16, by omega⟩ (placeOf 16 l) (by show h.val * 16 + l.val % 16 = h.val * 16 + (l.val % 16 * 1 + l.val / 16 / 128) % 16 / 1; have h1 : l.val / 16 / 128 = 0 := Nat.div_eq_of_lt (by omega); rw [h1]; omega))
  generalize val_main_v272 (F := Ideal) x = u
  pointwise
  exact congrArg (fun r => u (ix3 _ _ r)) (Fin.ext (show l.val / 16 = l.val / 16 % 128 by omega))

end D16

end Cert.DilatedRefIdeal.Result

end
-- ==== Proof.DilatedReference.lean ====
/-
  The dilated attention's reference, stage by stage: it is `Cert.Dilated.attend` of each head, written into the columns of the
  heads, and `Cert.Dilated.attendLog`.
-/
module

public import proofs.«01_k».proof.Defs
public import proofs.«01_k».proof.Proof.DilatedOne
public import proofs.«01_k».proof.Proof.DilatedFour
public import proofs.«01_k».proof.Proof.DilatedSixteen
public import proofs.«01_k».proof.Proof.Gen.DilatedRefIdeal
public import proofs.«01_k».proof.Proof.Gen.DilatedRefIdeal.Run
public import proofs.«01_k».proof.Proof.Gen.DilatedRefIdeal.Read

@[expose] public section

set_option maxRecDepth 16384

noncomputable section

open Idealize.ShloMosaic Idealize.ShloMosaic.TcCoe Idealize.SL.Sem Cert.Products

namespace Cert.DilatedRefIdeal.Result

open Cert.DilatedRefIdeal Cert.DilatedRefIdeal.Read Cert.Dilated
open Cert.Band (scale before own_mask select_ite and_ite sum_halves max_halves lo hi start_mask)

variable (x : Mat 2048 5632) (h : Fin 6) (l : Fin 2048) (y : Fin 128)

/-! ## The three dilations, stacked -/

theorem log_zero : val_main_v284 (F := Ideal) x (ix3 0 h l) = lseAt 1 16 (queries x h) (keys x h) l := by
  rw [← D1.logs_eq]
  pointwise [val_main_v284, val_main_v283, val_main_v282, val_main_v281]

theorem log_one : val_main_v284 (F := Ideal) x (ix3 1 h l) = lseAt 4 4 (queries x h) (keys x h) l := by
  rw [← D4.logs_eq]
  pointwise [val_main_v284, val_main_v283, val_main_v282, val_main_v281]

theorem log_two : val_main_v284 (F := Ideal) x (ix3 2 h l) = lseAt 16 1 (queries x h) (keys x h) l := by
  rw [← D16.logs_eq]
  pointwise [val_main_v284, val_main_v283, val_main_v282, val_main_v281]

theorem mean_zero : val_main_v300 (F := Ideal) x (ix4 0 h l y) = meanAt 1 16 (queries x h) (keys x h) (values x h) l y := by
  rw [← D1.means_eq]
  pointwise [val_main_v300, val_main_v299, val_main_v298, val_main_v297]

theorem mean_one : val_main_v300 (F := Ideal) x (ix4 1 h l y) = meanAt 4 4 (queries x h) (keys x h) (values x h) l y := by
  rw [← D4.means_eq]
  pointwise [val_main_v300, val_main_v299, val_main_v298, val_main_v297]

theorem mean_two : val_main_v300 (F := Ideal) x (ix4 2 h l y) = meanAt 16 1 (queries x h) (keys x h) (values x h) l y := by
  rw [← D16.means_eq]
  pointwise [val_main_v300, val_main_v299, val_main_v298, val_main_v297]

/-- The largest of three. -/
theorem max_three (f : Fin 3 → EReal) : Finset.univ.fold max ⊥ f = max (max (f 0) (f 1)) (f 2) := by
  apply le_antisymm
  · rw [Finset.fold_max_le]
    refine ⟨bot_le, fun p _ => ?_⟩
    fin_cases p
    · exact le_max_of_le_left (le_max_left _ _)
    · exact le_max_of_le_left (le_max_right _ _)
    · exact le_max_right _ _
  · refine max_le (max_le ?_ ?_) ?_ <;>
      exact (Finset.le_fold_max _).mpr (.inr ⟨_, Finset.mem_univ _, le_rfl⟩)

/-- The largest logarithm of a row, and the sum relative to it. -/
def largest : EReal :=
  peak (lseAt 1 16 (queries x h) (keys x h) l) (lseAt 4 4 (queries x h) (keys x h) l) (lseAt 16 1 (queries x h) (keys x h) l)
def weight : EReal :=
  mass (lseAt 1 16 (queries x h) (keys x h) l) (lseAt 4 4 (queries x h) (keys x h) l) (lseAt 16 1 (queries x h) (keys x h) l)

theorem largest_eq : val_main_v285 (F := Ideal) x (ix2 h l) = largest x h l := by
  unfold val_main_v285
  rw [Host.reduce_eq_fold, Shape.ReducesTo.fold_fiber_r3_a0,
    show val_main_cst_38 (F := Ideal) (Shape.Idx.first Gen.h_S_) = ⊥ from Cert.Finite.neg_inf_f32]
  refine Eq.trans (max_three fun p => val_main_v284 (F := Ideal) x (ix3 p h l)) ?_
  rw [log_zero, log_one, log_two]
  rfl

theorem largest_again : val_main_v296 (F := Ideal) x (ix2 h l) = largest x h l := by
  unfold val_main_v296
  rw [Host.reduce_eq_fold, Shape.ReducesTo.fold_fiber_r3_a0,
    show val_main_cst_41 (F := Ideal) (Shape.Idx.first Gen.h_S_) = ⊥ from Cert.Finite.neg_inf_f32]
  refine Eq.trans (max_three fun p => val_main_v284 (F := Ideal) x (ix3 p h l)) ?_
  rw [log_zero, log_one, log_two]
  rfl

theorem larger_at {S : Shape} (u w : FVec Ideal S .f32) (y : S.Idx) : maximumf u w y = max (u y) (w y) := rfl

theorem least_eq : val_main_v286 (F := Ideal) (ix2 h l) = ⊥ := by
  pointwise [val_main_v286, val_main_cst_39]
  exact Cert.Finite.neg_inf_f32

theorem largest_third : val_main_v287 (F := Ideal) x (ix2 h l) = largest x h l := by
  unfold val_main_v287
  rw [larger_at, least_eq, largest_eq]
  exact max_eq_right bot_le

theorem weight_eq : val_main_v292 (F := Ideal) x (ix2 h l) = weight x h l := by
  pointwise [val_main_v292, val_main_v291, val_main_v290, val_main_v289, val_main_v288, val_main_cst_40]
  rw [Fin.sum_univ_three, log_zero, log_one, log_two, largest_third]
  rfl

theorem share_eq (p : Fin 3) : val_main_v295 (F := Ideal) x (ix3 p h l)
    = Ideal.div (Ideal.exp (val_main_v284 (F := Ideal) x (ix3 p h l) - largest x h l)) (weight x h l) := by
  pointwise [val_main_v295, val_main_v294, val_main_v293, val_main_v291, val_main_v290, val_main_v289, val_main_v288]
  rw [weight_eq, largest_third]

theorem attend_eq : val_main_v301 (F := Ideal) x (ix3 h l y) = attend (queries x h) (keys x h) (values x h) l y := by
  pointwise [val_main_v301]
  rw [Fin.sum_univ_three, share_eq, share_eq, share_eq, log_zero, log_one, log_two, mean_zero, mean_one, mean_two]
  rfl

theorem weight_again : val_main_v306 (F := Ideal) x (ix2 h l) = weight x h l := by
  pointwise [val_main_v306, val_main_v305, val_main_v304, val_main_v303, val_main_v302, val_main_cst_42]
  rw [Fin.sum_univ_three, log_zero, log_one, log_two, largest_again]
  rfl

theorem joint_eq : val_main_v319 (F := Ideal) x (ix3 h l y) = attendLog (queries x h) (keys x h) l := by
  have e : val_main_v308 (F := Ideal) x (ix2 h l) = attendLog (queries x h) (keys x h) l := by
    unfold val_main_v308 val_main_v307
    refine (plus_log_at _ _ _).trans ?_
    rw [largest_again, weight_again]
    rfl
  rw [← e]
  pointwise [val_main_v319, val_main_v318]

/-! ## The columns of the heads -/

theorem mixed_eq (old : Mat 2048 2048) (p : Fin 2048) : val_main_v313 (F := Ideal) x old (ix2 l p)
    = if 4 ≤ p.val / 128 ∧ p.val / 128 < 10 then attend (queries x (headOf p)) (keys x (headOf p)) (values x (headOf p)) l (inHead p)
      else old (ix2 l p) := by
  unfold val_main_v313 val_main_v312 val_main_v311 val_main_v310 val_main_v309
  by_cases h4 : p.val < 512
  · rw [if_neg (by omega)]
    generalize val_main_v301 (F := Ideal) x = u
    pointwise
    rw [dif_pos h4]
  · by_cases h10 : p.val < 1280
    · rw [if_pos (by omega), ← attend_eq]
      generalize val_main_v301 (F := Ideal) x = u
      pointwise
      rw [dif_neg h4, dif_pos (show p.val - 512 < 768 by omega)]
      exact congrArg u (congrArg₂ (fun a e => ix3 a l e)
        (Fin.ext (show (p.val - 512) / 128 = (p.val / 128 - 4) % 6 by omega))
        (Fin.ext (show (p.val - 512) % 128 = p.val % 128 by omega)))
    · rw [if_neg (by omega)]
      generalize val_main_v301 (F := Ideal) x = u
      pointwise
      rw [dif_neg h4, dif_neg (show ¬ p.val - 512 < 768 by omega)]
      exact congrArg old (congrArg (ix2 l) (Fin.ext (show 1280 + (p.val - 512 - 768) = p.val by omega)))

theorem mixed_bf_eq (old : FVec Ideal S2048x2048 .bf16) (p : Fin 2048) : val_main_v317 (F := Ideal) x old (ix2 l p)
    = if 4 ≤ p.val / 128 ∧ p.val / 128 < 10 then attend (queries x (headOf p)) (keys x (headOf p)) (values x (headOf p)) l (inHead p)
      else old (ix2 l p) := by
  unfold val_main_v317 val_main_v316 val_main_v315 val_main_v314 val_main_v310 val_main_v309
  by_cases h4 : p.val < 512
  · rw [if_neg (by omega)]
    generalize val_main_v301 (F := Ideal) x = u
    pointwise
    rw [dif_pos h4]
  · by_cases h10 : p.val < 1280
    · rw [if_pos (by omega), ← attend_eq]
      generalize val_main_v301 (F := Ideal) x = u
      pointwise
      rw [dif_neg h4, dif_pos (show p.val - 512 < 768 by omega)]
      exact congrArg u (congrArg₂ (fun a e => ix3 a l e)
        (Fin.ext (show (p.val - 512) / 128 = (p.val / 128 - 4) % 6 by omega))
        (Fin.ext (show (p.val - 512) % 128 = p.val % 128 by omega)))
    · rw [if_neg (by omega)]
      generalize val_main_v301 (F := Ideal) x = u
      pointwise
      rw [dif_neg h4, dif_neg (show ¬ p.val - 512 < 768 by omega)]
      exact congrArg old (congrArg (ix2 l) (Fin.ext (show 1280 + (p.val - 512 - 768) = p.val by omega)))

end Cert.DilatedRefIdeal.Result

end
-- ==== Proof.DilatedClaim.lean ====
/-
  `dilated_fwd`: the dilated heads of the attention, forward. What the call leaves (`DilatedValue.lean`) is what the reference
  computes (`DilatedReference.lean`).
-/
module

public import proofs.«01_k».proof.Defs
public import proofs.«01_k».proof.Proof.Gen.Dilated
public import proofs.«01_k».proof.Proof.Gen.Dilated.Frame
public import proofs.«01_k».proof.Proof.Gen.DilatedIdeal
public import proofs.«01_k».proof.Proof.Gen.DilatedIdeal.Frame
public import proofs.«01_k».proof.Proof.Gen.DilatedIdeal.Value
public import proofs.«01_k».proof.Proof.Gen.DilatedRefIdeal
public import proofs.«01_k».proof.Proof.Gen.DilatedRefIdeal.Run
public import proofs.«01_k».proof.Proof.Gen.DilatedRefIdeal.Read
public import proofs.«01_k».proof.Proof.DilatedValue
public import proofs.«01_k».proof.Proof.DilatedReference

@[expose] public section

set_option maxRecDepth 16384

noncomputable section

open Idealize.ShloMosaic Idealize.ShloMosaic.TcCoe Idealize.SL.Sem Cert.Products

namespace Cert.DilatedIdeal.Result

open Cert.DilatedIdeal Cert.DilatedIdeal.Gen Cert.DilatedRefIdeal.Result Cert.DilatedRefIdeal.Read

/-- The reference's three results. -/
theorem reference_filled (x : Mat 2048 5632) (old : Mat 2048 2048) : val_main_v313 (F := Ideal) x old = filled x old := by
  funext y
  idx_vars y
  exact mixed_eq x y0 old y1

theorem reference_filled_bf (x : Mat 2048 5632) (old : FVec Ideal S2048x2048 .bf16) :
    val_main_v317 (F := Ideal) x old = filled x old := by
  funext y
  idx_vars y
  exact mixed_bf_eq x y0 old y1

theorem reference_logs (x : Mat 2048 5632) : val_main_v319 (F := Ideal) x = logs x := by
  funext y
  idx_vars y
  exact Cert.DilatedRefIdeal.Result.joint_eq x y0 y1 y2

end Cert.DilatedIdeal.Result

namespace Cert.Proof.Dilated

theorem frame_kernel : Cert.quiescent_Dilated := fun m ρ _ => Cert.Dilated.Gen.frame m ρ

theorem frame_ideal : Cert.quiescent_DilatedIdeal := fun m ρ _ => Cert.DilatedIdeal.Gen.frame m ρ

theorem frame_reference : Cert.quiescent_DilatedRefIdeal := fun m ρ _ =>
  (θ_run Cert.DilatedRefIdeal.defs _ _).mono
    (fun r h => ⟨fun c => (h c).2.2.2, sem_eq_zero_of_no_sems (by decide) r.2⟩) (Cert.DilatedRefIdeal.Value.run m ρ)

theorem algebraic : Cert.algebraic_DilatedIdeal_DilatedRefIdeal := by
  intro m g m' g' _ hargs
  refine ⟨_, _, _, Cert.DilatedIdeal.Value.run_blocks m g, ?_⟩
  refine (θ_run Cert.DilatedRefIdeal.defs _ _).mono (fun r h c => ?_) (Cert.DilatedRefIdeal.Value.run m' g')
  obtain ⟨h0, h1, h2, hr⟩ := h c
  obtain ⟨a0, a1, a2⟩ := hargs c
  refine ⟨h0.trans ?_, h1.trans ?_, h2.trans ?_, hr⟩
  · rw [Cert.DilatedIdeal.Result.filled_final, Cert.DilatedRefIdeal.Read.val_main_v313_eq, StableHlo.launchContents_devRef, StableHlo.launchContents_devRef, a0, a1]
    exact Cert.DilatedIdeal.Result.reference_filled _ _
  · rw [Cert.DilatedIdeal.Result.filled_bf_final, Cert.DilatedRefIdeal.Read.val_main_v317_eq, StableHlo.launchContents_devRef, StableHlo.launchContents_devRef, a0, a2]
    exact Cert.DilatedIdeal.Result.reference_filled_bf _ _
  · rw [Cert.DilatedIdeal.Result.logs_final, Cert.DilatedRefIdeal.Read.val_main_v319_eq, StableHlo.launchContents_devRef, a0]
    exact Cert.DilatedIdeal.Result.reference_logs _

end Cert.Proof.Dilated

end
-- ==== Proof.SmallGradsClaim.lean ====
module

public import proofs.«01_k».proof.Defs
public import proofs.«01_k».proof.Proof.Products
public import proofs.«01_k».proof.Proof.Gen.SmallGrads
public import proofs.«01_k».proof.Proof.Gen.SmallGrads.Frame
public import proofs.«01_k».proof.Proof.Gen.SmallGradsIdeal
public import proofs.«01_k».proof.Proof.Gen.SmallGradsIdeal.Frame
public import proofs.«01_k».proof.Proof.Gen.SmallGradsRefIdeal
public import proofs.«01_k».proof.Proof.Gen.SmallGradsRefIdeal.Run
public import proofs.«01_k».proof.Proof.Gen.SmallGradsRefIdeal.Read
public import Idealize.ShloMosaic.Lib.Pipeline.ValueKit

@[expose] public section

set_option maxRecDepth 16384

noncomputable section

open Idealize.ShloMosaic Idealize.ShloMosaic.TcCoe Idealize.SL.Sem Cert.Products

/-! # The small gradients and the loss: packed on every device, summed, and taken apart -/

namespace Cert.SmallGradsIdeal.Result

open Cert.SmallGradsIdeal Cert.SmallGradsIdeal.Gen

variable (m : (ℓ : Loc nD τ sig) → Buf (Elt Ideal) ℓ) (c : Dev nD)

/-- Both windows are their whole arrays. -/
theorem index_eq : ∀ t : Fin cfg0.N, win0_0.index t = ![0, 0, 0] ∧ win0_1.index t = ![0, 0] := by decide +kernel

/-- The eight devices' packed gradients, as the call finds them. -/
def gathered : (⟨3, ![8, 496, 128]⟩ : Shape).Idx → EReal := V m c main_v11

theorem block (t : Fin cfg0.N) (d : Fin 8) (r : Fin 496) (k : Fin 128) :
    (iblk m c 0 t (ix3 d r k) : EReal) = gathered m c (ix3 d r k) := by
  unfold gathered
  blk_ext! [iblk, (index_eq t).1]

theorem final : (dats m 0 c).arrAt 1 cfg0.N = fun i => ∑ d : Fin 8, gathered m c (ix3 d (i 0) (i 1)) := by
  refine (dats m 0 c).arrAt_eq_of_covers 1 _ (by decide +kernel) fun t hf y => ?_
  blk_simp
  rw [after0_1]
  frame_out
  idx_vars y
  rw [show ((View.whole main_v12).slice (win0_1.rect t)).emb (ix2 y0 y1) = ix2 y0 y1 by
    funext a; apply Fin.ext; fin_cases a <;> blk_simp [(index_eq t).2] <;> rfl]
  pointwise [k0_pay1]
  rw [Fin.sum_univ_eight]
  simp only [block]

/-- The ten arrays of every device laid one after the other in one row, filled up, and cut into rows of 128. -/
def packed (v : FVec Ideal S_ .f32) (a0 : FVec Ideal S8x2x512 .f32) (a1 : FVec Ideal S8x2x128 .f32) (a2 : FVec Ideal S8x2x6 .f32) (a3 : FVec Ideal S8x2x2048 .f32) (a4 : FVec Ideal S8x2x2048 .f32) (a5 : FVec Ideal S8x2x3x5632 .f32) (a6 : FVec Ideal S8x2x5632 .f32) (a7 : FVec Ideal S8x2x2048 .f32) (a8 : FVec Ideal S8x2x2048 .f32) (a9 : FVec Ideal S8x128 .f32) :
    FVec Ideal S8x496x128 .f32 :=
  shapeCast S8x496x128 (pad S8x63488 ![0, 0] ![0, 628] ![0, 0] (concatenate S8x62860 1
     [⟨S8x1024, shapeCast S8x1024 a0 shapeCasts_S8x2x512_S8x1024⟩,
      ⟨S8x256, shapeCast S8x256 a1 shapeCasts_S8x2x128_S8x256⟩,
      ⟨S8x12, shapeCast S8x12 a2 shapeCasts_S8x2x6_S8x12⟩,
      ⟨S8x4096, shapeCast S8x4096 a3 shapeCasts_S8x2x2048_S8x4096⟩,
      ⟨S8x4096, shapeCast S8x4096 a4 shapeCasts_S8x2x2048_S8x4096⟩,
      ⟨S8x33792, shapeCast S8x33792 a5 shapeCasts_S8x2x3x5632_S8x33792⟩,
      ⟨S8x11264, shapeCast S8x11264 a6 shapeCasts_S8x2x5632_S8x11264⟩,
      ⟨S8x4096, shapeCast S8x4096 a7 shapeCasts_S8x2x2048_S8x4096⟩,
      ⟨S8x4096, shapeCast S8x4096 a8 shapeCasts_S8x2x2048_S8x4096⟩,
      ⟨S8x128, a9⟩]
      concatenates_S8x1024_S8x256_S8x12_S8x4096_S8x4096_S8x33792_S8x11264_S8x4096_S8x4096_S8x128_S8x62860_d1)
    v pads_S8x62860_S8x63488_000_06280 h_S_) shapeCasts_S8x63488_S8x496x128

/-- The call finds the ten arguments packed. -/
theorem gathered_eq : gathered m c = packed (sitofp .f32 (constantI S_ 32 0#32))
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9)) := by
  unfold gathered V V0
  simp only [List.flatten_cons, List.flatten_nil, List.append_nil, List.cons_append, List.nil_append]
  after_results_simp
  rfl

section Places

variable (v : FVec Ideal S_ .f32) (a0 : FVec Ideal S8x2x512 .f32) (a1 : FVec Ideal S8x2x128 .f32) (a2 : FVec Ideal S8x2x6 .f32) (a3 : FVec Ideal S8x2x2048 .f32) (a4 : FVec Ideal S8x2x2048 .f32) (a5 : FVec Ideal S8x2x3x5632 .f32) (a6 : FVec Ideal S8x2x5632 .f32) (a7 : FVec Ideal S8x2x2048 .f32) (a8 : FVec Ideal S8x2x2048 .f32) (a9 : FVec Ideal S8x128 .f32)
  (d : Fin 8) (r : Fin 496) (k : Fin 128)

/-- Where the first array lies. -/
theorem place0 (i : Fin 2) (j : Fin 512) (h : r.val * 128 + k.val = i.val * 512 + j.val) :
    packed v a0 a1 a2 a3 a4 a5 a6 a7 a8 a9 (ix3 d r k) = a0 (ix3 d i j) := by
  pointwise [packed]
  rw [dif_pos (by omega), dif_pos (by omega)]
  exact congrArg a0 (congrArg₂ (ix3 d) (Fin.ext (by dsimp only; omega)) (Fin.ext (by dsimp only; omega)))

/-- Where the second array lies. -/
theorem place1 (i : Fin 2) (j : Fin 128) (h : r.val * 128 + k.val = 1024 + i.val * 128 + j.val) :
    packed v a0 a1 a2 a3 a4 a5 a6 a7 a8 a9 (ix3 d r k) = a1 (ix3 d i j) := by
  pointwise [packed]
  rw [dif_pos (by omega), dif_neg (by omega), dif_pos (by omega)]
  exact congrArg a1 (congrArg₂ (ix3 d) (Fin.ext (by dsimp only; omega)) (Fin.ext (by dsimp only; omega)))

/-- Where the third array lies. -/
theorem place2 (i : Fin 2) (j : Fin 6) (h : r.val * 128 + k.val = 1280 + i.val * 6 + j.val) :
    packed v a0 a1 a2 a3 a4 a5 a6 a7 a8 a9 (ix3 d r k) = a2 (ix3 d i j) := by
  pointwise [packed]
  rw [dif_pos (by omega), dif_neg (by omega), dif_neg (by omega), dif_pos (by omega)]
  exact congrArg a2 (congrArg₂ (ix3 d) (Fin.ext (by dsimp only; omega)) (Fin.ext (by dsimp only; omega)))

/-- Where the fourth array lies. -/
theorem place3 (i : Fin 2) (j : Fin 2048) (h : r.val * 128 + k.val = 1292 + i.val * 2048 + j.val) :
    packed v a0 a1 a2 a3 a4 a5 a6 a7 a8 a9 (ix3 d r k) = a3 (ix3 d i j) := by
  pointwise [packed]
  rw [dif_pos (by omega), dif_neg (by omega), dif_neg (by omega), dif_neg (by omega), dif_pos (by omega)]
  exact congrArg a3 (congrArg₂ (ix3 d) (Fin.ext (by dsimp only; omega)) (Fin.ext (by dsimp only; omega)))

/-- Where the fifth array lies. -/
theorem place4 (i : Fin 2) (j : Fin 2048) (h : r.val * 128 + k.val = 5388 + i.val * 2048 + j.val) :
    packed v a0 a1 a2 a3 a4 a5 a6 a7 a8 a9 (ix3 d r k) = a4 (ix3 d i j) := by
  pointwise [packed]
  rw [dif_pos (by omega), dif_neg (by omega), dif_neg (by omega), dif_neg (by omega), dif_neg (by omega), dif_pos (by omega)]
  exact congrArg a4 (congrArg₂ (ix3 d) (Fin.ext (by dsimp only; omega)) (Fin.ext (by dsimp only; omega)))

/-- Where the sixth array lies. -/
theorem place5 (i : Fin 2) (j : Fin 3) (p : Fin 5632) (h : r.val * 128 + k.val = 9484 + i.val * 16896 + j.val * 5632 + p.val) :
    packed v a0 a1 a2 a3 a4 a5 a6 a7 a8 a9 (ix3 d r k) = a5 (ix4 d i j p) := by
  pointwise [packed]
  rw [dif_pos (by omega), dif_neg (by omega), dif_neg (by omega), dif_neg (by omega), dif_neg (by omega), dif_neg (by omega), dif_pos (by omega)]
  have e0 : (r.val * 128 + k.val - 1024 - 256 - 12 - 4096 - 4096) / 16896 = i.val := by omega
  have e1 : (r.val * 128 + k.val - 1024 - 256 - 12 - 4096 - 4096) / 5632 % 3 = j.val := by omega
  have e2 : (r.val * 128 + k.val - 1024 - 256 - 12 - 4096 - 4096) % 5632 = p.val := by omega
  simp only [e0, e1, e2]

/-- Where the seventh array lies. -/
theorem place6 (i : Fin 2) (j : Fin 5632) (h : r.val * 128 + k.val = 43276 + i.val * 5632 + j.val) :
    packed v a0 a1 a2 a3 a4 a5 a6 a7 a8 a9 (ix3 d r k) = a6 (ix3 d i j) := by
  pointwise [packed]
  rw [dif_pos (by omega), dif_neg (by omega), dif_neg (by omega), dif_neg (by omega), dif_neg (by omega), dif_neg (by omega), dif_neg (by omega), dif_pos (by omega)]
  exact congrArg a6 (congrArg₂ (ix3 d) (Fin.ext (by dsimp only; omega)) (Fin.ext (by dsimp only; omega)))

/-- Where the eighth array lies. -/
theorem place7 (i : Fin 2) (j : Fin 2048) (h : r.val * 128 + k.val = 54540 + i.val * 2048 + j.val) :
    packed v a0 a1 a2 a3 a4 a5 a6 a7 a8 a9 (ix3 d r k) = a7 (ix3 d i j) := by
  pointwise [packed]
  rw [dif_pos (by omega), dif_neg (by omega), dif_neg (by omega), dif_neg (by omega), dif_neg (by omega), dif_neg (by omega), dif_neg (by omega), dif_neg (by omega), dif_pos (by omega)]
  exact congrArg a7 (congrArg₂ (ix3 d) (Fin.ext (by dsimp only; omega)) (Fin.ext (by dsimp only; omega)))

/-- Where the ninth array lies. -/
theorem place8 (i : Fin 2) (j : Fin 2048) (h : r.val * 128 + k.val = 58636 + i.val * 2048 + j.val) :
    packed v a0 a1 a2 a3 a4 a5 a6 a7 a8 a9 (ix3 d r k) = a8 (ix3 d i j) := by
  pointwise [packed]
  rw [dif_pos (by omega), dif_neg (by omega), dif_neg (by omega), dif_neg (by omega), dif_neg (by omega), dif_neg (by omega), dif_neg (by omega), dif_neg (by omega), dif_neg (by omega), dif_pos (by omega)]
  exact congrArg a8 (congrArg₂ (ix3 d) (Fin.ext (by dsimp only; omega)) (Fin.ext (by dsimp only; omega)))

/-- Where the tenth array lies. -/
theorem place9 (i : Fin 128) (h : r.val * 128 + k.val = 62732 + i.val) :
    packed v a0 a1 a2 a3 a4 a5 a6 a7 a8 a9 (ix3 d r k) = a9 (ix2 d i) := by
  pointwise [packed]
  rw [dif_pos (by omega), dif_neg (by omega), dif_neg (by omega), dif_neg (by omega), dif_neg (by omega), dif_neg (by omega), dif_neg (by omega), dif_neg (by omega), dif_neg (by omega), dif_neg (by omega)]
  exact congrArg a9 (congrArg (ix2 d) (Fin.ext (by dsimp only; omega)))

end Places

/-- The sum of the devices' gradients of the logits of the lower bound. -/
theorem out0 : Pipeline.afterTail₀ cfgs (dats m) 0 (V0 m) [hostOps1] c main_v15
    = fun y => (∑ d : Fin 8, m ((c : Thread nD τ).loc main_arg0) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place0 _ _ _ _ _ _ _ _ _ _ _ d _ _ y0 y1 (by dsimp only; omega))

/-- The sum of the devices' gradients of the norm gain of the recurrent heads. -/
theorem out1 : Pipeline.afterTail₀ cfgs (dats m) 0 (V0 m) [hostOps1] c main_v17
    = fun y => (∑ d : Fin 8, m ((c : Thread nD τ).loc main_arg1) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place1 _ _ _ _ _ _ _ _ _ _ _ d _ _ y0 y1 (by dsimp only; omega))

/-- The sum of the devices' gradients of the sinks. -/
theorem out2 : Pipeline.afterTail₀ cfgs (dats m) 0 (V0 m) [hostOps1] c main_v19
    = fun y => (∑ d : Fin 8, m ((c : Thread nD τ).loc main_arg2) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place2 _ _ _ _ _ _ _ _ _ _ _ d _ _ y0 y1 (by dsimp only; omega))

/-- The sum of the devices' gradients of the gain of the first norm. -/
theorem out3 : Pipeline.afterTail₀ cfgs (dats m) 0 (V0 m) [hostOps1] c main_v21
    = fun y => (∑ d : Fin 8, m ((c : Thread nD τ).loc main_arg3) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place3 _ _ _ _ _ _ _ _ _ _ _ d _ _ y0 y1 (by dsimp only; omega))

/-- The sum of the devices' gradients of the bias of the first norm. -/
theorem out4 : Pipeline.afterTail₀ cfgs (dats m) 0 (V0 m) [hostOps1] c main_v23
    = fun y => (∑ d : Fin 8, m ((c : Thread nD τ).loc main_arg4) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place4 _ _ _ _ _ _ _ _ _ _ _ d _ _ y0 y1 (by dsimp only; omega))

/-- The sum of the devices' gradients of the taps of the convolution. -/
theorem out5 : Pipeline.afterTail₀ cfgs (dats m) 0 (V0 m) [hostOps1] c main_v25
    = fun y => (∑ d : Fin 8, m ((c : Thread nD τ).loc main_arg5) (ix4 d (y 0) (y 1) (y 2)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place5 _ _ _ _ _ _ _ _ _ _ _ d _ _ y0 y1 y2 (by dsimp only; omega))

/-- The sum of the devices' gradients of the bias of the convolution. -/
theorem out6 : Pipeline.afterTail₀ cfgs (dats m) 0 (V0 m) [hostOps1] c main_v27
    = fun y => (∑ d : Fin 8, m ((c : Thread nD τ).loc main_arg6) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place6 _ _ _ _ _ _ _ _ _ _ _ d _ _ y0 y1 (by dsimp only; omega))

/-- The sum of the devices' gradients of the gain of the second norm. -/
theorem out7 : Pipeline.afterTail₀ cfgs (dats m) 0 (V0 m) [hostOps1] c main_v29
    = fun y => (∑ d : Fin 8, m ((c : Thread nD τ).loc main_arg7) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place7 _ _ _ _ _ _ _ _ _ _ _ d _ _ y0 y1 (by dsimp only; omega))

/-- The sum of the devices' gradients of the bias of the second norm. -/
theorem out8 : Pipeline.afterTail₀ cfgs (dats m) 0 (V0 m) [hostOps1] c main_v31
    = fun y => (∑ d : Fin 8, m ((c : Thread nD τ).loc main_arg8) (ix3 d (y 0) (y 1)) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  idx_vars y
  pointwise
  exact Finset.sum_congr (M := EReal) rfl fun d _ => (congrFun (gathered_eq m c) _).trans
    (place8 _ _ _ _ _ _ _ _ _ _ _ d _ _ y0 y1 (by dsimp only; omega))

/-- The sum of the devices' losses, which stand first in the tenth array. -/
theorem out9 : Pipeline.afterTail₀ cfgs (dats m) 0 (V0 m) [hostOps1] c main_v34
    = fun _ => (∑ d : Fin 8, m ((c : Thread nD τ).loc main_arg9) (ix2 d 0) : EReal) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v12)
    = (dats m 0 c).arrAt 1 cfg0.N from Pipeline.withArrays_arr _ launch0.win.arr_inj c _ _ 1, final]
  funext y
  pointwise
  exact Finset.sum_congr (M := EReal) rfl fun d _ => (congrFun (gathered_eq m c) _).trans
    (place9 _ _ _ _ _ _ _ _ _ _ _ d _ _ 0 (by rfl))

/-- The run, with every result named. -/
theorem run (ρ : Dev nD → PrngReg) : θ_run defs (onTc (τ := τ) (main (F := Ideal))) ⟨m, fun _ => 0, ρ⟩ (fun r => ∀ c : Dev nD,
      r.2.mem ((c.tc : Thread nD τ).loc main_v15) = Pipeline.afterTail₀ cfgs (dats m) 0 (V0 m) [hostOps1] c main_v15 ∧
      r.2.mem ((c.tc : Thread nD τ).loc main_v17) = Pipeline.afterTail₀ cfgs (dats m) 0 (V0 m) [hostOps1] c main_v17 ∧
      r.2.mem ((c.tc : Thread nD τ).loc main_v19) = Pipeline.afterTail₀ cfgs (dats m) 0 (V0 m) [hostOps1] c main_v19 ∧
      r.2.mem ((c.tc : Thread nD τ).loc main_v21) = Pipeline.afterTail₀ cfgs (dats m) 0 (V0 m) [hostOps1] c main_v21 ∧
      r.2.mem ((c.tc : Thread nD τ).loc main_v23) = Pipeline.afterTail₀ cfgs (dats m) 0 (V0 m) [hostOps1] c main_v23 ∧
      r.2.mem ((c.tc : Thread nD τ).loc main_v25) = Pipeline.afterTail₀ cfgs (dats m) 0 (V0 m) [hostOps1] c main_v25 ∧
      r.2.mem ((c.tc : Thread nD τ).loc main_v27) = Pipeline.afterTail₀ cfgs (dats m) 0 (V0 m) [hostOps1] c main_v27 ∧
      r.2.mem ((c.tc : Thread nD τ).loc main_v29) = Pipeline.afterTail₀ cfgs (dats m) 0 (V0 m) [hostOps1] c main_v29 ∧
      r.2.mem ((c.tc : Thread nD τ).loc main_v31) = Pipeline.afterTail₀ cfgs (dats m) 0 (V0 m) [hostOps1] c main_v31 ∧
      r.2.mem ((c.tc : Thread nD τ).loc main_v34) = Pipeline.afterTail₀ cfgs (dats m) 0 (V0 m) [hostOps1] c main_v34 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9)) :=
  (θ_run defs _ _).mono (fun r h c => ⟨(h.1 c).2 main_v15 (Pipeline.mem_restRefs_of main_v15 (by decide) (by decide)),
      (h.1 c).2 main_v17 (Pipeline.mem_restRefs_of main_v17 (by decide) (by decide)),
      (h.1 c).2 main_v19 (Pipeline.mem_restRefs_of main_v19 (by decide) (by decide)),
      (h.1 c).2 main_v21 (Pipeline.mem_restRefs_of main_v21 (by decide) (by decide)),
      (h.1 c).2 main_v23 (Pipeline.mem_restRefs_of main_v23 (by decide) (by decide)),
      (h.1 c).2 main_v25 (Pipeline.mem_restRefs_of main_v25 (by decide) (by decide)),
      (h.1 c).2 main_v27 (Pipeline.mem_restRefs_of main_v27 (by decide) (by decide)),
      (h.1 c).2 main_v29 (Pipeline.mem_restRefs_of main_v29 (by decide) (by decide)),
      (h.1 c).2 main_v31 (Pipeline.mem_restRefs_of main_v31 (by decide) (by decide)),
      (h.1 c).2 main_v34 (Pipeline.mem_restRefs_of main_v34 (by decide) (by decide)),
      h.2 c⟩) (θ_run_and (run_main m ρ) (unchanged m ρ))

end Cert.SmallGradsIdeal.Result

namespace Cert.Proof.SmallGrads

theorem frame_kernel : Cert.quiescent_SmallGrads := fun m ρ _ => Cert.SmallGrads.Gen.frame m ρ

theorem frame_ideal : Cert.quiescent_SmallGradsIdeal := fun m ρ _ => Cert.SmallGradsIdeal.Gen.frame m ρ

theorem frame_reference : Cert.quiescent_SmallGradsRefIdeal := fun m ρ _ =>
  (θ_run Cert.SmallGradsRefIdeal.defs _ _).mono
    (fun r h => ⟨fun c => (h c).2.2.2.2.2.2.2.2.2.2, sem_eq_zero_of_no_sems (by decide) r.2⟩) (Cert.SmallGradsRefIdeal.Value.run m ρ)

theorem algebraic : Cert.algebraic_SmallGradsIdeal_SmallGradsRefIdeal := by
  intro m g m' g' _ hargs
  refine ⟨_, _, _, _, _, _, _, _, _, _, Cert.SmallGradsIdeal.Result.run m g, ?_⟩
  refine (θ_run Cert.SmallGradsRefIdeal.defs _ _).mono (fun r h c => ?_) (Cert.SmallGradsRefIdeal.Value.run m' g')
  obtain ⟨h0, h1, h2, h3, h4, h5, h6, h7, h8, h9, hr⟩ := h c
  obtain ⟨a0, a1, a2, a3, a4, a5, a6, a7, a8, a9⟩ := hargs c
  refine ⟨h0.trans ?_, h1.trans ?_, h2.trans ?_, h3.trans ?_, h4.trans ?_, h5.trans ?_, h6.trans ?_, h7.trans ?_, h8.trans ?_, h9.trans ?_, hr⟩
  · rw [Cert.SmallGradsIdeal.Result.out0, Cert.SmallGradsRefIdeal.Read.val_main_v0_eq, a0]
    funext y
    idx_vars y
    pointwise [Cert.SmallGradsRefIdeal.Read.val_main_v0, Cert.SmallGradsRefIdeal.Read.val_main_cst]
  · rw [Cert.SmallGradsIdeal.Result.out1, Cert.SmallGradsRefIdeal.Read.val_main_v1_eq, a1]
    funext y
    idx_vars y
    pointwise [Cert.SmallGradsRefIdeal.Read.val_main_v1, Cert.SmallGradsRefIdeal.Read.val_main_cst_0]
  · rw [Cert.SmallGradsIdeal.Result.out2, Cert.SmallGradsRefIdeal.Read.val_main_v2_eq, a2]
    funext y
    idx_vars y
    pointwise [Cert.SmallGradsRefIdeal.Read.val_main_v2, Cert.SmallGradsRefIdeal.Read.val_main_cst_1]
  · rw [Cert.SmallGradsIdeal.Result.out3, Cert.SmallGradsRefIdeal.Read.val_main_v3_eq, a3]
    funext y
    idx_vars y
    pointwise [Cert.SmallGradsRefIdeal.Read.val_main_v3, Cert.SmallGradsRefIdeal.Read.val_main_cst_2]
  · rw [Cert.SmallGradsIdeal.Result.out4, Cert.SmallGradsRefIdeal.Read.val_main_v4_eq, a4]
    funext y
    idx_vars y
    pointwise [Cert.SmallGradsRefIdeal.Read.val_main_v4, Cert.SmallGradsRefIdeal.Read.val_main_cst_3]
  · rw [Cert.SmallGradsIdeal.Result.out5, Cert.SmallGradsRefIdeal.Read.val_main_v5_eq, a5]
    funext y
    idx_vars y
    pointwise [Cert.SmallGradsRefIdeal.Read.val_main_v5, Cert.SmallGradsRefIdeal.Read.val_main_cst_4]
  · rw [Cert.SmallGradsIdeal.Result.out6, Cert.SmallGradsRefIdeal.Read.val_main_v6_eq, a6]
    funext y
    idx_vars y
    pointwise [Cert.SmallGradsRefIdeal.Read.val_main_v6, Cert.SmallGradsRefIdeal.Read.val_main_cst_5]
  · rw [Cert.SmallGradsIdeal.Result.out7, Cert.SmallGradsRefIdeal.Read.val_main_v7_eq, a7]
    funext y
    idx_vars y
    pointwise [Cert.SmallGradsRefIdeal.Read.val_main_v7, Cert.SmallGradsRefIdeal.Read.val_main_cst_6]
  · rw [Cert.SmallGradsIdeal.Result.out8, Cert.SmallGradsRefIdeal.Read.val_main_v8_eq, a8]
    funext y
    idx_vars y
    pointwise [Cert.SmallGradsRefIdeal.Read.val_main_v8, Cert.SmallGradsRefIdeal.Read.val_main_cst_7]
  · rw [Cert.SmallGradsIdeal.Result.out9, Cert.SmallGradsRefIdeal.Read.val_main_v11_eq, a9]
    funext y
    pointwise [Cert.SmallGradsRefIdeal.Read.val_main_v11, Cert.SmallGradsRefIdeal.Read.val_main_cst_8, Cert.SmallGradsRefIdeal.Read.val_main_v9, Cert.SmallGradsRefIdeal.Read.val_main_v10]

end Cert.Proof.SmallGrads

end
-- ==== Proof.SmallUpdatesClaim.lean ====
module

public import proofs.«01_k».proof.Defs
public import proofs.«01_k».proof.Proof.Adam
public import proofs.«01_k».proof.Proof.Gen.SmallUpdates
public import proofs.«01_k».proof.Proof.Gen.SmallUpdates.Frame
public import proofs.«01_k».proof.Proof.Gen.SmallUpdatesIdeal
public import proofs.«01_k».proof.Proof.Gen.SmallUpdatesIdeal.Frame
public import proofs.«01_k».proof.Proof.Gen.SmallUpdatesRefIdeal
public import proofs.«01_k».proof.Proof.Gen.SmallUpdatesRefIdeal.Run
public import proofs.«01_k».proof.Proof.Gen.SmallUpdatesRefIdeal.Read
public import Idealize.ShloMosaic.Lib.Pipeline.ValueKit

@[expose] public section

set_option maxRecDepth 16384

noncomputable section

open Idealize.ShloMosaic Idealize.ShloMosaic.TcCoe Idealize.SL.Sem Cert.Products Cert.Adam

/-! # The AdamW updates of the nine small parameters: packed, updated in one call, and taken apart -/

namespace Cert.SmallUpdatesRefIdeal.Result

open Cert.SmallUpdatesRefIdeal Cert.SmallUpdatesRefIdeal.Read

/-- The reference's first moments of the lower bound's logits. -/
theorem moment0 (g m : FVec Ideal S2x512 .f32) (i : S2x512.Idx) : val_main_v4 (F := Ideal) g m i = moment (g i) (m i) := by
  pointwise [val_main_v4, val_main_v3, val_main_v2, val_main_v1, val_main_v0, val_main_cst, val_main_cst_0]
  rfl

/-- The reference's second moments of the lower bound's logits. -/
theorem square0 (g v : FVec Ideal S2x512 .f32) (i : S2x512.Idx) : val_main_v10 (F := Ideal) g v i = square (g i) (v i) := by
  pointwise [val_main_v10, val_main_v9, val_main_v8, val_main_v7, val_main_v6, val_main_v5, val_main_cst_1, val_main_cst_2]
  rfl

/-- The reference's changes of the lower bound's logits. -/
theorem delta0 (w g m v : FVec Ideal S2x512 .f32) (i : S2x512.Idx) :
    val_main_v23 (F := Ideal) w g m v i = delta (w i) (g i) (m i) (v i) := by
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
  rw [moment0, square0]
  rfl

/-- The reference's first moments of the recurrent heads' norm gain. -/
theorem moment1 (g m : FVec Ideal S2x128 .f32) (i : S2x128.Idx) : val_main_v28 (F := Ideal) g m i = moment (g i) (m i) := by
  pointwise [val_main_v28, val_main_v27, val_main_v26, val_main_v25, val_main_v24, val_main_cst_8, val_main_cst_9]
  rfl

/-- The reference's second moments of the recurrent heads' norm gain. -/
theorem square1 (g v : FVec Ideal S2x128 .f32) (i : S2x128.Idx) : val_main_v34 (F := Ideal) g v i = square (g i) (v i) := by
  pointwise [val_main_v34, val_main_v33, val_main_v32, val_main_v31, val_main_v30, val_main_v29, val_main_cst_10, val_main_cst_11]
  rfl

/-- The reference's changes of the recurrent heads' norm gain. -/
theorem delta1 (w g m v : FVec Ideal S2x128 .f32) (i : S2x128.Idx) :
    val_main_v47 (F := Ideal) w g m v i = delta (w i) (g i) (m i) (v i) := by
  pointwise [val_main_v47, val_main_v46, val_main_v45, val_main_v44, val_main_v43, val_main_v42, val_main_v41, val_main_v40, val_main_v39, val_main_v38, val_main_v37, val_main_v36, val_main_v35,
    val_main_cst_12, val_main_cst_13, val_main_cst_14, val_main_cst_15, val_main_cst_16]
  rw [moment1, square1]
  rfl

/-- The reference's first moments of the sinks. -/
theorem moment2 (g m : FVec Ideal S2x6 .f32) (i : S2x6.Idx) : val_main_v52 (F := Ideal) g m i = moment (g i) (m i) := by
  pointwise [val_main_v52, val_main_v51, val_main_v50, val_main_v49, val_main_v48, val_main_cst_17, val_main_cst_18]
  rfl

/-- The reference's second moments of the sinks. -/
theorem square2 (g v : FVec Ideal S2x6 .f32) (i : S2x6.Idx) : val_main_v58 (F := Ideal) g v i = square (g i) (v i) := by
  pointwise [val_main_v58, val_main_v57, val_main_v56, val_main_v55, val_main_v54, val_main_v53, val_main_cst_19, val_main_cst_20]
  rfl

/-- The reference's changes of the sinks. -/
theorem delta2 (w g m v : FVec Ideal S2x6 .f32) (i : S2x6.Idx) :
    val_main_v71 (F := Ideal) w g m v i = delta (w i) (g i) (m i) (v i) := by
  pointwise [val_main_v71, val_main_v70, val_main_v69, val_main_v68, val_main_v67, val_main_v66, val_main_v65, val_main_v64, val_main_v63, val_main_v62, val_main_v61, val_main_v60, val_main_v59,
    val_main_cst_21, val_main_cst_22, val_main_cst_23, val_main_cst_24, val_main_cst_25]
  rw [moment2, square2]
  rfl

/-- The reference's first moments of the first norm's gain. -/
theorem moment3 (g m : FVec Ideal S2x2048 .f32) (i : S2x2048.Idx) : val_main_v76 (F := Ideal) g m i = moment (g i) (m i) := by
  pointwise [val_main_v76, val_main_v75, val_main_v74, val_main_v73, val_main_v72, val_main_cst_26, val_main_cst_27]
  rfl

/-- The reference's second moments of the first norm's gain. -/
theorem square3 (g v : FVec Ideal S2x2048 .f32) (i : S2x2048.Idx) : val_main_v82 (F := Ideal) g v i = square (g i) (v i) := by
  pointwise [val_main_v82, val_main_v81, val_main_v80, val_main_v79, val_main_v78, val_main_v77, val_main_cst_28, val_main_cst_29]
  rfl

/-- The reference's changes of the first norm's gain. -/
theorem delta3 (w g m v : FVec Ideal S2x2048 .f32) (i : S2x2048.Idx) :
    val_main_v95 (F := Ideal) w g m v i = delta (w i) (g i) (m i) (v i) := by
  pointwise [val_main_v95, val_main_v94, val_main_v93, val_main_v92, val_main_v91, val_main_v90, val_main_v89, val_main_v88, val_main_v87, val_main_v86, val_main_v85, val_main_v84, val_main_v83,
    val_main_cst_30, val_main_cst_31, val_main_cst_32, val_main_cst_33, val_main_cst_34]
  rw [moment3, square3]
  rfl

/-- The reference's first moments of the first norm's bias. -/
theorem moment4 (g m : FVec Ideal S2x2048 .f32) (i : S2x2048.Idx) : val_main_v100 (F := Ideal) g m i = moment (g i) (m i) := by
  pointwise [val_main_v100, val_main_v99, val_main_v98, val_main_v97, val_main_v96, val_main_cst_35, val_main_cst_36]
  rfl

/-- The reference's second moments of the first norm's bias. -/
theorem square4 (g v : FVec Ideal S2x2048 .f32) (i : S2x2048.Idx) : val_main_v106 (F := Ideal) g v i = square (g i) (v i) := by
  pointwise [val_main_v106, val_main_v105, val_main_v104, val_main_v103, val_main_v102, val_main_v101, val_main_cst_37, val_main_cst_38]
  rfl

/-- The reference's changes of the first norm's bias. -/
theorem delta4 (w g m v : FVec Ideal S2x2048 .f32) (i : S2x2048.Idx) :
    val_main_v119 (F := Ideal) w g m v i = delta (w i) (g i) (m i) (v i) := by
  pointwise [val_main_v119, val_main_v118, val_main_v117, val_main_v116, val_main_v115, val_main_v114, val_main_v113, val_main_v112, val_main_v111, val_main_v110, val_main_v109, val_main_v108, val_main_v107,
    val_main_cst_39, val_main_cst_40, val_main_cst_41, val_main_cst_42, val_main_cst_43]
  rw [moment4, square4]
  rfl

/-- The reference's first moments of the convolution's taps. -/
theorem moment5 (g m : FVec Ideal S2x3x1408 .f32) (i : S2x3x1408.Idx) : val_main_v124 (F := Ideal) g m i = moment (g i) (m i) := by
  pointwise [val_main_v124, val_main_v123, val_main_v122, val_main_v121, val_main_v120, val_main_cst_44, val_main_cst_45]
  rfl

/-- The reference's second moments of the convolution's taps. -/
theorem square5 (g v : FVec Ideal S2x3x1408 .f32) (i : S2x3x1408.Idx) : val_main_v130 (F := Ideal) g v i = square (g i) (v i) := by
  pointwise [val_main_v130, val_main_v129, val_main_v128, val_main_v127, val_main_v126, val_main_v125, val_main_cst_46, val_main_cst_47]
  rfl

/-- The reference's changes of the convolution's taps. -/
theorem delta5 (w g m v : FVec Ideal S2x3x1408 .f32) (i : S2x3x1408.Idx) :
    val_main_v143 (F := Ideal) w g m v i = delta (w i) (g i) (m i) (v i) := by
  pointwise [val_main_v143, val_main_v142, val_main_v141, val_main_v140, val_main_v139, val_main_v138, val_main_v137, val_main_v136, val_main_v135, val_main_v134, val_main_v133, val_main_v132, val_main_v131,
    val_main_cst_48, val_main_cst_49, val_main_cst_50, val_main_cst_51, val_main_cst_52]
  rw [moment5, square5]
  rfl

/-- The reference's first moments of the convolution's bias. -/
theorem moment6 (g m : FVec Ideal S2x5632 .f32) (i : S2x5632.Idx) : val_main_v148 (F := Ideal) g m i = moment (g i) (m i) := by
  pointwise [val_main_v148, val_main_v147, val_main_v146, val_main_v145, val_main_v144, val_main_cst_53, val_main_cst_54]
  rfl

/-- The reference's second moments of the convolution's bias. -/
theorem square6 (g v : FVec Ideal S2x5632 .f32) (i : S2x5632.Idx) : val_main_v154 (F := Ideal) g v i = square (g i) (v i) := by
  pointwise [val_main_v154, val_main_v153, val_main_v152, val_main_v151, val_main_v150, val_main_v149, val_main_cst_55, val_main_cst_56]
  rfl

/-- The reference's changes of the convolution's bias. -/
theorem delta6 (w g m v : FVec Ideal S2x5632 .f32) (i : S2x5632.Idx) :
    val_main_v167 (F := Ideal) w g m v i = delta (w i) (g i) (m i) (v i) := by
  pointwise [val_main_v167, val_main_v166, val_main_v165, val_main_v164, val_main_v163, val_main_v162, val_main_v161, val_main_v160, val_main_v159, val_main_v158, val_main_v157, val_main_v156, val_main_v155,
    val_main_cst_57, val_main_cst_58, val_main_cst_59, val_main_cst_60, val_main_cst_61]
  rw [moment6, square6]
  rfl

/-- The reference's first moments of the second norm's gain. -/
theorem moment7 (g m : FVec Ideal S2x2048 .f32) (i : S2x2048.Idx) : val_main_v172 (F := Ideal) g m i = moment (g i) (m i) := by
  pointwise [val_main_v172, val_main_v171, val_main_v170, val_main_v169, val_main_v168, val_main_cst_62, val_main_cst_63]
  rfl

/-- The reference's second moments of the second norm's gain. -/
theorem square7 (g v : FVec Ideal S2x2048 .f32) (i : S2x2048.Idx) : val_main_v178 (F := Ideal) g v i = square (g i) (v i) := by
  pointwise [val_main_v178, val_main_v177, val_main_v176, val_main_v175, val_main_v174, val_main_v173, val_main_cst_64, val_main_cst_65]
  rfl

/-- The reference's changes of the second norm's gain. -/
theorem delta7 (w g m v : FVec Ideal S2x2048 .f32) (i : S2x2048.Idx) :
    val_main_v191 (F := Ideal) w g m v i = delta (w i) (g i) (m i) (v i) := by
  pointwise [val_main_v191, val_main_v190, val_main_v189, val_main_v188, val_main_v187, val_main_v186, val_main_v185, val_main_v184, val_main_v183, val_main_v182, val_main_v181, val_main_v180, val_main_v179,
    val_main_cst_66, val_main_cst_67, val_main_cst_68, val_main_cst_69, val_main_cst_70]
  rw [moment7, square7]
  rfl

/-- The reference's first moments of the second norm's bias. -/
theorem moment8 (g m : FVec Ideal S2x2048 .f32) (i : S2x2048.Idx) : val_main_v196 (F := Ideal) g m i = moment (g i) (m i) := by
  pointwise [val_main_v196, val_main_v195, val_main_v194, val_main_v193, val_main_v192, val_main_cst_71, val_main_cst_72]
  rfl

/-- The reference's second moments of the second norm's bias. -/
theorem square8 (g v : FVec Ideal S2x2048 .f32) (i : S2x2048.Idx) : val_main_v202 (F := Ideal) g v i = square (g i) (v i) := by
  pointwise [val_main_v202, val_main_v201, val_main_v200, val_main_v199, val_main_v198, val_main_v197, val_main_cst_73, val_main_cst_74]
  rfl

/-- The reference's changes of the second norm's bias. -/
theorem delta8 (w g m v : FVec Ideal S2x2048 .f32) (i : S2x2048.Idx) :
    val_main_v215 (F := Ideal) w g m v i = delta (w i) (g i) (m i) (v i) := by
  pointwise [val_main_v215, val_main_v214, val_main_v213, val_main_v212, val_main_v211, val_main_v210, val_main_v209, val_main_v208, val_main_v207, val_main_v206, val_main_v205, val_main_v204, val_main_v203,
    val_main_cst_75, val_main_cst_76, val_main_cst_77, val_main_cst_78, val_main_cst_79]
  rw [moment8, square8]
  rfl

end Cert.SmallUpdatesRefIdeal.Result

namespace Cert.SmallUpdatesIdeal.Result

open Cert.SmallUpdatesIdeal Cert.SmallUpdatesIdeal.Gen

variable (m : (ℓ : Loc nD τ sig) → Buf (Elt Ideal) ℓ) (c : Dev nD)

/-- Every window is its whole array. -/
theorem index_eq : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- Nine arrays laid one after the other in one row, filled up, and cut into rows of 128. -/
def packed (v : FVec Ideal S_ .f32) (a0 : FVec Ideal S2x512 .f32) (a1 : FVec Ideal S2x128 .f32) (a2 : FVec Ideal S2x6 .f32) (a3 : FVec Ideal S2x2048 .f32) (a4 : FVec Ideal S2x2048 .f32) (a5 : FVec Ideal S2x3x1408 .f32) (a6 : FVec Ideal S2x5632 .f32) (a7 : FVec Ideal S2x2048 .f32) (a8 : FVec Ideal S2x2048 .f32) :
    FVec Ideal S296x128 .f32 :=
  shapeCast S296x128 (pad S37888 ![0] ![500] ![0] (concatenate S37388 0
     [⟨S1024, shapeCast S1024 a0 shapeCasts_S2x512_S1024⟩,
      ⟨S256, shapeCast S256 a1 shapeCasts_S2x128_S256⟩,
      ⟨S12, shapeCast S12 a2 shapeCasts_S2x6_S12⟩,
      ⟨S4096, shapeCast S4096 a3 shapeCasts_S2x2048_S4096⟩,
      ⟨S4096, shapeCast S4096 a4 shapeCasts_S2x2048_S4096⟩,
      ⟨S8448, shapeCast S8448 a5 shapeCasts_S2x3x1408_S8448⟩,
      ⟨S11264, shapeCast S11264 a6 shapeCasts_S2x5632_S11264⟩,
      ⟨S4096, shapeCast S4096 a7 shapeCasts_S2x2048_S4096⟩,
      ⟨S4096, shapeCast S4096 a8 shapeCasts_S2x2048_S4096⟩]
      concatenates_S1024_S256_S12_S4096_S4096_S8448_S11264_S4096_S4096_S37388_d0)
    v pads_S37388_S37888_05000 h_S_) shapeCasts_S37888_S296x128

section Places

variable (v : FVec Ideal S_ .f32) (a0 : FVec Ideal S2x512 .f32) (a1 : FVec Ideal S2x128 .f32) (a2 : FVec Ideal S2x6 .f32) (a3 : FVec Ideal S2x2048 .f32) (a4 : FVec Ideal S2x2048 .f32) (a5 : FVec Ideal S2x3x1408 .f32) (a6 : FVec Ideal S2x5632 .f32) (a7 : FVec Ideal S2x2048 .f32) (a8 : FVec Ideal S2x2048 .f32)
  (r : Fin 296) (k : Fin 128)

/-- Where the first array lies. -/
theorem place0 (i : Fin 2) (j : Fin 512) (h : r.val * 128 + k.val = i.val * 512 + j.val) :
    packed v a0 a1 a2 a3 a4 a5 a6 a7 a8 (ix2 r k) = a0 (ix2 i j) := by
  pointwise [packed]
  rw [dif_pos (by omega), dif_pos (by omega)]
  exact congrArg a0 (congrArg₂ ix2 (Fin.ext (by dsimp only; omega)) (Fin.ext (by dsimp only; omega)))

/-- Where the second array lies. -/
theorem place1 (i : Fin 2) (j : Fin 128) (h : r.val * 128 + k.val = 1024 + i.val * 128 + j.val) :
    packed v a0 a1 a2 a3 a4 a5 a6 a7 a8 (ix2 r k) = a1 (ix2 i j) := by
  pointwise [packed]
  rw [dif_pos (by omega), dif_neg (by omega), dif_pos (by omega)]
  exact congrArg a1 (congrArg₂ ix2 (Fin.ext (by dsimp only; omega)) (Fin.ext (by dsimp only; omega)))

/-- Where the third array lies. -/
theorem place2 (i : Fin 2) (j : Fin 6) (h : r.val * 128 + k.val = 1280 + i.val * 6 + j.val) :
    packed v a0 a1 a2 a3 a4 a5 a6 a7 a8 (ix2 r k) = a2 (ix2 i j) := by
  pointwise [packed]
  rw [dif_pos (by omega), dif_neg (by omega), dif_neg (by omega), dif_pos (by omega)]
  exact congrArg a2 (congrArg₂ ix2 (Fin.ext (by dsimp only; omega)) (Fin.ext (by dsimp only; omega)))

/-- Where the fourth array lies. -/
theorem place3 (i : Fin 2) (j : Fin 2048) (h : r.val * 128 + k.val = 1292 + i.val * 2048 + j.val) :
    packed v a0 a1 a2 a3 a4 a5 a6 a7 a8 (ix2 r k) = a3 (ix2 i j) := by
  pointwise [packed]
  rw [dif_pos (by omega), dif_neg (by omega), dif_neg (by omega), dif_neg (by omega), dif_pos (by omega)]
  exact congrArg a3 (congrArg₂ ix2 (Fin.ext (by dsimp only; omega)) (Fin.ext (by dsimp only; omega)))

/-- Where the fifth array lies. -/
theorem place4 (i : Fin 2) (j : Fin 2048) (h : r.val * 128 + k.val = 5388 + i.val * 2048 + j.val) :
    packed v a0 a1 a2 a3 a4 a5 a6 a7 a8 (ix2 r k) = a4 (ix2 i j) := by
  pointwise [packed]
  rw [dif_pos (by omega), dif_neg (by omega), dif_neg (by omega), dif_neg (by omega), dif_neg (by omega), dif_pos (by omega)]
  exact congrArg a4 (congrArg₂ ix2 (Fin.ext (by dsimp only; omega)) (Fin.ext (by dsimp only; omega)))

/-- Where the sixth array lies. -/
theorem place5 (i : Fin 2) (j : Fin 3) (p : Fin 1408) (h : r.val * 128 + k.val = 9484 + i.val * 4224 + j.val * 1408 + p.val) :
    packed v a0 a1 a2 a3 a4 a5 a6 a7 a8 (ix2 r k) = a5 (ix3 i j p) := by
  pointwise [packed]
  rw [dif_pos (by omega), dif_neg (by omega), dif_neg (by omega), dif_neg (by omega), dif_neg (by omega), dif_neg (by omega), dif_pos (by omega)]
  have e0 : (r.val * 128 + k.val - 1024 - 256 - 12 - 4096 - 4096) / 4224 = i.val := by omega
  have e1 : (r.val * 128 + k.val - 1024 - 256 - 12 - 4096 - 4096) / 1408 % 3 = j.val := by omega
  have e2 : (r.val * 128 + k.val - 1024 - 256 - 12 - 4096 - 4096) % 1408 = p.val := by omega
  simp only [e0, e1, e2]

/-- Where the seventh array lies. -/
theorem place6 (i : Fin 2) (j : Fin 5632) (h : r.val * 128 + k.val = 17932 + i.val * 5632 + j.val) :
    packed v a0 a1 a2 a3 a4 a5 a6 a7 a8 (ix2 r k) = a6 (ix2 i j) := by
  pointwise [packed]
  rw [dif_pos (by omega), dif_neg (by omega), dif_neg (by omega), dif_neg (by omega), dif_neg (by omega), dif_neg (by omega), dif_neg (by omega), dif_pos (by omega)]
  exact congrArg a6 (congrArg₂ ix2 (Fin.ext (by dsimp only; omega)) (Fin.ext (by dsimp only; omega)))

/-- Where the eighth array lies. -/
theorem place7 (i : Fin 2) (j : Fin 2048) (h : r.val * 128 + k.val = 29196 + i.val * 2048 + j.val) :
    packed v a0 a1 a2 a3 a4 a5 a6 a7 a8 (ix2 r k) = a7 (ix2 i j) := by
  pointwise [packed]
  rw [dif_pos (by omega), dif_neg (by omega), dif_neg (by omega), dif_neg (by omega), dif_neg (by omega), dif_neg (by omega), dif_neg (by omega), dif_neg (by omega), dif_pos (by omega)]
  exact congrArg a7 (congrArg₂ ix2 (Fin.ext (by dsimp only; omega)) (Fin.ext (by dsimp only; omega)))

/-- Where the ninth array lies. -/
theorem place8 (i : Fin 2) (j : Fin 2048) (h : r.val * 128 + k.val = 33292 + i.val * 2048 + j.val) :
    packed v a0 a1 a2 a3 a4 a5 a6 a7 a8 (ix2 r k) = a8 (ix2 i j) := by
  pointwise [packed]
  rw [dif_pos (by omega), dif_neg (by omega), dif_neg (by omega), dif_neg (by omega), dif_neg (by omega), dif_neg (by omega), dif_neg (by omega), dif_neg (by omega), dif_neg (by omega)]
  exact congrArg a8 (congrArg₂ ix2 (Fin.ext (by dsimp only; omega)) (Fin.ext (by dsimp only; omega)))

end Places

/-- The packed weights, as the call finds them. -/
def weights : Mat 296 128 := V m c main_v11

theorem weights_eq : weights m c = packed (sitofp .f32 (constantI S_ 32 0#32))
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8)) := by
  unfold weights V V0
  simp only [List.flatten_cons, List.flatten_nil, List.append_nil, List.cons_append, List.nil_append]
  after_results_simp
  rfl

theorem weights_block (t : Fin cfg0.N) (r : Fin 296) (k : Fin 128) : (iblk m c 0 t (ix2 r k) : EReal) = weights m c (ix2 r k) := by
  unfold weights
  blk_ext! [iblk, (index_eq t).1]

/-- The packed gradients, as the call finds them. -/
def gradients : Mat 296 128 := V m c main_v23

theorem gradients_eq : gradients m c = packed (sitofp .f32 (constantI S_ 32 0#32))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17)) := by
  unfold gradients V V0
  simp only [List.flatten_cons, List.flatten_nil, List.append_nil, List.cons_append, List.nil_append]
  after_results_simp
  rfl

theorem gradients_block (t : Fin cfg0.N) (r : Fin 296) (k : Fin 128) : (iblk m c 1 t (ix2 r k) : EReal) = gradients m c (ix2 r k) := by
  unfold gradients
  blk_ext! [iblk, (index_eq t).2.1]

/-- The packed first moments, as the call finds them. -/
def first : Mat 296 128 := V m c main_v35

theorem first_eq : first m c = packed (sitofp .f32 (constantI S_ 32 0#32))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26)) := by
  unfold first V V0
  simp only [List.flatten_cons, List.flatten_nil, List.append_nil, List.cons_append, List.nil_append]
  after_results_simp
  rfl

theorem first_block (t : Fin cfg0.N) (r : Fin 296) (k : Fin 128) : (iblk m c 2 t (ix2 r k) : EReal) = first m c (ix2 r k) := by
  unfold first
  blk_ext! [iblk, (index_eq t).2.2.1]

/-- The packed second moments, as the call finds them. -/
def second : Mat 296 128 := V m c main_v47

theorem second_eq : second m c = packed (sitofp .f32 (constantI S_ 32 0#32))
    (m ((c : Thread nD τ).loc main_arg27))
    (m ((c : Thread nD τ).loc main_arg28))
    (m ((c : Thread nD τ).loc main_arg29))
    (m ((c : Thread nD τ).loc main_arg30))
    (m ((c : Thread nD τ).loc main_arg31))
    (m ((c : Thread nD τ).loc main_arg32))
    (m ((c : Thread nD τ).loc main_arg33))
    (m ((c : Thread nD τ).loc main_arg34))
    (m ((c : Thread nD τ).loc main_arg35)) := by
  unfold second V V0
  simp only [List.flatten_cons, List.flatten_nil, List.append_nil, List.cons_append, List.nil_append]
  after_results_simp
  rfl

theorem second_block (t : Fin cfg0.N) (r : Fin 296) (k : Fin 128) : (iblk m c 3 t (ix2 r k) : EReal) = second m c (ix2 r k) := by
  unfold second
  blk_ext! [iblk, (index_eq t).2.2.2.1]

theorem delta_final : (dats m 0 c).arrAt 4 cfg0.N = fun i => delta (weights m c i) (gradients m c i) (first m c i) (second m c i) := by
  refine (dats m 0 c).arrAt_eq_of_covers 4 _ (by decide +kernel) fun t hf y => ?_
  blk_simp
  rw [after0_4]
  frame_out
  idx_vars y
  rw [show ((View.whole main_v48_0).slice (win0_4.rect t)).emb (ix2 y0 y1) = ix2 y0 y1 by
    funext a; apply Fin.ext; fin_cases a <;> blk_simp [(index_eq t).2.2.2.2.1] <;> rfl]
  pointwise [k0_pay4, k0_pay3, k0_pay2, k0_pay1]
  simp only [weights_block, gradients_block, first_block, second_block]
  rfl

theorem moment_final : (dats m 0 c).arrAt 5 cfg0.N = fun i => moment (gradients m c i) (first m c i) := by
  refine (dats m 0 c).arrAt_eq_of_covers 5 _ (by decide +kernel) fun t hf y => ?_
  blk_simp
  rw [after0_5]
  frame_out
  idx_vars y
  rw [show ((View.whole main_v48_1).slice (win0_5.rect t)).emb (ix2 y0 y1) = ix2 y0 y1 by
    funext a; apply Fin.ext; fin_cases a <;> blk_simp [(index_eq t).2.2.2.2.2.1] <;> rfl]
  pointwise [k0_pay4, k0_pay3, k0_pay2, k0_pay1]
  simp only [weights_block, gradients_block, first_block, second_block]
  rfl

theorem square_final : (dats m 0 c).arrAt 6 cfg0.N = fun i => square (gradients m c i) (second m c i) := by
  refine (dats m 0 c).arrAt_eq_of_covers 6 _ (by decide +kernel) fun t hf y => ?_
  blk_simp
  rw [after0_6]
  frame_out
  idx_vars y
  rw [show ((View.whole main_v48_2).slice (win0_6.rect t)).emb (ix2 y0 y1) = ix2 y0 y1 by
    funext a; apply Fin.ext; fin_cases a <;> blk_simp [(index_eq t).2.2.2.2.2.2] <;> rfl]
  pointwise [k0_pay4, k0_pay3, k0_pay2, k0_pay1]
  simp only [weights_block, gradients_block, first_block, second_block]
  rfl

theorem delta_congr {w g m v w1 g1 m1 v1 : EReal} (hw : w = w1) (hg : g = g1) (hm : m = m1) (hv : v = v1) : delta w g m v = delta w1 g1 m1 v1 := by
  subst hw hg hm hv; rfl

theorem moment_congr {g m g1 m1 : EReal} (hg : g = g1) (hm : m = m1) : moment g m = moment g1 m1 := by
  subst hg hm; rfl

theorem square_congr {g v g1 v1 : EReal} (hg : g = g1) (hv : v = v1) : square g v = square g1 v1 := by
  subst hg hv; rfl

theorem delta0 : Pipeline.afterTail₀ cfgs (dats m) 0 (V0 m) [hostOps1] c main_v51
    = fun y => delta (m ((c : Thread nD τ).loc main_arg0) y) (m ((c : Thread nD τ).loc main_arg9) y) (m ((c : Thread nD τ).loc main_arg18) y) (m ((c : Thread nD τ).loc main_arg27) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place0 _ _ _ _ _ _ _ _ _ _ _ _ y0 y1 (by dsimp only; omega)))
    ((congrFun (gradients_eq m c) _).trans (place0 _ _ _ _ _ _ _ _ _ _ _ _ y0 y1 (by dsimp only; omega)))
    ((congrFun (first_eq m c) _).trans (place0 _ _ _ _ _ _ _ _ _ _ _ _ y0 y1 (by dsimp only; omega)))
    ((congrFun (second_eq m c) _).trans (place0 _ _ _ _ _ _ _ _ _ _ _ _ y0 y1 (by dsimp only; omega)))

theorem delta1 : Pipeline.afterTail₀ cfgs (dats m) 0 (V0 m) [hostOps1] c main_v53
    = fun y => delta (m ((c : Thread nD τ).loc main_arg1) y) (m ((c : Thread nD τ).loc main_arg10) y) (m ((c : Thread nD τ).loc main_arg19) y) (m ((c : Thread nD τ).loc main_arg28) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place1 _ _ _ _ _ _ _ _ _ _ _ _ y0 y1 (by dsimp only; omega)))
    ((congrFun (gradients_eq m c) _).trans (place1 _ _ _ _ _ _ _ _ _ _ _ _ y0 y1 (by dsimp only; omega)))
    ((congrFun (first_eq m c) _).trans (place1 _ _ _ _ _ _ _ _ _ _ _ _ y0 y1 (by dsimp only; omega)))
    ((congrFun (second_eq m c) _).trans (place1 _ _ _ _ _ _ _ _ _ _ _ _ y0 y1 (by dsimp only; omega)))

theorem delta2 : Pipeline.afterTail₀ cfgs (dats m) 0 (V0 m) [hostOps1] c main_v55
    = fun y => delta (m ((c : Thread nD τ).loc main_arg2) y) (m ((c : Thread nD τ).loc main_arg11) y) (m ((c : Thread nD τ).loc main_arg20) y) (m ((c : Thread nD τ).loc main_arg29) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place2 _ _ _ _ _ _ _ _ _ _ _ _ y0 y1 (by dsimp only; omega)))
    ((congrFun (gradients_eq m c) _).trans (place2 _ _ _ _ _ _ _ _ _ _ _ _ y0 y1 (by dsimp only; omega)))
    ((congrFun (first_eq m c) _).trans (place2 _ _ _ _ _ _ _ _ _ _ _ _ y0 y1 (by dsimp only; omega)))
    ((congrFun (second_eq m c) _).trans (place2 _ _ _ _ _ _ _ _ _ _ _ _ y0 y1 (by dsimp only; omega)))

theorem delta3 : Pipeline.afterTail₀ cfgs (dats m) 0 (V0 m) [hostOps1] c main_v57
    = fun y => delta (m ((c : Thread nD τ).loc main_arg3) y) (m ((c : Thread nD τ).loc main_arg12) y) (m ((c : Thread nD τ).loc main_arg21) y) (m ((c : Thread nD τ).loc main_arg30) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place3 _ _ _ _ _ _ _ _ _ _ _ _ y0 y1 (by dsimp only; omega)))
    ((congrFun (gradients_eq m c) _).trans (place3 _ _ _ _ _ _ _ _ _ _ _ _ y0 y1 (by dsimp only; omega)))
    ((congrFun (first_eq m c) _).trans (place3 _ _ _ _ _ _ _ _ _ _ _ _ y0 y1 (by dsimp only; omega)))
    ((congrFun (second_eq m c) _).trans (place3 _ _ _ _ _ _ _ _ _ _ _ _ y0 y1 (by dsimp only; omega)))

theorem delta4 : Pipeline.afterTail₀ cfgs (dats m) 0 (V0 m) [hostOps1] c main_v59
    = fun y => delta (m ((c : Thread nD τ).loc main_arg4) y) (m ((c : Thread nD τ).loc main_arg13) y) (m ((c : Thread nD τ).loc main_arg22) y) (m ((c : Thread nD τ).loc main_arg31) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place4 _ _ _ _ _ _ _ _ _ _ _ _ y0 y1 (by dsimp only; omega)))
    ((congrFun (gradients_eq m c) _).trans (place4 _ _ _ _ _ _ _ _ _ _ _ _ y0 y1 (by dsimp only; omega)))
    ((congrFun (first_eq m c) _).trans (place4 _ _ _ _ _ _ _ _ _ _ _ _ y0 y1 (by dsimp only; omega)))
    ((congrFun (second_eq m c) _).trans (place4 _ _ _ _ _ _ _ _ _ _ _ _ y0 y1 (by dsimp only; omega)))

theorem delta5 : Pipeline.afterTail₀ cfgs (dats m) 0 (V0 m) [hostOps1] c main_v61
    = fun y => delta (m ((c : Thread nD τ).loc main_arg5) y) (m ((c : Thread nD τ).loc main_arg14) y) (m ((c : Thread nD τ).loc main_arg23) y) (m ((c : Thread nD τ).loc main_arg32) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place5 _ _ _ _ _ _ _ _ _ _ _ _ y0 y1 y2 (by dsimp only; omega)))
    ((congrFun (gradients_eq m c) _).trans (place5 _ _ _ _ _ _ _ _ _ _ _ _ y0 y1 y2 (by dsimp only; omega)))
    ((congrFun (first_eq m c) _).trans (place5 _ _ _ _ _ _ _ _ _ _ _ _ y0 y1 y2 (by dsimp only; omega)))
    ((congrFun (second_eq m c) _).trans (place5 _ _ _ _ _ _ _ _ _ _ _ _ y0 y1 y2 (by dsimp only; omega)))

theorem delta6 : Pipeline.afterTail₀ cfgs (dats m) 0 (V0 m) [hostOps1] c main_v63
    = fun y => delta (m ((c : Thread nD τ).loc main_arg6) y) (m ((c : Thread nD τ).loc main_arg15) y) (m ((c : Thread nD τ).loc main_arg24) y) (m ((c : Thread nD τ).loc main_arg33) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place6 _ _ _ _ _ _ _ _ _ _ _ _ y0 y1 (by dsimp only; omega)))
    ((congrFun (gradients_eq m c) _).trans (place6 _ _ _ _ _ _ _ _ _ _ _ _ y0 y1 (by dsimp only; omega)))
    ((congrFun (first_eq m c) _).trans (place6 _ _ _ _ _ _ _ _ _ _ _ _ y0 y1 (by dsimp only; omega)))
    ((congrFun (second_eq m c) _).trans (place6 _ _ _ _ _ _ _ _ _ _ _ _ y0 y1 (by dsimp only; omega)))

theorem delta7 : Pipeline.afterTail₀ cfgs (dats m) 0 (V0 m) [hostOps1] c main_v65
    = fun y => delta (m ((c : Thread nD τ).loc main_arg7) y) (m ((c : Thread nD τ).loc main_arg16) y) (m ((c : Thread nD τ).loc main_arg25) y) (m ((c : Thread nD τ).loc main_arg34) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place7 _ _ _ _ _ _ _ _ _ _ _ _ y0 y1 (by dsimp only; omega)))
    ((congrFun (gradients_eq m c) _).trans (place7 _ _ _ _ _ _ _ _ _ _ _ _ y0 y1 (by dsimp only; omega)))
    ((congrFun (first_eq m c) _).trans (place7 _ _ _ _ _ _ _ _ _ _ _ _ y0 y1 (by dsimp only; omega)))
    ((congrFun (second_eq m c) _).trans (place7 _ _ _ _ _ _ _ _ _ _ _ _ y0 y1 (by dsimp only; omega)))

theorem delta8 : Pipeline.afterTail₀ cfgs (dats m) 0 (V0 m) [hostOps1] c main_v67
    = fun y => delta (m ((c : Thread nD τ).loc main_arg8) y) (m ((c : Thread nD τ).loc main_arg17) y) (m ((c : Thread nD τ).loc main_arg26) y) (m ((c : Thread nD τ).loc main_arg35) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_0)
    = (dats m 0 c).arrAt 4 cfg0.N from Pipeline.withArrays_arr _ launch0.win.arr_inj c _ _ 4, delta_final]
  funext y
  idx_vars y
  pointwise
  exact delta_congr ((congrFun (weights_eq m c) _).trans (place8 _ _ _ _ _ _ _ _ _ _ _ _ y0 y1 (by dsimp only; omega)))
    ((congrFun (gradients_eq m c) _).trans (place8 _ _ _ _ _ _ _ _ _ _ _ _ y0 y1 (by dsimp only; omega)))
    ((congrFun (first_eq m c) _).trans (place8 _ _ _ _ _ _ _ _ _ _ _ _ y0 y1 (by dsimp only; omega)))
    ((congrFun (second_eq m c) _).trans (place8 _ _ _ _ _ _ _ _ _ _ _ _ y0 y1 (by dsimp only; omega)))

theorem moment0 : Pipeline.afterTail₀ cfgs (dats m) 0 (V0 m) [hostOps1] c main_v70
    = fun y => moment (m ((c : Thread nD τ).loc main_arg9) y) (m ((c : Thread nD τ).loc main_arg18) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place0 _ _ _ _ _ _ _ _ _ _ _ _ y0 y1 (by dsimp only; omega)))
    ((congrFun (first_eq m c) _).trans (place0 _ _ _ _ _ _ _ _ _ _ _ _ y0 y1 (by dsimp only; omega)))

theorem moment1 : Pipeline.afterTail₀ cfgs (dats m) 0 (V0 m) [hostOps1] c main_v72
    = fun y => moment (m ((c : Thread nD τ).loc main_arg10) y) (m ((c : Thread nD τ).loc main_arg19) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place1 _ _ _ _ _ _ _ _ _ _ _ _ y0 y1 (by dsimp only; omega)))
    ((congrFun (first_eq m c) _).trans (place1 _ _ _ _ _ _ _ _ _ _ _ _ y0 y1 (by dsimp only; omega)))

theorem moment2 : Pipeline.afterTail₀ cfgs (dats m) 0 (V0 m) [hostOps1] c main_v74
    = fun y => moment (m ((c : Thread nD τ).loc main_arg11) y) (m ((c : Thread nD τ).loc main_arg20) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place2 _ _ _ _ _ _ _ _ _ _ _ _ y0 y1 (by dsimp only; omega)))
    ((congrFun (first_eq m c) _).trans (place2 _ _ _ _ _ _ _ _ _ _ _ _ y0 y1 (by dsimp only; omega)))

theorem moment3 : Pipeline.afterTail₀ cfgs (dats m) 0 (V0 m) [hostOps1] c main_v76
    = fun y => moment (m ((c : Thread nD τ).loc main_arg12) y) (m ((c : Thread nD τ).loc main_arg21) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place3 _ _ _ _ _ _ _ _ _ _ _ _ y0 y1 (by dsimp only; omega)))
    ((congrFun (first_eq m c) _).trans (place3 _ _ _ _ _ _ _ _ _ _ _ _ y0 y1 (by dsimp only; omega)))

theorem moment4 : Pipeline.afterTail₀ cfgs (dats m) 0 (V0 m) [hostOps1] c main_v78
    = fun y => moment (m ((c : Thread nD τ).loc main_arg13) y) (m ((c : Thread nD τ).loc main_arg22) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place4 _ _ _ _ _ _ _ _ _ _ _ _ y0 y1 (by dsimp only; omega)))
    ((congrFun (first_eq m c) _).trans (place4 _ _ _ _ _ _ _ _ _ _ _ _ y0 y1 (by dsimp only; omega)))

theorem moment5 : Pipeline.afterTail₀ cfgs (dats m) 0 (V0 m) [hostOps1] c main_v80
    = fun y => moment (m ((c : Thread nD τ).loc main_arg14) y) (m ((c : Thread nD τ).loc main_arg23) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place5 _ _ _ _ _ _ _ _ _ _ _ _ y0 y1 y2 (by dsimp only; omega)))
    ((congrFun (first_eq m c) _).trans (place5 _ _ _ _ _ _ _ _ _ _ _ _ y0 y1 y2 (by dsimp only; omega)))

theorem moment6 : Pipeline.afterTail₀ cfgs (dats m) 0 (V0 m) [hostOps1] c main_v82
    = fun y => moment (m ((c : Thread nD τ).loc main_arg15) y) (m ((c : Thread nD τ).loc main_arg24) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place6 _ _ _ _ _ _ _ _ _ _ _ _ y0 y1 (by dsimp only; omega)))
    ((congrFun (first_eq m c) _).trans (place6 _ _ _ _ _ _ _ _ _ _ _ _ y0 y1 (by dsimp only; omega)))

theorem moment7 : Pipeline.afterTail₀ cfgs (dats m) 0 (V0 m) [hostOps1] c main_v84
    = fun y => moment (m ((c : Thread nD τ).loc main_arg16) y) (m ((c : Thread nD τ).loc main_arg25) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place7 _ _ _ _ _ _ _ _ _ _ _ _ y0 y1 (by dsimp only; omega)))
    ((congrFun (first_eq m c) _).trans (place7 _ _ _ _ _ _ _ _ _ _ _ _ y0 y1 (by dsimp only; omega)))

theorem moment8 : Pipeline.afterTail₀ cfgs (dats m) 0 (V0 m) [hostOps1] c main_v86
    = fun y => moment (m ((c : Thread nD τ).loc main_arg17) y) (m ((c : Thread nD τ).loc main_arg26) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_1)
    = (dats m 0 c).arrAt 5 cfg0.N from Pipeline.withArrays_arr _ launch0.win.arr_inj c _ _ 5, moment_final]
  funext y
  idx_vars y
  pointwise
  exact moment_congr ((congrFun (gradients_eq m c) _).trans (place8 _ _ _ _ _ _ _ _ _ _ _ _ y0 y1 (by dsimp only; omega)))
    ((congrFun (first_eq m c) _).trans (place8 _ _ _ _ _ _ _ _ _ _ _ _ y0 y1 (by dsimp only; omega)))

theorem square0 : Pipeline.afterTail₀ cfgs (dats m) 0 (V0 m) [hostOps1] c main_v89
    = fun y => square (m ((c : Thread nD τ).loc main_arg9) y) (m ((c : Thread nD τ).loc main_arg27) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place0 _ _ _ _ _ _ _ _ _ _ _ _ y0 y1 (by dsimp only; omega)))
    ((congrFun (second_eq m c) _).trans (place0 _ _ _ _ _ _ _ _ _ _ _ _ y0 y1 (by dsimp only; omega)))

theorem square1 : Pipeline.afterTail₀ cfgs (dats m) 0 (V0 m) [hostOps1] c main_v91
    = fun y => square (m ((c : Thread nD τ).loc main_arg10) y) (m ((c : Thread nD τ).loc main_arg28) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place1 _ _ _ _ _ _ _ _ _ _ _ _ y0 y1 (by dsimp only; omega)))
    ((congrFun (second_eq m c) _).trans (place1 _ _ _ _ _ _ _ _ _ _ _ _ y0 y1 (by dsimp only; omega)))

theorem square2 : Pipeline.afterTail₀ cfgs (dats m) 0 (V0 m) [hostOps1] c main_v93
    = fun y => square (m ((c : Thread nD τ).loc main_arg11) y) (m ((c : Thread nD τ).loc main_arg29) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place2 _ _ _ _ _ _ _ _ _ _ _ _ y0 y1 (by dsimp only; omega)))
    ((congrFun (second_eq m c) _).trans (place2 _ _ _ _ _ _ _ _ _ _ _ _ y0 y1 (by dsimp only; omega)))

theorem square3 : Pipeline.afterTail₀ cfgs (dats m) 0 (V0 m) [hostOps1] c main_v95
    = fun y => square (m ((c : Thread nD τ).loc main_arg12) y) (m ((c : Thread nD τ).loc main_arg30) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place3 _ _ _ _ _ _ _ _ _ _ _ _ y0 y1 (by dsimp only; omega)))
    ((congrFun (second_eq m c) _).trans (place3 _ _ _ _ _ _ _ _ _ _ _ _ y0 y1 (by dsimp only; omega)))

theorem square4 : Pipeline.afterTail₀ cfgs (dats m) 0 (V0 m) [hostOps1] c main_v97
    = fun y => square (m ((c : Thread nD τ).loc main_arg13) y) (m ((c : Thread nD τ).loc main_arg31) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place4 _ _ _ _ _ _ _ _ _ _ _ _ y0 y1 (by dsimp only; omega)))
    ((congrFun (second_eq m c) _).trans (place4 _ _ _ _ _ _ _ _ _ _ _ _ y0 y1 (by dsimp only; omega)))

theorem square5 : Pipeline.afterTail₀ cfgs (dats m) 0 (V0 m) [hostOps1] c main_v99
    = fun y => square (m ((c : Thread nD τ).loc main_arg14) y) (m ((c : Thread nD τ).loc main_arg32) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place5 _ _ _ _ _ _ _ _ _ _ _ _ y0 y1 y2 (by dsimp only; omega)))
    ((congrFun (second_eq m c) _).trans (place5 _ _ _ _ _ _ _ _ _ _ _ _ y0 y1 y2 (by dsimp only; omega)))

theorem square6 : Pipeline.afterTail₀ cfgs (dats m) 0 (V0 m) [hostOps1] c main_v101
    = fun y => square (m ((c : Thread nD τ).loc main_arg15) y) (m ((c : Thread nD τ).loc main_arg33) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place6 _ _ _ _ _ _ _ _ _ _ _ _ y0 y1 (by dsimp only; omega)))
    ((congrFun (second_eq m c) _).trans (place6 _ _ _ _ _ _ _ _ _ _ _ _ y0 y1 (by dsimp only; omega)))

theorem square7 : Pipeline.afterTail₀ cfgs (dats m) 0 (V0 m) [hostOps1] c main_v103
    = fun y => square (m ((c : Thread nD τ).loc main_arg16) y) (m ((c : Thread nD τ).loc main_arg34) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place7 _ _ _ _ _ _ _ _ _ _ _ _ y0 y1 (by dsimp only; omega)))
    ((congrFun (second_eq m c) _).trans (place7 _ _ _ _ _ _ _ _ _ _ _ _ y0 y1 (by dsimp only; omega)))

theorem square8 : Pipeline.afterTail₀ cfgs (dats m) 0 (V0 m) [hostOps1] c main_v105
    = fun y => square (m ((c : Thread nD τ).loc main_arg17) y) (m ((c : Thread nD τ).loc main_arg35) y) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.tc.devRef main_v48_2)
    = (dats m 0 c).arrAt 6 cfg0.N from Pipeline.withArrays_arr _ launch0.win.arr_inj c _ _ 6, square_final]
  funext y
  idx_vars y
  pointwise
  exact square_congr ((congrFun (gradients_eq m c) _).trans (place8 _ _ _ _ _ _ _ _ _ _ _ _ y0 y1 (by dsimp only; omega)))
    ((congrFun (second_eq m c) _).trans (place8 _ _ _ _ _ _ _ _ _ _ _ _ y0 y1 (by dsimp only; omega)))

set_option maxHeartbeats 1000000 in
/-- The run, with every result named. -/
theorem run (ρ : Dev nD → PrngReg) : θ_run defs (onTc (τ := τ) (main (F := Ideal))) ⟨m, fun _ => 0, ρ⟩ (fun r => ∀ c : Dev nD,
      r.2.mem ((c.tc : Thread nD τ).loc main_v51) = Pipeline.afterTail₀ cfgs (dats m) 0 (V0 m) [hostOps1] c main_v51 ∧
      r.2.mem ((c.tc : Thread nD τ).loc main_v53) = Pipeline.afterTail₀ cfgs (dats m) 0 (V0 m) [hostOps1] c main_v53 ∧
      r.2.mem ((c.tc : Thread nD τ).loc main_v55) = Pipeline.afterTail₀ cfgs (dats m) 0 (V0 m) [hostOps1] c main_v55 ∧
      r.2.mem ((c.tc : Thread nD τ).loc main_v57) = Pipeline.afterTail₀ cfgs (dats m) 0 (V0 m) [hostOps1] c main_v57 ∧
      r.2.mem ((c.tc : Thread nD τ).loc main_v59) = Pipeline.afterTail₀ cfgs (dats m) 0 (V0 m) [hostOps1] c main_v59 ∧
      r.2.mem ((c.tc : Thread nD τ).loc main_v61) = Pipeline.afterTail₀ cfgs (dats m) 0 (V0 m) [hostOps1] c main_v61 ∧
      r.2.mem ((c.tc : Thread nD τ).loc main_v63) = Pipeline.afterTail₀ cfgs (dats m) 0 (V0 m) [hostOps1] c main_v63 ∧
      r.2.mem ((c.tc : Thread nD τ).loc main_v65) = Pipeline.afterTail₀ cfgs (dats m) 0 (V0 m) [hostOps1] c main_v65 ∧
      r.2.mem ((c.tc : Thread nD τ).loc main_v67) = Pipeline.afterTail₀ cfgs (dats m) 0 (V0 m) [hostOps1] c main_v67 ∧
      r.2.mem ((c.tc : Thread nD τ).loc main_v70) = Pipeline.afterTail₀ cfgs (dats m) 0 (V0 m) [hostOps1] c main_v70 ∧
      r.2.mem ((c.tc : Thread nD τ).loc main_v72) = Pipeline.afterTail₀ cfgs (dats m) 0 (V0 m) [hostOps1] c main_v72 ∧
      r.2.mem ((c.tc : Thread nD τ).loc main_v74) = Pipeline.afterTail₀ cfgs (dats m) 0 (V0 m) [hostOps1] c main_v74 ∧
      r.2.mem ((c.tc : Thread nD τ).loc main_v76) = Pipeline.afterTail₀ cfgs (dats m) 0 (V0 m) [hostOps1] c main_v76 ∧
      r.2.mem ((c.tc : Thread nD τ).loc main_v78) = Pipeline.afterTail₀ cfgs (dats m) 0 (V0 m) [hostOps1] c main_v78 ∧
      r.2.mem ((c.tc : Thread nD τ).loc main_v80) = Pipeline.afterTail₀ cfgs (dats m) 0 (V0 m) [hostOps1] c main_v80 ∧
      r.2.mem ((c.tc : Thread nD τ).loc main_v82) = Pipeline.afterTail₀ cfgs (dats m) 0 (V0 m) [hostOps1] c main_v82 ∧
      r.2.mem ((c.tc : Thread nD τ).loc main_v84) = Pipeline.afterTail₀ cfgs (dats m) 0 (V0 m) [hostOps1] c main_v84 ∧
      r.2.mem ((c.tc : Thread nD τ).loc main_v86) = Pipeline.afterTail₀ cfgs (dats m) 0 (V0 m) [hostOps1] c main_v86 ∧
      r.2.mem ((c.tc : Thread nD τ).loc main_v89) = Pipeline.afterTail₀ cfgs (dats m) 0 (V0 m) [hostOps1] c main_v89 ∧
      r.2.mem ((c.tc : Thread nD τ).loc main_v91) = Pipeline.afterTail₀ cfgs (dats m) 0 (V0 m) [hostOps1] c main_v91 ∧
      r.2.mem ((c.tc : Thread nD τ).loc main_v93) = Pipeline.afterTail₀ cfgs (dats m) 0 (V0 m) [hostOps1] c main_v93 ∧
      r.2.mem ((c.tc : Thread nD τ).loc main_v95) = Pipeline.afterTail₀ cfgs (dats m) 0 (V0 m) [hostOps1] c main_v95 ∧
      r.2.mem ((c.tc : Thread nD τ).loc main_v97) = Pipeline.afterTail₀ cfgs (dats m) 0 (V0 m) [hostOps1] c main_v97 ∧
      r.2.mem ((c.tc : Thread nD τ).loc main_v99) = Pipeline.afterTail₀ cfgs (dats m) 0 (V0 m) [hostOps1] c main_v99 ∧
      r.2.mem ((c.tc : Thread nD τ).loc main_v101) = Pipeline.afterTail₀ cfgs (dats m) 0 (V0 m) [hostOps1] c main_v101 ∧
      r.2.mem ((c.tc : Thread nD τ).loc main_v103) = Pipeline.afterTail₀ cfgs (dats m) 0 (V0 m) [hostOps1] c main_v103 ∧
      r.2.mem ((c.tc : Thread nD τ).loc main_v105) = Pipeline.afterTail₀ cfgs (dats m) 0 (V0 m) [hostOps1] c main_v105 ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24) ∧
      r.2.mem ((c.tc : Thread nD τ).loc main_arg25) = m ((c.tc : Thread nD τ).loc main_arg25) ∧
      r.2.mem ((c.tc : Thread nD τ).loc main_arg26) = m ((c.tc : Thread nD τ).loc main_arg26) ∧
      r.2.mem ((c.tc : Thread nD τ).loc main_arg27) = m ((c.tc : Thread nD τ).loc main_arg27) ∧
      r.2.mem ((c.tc : Thread nD τ).loc main_arg28) = m ((c.tc : Thread nD τ).loc main_arg28) ∧
      r.2.mem ((c.tc : Thread nD τ).loc main_arg29) = m ((c.tc : Thread nD τ).loc main_arg29) ∧
      r.2.mem ((c.tc : Thread nD τ).loc main_arg30) = m ((c.tc : Thread nD τ).loc main_arg30) ∧
      r.2.mem ((c.tc : Thread nD τ).loc main_arg31) = m ((c.tc : Thread nD τ).loc main_arg31) ∧
      r.2.mem ((c.tc : Thread nD τ).loc main_arg32) = m ((c.tc : Thread nD τ).loc main_arg32) ∧
      r.2.mem ((c.tc : Thread nD τ).loc main_arg33) = m ((c.tc : Thread nD τ).loc main_arg33) ∧
      r.2.mem ((c.tc : Thread nD τ).loc main_arg34) = m ((c.tc : Thread nD τ).loc main_arg34) ∧
      r.2.mem ((c.tc : Thread nD τ).loc main_arg35) = m ((c.tc : Thread nD τ).loc main_arg35)) :=
  (θ_run defs _ _).mono (fun r h c => ⟨(h.1 c).2 main_v51 (Pipeline.mem_restRefs_of main_v51 (by decide) (by decide)),
      (h.1 c).2 main_v53 (Pipeline.mem_restRefs_of main_v53 (by decide) (by decide)),
      (h.1 c).2 main_v55 (Pipeline.mem_restRefs_of main_v55 (by decide) (by decide)),
      (h.1 c).2 main_v57 (Pipeline.mem_restRefs_of main_v57 (by decide) (by decide)),
      (h.1 c).2 main_v59 (Pipeline.mem_restRefs_of main_v59 (by decide) (by decide)),
      (h.1 c).2 main_v61 (Pipeline.mem_restRefs_of main_v61 (by decide) (by decide)),
      (h.1 c).2 main_v63 (Pipeline.mem_restRefs_of main_v63 (by decide) (by decide)),
      (h.1 c).2 main_v65 (Pipeline.mem_restRefs_of main_v65 (by decide) (by decide)),
      (h.1 c).2 main_v67 (Pipeline.mem_restRefs_of main_v67 (by decide) (by decide)),
      (h.1 c).2 main_v70 (Pipeline.mem_restRefs_of main_v70 (by decide) (by decide)),
      (h.1 c).2 main_v72 (Pipeline.mem_restRefs_of main_v72 (by decide) (by decide)),
      (h.1 c).2 main_v74 (Pipeline.mem_restRefs_of main_v74 (by decide) (by decide)),
      (h.1 c).2 main_v76 (Pipeline.mem_restRefs_of main_v76 (by decide) (by decide)),
      (h.1 c).2 main_v78 (Pipeline.mem_restRefs_of main_v78 (by decide) (by decide)),
      (h.1 c).2 main_v80 (Pipeline.mem_restRefs_of main_v80 (by decide) (by decide)),
      (h.1 c).2 main_v82 (Pipeline.mem_restRefs_of main_v82 (by decide) (by decide)),
      (h.1 c).2 main_v84 (Pipeline.mem_restRefs_of main_v84 (by decide) (by decide)),
      (h.1 c).2 main_v86 (Pipeline.mem_restRefs_of main_v86 (by decide) (by decide)),
      (h.1 c).2 main_v89 (Pipeline.mem_restRefs_of main_v89 (by decide) (by decide)),
      (h.1 c).2 main_v91 (Pipeline.mem_restRefs_of main_v91 (by decide) (by decide)),
      (h.1 c).2 main_v93 (Pipeline.mem_restRefs_of main_v93 (by decide) (by decide)),
      (h.1 c).2 main_v95 (Pipeline.mem_restRefs_of main_v95 (by decide) (by decide)),
      (h.1 c).2 main_v97 (Pipeline.mem_restRefs_of main_v97 (by decide) (by decide)),
      (h.1 c).2 main_v99 (Pipeline.mem_restRefs_of main_v99 (by decide) (by decide)),
      (h.1 c).2 main_v101 (Pipeline.mem_restRefs_of main_v101 (by decide) (by decide)),
      (h.1 c).2 main_v103 (Pipeline.mem_restRefs_of main_v103 (by decide) (by decide)),
      (h.1 c).2 main_v105 (Pipeline.mem_restRefs_of main_v105 (by decide) (by decide)),
      h.2 c⟩) (θ_run_and (run_main m ρ) (unchanged m ρ))

end Cert.SmallUpdatesIdeal.Result

namespace Cert.Proof.SmallUpdates

theorem frame_kernel : Cert.quiescent_SmallUpdates := fun m ρ _ => Cert.SmallUpdates.Gen.frame m ρ

theorem frame_ideal : Cert.quiescent_SmallUpdatesIdeal := fun m ρ _ => Cert.SmallUpdatesIdeal.Gen.frame m ρ

theorem frame_reference : Cert.quiescent_SmallUpdatesRefIdeal := fun m ρ _ =>
  (θ_run Cert.SmallUpdatesRefIdeal.defs _ _).mono
    (fun r h => ⟨fun c => (h c).2.2.2.2.2.2.2.2.2.2.2.2.2.2.2.2.2.2.2.2.2.2.2.2.2.2.2, sem_eq_zero_of_no_sems (by decide) r.2⟩) (Cert.SmallUpdatesRefIdeal.Value.run m ρ)

set_option maxHeartbeats 2000000 in
theorem algebraic : Cert.algebraic_SmallUpdatesIdeal_SmallUpdatesRefIdeal := by
  intro m g m' g' _ hargs
  refine ⟨_, _, _, _, _, _, _, _, _, _, _, _, _, _, _, _, _, _, _, _, _, _, _, _, _, _, _, Cert.SmallUpdatesIdeal.Result.run m g, ?_⟩
  refine (θ_run Cert.SmallUpdatesRefIdeal.defs _ _).mono (fun r h c => ?_) (Cert.SmallUpdatesRefIdeal.Value.run m' g')
  obtain ⟨h0, h1, h2, h3, h4, h5, h6, h7, h8, h9, h10, h11, h12, h13, h14, h15, h16, h17, h18, h19, h20, h21, h22, h23, h24, h25, h26, hr⟩ := h c
  obtain ⟨a0, a1, a2, a3, a4, a5, a6, a7, a8, a9, a10, a11, a12, a13, a14, a15, a16, a17, a18, a19, a20, a21, a22, a23, a24, a25, a26, a27, a28, a29, a30, a31, a32, a33, a34, a35⟩ := hargs c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, hr⟩
  · refine ((Cert.SmallUpdatesRefIdeal.Read.val_main_v23_eq (Idealize.ShloMosaic.StableHlo.launchContents m' c)).trans ?_).trans (Cert.SmallUpdatesIdeal.Result.delta0 m c).symm
    exact funext fun i => (Cert.SmallUpdatesRefIdeal.Result.delta0 _ _ _ _ i).trans
      (Cert.SmallUpdatesIdeal.Result.delta_congr (congrFun a0 i) (congrFun a9 i) (congrFun a18 i) (congrFun a27 i))
  · refine ((Cert.SmallUpdatesRefIdeal.Read.val_main_v47_eq (Idealize.ShloMosaic.StableHlo.launchContents m' c)).trans ?_).trans (Cert.SmallUpdatesIdeal.Result.delta1 m c).symm
    exact funext fun i => (Cert.SmallUpdatesRefIdeal.Result.delta1 _ _ _ _ i).trans
      (Cert.SmallUpdatesIdeal.Result.delta_congr (congrFun a1 i) (congrFun a10 i) (congrFun a19 i) (congrFun a28 i))
  · refine ((Cert.SmallUpdatesRefIdeal.Read.val_main_v71_eq (Idealize.ShloMosaic.StableHlo.launchContents m' c)).trans ?_).trans (Cert.SmallUpdatesIdeal.Result.delta2 m c).symm
    exact funext fun i => (Cert.SmallUpdatesRefIdeal.Result.delta2 _ _ _ _ i).trans
      (Cert.SmallUpdatesIdeal.Result.delta_congr (congrFun a2 i) (congrFun a11 i) (congrFun a20 i) (congrFun a29 i))
  · refine ((Cert.SmallUpdatesRefIdeal.Read.val_main_v95_eq (Idealize.ShloMosaic.StableHlo.launchContents m' c)).trans ?_).trans (Cert.SmallUpdatesIdeal.Result.delta3 m c).symm
    exact funext fun i => (Cert.SmallUpdatesRefIdeal.Result.delta3 _ _ _ _ i).trans
      (Cert.SmallUpdatesIdeal.Result.delta_congr (congrFun a3 i) (congrFun a12 i) (congrFun a21 i) (congrFun a30 i))
  · refine ((Cert.SmallUpdatesRefIdeal.Read.val_main_v119_eq (Idealize.ShloMosaic.StableHlo.launchContents m' c)).trans ?_).trans (Cert.SmallUpdatesIdeal.Result.delta4 m c).symm
    exact funext fun i => (Cert.SmallUpdatesRefIdeal.Result.delta4 _ _ _ _ i).trans
      (Cert.SmallUpdatesIdeal.Result.delta_congr (congrFun a4 i) (congrFun a13 i) (congrFun a22 i) (congrFun a31 i))
  · refine ((Cert.SmallUpdatesRefIdeal.Read.val_main_v143_eq (Idealize.ShloMosaic.StableHlo.launchContents m' c)).trans ?_).trans (Cert.SmallUpdatesIdeal.Result.delta5 m c).symm
    exact funext fun i => (Cert.SmallUpdatesRefIdeal.Result.delta5 _ _ _ _ i).trans
      (Cert.SmallUpdatesIdeal.Result.delta_congr (congrFun a5 i) (congrFun a14 i) (congrFun a23 i) (congrFun a32 i))
  · refine ((Cert.SmallUpdatesRefIdeal.Read.val_main_v167_eq (Idealize.ShloMosaic.StableHlo.launchContents m' c)).trans ?_).trans (Cert.SmallUpdatesIdeal.Result.delta6 m c).symm
    exact funext fun i => (Cert.SmallUpdatesRefIdeal.Result.delta6 _ _ _ _ i).trans
      (Cert.SmallUpdatesIdeal.Result.delta_congr (congrFun a6 i) (congrFun a15 i) (congrFun a24 i) (congrFun a33 i))
  · refine ((Cert.SmallUpdatesRefIdeal.Read.val_main_v191_eq (Idealize.ShloMosaic.StableHlo.launchContents m' c)).trans ?_).trans (Cert.SmallUpdatesIdeal.Result.delta7 m c).symm
    exact funext fun i => (Cert.SmallUpdatesRefIdeal.Result.delta7 _ _ _ _ i).trans
      (Cert.SmallUpdatesIdeal.Result.delta_congr (congrFun a7 i) (congrFun a16 i) (congrFun a25 i) (congrFun a34 i))
  · refine ((Cert.SmallUpdatesRefIdeal.Read.val_main_v215_eq (Idealize.ShloMosaic.StableHlo.launchContents m' c)).trans ?_).trans (Cert.SmallUpdatesIdeal.Result.delta8 m c).symm
    exact funext fun i => (Cert.SmallUpdatesRefIdeal.Result.delta8 _ _ _ _ i).trans
      (Cert.SmallUpdatesIdeal.Result.delta_congr (congrFun a8 i) (congrFun a17 i) (congrFun a26 i) (congrFun a35 i))
  · refine ((Cert.SmallUpdatesRefIdeal.Read.val_main_v4_eq (Idealize.ShloMosaic.StableHlo.launchContents m' c)).trans ?_).trans (Cert.SmallUpdatesIdeal.Result.moment0 m c).symm
    exact funext fun i => (Cert.SmallUpdatesRefIdeal.Result.moment0 _ _ i).trans
      (Cert.SmallUpdatesIdeal.Result.moment_congr (congrFun a9 i) (congrFun a18 i))
  · refine ((Cert.SmallUpdatesRefIdeal.Read.val_main_v28_eq (Idealize.ShloMosaic.StableHlo.launchContents m' c)).trans ?_).trans (Cert.SmallUpdatesIdeal.Result.moment1 m c).symm
    exact funext fun i => (Cert.SmallUpdatesRefIdeal.Result.moment1 _ _ i).trans
      (Cert.SmallUpdatesIdeal.Result.moment_congr (congrFun a10 i) (congrFun a19 i))
  · refine ((Cert.SmallUpdatesRefIdeal.Read.val_main_v52_eq (Idealize.ShloMosaic.StableHlo.launchContents m' c)).trans ?_).trans (Cert.SmallUpdatesIdeal.Result.moment2 m c).symm
    exact funext fun i => (Cert.SmallUpdatesRefIdeal.Result.moment2 _ _ i).trans
      (Cert.SmallUpdatesIdeal.Result.moment_congr (congrFun a11 i) (congrFun a20 i))
  · refine ((Cert.SmallUpdatesRefIdeal.Read.val_main_v76_eq (Idealize.ShloMosaic.StableHlo.launchContents m' c)).trans ?_).trans (Cert.SmallUpdatesIdeal.Result.moment3 m c).symm
    exact funext fun i => (Cert.SmallUpdatesRefIdeal.Result.moment3 _ _ i).trans
      (Cert.SmallUpdatesIdeal.Result.moment_congr (congrFun a12 i) (congrFun a21 i))
  · refine ((Cert.SmallUpdatesRefIdeal.Read.val_main_v100_eq (Idealize.ShloMosaic.StableHlo.launchContents m' c)).trans ?_).trans (Cert.SmallUpdatesIdeal.Result.moment4 m c).symm
    exact funext fun i => (Cert.SmallUpdatesRefIdeal.Result.moment4 _ _ i).trans
      (Cert.SmallUpdatesIdeal.Result.moment_congr (congrFun a13 i) (congrFun a22 i))
  · refine ((Cert.SmallUpdatesRefIdeal.Read.val_main_v124_eq (Idealize.ShloMosaic.StableHlo.launchContents m' c)).trans ?_).trans (Cert.SmallUpdatesIdeal.Result.moment5 m c).symm
    exact funext fun i => (Cert.SmallUpdatesRefIdeal.Result.moment5 _ _ i).trans
      (Cert.SmallUpdatesIdeal.Result.moment_congr (congrFun a14 i) (congrFun a23 i))
  · refine ((Cert.SmallUpdatesRefIdeal.Read.val_main_v148_eq (Idealize.ShloMosaic.StableHlo.launchContents m' c)).trans ?_).trans (Cert.SmallUpdatesIdeal.Result.moment6 m c).symm
    exact funext fun i => (Cert.SmallUpdatesRefIdeal.Result.moment6 _ _ i).trans
      (Cert.SmallUpdatesIdeal.Result.moment_congr (congrFun a15 i) (congrFun a24 i))
  · refine ((Cert.SmallUpdatesRefIdeal.Read.val_main_v172_eq (Idealize.ShloMosaic.StableHlo.launchContents m' c)).trans ?_).trans (Cert.SmallUpdatesIdeal.Result.moment7 m c).symm
    exact funext fun i => (Cert.SmallUpdatesRefIdeal.Result.moment7 _ _ i).trans
      (Cert.SmallUpdatesIdeal.Result.moment_congr (congrFun a16 i) (congrFun a25 i))
  · refine ((Cert.SmallUpdatesRefIdeal.Read.val_main_v196_eq (Idealize.ShloMosaic.StableHlo.launchContents m' c)).trans ?_).trans (Cert.SmallUpdatesIdeal.Result.moment8 m c).symm
    exact funext fun i => (Cert.SmallUpdatesRefIdeal.Result.moment8 _ _ i).trans
      (Cert.SmallUpdatesIdeal.Result.moment_congr (congrFun a17 i) (congrFun a26 i))
  · refine ((Cert.SmallUpdatesRefIdeal.Read.val_main_v10_eq (Idealize.ShloMosaic.StableHlo.launchContents m' c)).trans ?_).trans (Cert.SmallUpdatesIdeal.Result.square0 m c).symm
    exact funext fun i => (Cert.SmallUpdatesRefIdeal.Result.square0 _ _ i).trans
      (Cert.SmallUpdatesIdeal.Result.square_congr (congrFun a9 i) (congrFun a27 i))
  · refine ((Cert.SmallUpdatesRefIdeal.Read.val_main_v34_eq (Idealize.ShloMosaic.StableHlo.launchContents m' c)).trans ?_).trans (Cert.SmallUpdatesIdeal.Result.square1 m c).symm
    exact funext fun i => (Cert.SmallUpdatesRefIdeal.Result.square1 _ _ i).trans
      (Cert.SmallUpdatesIdeal.Result.square_congr (congrFun a10 i) (congrFun a28 i))
  · refine ((Cert.SmallUpdatesRefIdeal.Read.val_main_v58_eq (Idealize.ShloMosaic.StableHlo.launchContents m' c)).trans ?_).trans (Cert.SmallUpdatesIdeal.Result.square2 m c).symm
    exact funext fun i => (Cert.SmallUpdatesRefIdeal.Result.square2 _ _ i).trans
      (Cert.SmallUpdatesIdeal.Result.square_congr (congrFun a11 i) (congrFun a29 i))
  · refine ((Cert.SmallUpdatesRefIdeal.Read.val_main_v82_eq (Idealize.ShloMosaic.StableHlo.launchContents m' c)).trans ?_).trans (Cert.SmallUpdatesIdeal.Result.square3 m c).symm
    exact funext fun i => (Cert.SmallUpdatesRefIdeal.Result.square3 _ _ i).trans
      (Cert.SmallUpdatesIdeal.Result.square_congr (congrFun a12 i) (congrFun a30 i))
  · refine ((Cert.SmallUpdatesRefIdeal.Read.val_main_v106_eq (Idealize.ShloMosaic.StableHlo.launchContents m' c)).trans ?_).trans (Cert.SmallUpdatesIdeal.Result.square4 m c).symm
    exact funext fun i => (Cert.SmallUpdatesRefIdeal.Result.square4 _ _ i).trans
      (Cert.SmallUpdatesIdeal.Result.square_congr (congrFun a13 i) (congrFun a31 i))
  · refine ((Cert.SmallUpdatesRefIdeal.Read.val_main_v130_eq (Idealize.ShloMosaic.StableHlo.launchContents m' c)).trans ?_).trans (Cert.SmallUpdatesIdeal.Result.square5 m c).symm
    exact funext fun i => (Cert.SmallUpdatesRefIdeal.Result.square5 _ _ i).trans
      (Cert.SmallUpdatesIdeal.Result.square_congr (congrFun a14 i) (congrFun a32 i))
  · refine ((Cert.SmallUpdatesRefIdeal.Read.val_main_v154_eq (Idealize.ShloMosaic.StableHlo.launchContents m' c)).trans ?_).trans (Cert.SmallUpdatesIdeal.Result.square6 m c).symm
    exact funext fun i => (Cert.SmallUpdatesRefIdeal.Result.square6 _ _ i).trans
      (Cert.SmallUpdatesIdeal.Result.square_congr (congrFun a15 i) (congrFun a33 i))
  · refine ((Cert.SmallUpdatesRefIdeal.Read.val_main_v178_eq (Idealize.ShloMosaic.StableHlo.launchContents m' c)).trans ?_).trans (Cert.SmallUpdatesIdeal.Result.square7 m c).symm
    exact funext fun i => (Cert.SmallUpdatesRefIdeal.Result.square7 _ _ i).trans
      (Cert.SmallUpdatesIdeal.Result.square_congr (congrFun a16 i) (congrFun a34 i))
  · refine ((Cert.SmallUpdatesRefIdeal.Read.val_main_v202_eq (Idealize.ShloMosaic.StableHlo.launchContents m' c)).trans ?_).trans (Cert.SmallUpdatesIdeal.Result.square8 m c).symm
    exact funext fun i => (Cert.SmallUpdatesRefIdeal.Result.square8 _ _ i).trans
      (Cert.SmallUpdatesIdeal.Result.square_congr (congrFun a17 i) (congrFun a35 i))

end Cert.Proof.SmallUpdates

end
-- ==== Proof.NormGradient.lean ====
module

public import proofs.«01_k».proof.Proof.Norm
public import proofs.«01_k».proof.Proof.Finite

@[expose] public section

noncomputable section

/-! # The gradient of the layer normalisation

The gradient of the normalised row with respect to the row, in the two shapes it is computed in: the kernel's, which has
gathered the terms, and the one that differentiates the mean and the variance in turn. They agree on rows of numbers,
because the row with its mean taken off sums to nothing and because `1 / s ^ 2` is the number under the root, where `s` is
one over the root. -/

namespace Cert.Norm

open Idealize.ShloMosaic Cert.Products Cert.Finite

/-- The normalised row before the gain and the bias. -/
def unit (z : Row) : Row := fun k => centred z k * scale z

/-- The gradient of the row, its terms gathered: `z` is the row, `a` the cotangent times the gain. -/
def gathered (z a : Row) : Row := fun k =>
  scale z * (a k - mean a - unit z k * mean (fun j => a j * unit z j))

/-- What reaches the row through the product with one over the standard deviation. -/
def direct (z a : Row) : Row := fun k => a k * scale z

/-- What reaches the row through the variance. -/
def spread (z a : Row) : Row := fun k =>
  Ideal.div ((∑ j, centred z j * a j) * (Ideal.ofBits .f32 0xBF000000#32 *
      Ideal.div (scale z) (mean (fun j => centred z j * centred z j) + Ideal.ofBits .f32 0x3727C5AC#32)))
    (Ideal.ofBits .f32 0x45000000#32) * (Ideal.ofBits .f32 0x40000000#32 * centred z k)

/-- The gradient of the row, step by step: both paths, and the path through the mean. -/
def stepwise (z a : Row) : Row := fun k =>
  direct z a k + spread z a k + Ideal.div ((∑ j, -direct z a j) + ∑ j, -spread z a j) (Ideal.ofBits .f32 0x45000000#32)

theorem width_f32 : Ideal.ofBits .f32 0x45000000#32 = ((2048 : ℝ) : EReal) := by
  simp [Ideal.ofBits, Ideal.ieee, -EReal.coe_mul]; norm_num

theorem two_f32 : Ideal.ofBits .f32 0x40000000#32 = ((2 : ℝ) : EReal) := by
  simp [Ideal.ofBits, Ideal.ieee, -EReal.coe_mul]; norm_num

theorem minus_half_f32 : Ideal.ofBits .f32 0xBF000000#32 = ((-(1 / 2) : ℝ) : EReal) := by
  simp [Ideal.ofBits, Ideal.ieee, -EReal.coe_mul, -EReal.coe_neg]; norm_num

/-- The small constant under the root is a positive number. -/
theorem under_f32 : ∃ e : ℝ, 0 < e ∧ Ideal.ofBits .f32 0x3727C5AC#32 = (e : EReal) := by
  refine ⟨10995116 / 2 ^ 40, by positivity, ?_⟩
  simp [Ideal.ofBits, Ideal.ieee, -EReal.coe_mul]; norm_num

/-- The residual's factor is a number. -/
theorem factor_f32 : ∃ e : ℝ, Ideal.ofBits .f32 0x3FB504F3#32 = (e : EReal) :=
  ⟨_, by simp only [Ideal.ofBits, Ideal.ieee]; norm_num; rfl⟩

/-- The mean of a row of numbers. -/
theorem mean_coe (f : Fin 2048 → ℝ) : mean (fun k => (f k : EReal)) = (((∑ k, f k) / 2048 : ℝ) : EReal) := by
  rw [mean, sum_coe, width_f32, div_coe_coe _ (by norm_num)]

/-- On rows of numbers both shapes are one gradient. -/
theorem stepwise_eq (z a : Row) (hz : ∀ k, ∃ r : ℝ, z k = r) (ha : ∀ k, ∃ r : ℝ, a k = r) : stepwise z a = gathered z a := by
  choose x hx using hz
  choose b hb using ha
  obtain rfl : z = fun k => (x k : EReal) := funext hx
  obtain rfl : a = fun k => (b k : EReal) := funext hb
  obtain ⟨e, he, hE⟩ := under_f32
  set u : Fin 2048 → ℝ := fun k => x k - (∑ j, x j) / 2048 with hu
  have hc : centred (fun k => (x k : EReal)) = fun k => (u k : EReal) := by
    funext k; rw [centred, mean_coe, ← EReal.coe_sub]
  set v : ℝ := (∑ k, u k * u k) / 2048 + e with hv
  have hv0 : 0 < v := by
    have : 0 ≤ ∑ k, u k * u k := Finset.sum_nonneg fun k _ => mul_self_nonneg _
    positivity
  have hm : mean (fun k => centred (fun k => (x k : EReal)) k * centred (fun k => (x k : EReal)) k)
      + Ideal.ofBits .f32 0x3727C5AC#32 = (v : EReal) := by
    rw [hc, hE, hv, EReal.coe_add, ← mean_coe]
    simp only [EReal.coe_mul]
  set s : ℝ := (Real.sqrt v)⁻¹ with hs
  have hS : scale (fun k => (x k : EReal)) = (s : EReal) := by
    rw [scale, hm, Ideal.rsqrt_coe, if_neg (not_lt.2 hv0.le), if_neg hv0.ne']
  have hss : s / v = s * s * s := by
    have h1 : s * s = v⁻¹ := by rw [hs, ← mul_inv, Real.mul_self_sqrt hv0.le]
    rw [h1, div_eq_mul_inv, mul_comm]
  have hu0 : ∑ k, u k = 0 := by
    rw [hu]; simp only [Finset.sum_sub_distrib, Finset.sum_const, Finset.card_univ, Fintype.card_fin, nsmul_eq_mul]
    push_cast; ring
  have hsp : spread (fun k => (x k : EReal)) (fun k => (b k : EReal)) =
      fun k => ((-((∑ j, u j * b j) / 2048 * (s * s * s)) * u k : ℝ) : EReal) := by
    funext k
    rw [spread, hm, hS, hc, minus_half_f32, two_f32, width_f32, div_coe_coe _ hv0.ne', hss]
    simp only [← EReal.coe_mul]
    rw [sum_coe, ← EReal.coe_mul, div_coe_coe _ (by norm_num), ← EReal.coe_mul]
    congr 1; ring
  have hd : direct (fun k => (x k : EReal)) (fun k => (b k : EReal)) = fun k => ((b k * s : ℝ) : EReal) := by
    funext k; rw [direct, hS, ← EReal.coe_mul]
  funext k
  rw [stepwise, gathered, hsp, hd, hS]
  simp only [unit, hc, hS, ← EReal.coe_mul, mean_coe, ← EReal.coe_neg, sum_coe, ← EReal.coe_add, ← EReal.coe_sub, width_f32]
  rw [div_coe_coe _ (by norm_num), ← EReal.coe_add]
  congr 1
  have h1 : ∑ j, -(-((∑ j, u j * b j) / 2048 * (s * s * s)) * u j) = 0 := by
    simp only [neg_mul, neg_neg]
    rw [← Finset.mul_sum, hu0, mul_zero]
  have h2 : ∑ j, -(b j * s) = -((∑ j, b j) * s) := by rw [Finset.sum_neg_distrib, ← Finset.sum_mul]
  have h3 : ∑ j, b j * (u j * s) = (∑ j, u j * b j) * s := by
    rw [Finset.sum_mul]; exact Finset.sum_congr rfl fun j _ => by ring
  rw [h1, h2, h3]
  ring

/-! ## The three gradients of a stream of rows, `d` the cotangent of the normalised stream -/

/-- The gradient of the stream. -/
def streamGradient (x y : Mat 2048 2048) (g : (⟨1, ![2048]⟩ : Shape).Idx → EReal) (d : Fin 2048 → Row) : Mat 2048 2048 :=
  fun i => gathered (residual x y (i 0)) (fun k => d (i 0) k * g (ix1 k)) (i 1)

/-- The gradient of the gain. -/
def gainGradient (x y : Mat 2048 2048) (d : Fin 2048 → Row) : Mat 1 2048 :=
  fun i => ∑ r, d r (i 1) * unit (residual x y r) (i 1)

/-- The gradient of the bias. -/
def biasGradient (d : Fin 2048 → Row) : Mat 1 2048 := fun i => ∑ r, d r (i 1)

/-- A sum over the rows is the sum over the eight blocks of 256. -/
theorem sum_rows (f : Fin 2048 → EReal) :
    ∑ r, f r = ∑ t : Fin 8, ∑ i : Fin 256, f ⟨t.val * 256 + i.val, by omega⟩ := by
  rw [← Fintype.sum_prod_type' fun (t : Fin 8) (i : Fin 256) => f ⟨t.val * 256 + i.val, by omega⟩]
  refine Fintype.sum_equiv (finProdFinEquiv (m := 8) (n := 256)).symm _ _ fun r => congrArg f (Fin.ext ?_)
  exact (Nat.div_add_mod' r.val 256).symm

/-- Numbers in, numbers out: the rows that are normalised. -/
theorem residual_real (x y : Mat 2048 2048) (hx : ∀ i, ∃ r : ℝ, x i = r) (hy : ∀ i, ∃ r : ℝ, y i = r) (i k : Fin 2048) :
    ∃ r : ℝ, residual x y i k = r := by
  obtain ⟨e, he⟩ := factor_f32
  obtain ⟨a, ha⟩ := hx (ix2 i k)
  obtain ⟨b, hb⟩ := hy (ix2 i k)
  exact ⟨e * a + b, by rw [residual, he, ha, hb, EReal.coe_add, EReal.coe_mul]⟩

/-- Numbers in, numbers out: the normalised row. -/
theorem unit_real (z : Row) (hz : ∀ k, ∃ r : ℝ, z k = r) (k : Fin 2048) : ∃ r : ℝ, unit z k = r := by
  choose x hx using hz
  obtain rfl : z = fun k => (x k : EReal) := funext hx
  obtain ⟨e, he, hE⟩ := under_f32
  have hc : centred (fun k => (x k : EReal)) = fun k => ((x k - (∑ j, x j) / 2048 : ℝ) : EReal) := by
    funext k; rw [centred, mean_coe, ← EReal.coe_sub]
  have hv : 0 < (∑ k, (x k - (∑ j, x j) / 2048) * (x k - (∑ j, x j) / 2048)) / 2048 + e := by
    have : 0 ≤ ∑ k, (x k - (∑ j, x j) / 2048) * (x k - (∑ j, x j) / 2048) :=
      Finset.sum_nonneg fun k _ => mul_self_nonneg _
    positivity
  rw [unit, scale, hc]
  simp only [← EReal.coe_mul, mean_coe, hE, ← EReal.coe_add]
  rw [Ideal.rsqrt_coe, if_neg (not_lt.2 hv.le), if_neg hv.ne']
  exact ⟨_, (EReal.coe_mul _ _).symm⟩

/-- Numbers in, numbers out: a product. -/
theorem mul_real {a b : EReal} (ha : ∃ r : ℝ, a = r) (hb : ∃ r : ℝ, b = r) : ∃ r : ℝ, a * b = r := by
  obtain ⟨p, rfl⟩ := ha
  obtain ⟨q, rfl⟩ := hb
  exact ⟨p * q, (EReal.coe_mul p q).symm⟩

end Cert.Norm

end
-- ==== Proof.LnBwdClaim.lean ====
/-
  `ln_bwd`: the gradient of the normalisation that follows the mixer, from the two gradients of its result (of the residual
  branch and of the ConvFFN). A grid point takes 256 rows; the gradients of the gain and of the bias are added up over the
  points. The values agree wherever the operands hold no infinity.
-/
module

public import proofs.«01_k».proof.Defs
public import proofs.«01_k».proof.Proof.NormGradient
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.LnBwdIdeal.Value
public import proofs.«01_k».proof.Proof.Gen.LnBwdRefIdeal
public import proofs.«01_k».proof.Proof.Gen.LnBwdRefIdeal.Run
public import proofs.«01_k».proof.Proof.Gen.LnBwdRefIdeal.Read
public import proofs.«01_k».proof.Proof.Gen.Pre_finite_ln
public import Idealize.ShloMosaic.Lib.Pipeline.ValueKit

@[expose] public section

set_option maxRecDepth 16384

noncomputable section

open Idealize.ShloMosaic Idealize.ShloMosaic.TcCoe Idealize.SL.Sem Cert.Products Cert.Norm

namespace Cert.LnBwdRefIdeal.Result

open Cert.LnBwdRefIdeal Cert.LnBwdRefIdeal.Read

variable (x y : Mat 2048 2048) (g : (⟨1, ![2048]⟩ : Shape).Idx → EReal) (dr dp : Mat 2048 2048)

/-- The row before the normalisation, and the cotangent's row. -/
theorem residual_eq (i k : Fin 2048) : val_main_v3 (F := Ideal) x y (ix2 i k) = residual x y i k := by
  pointwise [val_main_v3, val_main_v2, val_main_v1, val_main_cst_0]
  rfl

theorem cotangent_eq (i k : Fin 2048) : val_main_v35 (F := Ideal) dr dp (ix2 i k) = residual dr dp i k := by
  pointwise [val_main_v35, val_main_v34, val_main_v33, val_main_cst_8]
  rfl

/-- The row with its mean taken off, at both places it is computed. -/
theorem centred_eq (i k : Fin 2048) : val_main_v9 (F := Ideal) x y (ix2 i k) = centred (residual x y i) k := by
  pointwise [val_main_v9, val_main_v8, val_main_v7, val_main_v6, val_main_v5, val_main_v4, val_main_cst_1, val_main_cst_2]
  simp only [residual_eq]
  rfl

theorem centred_again (i k : Fin 2048) : val_main_v18 (F := Ideal) x y (ix2 i k) = centred (residual x y i) k := by
  pointwise [val_main_v18, val_main_v17, val_main_v7, val_main_v6, val_main_v5, val_main_v4, val_main_cst_1, val_main_cst_2]
  simp only [residual_eq]
  rfl

/-- The number under the root, and one over the root. -/
theorem under_eq (i : Fin 2048) (z : Fin 1) : val_main_v20 (F := Ideal) x y (ix2 i z) =
    mean (fun k => centred (residual x y i) k * centred (residual x y i) k) + Ideal.ofBits .f32 0x3727C5AC#32 := by
  pointwise [val_main_v20, val_main_v19, val_main_v16, val_main_v15, val_main_v14, val_main_v13, val_main_v10,
    val_main_cst_4, val_main_cst_5, val_main_cst_6]
  simp only [centred_eq]
  rfl

theorem scale_eq (i : Fin 2048) (z : Fin 1) : val_main_v21 (F := Ideal) x y (ix2 i z) = scale (residual x y i) := by
  pointwise [val_main_v21]
  rw [under_eq]
  rfl

theorem unit_eq (i k : Fin 2048) : val_main_v26 (F := Ideal) x y (ix2 i k) = unit (residual x y i) k := by
  pointwise [val_main_v26, val_main_v25]
  rw [centred_again, scale_eq]
  rfl

/-- The cotangent's row times the gain. -/
abbrev gained (i : Fin 2048) : Row := fun k => residual dr dp i k * g (ix1 k)

theorem gained_eq (i k : Fin 2048) : val_main_v43 (F := Ideal) g dr dp (ix2 i k) = gained g dr dp i k := by
  pointwise [val_main_v43, val_main_v42, val_main_v27]
  rw [cotangent_eq]

theorem direct_eq (i k : Fin 2048) : val_main_v49 (F := Ideal) x y g dr dp (ix2 i k) =
    direct (residual x y i) (gained g dr dp i) k := by
  pointwise [val_main_v49, val_main_v48]
  rw [gained_eq, scale_eq]
  rfl

theorem spread_eq (i k : Fin 2048) : val_main_v58 (F := Ideal) x y g dr dp (ix2 i k) =
    spread (residual x y i) (gained g dr dp i) k := by
  pointwise [val_main_v58, val_main_v57, val_main_v56, val_main_v55, val_main_v54, val_main_v50, val_main_v47, val_main_v46,
    val_main_v45, val_main_v24, val_main_v23, val_main_v22, val_main_v12, val_main_v11,
    val_main_cst_3, val_main_cst_7, val_main_cst_13, val_main_cst_15, val_main_cst_16]
  simp only [gained_eq, centred_again, centred_eq, scale_eq, under_eq, Fin.sum_univ_one]
  rfl

/-- The gradient of the stream. -/
theorem stream_eq : val_main_v68 (F := Ideal) x y g dr dp = fun i => stepwise (residual x y (i 0)) (gained g dr dp (i 0)) (i 1) := by
  funext i
  idx_vars i
  pointwise [val_main_v68, val_main_v67, val_main_v66, val_main_v65, val_main_v64, val_main_v63, val_main_v62, val_main_v61,
    val_main_v60, val_main_v59, val_main_v53, val_main_v52, val_main_v51,
    val_main_cst_14, val_main_cst_17, val_main_cst_18, val_main_cst_19]
  simp only [direct_eq, spread_eq, Fin.sum_univ_one]
  rfl

/-- The gradients of the gain and of the bias. -/
theorem gain_eq : val_main_v70 (F := Ideal) x y dr dp = gainGradient x y (residual dr dp) := by
  funext i
  idx_vars i
  pointwise [val_main_v70, val_main_v44, val_main_v41, val_main_v40, val_main_v39, val_main_cst_11, val_main_cst_12]
  simp only [unit_eq, cotangent_eq, Fin.sum_univ_one]
  exact Finset.sum_congr rfl fun r _ => mul_comm (_ : EReal) _

theorem bias_eq : val_main_v71 (F := Ideal) dr dp = biasGradient (residual dr dp) := by
  funext i
  idx_vars i
  pointwise [val_main_v71, val_main_v38, val_main_v37, val_main_v36, val_main_cst_9, val_main_cst_10]
  simp only [cotangent_eq, Fin.sum_univ_one]
  rfl

end Cert.LnBwdRefIdeal.Result

namespace Cert.LnBwdIdeal.Result

open Cert.LnBwdIdeal Cert.LnBwdIdeal.Gen

variable (m : (ℓ : Loc nD τ sig) → Buf (Elt Ideal) ℓ) (c : Dev nD)

/-- Grid point `t` holds rows `256 t` to `256 t + 255`, and the whole gain; the two sums stay in place. -/
theorem index_eq : ∀ t : Fin cfg0.N, win0_0.index t = ![t.val, 0] ∧ win0_1.index t = ![t.val, 0]
    ∧ win0_2.index t = ![0, 0] ∧ win0_3.index t = ![t.val, 0] ∧ win0_4.index t = ![t.val, 0]
    ∧ win0_5.index t = ![t.val, 0] ∧ win0_6.index t = ![t.val, 0]
    ∧ win0_7.index t = ![0, 0] ∧ win0_8.index t = ![0, 0] := by decide +kernel

theorem point (t : Fin cfg0.N) : t.val < 8 := lt_of_lt_of_eq t.isLt N_0

/-- The arguments. -/
abbrev x : Mat 2048 2048 := m ((c : Thread nD τ).loc main_arg0)
abbrev y : Mat 2048 2048 := m ((c : Thread nD τ).loc main_arg1)
abbrev g : (⟨1, ![2048]⟩ : Shape).Idx → EReal := m ((c : Thread nD τ).loc main_arg2)
abbrev dr : Mat 2048 2048 := m ((c : Thread nD τ).loc main_arg3)
abbrev dp : Mat 2048 2048 := m ((c : Thread nD τ).loc main_arg4)

/-- The row of the stream that row `i` of grid point `t` is. -/
abbrev row (t : Fin cfg0.N) (i : Fin 256) : Fin 2048 := ⟨t.val * 256 + i.val, by have := point t; omega⟩

theorem x_block (t : Fin cfg0.N) (i : Fin 256) (k : Fin 2048) :
    (iblk m c 0 t (ix2 i k) : EReal) = x m c (ix2 (row t i) k) := by
  blk_ext! [iblk, V, (index_eq t).1]

theorem y_block (t : Fin cfg0.N) (i : Fin 256) (k : Fin 2048) :
    (iblk m c 1 t (ix2 i k) : EReal) = y m c (ix2 (row t i) k) := by
  blk_ext! [iblk, V, (index_eq t).2.1]

theorem g_block (t : Fin cfg0.N) (z : Fin 1) (k : Fin 2048) : (iblk m c 2 t (ix2 z k) : EReal) = g m c (ix1 k) := by
  blk_simp [iblk]
  entry_read
  pointwise
  blk_ext [(index_eq t).2.2.1] <;> rfl

theorem dr_block (t : Fin cfg0.N) (i : Fin 256) (k : Fin 2048) :
    (iblk m c 3 t (ix2 i k) : EReal) = dr m c (ix2 (row t i) k) := by
  blk_ext! [iblk, V, (index_eq t).2.2.2.1]

theorem dp_block (t : Fin cfg0.N) (i : Fin 256) (k : Fin 2048) :
    (iblk m c 4 t (ix2 i k) : EReal) = dp m c (ix2 (row t i) k) := by
  blk_ext! [iblk, V, (index_eq t).2.2.2.2.1]

/-- The cotangent's block, the row with its mean taken off, one over the deviation, and the normalised row. -/
theorem cotangent_eq (t : Fin cfg0.N) (i : Fin 256) (k : Fin 2048) :
    k0_pay7 (F := Ideal) (iblk m c 3 t) (iblk m c 4 t) (ix2 i k) = residual (dr m c) (dp m c) (row t i) k := by
  pointwise [k0_pay7]
  rw [dr_block, dp_block]
  rfl

theorem centred_eq (t : Fin cfg0.N) (i : Fin 256) (k : Fin 2048) :
    k0_pay8 (F := Ideal) (iblk m c 0 t) (iblk m c 1 t) (ix2 i k) = centred (residual (x m c) (y m c) (row t i)) k := by
  pointwise [k0_pay8]
  simp only [x_block, y_block]
  rfl

theorem scale_eq (t : Fin cfg0.N) (i : Fin 256) (z : Fin 1) :
    k0_pay9 (F := Ideal) (iblk m c 0 t) (iblk m c 1 t) (ix2 i z) = scale (residual (x m c) (y m c) (row t i)) := by
  pointwise [k0_pay9]
  simp only [centred_eq]
  rfl

theorem unit_eq (t : Fin cfg0.N) (i : Fin 256) (k : Fin 2048) :
    k0_pay10 (F := Ideal) (iblk m c 0 t) (iblk m c 1 t) (ix2 i k) = unit (residual (x m c) (y m c) (row t i)) k := by
  pointwise [k0_pay10]
  rw [centred_eq, scale_eq]
  rfl

/-- The cotangent's row times the gain. -/
abbrev gained (i : Fin 2048) : Row := fun k => residual (dr m c) (dp m c) i k * g m c (ix1 k)

theorem gained_eq (t : Fin cfg0.N) (i : Fin 256) (k : Fin 2048) :
    k0_pay11 (F := Ideal) (iblk m c 3 t) (iblk m c 4 t) (iblk m c 2 t) (ix2 i k) = gained m c (row t i) k := by
  pointwise [k0_pay11]
  rw [cotangent_eq, g_block]

/-- The block of the stream's gradient. -/
theorem stream_block (t : Fin cfg0.N) (i : Fin 256) (k : Fin 2048) :
    k0_pay1 (F := Ideal) (k0_pay9 (iblk m c 0 t) (iblk m c 1 t)) (k0_pay10 (iblk m c 0 t) (iblk m c 1 t))
        (k0_pay12 (iblk m c 3 t) (iblk m c 4 t) (iblk m c 2 t))
        (k0_pay13 (iblk m c 3 t) (iblk m c 4 t) (iblk m c 0 t) (iblk m c 1 t) (iblk m c 2 t)) (ix2 i k)
      = streamGradient (x m c) (y m c) (g m c) (residual (dr m c) (dp m c)) (ix2 (row t i) k) := by
  pointwise [k0_pay1, k0_pay12, k0_pay13]
  simp only [unit_eq, scale_eq, gained_eq]
  rfl

theorem stream_final : (dats m 0 c).arrAt 5 cfg0.N =
    streamGradient (x m c) (y m c) (g m c) (residual (dr m c) (dp m c)) := by
  refine (dats m 0 c).arrAt_eq_of_covers 5 _ (by decide +kernel) fun t hf y => ?_
  blk_simp
  rw [after0_5]
  idx_vars y
  rw [show ((View.whole main_v1_0).slice (win0_5.rect t)).emb (ix2 y0 y1) = ix2 (row t y0) y1 by
    funext a; apply Fin.ext; fin_cases a <;> blk_simp [(index_eq t).2.2.2.2.2.1] <;> rfl]
  by_cases h : t.val % 8 = 0
  · rw [outsAt0_A m c t h (by have := point t; omega)]
    frame_out
    exact stream_block m c t y0 y1
  · rw [outsAt0_B m c t h (by omega)]
    frame_out
    exact stream_block m c t y0 y1

theorem copy_final : (dats m 0 c).arrAt 6 cfg0.N =
    streamGradient (x m c) (y m c) (g m c) (residual (dr m c) (dp m c)) := by
  refine (dats m 0 c).arrAt_eq_of_covers 6 _ (by decide +kernel) fun t hf y => ?_
  blk_simp
  rw [after0_6]
  idx_vars y
  rw [show ((View.whole main_v1_1).slice (win0_6.rect t)).emb (ix2 y0 y1) = ix2 (row t y0) y1 by
    funext a; apply Fin.ext; fin_cases a <;> blk_simp [(index_eq t).2.2.2.2.2.2.1] <;> rfl]
  by_cases h : t.val % 8 = 0
  · rw [outsAt0_A m c t h (by have := point t; omega)]
    frame_out
    exact stream_block m c t y0 y1
  · rw [outsAt0_B m c t h (by omega)]
    frame_out
    exact stream_block m c t y0 y1

/-- What a grid point adds to the gradients of the gain and of the bias. -/
def gainShare (t : Fin cfg0.N) : (⟨2, ![1, 2048]⟩ : Shape).Idx → EReal := fun q =>
  ∑ i : Fin 256, residual (dr m c) (dp m c) (row t i) (q 1) * unit (residual (x m c) (y m c) (row t i)) (q 1)

def biasShare (t : Fin cfg0.N) : (⟨2, ![1, 2048]⟩ : Shape).Idx → EReal := fun q =>
  ∑ i : Fin 256, residual (dr m c) (dp m c) (row t i) (q 1)

theorem gainShare_eq (t : Fin cfg0.N) (q : (⟨2, ![1, 2048]⟩ : Shape).Idx) :
    (k0_pay3 (F := Ideal) (k0_pay7 (iblk m c 3 t) (iblk m c 4 t)) (k0_pay10 (iblk m c 0 t) (iblk m c 1 t)) q : EReal)
      = gainShare m c t q := by
  idx_vars q
  pointwise [k0_pay3]
  simp only [unit_eq, cotangent_eq]
  rfl

theorem biasShare_eq (t : Fin cfg0.N) (q : (⟨2, ![1, 2048]⟩ : Shape).Idx) :
    (k0_pay4 (F := Ideal) (k0_pay7 (iblk m c 3 t) (iblk m c 4 t)) q : EReal) = biasShare m c t q := by
  idx_vars q
  pointwise [k0_pay4]
  simp only [cotangent_eq]
  rfl

theorem gain_first (t : Fin cfg0.N) (h : t.val % 8 = 0) (q : (⟨2, ![1, 2048]⟩ : Shape).Idx) :
    ((outsAt0 m c t.val t.isLt).2.2.1 q : EReal) = 0 + gainShare m c t q := by
  rw [outsAt0_A m c t h (by have := point t; omega)]
  frame_out
  rw [zero_add]
  exact gainShare_eq m c t q

theorem gain_later (t : Fin cfg0.N) (h : ¬t.val % 8 = 0) (q : (⟨2, ![1, 2048]⟩ : Shape).Idx) :
    ((outsAt0 m c t.val t.isLt).2.2.1 q : EReal) =
      (outsAt0 m c (t.val - 1) (Nat.lt_of_le_of_lt (Nat.sub_le _ _) t.isLt)).2.2.1 q + gainShare m c t q := by
  rw [outsAt0_B m c t h (by omega)]
  frame_out
  rw [← gainShare_eq]
  pointwise [k0_pay5]

theorem bias_first (t : Fin cfg0.N) (h : t.val % 8 = 0) (q : (⟨2, ![1, 2048]⟩ : Shape).Idx) :
    ((outsAt0 m c t.val t.isLt).2.2.2 q : EReal) = 0 + biasShare m c t q := by
  rw [outsAt0_A m c t h (by have := point t; omega)]
  frame_out
  rw [zero_add]
  exact biasShare_eq m c t q

theorem bias_later (t : Fin cfg0.N) (h : ¬t.val % 8 = 0) (q : (⟨2, ![1, 2048]⟩ : Shape).Idx) :
    ((outsAt0 m c t.val t.isLt).2.2.2 q : EReal) =
      (outsAt0 m c (t.val - 1) (Nat.lt_of_le_of_lt (Nat.sub_le _ _) t.isLt)).2.2.2 q + biasShare m c t q := by
  rw [outsAt0_B m c t h (by omega)]
  frame_out
  rw [← biasShare_eq]
  pointwise [k0_pay6]

/-- The eight points' shares make up the whole sum. -/
theorem gain_sum (t : Fin cfg0.N) (h : t.val % 8 = 7) (z : Fin 1) (k : Fin 2048) :
    gainGradient (x m c) (y m c) (residual (dr m c) (dp m c)) (ix2 z k)
      = ∑ s : Fin 8, gainShare m c ⟨8 * (t.val / 8) + s.val, Pipeline.run_point_lt_of_flush t h s⟩ (ix2 z k) := by
  refine (sum_rows _).trans (Finset.sum_congr rfl fun s _ => Finset.sum_congr rfl fun i _ => ?_)
  have e : row ⟨8 * (t.val / 8) + s.val, Pipeline.run_point_lt_of_flush t h s⟩ i = ⟨s.val * 256 + i.val, by omega⟩ :=
    Fin.ext (by have := point t; dsimp only; omega)
  rw [e]

theorem bias_sum (t : Fin cfg0.N) (h : t.val % 8 = 7) (z : Fin 1) (k : Fin 2048) :
    biasGradient (residual (dr m c) (dp m c)) (ix2 z k)
      = ∑ s : Fin 8, biasShare m c ⟨8 * (t.val / 8) + s.val, Pipeline.run_point_lt_of_flush t h s⟩ (ix2 z k) := by
  refine (sum_rows _).trans (Finset.sum_congr rfl fun s _ => Finset.sum_congr rfl fun i _ => ?_)
  have e : row ⟨8 * (t.val / 8) + s.val, Pipeline.run_point_lt_of_flush t h s⟩ i = ⟨s.val * 256 + i.val, by omega⟩ :=
    Fin.ext (by have := point t; dsimp only; omega)
  rw [e]

theorem gain_final : (dats m 0 c).arrAt 7 cfg0.N = gainGradient (x m c) (y m c) (residual (dr m c) (dp m c)) := by
  refine (dats m 0 c).arrAt_eq_of_covers 7 _ (by decide +kernel) fun t hf q => ?_
  have h7 : t.val % 8 = 7 := (flush0_7 t).mp hf
  blk_simp
  rw [after0_7]
  refine (Pipeline.eq_sum_fin_of_reset_step_apply_of_flush (fun n h => (outsAt0 m c n h).2.2.1) 8 (fun _ => (0 : EReal))
    (gainShare m c) (gain_first m c) (gain_later m c) t h7 q).trans ?_
  idx_vars q
  rw [show ((View.whole main_v1_2).slice (win0_7.rect t)).emb (ix2 q0 q1) = ix2 q0 q1 by
    funext a; apply Fin.ext; fin_cases a <;> blk_simp [(index_eq t).2.2.2.2.2.2.2.1] <;> rfl]
  rw [zero_add]
  exact (gain_sum m c t h7 q0 q1).symm

theorem bias_final : (dats m 0 c).arrAt 8 cfg0.N = biasGradient (residual (dr m c) (dp m c)) := by
  refine (dats m 0 c).arrAt_eq_of_covers 8 _ (by decide +kernel) fun t hf q => ?_
  have h7 : t.val % 8 = 7 := (flush0_8 t).mp hf
  blk_simp
  rw [after0_8]
  refine (Pipeline.eq_sum_fin_of_reset_step_apply_of_flush (fun n h => (outsAt0 m c n h).2.2.2) 8 (fun _ => (0 : EReal))
    (biasShare m c) (bias_first m c) (bias_later m c) t h7 q).trans ?_
  idx_vars q
  rw [show ((View.whole main_v1_3).slice (win0_8.rect t)).emb (ix2 q0 q1) = ix2 q0 q1 by
    funext a; apply Fin.ext; fin_cases a <;> blk_simp [(index_eq t).2.2.2.2.2.2.2.2] <;> rfl]
  rw [zero_add]
  exact (bias_sum m c t h7 q0 q1).symm

end Cert.LnBwdIdeal.Result

namespace Cert.Proof.LnBwd

open Cert.Finite

theorem frame_kernel : Cert.quiescent_LnBwd := fun m ρ _ => Cert.LnBwd.Gen.frame m ρ

theorem frame_ideal : Cert.quiescent_LnBwdIdeal := fun m ρ _ => Cert.LnBwdIdeal.Gen.frame m ρ

theorem frame_ideal_pre : Cert.quiescent_LnBwdIdeal_pre_finite_ln := fun m ρ _ => Cert.LnBwdIdeal.Gen.frame m ρ

theorem frame_reference : Cert.quiescent_LnBwdRefIdeal := fun m ρ _ =>
  (θ_run Cert.LnBwdRefIdeal.defs _ _).mono
    (fun r h => ⟨fun c => (h c).2.2.2.2, sem_eq_zero_of_no_sems (by decide) r.2⟩) (Cert.LnBwdRefIdeal.Value.run m ρ)

theorem frame_reference_pre : Cert.quiescent_LnBwdRefIdeal_pre_finite_ln := fun m ρ _ => frame_reference m ρ trivial

open Cert.LnBwdIdeal Cert.LnBwdIdeal.Result in
/-- The precondition makes every operand a number. -/
theorem numbers (m : (ℓ : Loc nD τ sig) → Buf (Elt Ideal) ℓ) (h : Cert.Pre_LnBwdIdeal_finite_ln m) (c : Dev nD) :
    (∀ i, ∃ r : ℝ, x m c i = r) ∧ (∀ i, ∃ r : ℝ, y m c i = r) ∧ (∀ i, ∃ r : ℝ, g m c i = r)
      ∧ (∀ i, ∃ r : ℝ, dr m c i = r) ∧ ∀ i, ∃ r : ℝ, dp m c i = r := by
  have h := congrFun (h c) (fun k => nomatch k)
  dsimp only [Cert.Pre_finite_ln.fn] at h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨fun i => real_of_compares _ (Host.reduce_andi_all _ _ _ _ _ h0 i),
    fun i => real_of_compares _ (Host.reduce_andi_all _ _ _ _ _ h1 i),
    fun i => real_of_compares _ (Host.reduce_andi_all _ _ _ _ _ h2 i),
    fun i => real_of_compares _ (Host.reduce_andi_all _ _ _ _ _ h3 i),
    fun i => real_of_compares _ (Host.reduce_andi_all _ _ _ _ _ h4 i)⟩

open Cert.LnBwdIdeal Cert.LnBwdIdeal.Result in
/-- The reference's gradient of the stream is the kernel's. -/
theorem stream_agree (m : (ℓ : Loc nD τ sig) → Buf (Elt Ideal) ℓ) (h : Cert.Pre_LnBwdIdeal_finite_ln m) (c : Dev nD) :
    Cert.LnBwdRefIdeal.Read.val_main_v68 (F := Ideal) (x m c) (y m c) (g m c) (dr m c) (dp m c)
      = streamGradient (x m c) (y m c) (g m c) (residual (dr m c) (dp m c)) := by
  obtain ⟨hx, hy, hg, hr, hp⟩ := numbers m h c
  rw [Cert.LnBwdRefIdeal.Result.stream_eq]
  funext i
  exact congrFun (stepwise_eq _ _ (residual_real _ _ hx hy _) fun k => mul_real (residual_real _ _ hr hp _ k) (hg _)) _

theorem algebraic : Cert.algebraic_LnBwdIdeal_LnBwdRefIdeal_pre_finite_ln := by
  intro m g m' g' hp hargs
  refine ⟨_, _, _, _, Cert.LnBwdIdeal.Value.run_blocks m g, ?_⟩
  refine (θ_run Cert.LnBwdRefIdeal.defs _ _).mono (fun r h c => ?_) (Cert.LnBwdRefIdeal.Value.run m' g')
  obtain ⟨h0, h1, h2, h3, hr⟩ := h c
  obtain ⟨a0, a1, a2, a3, a4, a5⟩ := hargs c
  refine ⟨h0.trans ?_, h1.trans ?_, h2.trans ?_, h3.trans ?_, hr⟩
  · rw [Cert.LnBwdIdeal.Result.stream_final, Cert.LnBwdRefIdeal.Read.val_main_v68_eq, a0, a1, a2, a3, a4]
    exact stream_agree m hp c
  · rw [Cert.LnBwdIdeal.Result.copy_final, Cert.LnBwdRefIdeal.Read.val_main_v69_eq, a0, a1, a2, a3, a4]
    exact stream_agree m hp c
  · rw [Cert.LnBwdIdeal.Result.gain_final, Cert.LnBwdRefIdeal.Read.val_main_v70_eq, a0, a1, a3, a4]
    exact Cert.LnBwdRefIdeal.Result.gain_eq _ _ _ _
  · rw [Cert.LnBwdIdeal.Result.bias_final, Cert.LnBwdRefIdeal.Read.val_main_v71_eq, a3, a4]
    exact Cert.LnBwdRefIdeal.Result.bias_eq _ _

end Cert.Proof.LnBwd

end
-- ==== Proof.LossBwdClaim.lean ====
/-
  `ln_loss_bwd`: the loss, and the gradient of the last normalisation. The normalised row minus its target is the error; the
  loss is half the sum over the rows of the mean squared error. A grid point takes 256 rows; the gradients of the gain and of
  the bias and the loss are added up over the points. The values agree wherever the operands hold no infinity.
-/
module

public import proofs.«01_k».proof.Defs
public import proofs.«01_k».proof.Proof.NormGradient
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossBwdIdeal.Value
public import proofs.«01_k».proof.Proof.Gen.LossBwdRefIdeal
public import proofs.«01_k».proof.Proof.Gen.LossBwdRefIdeal.Run
public import proofs.«01_k».proof.Proof.Gen.LossBwdRefIdeal.Read
public import proofs.«01_k».proof.Proof.Gen.Pre_finite_loss
public import Idealize.ShloMosaic.Lib.Pipeline.ValueKit

@[expose] public section

set_option maxRecDepth 16384

noncomputable section

open Idealize.ShloMosaic Idealize.ShloMosaic.TcCoe Idealize.SL.Sem Cert.Products Cert.Norm

namespace Cert.Loss

open Cert.Finite

/-- The error of a row: normalised, times the gain plus the bias, minus the target. -/
def error (x y : Mat 2048 2048) (g b : (⟨1, ![2048]⟩ : Shape).Idx → EReal) (target : Mat 2048 2048) (i : Fin 2048) : Row :=
  fun k => unit (residual x y i) k * g (ix1 k) + b (ix1 k) - target (ix2 i k)

/-- The gradient of the loss with respect to the normalised stream: a 2048th of the error. -/
def cotangent (e : Fin 2048 → Row) (i : Fin 2048) : Row := fun k => e i k * Ideal.ofBits .f32 0x3A000000#32

/-- A row's squared error. -/
def square (e : Fin 2048 → Row) (i : Fin 2048) : EReal := ∑ k, e i k * e i k

theorem half_f32 : Ideal.ofBits .f32 0x3F000000#32 = ((1 / 2 : ℝ) : EReal) := by
  simp [Ideal.ofBits, Ideal.ieee, -EReal.coe_mul]; norm_num

theorem share_f32 : Ideal.ofBits .f32 0x3A000000#32 = ((1 / 2048 : ℝ) : EReal) := by
  simp [Ideal.ofBits, Ideal.ieee, -EReal.coe_mul]; norm_num

theorem half_share_f32 : Ideal.ofBits .f32 0x39800000#32 = ((1 / 4096 : ℝ) : EReal) := by
  simp [Ideal.ofBits, Ideal.ieee, -EReal.coe_mul]; norm_num

/-- The error of numbers is a number. -/
theorem error_real (x y : Mat 2048 2048) (g b : (⟨1, ![2048]⟩ : Shape).Idx → EReal) (target : Mat 2048 2048)
    (hx : ∀ i, ∃ r : ℝ, x i = r) (hy : ∀ i, ∃ r : ℝ, y i = r) (hg : ∀ i, ∃ r : ℝ, g i = r) (hb : ∀ i, ∃ r : ℝ, b i = r)
    (ht : ∀ i, ∃ r : ℝ, target i = r) (i k : Fin 2048) : ∃ r : ℝ, error x y g b target i k = r := by
  obtain ⟨u, hu⟩ := unit_real (residual x y i) (residual_real x y hx hy i) k
  obtain ⟨p, hp⟩ := hg (ix1 k)
  obtain ⟨q, hq⟩ := hb (ix1 k)
  obtain ⟨t, ht⟩ := ht (ix2 i k)
  exact ⟨u * p + q - t, by rw [error, hu, hp, hq, ht, EReal.coe_sub, EReal.coe_add, EReal.coe_mul]⟩

/-- Half the sum of the rows' means is the sum of the blocks' shares. -/
theorem loss_eq (e : Fin 2048 → Row) (he : ∀ i k, ∃ r : ℝ, e i k = r) :
    Ideal.ofBits .f32 0x3F000000#32 * ∑ r, Ideal.div (square e r) (Ideal.ofBits .f32 0x45000000#32)
      = ∑ t : Fin 8, Ideal.ofBits .f32 0x39800000#32 * ∑ i : Fin 256, square e ⟨t.val * 256 + i.val, by omega⟩ := by
  choose f hf using he
  have hs : ∀ r, square e r = ((∑ k, f r k * f r k : ℝ) : EReal) := fun r => by
    rw [square, ← sum_coe]
    exact Finset.sum_congr rfl fun k _ => by rw [hf, EReal.coe_mul]
  rw [sum_rows]
  simp only [hs, width_f32, half_f32, half_share_f32]
  have hd : ∀ r, Ideal.div ((∑ k, f r k * f r k : ℝ) : EReal) ((2048 : ℝ) : EReal) = ((∑ k, f r k * f r k) / 2048 : ℝ) :=
    fun r => div_coe_coe _ (by norm_num)
  simp only [hd, sum_coe, ← EReal.coe_mul]
  congr 1
  rw [Finset.mul_sum]
  refine Finset.sum_congr rfl fun t _ => ?_
  rw [← Finset.sum_div]
  ring

end Cert.Loss

open Cert.Loss Cert.Finite

namespace Cert.LossBwdRefIdeal.Result

open Cert.LossBwdRefIdeal Cert.LossBwdRefIdeal.Read

variable (x y : Mat 2048 2048) (g b : (⟨1, ![2048]⟩ : Shape).Idx → EReal) (target : Mat 2048 2048)

/-- The row before the normalisation. -/
theorem residual_eq (i k : Fin 2048) : val_main_v2 (F := Ideal) x y (ix2 i k) = residual x y i k := by
  pointwise [val_main_v2, val_main_v1, val_main_v0, val_main_cst]
  rfl

/-- The row with its mean taken off, at both places it is computed. -/
theorem centred_eq (i k : Fin 2048) : val_main_v8 (F := Ideal) x y (ix2 i k) = centred (residual x y i) k := by
  pointwise [val_main_v8, val_main_v7, val_main_v6, val_main_v5, val_main_v4, val_main_v3, val_main_cst_0, val_main_cst_1]
  simp only [residual_eq]
  rfl

theorem centred_again (i k : Fin 2048) : val_main_v17 (F := Ideal) x y (ix2 i k) = centred (residual x y i) k := by
  pointwise [val_main_v17, val_main_v16, val_main_v6, val_main_v5, val_main_v4, val_main_v3, val_main_cst_0, val_main_cst_1]
  simp only [residual_eq]
  rfl

/-- The number under the root, and one over the root. -/
theorem under_eq (i : Fin 2048) (z : Fin 1) : val_main_v19 (F := Ideal) x y (ix2 i z) =
    mean (fun k => centred (residual x y i) k * centred (residual x y i) k) + Ideal.ofBits .f32 0x3727C5AC#32 := by
  pointwise [val_main_v19, val_main_v18, val_main_v15, val_main_v14, val_main_v13, val_main_v12, val_main_v9,
    val_main_cst_3, val_main_cst_4, val_main_cst_5]
  simp only [centred_eq]
  rfl

theorem scale_eq (i : Fin 2048) (z : Fin 1) : val_main_v20 (F := Ideal) x y (ix2 i z) = scale (residual x y i) := by
  pointwise [val_main_v20]
  rw [under_eq]
  rfl

theorem unit_eq (i k : Fin 2048) : val_main_v25 (F := Ideal) x y (ix2 i k) = unit (residual x y i) k := by
  pointwise [val_main_v25, val_main_v24]
  rw [centred_again, scale_eq]
  rfl

theorem error_eq (i k : Fin 2048) : val_main_v32 (F := Ideal) x y g b target (ix2 i k) = error x y g b target i k := by
  pointwise [val_main_v32, val_main_v31, val_main_v30, val_main_v29, val_main_v28, val_main_v27, val_main_v26]
  rw [unit_eq]
  rfl

/-- The cotangent of the normalised stream. -/
theorem cotangent_eq (i k : Fin 2048) : val_main_v46 (F := Ideal) x y g b target (ix2 i k) =
    cotangent (error x y g b target) i k := by
  pointwise [val_main_v46, val_main_v45, val_main_v44, val_main_v43, val_main_v42, val_main_v41, val_main_v35, val_main_v34,
    val_main_cst_7, val_main_cst_12, val_main_cst_13, val_main_cst_14]
  rw [error_eq, cotangent, half_f32, width_f32, two_f32, share_f32]
  rw [div_coe_coe _ (by norm_num), ← mul_assoc, ← EReal.coe_mul, mul_comm]
  congr 2
  norm_num

/-- The cotangent's row times the gain. -/
abbrev gained (i : Fin 2048) : Row := fun k => cotangent (error x y g b target) i k * g (ix1 k)

theorem gained_eq (i k : Fin 2048) : val_main_v54 (F := Ideal) x y g b target (ix2 i k) = gained x y g b target i k := by
  pointwise [val_main_v54, val_main_v53, val_main_v26]
  rw [cotangent_eq]

theorem direct_eq (i k : Fin 2048) : val_main_v60 (F := Ideal) x y g b target (ix2 i k) =
    direct (residual x y i) (gained x y g b target i) k := by
  pointwise [val_main_v60, val_main_v59]
  rw [gained_eq, scale_eq]
  rfl

theorem spread_eq (i k : Fin 2048) : val_main_v69 (F := Ideal) x y g b target (ix2 i k) =
    spread (residual x y i) (gained x y g b target i) k := by
  pointwise [val_main_v69, val_main_v68, val_main_v67, val_main_v66, val_main_v65, val_main_v61, val_main_v58, val_main_v57,
    val_main_v56, val_main_v23, val_main_v22, val_main_v21, val_main_v11, val_main_v10,
    val_main_cst_2, val_main_cst_6, val_main_cst_19, val_main_cst_21, val_main_cst_22]
  simp only [gained_eq, centred_again, centred_eq, scale_eq, under_eq, Fin.sum_univ_one]
  rfl

/-- The gradient of the stream. -/
theorem stream_eq : val_main_v79 (F := Ideal) x y g b target =
    fun i => stepwise (residual x y (i 0)) (gained x y g b target (i 0)) (i 1) := by
  funext i
  idx_vars i
  pointwise [val_main_v79, val_main_v78, val_main_v77, val_main_v76, val_main_v75, val_main_v74, val_main_v73, val_main_v72,
    val_main_v71, val_main_v70, val_main_v64, val_main_v63, val_main_v62,
    val_main_cst_20, val_main_cst_23, val_main_cst_24, val_main_cst_25]
  simp only [direct_eq, spread_eq, Fin.sum_univ_one]
  rfl

/-- The gradients of the gain and of the bias, and the loss. -/
theorem gain_eq : val_main_v81 (F := Ideal) x y g b target = gainGradient x y (cotangent (error x y g b target)) := by
  funext i
  idx_vars i
  pointwise [val_main_v81, val_main_v55, val_main_v52, val_main_v51, val_main_v50, val_main_cst_17, val_main_cst_18]
  simp only [unit_eq, cotangent_eq, Fin.sum_univ_one]
  exact Finset.sum_congr rfl fun r _ => mul_comm (_ : EReal) _

theorem bias_eq : val_main_v82 (F := Ideal) x y g b target = biasGradient (cotangent (error x y g b target)) := by
  funext i
  idx_vars i
  pointwise [val_main_v82, val_main_v49, val_main_v48, val_main_v47, val_main_cst_15, val_main_cst_16]
  simp only [cotangent_eq, Fin.sum_univ_one]
  rfl

theorem loss_eq : val_main_v83 (F := Ideal) x y g b target = fun _ => Ideal.ofBits .f32 0x3F000000#32 *
    ∑ r, Ideal.div (square (error x y g b target) r) (Ideal.ofBits .f32 0x45000000#32) := by
  funext i
  idx_vars i
  pointwise [val_main_v83, val_main_v40, val_main_v39, val_main_v38, val_main_v37, val_main_v36, val_main_v33,
    val_main_cst_8, val_main_cst_9, val_main_cst_10, val_main_cst_11]
  simp only [error_eq]
  rfl

end Cert.LossBwdRefIdeal.Result

namespace Cert.LossBwdIdeal.Result

open Cert.LossBwdIdeal Cert.LossBwdIdeal.Gen

variable (m : (ℓ : Loc nD τ sig) → Buf (Elt Ideal) ℓ) (c : Dev nD)

/-- Grid point `t` holds rows `256 t` to `256 t + 255`, and the whole gain; the two sums stay in place. -/
theorem index_eq : ∀ t : Fin cfg0.N, win0_0.index t = ![t.val, 0] ∧ win0_1.index t = ![t.val, 0]
    ∧ win0_2.index t = ![0, 0] ∧ win0_3.index t = ![0, 0] ∧ win0_4.index t = ![t.val, 0]
    ∧ win0_5.index t = ![t.val, 0] ∧ win0_6.index t = ![t.val, 0]
    ∧ win0_7.index t = ![0, 0] ∧ win0_8.index t = ![0, 0] ∧ win0_9.index t = ![0, 0] := by decide +kernel

theorem point (t : Fin cfg0.N) : t.val < 8 := lt_of_lt_of_eq t.isLt N_0

/-- The arguments. -/
abbrev x : Mat 2048 2048 := m ((c : Thread nD τ).loc main_arg0)
abbrev y : Mat 2048 2048 := m ((c : Thread nD τ).loc main_arg1)
abbrev g : (⟨1, ![2048]⟩ : Shape).Idx → EReal := m ((c : Thread nD τ).loc main_arg2)
abbrev b : (⟨1, ![2048]⟩ : Shape).Idx → EReal := m ((c : Thread nD τ).loc main_arg3)
abbrev target : Mat 2048 2048 := m ((c : Thread nD τ).loc main_arg4)

/-- The row of the stream that row `i` of grid point `t` is. -/
abbrev row (t : Fin cfg0.N) (i : Fin 256) : Fin 2048 := ⟨t.val * 256 + i.val, by have := point t; omega⟩

theorem x_block (t : Fin cfg0.N) (i : Fin 256) (k : Fin 2048) :
    (iblk m c 0 t (ix2 i k) : EReal) = x m c (ix2 (row t i) k) := by
  blk_ext! [iblk, V, (index_eq t).1]

theorem y_block (t : Fin cfg0.N) (i : Fin 256) (k : Fin 2048) :
    (iblk m c 1 t (ix2 i k) : EReal) = y m c (ix2 (row t i) k) := by
  blk_ext! [iblk, V, (index_eq t).2.1]

theorem g_block (t : Fin cfg0.N) (z : Fin 1) (k : Fin 2048) : (iblk m c 2 t (ix2 z k) : EReal) = g m c (ix1 k) := by
  blk_simp [iblk]
  entry_read
  pointwise
  blk_ext [(index_eq t).2.2.1] <;> rfl

theorem b_block (t : Fin cfg0.N) (z : Fin 1) (k : Fin 2048) : (iblk m c 3 t (ix2 z k) : EReal) = b m c (ix1 k) := by
  blk_simp [iblk]
  entry_read
  pointwise
  blk_ext [(index_eq t).2.2.2.1] <;> rfl

theorem target_block (t : Fin cfg0.N) (i : Fin 256) (k : Fin 2048) :
    (iblk m c 4 t (ix2 i k) : EReal) = target m c (ix2 (row t i) k) := by
  blk_ext! [iblk, V, (index_eq t).2.2.2.2.1]

/-- The row with its mean taken off, one over the deviation, the normalised row, the error and the cotangent. -/
theorem centred_eq (t : Fin cfg0.N) (i : Fin 256) (k : Fin 2048) :
    k0_pay9 (F := Ideal) (iblk m c 0 t) (iblk m c 1 t) (ix2 i k) = centred (residual (x m c) (y m c) (row t i)) k := by
  pointwise [k0_pay9]
  simp only [x_block, y_block]
  rfl

theorem scale_eq (t : Fin cfg0.N) (i : Fin 256) (z : Fin 1) :
    k0_pay10 (F := Ideal) (iblk m c 0 t) (iblk m c 1 t) (ix2 i z) = scale (residual (x m c) (y m c) (row t i)) := by
  pointwise [k0_pay10]
  simp only [centred_eq]
  rfl

theorem unit_eq (t : Fin cfg0.N) (i : Fin 256) (k : Fin 2048) :
    k0_pay11 (F := Ideal) (iblk m c 0 t) (iblk m c 1 t) (ix2 i k) = unit (residual (x m c) (y m c) (row t i)) k := by
  pointwise [k0_pay11]
  rw [centred_eq, scale_eq]
  rfl

theorem error_eq (t : Fin cfg0.N) (i : Fin 256) (k : Fin 2048) :
    k0_pay12 (F := Ideal) (iblk m c 0 t) (iblk m c 1 t) (iblk m c 2 t) (iblk m c 3 t) (iblk m c 4 t) (ix2 i k)
      = error (x m c) (y m c) (g m c) (b m c) (target m c) (row t i) k := by
  pointwise [k0_pay12]
  rw [unit_eq, g_block, b_block, target_block]
  rfl

theorem cotangent_eq (t : Fin cfg0.N) (i : Fin 256) (k : Fin 2048) :
    k0_pay13 (F := Ideal) (iblk m c 0 t) (iblk m c 1 t) (iblk m c 2 t) (iblk m c 3 t) (iblk m c 4 t) (ix2 i k)
      = cotangent (error (x m c) (y m c) (g m c) (b m c) (target m c)) (row t i) k := by
  pointwise [k0_pay13]
  rw [error_eq]
  rfl

/-- The cotangent's row times the gain. -/
abbrev gained (i : Fin 2048) : Row :=
  fun k => cotangent (error (x m c) (y m c) (g m c) (b m c) (target m c)) i k * g m c (ix1 k)

theorem gained_eq (t : Fin cfg0.N) (i : Fin 256) (k : Fin 2048) :
    k0_pay14 (F := Ideal) (iblk m c 0 t) (iblk m c 1 t) (iblk m c 2 t) (iblk m c 3 t) (iblk m c 4 t) (iblk m c 2 t) (ix2 i k)
      = gained m c (row t i) k := by
  pointwise [k0_pay14]
  rw [cotangent_eq, g_block]

/-- The block of the stream's gradient. -/
theorem stream_block (t : Fin cfg0.N) (i : Fin 256) (k : Fin 2048) :
    k0_pay1 (F := Ideal) (k0_pay10 (iblk m c 0 t) (iblk m c 1 t)) (k0_pay11 (iblk m c 0 t) (iblk m c 1 t))
        (k0_pay14 (iblk m c 0 t) (iblk m c 1 t) (iblk m c 2 t) (iblk m c 3 t) (iblk m c 4 t) (iblk m c 2 t))
        (k0_pay15 (iblk m c 0 t) (iblk m c 1 t) (iblk m c 2 t) (iblk m c 3 t) (iblk m c 4 t) (iblk m c 2 t)) (ix2 i k)
      = streamGradient (x m c) (y m c) (g m c) (cotangent (error (x m c) (y m c) (g m c) (b m c) (target m c))) (ix2 (row t i) k) := by
  pointwise [k0_pay1, k0_pay15]
  simp only [unit_eq, scale_eq, gained_eq]
  rfl

theorem stream_final : (dats m 0 c).arrAt 5 cfg0.N =
    streamGradient (x m c) (y m c) (g m c) (cotangent (error (x m c) (y m c) (g m c) (b m c) (target m c))) := by
  refine (dats m 0 c).arrAt_eq_of_covers 5 _ (by decide +kernel) fun t hf y => ?_
  blk_simp
  rw [after0_5]
  idx_vars y
  rw [show ((View.whole main_v2_0).slice (win0_5.rect t)).emb (ix2 y0 y1) = ix2 (row t y0) y1 by
    funext a; apply Fin.ext; fin_cases a <;> blk_simp [(index_eq t).2.2.2.2.2.1] <;> rfl]
  by_cases h : t.val % 8 = 0
  · rw [outsAt0_A m c t h (by have := point t; omega)]
    frame_out
    exact stream_block m c t y0 y1
  · rw [outsAt0_B m c t h (by omega)]
    frame_out
    exact stream_block m c t y0 y1

theorem copy_final : (dats m 0 c).arrAt 6 cfg0.N =
    streamGradient (x m c) (y m c) (g m c) (cotangent (error (x m c) (y m c) (g m c) (b m c) (target m c))) := by
  refine (dats m 0 c).arrAt_eq_of_covers 6 _ (by decide +kernel) fun t hf y => ?_
  blk_simp
  rw [after0_6]
  idx_vars y
  rw [show ((View.whole main_v2_1).slice (win0_6.rect t)).emb (ix2 y0 y1) = ix2 (row t y0) y1 by
    funext a; apply Fin.ext; fin_cases a <;> blk_simp [(index_eq t).2.2.2.2.2.2.1] <;> rfl]
  by_cases h : t.val % 8 = 0
  · rw [outsAt0_A m c t h (by have := point t; omega)]
    frame_out
    exact stream_block m c t y0 y1
  · rw [outsAt0_B m c t h (by omega)]
    frame_out
    exact stream_block m c t y0 y1

/-- What a grid point adds to the gradients of the gain and of the bias. -/
def gainShare (t : Fin cfg0.N) : (⟨2, ![1, 2048]⟩ : Shape).Idx → EReal := fun q =>
  ∑ i : Fin 256, cotangent (error (x m c) (y m c) (g m c) (b m c) (target m c)) (row t i) (q 1) * unit (residual (x m c) (y m c) (row t i)) (q 1)

def biasShare (t : Fin cfg0.N) : (⟨2, ![1, 2048]⟩ : Shape).Idx → EReal := fun q =>
  ∑ i : Fin 256, cotangent (error (x m c) (y m c) (g m c) (b m c) (target m c)) (row t i) (q 1)

theorem gainShare_eq (t : Fin cfg0.N) (q : (⟨2, ![1, 2048]⟩ : Shape).Idx) :
    (k0_pay3 (F := Ideal) (k0_pay11 (iblk m c 0 t) (iblk m c 1 t)) (k0_pay13 (iblk m c 0 t) (iblk m c 1 t) (iblk m c 2 t) (iblk m c 3 t) (iblk m c 4 t)) q : EReal)
      = gainShare m c t q := by
  idx_vars q
  pointwise [k0_pay3]
  simp only [unit_eq, cotangent_eq]
  rfl

theorem biasShare_eq (t : Fin cfg0.N) (q : (⟨2, ![1, 2048]⟩ : Shape).Idx) :
    (k0_pay4 (F := Ideal) (k0_pay13 (iblk m c 0 t) (iblk m c 1 t) (iblk m c 2 t) (iblk m c 3 t) (iblk m c 4 t)) q : EReal) = biasShare m c t q := by
  idx_vars q
  pointwise [k0_pay4]
  simp only [cotangent_eq]
  rfl

theorem gain_first (t : Fin cfg0.N) (h : t.val % 8 = 0) (q : (⟨2, ![1, 2048]⟩ : Shape).Idx) :
    ((outsAt0 m c t.val t.isLt).2.2.1 q : EReal) = 0 + gainShare m c t q := by
  rw [outsAt0_A m c t h (by have := point t; omega)]
  frame_out
  rw [zero_add]
  exact gainShare_eq m c t q

theorem gain_later (t : Fin cfg0.N) (h : ¬t.val % 8 = 0) (q : (⟨2, ![1, 2048]⟩ : Shape).Idx) :
    ((outsAt0 m c t.val t.isLt).2.2.1 q : EReal) =
      (outsAt0 m c (t.val - 1) (Nat.lt_of_le_of_lt (Nat.sub_le _ _) t.isLt)).2.2.1 q + gainShare m c t q := by
  rw [outsAt0_B m c t h (by omega)]
  frame_out
  rw [← gainShare_eq]
  pointwise [k0_pay6]

theorem bias_first (t : Fin cfg0.N) (h : t.val % 8 = 0) (q : (⟨2, ![1, 2048]⟩ : Shape).Idx) :
    ((outsAt0 m c t.val t.isLt).2.2.2.1 q : EReal) = 0 + biasShare m c t q := by
  rw [outsAt0_A m c t h (by have := point t; omega)]
  frame_out
  rw [zero_add]
  exact biasShare_eq m c t q

theorem bias_later (t : Fin cfg0.N) (h : ¬t.val % 8 = 0) (q : (⟨2, ![1, 2048]⟩ : Shape).Idx) :
    ((outsAt0 m c t.val t.isLt).2.2.2.1 q : EReal) =
      (outsAt0 m c (t.val - 1) (Nat.lt_of_le_of_lt (Nat.sub_le _ _) t.isLt)).2.2.2.1 q + biasShare m c t q := by
  rw [outsAt0_B m c t h (by omega)]
  frame_out
  rw [← biasShare_eq]
  pointwise [k0_pay7]

/-- The eight points' shares make up the whole sum. -/
theorem gain_sum (t : Fin cfg0.N) (h : t.val % 8 = 7) (z : Fin 1) (k : Fin 2048) :
    gainGradient (x m c) (y m c) (cotangent (error (x m c) (y m c) (g m c) (b m c) (target m c))) (ix2 z k)
      = ∑ s : Fin 8, gainShare m c ⟨8 * (t.val / 8) + s.val, Pipeline.run_point_lt_of_flush t h s⟩ (ix2 z k) := by
  refine (sum_rows _).trans (Finset.sum_congr rfl fun s _ => Finset.sum_congr rfl fun i _ => ?_)
  have e : row ⟨8 * (t.val / 8) + s.val, Pipeline.run_point_lt_of_flush t h s⟩ i = ⟨s.val * 256 + i.val, by omega⟩ :=
    Fin.ext (by have := point t; dsimp only; omega)
  rw [e]

theorem bias_sum (t : Fin cfg0.N) (h : t.val % 8 = 7) (z : Fin 1) (k : Fin 2048) :
    biasGradient (cotangent (error (x m c) (y m c) (g m c) (b m c) (target m c))) (ix2 z k)
      = ∑ s : Fin 8, biasShare m c ⟨8 * (t.val / 8) + s.val, Pipeline.run_point_lt_of_flush t h s⟩ (ix2 z k) := by
  refine (sum_rows _).trans (Finset.sum_congr rfl fun s _ => Finset.sum_congr rfl fun i _ => ?_)
  have e : row ⟨8 * (t.val / 8) + s.val, Pipeline.run_point_lt_of_flush t h s⟩ i = ⟨s.val * 256 + i.val, by omega⟩ :=
    Fin.ext (by have := point t; dsimp only; omega)
  rw [e]

theorem gain_final : (dats m 0 c).arrAt 7 cfg0.N = gainGradient (x m c) (y m c) (cotangent (error (x m c) (y m c) (g m c) (b m c) (target m c))) := by
  refine (dats m 0 c).arrAt_eq_of_covers 7 _ (by decide +kernel) fun t hf q => ?_
  have h7 : t.val % 8 = 7 := (flush0_7 t).mp hf
  blk_simp
  rw [after0_7]
  refine (Pipeline.eq_sum_fin_of_reset_step_apply_of_flush (fun n h => (outsAt0 m c n h).2.2.1) 8 (fun _ => (0 : EReal))
    (gainShare m c) (gain_first m c) (gain_later m c) t h7 q).trans ?_
  idx_vars q
  rw [show ((View.whole main_v2_2).slice (win0_7.rect t)).emb (ix2 q0 q1) = ix2 q0 q1 by
    funext a; apply Fin.ext; fin_cases a <;> blk_simp [(index_eq t).2.2.2.2.2.2.2.1] <;> rfl]
  rw [zero_add]
  exact (gain_sum m c t h7 q0 q1).symm

theorem bias_final : (dats m 0 c).arrAt 8 cfg0.N = biasGradient (cotangent (error (x m c) (y m c) (g m c) (b m c) (target m c))) := by
  refine (dats m 0 c).arrAt_eq_of_covers 8 _ (by decide +kernel) fun t hf q => ?_
  have h7 : t.val % 8 = 7 := (flush0_8 t).mp hf
  blk_simp
  rw [after0_8]
  refine (Pipeline.eq_sum_fin_of_reset_step_apply_of_flush (fun n h => (outsAt0 m c n h).2.2.2.1) 8 (fun _ => (0 : EReal))
    (biasShare m c) (bias_first m c) (bias_later m c) t h7 q).trans ?_
  idx_vars q
  rw [show ((View.whole main_v2_3).slice (win0_8.rect t)).emb (ix2 q0 q1) = ix2 q0 q1 by
    funext a; apply Fin.ext; fin_cases a <;> blk_simp [(index_eq t).2.2.2.2.2.2.2.2.1] <;> rfl]
  rw [zero_add]
  exact (bias_sum m c t h7 q0 q1).symm

/-- What a grid point adds to the loss. -/
def lossShare (t : Fin cfg0.N) : EReal := Ideal.ofBits .f32 0x39800000#32 *
  ∑ i : Fin 256, square (error (x m c) (y m c) (g m c) (b m c) (target m c)) (row t i)

theorem lossShare_eq (t : Fin cfg0.N) (q : (⟨2, ![8, 128]⟩ : Shape).Idx) :
    (k0_pay5 (F := Ideal) (k0_pay12 (iblk m c 0 t) (iblk m c 1 t) (iblk m c 2 t) (iblk m c 3 t) (iblk m c 4 t)) q : EReal) = lossShare m c t := by
  idx_vars q
  pointwise [k0_pay5]
  simp only [error_eq]
  rfl

theorem loss_first (t : Fin cfg0.N) (h : t.val % 8 = 0) (q : (⟨2, ![8, 128]⟩ : Shape).Idx) :
    ((outsAt0 m c t.val t.isLt).2.2.2.2 q : EReal) = 0 + lossShare m c t := by
  rw [outsAt0_A m c t h (by have := point t; omega)]
  frame_out
  rw [zero_add]
  exact lossShare_eq m c t q

theorem loss_later (t : Fin cfg0.N) (h : ¬t.val % 8 = 0) (q : (⟨2, ![8, 128]⟩ : Shape).Idx) :
    ((outsAt0 m c t.val t.isLt).2.2.2.2 q : EReal) =
      (outsAt0 m c (t.val - 1) (Nat.lt_of_le_of_lt (Nat.sub_le _ _) t.isLt)).2.2.2.2 q + lossShare m c t := by
  rw [outsAt0_B m c t h (by omega)]
  frame_out
  rw [← lossShare_eq m c t q]
  pointwise [k0_pay8]

/-- The loss, at every entry of its block. -/
theorem loss_final : (dats m 0 c).arrAt 9 cfg0.N = fun _ => ∑ s : Fin 8, Ideal.ofBits .f32 0x39800000#32 *
    ∑ i : Fin 256, square (error (x m c) (y m c) (g m c) (b m c) (target m c)) ⟨s.val * 256 + i.val, by omega⟩ := by
  refine (dats m 0 c).arrAt_eq_of_covers 9 _ (by decide +kernel) fun t hf q => ?_
  have h7 : t.val % 8 = 7 := (flush0_9 t).mp hf
  blk_simp
  rw [after0_9]
  refine (Pipeline.eq_sum_fin_of_reset_step_apply_of_flush (fun n h => (outsAt0 m c n h).2.2.2.2) 8 (fun _ => (0 : EReal))
    (fun t _ => lossShare m c t) (loss_first m c) (loss_later m c) t h7 q).trans ?_
  rw [zero_add]
  refine Finset.sum_congr rfl fun s _ => ?_
  show lossShare m c ⟨8 * (t.val / 8) + s.val, Pipeline.run_point_lt_of_flush t h7 s⟩ = _
  have e : ∀ i : Fin 256, row ⟨8 * (t.val / 8) + s.val, Pipeline.run_point_lt_of_flush t h7 s⟩ i = ⟨s.val * 256 + i.val, by omega⟩ :=
    fun i => Fin.ext (by have := point t; dsimp only; omega)
  unfold lossShare
  simp only [e]

end Cert.LossBwdIdeal.Result

namespace Cert.Proof.LossBwd

open Cert.Finite

theorem frame_kernel : Cert.quiescent_LossBwd := fun m ρ _ => Cert.LossBwd.Gen.frame m ρ

theorem frame_ideal : Cert.quiescent_LossBwdIdeal := fun m ρ _ => Cert.LossBwdIdeal.Gen.frame m ρ

theorem frame_ideal_pre : Cert.quiescent_LossBwdIdeal_pre_finite_loss := fun m ρ _ => Cert.LossBwdIdeal.Gen.frame m ρ

theorem frame_reference : Cert.quiescent_LossBwdRefIdeal := fun m ρ _ =>
  (θ_run Cert.LossBwdRefIdeal.defs _ _).mono
    (fun r h => ⟨fun c => (h c).2.2.2.2.2, sem_eq_zero_of_no_sems (by decide) r.2⟩) (Cert.LossBwdRefIdeal.Value.run m ρ)

theorem frame_reference_pre : Cert.quiescent_LossBwdRefIdeal_pre_finite_loss := fun m ρ _ => frame_reference m ρ trivial

open Cert.LossBwdIdeal Cert.LossBwdIdeal.Result in
/-- The precondition makes every operand a number. -/
theorem numbers (m : (ℓ : Loc nD τ sig) → Buf (Elt Ideal) ℓ) (h : Cert.Pre_LossBwdIdeal_finite_loss m) (c : Dev nD) :
    (∀ i, ∃ r : ℝ, x m c i = r) ∧ (∀ i, ∃ r : ℝ, y m c i = r) ∧ (∀ i, ∃ r : ℝ, g m c i = r)
      ∧ (∀ i, ∃ r : ℝ, b m c i = r) ∧ ∀ i, ∃ r : ℝ, target m c i = r := by
  have h := congrFun (h c) (fun k => nomatch k)
  dsimp only [Cert.Pre_finite_loss.fn] at h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨fun i => real_of_compares _ (Host.reduce_andi_all _ _ _ _ _ h0 i),
    fun i => real_of_compares _ (Host.reduce_andi_all _ _ _ _ _ h1 i),
    fun i => real_of_compares _ (Host.reduce_andi_all _ _ _ _ _ h2 i),
    fun i => real_of_compares _ (Host.reduce_andi_all _ _ _ _ _ h3 i),
    fun i => real_of_compares _ (Host.reduce_andi_all _ _ _ _ _ h4 i)⟩

open Cert.LossBwdIdeal Cert.LossBwdIdeal.Result in
/-- The reference's gradient of the stream is the kernel's. -/
theorem stream_agree (m : (ℓ : Loc nD τ sig) → Buf (Elt Ideal) ℓ) (h : Cert.Pre_LossBwdIdeal_finite_loss m) (c : Dev nD) :
    Cert.LossBwdRefIdeal.Read.val_main_v79 (F := Ideal) (x m c) (y m c) (g m c) (b m c) (target m c)
      = streamGradient (x m c) (y m c) (g m c) (cotangent (error (x m c) (y m c) (g m c) (b m c) (target m c))) := by
  obtain ⟨hx, hy, hg, hb, ht⟩ := numbers m h c
  rw [Cert.LossBwdRefIdeal.Result.stream_eq]
  funext i
  exact congrFun (stepwise_eq _ _ (residual_real _ _ hx hy _) fun k =>
    mul_real (mul_real (error_real _ _ _ _ _ hx hy hg hb ht _ k) ⟨_, share_f32⟩) (hg _)) _

theorem algebraic : Cert.algebraic_LossBwdIdeal_LossBwdRefIdeal_pre_finite_loss := by
  intro m g m' g' hp hargs
  refine ⟨_, _, _, _, _, Cert.LossBwdIdeal.Value.run_blocks m g, ?_⟩
  refine (θ_run Cert.LossBwdRefIdeal.defs _ _).mono (fun r h c => ?_) (Cert.LossBwdRefIdeal.Value.run m' g')
  obtain ⟨h0, h1, h2, h3, h4, hr⟩ := h c
  obtain ⟨a0, a1, a2, a3, a4⟩ := hargs c
  refine ⟨h0.trans ?_, h1.trans ?_, h2.trans ?_, h3.trans ?_, h4.trans ?_, hr⟩
  · rw [Cert.LossBwdIdeal.Result.stream_final, Cert.LossBwdRefIdeal.Read.val_main_v79_eq, a0, a1, a2, a3, a4]
    exact stream_agree m hp c
  · rw [Cert.LossBwdIdeal.Result.copy_final, Cert.LossBwdRefIdeal.Read.val_main_v80_eq, a0, a1, a2, a3, a4]
    exact stream_agree m hp c
  · rw [Cert.LossBwdIdeal.Result.gain_final, Cert.LossBwdRefIdeal.Read.val_main_v81_eq, a0, a1, a2, a3, a4]
    exact Cert.LossBwdRefIdeal.Result.gain_eq _ _ _ _ _
  · rw [Cert.LossBwdIdeal.Result.bias_final, Cert.LossBwdRefIdeal.Read.val_main_v82_eq, a0, a1, a2, a3, a4]
    exact Cert.LossBwdRefIdeal.Result.bias_eq _ _ _ _ _
  · obtain ⟨hx, hy, hg, hb, ht⟩ := numbers m hp c
    rw [Cert.LossBwdIdeal.Result.loss_final, Cert.LossBwdRefIdeal.Read.val_main_v83_eq, a0, a1, a2, a3, a4,
      ← Cert.Loss.loss_eq _ (error_real _ _ _ _ _ hx hy hg hb ht)]
    exact Cert.LossBwdRefIdeal.Result.loss_eq _ _ _ _ _

end Cert.Proof.LossBwd

end
-- ==== Proof.lean ====
/-
  The proof of `Cert.Claim` (Defs.lean): the claims of each program, proved in the modules under `Proof/`.
  `ConvClaim.lean`: the gradient of the convolution gate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_cotangent
public import proofs.«01_k».proof.Proof.ConvClaim
public import proofs.«01_k».proof.Proof.DownDxClaim
public import proofs.«01_k».proof.Proof.DownDwClaim
public import proofs.«01_k».proof.Proof.GateupDxClaim
public import proofs.«01_k».proof.Proof.InDwClaim
public import proofs.«01_k».proof.Proof.WoutDxClaim
public import proofs.«01_k».proof.Proof.WoutDwClaim
public import proofs.«01_k».proof.Proof.ProjDxClaim
public import proofs.«01_k».proof.Proof.ProjDxResidualClaim
public import proofs.«01_k».proof.Proof.ProjClaim
public import proofs.«01_k».proof.Proof.GateClaim
public import proofs.«01_k».proof.Proof.WoutClaim
public import proofs.«01_k».proof.Proof.DownClaim
public import proofs.«01_k».proof.Proof.AdamInClaim
public import proofs.«01_k».proof.Proof.AdamOutClaim
public import proofs.«01_k».proof.Proof.AdamDownClaim
public import proofs.«01_k».proof.Proof.AdamSmallClaim
public import proofs.«01_k».proof.Proof.SumSmallClaim
public import proofs.«01_k».proof.Proof.ConvGateClaim
public import proofs.«01_k».proof.Proof.LnClaim
public import proofs.«01_k».proof.Proof.WindowClaim
public import proofs.«01_k».proof.Proof.DilatedClaim
public import proofs.«01_k».proof.Proof.SmallGradsClaim
public import proofs.«01_k».proof.Proof.SmallUpdatesClaim
public import proofs.«01_k».proof.Proof.LnBwdClaim
public import proofs.«01_k».proof.Proof.LossBwdClaim
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.DownDx.Gen.facts,
    Cert.DownDxIdeal.Gen.facts, Cert.DownDxRefIdeal.Gen.facts, Cert.DownDw.Gen.facts, Cert.DownDwIdeal.Gen.facts,
    Cert.DownDwRefIdeal.Gen.facts, Cert.GateupDx.Gen.facts, Cert.GateupDxIdeal.Gen.facts,
    Cert.GateupDxRefIdeal.Gen.facts, Cert.InDw.Gen.facts, Cert.InDwIdeal.Gen.facts, Cert.InDwRefIdeal.Gen.facts,
    Cert.WoutDx.Gen.facts, Cert.WoutDxIdeal.Gen.facts, Cert.WoutDxRefIdeal.Gen.facts, Cert.WoutDw.Gen.facts,
    Cert.WoutDwIdeal.Gen.facts, Cert.WoutDwRefIdeal.Gen.facts, Cert.ProjDx.Gen.facts, Cert.ProjDxIdeal.Gen.facts,
    Cert.ProjDxRefIdeal.Gen.facts, Cert.ProjDxResidual.Gen.facts, Cert.ProjDxResidualIdeal.Gen.facts,
    Cert.ProjDxResidualRefIdeal.Gen.facts, Cert.Proj.Gen.facts, Cert.ProjIdeal.Gen.facts,
    Cert.ProjRefIdeal.Gen.facts, Cert.Gate.Gen.facts, Cert.GateIdeal.Gen.facts, Cert.GateRefIdeal.Gen.facts,
    Cert.Wout.Gen.facts, Cert.WoutIdeal.Gen.facts, Cert.WoutRefIdeal.Gen.facts, Cert.Down.Gen.facts,
    Cert.DownIdeal.Gen.facts, Cert.DownRefIdeal.Gen.facts, Cert.AdamIn.Gen.facts, Cert.AdamInIdeal.Gen.facts,
    Cert.AdamInRefIdeal.Gen.facts, Cert.AdamOut.Gen.facts, Cert.AdamOutIdeal.Gen.facts,
    Cert.AdamOutRefIdeal.Gen.facts, Cert.AdamDown.Gen.facts, Cert.AdamDownIdeal.Gen.facts,
    Cert.AdamDownRefIdeal.Gen.facts, Cert.AdamSmall.Gen.facts, Cert.AdamSmallIdeal.Gen.facts,
    Cert.AdamSmallRefIdeal.Gen.facts, Cert.SumSmall.Gen.facts, Cert.SumSmallIdeal.Gen.facts,
    Cert.SumSmallRefIdeal.Gen.facts, Cert.ConvGate.Gen.facts, Cert.ConvGateIdeal.Gen.facts,
    Cert.ConvGateRefIdeal.Gen.facts, Cert.Ln.Gen.facts, Cert.LnIdeal.Gen.facts, Cert.LnRefIdeal.Gen.facts,
    Cert.Window.Gen.facts, Cert.WindowIdeal.Gen.facts, Cert.WindowRefIdeal.Gen.facts, Cert.Dilated.Gen.facts,
    Cert.DilatedIdeal.Gen.facts, Cert.DilatedRefIdeal.Gen.facts, Cert.SmallGrads.Gen.facts,
    Cert.SmallGradsIdeal.Gen.facts, Cert.SmallGradsRefIdeal.Gen.facts, Cert.SmallUpdates.Gen.facts,
    Cert.SmallUpdatesIdeal.Gen.facts, Cert.SmallUpdatesRefIdeal.Gen.facts, Cert.LnBwd.Gen.facts,
    Cert.LnBwdIdeal.Gen.facts, Cert.LnBwdRefIdeal.Gen.facts, Cert.LossBwd.Gen.facts, Cert.LossBwdIdeal.Gen.facts,
    Cert.LossBwdRefIdeal.Gen.facts, Cert.Pre_finite_cotangent.Gen.facts, Cert.Pre_finite_ln.Gen.facts,
    Cert.Pre_finite_loss.Gen.facts, Conv.frame_kernel, Conv.frame_ideal, Conv.frame_ideal_pre, Conv.frame_reference,
    Conv.frame_reference_pre, DownDx.frame_kernel, DownDx.frame_ideal, DownDx.frame_reference, DownDw.frame_kernel,
    DownDw.frame_ideal, DownDw.frame_reference, GateupDx.frame_kernel, GateupDx.frame_ideal,
    GateupDx.frame_reference, InDw.frame_kernel, InDw.frame_ideal, InDw.frame_reference, WoutDx.frame_kernel,
    WoutDx.frame_ideal, WoutDx.frame_reference, WoutDw.frame_kernel, WoutDw.frame_ideal, WoutDw.frame_reference,
    ProjDx.frame_kernel, ProjDx.frame_ideal, ProjDx.frame_reference, ProjDxResidual.frame_kernel,
    ProjDxResidual.frame_ideal, ProjDxResidual.frame_reference, Proj.frame_kernel, Proj.frame_ideal,
    Proj.frame_reference, Gate.frame_kernel, Gate.frame_ideal, Gate.frame_reference, Wout.frame_kernel,
    Wout.frame_ideal, Wout.frame_reference, Down.frame_kernel, Down.frame_ideal, Down.frame_reference,
    AdamIn.frame_kernel, AdamIn.frame_ideal, AdamIn.frame_reference, AdamOut.frame_kernel, AdamOut.frame_ideal,
    AdamOut.frame_reference, AdamDown.frame_kernel, AdamDown.frame_ideal, AdamDown.frame_reference,
    AdamSmall.frame_kernel, AdamSmall.frame_ideal, AdamSmall.frame_reference, SumSmall.frame_kernel,
    SumSmall.frame_ideal, SumSmall.frame_reference, ConvGate.frame_kernel, ConvGate.frame_ideal,
    ConvGate.frame_reference, Ln.frame_kernel, Ln.frame_ideal, Ln.frame_reference, Window.frame_kernel,
    Window.frame_ideal, Window.frame_reference, Dilated.frame_kernel, Dilated.frame_ideal, Dilated.frame_reference,
    SmallGrads.frame_kernel, SmallGrads.frame_ideal, SmallGrads.frame_reference, SmallUpdates.frame_kernel,
    SmallUpdates.frame_ideal, SmallUpdates.frame_reference, LnBwd.frame_kernel, LnBwd.frame_ideal,
    LnBwd.frame_ideal_pre, LnBwd.frame_reference, LnBwd.frame_reference_pre, LossBwd.frame_kernel,
    LossBwd.frame_ideal, LossBwd.frame_ideal_pre, LossBwd.frame_reference, LossBwd.frame_reference_pre, trivial,
    Conv.algebraic, trivial, DownDx.algebraic, trivial, DownDw.algebraic, trivial, GateupDx.algebraic, trivial,
    InDw.algebraic, trivial, WoutDx.algebraic, trivial, WoutDw.algebraic, trivial, ProjDx.algebraic, trivial,
    ProjDxResidual.algebraic, trivial, Proj.algebraic, trivial, Gate.algebraic, trivial, Wout.algebraic, trivial,
    Down.algebraic, trivial, AdamIn.algebraic, trivial, AdamOut.algebraic, trivial, AdamDown.algebraic, trivial,
    AdamSmall.algebraic, trivial, SumSmall.algebraic, trivial, ConvGate.algebraic, trivial, Ln.algebraic, trivial,
    Window.algebraic, trivial, Dilated.algebraic, trivial, SmallGrads.algebraic, trivial, SmallUpdates.algebraic,
    trivial, LnBwd.algebraic, trivial, LossBwd.algebraic⟩

end Cert.Proof

end
